-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_NatKernel (m : (ℓ : Loc Cert.NatKernel.nD Cert.NatKernel.τ Cert.NatKernel.sig) → Buf (Elt Bits) ℓ) : Prop :=
  True

def Pre_NatKernelIdeal (m : (ℓ : Loc Cert.NatKernelIdeal.nD Cert.NatKernelIdeal.τ Cert.NatKernelIdeal.sig) → Buf (Elt Ideal) ℓ) : Prop :=
  True

def Pre_NatReferenceIdeal (m : (ℓ : Loc Cert.NatReferenceIdeal.nD Cert.NatReferenceIdeal.τ Cert.NatReferenceIdeal.sig) → Buf (Elt Ideal) ℓ) : Prop :=
  True

def Pre_DilKernel (m : (ℓ : Loc Cert.DilKernel.nD Cert.DilKernel.τ Cert.DilKernel.sig) → Buf (Elt Bits) ℓ) : Prop :=
  True

def Pre_DilKernelIdeal (m : (ℓ : Loc Cert.DilKernelIdeal.nD Cert.DilKernelIdeal.τ Cert.DilKernelIdeal.sig) → Buf (Elt Ideal) ℓ) : Prop :=
  True

def Pre_DilReferenceIdeal (m : (ℓ : Loc Cert.DilReferenceIdeal.nD Cert.DilReferenceIdeal.τ Cert.DilReferenceIdeal.sig) → Buf (Elt Ideal) ℓ) : Prop :=
  True

def Pre_RopeKernel (m : (ℓ : Loc Cert.RopeKernel.nD Cert.RopeKernel.τ Cert.RopeKernel.sig) → Buf (Elt Bits) ℓ) : Prop :=
  True

def Pre_RopeKernelIdeal (m : (ℓ : Loc Cert.RopeKernelIdeal.nD Cert.RopeKernelIdeal.τ Cert.RopeKernelIdeal.sig) → Buf (Elt Ideal) ℓ) : Prop :=
  True

def Pre_RopeReferenceIdeal (m : (ℓ : Loc Cert.RopeReferenceIdeal.nD Cert.RopeReferenceIdeal.τ Cert.RopeReferenceIdeal.sig) → Buf (Elt Ideal) ℓ) : Prop :=
  True

def Pre_ModKernel (m : (ℓ : Loc Cert.ModKernel.nD Cert.ModKernel.τ Cert.ModKernel.sig) → Buf (Elt Bits) ℓ) : Prop :=
  True

def Pre_ModKernelIdeal (m : (ℓ : Loc Cert.ModKernelIdeal.nD Cert.ModKernelIdeal.τ Cert.ModKernelIdeal.sig) → Buf (Elt Ideal) ℓ) : Prop :=
  True

def Pre_ModReferenceIdeal (m : (ℓ : Loc Cert.ModReferenceIdeal.nD Cert.ModReferenceIdeal.τ Cert.ModReferenceIdeal.sig) → Buf (Elt Ideal) ℓ) : Prop :=
  True

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4))
      ∧ r.2.sem = fun _ => 0)

def quiescent_NatKernel [hNatKernel : Cert.NatKernel.Facts] : Prop :=
  ∀ (m : (ℓ : Loc Cert.NatKernel.nD Cert.NatKernel.τ Cert.NatKernel.sig) → Buf (Elt Bits) ℓ) (g : Dev Cert.NatKernel.nD → PrngReg), Pre_NatKernel m →
    θ_run (Cert.NatKernel.defs (F := Bits)) (onTc (τ := Cert.NatKernel.τ) (Cert.NatKernel.main (F := Bits))) ⟨m, fun _ => 0, g⟩ (fun r => (∀ c : Dev Cert.NatKernel.nD,
      r.2.mem ((c.tc : Thread Cert.NatKernel.nD Cert.NatKernel.τ).loc Cert.NatKernel.main_arg0) = m ((c.tc : Thread Cert.NatKernel.nD Cert.NatKernel.τ).loc Cert.NatKernel.main_arg0)
      ∧ r.2.mem ((c.tc : Thread Cert.NatKernel.nD Cert.NatKernel.τ).loc Cert.NatKernel.main_arg1) = m ((c.tc : Thread Cert.NatKernel.nD Cert.NatKernel.τ).loc Cert.NatKernel.main_arg1)
      ∧ r.2.mem ((c.tc : Thread Cert.NatKernel.nD Cert.NatKernel.τ).loc Cert.NatKernel.main_arg2) = m ((c.tc : Thread Cert.NatKernel.nD Cert.NatKernel.τ).loc Cert.NatKernel.main_arg2)
      ∧ r.2.mem ((c.tc : Thread Cert.NatKernel.nD Cert.NatKernel.τ).loc Cert.NatKernel.main_arg3) = m ((c.tc : Thread Cert.NatKernel.nD Cert.NatKernel.τ).loc Cert.NatKernel.main_arg3)
      ∧ r.2.mem ((c.tc : Thread Cert.NatKernel.nD Cert.NatKernel.τ).loc Cert.NatKernel.main_arg4) = m ((c.tc : Thread Cert.NatKernel.nD Cert.NatKernel.τ).loc Cert.NatKernel.main_arg4)
      ∧ r.2.mem ((c.tc : Thread Cert.NatKernel.nD Cert.NatKernel.τ).loc Cert.NatKernel.main_arg5) = m ((c.tc : Thread Cert.NatKernel.nD Cert.NatKernel.τ).loc Cert.NatKernel.main_arg5)
      ∧ r.2.mem ((c.tc : Thread Cert.NatKernel.nD Cert.NatKernel.τ).loc Cert.NatKernel.main_arg6) = m ((c.tc : Thread Cert.NatKernel.nD Cert.NatKernel.τ).loc Cert.NatKernel.main_arg6))
      ∧ r.2.sem = fun _ => 0)

def quiescent_NatKernelIdeal [hNatKernelIdeal : Cert.NatKernelIdeal.Facts] : Prop :=
  ∀ (m : (ℓ : Loc Cert.NatKernelIdeal.nD Cert.NatKernelIdeal.τ Cert.NatKernelIdeal.sig) → Buf (Elt Ideal) ℓ) (g : Dev Cert.NatKernelIdeal.nD → PrngReg), Pre_NatKernelIdeal m →
    θ_run (Cert.NatKernelIdeal.defs (F := Ideal)) (onTc (τ := Cert.NatKernelIdeal.τ) (Cert.NatKernelIdeal.main (F := Ideal))) ⟨m, fun _ => 0, g⟩ (fun r => (∀ c : Dev Cert.NatKernelIdeal.nD,
      r.2.mem ((c.tc : Thread Cert.NatKernelIdeal.nD Cert.NatKernelIdeal.τ).loc Cert.NatKernelIdeal.main_arg0) = m ((c.tc : Thread Cert.NatKernelIdeal.nD Cert.NatKernelIdeal.τ).loc Cert.NatKernelIdeal.main_arg0)
      ∧ r.2.mem ((c.tc : Thread Cert.NatKernelIdeal.nD Cert.NatKernelIdeal.τ).loc Cert.NatKernelIdeal.main_arg1) = m ((c.tc : Thread Cert.NatKernelIdeal.nD Cert.NatKernelIdeal.τ).loc Cert.NatKernelIdeal.main_arg1)
      ∧ r.2.mem ((c.tc : Thread Cert.NatKernelIdeal.nD Cert.NatKernelIdeal.τ).loc Cert.NatKernelIdeal.main_arg2) = m ((c.tc : Thread Cert.NatKernelIdeal.nD Cert.NatKernelIdeal.τ).loc Cert.NatKernelIdeal.main_arg2)
      ∧ r.2.mem ((c.tc : Thread Cert.NatKernelIdeal.nD Cert.NatKernelIdeal.τ).loc Cert.NatKernelIdeal.main_arg3) = m ((c.tc : Thread Cert.NatKernelIdeal.nD Cert.NatKernelIdeal.τ).loc Cert.NatKernelIdeal.main_arg3)
      ∧ r.2.mem ((c.tc : Thread Cert.NatKernelIdeal.nD Cert.NatKernelIdeal.τ).loc Cert.NatKernelIdeal.main_arg4) = m ((c.tc : Thread Cert.NatKernelIdeal.nD Cert.NatKernelIdeal.τ).loc Cert.NatKernelIdeal.main_arg4)
      ∧ r.2.mem ((c.tc : Thread Cert.NatKernelIdeal.nD Cert.NatKernelIdeal.τ).loc Cert.NatKernelIdeal.main_arg5) = m ((c.tc : Thread Cert.NatKernelIdeal.nD Cert.NatKernelIdeal.τ).loc Cert.NatKernelIdeal.main_arg5)
      ∧ r.2.mem ((c.tc : Thread Cert.NatKernelIdeal.nD Cert.NatKernelIdeal.τ).loc Cert.NatKernelIdeal.main_arg6) = m ((c.tc : Thread Cert.NatKernelIdeal.nD Cert.NatKernelIdeal.τ).loc Cert.NatKernelIdeal.main_arg6))
      ∧ r.2.sem = fun _ => 0)

def quiescent_NatReferenceIdeal [hNatReferenceIdeal : Cert.NatReferenceIdeal.Facts] : Prop :=
  ∀ (m : (ℓ : Loc Cert.NatReferenceIdeal.nD Cert.NatReferenceIdeal.τ Cert.NatReferenceIdeal.sig) → Buf (Elt Ideal) ℓ) (g : Dev Cert.NatReferenceIdeal.nD → PrngReg), Pre_NatReferenceIdeal m →
    θ_run (Cert.NatReferenceIdeal.defs (F := Ideal)) (onTc (τ := Cert.NatReferenceIdeal.τ) (Cert.NatReferenceIdeal.main (F := Ideal))) ⟨m, fun _ => 0, g⟩ (fun r => (∀ c : Dev Cert.NatReferenceIdeal.nD,
      r.2.mem ((c.tc : Thread Cert.NatReferenceIdeal.nD Cert.NatReferenceIdeal.τ).loc Cert.NatReferenceIdeal.main_arg0) = m ((c.tc : Thread Cert.NatReferenceIdeal.nD Cert.NatReferenceIdeal.τ).loc Cert.NatReferenceIdeal.main_arg0)
      ∧ r.2.mem ((c.tc : Thread Cert.NatReferenceIdeal.nD Cert.NatReferenceIdeal.τ).loc Cert.NatReferenceIdeal.main_arg1) = m ((c.tc : Thread Cert.NatReferenceIdeal.nD Cert.NatReferenceIdeal.τ).loc Cert.NatReferenceIdeal.main_arg1)
      ∧ r.2.mem ((c.tc : Thread Cert.NatReferenceIdeal.nD Cert.NatReferenceIdeal.τ).loc Cert.NatReferenceIdeal.main_arg2) = m ((c.tc : Thread Cert.NatReferenceIdeal.nD Cert.NatReferenceIdeal.τ).loc Cert.NatReferenceIdeal.main_arg2)
      ∧ r.2.mem ((c.tc : Thread Cert.NatReferenceIdeal.nD Cert.NatReferenceIdeal.τ).loc Cert.NatReferenceIdeal.main_arg3) = m ((c.tc : Thread Cert.NatReferenceIdeal.nD Cert.NatReferenceIdeal.τ).loc Cert.NatReferenceIdeal.main_arg3)
      ∧ r.2.mem ((c.tc : Thread Cert.NatReferenceIdeal.nD Cert.NatReferenceIdeal.τ).loc Cert.NatReferenceIdeal.main_arg4) = m ((c.tc : Thread Cert.NatReferenceIdeal.nD Cert.NatReferenceIdeal.τ).loc Cert.NatReferenceIdeal.main_arg4)
      ∧ r.2.mem ((c.tc : Thread Cert.NatReferenceIdeal.nD Cert.NatReferenceIdeal.τ).loc Cert.NatReferenceIdeal.main_arg5) = m ((c.tc : Thread Cert.NatReferenceIdeal.nD Cert.NatReferenceIdeal.τ).loc Cert.NatReferenceIdeal.main_arg5)
      ∧ r.2.mem ((c.tc : Thread Cert.NatReferenceIdeal.nD Cert.NatReferenceIdeal.τ).loc Cert.NatReferenceIdeal.main_arg6) = m ((c.tc : Thread Cert.NatReferenceIdeal.nD Cert.NatReferenceIdeal.τ).loc Cert.NatReferenceIdeal.main_arg6))
      ∧ r.2.sem = fun _ => 0)

def quiescent_DilKernel [hDilKernel : Cert.DilKernel.Facts] : Prop :=
  ∀ (m : (ℓ : Loc Cert.DilKernel.nD Cert.DilKernel.τ Cert.DilKernel.sig) → Buf (Elt Bits) ℓ) (g : Dev Cert.DilKernel.nD → PrngReg), Pre_DilKernel m →
    θ_run (Cert.DilKernel.defs (F := Bits)) (onTc (τ := Cert.DilKernel.τ) (Cert.DilKernel.main (F := Bits))) ⟨m, fun _ => 0, g⟩ (fun r => (∀ c : Dev Cert.DilKernel.nD,
      r.2.mem ((c.tc : Thread Cert.DilKernel.nD Cert.DilKernel.τ).loc Cert.DilKernel.main_arg0) = m ((c.tc : Thread Cert.DilKernel.nD Cert.DilKernel.τ).loc Cert.DilKernel.main_arg0)
      ∧ r.2.mem ((c.tc : Thread Cert.DilKernel.nD Cert.DilKernel.τ).loc Cert.DilKernel.main_arg1) = m ((c.tc : Thread Cert.DilKernel.nD Cert.DilKernel.τ).loc Cert.DilKernel.main_arg1)
      ∧ r.2.mem ((c.tc : Thread Cert.DilKernel.nD Cert.DilKernel.τ).loc Cert.DilKernel.main_arg2) = m ((c.tc : Thread Cert.DilKernel.nD Cert.DilKernel.τ).loc Cert.DilKernel.main_arg2)
      ∧ r.2.mem ((c.tc : Thread Cert.DilKernel.nD Cert.DilKernel.τ).loc Cert.DilKernel.main_arg3) = m ((c.tc : Thread Cert.DilKernel.nD Cert.DilKernel.τ).loc Cert.DilKernel.main_arg3)
      ∧ r.2.mem ((c.tc : Thread Cert.DilKernel.nD Cert.DilKernel.τ).loc Cert.DilKernel.main_arg4) = m ((c.tc : Thread Cert.DilKernel.nD Cert.DilKernel.τ).loc Cert.DilKernel.main_arg4)
      ∧ r.2.mem ((c.tc : Thread Cert.DilKernel.nD Cert.DilKernel.τ).loc Cert.DilKernel.main_arg5) = m ((c.tc : Thread Cert.DilKernel.nD Cert.DilKernel.τ).loc Cert.DilKernel.main_arg5)
      ∧ r.2.mem ((c.tc : Thread Cert.DilKernel.nD Cert.DilKernel.τ).loc Cert.DilKernel.main_arg6) = m ((c.tc : Thread Cert.DilKernel.nD Cert.DilKernel.τ).loc Cert.DilKernel.main_arg6))
      ∧ r.2.sem = fun _ => 0)

def quiescent_DilKernelIdeal [hDilKernelIdeal : Cert.DilKernelIdeal.Facts] : Prop :=
  ∀ (m : (ℓ : Loc Cert.DilKernelIdeal.nD Cert.DilKernelIdeal.τ Cert.DilKernelIdeal.sig) → Buf (Elt Ideal) ℓ) (g : Dev Cert.DilKernelIdeal.nD → PrngReg), Pre_DilKernelIdeal m →
    θ_run (Cert.DilKernelIdeal.defs (F := Ideal)) (onTc (τ := Cert.DilKernelIdeal.τ) (Cert.DilKernelIdeal.main (F := Ideal))) ⟨m, fun _ => 0, g⟩ (fun r => (∀ c : Dev Cert.DilKernelIdeal.nD,
      r.2.mem ((c.tc : Thread Cert.DilKernelIdeal.nD Cert.DilKernelIdeal.τ).loc Cert.DilKernelIdeal.main_arg0) = m ((c.tc : Thread Cert.DilKernelIdeal.nD Cert.DilKernelIdeal.τ).loc Cert.DilKernelIdeal.main_arg0)
      ∧ r.2.mem ((c.tc : Thread Cert.DilKernelIdeal.nD Cert.DilKernelIdeal.τ).loc Cert.DilKernelIdeal.main_arg1) = m ((c.tc : Thread Cert.DilKernelIdeal.nD Cert.DilKernelIdeal.τ).loc Cert.DilKernelIdeal.main_arg1)
      ∧ r.2.mem ((c.tc : Thread Cert.DilKernelIdeal.nD Cert.DilKernelIdeal.τ).loc Cert.DilKernelIdeal.main_arg2) = m ((c.tc : Thread Cert.DilKernelIdeal.nD Cert.DilKernelIdeal.τ).loc Cert.DilKernelIdeal.main_arg2)
      ∧ r.2.mem ((c.tc : Thread Cert.DilKernelIdeal.nD Cert.DilKernelIdeal.τ).loc Cert.DilKernelIdeal.main_arg3) = m ((c.tc : Thread Cert.DilKernelIdeal.nD Cert.DilKernelIdeal.τ).loc Cert.DilKernelIdeal.main_arg3)
      ∧ r.2.mem ((c.tc : Thread Cert.DilKernelIdeal.nD Cert.DilKernelIdeal.τ).loc Cert.DilKernelIdeal.main_arg4) = m ((c.tc : Thread Cert.DilKernelIdeal.nD Cert.DilKernelIdeal.τ).loc Cert.DilKernelIdeal.main_arg4)
      ∧ r.2.mem ((c.tc : Thread Cert.DilKernelIdeal.nD Cert.DilKernelIdeal.τ).loc Cert.DilKernelIdeal.main_arg5) = m ((c.tc : Thread Cert.DilKernelIdeal.nD Cert.DilKernelIdeal.τ).loc Cert.DilKernelIdeal.main_arg5)
      ∧ r.2.mem ((c.tc : Thread Cert.DilKernelIdeal.nD Cert.DilKernelIdeal.τ).loc Cert.DilKernelIdeal.main_arg6) = m ((c.tc : Thread Cert.DilKernelIdeal.nD Cert.DilKernelIdeal.τ).loc Cert.DilKernelIdeal.main_arg6))
      ∧ r.2.sem = fun _ => 0)

def quiescent_DilReferenceIdeal [hDilReferenceIdeal : Cert.DilReferenceIdeal.Facts] : Prop :=
  ∀ (m : (ℓ : Loc Cert.DilReferenceIdeal.nD Cert.DilReferenceIdeal.τ Cert.DilReferenceIdeal.sig) → Buf (Elt Ideal) ℓ) (g : Dev Cert.DilReferenceIdeal.nD → PrngReg), Pre_DilReferenceIdeal m →
    θ_run (Cert.DilReferenceIdeal.defs (F := Ideal)) (onTc (τ := Cert.DilReferenceIdeal.τ) (Cert.DilReferenceIdeal.main (F := Ideal))) ⟨m, fun _ => 0, g⟩ (fun r => (∀ c : Dev Cert.DilReferenceIdeal.nD,
      r.2.mem ((c.tc : Thread Cert.DilReferenceIdeal.nD Cert.DilReferenceIdeal.τ).loc Cert.DilReferenceIdeal.main_arg0) = m ((c.tc : Thread Cert.DilReferenceIdeal.nD Cert.DilReferenceIdeal.τ).loc Cert.DilReferenceIdeal.main_arg0)
      ∧ r.2.mem ((c.tc : Thread Cert.DilReferenceIdeal.nD Cert.DilReferenceIdeal.τ).loc Cert.DilReferenceIdeal.main_arg1) = m ((c.tc : Thread Cert.DilReferenceIdeal.nD Cert.DilReferenceIdeal.τ).loc Cert.DilReferenceIdeal.main_arg1)
      ∧ r.2.mem ((c.tc : Thread Cert.DilReferenceIdeal.nD Cert.DilReferenceIdeal.τ).loc Cert.DilReferenceIdeal.main_arg2) = m ((c.tc : Thread Cert.DilReferenceIdeal.nD Cert.DilReferenceIdeal.τ).loc Cert.DilReferenceIdeal.main_arg2)
      ∧ r.2.mem ((c.tc : Thread Cert.DilReferenceIdeal.nD Cert.DilReferenceIdeal.τ).loc Cert.DilReferenceIdeal.main_arg3) = m ((c.tc : Thread Cert.DilReferenceIdeal.nD Cert.DilReferenceIdeal.τ).loc Cert.DilReferenceIdeal.main_arg3)
      ∧ r.2.mem ((c.tc : Thread Cert.DilReferenceIdeal.nD Cert.DilReferenceIdeal.τ).loc Cert.DilReferenceIdeal.main_arg4) = m ((c.tc : Thread Cert.DilReferenceIdeal.nD Cert.DilReferenceIdeal.τ).loc Cert.DilReferenceIdeal.main_arg4)
      ∧ r.2.mem ((c.tc : Thread Cert.DilReferenceIdeal.nD Cert.DilReferenceIdeal.τ).loc Cert.DilReferenceIdeal.main_arg5) = m ((c.tc : Thread Cert.DilReferenceIdeal.nD Cert.DilReferenceIdeal.τ).loc Cert.DilReferenceIdeal.main_arg5)
      ∧ r.2.mem ((c.tc : Thread Cert.DilReferenceIdeal.nD Cert.DilReferenceIdeal.τ).loc Cert.DilReferenceIdeal.main_arg6) = m ((c.tc : Thread Cert.DilReferenceIdeal.nD Cert.DilReferenceIdeal.τ).loc Cert.DilReferenceIdeal.main_arg6))
      ∧ r.2.sem = fun _ => 0)

def quiescent_RopeKernel [hRopeKernel : Cert.RopeKernel.Facts] : Prop :=
  ∀ (m : (ℓ : Loc Cert.RopeKernel.nD Cert.RopeKernel.τ Cert.RopeKernel.sig) → Buf (Elt Bits) ℓ) (g : Dev Cert.RopeKernel.nD → PrngReg), Pre_RopeKernel m →
    θ_run (Cert.RopeKernel.defs (F := Bits)) (onTc (τ := Cert.RopeKernel.τ) (Cert.RopeKernel.main (F := Bits))) ⟨m, fun _ => 0, g⟩ (fun r => (∀ c : Dev Cert.RopeKernel.nD,
      r.2.mem ((c.tc : Thread Cert.RopeKernel.nD Cert.RopeKernel.τ).loc Cert.RopeKernel.main_arg0) = m ((c.tc : Thread Cert.RopeKernel.nD Cert.RopeKernel.τ).loc Cert.RopeKernel.main_arg0)
      ∧ r.2.mem ((c.tc : Thread Cert.RopeKernel.nD Cert.RopeKernel.τ).loc Cert.RopeKernel.main_arg1) = m ((c.tc : Thread Cert.RopeKernel.nD Cert.RopeKernel.τ).loc Cert.RopeKernel.main_arg1)
      ∧ r.2.mem ((c.tc : Thread Cert.RopeKernel.nD Cert.RopeKernel.τ).loc Cert.RopeKernel.main_arg2) = m ((c.tc : Thread Cert.RopeKernel.nD Cert.RopeKernel.τ).loc Cert.RopeKernel.main_arg2)
      ∧ r.2.mem ((c.tc : Thread Cert.RopeKernel.nD Cert.RopeKernel.τ).loc Cert.RopeKernel.main_arg3) = m ((c.tc : Thread Cert.RopeKernel.nD Cert.RopeKernel.τ).loc Cert.RopeKernel.main_arg3)
      ∧ r.2.mem ((c.tc : Thread Cert.RopeKernel.nD Cert.RopeKernel.τ).loc Cert.RopeKernel.main_arg4) = m ((c.tc : Thread Cert.RopeKernel.nD Cert.RopeKernel.τ).loc Cert.RopeKernel.main_arg4)
      ∧ r.2.mem ((c.tc : Thread Cert.RopeKernel.nD Cert.RopeKernel.τ).loc Cert.RopeKernel.main_arg5) = m ((c.tc : Thread Cert.RopeKernel.nD Cert.RopeKernel.τ).loc Cert.RopeKernel.main_arg5)
      ∧ r.2.mem ((c.tc : Thread Cert.RopeKernel.nD Cert.RopeKernel.τ).loc Cert.RopeKernel.main_arg6) = m ((c.tc : Thread Cert.RopeKernel.nD Cert.RopeKernel.τ).loc Cert.RopeKernel.main_arg6))
      ∧ r.2.sem = fun _ => 0)

def quiescent_RopeKernelIdeal [hRopeKernelIdeal : Cert.RopeKernelIdeal.Facts] : Prop :=
  ∀ (m : (ℓ : Loc Cert.RopeKernelIdeal.nD Cert.RopeKernelIdeal.τ Cert.RopeKernelIdeal.sig) → Buf (Elt Ideal) ℓ) (g : Dev Cert.RopeKernelIdeal.nD → PrngReg), Pre_RopeKernelIdeal m →
    θ_run (Cert.RopeKernelIdeal.defs (F := Ideal)) (onTc (τ := Cert.RopeKernelIdeal.τ) (Cert.RopeKernelIdeal.main (F := Ideal))) ⟨m, fun _ => 0, g⟩ (fun r => (∀ c : Dev Cert.RopeKernelIdeal.nD,
      r.2.mem ((c.tc : Thread Cert.RopeKernelIdeal.nD Cert.RopeKernelIdeal.τ).loc Cert.RopeKernelIdeal.main_arg0) = m ((c.tc : Thread Cert.RopeKernelIdeal.nD Cert.RopeKernelIdeal.τ).loc Cert.RopeKernelIdeal.main_arg0)
      ∧ r.2.mem ((c.tc : Thread Cert.RopeKernelIdeal.nD Cert.RopeKernelIdeal.τ).loc Cert.RopeKernelIdeal.main_arg1) = m ((c.tc : Thread Cert.RopeKernelIdeal.nD Cert.RopeKernelIdeal.τ).loc Cert.RopeKernelIdeal.main_arg1)
      ∧ r.2.mem ((c.tc : Thread Cert.RopeKernelIdeal.nD Cert.RopeKernelIdeal.τ).loc Cert.RopeKernelIdeal.main_arg2) = m ((c.tc : Thread Cert.RopeKernelIdeal.nD Cert.RopeKernelIdeal.τ).loc Cert.RopeKernelIdeal.main_arg2)
      ∧ r.2.mem ((c.tc : Thread Cert.RopeKernelIdeal.nD Cert.RopeKernelIdeal.τ).loc Cert.RopeKernelIdeal.main_arg3) = m ((c.tc : Thread Cert.RopeKernelIdeal.nD Cert.RopeKernelIdeal.τ).loc Cert.RopeKernelIdeal.main_arg3)
      ∧ r.2.mem ((c.tc : Thread Cert.RopeKernelIdeal.nD Cert.RopeKernelIdeal.τ).loc Cert.RopeKernelIdeal.main_arg4) = m ((c.tc : Thread Cert.RopeKernelIdeal.nD Cert.RopeKernelIdeal.τ).loc Cert.RopeKernelIdeal.main_arg4)
      ∧ r.2.mem ((c.tc : Thread Cert.RopeKernelIdeal.nD Cert.RopeKernelIdeal.τ).loc Cert.RopeKernelIdeal.main_arg5) = m ((c.tc : Thread Cert.RopeKernelIdeal.nD Cert.RopeKernelIdeal.τ).loc Cert.RopeKernelIdeal.main_arg5)
      ∧ r.2.mem ((c.tc : Thread Cert.RopeKernelIdeal.nD Cert.RopeKernelIdeal.τ).loc Cert.RopeKernelIdeal.main_arg6) = m ((c.tc : Thread Cert.RopeKernelIdeal.nD Cert.RopeKernelIdeal.τ).loc Cert.RopeKernelIdeal.main_arg6))
      ∧ r.2.sem = fun _ => 0)

def quiescent_RopeReferenceIdeal [hRopeReferenceIdeal : Cert.RopeReferenceIdeal.Facts] : Prop :=
  ∀ (m : (ℓ : Loc Cert.RopeReferenceIdeal.nD Cert.RopeReferenceIdeal.τ Cert.RopeReferenceIdeal.sig) → Buf (Elt Ideal) ℓ) (g : Dev Cert.RopeReferenceIdeal.nD → PrngReg), Pre_RopeReferenceIdeal m →
    θ_run (Cert.RopeReferenceIdeal.defs (F := Ideal)) (onTc (τ := Cert.RopeReferenceIdeal.τ) (Cert.RopeReferenceIdeal.main (F := Ideal))) ⟨m, fun _ => 0, g⟩ (fun r => (∀ c : Dev Cert.RopeReferenceIdeal.nD,
      r.2.mem ((c.tc : Thread Cert.RopeReferenceIdeal.nD Cert.RopeReferenceIdeal.τ).loc Cert.RopeReferenceIdeal.main_arg0) = m ((c.tc : Thread Cert.RopeReferenceIdeal.nD Cert.RopeReferenceIdeal.τ).loc Cert.RopeReferenceIdeal.main_arg0)
      ∧ r.2.mem ((c.tc : Thread Cert.RopeReferenceIdeal.nD Cert.RopeReferenceIdeal.τ).loc Cert.RopeReferenceIdeal.main_arg1) = m ((c.tc : Thread Cert.RopeReferenceIdeal.nD Cert.RopeReferenceIdeal.τ).loc Cert.RopeReferenceIdeal.main_arg1)
      ∧ r.2.mem ((c.tc : Thread Cert.RopeReferenceIdeal.nD Cert.RopeReferenceIdeal.τ).loc Cert.RopeReferenceIdeal.main_arg2) = m ((c.tc : Thread Cert.RopeReferenceIdeal.nD Cert.RopeReferenceIdeal.τ).loc Cert.RopeReferenceIdeal.main_arg2)
      ∧ r.2.mem ((c.tc : Thread Cert.RopeReferenceIdeal.nD Cert.RopeReferenceIdeal.τ).loc Cert.RopeReferenceIdeal.main_arg3) = m ((c.tc : Thread Cert.RopeReferenceIdeal.nD Cert.RopeReferenceIdeal.τ).loc Cert.RopeReferenceIdeal.main_arg3)
      ∧ r.2.mem ((c.tc : Thread Cert.RopeReferenceIdeal.nD Cert.RopeReferenceIdeal.τ).loc Cert.RopeReferenceIdeal.main_arg4) = m ((c.tc : Thread Cert.RopeReferenceIdeal.nD Cert.RopeReferenceIdeal.τ).loc Cert.RopeReferenceIdeal.main_arg4)
      ∧ r.2.mem ((c.tc : Thread Cert.RopeReferenceIdeal.nD Cert.RopeReferenceIdeal.τ).loc Cert.RopeReferenceIdeal.main_arg5) = m ((c.tc : Thread Cert.RopeReferenceIdeal.nD Cert.RopeReferenceIdeal.τ).loc Cert.RopeReferenceIdeal.main_arg5)
      ∧ r.2.mem ((c.tc : Thread Cert.RopeReferenceIdeal.nD Cert.RopeReferenceIdeal.τ).loc Cert.RopeReferenceIdeal.main_arg6) = m ((c.tc : Thread Cert.RopeReferenceIdeal.nD Cert.RopeReferenceIdeal.τ).loc Cert.RopeReferenceIdeal.main_arg6))
      ∧ r.2.sem = fun _ => 0)

def quiescent_ModKernel [hModKernel : Cert.ModKernel.Facts] : Prop :=
  ∀ (m : (ℓ : Loc Cert.ModKernel.nD Cert.ModKernel.τ Cert.ModKernel.sig) → Buf (Elt Bits) ℓ) (g : Dev Cert.ModKernel.nD → PrngReg), Pre_ModKernel m →
    θ_run (Cert.ModKernel.defs (F := Bits)) (onTc (τ := Cert.ModKernel.τ) (Cert.ModKernel.main (F := Bits))) ⟨m, fun _ => 0, g⟩ (fun r => (∀ c : Dev Cert.ModKernel.nD,
      r.2.mem ((c.tc : Thread Cert.ModKernel.nD Cert.ModKernel.τ).loc Cert.ModKernel.main_arg0) = m ((c.tc : Thread Cert.ModKernel.nD Cert.ModKernel.τ).loc Cert.ModKernel.main_arg0)
      ∧ r.2.mem ((c.tc : Thread Cert.ModKernel.nD Cert.ModKernel.τ).loc Cert.ModKernel.main_arg1) = m ((c.tc : Thread Cert.ModKernel.nD Cert.ModKernel.τ).loc Cert.ModKernel.main_arg1)
      ∧ r.2.mem ((c.tc : Thread Cert.ModKernel.nD Cert.ModKernel.τ).loc Cert.ModKernel.main_arg2) = m ((c.tc : Thread Cert.ModKernel.nD Cert.ModKernel.τ).loc Cert.ModKernel.main_arg2))
      ∧ r.2.sem = fun _ => 0)

def quiescent_ModKernelIdeal [hModKernelIdeal : Cert.ModKernelIdeal.Facts] : Prop :=
  ∀ (m : (ℓ : Loc Cert.ModKernelIdeal.nD Cert.ModKernelIdeal.τ Cert.ModKernelIdeal.sig) → Buf (Elt Ideal) ℓ) (g : Dev Cert.ModKernelIdeal.nD → PrngReg), Pre_ModKernelIdeal m →
    θ_run (Cert.ModKernelIdeal.defs (F := Ideal)) (onTc (τ := Cert.ModKernelIdeal.τ) (Cert.ModKernelIdeal.main (F := Ideal))) ⟨m, fun _ => 0, g⟩ (fun r => (∀ c : Dev Cert.ModKernelIdeal.nD,
      r.2.mem ((c.tc : Thread Cert.ModKernelIdeal.nD Cert.ModKernelIdeal.τ).loc Cert.ModKernelIdeal.main_arg0) = m ((c.tc : Thread Cert.ModKernelIdeal.nD Cert.ModKernelIdeal.τ).loc Cert.ModKernelIdeal.main_arg0)
      ∧ r.2.mem ((c.tc : Thread Cert.ModKernelIdeal.nD Cert.ModKernelIdeal.τ).loc Cert.ModKernelIdeal.main_arg1) = m ((c.tc : Thread Cert.ModKernelIdeal.nD Cert.ModKernelIdeal.τ).loc Cert.ModKernelIdeal.main_arg1)
      ∧ r.2.mem ((c.tc : Thread Cert.ModKernelIdeal.nD Cert.ModKernelIdeal.τ).loc Cert.ModKernelIdeal.main_arg2) = m ((c.tc : Thread Cert.ModKernelIdeal.nD Cert.ModKernelIdeal.τ).loc Cert.ModKernelIdeal.main_arg2))
      ∧ r.2.sem = fun _ => 0)

def quiescent_ModReferenceIdeal [hModReferenceIdeal : Cert.ModReferenceIdeal.Facts] : Prop :=
  ∀ (m : (ℓ : Loc Cert.ModReferenceIdeal.nD Cert.ModReferenceIdeal.τ Cert.ModReferenceIdeal.sig) → Buf (Elt Ideal) ℓ) (g : Dev Cert.ModReferenceIdeal.nD → PrngReg), Pre_ModReferenceIdeal m →
    θ_run (Cert.ModReferenceIdeal.defs (F := Ideal)) (onTc (τ := Cert.ModReferenceIdeal.τ) (Cert.ModReferenceIdeal.main (F := Ideal))) ⟨m, fun _ => 0, g⟩ (fun r => (∀ c : Dev Cert.ModReferenceIdeal.nD,
      r.2.mem ((c.tc : Thread Cert.ModReferenceIdeal.nD Cert.ModReferenceIdeal.τ).loc Cert.ModReferenceIdeal.main_arg0) = m ((c.tc : Thread Cert.ModReferenceIdeal.nD Cert.ModReferenceIdeal.τ).loc Cert.ModReferenceIdeal.main_arg0)
      ∧ r.2.mem ((c.tc : Thread Cert.ModReferenceIdeal.nD Cert.ModReferenceIdeal.τ).loc Cert.ModReferenceIdeal.main_arg1) = m ((c.tc : Thread Cert.ModReferenceIdeal.nD Cert.ModReferenceIdeal.τ).loc Cert.ModReferenceIdeal.main_arg1)
      ∧ r.2.mem ((c.tc : Thread Cert.ModReferenceIdeal.nD Cert.ModReferenceIdeal.τ).loc Cert.ModReferenceIdeal.main_arg2) = m ((c.tc : Thread Cert.ModReferenceIdeal.nD Cert.ModReferenceIdeal.τ).loc Cert.ModReferenceIdeal.main_arg2))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1)
      ∧ r.2.mem ((c.tc : Thread Cert.NormKernel.nD Cert.NormKernel.τ).loc Cert.NormKernel.main_arg2) = m ((c.tc : Thread Cert.NormKernel.nD Cert.NormKernel.τ).loc Cert.NormKernel.main_arg2)
      ∧ r.2.mem ((c.tc : Thread Cert.NormKernel.nD Cert.NormKernel.τ).loc Cert.NormKernel.main_arg3) = m ((c.tc : Thread Cert.NormKernel.nD Cert.NormKernel.τ).loc Cert.NormKernel.main_arg3)
      ∧ r.2.mem ((c.tc : Thread Cert.NormKernel.nD Cert.NormKernel.τ).loc Cert.NormKernel.main_arg4) = m ((c.tc : Thread Cert.NormKernel.nD Cert.NormKernel.τ).loc Cert.NormKernel.main_arg4)
      ∧ r.2.mem ((c.tc : Thread Cert.NormKernel.nD Cert.NormKernel.τ).loc Cert.NormKernel.main_arg5) = m ((c.tc : Thread Cert.NormKernel.nD Cert.NormKernel.τ).loc Cert.NormKernel.main_arg5))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
      ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3)
      ∧ r.2.mem ((c.tc : Thread Cert.NormKernelIdeal.nD Cert.NormKernelIdeal.τ).loc Cert.NormKernelIdeal.main_arg4) = m ((c.tc : Thread Cert.NormKernelIdeal.nD Cert.NormKernelIdeal.τ).loc Cert.NormKernelIdeal.main_arg4)
      ∧ r.2.mem ((c.tc : Thread Cert.NormKernelIdeal.nD Cert.NormKernelIdeal.τ).loc Cert.NormKernelIdeal.main_arg5) = m ((c.tc : Thread Cert.NormKernelIdeal.nD Cert.NormKernelIdeal.τ).loc Cert.NormKernelIdeal.main_arg5))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3)
      ∧ r.2.mem ((c.tc : Thread Cert.NormReferenceIdeal.nD Cert.NormReferenceIdeal.τ).loc Cert.NormReferenceIdeal.main_arg4) = m ((c.tc : Thread Cert.NormReferenceIdeal.nD Cert.NormReferenceIdeal.τ).loc Cert.NormReferenceIdeal.main_arg4)
      ∧ r.2.mem ((c.tc : Thread Cert.NormReferenceIdeal.nD Cert.NormReferenceIdeal.τ).loc Cert.NormReferenceIdeal.main_arg5) = m ((c.tc : Thread Cert.NormReferenceIdeal.nD Cert.NormReferenceIdeal.τ).loc Cert.NormReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)) →
    ∃ (v0 : (c : Dev Cert.OutKernelIdeal.nD) → Buf (Elt Ideal) ((c.tc : Thread Cert.OutKernelIdeal.nD Cert.OutKernelIdeal.τ).loc Cert.OutKernelIdeal.main_v3)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v3) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v9) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)) →
    ∃ (v0 : (c : Dev Cert.MergeKernelIdeal.nD) → Buf (Elt Ideal) ((c.tc : Thread Cert.MergeKernelIdeal.nD Cert.MergeKernelIdeal.τ).loc Cert.MergeKernelIdeal.main_v4)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v4) = v0 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v13) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4))

def preserves_NatKernel_NatKernelIdeal : Prop :=
  True

def algebraic_NatKernelIdeal_NatReferenceIdeal [hNatKernelIdeal : Cert.NatKernelIdeal.Facts] [hNatReferenceIdeal : Cert.NatReferenceIdeal.Facts] : Prop :=
  ∀ (m : (ℓ : Loc Cert.NatKernelIdeal.nD Cert.NatKernelIdeal.τ Cert.NatKernelIdeal.sig) → Buf (Elt Ideal) ℓ) (g : Dev Cert.NatKernelIdeal.nD → PrngReg)
    (m' : (ℓ : Loc Cert.NatReferenceIdeal.nD Cert.NatReferenceIdeal.τ Cert.NatReferenceIdeal.sig) → Buf (Elt Ideal) ℓ) (g' : Dev Cert.NatReferenceIdeal.nD → PrngReg), Pre_NatKernelIdeal m →
    (∀ c : Dev Cert.NatKernelIdeal.nD,
      m' ((c.tc : Thread Cert.NatReferenceIdeal.nD Cert.NatReferenceIdeal.τ).loc Cert.NatReferenceIdeal.main_arg0) = m ((c.tc : Thread Cert.NatKernelIdeal.nD Cert.NatKernelIdeal.τ).loc Cert.NatKernelIdeal.main_arg0)
      ∧ m' ((c.tc : Thread Cert.NatReferenceIdeal.nD Cert.NatReferenceIdeal.τ).loc Cert.NatReferenceIdeal.main_arg1) = m ((c.tc : Thread Cert.NatKernelIdeal.nD Cert.NatKernelIdeal.τ).loc Cert.NatKernelIdeal.main_arg1)
      ∧ m' ((c.tc : Thread Cert.NatReferenceIdeal.nD Cert.NatReferenceIdeal.τ).loc Cert.NatReferenceIdeal.main_arg2) = m ((c.tc : Thread Cert.NatKernelIdeal.nD Cert.NatKernelIdeal.τ).loc Cert.NatKernelIdeal.main_arg2)
      ∧ m' ((c.tc : Thread Cert.NatReferenceIdeal.nD Cert.NatReferenceIdeal.τ).loc Cert.NatReferenceIdeal.main_arg3) = m ((c.tc : Thread Cert.NatKernelIdeal.nD Cert.NatKernelIdeal.τ).loc Cert.NatKernelIdeal.main_arg3)
      ∧ m' ((c.tc : Thread Cert.NatReferenceIdeal.nD Cert.NatReferenceIdeal.τ).loc Cert.NatReferenceIdeal.main_arg4) = m ((c.tc : Thread Cert.NatKernelIdeal.nD Cert.NatKernelIdeal.τ).loc Cert.NatKernelIdeal.main_arg4)
      ∧ m' ((c.tc : Thread Cert.NatReferenceIdeal.nD Cert.NatReferenceIdeal.τ).loc Cert.NatReferenceIdeal.main_arg5) = m ((c.tc : Thread Cert.NatKernelIdeal.nD Cert.NatKernelIdeal.τ).loc Cert.NatKernelIdeal.main_arg5)
      ∧ m' ((c.tc : Thread Cert.NatReferenceIdeal.nD Cert.NatReferenceIdeal.τ).loc Cert.NatReferenceIdeal.main_arg6) = m ((c.tc : Thread Cert.NatKernelIdeal.nD Cert.NatKernelIdeal.τ).loc Cert.NatKernelIdeal.main_arg6)) →
    ∃ (v0 : (c : Dev Cert.NatKernelIdeal.nD) → Buf (Elt Ideal) ((c.tc : Thread Cert.NatKernelIdeal.nD Cert.NatKernelIdeal.τ).loc Cert.NatKernelIdeal.main_v168)),
      θ_run (Cert.NatKernelIdeal.defs (F := Ideal)) (onTc (τ := Cert.NatKernelIdeal.τ) (Cert.NatKernelIdeal.main (F := Ideal))) ⟨m, fun _ => 0, g⟩ (fun r => ∀ c : Dev Cert.NatKernelIdeal.nD,
          r.2.mem ((c.tc : Thread Cert.NatKernelIdeal.nD Cert.NatKernelIdeal.τ).loc Cert.NatKernelIdeal.main_v168) = v0 c
          ∧ r.2.mem ((c.tc : Thread Cert.NatKernelIdeal.nD Cert.NatKernelIdeal.τ).loc Cert.NatKernelIdeal.main_arg0) = m ((c.tc : Thread Cert.NatKernelIdeal.nD Cert.NatKernelIdeal.τ).loc Cert.NatKernelIdeal.main_arg0)
          ∧ r.2.mem ((c.tc : Thread Cert.NatKernelIdeal.nD Cert.NatKernelIdeal.τ).loc Cert.NatKernelIdeal.main_arg1) = m ((c.tc : Thread Cert.NatKernelIdeal.nD Cert.NatKernelIdeal.τ).loc Cert.NatKernelIdeal.main_arg1)
          ∧ r.2.mem ((c.tc : Thread Cert.NatKernelIdeal.nD Cert.NatKernelIdeal.τ).loc Cert.NatKernelIdeal.main_arg2) = m ((c.tc : Thread Cert.NatKernelIdeal.nD Cert.NatKernelIdeal.τ).loc Cert.NatKernelIdeal.main_arg2)
          ∧ r.2.mem ((c.tc : Thread Cert.NatKernelIdeal.nD Cert.NatKernelIdeal.τ).loc Cert.NatKernelIdeal.main_arg3) = m ((c.tc : Thread Cert.NatKernelIdeal.nD Cert.NatKernelIdeal.τ).loc Cert.NatKernelIdeal.main_arg3)
          ∧ r.2.mem ((c.tc : Thread Cert.NatKernelIdeal.nD Cert.NatKernelIdeal.τ).loc Cert.NatKernelIdeal.main_arg4) = m ((c.tc : Thread Cert.NatKernelIdeal.nD Cert.NatKernelIdeal.τ).loc Cert.NatKernelIdeal.main_arg4)
          ∧ r.2.mem ((c.tc : Thread Cert.NatKernelIdeal.nD Cert.NatKernelIdeal.τ).loc Cert.NatKernelIdeal.main_arg5) = m ((c.tc : Thread Cert.NatKernelIdeal.nD Cert.NatKernelIdeal.τ).loc Cert.NatKernelIdeal.main_arg5)
          ∧ r.2.mem ((c.tc : Thread Cert.NatKernelIdeal.nD Cert.NatKernelIdeal.τ).loc Cert.NatKernelIdeal.main_arg6) = m ((c.tc : Thread Cert.NatKernelIdeal.nD Cert.NatKernelIdeal.τ).loc Cert.NatKernelIdeal.main_arg6))
      ∧ θ_run (Cert.NatReferenceIdeal.defs (F := Ideal)) (onTc (τ := Cert.NatReferenceIdeal.τ) (Cert.NatReferenceIdeal.main (F := Ideal))) ⟨m', fun _ => 0, g'⟩ (fun r => ∀ c : Dev Cert.NatReferenceIdeal.nD,
          r.2.mem ((c.tc : Thread Cert.NatReferenceIdeal.nD Cert.NatReferenceIdeal.τ).loc Cert.NatReferenceIdeal.main_v54) = v0 c
          ∧ r.2.mem ((c.tc : Thread Cert.NatReferenceIdeal.nD Cert.NatReferenceIdeal.τ).loc Cert.NatReferenceIdeal.main_arg0) = m' ((c.tc : Thread Cert.NatReferenceIdeal.nD Cert.NatReferenceIdeal.τ).loc Cert.NatReferenceIdeal.main_arg0)
          ∧ r.2.mem ((c.tc : Thread Cert.NatReferenceIdeal.nD Cert.NatReferenceIdeal.τ).loc Cert.NatReferenceIdeal.main_arg1) = m' ((c.tc : Thread Cert.NatReferenceIdeal.nD Cert.NatReferenceIdeal.τ).loc Cert.NatReferenceIdeal.main_arg1)
          ∧ r.2.mem ((c.tc : Thread Cert.NatReferenceIdeal.nD Cert.NatReferenceIdeal.τ).loc Cert.NatReferenceIdeal.main_arg2) = m' ((c.tc : Thread Cert.NatReferenceIdeal.nD Cert.NatReferenceIdeal.τ).loc Cert.NatReferenceIdeal.main_arg2)
          ∧ r.2.mem ((c.tc : Thread Cert.NatReferenceIdeal.nD Cert.NatReferenceIdeal.τ).loc Cert.NatReferenceIdeal.main_arg3) = m' ((c.tc : Thread Cert.NatReferenceIdeal.nD Cert.NatReferenceIdeal.τ).loc Cert.NatReferenceIdeal.main_arg3)
          ∧ r.2.mem ((c.tc : Thread Cert.NatReferenceIdeal.nD Cert.NatReferenceIdeal.τ).loc Cert.NatReferenceIdeal.main_arg4) = m' ((c.tc : Thread Cert.NatReferenceIdeal.nD Cert.NatReferenceIdeal.τ).loc Cert.NatReferenceIdeal.main_arg4)
          ∧ r.2.mem ((c.tc : Thread Cert.NatReferenceIdeal.nD Cert.NatReferenceIdeal.τ).loc Cert.NatReferenceIdeal.main_arg5) = m' ((c.tc : Thread Cert.NatReferenceIdeal.nD Cert.NatReferenceIdeal.τ).loc Cert.NatReferenceIdeal.main_arg5)
          ∧ r.2.mem ((c.tc : Thread Cert.NatReferenceIdeal.nD Cert.NatReferenceIdeal.τ).loc Cert.NatReferenceIdeal.main_arg6) = m' ((c.tc : Thread Cert.NatReferenceIdeal.nD Cert.NatReferenceIdeal.τ).loc Cert.NatReferenceIdeal.main_arg6))

def preserves_DilKernel_DilKernelIdeal : Prop :=
  True

def algebraic_DilKernelIdeal_DilReferenceIdeal [hDilKernelIdeal : Cert.DilKernelIdeal.Facts] [hDilReferenceIdeal : Cert.DilReferenceIdeal.Facts] : Prop :=
  ∀ (m : (ℓ : Loc Cert.DilKernelIdeal.nD Cert.DilKernelIdeal.τ Cert.DilKernelIdeal.sig) → Buf (Elt Ideal) ℓ) (g : Dev Cert.DilKernelIdeal.nD → PrngReg)
    (m' : (ℓ : Loc Cert.DilReferenceIdeal.nD Cert.DilReferenceIdeal.τ Cert.DilReferenceIdeal.sig) → Buf (Elt Ideal) ℓ) (g' : Dev Cert.DilReferenceIdeal.nD → PrngReg), Pre_DilKernelIdeal m →
    (∀ c : Dev Cert.DilKernelIdeal.nD,
      m' ((c.tc : Thread Cert.DilReferenceIdeal.nD Cert.DilReferenceIdeal.τ).loc Cert.DilReferenceIdeal.main_arg0) = m ((c.tc : Thread Cert.DilKernelIdeal.nD Cert.DilKernelIdeal.τ).loc Cert.DilKernelIdeal.main_arg0)
      ∧ m' ((c.tc : Thread Cert.DilReferenceIdeal.nD Cert.DilReferenceIdeal.τ).loc Cert.DilReferenceIdeal.main_arg1) = m ((c.tc : Thread Cert.DilKernelIdeal.nD Cert.DilKernelIdeal.τ).loc Cert.DilKernelIdeal.main_arg1)
      ∧ m' ((c.tc : Thread Cert.DilReferenceIdeal.nD Cert.DilReferenceIdeal.τ).loc Cert.DilReferenceIdeal.main_arg2) = m ((c.tc : Thread Cert.DilKernelIdeal.nD Cert.DilKernelIdeal.τ).loc Cert.DilKernelIdeal.main_arg2)
      ∧ m' ((c.tc : Thread Cert.DilReferenceIdeal.nD Cert.DilReferenceIdeal.τ).loc Cert.DilReferenceIdeal.main_arg3) = m ((c.tc : Thread Cert.DilKernelIdeal.nD Cert.DilKernelIdeal.τ).loc Cert.DilKernelIdeal.main_arg3)
      ∧ m' ((c.tc : Thread Cert.DilReferenceIdeal.nD Cert.DilReferenceIdeal.τ).loc Cert.DilReferenceIdeal.main_arg4) = m ((c.tc : Thread Cert.DilKernelIdeal.nD Cert.DilKernelIdeal.τ).loc Cert.DilKernelIdeal.main_arg4)
      ∧ m' ((c.tc : Thread Cert.DilReferenceIdeal.nD Cert.DilReferenceIdeal.τ).loc Cert.DilReferenceIdeal.main_arg5) = m ((c.tc : Thread Cert.DilKernelIdeal.nD Cert.DilKernelIdeal.τ).loc Cert.DilKernelIdeal.main_arg5)
      ∧ m' ((c.tc : Thread Cert.DilReferenceIdeal.nD Cert.DilReferenceIdeal.τ).loc Cert.DilReferenceIdeal.main_arg6) = m ((c.tc : Thread Cert.DilKernelIdeal.nD Cert.DilKernelIdeal.τ).loc Cert.DilKernelIdeal.main_arg6)) →
    ∃ (v0 : (c : Dev Cert.DilKernelIdeal.nD) → Buf (Elt Ideal) ((c.tc : Thread Cert.DilKernelIdeal.nD Cert.DilKernelIdeal.τ).loc Cert.DilKernelIdeal.main_v168)),
      θ_run (Cert.DilKernelIdeal.defs (F := Ideal)) (onTc (τ := Cert.DilKernelIdeal.τ) (Cert.DilKernelIdeal.main (F := Ideal))) ⟨m, fun _ => 0, g⟩ (fun r => ∀ c : Dev Cert.DilKernelIdeal.nD,
          r.2.mem ((c.tc : Thread Cert.DilKernelIdeal.nD Cert.DilKernelIdeal.τ).loc Cert.DilKernelIdeal.main_v168) = v0 c
          ∧ r.2.mem ((c.tc : Thread Cert.DilKernelIdeal.nD Cert.DilKernelIdeal.τ).loc Cert.DilKernelIdeal.main_arg0) = m ((c.tc : Thread Cert.DilKernelIdeal.nD Cert.DilKernelIdeal.τ).loc Cert.DilKernelIdeal.main_arg0)
          ∧ r.2.mem ((c.tc : Thread Cert.DilKernelIdeal.nD Cert.DilKernelIdeal.τ).loc Cert.DilKernelIdeal.main_arg1) = m ((c.tc : Thread Cert.DilKernelIdeal.nD Cert.DilKernelIdeal.τ).loc Cert.DilKernelIdeal.main_arg1)
          ∧ r.2.mem ((c.tc : Thread Cert.DilKernelIdeal.nD Cert.DilKernelIdeal.τ).loc Cert.DilKernelIdeal.main_arg2) = m ((c.tc : Thread Cert.DilKernelIdeal.nD Cert.DilKernelIdeal.τ).loc Cert.DilKernelIdeal.main_arg2)
          ∧ r.2.mem ((c.tc : Thread Cert.DilKernelIdeal.nD Cert.DilKernelIdeal.τ).loc Cert.DilKernelIdeal.main_arg3) = m ((c.tc : Thread Cert.DilKernelIdeal.nD Cert.DilKernelIdeal.τ).loc Cert.DilKernelIdeal.main_arg3)
          ∧ r.2.mem ((c.tc : Thread Cert.DilKernelIdeal.nD Cert.DilKernelIdeal.τ).loc Cert.DilKernelIdeal.main_arg4) = m ((c.tc : Thread Cert.DilKernelIdeal.nD Cert.DilKernelIdeal.τ).loc Cert.DilKernelIdeal.main_arg4)
          ∧ r.2.mem ((c.tc : Thread Cert.DilKernelIdeal.nD Cert.DilKernelIdeal.τ).loc Cert.DilKernelIdeal.main_arg5) = m ((c.tc : Thread Cert.DilKernelIdeal.nD Cert.DilKernelIdeal.τ).loc Cert.DilKernelIdeal.main_arg5)
          ∧ r.2.mem ((c.tc : Thread Cert.DilKernelIdeal.nD Cert.DilKernelIdeal.τ).loc Cert.DilKernelIdeal.main_arg6) = m ((c.tc : Thread Cert.DilKernelIdeal.nD Cert.DilKernelIdeal.τ).loc Cert.DilKernelIdeal.main_arg6))
      ∧ θ_run (Cert.DilReferenceIdeal.defs (F := Ideal)) (onTc (τ := Cert.DilReferenceIdeal.τ) (Cert.DilReferenceIdeal.main (F := Ideal))) ⟨m', fun _ => 0, g'⟩ (fun r => ∀ c : Dev Cert.DilReferenceIdeal.nD,
          r.2.mem ((c.tc : Thread Cert.DilReferenceIdeal.nD Cert.DilReferenceIdeal.τ).loc Cert.DilReferenceIdeal.main_v132) = v0 c
          ∧ r.2.mem ((c.tc : Thread Cert.DilReferenceIdeal.nD Cert.DilReferenceIdeal.τ).loc Cert.DilReferenceIdeal.main_arg0) = m' ((c.tc : Thread Cert.DilReferenceIdeal.nD Cert.DilReferenceIdeal.τ).loc Cert.DilReferenceIdeal.main_arg0)
          ∧ r.2.mem ((c.tc : Thread Cert.DilReferenceIdeal.nD Cert.DilReferenceIdeal.τ).loc Cert.DilReferenceIdeal.main_arg1) = m' ((c.tc : Thread Cert.DilReferenceIdeal.nD Cert.DilReferenceIdeal.τ).loc Cert.DilReferenceIdeal.main_arg1)
          ∧ r.2.mem ((c.tc : Thread Cert.DilReferenceIdeal.nD Cert.DilReferenceIdeal.τ).loc Cert.DilReferenceIdeal.main_arg2) = m' ((c.tc : Thread Cert.DilReferenceIdeal.nD Cert.DilReferenceIdeal.τ).loc Cert.DilReferenceIdeal.main_arg2)
          ∧ r.2.mem ((c.tc : Thread Cert.DilReferenceIdeal.nD Cert.DilReferenceIdeal.τ).loc Cert.DilReferenceIdeal.main_arg3) = m' ((c.tc : Thread Cert.DilReferenceIdeal.nD Cert.DilReferenceIdeal.τ).loc Cert.DilReferenceIdeal.main_arg3)
          ∧ r.2.mem ((c.tc : Thread Cert.DilReferenceIdeal.nD Cert.DilReferenceIdeal.τ).loc Cert.DilReferenceIdeal.main_arg4) = m' ((c.tc : Thread Cert.DilReferenceIdeal.nD Cert.DilReferenceIdeal.τ).loc Cert.DilReferenceIdeal.main_arg4)
          ∧ r.2.mem ((c.tc : Thread Cert.DilReferenceIdeal.nD Cert.DilReferenceIdeal.τ).loc Cert.DilReferenceIdeal.main_arg5) = m' ((c.tc : Thread Cert.DilReferenceIdeal.nD Cert.DilReferenceIdeal.τ).loc Cert.DilReferenceIdeal.main_arg5)
          ∧ r.2.mem ((c.tc : Thread Cert.DilReferenceIdeal.nD Cert.DilReferenceIdeal.τ).loc Cert.DilReferenceIdeal.main_arg6) = m' ((c.tc : Thread Cert.DilReferenceIdeal.nD Cert.DilReferenceIdeal.τ).loc Cert.DilReferenceIdeal.main_arg6))

def preserves_RopeKernel_RopeKernelIdeal : Prop :=
  True

def algebraic_RopeKernelIdeal_RopeReferenceIdeal [hRopeKernelIdeal : Cert.RopeKernelIdeal.Facts] [hRopeReferenceIdeal : Cert.RopeReferenceIdeal.Facts] : Prop :=
  ∀ (m : (ℓ : Loc Cert.RopeKernelIdeal.nD Cert.RopeKernelIdeal.τ Cert.RopeKernelIdeal.sig) → Buf (Elt Ideal) ℓ) (g : Dev Cert.RopeKernelIdeal.nD → PrngReg)
    (m' : (ℓ : Loc Cert.RopeReferenceIdeal.nD Cert.RopeReferenceIdeal.τ Cert.RopeReferenceIdeal.sig) → Buf (Elt Ideal) ℓ) (g' : Dev Cert.RopeReferenceIdeal.nD → PrngReg), Pre_RopeKernelIdeal m →
    (∀ c : Dev Cert.RopeKernelIdeal.nD,
      m' ((c.tc : Thread Cert.RopeReferenceIdeal.nD Cert.RopeReferenceIdeal.τ).loc Cert.RopeReferenceIdeal.main_arg0) = m ((c.tc : Thread Cert.RopeKernelIdeal.nD Cert.RopeKernelIdeal.τ).loc Cert.RopeKernelIdeal.main_arg0)
      ∧ m' ((c.tc : Thread Cert.RopeReferenceIdeal.nD Cert.RopeReferenceIdeal.τ).loc Cert.RopeReferenceIdeal.main_arg1) = m ((c.tc : Thread Cert.RopeKernelIdeal.nD Cert.RopeKernelIdeal.τ).loc Cert.RopeKernelIdeal.main_arg1)
      ∧ m' ((c.tc : Thread Cert.RopeReferenceIdeal.nD Cert.RopeReferenceIdeal.τ).loc Cert.RopeReferenceIdeal.main_arg2) = m ((c.tc : Thread Cert.RopeKernelIdeal.nD Cert.RopeKernelIdeal.τ).loc Cert.RopeKernelIdeal.main_arg2)
      ∧ m' ((c.tc : Thread Cert.RopeReferenceIdeal.nD Cert.RopeReferenceIdeal.τ).loc Cert.RopeReferenceIdeal.main_arg3) = m ((c.tc : Thread Cert.RopeKernelIdeal.nD Cert.RopeKernelIdeal.τ).loc Cert.RopeKernelIdeal.main_arg3)
      ∧ m' ((c.tc : Thread Cert.RopeReferenceIdeal.nD Cert.RopeReferenceIdeal.τ).loc Cert.RopeReferenceIdeal.main_arg4) = m ((c.tc : Thread Cert.RopeKernelIdeal.nD Cert.RopeKernelIdeal.τ).loc Cert.RopeKernelIdeal.main_arg4)
      ∧ m' ((c.tc : Thread Cert.RopeReferenceIdeal.nD Cert.RopeReferenceIdeal.τ).loc Cert.RopeReferenceIdeal.main_arg5) = m ((c.tc : Thread Cert.RopeKernelIdeal.nD Cert.RopeKernelIdeal.τ).loc Cert.RopeKernelIdeal.main_arg5)
      ∧ m' ((c.tc : Thread Cert.RopeReferenceIdeal.nD Cert.RopeReferenceIdeal.τ).loc Cert.RopeReferenceIdeal.main_arg6) = m ((c.tc : Thread Cert.RopeKernelIdeal.nD Cert.RopeKernelIdeal.τ).loc Cert.RopeKernelIdeal.main_arg6)) →
    ∃ (v0 : (c : Dev Cert.RopeKernelIdeal.nD) → Buf (Elt Ideal) ((c.tc : Thread Cert.RopeKernelIdeal.nD Cert.RopeKernelIdeal.τ).loc Cert.RopeKernelIdeal.main_v168)),
      θ_run (Cert.RopeKernelIdeal.defs (F := Ideal)) (onTc (τ := Cert.RopeKernelIdeal.τ) (Cert.RopeKernelIdeal.main (F := Ideal))) ⟨m, fun _ => 0, g⟩ (fun r => ∀ c : Dev Cert.RopeKernelIdeal.nD,
          r.2.mem ((c.tc : Thread Cert.RopeKernelIdeal.nD Cert.RopeKernelIdeal.τ).loc Cert.RopeKernelIdeal.main_v168) = v0 c
          ∧ r.2.mem ((c.tc : Thread Cert.RopeKernelIdeal.nD Cert.RopeKernelIdeal.τ).loc Cert.RopeKernelIdeal.main_arg0) = m ((c.tc : Thread Cert.RopeKernelIdeal.nD Cert.RopeKernelIdeal.τ).loc Cert.RopeKernelIdeal.main_arg0)
          ∧ r.2.mem ((c.tc : Thread Cert.RopeKernelIdeal.nD Cert.RopeKernelIdeal.τ).loc Cert.RopeKernelIdeal.main_arg1) = m ((c.tc : Thread Cert.RopeKernelIdeal.nD Cert.RopeKernelIdeal.τ).loc Cert.RopeKernelIdeal.main_arg1)
          ∧ r.2.mem ((c.tc : Thread Cert.RopeKernelIdeal.nD Cert.RopeKernelIdeal.τ).loc Cert.RopeKernelIdeal.main_arg2) = m ((c.tc : Thread Cert.RopeKernelIdeal.nD Cert.RopeKernelIdeal.τ).loc Cert.RopeKernelIdeal.main_arg2)
          ∧ r.2.mem ((c.tc : Thread Cert.RopeKernelIdeal.nD Cert.RopeKernelIdeal.τ).loc Cert.RopeKernelIdeal.main_arg3) = m ((c.tc : Thread Cert.RopeKernelIdeal.nD Cert.RopeKernelIdeal.τ).loc Cert.RopeKernelIdeal.main_arg3)
          ∧ r.2.mem ((c.tc : Thread Cert.RopeKernelIdeal.nD Cert.RopeKernelIdeal.τ).loc Cert.RopeKernelIdeal.main_arg4) = m ((c.tc : Thread Cert.RopeKernelIdeal.nD Cert.RopeKernelIdeal.τ).loc Cert.RopeKernelIdeal.main_arg4)
          ∧ r.2.mem ((c.tc : Thread Cert.RopeKernelIdeal.nD Cert.RopeKernelIdeal.τ).loc Cert.RopeKernelIdeal.main_arg5) = m ((c.tc : Thread Cert.RopeKernelIdeal.nD Cert.RopeKernelIdeal.τ).loc Cert.RopeKernelIdeal.main_arg5)
          ∧ r.2.mem ((c.tc : Thread Cert.RopeKernelIdeal.nD Cert.RopeKernelIdeal.τ).loc Cert.RopeKernelIdeal.main_arg6) = m ((c.tc : Thread Cert.RopeKernelIdeal.nD Cert.RopeKernelIdeal.τ).loc Cert.RopeKernelIdeal.main_arg6))
      ∧ θ_run (Cert.RopeReferenceIdeal.defs (F := Ideal)) (onTc (τ := Cert.RopeReferenceIdeal.τ) (Cert.RopeReferenceIdeal.main (F := Ideal))) ⟨m', fun _ => 0, g'⟩ (fun r => ∀ c : Dev Cert.RopeReferenceIdeal.nD,
          r.2.mem ((c.tc : Thread Cert.RopeReferenceIdeal.nD Cert.RopeReferenceIdeal.τ).loc Cert.RopeReferenceIdeal.main_v115) = v0 c
          ∧ r.2.mem ((c.tc : Thread Cert.RopeReferenceIdeal.nD Cert.RopeReferenceIdeal.τ).loc Cert.RopeReferenceIdeal.main_arg0) = m' ((c.tc : Thread Cert.RopeReferenceIdeal.nD Cert.RopeReferenceIdeal.τ).loc Cert.RopeReferenceIdeal.main_arg0)
          ∧ r.2.mem ((c.tc : Thread Cert.RopeReferenceIdeal.nD Cert.RopeReferenceIdeal.τ).loc Cert.RopeReferenceIdeal.main_arg1) = m' ((c.tc : Thread Cert.RopeReferenceIdeal.nD Cert.RopeReferenceIdeal.τ).loc Cert.RopeReferenceIdeal.main_arg1)
          ∧ r.2.mem ((c.tc : Thread Cert.RopeReferenceIdeal.nD Cert.RopeReferenceIdeal.τ).loc Cert.RopeReferenceIdeal.main_arg2) = m' ((c.tc : Thread Cert.RopeReferenceIdeal.nD Cert.RopeReferenceIdeal.τ).loc Cert.RopeReferenceIdeal.main_arg2)
          ∧ r.2.mem ((c.tc : Thread Cert.RopeReferenceIdeal.nD Cert.RopeReferenceIdeal.τ).loc Cert.RopeReferenceIdeal.main_arg3) = m' ((c.tc : Thread Cert.RopeReferenceIdeal.nD Cert.RopeReferenceIdeal.τ).loc Cert.RopeReferenceIdeal.main_arg3)
          ∧ r.2.mem ((c.tc : Thread Cert.RopeReferenceIdeal.nD Cert.RopeReferenceIdeal.τ).loc Cert.RopeReferenceIdeal.main_arg4) = m' ((c.tc : Thread Cert.RopeReferenceIdeal.nD Cert.RopeReferenceIdeal.τ).loc Cert.RopeReferenceIdeal.main_arg4)
          ∧ r.2.mem ((c.tc : Thread Cert.RopeReferenceIdeal.nD Cert.RopeReferenceIdeal.τ).loc Cert.RopeReferenceIdeal.main_arg5) = m' ((c.tc : Thread Cert.RopeReferenceIdeal.nD Cert.RopeReferenceIdeal.τ).loc Cert.RopeReferenceIdeal.main_arg5)
          ∧ r.2.mem ((c.tc : Thread Cert.RopeReferenceIdeal.nD Cert.RopeReferenceIdeal.τ).loc Cert.RopeReferenceIdeal.main_arg6) = m' ((c.tc : Thread Cert.RopeReferenceIdeal.nD Cert.RopeReferenceIdeal.τ).loc Cert.RopeReferenceIdeal.main_arg6))

def preserves_ModKernel_ModKernelIdeal : Prop :=
  True

def algebraic_ModKernelIdeal_ModReferenceIdeal [hModKernelIdeal : Cert.ModKernelIdeal.Facts] [hModReferenceIdeal : Cert.ModReferenceIdeal.Facts] : Prop :=
  ∀ (m : (ℓ : Loc Cert.ModKernelIdeal.nD Cert.ModKernelIdeal.τ Cert.ModKernelIdeal.sig) → Buf (Elt Ideal) ℓ) (g : Dev Cert.ModKernelIdeal.nD → PrngReg)
    (m' : (ℓ : Loc Cert.ModReferenceIdeal.nD Cert.ModReferenceIdeal.τ Cert.ModReferenceIdeal.sig) → Buf (Elt Ideal) ℓ) (g' : Dev Cert.ModReferenceIdeal.nD → PrngReg), Pre_ModKernelIdeal m →
    (∀ c : Dev Cert.ModKernelIdeal.nD,
      m' ((c.tc : Thread Cert.ModReferenceIdeal.nD Cert.ModReferenceIdeal.τ).loc Cert.ModReferenceIdeal.main_arg0) = m ((c.tc : Thread Cert.ModKernelIdeal.nD Cert.ModKernelIdeal.τ).loc Cert.ModKernelIdeal.main_arg0)
      ∧ m' ((c.tc : Thread Cert.ModReferenceIdeal.nD Cert.ModReferenceIdeal.τ).loc Cert.ModReferenceIdeal.main_arg1) = m ((c.tc : Thread Cert.ModKernelIdeal.nD Cert.ModKernelIdeal.τ).loc Cert.ModKernelIdeal.main_arg1)
      ∧ m' ((c.tc : Thread Cert.ModReferenceIdeal.nD Cert.ModReferenceIdeal.τ).loc Cert.ModReferenceIdeal.main_arg2) = m ((c.tc : Thread Cert.ModKernelIdeal.nD Cert.ModKernelIdeal.τ).loc Cert.ModKernelIdeal.main_arg2)) →
    ∃ (v0 : (c : Dev Cert.ModKernelIdeal.nD) → Buf (Elt Ideal) ((c.tc : Thread Cert.ModKernelIdeal.nD Cert.ModKernelIdeal.τ).loc Cert.ModKernelIdeal.main_v5)),
      θ_run (Cert.ModKernelIdeal.defs (F := Ideal)) (onTc (τ := Cert.ModKernelIdeal.τ) (Cert.ModKernelIdeal.main (F := Ideal))) ⟨m, fun _ => 0, g⟩ (fun r => ∀ c : Dev Cert.ModKernelIdeal.nD,
          r.2.mem ((c.tc : Thread Cert.ModKernelIdeal.nD Cert.ModKernelIdeal.τ).loc Cert.ModKernelIdeal.main_v5) = v0 c
          ∧ r.2.mem ((c.tc : Thread Cert.ModKernelIdeal.nD Cert.ModKernelIdeal.τ).loc Cert.ModKernelIdeal.main_arg0) = m ((c.tc : Thread Cert.ModKernelIdeal.nD Cert.ModKernelIdeal.τ).loc Cert.ModKernelIdeal.main_arg0)
          ∧ r.2.mem ((c.tc : Thread Cert.ModKernelIdeal.nD Cert.ModKernelIdeal.τ).loc Cert.ModKernelIdeal.main_arg1) = m ((c.tc : Thread Cert.ModKernelIdeal.nD Cert.ModKernelIdeal.τ).loc Cert.ModKernelIdeal.main_arg1)
          ∧ r.2.mem ((c.tc : Thread Cert.ModKernelIdeal.nD Cert.ModKernelIdeal.τ).loc Cert.ModKernelIdeal.main_arg2) = m ((c.tc : Thread Cert.ModKernelIdeal.nD Cert.ModKernelIdeal.τ).loc Cert.ModKernelIdeal.main_arg2))
      ∧ θ_run (Cert.ModReferenceIdeal.defs (F := Ideal)) (onTc (τ := Cert.ModReferenceIdeal.τ) (Cert.ModReferenceIdeal.main (F := Ideal))) ⟨m', fun _ => 0, g'⟩ (fun r => ∀ c : Dev Cert.ModReferenceIdeal.nD,
          r.2.mem ((c.tc : Thread Cert.ModReferenceIdeal.nD Cert.ModReferenceIdeal.τ).loc Cert.ModReferenceIdeal.main_v6) = v0 c
          ∧ r.2.mem ((c.tc : Thread Cert.ModReferenceIdeal.nD Cert.ModReferenceIdeal.τ).loc Cert.ModReferenceIdeal.main_arg0) = m' ((c.tc : Thread Cert.ModReferenceIdeal.nD Cert.ModReferenceIdeal.τ).loc Cert.ModReferenceIdeal.main_arg0)
          ∧ r.2.mem ((c.tc : Thread Cert.ModReferenceIdeal.nD Cert.ModReferenceIdeal.τ).loc Cert.ModReferenceIdeal.main_arg1) = m' ((c.tc : Thread Cert.ModReferenceIdeal.nD Cert.ModReferenceIdeal.τ).loc Cert.ModReferenceIdeal.main_arg1)
          ∧ r.2.mem ((c.tc : Thread Cert.ModReferenceIdeal.nD Cert.ModReferenceIdeal.τ).loc Cert.ModReferenceIdeal.main_arg2) = m' ((c.tc : Thread Cert.ModReferenceIdeal.nD Cert.ModReferenceIdeal.τ).loc Cert.ModReferenceIdeal.main_arg2))

def preserves_NormKernel_NormKernelIdeal : Prop :=
  True

def algebraic_NormKernelIdeal_NormReferenceIdeal [hNormKernelIdeal : Cert.NormKernelIdeal.Facts] [hNormReferenceIdeal : Cert.NormReferenceIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)
      ∧ m' ((c.tc : Thread Cert.NormReferenceIdeal.nD Cert.NormReferenceIdeal.τ).loc Cert.NormReferenceIdeal.main_arg2) = m ((c.tc : Thread Cert.NormKernelIdeal.nD Cert.NormKernelIdeal.τ).loc Cert.NormKernelIdeal.main_arg2)
      ∧ m' ((c.tc : Thread Cert.NormReferenceIdeal.nD Cert.NormReferenceIdeal.τ).loc Cert.NormReferenceIdeal.main_arg3) = m ((c.tc : Thread Cert.NormKernelIdeal.nD Cert.NormKernelIdeal.τ).loc Cert.NormKernelIdeal.main_arg3)
      ∧ m' ((c.tc : Thread Cert.NormReferenceIdeal.nD Cert.NormReferenceIdeal.τ).loc Cert.NormReferenceIdeal.main_arg4) = m ((c.tc : Thread Cert.NormKernelIdeal.nD Cert.NormKernelIdeal.τ).loc Cert.NormKernelIdeal.main_arg4)
      ∧ m' ((c.tc : Thread Cert.NormReferenceIdeal.nD Cert.NormReferenceIdeal.τ).loc Cert.NormReferenceIdeal.main_arg5) = m ((c.tc : Thread Cert.NormKernelIdeal.nD Cert.NormKernelIdeal.τ).loc Cert.NormKernelIdeal.main_arg5)) →
    ∃ (v0 : (c : Dev Cert.NormKernelIdeal.nD) → Buf (Elt Ideal) ((c.tc : Thread Cert.NormKernelIdeal.nD Cert.NormKernelIdeal.τ).loc Cert.NormKernelIdeal.main_v11_0)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v11_0) = v0 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
          ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
          ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3)
          ∧ r.2.mem ((c.tc : Thread Cert.NormKernelIdeal.nD Cert.NormKernelIdeal.τ).loc Cert.NormKernelIdeal.main_arg4) = m ((c.tc : Thread Cert.NormKernelIdeal.nD Cert.NormKernelIdeal.τ).loc Cert.NormKernelIdeal.main_arg4)
          ∧ r.2.mem ((c.tc : Thread Cert.NormKernelIdeal.nD Cert.NormKernelIdeal.τ).loc Cert.NormKernelIdeal.main_arg5) = m ((c.tc : Thread Cert.NormKernelIdeal.nD Cert.NormKernelIdeal.τ).loc Cert.NormKernelIdeal.main_arg5))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v23) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3)
          ∧ r.2.mem ((c.tc : Thread Cert.NormReferenceIdeal.nD Cert.NormReferenceIdeal.τ).loc Cert.NormReferenceIdeal.main_arg4) = m' ((c.tc : Thread Cert.NormReferenceIdeal.nD Cert.NormReferenceIdeal.τ).loc Cert.NormReferenceIdeal.main_arg4)
          ∧ r.2.mem ((c.tc : Thread Cert.NormReferenceIdeal.nD Cert.NormReferenceIdeal.τ).loc Cert.NormReferenceIdeal.main_arg5) = m' ((c.tc : Thread Cert.NormReferenceIdeal.nD Cert.NormReferenceIdeal.τ).loc Cert.NormReferenceIdeal.main_arg5))

def Claim : Prop :=
  ∃ (hKernel : Cert.Kernel.Facts) (hKernelIdeal : Cert.KernelIdeal.Facts) (hReferenceIdeal : Cert.ReferenceIdeal.Facts) (hOutKernel : Cert.OutKernel.Facts) (hOutKernelIdeal : Cert.OutKernelIdeal.Facts) (hOutReferenceIdeal : Cert.OutReferenceIdeal.Facts) (hMergeKernel : Cert.MergeKernel.Facts) (hMergeKernelIdeal : Cert.MergeKernelIdeal.Facts) (hMergeReferenceIdeal : Cert.MergeReferenceIdeal.Facts) (hNatKernel : Cert.NatKernel.Facts) (hNatKernelIdeal : Cert.NatKernelIdeal.Facts) (hNatReferenceIdeal : Cert.NatReferenceIdeal.Facts) (hDilKernel : Cert.DilKernel.Facts) (hDilKernelIdeal : Cert.DilKernelIdeal.Facts) (hDilReferenceIdeal : Cert.DilReferenceIdeal.Facts) (hRopeKernel : Cert.RopeKernel.Facts) (hRopeKernelIdeal : Cert.RopeKernelIdeal.Facts) (hRopeReferenceIdeal : Cert.RopeReferenceIdeal.Facts) (hModKernel : Cert.ModKernel.Facts) (hModKernelIdeal : Cert.ModKernelIdeal.Facts) (hModReferenceIdeal : Cert.ModReferenceIdeal.Facts) (hNormKernel : Cert.NormKernel.Facts) (hNormKernelIdeal : Cert.NormKernelIdeal.Facts) (hNormReferenceIdeal : Cert.NormReferenceIdeal.Facts),
    quiescent_Kernel (hKernel := hKernel)
    ∧ quiescent_KernelIdeal (hKernelIdeal := hKernelIdeal)
    ∧ quiescent_ReferenceIdeal (hReferenceIdeal := hReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_NatKernel (hNatKernel := hNatKernel)
    ∧ quiescent_NatKernelIdeal (hNatKernelIdeal := hNatKernelIdeal)
    ∧ quiescent_NatReferenceIdeal (hNatReferenceIdeal := hNatReferenceIdeal)
    ∧ quiescent_DilKernel (hDilKernel := hDilKernel)
    ∧ quiescent_DilKernelIdeal (hDilKernelIdeal := hDilKernelIdeal)
    ∧ quiescent_DilReferenceIdeal (hDilReferenceIdeal := hDilReferenceIdeal)
    ∧ quiescent_RopeKernel (hRopeKernel := hRopeKernel)
    ∧ quiescent_RopeKernelIdeal (hRopeKernelIdeal := hRopeKernelIdeal)
    ∧ quiescent_RopeReferenceIdeal (hRopeReferenceIdeal := hRopeReferenceIdeal)
    ∧ quiescent_ModKernel (hModKernel := hModKernel)
    ∧ quiescent_ModKernelIdeal (hModKernelIdeal := hModKernelIdeal)
    ∧ quiescent_ModReferenceIdeal (hModReferenceIdeal := hModReferenceIdeal)
    ∧ quiescent_NormKernel (hNormKernel := hNormKernel)
    ∧ quiescent_NormKernelIdeal (hNormKernelIdeal := hNormKernelIdeal)
    ∧ quiescent_NormReferenceIdeal (hNormReferenceIdeal := hNormReferenceIdeal)
    ∧ preserves_Kernel_KernelIdeal
    ∧ algebraic_KernelIdeal_ReferenceIdeal (hKernelIdeal := hKernelIdeal) (hReferenceIdeal := hReferenceIdeal)
    ∧ preserves_OutKernel_OutKernelIdeal
    ∧ algebraic_OutKernelIdeal_OutReferenceIdeal (hOutKernelIdeal := hOutKernelIdeal) (hOutReferenceIdeal := hOutReferenceIdeal)
    ∧ preserves_MergeKernel_MergeKernelIdeal
    ∧ algebraic_MergeKernelIdeal_MergeReferenceIdeal (hMergeKernelIdeal := hMergeKernelIdeal) (hMergeReferenceIdeal := hMergeReferenceIdeal)
    ∧ preserves_NatKernel_NatKernelIdeal
    ∧ algebraic_NatKernelIdeal_NatReferenceIdeal (hNatKernelIdeal := hNatKernelIdeal) (hNatReferenceIdeal := hNatReferenceIdeal)
    ∧ preserves_DilKernel_DilKernelIdeal
    ∧ algebraic_DilKernelIdeal_DilReferenceIdeal (hDilKernelIdeal := hDilKernelIdeal) (hDilReferenceIdeal := hDilReferenceIdeal)
    ∧ preserves_RopeKernel_RopeKernelIdeal
    ∧ algebraic_RopeKernelIdeal_RopeReferenceIdeal (hRopeKernelIdeal := hRopeKernelIdeal) (hRopeReferenceIdeal := hRopeReferenceIdeal)
    ∧ preserves_ModKernel_ModKernelIdeal
    ∧ algebraic_ModKernelIdeal_ModReferenceIdeal (hModKernelIdeal := hModKernelIdeal) (hModReferenceIdeal := hModReferenceIdeal)
    ∧ preserves_NormKernel_NormKernelIdeal
    ∧ algebraic_NormKernelIdeal_NormReferenceIdeal (hNormKernelIdeal := hNormKernelIdeal) (hNormReferenceIdeal := hNormReferenceIdeal)
-- ==== Kernel.lean ====
abbrev S16384x4096 : Shape := ⟨2, ![16384, 4096]⟩
abbrev S1x4096x26640 : Shape := ⟨3, ![1, 4096, 26640]⟩
abbrev S1x26640 : Shape := ⟨2, ![1, 26640]⟩
abbrev S4096x26640 : Shape := ⟨2, ![4096, 26640]⟩
abbrev S26640x4096 : Shape := ⟨2, ![26640, 4096]⟩
abbrev S1x8192 : Shape := ⟨2, ![1, 8192]⟩
abbrev S8192 : Shape := ⟨1, ![8192]⟩
abbrev S16384x8192 : Shape := ⟨2, ![16384, 8192]⟩
abbrev S1024x4096 : Shape := ⟨2, ![1024, 4096]⟩
abbrev S1x1024 : Shape := ⟨2, ![1, 1024]⟩
abbrev S1024x1024 : Shape := ⟨2, ![1024, 1024]⟩

abbrev nBuf : Space → Nat
  | .hbm => 10
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S1x4096x26640, .f32⟩
  | .hbm, ⟨2, _⟩ => ⟨S1x26640, .f32⟩
  | .hbm, ⟨3, _⟩ => ⟨S4096x26640, .f32⟩
  | .hbm, ⟨4, _⟩ => ⟨S26640x4096, .f32⟩
  | .hbm, ⟨5, _⟩ => ⟨S26640x4096, .bf16⟩
  | .hbm, ⟨6, _⟩ => ⟨S1x8192, .f32⟩
  | .hbm, ⟨7, _⟩ => ⟨S8192, .f32⟩
  | .hbm, ⟨8, _⟩ => ⟨S1x8192, .f32⟩
  | .hbm, ⟨9, _⟩ => ⟨S16384x8192, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let c18448_i32 : BitVec 32 := 18448#32
  let arg1 : BitVec 32 := BitVec.ofNat 32 (i 1).val
  let c1024_i32 : BitVec 32 := 1024#32
  let v0 : BitVec 32 := Scalar.muli arg1 c1024_i32
  let v1 : BitVec 32 := Scalar.addi c18448_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c18448_i32 : BitVec 32 := 18448#32
  let v1 : BitVec 32 := Scalar.addi c18448_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S16384x4096 : Shape := ⟨2, ![16384, 4096]⟩
abbrev S1x4096x26640 : Shape := ⟨3, ![1, 4096, 26640]⟩
abbrev S1x26640 : Shape := ⟨2, ![1, 26640]⟩
abbrev S4096x26640 : Shape := ⟨2, ![4096, 26640]⟩
abbrev S16384x26640 : Shape := ⟨2, ![16384, 26640]⟩
abbrev S26640 : Shape := ⟨1, ![26640]⟩
abbrev S_ : Shape := ⟨0, ![]⟩
abbrev S16384x8192 : Shape := ⟨2, ![16384, 8192]⟩

abbrev nBuf : Space → Nat
  | .hbm => 30
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x26640, .f32⟩
  | .hbm, ⟨2, _⟩ => ⟨S1x26640, .f32⟩
  | .hbm, ⟨3, _⟩ => ⟨S16384x4096, .f32⟩
  | .hbm, ⟨4, _⟩ => ⟨S4096x26640, .f32⟩
  | .hbm, ⟨5, _⟩ => ⟨S16384x26640, .f32⟩
  | .hbm, ⟨6, _⟩ => ⟨S26640, .f32⟩
  | .hbm, ⟨7, _⟩ => ⟨S1x26640, .f32⟩
  | .hbm, ⟨8, _⟩ => ⟨S16384x26640, .f32⟩
  | .hbm, ⟨9, _⟩ => ⟨S16384x26640, .f32⟩
  | .hbm, ⟨10, _⟩ => ⟨S16384x4096, .f32⟩
  | .hbm, ⟨11, _⟩ => ⟨S16384x4096, .f32⟩
  | .hbm, ⟨12, _⟩ => ⟨S16384x4096, .f32⟩
  | .hbm, ⟨13, _⟩ => ⟨S_, .f32⟩
  | .hbm, ⟨14, _⟩ => ⟨S16384x4096, .f32⟩
  | .hbm, ⟨15, _⟩ => ⟨S16384x4096, .f32⟩
  | .hbm, ⟨16, _⟩ => ⟨S_, .f32⟩
  | .hbm, ⟨17, _⟩ => ⟨S16384x4096, .f32⟩
  | .hbm, ⟨18, _⟩ => ⟨S16384x4096, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S_, .f32⟩
  | .hbm, ⟨23, _⟩ => ⟨S16384x4096, .f32⟩
  | .hbm, ⟨24, _⟩ => ⟨S16384x4096, .f32⟩
  | .hbm, ⟨25, _⟩ => ⟨S_, .f32⟩
  | .hbm, ⟨26, _⟩ => ⟨S16384x4096, .f32⟩
  | .hbm, ⟨27, _⟩ => ⟨S16384x4096, .f32⟩
  | .hbm, ⟨28, _⟩ => ⟨S16384x8192, .f32⟩
  | .hbm, ⟨29, _⟩ => ⟨S16384x8192, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== OutKernel.lean ====
abbrev S16384x4096 : Shape := ⟨2, ![16384, 4096]⟩
abbrev S1x4096x4096 : Shape := ⟨3, ![1, 4096, 4096]⟩
abbrev S4x4096 : Shape := ⟨2, ![4, 4096]⟩
abbrev S4096x4096 : Shape := ⟨2, ![4096, 4096]⟩
abbrev S4x1x4096 : Shape := ⟨3, ![4, 1, 4096]⟩
abbrev S1024x4096 : Shape := ⟨2, ![1024, 4096]⟩
abbrev S4096x1024 : Shape := ⟨2, ![4096, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 8
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S1x4096x4096, .f32⟩
  | .hbm, ⟨2, _⟩ => ⟨S16384x4096, .f32⟩
  | .hbm, ⟨3, _⟩ => ⟨S4x4096, .f32⟩
  | .hbm, ⟨4, _⟩ => ⟨S4096x4096, .f32⟩
  | .hbm, ⟨5, _⟩ => ⟨S4096x4096, .bf16⟩
  | .hbm, ⟨6, _⟩ => ⟨S4x1x4096, .f32⟩
  | .hbm, ⟨7, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutReferenceIdeal.lean ====
abbrev S16384x4096 : Shape := ⟨2, ![16384, 4096]⟩
abbrev S1x4096x4096 : Shape := ⟨3, ![1, 4096, 4096]⟩
abbrev S4x4096 : Shape := ⟨2, ![4, 4096]⟩
abbrev S4096x4096 : Shape := ⟨2, ![4096, 4096]⟩
abbrev S4x4096x4096 : Shape := ⟨3, ![4, 4096, 4096]⟩
abbrev S4x1x4096 : Shape := ⟨3, ![4, 1, 4096]⟩

abbrev nBuf : Space → Nat
  | .hbm => 14
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x4096, .f32⟩
  | .hbm, ⟨2, _⟩ => ⟨S16384x4096, .f32⟩
  | .hbm, ⟨3, _⟩ => ⟨S4x4096, .f32⟩
  | .hbm, ⟨4, _⟩ => ⟨S16384x4096, .f32⟩
  | .hbm, ⟨5, _⟩ => ⟨S4096x4096, .f32⟩
  | .hbm, ⟨6, _⟩ => ⟨S16384x4096, .f32⟩
  | .hbm, ⟨7, _⟩ => ⟨S4x4096x4096, .f32⟩
  | .hbm, ⟨8, _⟩ => ⟨S4x1x4096, .f32⟩
  | .hbm, ⟨9, _⟩ => ⟨S4x4096x4096, .f32⟩
  | .hbm, ⟨10, _⟩ => ⟨S4x4096x4096, .f32⟩
  | .hbm, ⟨11, _⟩ => ⟨S4x4096x4096, .f32⟩
  | .hbm, ⟨12, _⟩ => ⟨S4x4096x4096, .f32⟩
  | .hbm, ⟨13, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== MergeKernel.lean ====
abbrev S16384x1024 : Shape := ⟨2, ![16384, 1024]⟩
abbrev S16384x2048 : Shape := ⟨2, ![16384, 2048]⟩
abbrev S1x1024x4096 : Shape := ⟨3, ![1, 1024, 4096]⟩
abbrev S1x2048x4096 : Shape := ⟨3, ![1, 2048, 4096]⟩
abbrev S16384x8192 : Shape := ⟨2, ![16384, 8192]⟩
abbrev S1024x4096 : Shape := ⟨2, ![1024, 4096]⟩
abbrev S2048x4096 : Shape := ⟨2, ![2048, 4096]⟩
abbrev S16384x4096 : Shape := ⟨2, ![16384, 4096]⟩
abbrev S1024x1024 : Shape := ⟨2, ![1024, 1024]⟩
abbrev S1024x2048 : Shape := ⟨2, ![1024, 2048]⟩
abbrev S2048x1024 : Shape := ⟨2, ![2048, 1024]⟩

abbrev nBuf : Space → Nat
  | .hbm => 10
  | .vmem => 14
  | .smem => 0
  | _ => 0

abbrev bufTy : (tb : Table) → Fin (tcTables nBuf tb) → BufTy
  | .hbm, ⟨0, _⟩ => ⟨S16384x1024, .bf16⟩
  | .hbm, ⟨1, _⟩ => ⟨S16384x2048, .bf16⟩
  | .hbm, ⟨2, _⟩ => ⟨S1x1024x4096, .f32⟩
  | .hbm, ⟨3, _⟩ => ⟨S1x2048x4096, .f32⟩
  | .hbm, ⟨4, _⟩ => ⟨S16384x8192, .bf16⟩
  | .hbm, ⟨5, _⟩ => ⟨S1024x4096, .f32⟩
  | .hbm, ⟨6, _⟩ => ⟨S1024x4096, .bf16⟩
  | .hbm, ⟨7, _⟩ => ⟨S2048x4096, .f32⟩
  | .hbm, ⟨8, _⟩ => ⟨S2048x4096, .bf16⟩
  | .hbm, ⟨9, _⟩ => ⟨S16384x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeReferenceIdeal.lean ====
abbrev S16384x1024 : Shape := ⟨2, ![16384, 1024]⟩
abbrev S16384x2048 : Shape := ⟨2, ![16384, 2048]⟩
abbrev S1x1024x4096 : Shape := ⟨3, ![1, 1024, 4096]⟩
abbrev S1x2048x4096 : Shape := ⟨3, ![1, 2048, 4096]⟩
abbrev S16384x8192 : Shape := ⟨2, ![16384, 8192]⟩
abbrev S16384x4096 : Shape := ⟨2, ![16384, 4096]⟩
abbrev S1024x4096 : Shape := ⟨2, ![1024, 4096]⟩
abbrev S2048x4096 : Shape := ⟨2, ![2048, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x2048, .bf16⟩
  | .hbm, ⟨2, _⟩ => ⟨S1x1024x4096, .f32⟩
  | .hbm, ⟨3, _⟩ => ⟨S1x2048x4096, .f32⟩
  | .hbm, ⟨4, _⟩ => ⟨S16384x8192, .bf16⟩
  | .hbm, ⟨5, _⟩ => ⟨S16384x4096, .bf16⟩
  | .hbm, ⟨6, _⟩ => ⟨S16384x4096, .f32⟩
  | .hbm, ⟨7, _⟩ => ⟨S16384x4096, .bf16⟩
  | .hbm, ⟨8, _⟩ => ⟨S16384x4096, .f32⟩
  | .hbm, ⟨9, _⟩ => ⟨S16384x1024, .f32⟩
  | .hbm, ⟨10, _⟩ => ⟨S1024x4096, .f32⟩
  | .hbm, ⟨11, _⟩ => ⟨S16384x4096, .f32⟩
  | .hbm, ⟨12, _⟩ => ⟨S16384x4096, .f32⟩
  | .hbm, ⟨13, _⟩ => ⟨S16384x2048, .f32⟩
  | .hbm, ⟨14, _⟩ => ⟨S2048x4096, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S16384x4096, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NatKernel.lean ====
abbrev S16384x4096 : Shape := ⟨2, ![16384, 4096]⟩
abbrev S1x4096x26640 : Shape := ⟨3, ![1, 4096, 26640]⟩
abbrev S1x26640 : Shape := ⟨2, ![1, 26640]⟩
abbrev S1x3x128 : Shape := ⟨3, ![1, 3, 128]⟩
abbrev S1x128 : Shape := ⟨2, ![1, 128]⟩
abbrev S4x10 : Shape := ⟨2, ![4, 10]⟩
abbrev S18432 : Shape := ⟨1, ![18432]⟩
abbrev S64 : Shape := ⟨1, ![64]⟩
abbrev S_ : Shape := ⟨0, ![]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S4x1024x1x128 : Shape := ⟨4, ![4, 1024, 1, 128]⟩
abbrev S4x1x1024x128 : Shape := ⟨4, ![4, 1, 1024, 128]⟩
abbrev S4x256x4x128 : Shape := ⟨4, ![4, 256, 4, 128]⟩
abbrev S4x4x256x128 : Shape := ⟨4, ![4, 4, 256, 128]⟩
abbrev S4x64x16x128 : Shape := ⟨4, ![4, 64, 16, 128]⟩
abbrev S4x16x64x128 : Shape := ⟨4, ![4, 16, 64, 128]⟩
abbrev S1x4096x128 : Shape := ⟨3, ![1, 4096, 128]⟩
abbrev S4x4096x128 : Shape := ⟨3, ![4, 4096, 128]⟩
abbrev S4096x26640 : Shape := ⟨2, ![4096, 26640]⟩
abbrev S26640x4096 : Shape := ⟨2, ![26640, 4096]⟩
abbrev S18432x4096 : Shape := ⟨2, ![18432, 4096]⟩
abbrev S1x18432 : Shape := ⟨2, ![1, 18432]⟩
abbrev S3x128 : Shape := ⟨2, ![3, 128]⟩
abbrev S128 : Shape := ⟨1, ![128]⟩
abbrev S2048 : Shape := ⟨1, ![2048]⟩
abbrev S4x80x4096x128 : Shape := ⟨4, ![4, 80, 4096, 128]⟩
abbrev S1024x4096 : Shape := ⟨2, ![1024, 4096]⟩
abbrev S1x1 : Shape := ⟨2, ![1, 1]⟩
abbrev S1x1024 : Shape := ⟨2, ![1, 1024]⟩
abbrev S1x1024x128 : Shape := ⟨3, ![1, 1024, 128]⟩
abbrev S1x8x1024x128 : Shape := ⟨4, ![1, 8, 1024, 128]⟩
abbrev S8192x128 : Shape := ⟨2, ![8192, 128]⟩
abbrev S1024x1024 : Shape := ⟨2, ![1024, 1024]⟩
abbrev S256x128 : Shape := ⟨2, ![256, 128]⟩
abbrev S256 : Shape := ⟨1, ![256]⟩
abbrev S256x1 : Shape := ⟨2, ![256, 1]⟩
abbrev S1x1x256x128 : Shape := ⟨4, ![1, 1, 256, 128]⟩

abbrev nBuf : Space → Nat
  | .hbm => 182
  | .vmem => 17
  | .smem => 1
  | _ => 0

abbrev hbmTy0_0 (i : Nat) : BufTy := match i % 128 with
  | 0 => ⟨S16384x4096, .bf16⟩
  | 1 => ⟨S1x4096x26640, .f32⟩
  | 2 => ⟨S1x26640, .f32⟩
  | 3 => ⟨S1x3x128, .f32⟩
  | 4 => ⟨S1x3x128, .f32⟩
  | 5 => ⟨S1x128, .f32⟩
  | 6 => ⟨S1x128, .f32⟩
  | 7 => ⟨S18432, .f32⟩
  | 8 => ⟨S64, .f32⟩
  | 9 => ⟨S64, .f32⟩
  | 10 => ⟨S_, .f32⟩
  | 11 => ⟨S64, .f32⟩
  | 12 => ⟨S64, .f32⟩
  | 13 => ⟨S_, .f32⟩
  | 14 => ⟨S64, .f32⟩
  | 15 => ⟨S64, .f32⟩
  | 16 => ⟨S4096, .i32⟩
  | 17 => ⟨S4096, .f32⟩
  | 18 => ⟨S4096x1, .f32⟩
  | 19 => ⟨S1x64, .f32⟩
  | 20 => ⟨S4096x64, .f32⟩
  | 21 => ⟨S4096x64, .f32⟩
  | 22 => ⟨S4096x64, .f32⟩
  | 23 => ⟨S4096x64, .f32⟩
  | 24 => ⟨S4096x64, .f32⟩
  | 25 => ⟨S4096x128, .f32⟩
  | 26 => ⟨S4096x64, .f32⟩
  | 27 => ⟨S4096x128, .f32⟩
  | 28 => ⟨S4x1024x1x128, .f32⟩
  | 29 => ⟨S4x1x1024x128, .f32⟩
  | 30 => ⟨S4096x128, .f32⟩
  | 31 => ⟨S4x256x4x128, .f32⟩
  | 32 => ⟨S4x4x256x128, .f32⟩
  | 33 => ⟨S4096x128, .f32⟩
  | 34 => ⟨S4x64x16x128, .f32⟩
  | 35 => ⟨S4x16x64x128, .f32⟩
  | 36 => ⟨S4096x128, .f32⟩
  | 37 => ⟨S_, .f32⟩
  | 38 => ⟨S4096x128, .f32⟩
  | 39 => ⟨S1x4096x128, .f32⟩
  | 40 => ⟨S1x4096x128, .f32⟩
  | 41 => ⟨S1x4096x128, .f32⟩
  | 42 => ⟨S1x4096x128, .f32⟩
  | 43 => ⟨S4x4096x128, .f32⟩
  | 44 => ⟨S4x1024x1x128, .f32⟩
  | 45 => ⟨S4x1x1024x128, .f32⟩
  | 46 => ⟨S4096x128, .f32⟩
  | 47 => ⟨S4x256x4x128, .f32⟩
  | 48 => ⟨S4x4x256x128, .f32⟩
  | 49 => ⟨S4096x128, .f32⟩
  | 50 => ⟨S4x64x16x128, .f32⟩
  | 51 => ⟨S4x16x64x128, .f32⟩
  | 52 => ⟨S4096x128, .f32⟩
  | 53 => ⟨S_, .f32⟩
  | 54 => ⟨S4096x128, .f32⟩
  | 55 => ⟨S1x4096x128, .f32⟩
  | 56 => ⟨S1x4096x128, .f32⟩
  | 57 => ⟨S1x4096x128, .f32⟩
  | 58 => ⟨S1x4096x128, .f32⟩
  | 59 => ⟨S4x4096x128, .f32⟩
  | 60 => ⟨S4096x26640, .f32⟩
  | 61 => ⟨S26640x4096, .f32⟩
  | 62 => ⟨S26640x4096, .bf16⟩
  | 63 => ⟨S18432x4096, .bf16⟩
  | 64 => ⟨S1x18432, .f32⟩
  | 65 => ⟨S18432, .f32⟩
  | 66 => ⟨S1x18432, .f32⟩
  | 67 => ⟨S3x128, .f32⟩
  | 68 => ⟨S3x128, .f32⟩
  | 69 => ⟨S128, .f32⟩
  | 70 => ⟨S128, .f32⟩
  | 71 => ⟨S_, .f32⟩
  | 72 => ⟨S128, .f32⟩
  | 73 => ⟨S1x128, .f32⟩
  | 74 => ⟨S128, .f32⟩
  | 75 => ⟨S1x128, .f32⟩
  | 76 => ⟨S128, .f32⟩
  | 77 => ⟨S1x128, .f32⟩
  | 78 => ⟨S128, .f32⟩
  | 79 => ⟨S1x128, .f32⟩
  | 80 => ⟨S128, .f32⟩
  | 81 => ⟨S1x128, .f32⟩
  | 82 => ⟨S128, .f32⟩
  | 83 => ⟨S1x128, .f32⟩
  | 84 => ⟨S128, .f32⟩
  | 85 => ⟨S1x128, .f32⟩
  | 86 => ⟨S128, .f32⟩
  | 87 => ⟨S1x128, .f32⟩
  | 88 => ⟨S128, .f32⟩
  | 89 => ⟨S1x128, .f32⟩
  | 90 => ⟨S128, .f32⟩
  | 91 => ⟨S1x128, .f32⟩
  | 92 => ⟨S128, .f32⟩
  | 93 => ⟨S1x128, .f32⟩
  | 94 => ⟨S128, .f32⟩
  | 95 => ⟨S1x128, .f32⟩
  | 96 => ⟨S128, .f32⟩
  | 97 => ⟨S1x128, .f32⟩
  | 98 => ⟨S128, .f32⟩
  | 99 => ⟨S1x128, .f32⟩
  | 100 => ⟨S128, .f32⟩
  | 101 => ⟨S1x128, .f32⟩
  | 102 => ⟨S128, .f32⟩
  | 103 => ⟨S1x128, .f32⟩
  | 104 => ⟨S128, .f32⟩
  | 105 => ⟨S1x128, .f32⟩
  | 106 => ⟨S128, .f32⟩
  | 107 => ⟨S1x128, .f32⟩
  | 108 => ⟨S128, .f32⟩
  | 109 => ⟨S1x128, .f32⟩
  | 110 => ⟨S128, .f32⟩
  | 111 => ⟨S1x128, .f32⟩
  | 112 => ⟨S128, .f32⟩
  | 113 => ⟨S1x128, .f32⟩
  | 114 => ⟨S128, .f32⟩
  | 115 => ⟨S1x128, .f32⟩
  | 116 => ⟨S128, .f32⟩
  | 117 => ⟨S1x128, .f32⟩
  | 118 => ⟨S128, .f32⟩
  | 119 => ⟨S1x128, .f32⟩
  | 120 => ⟨S128, .f32⟩
  | 121 => ⟨S1x128, .f32⟩
  | 122 => ⟨S128, .f32⟩
  | 123 => ⟨S1x128, .f32⟩
  | 124 => ⟨S128, .f32⟩
  | 125 => ⟨S1x128, .f32⟩
  | 126 => ⟨S128, .f32⟩
  | 127 => ⟨S1x128, .f32⟩
  | _ => ⟨S16384x4096, .bf16⟩

abbrev hbmTy0_1 (i : Nat) : BufTy := match i % 128 with
  | 0 => ⟨S128, .f32⟩
  | 1 => ⟨S1x128, .f32⟩
  | 2 => ⟨S128, .f32⟩
  | 3 => ⟨S1x128, .f32⟩
  | 4 => ⟨S128, .f32⟩
  | 5 => ⟨S1x128, .f32⟩
  | 6 => ⟨S128, .f32⟩
  | 7 => ⟨S1x128, .f32⟩
  | 8 => ⟨S128, .f32⟩
  | 9 => ⟨S1x128, .f32⟩
  | 10 => ⟨S128, .f32⟩
  | 11 => ⟨S1x128, .f32⟩
  | 12 => ⟨S128, .f32⟩
  | 13 => ⟨S1x128, .f32⟩
  | 14 => ⟨S128, .f32⟩
  | 15 => ⟨S1x128, .f32⟩
  | 16 => ⟨S128, .f32⟩
  | 17 => ⟨S1x128, .f32⟩
  | 18 => ⟨S128, .f32⟩
  | 19 => ⟨S1x128, .f32⟩
  | 20 => ⟨S128, .f32⟩
  | 21 => ⟨S1x128, .f32⟩
  | 22 => ⟨S128, .f32⟩
  | 23 => ⟨S1x128, .f32⟩
  | 24 => ⟨S128, .f32⟩
  | 25 => ⟨S1x128, .f32⟩
  | 26 => ⟨S128, .f32⟩
  | 27 => ⟨S1x128, .f32⟩
  | 28 => ⟨S128, .f32⟩
  | 29 => ⟨S1x128, .f32⟩
  | 30 => ⟨S128, .f32⟩
  | 31 => ⟨S1x128, .f32⟩
  | 32 => ⟨S128, .f32⟩
  | 33 => ⟨S1x128, .f32⟩
  | 34 => ⟨S128, .f32⟩
  | 35 => ⟨S1x128, .f32⟩
  | 36 => ⟨S128, .f32⟩
  | 37 => ⟨S1x128, .f32⟩
  | 38 => ⟨S128, .f32⟩
  | 39 => ⟨S1x128, .f32⟩
  | 40 => ⟨S128, .f32⟩
  | 41 => ⟨S2048, .f32⟩
  | 42 => ⟨S2048, .f32⟩
  | 43 => ⟨S2048, .f32⟩
  | 44 => ⟨S2048, .f32⟩
  | 45 => ⟨S2048, .f32⟩
  | 46 => ⟨S2048, .f32⟩
  | 47 => ⟨S2048, .f32⟩
  | 48 => ⟨S2048, .f32⟩
  | 49 => ⟨S2048, .f32⟩
  | 50 => ⟨S18432, .f32⟩
  | 51 => ⟨S1x18432, .f32⟩
  | 52 => ⟨S1x18432, .f32⟩
  | 53 => ⟨S4x80x4096x128, .bf16⟩
  | _ => ⟨S16384x4096, .bf16⟩

abbrev hbmTy (i : Nat) : BufTy := match i / 128 with
  | 0 => hbmTy0_0 i
  | 1 => hbmTy0_1 i
  | _ => ⟨S16384x4096, .bf16⟩

abbrev bufTy : (tb : Table) → Fin (tcTables nBuf tb) → BufTy
  | .hbm, ⟨i, _⟩ => hbmTy i
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024x128, .f32⟩
  | .local _ .vmem, ⟨11, _⟩ => ⟨S1x1024x128, .f32⟩
  | .local _ .vmem, ⟨12, _⟩ => ⟨S1x1024x128, .f32⟩
  | .local _ .vmem, ⟨13, _⟩ => ⟨S1x1024x128, .f32⟩
  | .local _ .vmem, ⟨14, _⟩ => ⟨S1x8x1024x128, .bf16⟩
  | .local _ .vmem, ⟨15, _⟩ => ⟨S1x8x1024x128, .bf16⟩
  | .local _ .vmem, ⟨16, _⟩ => ⟨S8192x128, .f32⟩
  | .local _ .smem, ⟨0, _⟩ => ⟨S4x10, .i32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_3 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_cst_4 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_v155 : Ref sig .tc := ⟨.hbm, 168, rfl⟩
abbrev main_v156 : Ref sig .tc := ⟨.hbm, 169, rfl⟩
abbrev main_v157 : Ref sig .tc := ⟨.hbm, 170, rfl⟩
abbrev main_v158 : Ref sig .tc := ⟨.hbm, 171, rfl⟩
abbrev main_v159 : Ref sig .tc := ⟨.hbm, 172, rfl⟩
abbrev main_v160 : Ref sig .tc := ⟨.hbm, 173, rfl⟩
abbrev main_v161 : Ref sig .tc := ⟨.hbm, 174, rfl⟩
abbrev main_v162 : Ref sig .tc := ⟨.hbm, 175, rfl⟩
abbrev main_v163 : Ref sig .tc := ⟨.hbm, 176, rfl⟩
abbrev main_v164 : Ref sig .tc := ⟨.hbm, 177, rfl⟩
abbrev main_v165 : Ref sig .tc := ⟨.hbm, 178, rfl⟩
abbrev main_v166 : Ref sig .tc := ⟨.hbm, 179, rfl⟩
abbrev main_v167 : Ref sig .tc := ⟨.hbm, 180, rfl⟩
abbrev main_v168 : Ref sig .tc := ⟨.hbm, 181, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 10], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let c0 : Index := 0#32
  let arg1 : BitVec 32 := BitVec.ofNat 32 (i 1).val
  let v0 : Index := Scalar.indexCast arg1
  ![0, v0.toNat]
def k0_off2 (i : grid0.Coords) : Fin 2 → Nat :=
  let c1 : Index := 1#32
  let arg1 : BitVec 32 := BitVec.ofNat 32 (i 1).val
  let v0 : Index := Scalar.indexCast arg1
  ![1, v0.toNat]
def k0_off3 (i : grid0.Coords) : Fin 2 → Nat :=
  let c2 : Index := 2#32
  let arg1 : BitVec 32 := BitVec.ofNat 32 (i 1).val
  let v0 : Index := Scalar.indexCast arg1
  ![2, v0.toNat]
def k0_off4 (i : grid0.Coords) : Fin 2 → Nat :=
  let c2_1 : Index := 2#32
  let arg1 : BitVec 32 := BitVec.ofNat 32 (i 1).val
  let v5 : Index := Scalar.indexCast arg1
  ![2, v5.toNat]
def k0_cond1 (v1 : BitVec 32) : BitVec 1 :=
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_cond2 (v6 : BitVec 32) : BitVec 1 :=
  let c1_i32 : BitVec 32 := 1#32
  let v7 : BitVec 1 := Scalar.cmpi .eq v6 c1_i32
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1x1.size a ≤ S4x10.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : Index := Scalar.indexCast arg1
  let v1 : BitVec 32 := pf.at 0 (Rect.unit (s := S4x10) ![0, v0.toNat] S1x1.size (k0_off1_inb i)) numel1_S1x1
  let c0_i32 : BitVec 32 := 0#32
  let c0_i32_0 : BitVec 32 := 0#32
  ![v1.toNat, c0_i32.toNat]

def cc0_transform_2 (k0_off1_inb : ∀ i : grid0.Coords, ∀ a, (k0_off1 i) a + S1x1.size a ≤ S4x10.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : Index := Scalar.indexCast arg1
  let v1 : BitVec 32 := pf.at 0 (Rect.unit (s := S4x10) ![0, v0.toNat] S1x1.size (k0_off1_inb i)) numel1_S1x1
  let c0_i32 : BitVec 32 := 0#32
  let c0_i32_0 : BitVec 32 := 0#32
  ![c0_i32.toNat, v1.toNat]

def cc0_transform_3 (k0_off1_inb : ∀ i : grid0.Coords, ∀ a, (k0_off1 i) a + S1x1.size a ≤ S4x10.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : Index := Scalar.indexCast arg1
  let v1 : BitVec 32 := pf.at 0 (Rect.unit (s := S4x10) ![0, v0.toNat] S1x1.size (k0_off1_inb i)) numel1_S1x1
  let c0_i32 : BitVec 32 := 0#32
  let c0_i32_0 : BitVec 32 := 0#32
  ![c0_i32.toNat, v1.toNat]

def cc0_transform_4 (k0_off1_inb : ∀ i : grid0.Coords, ∀ a, (k0_off1 i) a + S1x1.size a ≤ S4x10.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : Index := Scalar.indexCast arg1
  let v1 : BitVec 32 := pf.at 0 (Rect.unit (s := S4x10) ![0, v0.toNat] S1x1.size (k0_off1_inb i)) numel1_S1x1
  let c0_i32 : BitVec 32 := 0#32
  let c0_i32_0 : BitVec 32 := 0#32
  ![c0_i32.toNat, v1.toNat]

def cc0_transform_5 (k0_off2_inb : ∀ i : grid0.Coords, ∀ a, (k0_off2 i) a + S1x1.size a ≤ S4x10.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c1 : Index := 1#32
  let v0 : Index := Scalar.indexCast arg1
  let v1 : BitVec 32 := pf.at 0 (Rect.unit (s := S4x10) ![1, v0.toNat] S1x1.size (k0_off2_inb i)) numel1_S1x1
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi arg0 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let c0_i32_3 : BitVec 32 := 0#32
  let c0_i32_4 : BitVec 32 := 0#32
  ![v1.toNat, v11.toNat, c0_i32_3.toNat]

def cc0_transform_6 (k0_off2_inb : ∀ i : grid0.Coords, ∀ a, (k0_off2 i) a + S1x1.size a ≤ S4x10.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c1 : Index := 1#32
  let v0 : Index := Scalar.indexCast arg1
  let v1 : BitVec 32 := pf.at 0 (Rect.unit (s := S4x10) ![1, v0.toNat] S1x1.size (k0_off2_inb i)) numel1_S1x1
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi arg0 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let c0_i32_3 : BitVec 32 := 0#32
  let c0_i32_4 : BitVec 32 := 0#32
  ![v1.toNat, v11.toNat, c0_i32_3.toNat]

def cc0_transform_7 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg1.toNat, v26.toNat, c0_i32_10.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== NatReferenceIdeal.lean ====
abbrev S16384x4096 : Shape := ⟨2, ![16384, 4096]⟩
abbrev S1x4096x26640 : Shape := ⟨3, ![1, 4096, 26640]⟩
abbrev S1x26640 : Shape := ⟨2, ![1, 26640]⟩
abbrev S1x3x128 : Shape := ⟨3, ![1, 3, 128]⟩
abbrev S1x128 : Shape := ⟨2, ![1, 128]⟩
abbrev S4096x26640 : Shape := ⟨2, ![4096, 26640]⟩
abbrev S16384x26640 : Shape := ⟨2, ![16384, 26640]⟩
abbrev S26640 : Shape := ⟨1, ![26640]⟩
abbrev S4x4096x26640 : Shape := ⟨3, ![4, 4096, 26640]⟩
abbrev S4x4096x3072 : Shape := ⟨3, ![4, 4096, 3072]⟩
abbrev S4x4096x3x8x128 : Shape := ⟨5, ![4, 4096, 3, 8, 128]⟩
abbrev S4x4096x1x8x128 : Shape := ⟨5, ![4, 4096, 1, 8, 128]⟩
abbrev S4x4096x8x128 : Shape := ⟨4, ![4, 4096, 8, 128]⟩
abbrev S4x4096x1024 : Shape := ⟨3, ![4, 4096, 1024]⟩
abbrev S_ : Shape := ⟨0, ![]⟩
abbrev S4x4096x2048 : Shape := ⟨3, ![4, 4096, 2048]⟩
abbrev S4x4096x16x128 : Shape := ⟨4, ![4, 4096, 16, 128]⟩
abbrev S128 : Shape := ⟨1, ![128]⟩
abbrev S4x4096x16 : Shape := ⟨3, ![4, 4096, 16]⟩
abbrev S4x4096x16x1 : Shape := ⟨4, ![4, 4096, 16, 1]⟩
abbrev S1x1x1x128 : Shape := ⟨4, ![1, 1, 1, 128]⟩
abbrev S4x4096x80x128 : Shape := ⟨4, ![4, 4096, 80, 128]⟩
abbrev S4x80x4096x128 : Shape := ⟨4, ![4, 80, 4096, 128]⟩

abbrev nBuf : Space → Nat
  | .hbm => 84
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x26640, .f32⟩
  | .hbm, ⟨2, _⟩ => ⟨S1x26640, .f32⟩
  | .hbm, ⟨3, _⟩ => ⟨S1x3x128, .f32⟩
  | .hbm, ⟨4, _⟩ => ⟨S1x3x128, .f32⟩
  | .hbm, ⟨5, _⟩ => ⟨S1x128, .f32⟩
  | .hbm, ⟨6, _⟩ => ⟨S1x128, .f32⟩
  | .hbm, ⟨7, _⟩ => ⟨S16384x4096, .f32⟩
  | .hbm, ⟨8, _⟩ => ⟨S4096x26640, .f32⟩
  | .hbm, ⟨9, _⟩ => ⟨S16384x26640, .f32⟩
  | .hbm, ⟨10, _⟩ => ⟨S26640, .f32⟩
  | .hbm, ⟨11, _⟩ => ⟨S1x26640, .f32⟩
  | .hbm, ⟨12, _⟩ => ⟨S16384x26640, .f32⟩
  | .hbm, ⟨13, _⟩ => ⟨S16384x26640, .f32⟩
  | .hbm, ⟨14, _⟩ => ⟨S4x4096x26640, .f32⟩
  | .hbm, ⟨15, _⟩ => ⟨S4x4096x3072, .f32⟩
  | .hbm, ⟨16, _⟩ => ⟨S4x4096x3x8x128, .f32⟩
  | .hbm, ⟨17, _⟩ => ⟨S4x4096x1x8x128, .f32⟩
  | .hbm, ⟨18, _⟩ => ⟨S4x4096x8x128, .f32⟩
  | .hbm, ⟨19, _⟩ => ⟨S4x4096x1024, .f32⟩
  | .hbm, ⟨20, _⟩ => ⟨S4x4096x1024, .f32⟩
  | .hbm, ⟨21, _⟩ => ⟨S4x4096x1024, .f32⟩
  | .hbm, ⟨22, _⟩ => ⟨S_, .f32⟩
  | .hbm, ⟨23, _⟩ => ⟨S4x4096x1024, .f32⟩
  | .hbm, ⟨24, _⟩ => ⟨S4x4096x1024, .f32⟩
  | .hbm, ⟨25, _⟩ => ⟨S_, .f32⟩
  | .hbm, ⟨26, _⟩ => ⟨S4x4096x1024, .f32⟩
  | .hbm, ⟨27, _⟩ => ⟨S4x4096x1024, .f32⟩
  | .hbm, ⟨28, _⟩ => ⟨S4x4096x1024, .f32⟩
  | .hbm, ⟨29, _⟩ => ⟨S4x4096x8x128, .f32⟩
  | .hbm, ⟨30, _⟩ => ⟨S4x4096x2048, .f32⟩
  | .hbm, ⟨31, _⟩ => ⟨S4x4096x16x128, .f32⟩
  | .hbm, ⟨32, _⟩ => ⟨S128, .f32⟩
  | .hbm, ⟨33, _⟩ => ⟨S4x4096x16x128, .f32⟩
  | .hbm, ⟨34, _⟩ => ⟨S_, .f32⟩
  | .hbm, ⟨35, _⟩ => ⟨S4x4096x16, .f32⟩
  | .hbm, ⟨36, _⟩ => ⟨S4x4096x16x1, .f32⟩
  | .hbm, ⟨37, _⟩ => ⟨S_, .f32⟩
  | .hbm, ⟨38, _⟩ => ⟨S4x4096x16x1, .f32⟩
  | .hbm, ⟨39, _⟩ => ⟨S4x4096x16x1, .f32⟩
  | .hbm, ⟨40, _⟩ => ⟨S_, .f32⟩
  | .hbm, ⟨41, _⟩ => ⟨S4x4096x16x1, .f32⟩
  | .hbm, ⟨42, _⟩ => ⟨S4x4096x16x1, .f32⟩
  | .hbm, ⟨43, _⟩ => ⟨S4x4096x16x1, .f32⟩
  | .hbm, ⟨44, _⟩ => ⟨S4x4096x16x128, .f32⟩
  | .hbm, ⟨45, _⟩ => ⟨S4x4096x16x128, .f32⟩
  | .hbm, ⟨46, _⟩ => ⟨S1x1x1x128, .f32⟩
  | .hbm, ⟨47, _⟩ => ⟨S4x4096x16x128, .f32⟩
  | .hbm, ⟨48, _⟩ => ⟨S4x4096x16x128, .f32⟩
  | .hbm, ⟨49, _⟩ => ⟨S4x4096x2048, .f32⟩
  | .hbm, ⟨50, _⟩ => ⟨S4x4096x16x128, .f32⟩
  | .hbm, ⟨51, _⟩ => ⟨S128, .f32⟩
  | .hbm, ⟨52, _⟩ => ⟨S4x4096x16x128, .f32⟩
  | .hbm, ⟨53, _⟩ => ⟨S_, .f32⟩
  | .hbm, ⟨54, _⟩ => ⟨S4x4096x16, .f32⟩
  | .hbm, ⟨55, _⟩ => ⟨S4x4096x16x1, .f32⟩
  | .hbm, ⟨56, _⟩ => ⟨S_, .f32⟩
  | .hbm, ⟨57, _⟩ => ⟨S4x4096x16x1, .f32⟩
  | .hbm, ⟨58, _⟩ => ⟨S4x4096x16x1, .f32⟩
  | .hbm, ⟨59, _⟩ => ⟨S_, .f32⟩
  | .hbm, ⟨60, _⟩ => ⟨S4x4096x16x1, .f32⟩
  | .hbm, ⟨61, _⟩ => ⟨S4x4096x16x1, .f32⟩
  | .hbm, ⟨62, _⟩ => ⟨S4x4096x16x1, .f32⟩
  | .hbm, ⟨63, _⟩ => ⟨S4x4096x16x128, .f32⟩
  | .hbm, ⟨64, _⟩ => ⟨S4x4096x16x128, .f32⟩
  | .hbm, ⟨65, _⟩ => ⟨S1x1x1x128, .f32⟩
  | .hbm, ⟨66, _⟩ => ⟨S4x4096x16x128, .f32⟩
  | .hbm, ⟨67, _⟩ => ⟨S4x4096x16x128, .f32⟩
  | .hbm, ⟨68, _⟩ => ⟨S4x4096x2048, .f32⟩
  | .hbm, ⟨69, _⟩ => ⟨S4x4096x16x128, .f32⟩
  | .hbm, ⟨70, _⟩ => ⟨S4x4096x2048, .f32⟩
  | .hbm, ⟨71, _⟩ => ⟨S4x4096x2048, .f32⟩
  | .hbm, ⟨72, _⟩ => ⟨S4x4096x2048, .f32⟩
  | .hbm, ⟨73, _⟩ => ⟨S_, .f32⟩
  | .hbm, ⟨74, _⟩ => ⟨S4x4096x2048, .f32⟩
  | .hbm, ⟨75, _⟩ => ⟨S4x4096x2048, .f32⟩
  | .hbm, ⟨76, _⟩ => ⟨S_, .f32⟩
  | .hbm, ⟨77, _⟩ => ⟨S4x4096x2048, .f32⟩
  | .hbm, ⟨78, _⟩ => ⟨S4x4096x2048, .f32⟩
  | .hbm, ⟨79, _⟩ => ⟨S4x4096x2048, .f32⟩
  | .hbm, ⟨80, _⟩ => ⟨S4x4096x16x128, .f32⟩
  | .hbm, ⟨81, _⟩ => ⟨S4x4096x80x128, .f32⟩
  | .hbm, ⟨82, _⟩ => ⟨S4x80x4096x128, .f32⟩
  | .hbm, ⟨83, _⟩ => ⟨S4x80x4096x128, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst : Ref sig .tc := ⟨.hbm, 34, rfl⟩
abbrev main_v19 : Ref sig .tc := ⟨.hbm, 35, rfl⟩
abbrev main_v20 : Ref sig .tc := ⟨.hbm, 36, rfl⟩
abbrev main_cst_0 : Ref sig .tc := ⟨.hbm, 37, rfl⟩
abbrev main_v21 : Ref sig .tc := ⟨.hbm, 38, rfl⟩
abbrev main_v22 : Ref sig .tc := ⟨.hbm, 39, rfl⟩
abbrev main_cst_1 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_2 : Ref sig .tc := ⟨.hbm, 53, rfl⟩
abbrev main_v35 : Ref sig .tc := ⟨.hbm, 54, rfl⟩
abbrev main_v36 : Ref sig .tc := ⟨.hbm, 55, rfl⟩
abbrev main_cst_3 : Ref sig .tc := ⟨.hbm, 56, rfl⟩
abbrev main_v37 : Ref sig .tc := ⟨.hbm, 57, rfl⟩
abbrev main_v38 : Ref sig .tc := ⟨.hbm, 58, rfl⟩
abbrev main_cst_4 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_call1_v0 : Ref sig .tc := ⟨.hbm, 71, rfl⟩
abbrev main_call1_v1 : Ref sig .tc := ⟨.hbm, 72, rfl⟩
abbrev main_call1_cst : Ref sig .tc := ⟨.hbm, 73, rfl⟩
abbrev main_call1_v2 : Ref sig .tc := ⟨.hbm, 74, rfl⟩
abbrev main_call1_v3 : Ref sig .tc := ⟨.hbm, 75, rfl⟩
abbrev main_call1_cst_0 : Ref sig .tc := ⟨.hbm, 76, rfl⟩
abbrev main_call1_v4 : Ref sig .tc := ⟨.hbm, 77, rfl⟩
abbrev main_call1_v5 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩

abbrev nD : Nat := 1
abbrev τ : Topo := Topo.v7x

variable {F : FTy → Type} [FloatOps F]
-- ==== DilKernel.lean ====
abbrev S16384x4096 : Shape := ⟨2, ![16384, 4096]⟩
abbrev S1x4096x26640 : Shape := ⟨3, ![1, 4096, 26640]⟩
abbrev S1x26640 : Shape := ⟨2, ![1, 26640]⟩
abbrev S1x3x128 : Shape := ⟨3, ![1, 3, 128]⟩
abbrev S1x128 : Shape := ⟨2, ![1, 128]⟩
abbrev S4x6 : Shape := ⟨2, ![4, 6]⟩
abbrev S18432 : Shape := ⟨1, ![18432]⟩
abbrev S64 : Shape := ⟨1, ![64]⟩
abbrev S_ : Shape := ⟨0, ![]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S4x1024x1x128 : Shape := ⟨4, ![4, 1024, 1, 128]⟩
abbrev S4x1x1024x128 : Shape := ⟨4, ![4, 1, 1024, 128]⟩
abbrev S4x256x4x128 : Shape := ⟨4, ![4, 256, 4, 128]⟩
abbrev S4x4x256x128 : Shape := ⟨4, ![4, 4, 256, 128]⟩
abbrev S4x64x16x128 : Shape := ⟨4, ![4, 64, 16, 128]⟩
abbrev S4x16x64x128 : Shape := ⟨4, ![4, 16, 64, 128]⟩
abbrev S1x4096x128 : Shape := ⟨3, ![1, 4096, 128]⟩
abbrev S4x4096x128 : Shape := ⟨3, ![4, 4096, 128]⟩
abbrev S4096x26640 : Shape := ⟨2, ![4096, 26640]⟩
abbrev S26640x4096 : Shape := ⟨2, ![26640, 4096]⟩
abbrev S18432x4096 : Shape := ⟨2, ![18432, 4096]⟩
abbrev S1x18432 : Shape := ⟨2, ![1, 18432]⟩
abbrev S3x128 : Shape := ⟨2, ![3, 128]⟩
abbrev S128 : Shape := ⟨1, ![128]⟩
abbrev S2048 : Shape := ⟨1, ![2048]⟩
abbrev S4x48x4096x128 : Shape := ⟨4, ![4, 48, 4096, 128]⟩
abbrev S1024x4096 : Shape := ⟨2, ![1024, 4096]⟩
abbrev S1x1 : Shape := ⟨2, ![1, 1]⟩
abbrev S1x1024 : Shape := ⟨2, ![1, 1024]⟩
abbrev S1x1024x128 : Shape := ⟨3, ![1, 1024, 128]⟩
abbrev S1x8x1024x128 : Shape := ⟨4, ![1, 8, 1024, 128]⟩
abbrev S8192x128 : Shape := ⟨2, ![8192, 128]⟩
abbrev S1024x1024 : Shape := ⟨2, ![1024, 1024]⟩
abbrev S1024x128 : Shape := ⟨2, ![1024, 128]⟩
abbrev S256x128 : Shape := ⟨2, ![256, 128]⟩
abbrev S256 : Shape := ⟨1, ![256]⟩
abbrev S256x1 : Shape := ⟨2, ![256, 1]⟩
abbrev S1x256x128 : Shape := ⟨3, ![1, 256, 128]⟩
abbrev S1x1x256x128 : Shape := ⟨4, ![1, 1, 256, 128]⟩
abbrev S64x128 : Shape := ⟨2, ![64, 128]⟩
abbrev S64x1 : Shape := ⟨2, ![64, 1]⟩
abbrev S1x64x128 : Shape := ⟨3, ![1, 64, 128]⟩
abbrev S1x1x64x128 : Shape := ⟨4, ![1, 1, 64, 128]⟩

abbrev nBuf : Space → Nat
  | .hbm => 182
  | .vmem => 17
  | .smem => 1
  | _ => 0

abbrev hbmTy0_0 (i : Nat) : BufTy := match i % 128 with
  | 0 => ⟨S16384x4096, .bf16⟩
  | 1 => ⟨S1x4096x26640, .f32⟩
  | 2 => ⟨S1x26640, .f32⟩
  | 3 => ⟨S1x3x128, .f32⟩
  | 4 => ⟨S1x3x128, .f32⟩
  | 5 => ⟨S1x128, .f32⟩
  | 6 => ⟨S1x128, .f32⟩
  | 7 => ⟨S18432, .f32⟩
  | 8 => ⟨S64, .f32⟩
  | 9 => ⟨S64, .f32⟩
  | 10 => ⟨S_, .f32⟩
  | 11 => ⟨S64, .f32⟩
  | 12 => ⟨S64, .f32⟩
  | 13 => ⟨S_, .f32⟩
  | 14 => ⟨S64, .f32⟩
  | 15 => ⟨S64, .f32⟩
  | 16 => ⟨S4096, .i32⟩
  | 17 => ⟨S4096, .f32⟩
  | 18 => ⟨S4096x1, .f32⟩
  | 19 => ⟨S1x64, .f32⟩
  | 20 => ⟨S4096x64, .f32⟩
  | 21 => ⟨S4096x64, .f32⟩
  | 22 => ⟨S4096x64, .f32⟩
  | 23 => ⟨S4096x64, .f32⟩
  | 24 => ⟨S4096x64, .f32⟩
  | 25 => ⟨S4096x128, .f32⟩
  | 26 => ⟨S4096x64, .f32⟩
  | 27 => ⟨S4096x128, .f32⟩
  | 28 => ⟨S4x1024x1x128, .f32⟩
  | 29 => ⟨S4x1x1024x128, .f32⟩
  | 30 => ⟨S4096x128, .f32⟩
  | 31 => ⟨S4x256x4x128, .f32⟩
  | 32 => ⟨S4x4x256x128, .f32⟩
  | 33 => ⟨S4096x128, .f32⟩
  | 34 => ⟨S4x64x16x128, .f32⟩
  | 35 => ⟨S4x16x64x128, .f32⟩
  | 36 => ⟨S4096x128, .f32⟩
  | 37 => ⟨S_, .f32⟩
  | 38 => ⟨S4096x128, .f32⟩
  | 39 => ⟨S1x4096x128, .f32⟩
  | 40 => ⟨S1x4096x128, .f32⟩
  | 41 => ⟨S1x4096x128, .f32⟩
  | 42 => ⟨S1x4096x128, .f32⟩
  | 43 => ⟨S4x4096x128, .f32⟩
  | 44 => ⟨S4x1024x1x128, .f32⟩
  | 45 => ⟨S4x1x1024x128, .f32⟩
  | 46 => ⟨S4096x128, .f32⟩
  | 47 => ⟨S4x256x4x128, .f32⟩
  | 48 => ⟨S4x4x256x128, .f32⟩
  | 49 => ⟨S4096x128, .f32⟩
  | 50 => ⟨S4x64x16x128, .f32⟩
  | 51 => ⟨S4x16x64x128, .f32⟩
  | 52 => ⟨S4096x128, .f32⟩
  | 53 => ⟨S_, .f32⟩
  | 54 => ⟨S4096x128, .f32⟩
  | 55 => ⟨S1x4096x128, .f32⟩
  | 56 => ⟨S1x4096x128, .f32⟩
  | 57 => ⟨S1x4096x128, .f32⟩
  | 58 => ⟨S1x4096x128, .f32⟩
  | 59 => ⟨S4x4096x128, .f32⟩
  | 60 => ⟨S4096x26640, .f32⟩
  | 61 => ⟨S26640x4096, .f32⟩
  | 62 => ⟨S26640x4096, .bf16⟩
  | 63 => ⟨S18432x4096, .bf16⟩
  | 64 => ⟨S1x18432, .f32⟩
  | 65 => ⟨S18432, .f32⟩
  | 66 => ⟨S1x18432, .f32⟩
  | 67 => ⟨S3x128, .f32⟩
  | 68 => ⟨S3x128, .f32⟩
  | 69 => ⟨S128, .f32⟩
  | 70 => ⟨S128, .f32⟩
  | 71 => ⟨S_, .f32⟩
  | 72 => ⟨S128, .f32⟩
  | 73 => ⟨S1x128, .f32⟩
  | 74 => ⟨S128, .f32⟩
  | 75 => ⟨S1x128, .f32⟩
  | 76 => ⟨S128, .f32⟩
  | 77 => ⟨S1x128, .f32⟩
  | 78 => ⟨S128, .f32⟩
  | 79 => ⟨S1x128, .f32⟩
  | 80 => ⟨S128, .f32⟩
  | 81 => ⟨S1x128, .f32⟩
  | 82 => ⟨S128, .f32⟩
  | 83 => ⟨S1x128, .f32⟩
  | 84 => ⟨S128, .f32⟩
  | 85 => ⟨S1x128, .f32⟩
  | 86 => ⟨S128, .f32⟩
  | 87 => ⟨S1x128, .f32⟩
  | 88 => ⟨S128, .f32⟩
  | 89 => ⟨S1x128, .f32⟩
  | 90 => ⟨S128, .f32⟩
  | 91 => ⟨S1x128, .f32⟩
  | 92 => ⟨S128, .f32⟩
  | 93 => ⟨S1x128, .f32⟩
  | 94 => ⟨S128, .f32⟩
  | 95 => ⟨S1x128, .f32⟩
  | 96 => ⟨S128, .f32⟩
  | 97 => ⟨S1x128, .f32⟩
  | 98 => ⟨S128, .f32⟩
  | 99 => ⟨S1x128, .f32⟩
  | 100 => ⟨S128, .f32⟩
  | 101 => ⟨S1x128, .f32⟩
  | 102 => ⟨S128, .f32⟩
  | 103 => ⟨S1x128, .f32⟩
  | 104 => ⟨S128, .f32⟩
  | 105 => ⟨S1x128, .f32⟩
  | 106 => ⟨S128, .f32⟩
  | 107 => ⟨S1x128, .f32⟩
  | 108 => ⟨S128, .f32⟩
  | 109 => ⟨S1x128, .f32⟩
  | 110 => ⟨S128, .f32⟩
  | 111 => ⟨S1x128, .f32⟩
  | 112 => ⟨S128, .f32⟩
  | 113 => ⟨S1x128, .f32⟩
  | 114 => ⟨S128, .f32⟩
  | 115 => ⟨S1x128, .f32⟩
  | 116 => ⟨S128, .f32⟩
  | 117 => ⟨S1x128, .f32⟩
  | 118 => ⟨S128, .f32⟩
  | 119 => ⟨S1x128, .f32⟩
  | 120 => ⟨S128, .f32⟩
  | 121 => ⟨S1x128, .f32⟩
  | 122 => ⟨S128, .f32⟩
  | 123 => ⟨S1x128, .f32⟩
  | 124 => ⟨S128, .f32⟩
  | 125 => ⟨S1x128, .f32⟩
  | 126 => ⟨S128, .f32⟩
  | 127 => ⟨S1x128, .f32⟩
  | _ => ⟨S16384x4096, .bf16⟩

abbrev hbmTy0_1 (i : Nat) : BufTy := match i % 128 with
  | 0 => ⟨S128, .f32⟩
  | 1 => ⟨S1x128, .f32⟩
  | 2 => ⟨S128, .f32⟩
  | 3 => ⟨S1x128, .f32⟩
  | 4 => ⟨S128, .f32⟩
  | 5 => ⟨S1x128, .f32⟩
  | 6 => ⟨S128, .f32⟩
  | 7 => ⟨S1x128, .f32⟩
  | 8 => ⟨S128, .f32⟩
  | 9 => ⟨S1x128, .f32⟩
  | 10 => ⟨S128, .f32⟩
  | 11 => ⟨S1x128, .f32⟩
  | 12 => ⟨S128, .f32⟩
  | 13 => ⟨S1x128, .f32⟩
  | 14 => ⟨S128, .f32⟩
  | 15 => ⟨S1x128, .f32⟩
  | 16 => ⟨S128, .f32⟩
  | 17 => ⟨S1x128, .f32⟩
  | 18 => ⟨S128, .f32⟩
  | 19 => ⟨S1x128, .f32⟩
  | 20 => ⟨S128, .f32⟩
  | 21 => ⟨S1x128, .f32⟩
  | 22 => ⟨S128, .f32⟩
  | 23 => ⟨S1x128, .f32⟩
  | 24 => ⟨S128, .f32⟩
  | 25 => ⟨S1x128, .f32⟩
  | 26 => ⟨S128, .f32⟩
  | 27 => ⟨S1x128, .f32⟩
  | 28 => ⟨S128, .f32⟩
  | 29 => ⟨S1x128, .f32⟩
  | 30 => ⟨S128, .f32⟩
  | 31 => ⟨S1x128, .f32⟩
  | 32 => ⟨S128, .f32⟩
  | 33 => ⟨S1x128, .f32⟩
  | 34 => ⟨S128, .f32⟩
  | 35 => ⟨S1x128, .f32⟩
  | 36 => ⟨S128, .f32⟩
  | 37 => ⟨S1x128, .f32⟩
  | 38 => ⟨S128, .f32⟩
  | 39 => ⟨S1x128, .f32⟩
  | 40 => ⟨S128, .f32⟩
  | 41 => ⟨S2048, .f32⟩
  | 42 => ⟨S2048, .f32⟩
  | 43 => ⟨S2048, .f32⟩
  | 44 => ⟨S2048, .f32⟩
  | 45 => ⟨S2048, .f32⟩
  | 46 => ⟨S2048, .f32⟩
  | 47 => ⟨S2048, .f32⟩
  | 48 => ⟨S2048, .f32⟩
  | 49 => ⟨S2048, .f32⟩
  | 50 => ⟨S18432, .f32⟩
  | 51 => ⟨S1x18432, .f32⟩
  | 52 => ⟨S1x18432, .f32⟩
  | 53 => ⟨S4x48x4096x128, .bf16⟩
  | _ => ⟨S16384x4096, .bf16⟩

abbrev hbmTy (i : Nat) : BufTy := match i / 128 with
  | 0 => hbmTy0_0 i
  | 1 => hbmTy0_1 i
  | _ => ⟨S16384x4096, .bf16⟩

abbrev bufTy : (tb : Table) → Fin (tcTables nBuf tb) → BufTy
  | .hbm, ⟨i, _⟩ => hbmTy i
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024x128, .f32⟩
  | .local _ .vmem, ⟨11, _⟩ => ⟨S1x1024x128, .f32⟩
  | .local _ .vmem, ⟨12, _⟩ => ⟨S1x1024x128, .f32⟩
  | .local _ .vmem, ⟨13, _⟩ => ⟨S1x1024x128, .f32⟩
  | .local _ .vmem, ⟨14, _⟩ => ⟨S1x8x1024x128, .bf16⟩
  | .local _ .vmem, ⟨15, _⟩ => ⟨S1x8x1024x128, .bf16⟩
  | .local _ .vmem, ⟨16, _⟩ => ⟨S8192x128, .f32⟩
  | .local _ .smem, ⟨0, _⟩ => ⟨S4x6, .i32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_3 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_cst_4 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_v155 : Ref sig .tc := ⟨.hbm, 168, rfl⟩
abbrev main_v156 : Ref sig .tc := ⟨.hbm, 169, rfl⟩
abbrev main_v157 : Ref sig .tc := ⟨.hbm, 170, rfl⟩
abbrev main_v158 : Ref sig .tc := ⟨.hbm, 171, rfl⟩
abbrev main_v159 : Ref sig .tc := ⟨.hbm, 172, rfl⟩
abbrev main_v160 : Ref sig .tc := ⟨.hbm, 173, rfl⟩
abbrev main_v161 : Ref sig .tc := ⟨.hbm, 174, rfl⟩
abbrev main_v162 : Ref sig .tc := ⟨.hbm, 175, rfl⟩
abbrev main_v163 : Ref sig .tc := ⟨.hbm, 176, rfl⟩
abbrev main_v164 : Ref sig .tc := ⟨.hbm, 177, rfl⟩
abbrev main_v165 : Ref sig .tc := ⟨.hbm, 178, rfl⟩
abbrev main_v166 : Ref sig .tc := ⟨.hbm, 179, rfl⟩
abbrev main_v167 : Ref sig .tc := ⟨.hbm, 180, rfl⟩
abbrev main_v168 : Ref sig .tc := ⟨.hbm, 181, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 6], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let c0 : Index := 0#32
  let arg1 : BitVec 32 := BitVec.ofNat 32 (i 1).val
  let v0 : Index := Scalar.indexCast arg1
  ![0, v0.toNat]
def k0_off2 (i : grid0.Coords) : Fin 2 → Nat :=
  let c1 : Index := 1#32
  let arg1 : BitVec 32 := BitVec.ofNat 32 (i 1).val
  let v0 : Index := Scalar.indexCast arg1
  ![1, v0.toNat]
def k0_off3 (i : grid0.Coords) : Fin 2 → Nat :=
  let c2 : Index := 2#32
  let arg1 : BitVec 32 := BitVec.ofNat 32 (i 1).val
  let v0 : Index := Scalar.indexCast arg1
  ![2, v0.toNat]
def k0_off4 (i : grid0.Coords) : Fin 2 → Nat :=
  let c2_1 : Index := 2#32
  let arg1 : BitVec 32 := BitVec.ofNat 32 (i 1).val
  let v5 : Index := Scalar.indexCast arg1
  ![2, v5.toNat]
def k0_cond1 (v1 : BitVec 32) : BitVec 1 :=
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_cond2 (v6 : BitVec 32) : BitVec 1 :=
  let c1_i32 : BitVec 32 := 1#32
  let v7 : BitVec 1 := Scalar.cmpi .eq v6 c1_i32
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1x1.size a ≤ S4x6.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : Index := Scalar.indexCast arg1
  let v1 : BitVec 32 := pf.at 0 (Rect.unit (s := S4x6) ![0, v0.toNat] S1x1.size (k0_off1_inb i)) numel1_S1x1
  let c0_i32 : BitVec 32 := 0#32
  let c0_i32_0 : BitVec 32 := 0#32
  ![v1.toNat, c0_i32.toNat]

def cc0_transform_2 (k0_off1_inb : ∀ i : grid0.Coords, ∀ a, (k0_off1 i) a + S1x1.size a ≤ S4x6.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : Index := Scalar.indexCast arg1
  let v1 : BitVec 32 := pf.at 0 (Rect.unit (s := S4x6) ![0, v0.toNat] S1x1.size (k0_off1_inb i)) numel1_S1x1
  let c0_i32 : BitVec 32 := 0#32
  let c0_i32_0 : BitVec 32 := 0#32
  ![c0_i32.toNat, v1.toNat]

def cc0_transform_3 (k0_off1_inb : ∀ i : grid0.Coords, ∀ a, (k0_off1 i) a + S1x1.size a ≤ S4x6.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : Index := Scalar.indexCast arg1
  let v1 : BitVec 32 := pf.at 0 (Rect.unit (s := S4x6) ![0, v0.toNat] S1x1.size (k0_off1_inb i)) numel1_S1x1
  let c0_i32 : BitVec 32 := 0#32
  let c0_i32_0 : BitVec 32 := 0#32
  ![c0_i32.toNat, v1.toNat]

def cc0_transform_4 (k0_off1_inb : ∀ i : grid0.Coords, ∀ a, (k0_off1 i) a + S1x1.size a ≤ S4x6.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : Index := Scalar.indexCast arg1
  let v1 : BitVec 32 := pf.at 0 (Rect.unit (s := S4x6) ![0, v0.toNat] S1x1.size (k0_off1_inb i)) numel1_S1x1
  let c0_i32 : BitVec 32 := 0#32
  let c0_i32_0 : BitVec 32 := 0#32
  ![c0_i32.toNat, v1.toNat]

def cc0_transform_5 (k0_off2_inb : ∀ i : grid0.Coords, ∀ a, (k0_off2 i) a + S1x1.size a ≤ S4x6.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c1 : Index := 1#32
  let v0 : Index := Scalar.indexCast arg1
  let v1 : BitVec 32 := pf.at 0 (Rect.unit (s := S4x6) ![1, v0.toNat] S1x1.size (k0_off2_inb i)) numel1_S1x1
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi arg0 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let c0_i32_3 : BitVec 32 := 0#32
  let c0_i32_4 : BitVec 32 := 0#32
  ![v1.toNat, v11.toNat, c0_i32_3.toNat]

def cc0_transform_6 (k0_off2_inb : ∀ i : grid0.Coords, ∀ a, (k0_off2 i) a + S1x1.size a ≤ S4x6.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c1 : Index := 1#32
  let v0 : Index := Scalar.indexCast arg1
  let v1 : BitVec 32 := pf.at 0 (Rect.unit (s := S4x6) ![1, v0.toNat] S1x1.size (k0_off2_inb i)) numel1_S1x1
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi arg0 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let c0_i32_3 : BitVec 32 := 0#32
  let c0_i32_4 : BitVec 32 := 0#32
  ![v1.toNat, v11.toNat, c0_i32_3.toNat]

def cc0_transform_7 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg1.toNat, v26.toNat, c0_i32_10.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== DilReferenceIdeal.lean ====
abbrev S16384x4096 : Shape := ⟨2, ![16384, 4096]⟩
abbrev S1x4096x26640 : Shape := ⟨3, ![1, 4096, 26640]⟩
abbrev S1x26640 : Shape := ⟨2, ![1, 26640]⟩
abbrev S1x3x128 : Shape := ⟨3, ![1, 3, 128]⟩
abbrev S1x128 : Shape := ⟨2, ![1, 128]⟩
abbrev S4096 : Shape := ⟨1, ![4096]⟩
abbrev S4096x26640 : Shape := ⟨2, ![4096, 26640]⟩
abbrev S16384x26640 : Shape := ⟨2, ![16384, 26640]⟩
abbrev S26640 : Shape := ⟨1, ![26640]⟩
abbrev S4x4096x26640 : Shape := ⟨3, ![4, 4096, 26640]⟩
abbrev S4x4096x3072 : Shape := ⟨3, ![4, 4096, 3072]⟩
abbrev S4x4096x3x8x128 : Shape := ⟨5, ![4, 4096, 3, 8, 128]⟩
abbrev S3x128 : Shape := ⟨2, ![3, 128]⟩
abbrev S3x1x128 : Shape := ⟨3, ![3, 1, 128]⟩
abbrev S_ : Shape := ⟨0, ![]⟩
abbrev S4x4096x3x8 : Shape := ⟨4, ![4, 4096, 3, 8]⟩
abbrev S4x4096x3x8x1 : Shape := ⟨5, ![4, 4096, 3, 8, 1]⟩
abbrev S1x1x3x1x128 : Shape := ⟨5, ![1, 1, 3, 1, 128]⟩
abbrev S64 : Shape := ⟨1, ![64]⟩
abbrev S4096x1 : Shape := ⟨2, ![4096, 1]⟩
abbrev S1x64 : Shape := ⟨2, ![1, 64]⟩
abbrev S4096x64 : Shape := ⟨2, ![4096, 64]⟩
abbrev S4096x1x1x64 : Shape := ⟨4, ![4096, 1, 1, 64]⟩
abbrev S4x4096x3x8x64 : Shape := ⟨5, ![4, 4096, 3, 8, 64]⟩
abbrev S1x4096x1x1x64 : Shape := ⟨5, ![1, 4096, 1, 1, 64]⟩
abbrev S4x4096x1x8x128 : Shape := ⟨5, ![4, 4096, 1, 8, 128]⟩
abbrev S4x4096x8x128 : Shape := ⟨4, ![4, 4096, 8, 128]⟩
abbrev S4x4096x24x128 : Shape := ⟨4, ![4, 4096, 24, 128]⟩
abbrev S4x4x256x4x24x128 : Shape := ⟨6, ![4, 4, 256, 4, 24, 128]⟩
abbrev S4x24x4x4x256x128 : Shape := ⟨6, ![4, 24, 4, 4, 256, 128]⟩
abbrev S4x24x4096x128 : Shape := ⟨4, ![4, 24, 4096, 128]⟩
abbrev S4x4x64x16x24x128 : Shape := ⟨6, ![4, 4, 64, 16, 24, 128]⟩
abbrev S4x24x4x16x64x128 : Shape := ⟨6, ![4, 24, 4, 16, 64, 128]⟩
abbrev S4x48x4096x128 : Shape := ⟨4, ![4, 48, 4096, 128]⟩

abbrev nBuf : Space → Nat
  | .hbm => 150
  | .vmem => 0
  | .smem => 0
  | _ => 0

abbrev hbmTy0_0 (i : Nat) : BufTy := match i % 128 with
  | 0 => ⟨S16384x4096, .bf16⟩
  | 1 => ⟨S1x4096x26640, .f32⟩
  | 2 => ⟨S1x26640, .f32⟩
  | 3 => ⟨S1x3x128, .f32⟩
  | 4 => ⟨S1x3x128, .f32⟩
  | 5 => ⟨S1x128, .f32⟩
  | 6 => ⟨S1x128, .f32⟩
  | 7 => ⟨S4096, .i32⟩
  | 8 => ⟨S16384x4096, .f32⟩
  | 9 => ⟨S4096x26640, .f32⟩
  | 10 => ⟨S16384x26640, .f32⟩
  | 11 => ⟨S26640, .f32⟩
  | 12 => ⟨S1x26640, .f32⟩
  | 13 => ⟨S16384x26640, .f32⟩
  | 14 => ⟨S16384x26640, .f32⟩
  | 15 => ⟨S4x4096x26640, .f32⟩
  | 16 => ⟨S4x4096x3072, .f32⟩
  | 17 => ⟨S4x4096x3x8x128, .f32⟩
  | 18 => ⟨S4x4096x3072, .f32⟩
  | 19 => ⟨S4x4096x3x8x128, .f32⟩
  | 20 => ⟨S4x4096x3072, .f32⟩
  | 21 => ⟨S4x4096x3x8x128, .f32⟩
  | 22 => ⟨S3x128, .f32⟩
  | 23 => ⟨S3x1x128, .f32⟩
  | 24 => ⟨S4x4096x3x8x128, .f32⟩
  | 25 => ⟨S_, .f32⟩
  | 26 => ⟨S4x4096x3x8, .f32⟩
  | 27 => ⟨S4x4096x3x8x1, .f32⟩
  | 28 => ⟨S_, .f32⟩
  | 29 => ⟨S4x4096x3x8x1, .f32⟩
  | 30 => ⟨S4x4096x3x8x1, .f32⟩
  | 31 => ⟨S_, .f32⟩
  | 32 => ⟨S4x4096x3x8x1, .f32⟩
  | 33 => ⟨S4x4096x3x8x1, .f32⟩
  | 34 => ⟨S4x4096x3x8x1, .f32⟩
  | 35 => ⟨S4x4096x3x8x128, .f32⟩
  | 36 => ⟨S4x4096x3x8x128, .f32⟩
  | 37 => ⟨S1x1x3x1x128, .f32⟩
  | 38 => ⟨S4x4096x3x8x128, .f32⟩
  | 39 => ⟨S4x4096x3x8x128, .f32⟩
  | 40 => ⟨S64, .f32⟩
  | 41 => ⟨S64, .f32⟩
  | 42 => ⟨S_, .f32⟩
  | 43 => ⟨S64, .f32⟩
  | 44 => ⟨S64, .f32⟩
  | 45 => ⟨S_, .f32⟩
  | 46 => ⟨S64, .f32⟩
  | 47 => ⟨S64, .f32⟩
  | 48 => ⟨S4096, .f32⟩
  | 49 => ⟨S4096x1, .f32⟩
  | 50 => ⟨S1x64, .f32⟩
  | 51 => ⟨S4096x64, .f32⟩
  | 52 => ⟨S4096x64, .f32⟩
  | 53 => ⟨S4096x64, .f32⟩
  | 54 => ⟨S4096x64, .f32⟩
  | 55 => ⟨S4096x1x1x64, .f32⟩
  | 56 => ⟨S4096x64, .f32⟩
  | 57 => ⟨S4096x1x1x64, .f32⟩
  | 58 => ⟨S4x4096x3x8x64, .f32⟩
  | 59 => ⟨S4x4096x3x8x64, .f32⟩
  | 60 => ⟨S1x4096x1x1x64, .f32⟩
  | 61 => ⟨S4x4096x3x8x64, .f32⟩
  | 62 => ⟨S4x4096x3x8x64, .f32⟩
  | 63 => ⟨S1x4096x1x1x64, .f32⟩
  | 64 => ⟨S4x4096x3x8x64, .f32⟩
  | 65 => ⟨S4x4096x3x8x64, .f32⟩
  | 66 => ⟨S4x4096x3x8x64, .f32⟩
  | 67 => ⟨S1x4096x1x1x64, .f32⟩
  | 68 => ⟨S4x4096x3x8x64, .f32⟩
  | 69 => ⟨S4x4096x3x8x64, .f32⟩
  | 70 => ⟨S1x4096x1x1x64, .f32⟩
  | 71 => ⟨S4x4096x3x8x64, .f32⟩
  | 72 => ⟨S4x4096x3x8x64, .f32⟩
  | 73 => ⟨S4x4096x3x8x64, .f32⟩
  | 74 => ⟨S4x4096x3x8x128, .f32⟩
  | 75 => ⟨S3x128, .f32⟩
  | 76 => ⟨S3x1x128, .f32⟩
  | 77 => ⟨S4x4096x3x8x128, .f32⟩
  | 78 => ⟨S_, .f32⟩
  | 79 => ⟨S4x4096x3x8, .f32⟩
  | 80 => ⟨S4x4096x3x8x1, .f32⟩
  | 81 => ⟨S_, .f32⟩
  | 82 => ⟨S4x4096x3x8x1, .f32⟩
  | 83 => ⟨S4x4096x3x8x1, .f32⟩
  | 84 => ⟨S_, .f32⟩
  | 85 => ⟨S4x4096x3x8x1, .f32⟩
  | 86 => ⟨S4x4096x3x8x1, .f32⟩
  | 87 => ⟨S4x4096x3x8x1, .f32⟩
  | 88 => ⟨S4x4096x3x8x128, .f32⟩
  | 89 => ⟨S4x4096x3x8x128, .f32⟩
  | 90 => ⟨S1x1x3x1x128, .f32⟩
  | 91 => ⟨S4x4096x3x8x128, .f32⟩
  | 92 => ⟨S4x4096x3x8x128, .f32⟩
  | 93 => ⟨S64, .f32⟩
  | 94 => ⟨S64, .f32⟩
  | 95 => ⟨S_, .f32⟩
  | 96 => ⟨S64, .f32⟩
  | 97 => ⟨S64, .f32⟩
  | 98 => ⟨S_, .f32⟩
  | 99 => ⟨S64, .f32⟩
  | 100 => ⟨S64, .f32⟩
  | 101 => ⟨S4096, .f32⟩
  | 102 => ⟨S4096x1, .f32⟩
  | 103 => ⟨S1x64, .f32⟩
  | 104 => ⟨S4096x64, .f32⟩
  | 105 => ⟨S4096x64, .f32⟩
  | 106 => ⟨S4096x64, .f32⟩
  | 107 => ⟨S4096x64, .f32⟩
  | 108 => ⟨S4096x1x1x64, .f32⟩
  | 109 => ⟨S4096x64, .f32⟩
  | 110 => ⟨S4096x1x1x64, .f32⟩
  | 111 => ⟨S4x4096x3x8x64, .f32⟩
  | 112 => ⟨S4x4096x3x8x64, .f32⟩
  | 113 => ⟨S1x4096x1x1x64, .f32⟩
  | 114 => ⟨S4x4096x3x8x64, .f32⟩
  | 115 => ⟨S4x4096x3x8x64, .f32⟩
  | 116 => ⟨S1x4096x1x1x64, .f32⟩
  | 117 => ⟨S4x4096x3x8x64, .f32⟩
  | 118 => ⟨S4x4096x3x8x64, .f32⟩
  | 119 => ⟨S4x4096x3x8x64, .f32⟩
  | 120 => ⟨S1x4096x1x1x64, .f32⟩
  | 121 => ⟨S4x4096x3x8x64, .f32⟩
  | 122 => ⟨S4x4096x3x8x64, .f32⟩
  | 123 => ⟨S1x4096x1x1x64, .f32⟩
  | 124 => ⟨S4x4096x3x8x64, .f32⟩
  | 125 => ⟨S4x4096x3x8x64, .f32⟩
  | 126 => ⟨S4x4096x3x8x64, .f32⟩
  | 127 => ⟨S4x4096x3x8x128, .f32⟩
  | _ => ⟨S16384x4096, .bf16⟩

abbrev hbmTy0_1 (i : Nat) : BufTy := match i % 128 with
  | 0 => ⟨S4x4096x1x8x128, .f32⟩
  | 1 => ⟨S4x4096x8x128, .f32⟩
  | 2 => ⟨S4x4096x1x8x128, .f32⟩
  | 3 => ⟨S4x4096x8x128, .f32⟩
  | 4 => ⟨S4x4096x1x8x128, .f32⟩
  | 5 => ⟨S4x4096x8x128, .f32⟩
  | 6 => ⟨S4x4096x24x128, .f32⟩
  | 7 => ⟨S4x4x256x4x24x128, .f32⟩
  | 8 => ⟨S4x24x4x4x256x128, .f32⟩
  | 9 => ⟨S4x24x4096x128, .f32⟩
  | 10 => ⟨S4x4096x1x8x128, .f32⟩
  | 11 => ⟨S4x4096x8x128, .f32⟩
  | 12 => ⟨S4x4096x1x8x128, .f32⟩
  | 13 => ⟨S4x4096x8x128, .f32⟩
  | 14 => ⟨S4x4096x1x8x128, .f32⟩
  | 15 => ⟨S4x4096x8x128, .f32⟩
  | 16 => ⟨S4x4096x24x128, .f32⟩
  | 17 => ⟨S4x4x64x16x24x128, .f32⟩
  | 18 => ⟨S4x24x4x16x64x128, .f32⟩
  | 19 => ⟨S4x24x4096x128, .f32⟩
  | 20 => ⟨S4x48x4096x128, .f32⟩
  | 21 => ⟨S4x48x4096x128, .bf16⟩
  | _ => ⟨S16384x4096, .bf16⟩

abbrev hbmTy (i : Nat) : BufTy := match i / 128 with
  | 0 => hbmTy0_0 i
  | 1 => hbmTy0_1 i
  | _ => ⟨S16384x4096, .bf16⟩

abbrev bufTy : (tb : Table) → Fin (tcTables nBuf tb) → BufTy
  | .hbm, ⟨i, _⟩ => hbmTy i
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_cst_4 : Ref sig .tc := ⟨.hbm, 78, rfl⟩
abbrev main_v66 : Ref sig .tc := ⟨.hbm, 79, rfl⟩
abbrev main_v67 : Ref sig .tc := ⟨.hbm, 80, rfl⟩
abbrev main_cst_5 : Ref sig .tc := ⟨.hbm, 81, rfl⟩
abbrev main_v68 : Ref sig .tc := ⟨.hbm, 82, rfl⟩
abbrev main_v69 : Ref sig .tc := ⟨.hbm, 83, rfl⟩
abbrev main_cst_6 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_cst_7 : Ref sig .tc := ⟨.hbm, 95, rfl⟩
abbrev main_v80 : Ref sig .tc := ⟨.hbm, 96, rfl⟩
abbrev main_v81 : Ref sig .tc := ⟨.hbm, 97, rfl⟩
abbrev main_cst_8 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩

abbrev nD : Nat := 1
abbrev τ : Topo := Topo.v7x

variable {F : FTy → Type} [FloatOps F]
-- ==== RopeKernel.lean ====
abbrev S16384x4096 : Shape := ⟨2, ![16384, 4096]⟩
abbrev S1x4096x26640 : Shape := ⟨3, ![1, 4096, 26640]⟩
abbrev S1x26640 : Shape := ⟨2, ![1, 26640]⟩
abbrev S1x3x128 : Shape := ⟨3, ![1, 3, 128]⟩
abbrev S1x128 : Shape := ⟨2, ![1, 128]⟩
abbrev S4x2 : Shape := ⟨2, ![4, 2]⟩
abbrev S18432 : Shape := ⟨1, ![18432]⟩
abbrev S64 : Shape := ⟨1, ![64]⟩
abbrev S_ : Shape := ⟨0, ![]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S4x1024x1x128 : Shape := ⟨4, ![4, 1024, 1, 128]⟩
abbrev S4x1x1024x128 : Shape := ⟨4, ![4, 1, 1024, 128]⟩
abbrev S4x256x4x128 : Shape := ⟨4, ![4, 256, 4, 128]⟩
abbrev S4x4x256x128 : Shape := ⟨4, ![4, 4, 256, 128]⟩
abbrev S4x64x16x128 : Shape := ⟨4, ![4, 64, 16, 128]⟩
abbrev S4x16x64x128 : Shape := ⟨4, ![4, 16, 64, 128]⟩
abbrev S1x4096x128 : Shape := ⟨3, ![1, 4096, 128]⟩
abbrev S4x4096x128 : Shape := ⟨3, ![4, 4096, 128]⟩
abbrev S4096x26640 : Shape := ⟨2, ![4096, 26640]⟩
abbrev S26640x4096 : Shape := ⟨2, ![26640, 4096]⟩
abbrev S18432x4096 : Shape := ⟨2, ![18432, 4096]⟩
abbrev S1x18432 : Shape := ⟨2, ![1, 18432]⟩
abbrev S3x128 : Shape := ⟨2, ![3, 128]⟩
abbrev S128 : Shape := ⟨1, ![128]⟩
abbrev S2048 : Shape := ⟨1, ![2048]⟩
abbrev S4x16x4096x128 : Shape := ⟨4, ![4, 16, 4096, 128]⟩
abbrev S1024x4096 : Shape := ⟨2, ![1024, 4096]⟩
abbrev S1x1 : Shape := ⟨2, ![1, 1]⟩
abbrev S1x1024 : Shape := ⟨2, ![1, 1024]⟩
abbrev S1x1024x128 : Shape := ⟨3, ![1, 1024, 128]⟩
abbrev S1x8x1024x128 : Shape := ⟨4, ![1, 8, 1024, 128]⟩
abbrev S8192x128 : Shape := ⟨2, ![8192, 128]⟩
abbrev S1024x1024 : Shape := ⟨2, ![1024, 1024]⟩
abbrev S1024x128 : Shape := ⟨2, ![1024, 128]⟩
abbrev S256x128 : Shape := ⟨2, ![256, 128]⟩
abbrev S256 : Shape := ⟨1, ![256]⟩
abbrev S256x1 : Shape := ⟨2, ![256, 1]⟩
abbrev S1x256x128 : Shape := ⟨3, ![1, 256, 128]⟩
abbrev S1x1x256x128 : Shape := ⟨4, ![1, 1, 256, 128]⟩

abbrev nBuf : Space → Nat
  | .hbm => 182
  | .vmem => 17
  | .smem => 1
  | _ => 0

abbrev hbmTy0_0 (i : Nat) : BufTy := match i % 128 with
  | 0 => ⟨S16384x4096, .bf16⟩
  | 1 => ⟨S1x4096x26640, .f32⟩
  | 2 => ⟨S1x26640, .f32⟩
  | 3 => ⟨S1x3x128, .f32⟩
  | 4 => ⟨S1x3x128, .f32⟩
  | 5 => ⟨S1x128, .f32⟩
  | 6 => ⟨S1x128, .f32⟩
  | 7 => ⟨S18432, .f32⟩
  | 8 => ⟨S64, .f32⟩
  | 9 => ⟨S64, .f32⟩
  | 10 => ⟨S_, .f32⟩
  | 11 => ⟨S64, .f32⟩
  | 12 => ⟨S64, .f32⟩
  | 13 => ⟨S_, .f32⟩
  | 14 => ⟨S64, .f32⟩
  | 15 => ⟨S64, .f32⟩
  | 16 => ⟨S4096, .i32⟩
  | 17 => ⟨S4096, .f32⟩
  | 18 => ⟨S4096x1, .f32⟩
  | 19 => ⟨S1x64, .f32⟩
  | 20 => ⟨S4096x64, .f32⟩
  | 21 => ⟨S4096x64, .f32⟩
  | 22 => ⟨S4096x64, .f32⟩
  | 23 => ⟨S4096x64, .f32⟩
  | 24 => ⟨S4096x64, .f32⟩
  | 25 => ⟨S4096x128, .f32⟩
  | 26 => ⟨S4096x64, .f32⟩
  | 27 => ⟨S4096x128, .f32⟩
  | 28 => ⟨S4x1024x1x128, .f32⟩
  | 29 => ⟨S4x1x1024x128, .f32⟩
  | 30 => ⟨S4096x128, .f32⟩
  | 31 => ⟨S4x256x4x128, .f32⟩
  | 32 => ⟨S4x4x256x128, .f32⟩
  | 33 => ⟨S4096x128, .f32⟩
  | 34 => ⟨S4x64x16x128, .f32⟩
  | 35 => ⟨S4x16x64x128, .f32⟩
  | 36 => ⟨S4096x128, .f32⟩
  | 37 => ⟨S_, .f32⟩
  | 38 => ⟨S4096x128, .f32⟩
  | 39 => ⟨S1x4096x128, .f32⟩
  | 40 => ⟨S1x4096x128, .f32⟩
  | 41 => ⟨S1x4096x128, .f32⟩
  | 42 => ⟨S1x4096x128, .f32⟩
  | 43 => ⟨S4x4096x128, .f32⟩
  | 44 => ⟨S4x1024x1x128, .f32⟩
  | 45 => ⟨S4x1x1024x128, .f32⟩
  | 46 => ⟨S4096x128, .f32⟩
  | 47 => ⟨S4x256x4x128, .f32⟩
  | 48 => ⟨S4x4x256x128, .f32⟩
  | 49 => ⟨S4096x128, .f32⟩
  | 50 => ⟨S4x64x16x128, .f32⟩
  | 51 => ⟨S4x16x64x128, .f32⟩
  | 52 => ⟨S4096x128, .f32⟩
  | 53 => ⟨S_, .f32⟩
  | 54 => ⟨S4096x128, .f32⟩
  | 55 => ⟨S1x4096x128, .f32⟩
  | 56 => ⟨S1x4096x128, .f32⟩
  | 57 => ⟨S1x4096x128, .f32⟩
  | 58 => ⟨S1x4096x128, .f32⟩
  | 59 => ⟨S4x4096x128, .f32⟩
  | 60 => ⟨S4096x26640, .f32⟩
  | 61 => ⟨S26640x4096, .f32⟩
  | 62 => ⟨S26640x4096, .bf16⟩
  | 63 => ⟨S18432x4096, .bf16⟩
  | 64 => ⟨S1x18432, .f32⟩
  | 65 => ⟨S18432, .f32⟩
  | 66 => ⟨S1x18432, .f32⟩
  | 67 => ⟨S3x128, .f32⟩
  | 68 => ⟨S3x128, .f32⟩
  | 69 => ⟨S128, .f32⟩
  | 70 => ⟨S128, .f32⟩
  | 71 => ⟨S_, .f32⟩
  | 72 => ⟨S128, .f32⟩
  | 73 => ⟨S1x128, .f32⟩
  | 74 => ⟨S128, .f32⟩
  | 75 => ⟨S1x128, .f32⟩
  | 76 => ⟨S128, .f32⟩
  | 77 => ⟨S1x128, .f32⟩
  | 78 => ⟨S128, .f32⟩
  | 79 => ⟨S1x128, .f32⟩
  | 80 => ⟨S128, .f32⟩
  | 81 => ⟨S1x128, .f32⟩
  | 82 => ⟨S128, .f32⟩
  | 83 => ⟨S1x128, .f32⟩
  | 84 => ⟨S128, .f32⟩
  | 85 => ⟨S1x128, .f32⟩
  | 86 => ⟨S128, .f32⟩
  | 87 => ⟨S1x128, .f32⟩
  | 88 => ⟨S128, .f32⟩
  | 89 => ⟨S1x128, .f32⟩
  | 90 => ⟨S128, .f32⟩
  | 91 => ⟨S1x128, .f32⟩
  | 92 => ⟨S128, .f32⟩
  | 93 => ⟨S1x128, .f32⟩
  | 94 => ⟨S128, .f32⟩
  | 95 => ⟨S1x128, .f32⟩
  | 96 => ⟨S128, .f32⟩
  | 97 => ⟨S1x128, .f32⟩
  | 98 => ⟨S128, .f32⟩
  | 99 => ⟨S1x128, .f32⟩
  | 100 => ⟨S128, .f32⟩
  | 101 => ⟨S1x128, .f32⟩
  | 102 => ⟨S128, .f32⟩
  | 103 => ⟨S1x128, .f32⟩
  | 104 => ⟨S128, .f32⟩
  | 105 => ⟨S1x128, .f32⟩
  | 106 => ⟨S128, .f32⟩
  | 107 => ⟨S1x128, .f32⟩
  | 108 => ⟨S128, .f32⟩
  | 109 => ⟨S1x128, .f32⟩
  | 110 => ⟨S128, .f32⟩
  | 111 => ⟨S1x128, .f32⟩
  | 112 => ⟨S128, .f32⟩
  | 113 => ⟨S1x128, .f32⟩
  | 114 => ⟨S128, .f32⟩
  | 115 => ⟨S1x128, .f32⟩
  | 116 => ⟨S128, .f32⟩
  | 117 => ⟨S1x128, .f32⟩
  | 118 => ⟨S128, .f32⟩
  | 119 => ⟨S1x128, .f32⟩
  | 120 => ⟨S128, .f32⟩
  | 121 => ⟨S1x128, .f32⟩
  | 122 => ⟨S128, .f32⟩
  | 123 => ⟨S1x128, .f32⟩
  | 124 => ⟨S128, .f32⟩
  | 125 => ⟨S1x128, .f32⟩
  | 126 => ⟨S128, .f32⟩
  | 127 => ⟨S1x128, .f32⟩
  | _ => ⟨S16384x4096, .bf16⟩

abbrev hbmTy0_1 (i : Nat) : BufTy := match i % 128 with
  | 0 => ⟨S128, .f32⟩
  | 1 => ⟨S1x128, .f32⟩
  | 2 => ⟨S128, .f32⟩
  | 3 => ⟨S1x128, .f32⟩
  | 4 => ⟨S128, .f32⟩
  | 5 => ⟨S1x128, .f32⟩
  | 6 => ⟨S128, .f32⟩
  | 7 => ⟨S1x128, .f32⟩
  | 8 => ⟨S128, .f32⟩
  | 9 => ⟨S1x128, .f32⟩
  | 10 => ⟨S128, .f32⟩
  | 11 => ⟨S1x128, .f32⟩
  | 12 => ⟨S128, .f32⟩
  | 13 => ⟨S1x128, .f32⟩
  | 14 => ⟨S128, .f32⟩
  | 15 => ⟨S1x128, .f32⟩
  | 16 => ⟨S128, .f32⟩
  | 17 => ⟨S1x128, .f32⟩
  | 18 => ⟨S128, .f32⟩
  | 19 => ⟨S1x128, .f32⟩
  | 20 => ⟨S128, .f32⟩
  | 21 => ⟨S1x128, .f32⟩
  | 22 => ⟨S128, .f32⟩
  | 23 => ⟨S1x128, .f32⟩
  | 24 => ⟨S128, .f32⟩
  | 25 => ⟨S1x128, .f32⟩
  | 26 => ⟨S128, .f32⟩
  | 27 => ⟨S1x128, .f32⟩
  | 28 => ⟨S128, .f32⟩
  | 29 => ⟨S1x128, .f32⟩
  | 30 => ⟨S128, .f32⟩
  | 31 => ⟨S1x128, .f32⟩
  | 32 => ⟨S128, .f32⟩
  | 33 => ⟨S1x128, .f32⟩
  | 34 => ⟨S128, .f32⟩
  | 35 => ⟨S1x128, .f32⟩
  | 36 => ⟨S128, .f32⟩
  | 37 => ⟨S1x128, .f32⟩
  | 38 => ⟨S128, .f32⟩
  | 39 => ⟨S1x128, .f32⟩
  | 40 => ⟨S128, .f32⟩
  | 41 => ⟨S2048, .f32⟩
  | 42 => ⟨S2048, .f32⟩
  | 43 => ⟨S2048, .f32⟩
  | 44 => ⟨S2048, .f32⟩
  | 45 => ⟨S2048, .f32⟩
  | 46 => ⟨S2048, .f32⟩
  | 47 => ⟨S2048, .f32⟩
  | 48 => ⟨S2048, .f32⟩
  | 49 => ⟨S2048, .f32⟩
  | 50 => ⟨S18432, .f32⟩
  | 51 => ⟨S1x18432, .f32⟩
  | 52 => ⟨S1x18432, .f32⟩
  | 53 => ⟨S4x16x4096x128, .bf16⟩
  | _ => ⟨S16384x4096, .bf16⟩

abbrev hbmTy (i : Nat) : BufTy := match i / 128 with
  | 0 => hbmTy0_0 i
  | 1 => hbmTy0_1 i
  | _ => ⟨S16384x4096, .bf16⟩

abbrev bufTy : (tb : Table) → Fin (tcTables nBuf tb) → BufTy
  | .hbm, ⟨i, _⟩ => hbmTy i
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024x128, .f32⟩
  | .local _ .vmem, ⟨11, _⟩ => ⟨S1x1024x128, .f32⟩
  | .local _ .vmem, ⟨12, _⟩ => ⟨S1x1024x128, .f32⟩
  | .local _ .vmem, ⟨13, _⟩ => ⟨S1x1024x128, .f32⟩
  | .local _ .vmem, ⟨14, _⟩ => ⟨S1x8x1024x128, .bf16⟩
  | .local _ .vmem, ⟨15, _⟩ => ⟨S1x8x1024x128, .bf16⟩
  | .local _ .vmem, ⟨16, _⟩ => ⟨S8192x128, .f32⟩
  | .local _ .smem, ⟨0, _⟩ => ⟨S4x2, .i32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_3 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_cst_4 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_v155 : Ref sig .tc := ⟨.hbm, 168, rfl⟩
abbrev main_v156 : Ref sig .tc := ⟨.hbm, 169, rfl⟩
abbrev main_v157 : Ref sig .tc := ⟨.hbm, 170, rfl⟩
abbrev main_v158 : Ref sig .tc := ⟨.hbm, 171, rfl⟩
abbrev main_v159 : Ref sig .tc := ⟨.hbm, 172, rfl⟩
abbrev main_v160 : Ref sig .tc := ⟨.hbm, 173, rfl⟩
abbrev main_v161 : Ref sig .tc := ⟨.hbm, 174, rfl⟩
abbrev main_v162 : Ref sig .tc := ⟨.hbm, 175, rfl⟩
abbrev main_v163 : Ref sig .tc := ⟨.hbm, 176, rfl⟩
abbrev main_v164 : Ref sig .tc := ⟨.hbm, 177, rfl⟩
abbrev main_v165 : Ref sig .tc := ⟨.hbm, 178, rfl⟩
abbrev main_v166 : Ref sig .tc := ⟨.hbm, 179, rfl⟩
abbrev main_v167 : Ref sig .tc := ⟨.hbm, 180, rfl⟩
abbrev main_v168 : Ref sig .tc := ⟨.hbm, 181, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 2], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let c0 : Index := 0#32
  let arg1 : BitVec 32 := BitVec.ofNat 32 (i 1).val
  let v0 : Index := Scalar.indexCast arg1
  ![0, v0.toNat]
def k0_off2 (i : grid0.Coords) : Fin 2 → Nat :=
  let c1 : Index := 1#32
  let arg1 : BitVec 32 := BitVec.ofNat 32 (i 1).val
  let v0 : Index := Scalar.indexCast arg1
  ![1, v0.toNat]
def k0_off3 (i : grid0.Coords) : Fin 2 → Nat :=
  let c2 : Index := 2#32
  let arg1 : BitVec 32 := BitVec.ofNat 32 (i 1).val
  let v0 : Index := Scalar.indexCast arg1
  ![2, v0.toNat]
def k0_off4 (i : grid0.Coords) : Fin 2 → Nat :=
  let c3 : Index := 3#32
  let arg1 : BitVec 32 := BitVec.ofNat 32 (i 1).val
  let v17 : Index := Scalar.indexCast arg1
  ![3, v17.toNat]
def k0_mult1 (v18 : BitVec 32) : BitVec 32 :=
  let c0_i32_8 : BitVec 32 := 0#32
  let v19 : BitVec 32 := Scalar.addi c0_i32_8 v18
  v19
def k0_cond1 (v1 : BitVec 32) : BitVec 1 :=
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_off5 (v18 : BitVec 32) : Fin 2 → Nat :=
  let c0_i32_8 : BitVec 32 := 0#32
  let v19 : BitVec 32 := Scalar.addi c0_i32_8 v18
  let v20 : BitVec 32 := v19
  let v21 : Index := Scalar.indexCast v20
  let c0_9 : Index := 0#32
  ![v21.toNat, 0]

def k0_chk1 (v1 : BitVec 32) (v18 : BitVec 32) : Prop :=
  (∀ (k0_h1 : k0_cond1 v1 = 1#1), 256 ∣ (k0_mult1 v18).toNat) ∧
  (∀ (k0_h1 : k0_cond1 v1 = 1#1), ∀ a, (k0_off5 v18) a + S256x128.size a ≤ S8192x128.size a)
theorem k0_mult1_dvd : ∀ (v1 : BitVec 32) (v18 : BitVec 32) (k0_hw1 : k0_chk1 v1 v18), ∀ (k0_h1 : k0_cond1 v1 = 1#1), 256 ∣ (k0_mult1 v18).toNat := fun v1 v18 k0_hw1 k0_h1 => k0_hw1.1 k0_h1
theorem k0_off5_inb : ∀ (v1 : BitVec 32) (v18 : BitVec 32) (k0_hw1 : k0_chk1 v1 v18), ∀ (k0_h1 : k0_cond1 v1 = 1#1), ∀ a, (k0_off5 v18) a + S256x128.size a ≤ S8192x128.size a := fun v1 v18 k0_hw1 k0_h1 => k0_hw1.2 k0_h1

def k0_off6 (i : grid0.Coords) : Fin 2 → Nat :=
  let c3_25 : Index := 3#32
  let arg1 : BitVec 32 := BitVec.ofNat 32 (i 1).val
  let v49 : Index := Scalar.indexCast arg1
  ![3, v49.toNat]
def k0_mult2 (v50 : BitVec 32) : BitVec 32 :=
  let c256_i32 : BitVec 32 := 256#32
  let v51 : BitVec 32 := Scalar.addi c256_i32 v50
  v51

def k0_off7 (v50 : BitVec 32) : Fin 2 → Nat :=
  let c256_i32 : BitVec 32 := 256#32
  let v51 : BitVec 32 := Scalar.addi c256_i32 v50
  let v52 : BitVec 32 := v51
  let v53 : Index := Scalar.indexCast v52
  let c0_26 : Index := 0#32
  ![v53.toNat, 0]

def k0_chk2 (v1 : BitVec 32) (v50 : BitVec 32) : Prop :=
  (∀ (k0_h1 : k0_cond1 v1 = 1#1), 256 ∣ (k0_mult2 v50).toNat) ∧
  (∀ (k0_h1 : k0_cond1 v1 = 1#1), ∀ a, (k0_off7 v50) a + S256x128.size a ≤ S8192x128.size a)
theorem k0_mult2_dvd : ∀ (v1 : BitVec 32) (v50 : BitVec 32) (k0_hw2 : k0_chk2 v1 v50), ∀ (k0_h1 : k0_cond1 v1 = 1#1), 256 ∣ (k0_mult2 v50).toNat := fun v1 v50 k0_hw2 k0_h1 => k0_hw2.1 k0_h1
theorem k0_off7_inb : ∀ (v1 : BitVec 32) (v50 : BitVec 32) (k0_hw2 : k0_chk2 v1 v50), ∀ (k0_h1 : k0_cond1 v1 = 1#1), ∀ a, (k0_off7 v50) a + S256x128.size a ≤ S8192x128.size a := fun v1 v50 k0_hw2 k0_h1 => k0_hw2.2 k0_h1

def k0_off8 (i : grid0.Coords) : Fin 2 → Nat :=
  let c3_42 : Index := 3#32
  let arg1 : BitVec 32 := BitVec.ofNat 32 (i 1).val
  let v81 : Index := Scalar.indexCast arg1
  ![3, v81.toNat]
def k0_mult3 (v82 : BitVec 32) : BitVec 32 :=
  let c512_i32 : BitVec 32 := 512#32
  let v83 : BitVec 32 := Scalar.addi c512_i32 v82
  v83

def k0_off9 (v82 : BitVec 32) : Fin 2 → Nat :=
  let c512_i32 : BitVec 32 := 512#32
  let v83 : BitVec 32 := Scalar.addi c512_i32 v82
  let v84 : BitVec 32 := v83
  let v85 : Index := Scalar.indexCast v84
  let c0_43 : Index := 0#32
  ![v85.toNat, 0]

def k0_chk3 (v1 : BitVec 32) (v82 : BitVec 32) : Prop :=
  (∀ (k0_h1 : k0_cond1 v1 = 1#1), 256 ∣ (k0_mult3 v82).toNat) ∧
  (∀ (k0_h1 : k0_cond1 v1 = 1#1), ∀ a, (k0_off9 v82) a + S256x128.size a ≤ S8192x128.size a)
theorem k0_mult3_dvd : ∀ (v1 : BitVec 32) (v82 : BitVec 32) (k0_hw3 : k0_chk3 v1 v82), ∀ (k0_h1 : k0_cond1 v1 = 1#1), 256 ∣ (k0_mult3 v82).toNat := fun v1 v82 k0_hw3 k0_h1 => k0_hw3.1 k0_h1
theorem k0_off9_inb : ∀ (v1 : BitVec 32) (v82 : BitVec 32) (k0_hw3 : k0_chk3 v1 v82), ∀ (k0_h1 : k0_cond1 v1 = 1#1), ∀ a, (k0_off9 v82) a + S256x128.size a ≤ S8192x128.size a := fun v1 v82 k0_hw3 k0_h1 => k0_hw3.2 k0_h1

def k0_off10 (i : grid0.Coords) : Fin 2 → Nat :=
  let c3_59 : Index := 3#32
  let arg1 : BitVec 32 := BitVec.ofNat 32 (i 1).val
  let v113 : Index := Scalar.indexCast arg1
  ![3, v113.toNat]
def k0_mult4 (v114 : BitVec 32) : BitVec 32 :=
  let c768_i32 : BitVec 32 := 768#32
  let v115 : BitVec 32 := Scalar.addi c768_i32 v114
  v115

def k0_off11 (v114 : BitVec 32) : Fin 2 → Nat :=
  let c768_i32 : BitVec 32 := 768#32
  let v115 : BitVec 32 := Scalar.addi c768_i32 v114
  let v116 : BitVec 32 := v115
  let v117 : Index := Scalar.indexCast v116
  let c0_60 : Index := 0#32
  ![v117.toNat, 0]

def k0_chk4 (v1 : BitVec 32) (v114 : BitVec 32) : Prop :=
  (∀ (k0_h1 : k0_cond1 v1 = 1#1), 256 ∣ (k0_mult4 v114).toNat) ∧
  (∀ (k0_h1 : k0_cond1 v1 = 1#1), ∀ a, (k0_off11 v114) a + S256x128.size a ≤ S8192x128.size a)
theorem k0_mult4_dvd : ∀ (v1 : BitVec 32) (v114 : BitVec 32) (k0_hw4 : k0_chk4 v1 v114), ∀ (k0_h1 : k0_cond1 v1 = 1#1), 256 ∣ (k0_mult4 v114).toNat := fun v1 v114 k0_hw4 k0_h1 => k0_hw4.1 k0_h1
theorem k0_off11_inb : ∀ (v1 : BitVec 32) (v114 : BitVec 32) (k0_hw4 : k0_chk4 v1 v114), ∀ (k0_h1 : k0_cond1 v1 = 1#1), ∀ a, (k0_off11 v114) a + S256x128.size a ≤ S8192x128.size a := fun v1 v114 k0_hw4 k0_h1 => k0_hw4.2 k0_h1

def k0_off12 (i : grid0.Coords) : Fin 2 → Nat :=
  let c3_77 : Index := 3#32
  let arg1 : BitVec 32 := BitVec.ofNat 32 (i 1).val
  let v149 : Index := Scalar.indexCast arg1
  ![3, v149.toNat]
def k0_mult5 (v150 : BitVec 32) : BitVec 32 :=
  let c1024_i32 : BitVec 32 := 1024#32
  let v151 : BitVec 32 := Scalar.addi c1024_i32 v150
  v151

def k0_off13 (v150 : BitVec 32) : Fin 2 → Nat :=
  let c1024_i32 : BitVec 32 := 1024#32
  let v151 : BitVec 32 := Scalar.addi c1024_i32 v150
  let v152 : BitVec 32 := v151
  let v153 : Index := Scalar.indexCast v152
  let c0_78 : Index := 0#32
  ![v153.toNat, 0]

def k0_chk5 (v1 : BitVec 32) (v150 : BitVec 32) : Prop :=
  (∀ (k0_h1 : k0_cond1 v1 = 1#1), 256 ∣ (k0_mult5 v150).toNat) ∧
  (∀ (k0_h1 : k0_cond1 v1 = 1#1), ∀ a, (k0_off13 v150) a + S256x128.size a ≤ S8192x128.size a)
theorem k0_mult5_dvd : ∀ (v1 : BitVec 32) (v150 : BitVec 32) (k0_hw5 : k0_chk5 v1 v150), ∀ (k0_h1 : k0_cond1 v1 = 1#1), 256 ∣ (k0_mult5 v150).toNat := fun v1 v150 k0_hw5 k0_h1 => k0_hw5.1 k0_h1
theorem k0_off13_inb : ∀ (v1 : BitVec 32) (v150 : BitVec 32) (k0_hw5 : k0_chk5 v1 v150), ∀ (k0_h1 : k0_cond1 v1 = 1#1), ∀ a, (k0_off13 v150) a + S256x128.size a ≤ S8192x128.size a := fun v1 v150 k0_hw5 k0_h1 => k0_hw5.2 k0_h1

def k0_off14 (i : grid0.Coords) : Fin 2 → Nat :=
  let c3_93 : Index := 3#32
  let arg1 : BitVec 32 := BitVec.ofNat 32 (i 1).val
  let v181 : Index := Scalar.indexCast arg1
  ![3, v181.toNat]
def k0_mult6 (v182 : BitVec 32) : BitVec 32 :=
  let c1280_i32 : BitVec 32 := 1280#32
  let v183 : BitVec 32 := Scalar.addi c1280_i32 v182
  v183

def k0_off15 (v182 : BitVec 32) : Fin 2 → Nat :=
  let c1280_i32 : BitVec 32 := 1280#32
  let v183 : BitVec 32 := Scalar.addi c1280_i32 v182
  let v184 : BitVec 32 := v183
  let v185 : Index := Scalar.indexCast v184
  let c0_94 : Index := 0#32
  ![v185.toNat, 0]

def k0_chk6 (v1 : BitVec 32) (v182 : BitVec 32) : Prop :=
  (∀ (k0_h1 : k0_cond1 v1 = 1#1), 256 ∣ (k0_mult6 v182).toNat) ∧
  (∀ (k0_h1 : k0_cond1 v1 = 1#1), ∀ a, (k0_off15 v182) a + S256x128.size a ≤ S8192x128.size a)
theorem k0_mult6_dvd : ∀ (v1 : BitVec 32) (v182 : BitVec 32) (k0_hw6 : k0_chk6 v1 v182), ∀ (k0_h1 : k0_cond1 v1 = 1#1), 256 ∣ (k0_mult6 v182).toNat := fun v1 v182 k0_hw6 k0_h1 => k0_hw6.1 k0_h1
theorem k0_off15_inb : ∀ (v1 : BitVec 32) (v182 : BitVec 32) (k0_hw6 : k0_chk6 v1 v182), ∀ (k0_h1 : k0_cond1 v1 = 1#1), ∀ a, (k0_off15 v182) a + S256x128.size a ≤ S8192x128.size a := fun v1 v182 k0_hw6 k0_h1 => k0_hw6.2 k0_h1

def k0_off16 (i : grid0.Coords) : Fin 2 → Nat :=
  let c3_111 : Index := 3#32
  let arg1 : BitVec 32 := BitVec.ofNat 32 (i 1).val
  let v213 : Index := Scalar.indexCast arg1
  ![3, v213.toNat]
def k0_mult7 (v214 : BitVec 32) : BitVec 32 :=
  let c1536_i32 : BitVec 32 := 1536#32
  let v215 : BitVec 32 := Scalar.addi c1536_i32 v214
  v215

def k0_off17 (v214 : BitVec 32) : Fin 2 → Nat :=
  let c1536_i32 : BitVec 32 := 1536#32
  let v215 : BitVec 32 := Scalar.addi c1536_i32 v214
  let v216 : BitVec 32 := v215
  let v217 : Index := Scalar.indexCast v216
  let c0_112 : Index := 0#32
  ![v217.toNat, 0]

def k0_chk7 (v1 : BitVec 32) (v214 : BitVec 32) : Prop :=
  (∀ (k0_h1 : k0_cond1 v1 = 1#1), 256 ∣ (k0_mult7 v214).toNat) ∧
  (∀ (k0_h1 : k0_cond1 v1 = 1#1), ∀ a, (k0_off17 v214) a + S256x128.size a ≤ S8192x128.size a)
theorem k0_mult7_dvd : ∀ (v1 : BitVec 32) (v214 : BitVec 32) (k0_hw7 : k0_chk7 v1 v214), ∀ (k0_h1 : k0_cond1 v1 = 1#1), 256 ∣ (k0_mult7 v214).toNat := fun v1 v214 k0_hw7 k0_h1 => k0_hw7.1 k0_h1
theorem k0_off17_inb : ∀ (v1 : BitVec 32) (v214 : BitVec 32) (k0_hw7 : k0_chk7 v1 v214), ∀ (k0_h1 : k0_cond1 v1 = 1#1), ∀ a, (k0_off17 v214) a + S256x128.size a ≤ S8192x128.size a := fun v1 v214 k0_hw7 k0_h1 => k0_hw7.2 k0_h1

def k0_off18 (i : grid0.Coords) : Fin 2 → Nat :=
  let c3_129 : Index := 3#32
  let arg1 : BitVec 32 := BitVec.ofNat 32 (i 1).val
  let v245 : Index := Scalar.indexCast arg1
  ![3, v245.toNat]
def k0_mult8 (v246 : BitVec 32) : BitVec 32 :=
  let c1792_i32 : BitVec 32 := 1792#32
  let v247 : BitVec 32 := Scalar.addi c1792_i32 v246
  v247

def k0_off19 (v246 : BitVec 32) : Fin 2 → Nat :=
  let c1792_i32 : BitVec 32 := 1792#32
  let v247 : BitVec 32 := Scalar.addi c1792_i32 v246
  let v248 : BitVec 32 := v247
  let v249 : Index := Scalar.indexCast v248
  let c0_130 : Index := 0#32
  ![v249.toNat, 0]

def k0_chk8 (v1 : BitVec 32) (v246 : BitVec 32) : Prop :=
  (∀ (k0_h1 : k0_cond1 v1 = 1#1), 256 ∣ (k0_mult8 v246).toNat) ∧
  (∀ (k0_h1 : k0_cond1 v1 = 1#1), ∀ a, (k0_off19 v246) a + S256x128.size a ≤ S8192x128.size a)
theorem k0_mult8_dvd : ∀ (v1 : BitVec 32) (v246 : BitVec 32) (k0_hw8 : k0_chk8 v1 v246), ∀ (k0_h1 : k0_cond1 v1 = 1#1), 256 ∣ (k0_mult8 v246).toNat := fun v1 v246 k0_hw8 k0_h1 => k0_hw8.1 k0_h1
theorem k0_off19_inb : ∀ (v1 : BitVec 32) (v246 : BitVec 32) (k0_hw8 : k0_chk8 v1 v246), ∀ (k0_h1 : k0_cond1 v1 = 1#1), ∀ a, (k0_off19 v246) a + S256x128.size a ≤ S8192x128.size a := fun v1 v246 k0_hw8 k0_h1 => k0_hw8.2 k0_h1

def k0_off20 (i : grid0.Coords) : Fin 2 → Nat :=
  let c3_148 : Index := 3#32
  let arg1 : BitVec 32 := BitVec.ofNat 32 (i 1).val
  let v281 : Index := Scalar.indexCast arg1
  ![3, v281.toNat]
def k0_mult9 (v282 : BitVec 32) : BitVec 32 :=
  let c2048_i32 : BitVec 32 := 2048#32
  let v283 : BitVec 32 := Scalar.addi c2048_i32 v282
  v283

def k0_off21 (v282 : BitVec 32) : Fin 2 → Nat :=
  let c2048_i32 : BitVec 32 := 2048#32
  let v283 : BitVec 32 := Scalar.addi c2048_i32 v282
  let v284 : BitVec 32 := v283
  let v285 : Index := Scalar.indexCast v284
  let c0_149 : Index := 0#32
  ![v285.toNat, 0]

def k0_chk9 (v1 : BitVec 32) (v282 : BitVec 32) : Prop :=
  (∀ (k0_h1 : k0_cond1 v1 = 1#1), 256 ∣ (k0_mult9 v282).toNat) ∧
  (∀ (k0_h1 : k0_cond1 v1 = 1#1), ∀ a, (k0_off21 v282) a + S256x128.size a ≤ S8192x128.size a)
theorem k0_mult9_dvd : ∀ (v1 : BitVec 32) (v282 : BitVec 32) (k0_hw9 : k0_chk9 v1 v282), ∀ (k0_h1 : k0_cond1 v1 = 1#1), 256 ∣ (k0_mult9 v282).toNat := fun v1 v282 k0_hw9 k0_h1 => k0_hw9.1 k0_h1
theorem k0_off21_inb : ∀ (v1 : BitVec 32) (v282 : BitVec 32) (k0_hw9 : k0_chk9 v1 v282), ∀ (k0_h1 : k0_cond1 v1 = 1#1), ∀ a, (k0_off21 v282) a + S256x128.size a ≤ S8192x128.size a := fun v1 v282 k0_hw9 k0_h1 => k0_hw9.2 k0_h1

def k0_off22 (i : grid0.Coords) : Fin 2 → Nat :=
  let c3_166 : Index := 3#32
  let arg1 : BitVec 32 := BitVec.ofNat 32 (i 1).val
  let v313 : Index := Scalar.indexCast arg1
  ![3, v313.toNat]
def k0_mult10 (v314 : BitVec 32) : BitVec 32 :=
  let c2304_i32 : BitVec 32 := 2304#32
  let v315 : BitVec 32 := Scalar.addi c2304_i32 v314
  v315

def k0_off23 (v314 : BitVec 32) : Fin 2 → Nat :=
  let c2304_i32 : BitVec 32 := 2304#32
  let v315 : BitVec 32 := Scalar.addi c2304_i32 v314
  let v316 : BitVec 32 := v315
  let v317 : Index := Scalar.indexCast v316
  let c0_167 : Index := 0#32
  ![v317.toNat, 0]

def k0_chk10 (v1 : BitVec 32) (v314 : BitVec 32) : Prop :=
  (∀ (k0_h1 : k0_cond1 v1 = 1#1), 256 ∣ (k0_mult10 v314).toNat) ∧
  (∀ (k0_h1 : k0_cond1 v1 = 1#1), ∀ a, (k0_off23 v314) a + S256x128.size a ≤ S8192x128.size a)
theorem k0_mult10_dvd : ∀ (v1 : BitVec 32) (v314 : BitVec 32) (k0_hw10 : k0_chk10 v1 v314), ∀ (k0_h1 : k0_cond1 v1 = 1#1), 256 ∣ (k0_mult10 v314).toNat := fun v1 v314 k0_hw10 k0_h1 => k0_hw10.1 k0_h1
theorem k0_off23_inb : ∀ (v1 : BitVec 32) (v314 : BitVec 32) (k0_hw10 : k0_chk10 v1 v314), ∀ (k0_h1 : k0_cond1 v1 = 1#1), ∀ a, (k0_off23 v314) a + S256x128.size a ≤ S8192x128.size a := fun v1 v314 k0_hw10 k0_h1 => k0_hw10.2 k0_h1

def k0_off24 (i : grid0.Coords) : Fin 2 → Nat :=
  let c3_184 : Index := 3#32
  let arg1 : BitVec 32 := BitVec.ofNat 32 (i 1).val
  let v345 : Index := Scalar.indexCast arg1
  ![3, v345.toNat]
def k0_mult11 (v346 : BitVec 32) : BitVec 32 :=
  let c2560_i32 : BitVec 32 := 2560#32
  let v347 : BitVec 32 := Scalar.addi c2560_i32 v346
  v347

def k0_off25 (v346 : BitVec 32) : Fin 2 → Nat :=
  let c2560_i32 : BitVec 32 := 2560#32
  let v347 : BitVec 32 := Scalar.addi c2560_i32 v346
  let v348 : BitVec 32 := v347
  let v349 : Index := Scalar.indexCast v348
  let c0_185 : Index := 0#32
  ![v349.toNat, 0]

def k0_chk11 (v1 : BitVec 32) (v346 : BitVec 32) : Prop :=
  (∀ (k0_h1 : k0_cond1 v1 = 1#1), 256 ∣ (k0_mult11 v346).toNat) ∧
  (∀ (k0_h1 : k0_cond1 v1 = 1#1), ∀ a, (k0_off25 v346) a + S256x128.size a ≤ S8192x128.size a)
theorem k0_mult11_dvd : ∀ (v1 : BitVec 32) (v346 : BitVec 32) (k0_hw11 : k0_chk11 v1 v346), ∀ (k0_h1 : k0_cond1 v1 = 1#1), 256 ∣ (k0_mult11 v346).toNat := fun v1 v346 k0_hw11 k0_h1 => k0_hw11.1 k0_h1
theorem k0_off25_inb : ∀ (v1 : BitVec 32) (v346 : BitVec 32) (k0_hw11 : k0_chk11 v1 v346), ∀ (k0_h1 : k0_cond1 v1 = 1#1), ∀ a, (k0_off25 v346) a + S256x128.size a ≤ S8192x128.size a := fun v1 v346 k0_hw11 k0_h1 => k0_hw11.2 k0_h1

def k0_off26 (i : grid0.Coords) : Fin 2 → Nat :=
  let c3_202 : Index := 3#32
  let arg1 : BitVec 32 := BitVec.ofNat 32 (i 1).val
  let v377 : Index := Scalar.indexCast arg1
  ![3, v377.toNat]
def k0_mult12 (v378 : BitVec 32) : BitVec 32 :=
  let c2816_i32 : BitVec 32 := 2816#32
  let v379 : BitVec 32 := Scalar.addi c2816_i32 v378
  v379

def k0_off27 (v378 : BitVec 32) : Fin 2 → Nat :=
  let c2816_i32 : BitVec 32 := 2816#32
  let v379 : BitVec 32 := Scalar.addi c2816_i32 v378
  let v380 : BitVec 32 := v379
  let v381 : Index := Scalar.indexCast v380
  let c0_203 : Index := 0#32
  ![v381.toNat, 0]

def k0_chk12 (v1 : BitVec 32) (v378 : BitVec 32) : Prop :=
  (∀ (k0_h1 : k0_cond1 v1 = 1#1), 256 ∣ (k0_mult12 v378).toNat) ∧
  (∀ (k0_h1 : k0_cond1 v1 = 1#1), ∀ a, (k0_off27 v378) a + S256x128.size a ≤ S8192x128.size a)
theorem k0_mult12_dvd : ∀ (v1 : BitVec 32) (v378 : BitVec 32) (k0_hw12 : k0_chk12 v1 v378), ∀ (k0_h1 : k0_cond1 v1 = 1#1), 256 ∣ (k0_mult12 v378).toNat := fun v1 v378 k0_hw12 k0_h1 => k0_hw12.1 k0_h1
theorem k0_off27_inb : ∀ (v1 : BitVec 32) (v378 : BitVec 32) (k0_hw12 : k0_chk12 v1 v378), ∀ (k0_h1 : k0_cond1 v1 = 1#1), ∀ a, (k0_off27 v378) a + S256x128.size a ≤ S8192x128.size a := fun v1 v378 k0_hw12 k0_h1 => k0_hw12.2 k0_h1

def k0_off28 (i : grid0.Coords) : Fin 2 → Nat :=
  let c3_221 : Index := 3#32
  let arg1 : BitVec 32 := BitVec.ofNat 32 (i 1).val
  let v413 : Index := Scalar.indexCast arg1
  ![3, v413.toNat]
def k0_mult13 (v414 : BitVec 32) : BitVec 32 :=
  let c3072_i32 : BitVec 32 := 3072#32
  let v415 : BitVec 32 := Scalar.addi c3072_i32 v414
  v415

def k0_off29 (v414 : BitVec 32) : Fin 2 → Nat :=
  let c3072_i32 : BitVec 32 := 3072#32
  let v415 : BitVec 32 := Scalar.addi c3072_i32 v414
  let v416 : BitVec 32 := v415
  let v417 : Index := Scalar.indexCast v416
  let c0_222 : Index := 0#32
  ![v417.toNat, 0]

def k0_chk13 (v1 : BitVec 32) (v414 : BitVec 32) : Prop :=
  (∀ (k0_h1 : k0_cond1 v1 = 1#1), 256 ∣ (k0_mult13 v414).toNat) ∧
  (∀ (k0_h1 : k0_cond1 v1 = 1#1), ∀ a, (k0_off29 v414) a + S256x128.size a ≤ S8192x128.size a)
theorem k0_mult13_dvd : ∀ (v1 : BitVec 32) (v414 : BitVec 32) (k0_hw13 : k0_chk13 v1 v414), ∀ (k0_h1 : k0_cond1 v1 = 1#1), 256 ∣ (k0_mult13 v414).toNat := fun v1 v414 k0_hw13 k0_h1 => k0_hw13.1 k0_h1
theorem k0_off29_inb : ∀ (v1 : BitVec 32) (v414 : BitVec 32) (k0_hw13 : k0_chk13 v1 v414), ∀ (k0_h1 : k0_cond1 v1 = 1#1), ∀ a, (k0_off29 v414) a + S256x128.size a ≤ S8192x128.size a := fun v1 v414 k0_hw13 k0_h1 => k0_hw13.2 k0_h1

def k0_off30 (i : grid0.Coords) : Fin 2 → Nat :=
  let c3_238 : Index := 3#32
  let arg1 : BitVec 32 := BitVec.ofNat 32 (i 1).val
  let v445 : Index := Scalar.indexCast arg1
  ![3, v445.toNat]
def k0_mult14 (v446 : BitVec 32) : BitVec 32 :=
  let c3328_i32 : BitVec 32 := 3328#32
  let v447 : BitVec 32 := Scalar.addi c3328_i32 v446
  v447

def k0_off31 (v446 : BitVec 32) : Fin 2 → Nat :=
  let c3328_i32 : BitVec 32 := 3328#32
  let v447 : BitVec 32 := Scalar.addi c3328_i32 v446
  let v448 : BitVec 32 := v447
  let v449 : Index := Scalar.indexCast v448
  let c0_239 : Index := 0#32
  ![v449.toNat, 0]

def k0_chk14 (v1 : BitVec 32) (v446 : BitVec 32) : Prop :=
  (∀ (k0_h1 : k0_cond1 v1 = 1#1), 256 ∣ (k0_mult14 v446).toNat) ∧
  (∀ (k0_h1 : k0_cond1 v1 = 1#1), ∀ a, (k0_off31 v446) a + S256x128.size a ≤ S8192x128.size a)
theorem k0_mult14_dvd : ∀ (v1 : BitVec 32) (v446 : BitVec 32) (k0_hw14 : k0_chk14 v1 v446), ∀ (k0_h1 : k0_cond1 v1 = 1#1), 256 ∣ (k0_mult14 v446).toNat := fun v1 v446 k0_hw14 k0_h1 => k0_hw14.1 k0_h1
theorem k0_off31_inb : ∀ (v1 : BitVec 32) (v446 : BitVec 32) (k0_hw14 : k0_chk14 v1 v446), ∀ (k0_h1 : k0_cond1 v1 = 1#1), ∀ a, (k0_off31 v446) a + S256x128.size a ≤ S8192x128.size a := fun v1 v446 k0_hw14 k0_h1 => k0_hw14.2 k0_h1

def k0_off32 (i : grid0.Coords) : Fin 2 → Nat :=
  let c3_256 : Index := 3#32
  let arg1 : BitVec 32 := BitVec.ofNat 32 (i 1).val
  let v477 : Index := Scalar.indexCast arg1
  ![3, v477.toNat]
def k0_mult15 (v478 : BitVec 32) : BitVec 32 :=
  let c3584_i32 : BitVec 32 := 3584#32
  let v479 : BitVec 32 := Scalar.addi c3584_i32 v478
  v479

def k0_off33 (v478 : BitVec 32) : Fin 2 → Nat :=
  let c3584_i32 : BitVec 32 := 3584#32
  let v479 : BitVec 32 := Scalar.addi c3584_i32 v478
  let v480 : BitVec 32 := v479
  let v481 : Index := Scalar.indexCast v480
  let c0_257 : Index := 0#32
  ![v481.toNat, 0]

def k0_chk15 (v1 : BitVec 32) (v478 : BitVec 32) : Prop :=
  (∀ (k0_h1 : k0_cond1 v1 = 1#1), 256 ∣ (k0_mult15 v478).toNat) ∧
  (∀ (k0_h1 : k0_cond1 v1 = 1#1), ∀ a, (k0_off33 v478) a + S256x128.size a ≤ S8192x128.size a)
theorem k0_mult15_dvd : ∀ (v1 : BitVec 32) (v478 : BitVec 32) (k0_hw15 : k0_chk15 v1 v478), ∀ (k0_h1 : k0_cond1 v1 = 1#1), 256 ∣ (k0_mult15 v478).toNat := fun v1 v478 k0_hw15 k0_h1 => k0_hw15.1 k0_h1
theorem k0_off33_inb : ∀ (v1 : BitVec 32) (v478 : BitVec 32) (k0_hw15 : k0_chk15 v1 v478), ∀ (k0_h1 : k0_cond1 v1 = 1#1), ∀ a, (k0_off33 v478) a + S256x128.size a ≤ S8192x128.size a := fun v1 v478 k0_hw15 k0_h1 => k0_hw15.2 k0_h1

def k0_off34 (i : grid0.Coords) : Fin 2 → Nat :=
  let c3_274 : Index := 3#32
  let arg1 : BitVec 32 := BitVec.ofNat 32 (i 1).val
  let v509 : Index := Scalar.indexCast arg1
  ![3, v509.toNat]
def k0_mult16 (v510 : BitVec 32) : BitVec 32 :=
  let c3840_i32 : BitVec 32 := 3840#32
  let v511 : BitVec 32 := Scalar.addi c3840_i32 v510
  v511

def k0_off35 (v510 : BitVec 32) : Fin 2 → Nat :=
  let c3840_i32 : BitVec 32 := 3840#32
  let v511 : BitVec 32 := Scalar.addi c3840_i32 v510
  let v512 : BitVec 32 := v511
  let v513 : Index := Scalar.indexCast v512
  let c0_275 : Index := 0#32
  ![v513.toNat, 0]

def k0_chk16 (v1 : BitVec 32) (v510 : BitVec 32) : Prop :=
  (∀ (k0_h1 : k0_cond1 v1 = 1#1), 256 ∣ (k0_mult16 v510).toNat) ∧
  (∀ (k0_h1 : k0_cond1 v1 = 1#1), ∀ a, (k0_off35 v510) a + S256x128.size a ≤ S8192x128.size a)
theorem k0_mult16_dvd : ∀ (v1 : BitVec 32) (v510 : BitVec 32) (k0_hw16 : k0_chk16 v1 v510), ∀ (k0_h1 : k0_cond1 v1 = 1#1), 256 ∣ (k0_mult16 v510).toNat := fun v1 v510 k0_hw16 k0_h1 => k0_hw16.1 k0_h1
theorem k0_off35_inb : ∀ (v1 : BitVec 32) (v510 : BitVec 32) (k0_hw16 : k0_chk16 v1 v510), ∀ (k0_h1 : k0_cond1 v1 = 1#1), ∀ a, (k0_off35 v510) a + S256x128.size a ≤ S8192x128.size a := fun v1 v510 k0_hw16 k0_h1 => k0_hw16.2 k0_h1

def k0_off36 (i : grid0.Coords) : Fin 2 → Nat :=
  let c3_293 : Index := 3#32
  let arg1 : BitVec 32 := BitVec.ofNat 32 (i 1).val
  let v545 : Index := Scalar.indexCast arg1
  ![3, v545.toNat]
def k0_mult17 (v546 : BitVec 32) : BitVec 32 :=
  let c4096_i32 : BitVec 32 := 4096#32
  let v547 : BitVec 32 := Scalar.addi c4096_i32 v546
  v547

def k0_off37 (v546 : BitVec 32) : Fin 2 → Nat :=
  let c4096_i32 : BitVec 32 := 4096#32
  let v547 : BitVec 32 := Scalar.addi c4096_i32 v546
  let v548 : BitVec 32 := v547
  let v549 : Index := Scalar.indexCast v548
  let c0_294 : Index := 0#32
  ![v549.toNat, 0]

def k0_chk17 (v1 : BitVec 32) (v546 : BitVec 32) : Prop :=
  (∀ (k0_h1 : k0_cond1 v1 = 1#1), 256 ∣ (k0_mult17 v546).toNat) ∧
  (∀ (k0_h1 : k0_cond1 v1 = 1#1), ∀ a, (k0_off37 v546) a + S256x128.size a ≤ S8192x128.size a)
theorem k0_mult17_dvd : ∀ (v1 : BitVec 32) (v546 : BitVec 32) (k0_hw17 : k0_chk17 v1 v546), ∀ (k0_h1 : k0_cond1 v1 = 1#1), 256 ∣ (k0_mult17 v546).toNat := fun v1 v546 k0_hw17 k0_h1 => k0_hw17.1 k0_h1
theorem k0_off37_inb : ∀ (v1 : BitVec 32) (v546 : BitVec 32) (k0_hw17 : k0_chk17 v1 v546), ∀ (k0_h1 : k0_cond1 v1 = 1#1), ∀ a, (k0_off37 v546) a + S256x128.size a ≤ S8192x128.size a := fun v1 v546 k0_hw17 k0_h1 => k0_hw17.2 k0_h1

def k0_off38 (i : grid0.Coords) : Fin 2 → Nat :=
  let c3_310 : Index := 3#32
  let arg1 : BitVec 32 := BitVec.ofNat 32 (i 1).val
  let v577 : Index := Scalar.indexCast arg1
  ![3, v577.toNat]
def k0_mult18 (v578 : BitVec 32) : BitVec 32 :=
  let c4352_i32 : BitVec 32 := 4352#32
  let v579 : BitVec 32 := Scalar.addi c4352_i32 v578
  v579

def k0_off39 (v578 : BitVec 32) : Fin 2 → Nat :=
  let c4352_i32 : BitVec 32 := 4352#32
  let v579 : BitVec 32 := Scalar.addi c4352_i32 v578
  let v580 : BitVec 32 := v579
  let v581 : Index := Scalar.indexCast v580
  let c0_311 : Index := 0#32
  ![v581.toNat, 0]

def k0_chk18 (v1 : BitVec 32) (v578 : BitVec 32) : Prop :=
  (∀ (k0_h1 : k0_cond1 v1 = 1#1), 256 ∣ (k0_mult18 v578).toNat) ∧
  (∀ (k0_h1 : k0_cond1 v1 = 1#1), ∀ a, (k0_off39 v578) a + S256x128.size a ≤ S8192x128.size a)
theorem k0_mult18_dvd : ∀ (v1 : BitVec 32) (v578 : BitVec 32) (k0_hw18 : k0_chk18 v1 v578), ∀ (k0_h1 : k0_cond1 v1 = 1#1), 256 ∣ (k0_mult18 v578).toNat := fun v1 v578 k0_hw18 k0_h1 => k0_hw18.1 k0_h1
theorem k0_off39_inb : ∀ (v1 : BitVec 32) (v578 : BitVec 32) (k0_hw18 : k0_chk18 v1 v578), ∀ (k0_h1 : k0_cond1 v1 = 1#1), ∀ a, (k0_off39 v578) a + S256x128.size a ≤ S8192x128.size a := fun v1 v578 k0_hw18 k0_h1 => k0_hw18.2 k0_h1

def k0_off40 (i : grid0.Coords) : Fin 2 → Nat :=
  let c3_328 : Index := 3#32
  let arg1 : BitVec 32 := BitVec.ofNat 32 (i 1).val
  let v609 : Index := Scalar.indexCast arg1
  ![3, v609.toNat]
def k0_mult19 (v610 : BitVec 32) : BitVec 32 :=
  let c4608_i32 : BitVec 32 := 4608#32
  let v611 : BitVec 32 := Scalar.addi c4608_i32 v610
  v611

def k0_off41 (v610 : BitVec 32) : Fin 2 → Nat :=
  let c4608_i32 : BitVec 32 := 4608#32
  let v611 : BitVec 32 := Scalar.addi c4608_i32 v610
  let v612 : BitVec 32 := v611
  let v613 : Index := Scalar.indexCast v612
  let c0_329 : Index := 0#32
  ![v613.toNat, 0]

def k0_chk19 (v1 : BitVec 32) (v610 : BitVec 32) : Prop :=
  (∀ (k0_h1 : k0_cond1 v1 = 1#1), 256 ∣ (k0_mult19 v610).toNat) ∧
  (∀ (k0_h1 : k0_cond1 v1 = 1#1), ∀ a, (k0_off41 v610) a + S256x128.size a ≤ S8192x128.size a)
theorem k0_mult19_dvd : ∀ (v1 : BitVec 32) (v610 : BitVec 32) (k0_hw19 : k0_chk19 v1 v610), ∀ (k0_h1 : k0_cond1 v1 = 1#1), 256 ∣ (k0_mult19 v610).toNat := fun v1 v610 k0_hw19 k0_h1 => k0_hw19.1 k0_h1
theorem k0_off41_inb : ∀ (v1 : BitVec 32) (v610 : BitVec 32) (k0_hw19 : k0_chk19 v1 v610), ∀ (k0_h1 : k0_cond1 v1 = 1#1), ∀ a, (k0_off41 v610) a + S256x128.size a ≤ S8192x128.size a := fun v1 v610 k0_hw19 k0_h1 => k0_hw19.2 k0_h1

def k0_off42 (i : grid0.Coords) : Fin 2 → Nat :=
  let c3_346 : Index := 3#32
  let arg1 : BitVec 32 := BitVec.ofNat 32 (i 1).val
  let v641 : Index := Scalar.indexCast arg1
  ![3, v641.toNat]
def k0_mult20 (v642 : BitVec 32) : BitVec 32 :=
  let c4864_i32 : BitVec 32 := 4864#32
  let v643 : BitVec 32 := Scalar.addi c4864_i32 v642
  v643

def k0_off43 (v642 : BitVec 32) : Fin 2 → Nat :=
  let c4864_i32 : BitVec 32 := 4864#32
  let v643 : BitVec 32 := Scalar.addi c4864_i32 v642
  let v644 : BitVec 32 := v643
  let v645 : Index := Scalar.indexCast v644
  let c0_347 : Index := 0#32
  ![v645.toNat, 0]

def k0_chk20 (v1 : BitVec 32) (v642 : BitVec 32) : Prop :=
  (∀ (k0_h1 : k0_cond1 v1 = 1#1), 256 ∣ (k0_mult20 v642).toNat) ∧
  (∀ (k0_h1 : k0_cond1 v1 = 1#1), ∀ a, (k0_off43 v642) a + S256x128.size a ≤ S8192x128.size a)
theorem k0_mult20_dvd : ∀ (v1 : BitVec 32) (v642 : BitVec 32) (k0_hw20 : k0_chk20 v1 v642), ∀ (k0_h1 : k0_cond1 v1 = 1#1), 256 ∣ (k0_mult20 v642).toNat := fun v1 v642 k0_hw20 k0_h1 => k0_hw20.1 k0_h1
theorem k0_off43_inb : ∀ (v1 : BitVec 32) (v642 : BitVec 32) (k0_hw20 : k0_chk20 v1 v642), ∀ (k0_h1 : k0_cond1 v1 = 1#1), ∀ a, (k0_off43 v642) a + S256x128.size a ≤ S8192x128.size a := fun v1 v642 k0_hw20 k0_h1 => k0_hw20.2 k0_h1

def k0_off44 (i : grid0.Coords) : Fin 2 → Nat :=
  let c3_365 : Index := 3#32
  let arg1 : BitVec 32 := BitVec.ofNat 32 (i 1).val
  let v677 : Index := Scalar.indexCast arg1
  ![3, v677.toNat]
def k0_mult21 (v678 : BitVec 32) : BitVec 32 :=
  let c5120_i32 : BitVec 32 := 5120#32
  let v679 : BitVec 32 := Scalar.addi c5120_i32 v678
  v679

def k0_off45 (v678 : BitVec 32) : Fin 2 → Nat :=
  let c5120_i32 : BitVec 32 := 5120#32
  let v679 : BitVec 32 := Scalar.addi c5120_i32 v678
  let v680 : BitVec 32 := v679
  let v681 : Index := Scalar.indexCast v680
  let c0_366 : Index := 0#32
  ![v681.toNat, 0]

def k0_chk21 (v1 : BitVec 32) (v678 : BitVec 32) : Prop :=
  (∀ (k0_h1 : k0_cond1 v1 = 1#1), 256 ∣ (k0_mult21 v678).toNat) ∧
  (∀ (k0_h1 : k0_cond1 v1 = 1#1), ∀ a, (k0_off45 v678) a + S256x128.size a ≤ S8192x128.size a)
theorem k0_mult21_dvd : ∀ (v1 : BitVec 32) (v678 : BitVec 32) (k0_hw21 : k0_chk21 v1 v678), ∀ (k0_h1 : k0_cond1 v1 = 1#1), 256 ∣ (k0_mult21 v678).toNat := fun v1 v678 k0_hw21 k0_h1 => k0_hw21.1 k0_h1
theorem k0_off45_inb : ∀ (v1 : BitVec 32) (v678 : BitVec 32) (k0_hw21 : k0_chk21 v1 v678), ∀ (k0_h1 : k0_cond1 v1 = 1#1), ∀ a, (k0_off45 v678) a + S256x128.size a ≤ S8192x128.size a := fun v1 v678 k0_hw21 k0_h1 => k0_hw21.2 k0_h1

def k0_off46 (i : grid0.Coords) : Fin 2 → Nat :=
  let c3_381 : Index := 3#32
  let arg1 : BitVec 32 := BitVec.ofNat 32 (i 1).val
  let v709 : Index := Scalar.indexCast arg1
  ![3, v709.toNat]
def k0_mult22 (v710 : BitVec 32) : BitVec 32 :=
  let c5376_i32 : BitVec 32 := 5376#32
  let v711 : BitVec 32 := Scalar.addi c5376_i32 v710
  v711

def k0_off47 (v710 : BitVec 32) : Fin 2 → Nat :=
  let c5376_i32 : BitVec 32 := 5376#32
  let v711 : BitVec 32 := Scalar.addi c5376_i32 v710
  let v712 : BitVec 32 := v711
  let v713 : Index := Scalar.indexCast v712
  let c0_382 : Index := 0#32
  ![v713.toNat, 0]

def k0_chk22 (v1 : BitVec 32) (v710 : BitVec 32) : Prop :=
  (∀ (k0_h1 : k0_cond1 v1 = 1#1), 256 ∣ (k0_mult22 v710).toNat) ∧
  (∀ (k0_h1 : k0_cond1 v1 = 1#1), ∀ a, (k0_off47 v710) a + S256x128.size a ≤ S8192x128.size a)
theorem k0_mult22_dvd : ∀ (v1 : BitVec 32) (v710 : BitVec 32) (k0_hw22 : k0_chk22 v1 v710), ∀ (k0_h1 : k0_cond1 v1 = 1#1), 256 ∣ (k0_mult22 v710).toNat := fun v1 v710 k0_hw22 k0_h1 => k0_hw22.1 k0_h1
theorem k0_off47_inb : ∀ (v1 : BitVec 32) (v710 : BitVec 32) (k0_hw22 : k0_chk22 v1 v710), ∀ (k0_h1 : k0_cond1 v1 = 1#1), ∀ a, (k0_off47 v710) a + S256x128.size a ≤ S8192x128.size a := fun v1 v710 k0_hw22 k0_h1 => k0_hw22.2 k0_h1

def k0_off48 (i : grid0.Coords) : Fin 2 → Nat :=
  let c3_399 : Index := 3#32
  let arg1 : BitVec 32 := BitVec.ofNat 32 (i 1).val
  let v741 : Index := Scalar.indexCast arg1
  ![3, v741.toNat]
def k0_mult23 (v742 : BitVec 32) : BitVec 32 :=
  let c5632_i32 : BitVec 32 := 5632#32
  let v743 : BitVec 32 := Scalar.addi c5632_i32 v742
  v743

def k0_off49 (v742 : BitVec 32) : Fin 2 → Nat :=
  let c5632_i32 : BitVec 32 := 5632#32
  let v743 : BitVec 32 := Scalar.addi c5632_i32 v742
  let v744 : BitVec 32 := v743
  let v745 : Index := Scalar.indexCast v744
  let c0_400 : Index := 0#32
  ![v745.toNat, 0]

def k0_chk23 (v1 : BitVec 32) (v742 : BitVec 32) : Prop :=
  (∀ (k0_h1 : k0_cond1 v1 = 1#1), 256 ∣ (k0_mult23 v742).toNat) ∧
  (∀ (k0_h1 : k0_cond1 v1 = 1#1), ∀ a, (k0_off49 v742) a + S256x128.size a ≤ S8192x128.size a)
theorem k0_mult23_dvd : ∀ (v1 : BitVec 32) (v742 : BitVec 32) (k0_hw23 : k0_chk23 v1 v742), ∀ (k0_h1 : k0_cond1 v1 = 1#1), 256 ∣ (k0_mult23 v742).toNat := fun v1 v742 k0_hw23 k0_h1 => k0_hw23.1 k0_h1
theorem k0_off49_inb : ∀ (v1 : BitVec 32) (v742 : BitVec 32) (k0_hw23 : k0_chk23 v1 v742), ∀ (k0_h1 : k0_cond1 v1 = 1#1), ∀ a, (k0_off49 v742) a + S256x128.size a ≤ S8192x128.size a := fun v1 v742 k0_hw23 k0_h1 => k0_hw23.2 k0_h1

def k0_off50 (i : grid0.Coords) : Fin 2 → Nat :=
  let c3_417 : Index := 3#32
  let arg1 : BitVec 32 := BitVec.ofNat 32 (i 1).val
  let v773 : Index := Scalar.indexCast arg1
  ![3, v773.toNat]
def k0_mult24 (v774 : BitVec 32) : BitVec 32 :=
  let c5888_i32 : BitVec 32 := 5888#32
  let v775 : BitVec 32 := Scalar.addi c5888_i32 v774
  v775

def k0_off51 (v774 : BitVec 32) : Fin 2 → Nat :=
  let c5888_i32 : BitVec 32 := 5888#32
  let v775 : BitVec 32 := Scalar.addi c5888_i32 v774
  let v776 : BitVec 32 := v775
  let v777 : Index := Scalar.indexCast v776
  let c0_418 : Index := 0#32
  ![v777.toNat, 0]

def k0_chk24 (v1 : BitVec 32) (v774 : BitVec 32) : Prop :=
  (∀ (k0_h1 : k0_cond1 v1 = 1#1), 256 ∣ (k0_mult24 v774).toNat) ∧
  (∀ (k0_h1 : k0_cond1 v1 = 1#1), ∀ a, (k0_off51 v774) a + S256x128.size a ≤ S8192x128.size a)
theorem k0_mult24_dvd : ∀ (v1 : BitVec 32) (v774 : BitVec 32) (k0_hw24 : k0_chk24 v1 v774), ∀ (k0_h1 : k0_cond1 v1 = 1#1), 256 ∣ (k0_mult24 v774).toNat := fun v1 v774 k0_hw24 k0_h1 => k0_hw24.1 k0_h1
theorem k0_off51_inb : ∀ (v1 : BitVec 32) (v774 : BitVec 32) (k0_hw24 : k0_chk24 v1 v774), ∀ (k0_h1 : k0_cond1 v1 = 1#1), ∀ a, (k0_off51 v774) a + S256x128.size a ≤ S8192x128.size a := fun v1 v774 k0_hw24 k0_h1 => k0_hw24.2 k0_h1

def k0_off52 (i : grid0.Coords) : Fin 2 → Nat :=
  let c3_436 : Index := 3#32
  let arg1 : BitVec 32 := BitVec.ofNat 32 (i 1).val
  let v809 : Index := Scalar.indexCast arg1
  ![3, v809.toNat]
def k0_mult25 (v810 : BitVec 32) : BitVec 32 :=
  let c6144_i32 : BitVec 32 := 6144#32
  let v811 : BitVec 32 := Scalar.addi c6144_i32 v810
  v811

def k0_off53 (v810 : BitVec 32) : Fin 2 → Nat :=
  let c6144_i32 : BitVec 32 := 6144#32
  let v811 : BitVec 32 := Scalar.addi c6144_i32 v810
  let v812 : BitVec 32 := v811
  let v813 : Index := Scalar.indexCast v812
  let c0_437 : Index := 0#32
  ![v813.toNat, 0]

def k0_chk25 (v1 : BitVec 32) (v810 : BitVec 32) : Prop :=
  (∀ (k0_h1 : k0_cond1 v1 = 1#1), 256 ∣ (k0_mult25 v810).toNat) ∧
  (∀ (k0_h1 : k0_cond1 v1 = 1#1), ∀ a, (k0_off53 v810) a + S256x128.size a ≤ S8192x128.size a)
theorem k0_mult25_dvd : ∀ (v1 : BitVec 32) (v810 : BitVec 32) (k0_hw25 : k0_chk25 v1 v810), ∀ (k0_h1 : k0_cond1 v1 = 1#1), 256 ∣ (k0_mult25 v810).toNat := fun v1 v810 k0_hw25 k0_h1 => k0_hw25.1 k0_h1
theorem k0_off53_inb : ∀ (v1 : BitVec 32) (v810 : BitVec 32) (k0_hw25 : k0_chk25 v1 v810), ∀ (k0_h1 : k0_cond1 v1 = 1#1), ∀ a, (k0_off53 v810) a + S256x128.size a ≤ S8192x128.size a := fun v1 v810 k0_hw25 k0_h1 => k0_hw25.2 k0_h1

def k0_off54 (i : grid0.Coords) : Fin 2 → Nat :=
  let c3_453 : Index := 3#32
  let arg1 : BitVec 32 := BitVec.ofNat 32 (i 1).val
  let v841 : Index := Scalar.indexCast arg1
  ![3, v841.toNat]
def k0_mult26 (v842 : BitVec 32) : BitVec 32 :=
  let c6400_i32 : BitVec 32 := 6400#32
  let v843 : BitVec 32 := Scalar.addi c6400_i32 v842
  v843

def k0_off55 (v842 : BitVec 32) : Fin 2 → Nat :=
  let c6400_i32 : BitVec 32 := 6400#32
  let v843 : BitVec 32 := Scalar.addi c6400_i32 v842
  let v844 : BitVec 32 := v843
  let v845 : Index := Scalar.indexCast v844
  let c0_454 : Index := 0#32
  ![v845.toNat, 0]

def k0_chk26 (v1 : BitVec 32) (v842 : BitVec 32) : Prop :=
  (∀ (k0_h1 : k0_cond1 v1 = 1#1), 256 ∣ (k0_mult26 v842).toNat) ∧
  (∀ (k0_h1 : k0_cond1 v1 = 1#1), ∀ a, (k0_off55 v842) a + S256x128.size a ≤ S8192x128.size a)
theorem k0_mult26_dvd : ∀ (v1 : BitVec 32) (v842 : BitVec 32) (k0_hw26 : k0_chk26 v1 v842), ∀ (k0_h1 : k0_cond1 v1 = 1#1), 256 ∣ (k0_mult26 v842).toNat := fun v1 v842 k0_hw26 k0_h1 => k0_hw26.1 k0_h1
theorem k0_off55_inb : ∀ (v1 : BitVec 32) (v842 : BitVec 32) (k0_hw26 : k0_chk26 v1 v842), ∀ (k0_h1 : k0_cond1 v1 = 1#1), ∀ a, (k0_off55 v842) a + S256x128.size a ≤ S8192x128.size a := fun v1 v842 k0_hw26 k0_h1 => k0_hw26.2 k0_h1

def k0_off56 (i : grid0.Coords) : Fin 2 → Nat :=
  let c3_471 : Index := 3#32
  let arg1 : BitVec 32 := BitVec.ofNat 32 (i 1).val
  let v873 : Index := Scalar.indexCast arg1
  ![3, v873.toNat]
def k0_mult27 (v874 : BitVec 32) : BitVec 32 :=
  let c6656_i32 : BitVec 32 := 6656#32
  let v875 : BitVec 32 := Scalar.addi c6656_i32 v874
  v875

def k0_off57 (v874 : BitVec 32) : Fin 2 → Nat :=
  let c6656_i32 : BitVec 32 := 6656#32
  let v875 : BitVec 32 := Scalar.addi c6656_i32 v874
  let v876 : BitVec 32 := v875
  let v877 : Index := Scalar.indexCast v876
  let c0_472 : Index := 0#32
  ![v877.toNat, 0]

def k0_chk27 (v1 : BitVec 32) (v874 : BitVec 32) : Prop :=
  (∀ (k0_h1 : k0_cond1 v1 = 1#1), 256 ∣ (k0_mult27 v874).toNat) ∧
  (∀ (k0_h1 : k0_cond1 v1 = 1#1), ∀ a, (k0_off57 v874) a + S256x128.size a ≤ S8192x128.size a)
theorem k0_mult27_dvd : ∀ (v1 : BitVec 32) (v874 : BitVec 32) (k0_hw27 : k0_chk27 v1 v874), ∀ (k0_h1 : k0_cond1 v1 = 1#1), 256 ∣ (k0_mult27 v874).toNat := fun v1 v874 k0_hw27 k0_h1 => k0_hw27.1 k0_h1
theorem k0_off57_inb : ∀ (v1 : BitVec 32) (v874 : BitVec 32) (k0_hw27 : k0_chk27 v1 v874), ∀ (k0_h1 : k0_cond1 v1 = 1#1), ∀ a, (k0_off57 v874) a + S256x128.size a ≤ S8192x128.size a := fun v1 v874 k0_hw27 k0_h1 => k0_hw27.2 k0_h1

def k0_off58 (i : grid0.Coords) : Fin 2 → Nat :=
  let c3_489 : Index := 3#32
  let arg1 : BitVec 32 := BitVec.ofNat 32 (i 1).val
  let v905 : Index := Scalar.indexCast arg1
  ![3, v905.toNat]
def k0_mult28 (v906 : BitVec 32) : BitVec 32 :=
  let c6912_i32 : BitVec 32 := 6912#32
  let v907 : BitVec 32 := Scalar.addi c6912_i32 v906
  v907

def k0_off59 (v906 : BitVec 32) : Fin 2 → Nat :=
  let c6912_i32 : BitVec 32 := 6912#32
  let v907 : BitVec 32 := Scalar.addi c6912_i32 v906
  let v908 : BitVec 32 := v907
  let v909 : Index := Scalar.indexCast v908
  let c0_490 : Index := 0#32
  ![v909.toNat, 0]

def k0_chk28 (v1 : BitVec 32) (v906 : BitVec 32) : Prop :=
  (∀ (k0_h1 : k0_cond1 v1 = 1#1), 256 ∣ (k0_mult28 v906).toNat) ∧
  (∀ (k0_h1 : k0_cond1 v1 = 1#1), ∀ a, (k0_off59 v906) a + S256x128.size a ≤ S8192x128.size a)
theorem k0_mult28_dvd : ∀ (v1 : BitVec 32) (v906 : BitVec 32) (k0_hw28 : k0_chk28 v1 v906), ∀ (k0_h1 : k0_cond1 v1 = 1#1), 256 ∣ (k0_mult28 v906).toNat := fun v1 v906 k0_hw28 k0_h1 => k0_hw28.1 k0_h1
theorem k0_off59_inb : ∀ (v1 : BitVec 32) (v906 : BitVec 32) (k0_hw28 : k0_chk28 v1 v906), ∀ (k0_h1 : k0_cond1 v1 = 1#1), ∀ a, (k0_off59 v906) a + S256x128.size a ≤ S8192x128.size a := fun v1 v906 k0_hw28 k0_h1 => k0_hw28.2 k0_h1

def k0_off60 (i : grid0.Coords) : Fin 2 → Nat :=
  let c3_508 : Index := 3#32
  let arg1 : BitVec 32 := BitVec.ofNat 32 (i 1).val
  let v941 : Index := Scalar.indexCast arg1
  ![3, v941.toNat]
def k0_mult29 (v942 : BitVec 32) : BitVec 32 :=
  let c7168_i32 : BitVec 32 := 7168#32
  let v943 : BitVec 32 := Scalar.addi c7168_i32 v942
  v943

def k0_off61 (v942 : BitVec 32) : Fin 2 → Nat :=
  let c7168_i32 : BitVec 32 := 7168#32
  let v943 : BitVec 32 := Scalar.addi c7168_i32 v942
  let v944 : BitVec 32 := v943
  let v945 : Index := Scalar.indexCast v944
  let c0_509 : Index := 0#32
  ![v945.toNat, 0]

def k0_chk29 (v1 : BitVec 32) (v942 : BitVec 32) : Prop :=
  (∀ (k0_h1 : k0_cond1 v1 = 1#1), 256 ∣ (k0_mult29 v942).toNat) ∧
  (∀ (k0_h1 : k0_cond1 v1 = 1#1), ∀ a, (k0_off61 v942) a + S256x128.size a ≤ S8192x128.size a)
theorem k0_mult29_dvd : ∀ (v1 : BitVec 32) (v942 : BitVec 32) (k0_hw29 : k0_chk29 v1 v942), ∀ (k0_h1 : k0_cond1 v1 = 1#1), 256 ∣ (k0_mult29 v942).toNat := fun v1 v942 k0_hw29 k0_h1 => k0_hw29.1 k0_h1
theorem k0_off61_inb : ∀ (v1 : BitVec 32) (v942 : BitVec 32) (k0_hw29 : k0_chk29 v1 v942), ∀ (k0_h1 : k0_cond1 v1 = 1#1), ∀ a, (k0_off61 v942) a + S256x128.size a ≤ S8192x128.size a := fun v1 v942 k0_hw29 k0_h1 => k0_hw29.2 k0_h1

def k0_off62 (i : grid0.Coords) : Fin 2 → Nat :=
  let c3_524 : Index := 3#32
  let arg1 : BitVec 32 := BitVec.ofNat 32 (i 1).val
  let v973 : Index := Scalar.indexCast arg1
  ![3, v973.toNat]
def k0_mult30 (v974 : BitVec 32) : BitVec 32 :=
  let c7424_i32 : BitVec 32 := 7424#32
  let v975 : BitVec 32 := Scalar.addi c7424_i32 v974
  v975

def k0_off63 (v974 : BitVec 32) : Fin 2 → Nat :=
  let c7424_i32 : BitVec 32 := 7424#32
  let v975 : BitVec 32 := Scalar.addi c7424_i32 v974
  let v976 : BitVec 32 := v975
  let v977 : Index := Scalar.indexCast v976
  let c0_525 : Index := 0#32
  ![v977.toNat, 0]

def k0_chk30 (v1 : BitVec 32) (v974 : BitVec 32) : Prop :=
  (∀ (k0_h1 : k0_cond1 v1 = 1#1), 256 ∣ (k0_mult30 v974).toNat) ∧
  (∀ (k0_h1 : k0_cond1 v1 = 1#1), ∀ a, (k0_off63 v974) a + S256x128.size a ≤ S8192x128.size a)
theorem k0_mult30_dvd : ∀ (v1 : BitVec 32) (v974 : BitVec 32) (k0_hw30 : k0_chk30 v1 v974), ∀ (k0_h1 : k0_cond1 v1 = 1#1), 256 ∣ (k0_mult30 v974).toNat := fun v1 v974 k0_hw30 k0_h1 => k0_hw30.1 k0_h1
theorem k0_off63_inb : ∀ (v1 : BitVec 32) (v974 : BitVec 32) (k0_hw30 : k0_chk30 v1 v974), ∀ (k0_h1 : k0_cond1 v1 = 1#1), ∀ a, (k0_off63 v974) a + S256x128.size a ≤ S8192x128.size a := fun v1 v974 k0_hw30 k0_h1 => k0_hw30.2 k0_h1

def k0_off64 (i : grid0.Coords) : Fin 2 → Nat :=
  let c3_542 : Index := 3#32
  let arg1 : BitVec 32 := BitVec.ofNat 32 (i 1).val
  let v1005 : Index := Scalar.indexCast arg1
  ![3, v1005.toNat]
def k0_mult31 (v1006 : BitVec 32) : BitVec 32 :=
  let c7680_i32 : BitVec 32 := 7680#32
  let v1007 : BitVec 32 := Scalar.addi c7680_i32 v1006
  v1007

def k0_off65 (v1006 : BitVec 32) : Fin 2 → Nat :=
  let c7680_i32 : BitVec 32 := 7680#32
  let v1007 : BitVec 32 := Scalar.addi c7680_i32 v1006
  let v1008 : BitVec 32 := v1007
  let v1009 : Index := Scalar.indexCast v1008
  let c0_543 : Index := 0#32
  ![v1009.toNat, 0]

def k0_chk31 (v1 : BitVec 32) (v1006 : BitVec 32) : Prop :=
  (∀ (k0_h1 : k0_cond1 v1 = 1#1), 256 ∣ (k0_mult31 v1006).toNat) ∧
  (∀ (k0_h1 : k0_cond1 v1 = 1#1), ∀ a, (k0_off65 v1006) a + S256x128.size a ≤ S8192x128.size a)
theorem k0_mult31_dvd : ∀ (v1 : BitVec 32) (v1006 : BitVec 32) (k0_hw31 : k0_chk31 v1 v1006), ∀ (k0_h1 : k0_cond1 v1 = 1#1), 256 ∣ (k0_mult31 v1006).toNat := fun v1 v1006 k0_hw31 k0_h1 => k0_hw31.1 k0_h1
theorem k0_off65_inb : ∀ (v1 : BitVec 32) (v1006 : BitVec 32) (k0_hw31 : k0_chk31 v1 v1006), ∀ (k0_h1 : k0_cond1 v1 = 1#1), ∀ a, (k0_off65 v1006) a + S256x128.size a ≤ S8192x128.size a := fun v1 v1006 k0_hw31 k0_h1 => k0_hw31.2 k0_h1

def k0_off66 (i : grid0.Coords) : Fin 2 → Nat :=
  let c3_560 : Index := 3#32
  let arg1 : BitVec 32 := BitVec.ofNat 32 (i 1).val
  let v1037 : Index := Scalar.indexCast arg1
  ![3, v1037.toNat]
def k0_mult32 (v1038 : BitVec 32) : BitVec 32 :=
  let c7936_i32 : BitVec 32 := 7936#32
  let v1039 : BitVec 32 := Scalar.addi c7936_i32 v1038
  v1039

def k0_off67 (v1038 : BitVec 32) : Fin 2 → Nat :=
  let c7936_i32 : BitVec 32 := 7936#32
  let v1039 : BitVec 32 := Scalar.addi c7936_i32 v1038
  let v1040 : BitVec 32 := v1039
  let v1041 : Index := Scalar.indexCast v1040
  let c0_561 : Index := 0#32
  ![v1041.toNat, 0]

def k0_chk32 (v1 : BitVec 32) (v1038 : BitVec 32) : Prop :=
  (∀ (k0_h1 : k0_cond1 v1 = 1#1), 256 ∣ (k0_mult32 v1038).toNat) ∧
  (∀ (k0_h1 : k0_cond1 v1 = 1#1), ∀ a, (k0_off67 v1038) a + S256x128.size a ≤ S8192x128.size a)
theorem k0_mult32_dvd : ∀ (v1 : BitVec 32) (v1038 : BitVec 32) (k0_hw32 : k0_chk32 v1 v1038), ∀ (k0_h1 : k0_cond1 v1 = 1#1), 256 ∣ (k0_mult32 v1038).toNat := fun v1 v1038 k0_hw32 k0_h1 => k0_hw32.1 k0_h1
theorem k0_off67_inb : ∀ (v1 : BitVec 32) (v1038 : BitVec 32) (k0_hw32 : k0_chk32 v1 v1038), ∀ (k0_h1 : k0_cond1 v1 = 1#1), ∀ a, (k0_off67 v1038) a + S256x128.size a ≤ S8192x128.size a := fun v1 v1038 k0_hw32 k0_h1 => k0_hw32.2 k0_h1

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1x1.size a ≤ S4x2.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : Index := Scalar.indexCast arg1
  let v1 : BitVec 32 := pf.at 0 (Rect.unit (s := S4x2) ![0, v0.toNat] S1x1.size (k0_off1_inb i)) numel1_S1x1
  let c0_i32 : BitVec 32 := 0#32
  let c0_i32_0 : BitVec 32 := 0#32
  ![v1.toNat, c0_i32.toNat]

def cc0_transform_2 (k0_off1_inb : ∀ i : grid0.Coords, ∀ a, (k0_off1 i) a + S1x1.size a ≤ S4x2.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : Index := Scalar.indexCast arg1
  let v1 : BitVec 32 := pf.at 0 (Rect.unit (s := S4x2) ![0, v0.toNat] S1x1.size (k0_off1_inb i)) numel1_S1x1
  let c0_i32 : BitVec 32 := 0#32
  let c0_i32_0 : BitVec 32 := 0#32
  ![c0_i32.toNat, v1.toNat]

def cc0_transform_3 (k0_off1_inb : ∀ i : grid0.Coords, ∀ a, (k0_off1 i) a + S1x1.size a ≤ S4x2.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : Index := Scalar.indexCast arg1
  let v1 : BitVec 32 := pf.at 0 (Rect.unit (s := S4x2) ![0, v0.toNat] S1x1.size (k0_off1_inb i)) numel1_S1x1
  let c0_i32 : BitVec 32 := 0#32
  let c0_i32_0 : BitVec 32 := 0#32
  ![c0_i32.toNat, v1.toNat]

def cc0_transform_4 (k0_off1_inb : ∀ i : grid0.Coords, ∀ a, (k0_off1 i) a + S1x1.size a ≤ S4x2.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : Index := Scalar.indexCast arg1
  let v1 : BitVec 32 := pf.at 0 (Rect.unit (s := S4x2) ![0, v0.toNat] S1x1.size (k0_off1_inb i)) numel1_S1x1
  let c0_i32 : BitVec 32 := 0#32
  let c0_i32_0 : BitVec 32 := 0#32
  ![c0_i32.toNat, v1.toNat]

def cc0_transform_5 (k0_off2_inb : ∀ i : grid0.Coords, ∀ a, (k0_off2 i) a + S1x1.size a ≤ S4x2.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c1 : Index := 1#32
  let v0 : Index := Scalar.indexCast arg1
  let v1 : BitVec 32 := pf.at 0 (Rect.unit (s := S4x2) ![1, v0.toNat] S1x1.size (k0_off2_inb i)) numel1_S1x1
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi arg0 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let c0_i32_3 : BitVec 32 := 0#32
  let c0_i32_4 : BitVec 32 := 0#32
  ![v1.toNat, v11.toNat, c0_i32_3.toNat]

def cc0_transform_6 (k0_off2_inb : ∀ i : grid0.Coords, ∀ a, (k0_off2 i) a + S1x1.size a ≤ S4x2.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c1 : Index := 1#32
  let v0 : Index := Scalar.indexCast arg1
  let v1 : BitVec 32 := pf.at 0 (Rect.unit (s := S4x2) ![1, v0.toNat] S1x1.size (k0_off2_inb i)) numel1_S1x1
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi arg0 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let c0_i32_3 : BitVec 32 := 0#32
  let c0_i32_4 : BitVec 32 := 0#32
  ![v1.toNat, v11.toNat, c0_i32_3.toNat]

def cc0_transform_7 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg1.toNat, v26.toNat, c0_i32_10.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RopeReferenceIdeal.lean ====
abbrev S16384x4096 : Shape := ⟨2, ![16384, 4096]⟩
abbrev S1x4096x26640 : Shape := ⟨3, ![1, 4096, 26640]⟩
abbrev S1x26640 : Shape := ⟨2, ![1, 26640]⟩
abbrev S1x3x128 : Shape := ⟨3, ![1, 3, 128]⟩
abbrev S1x128 : Shape := ⟨2, ![1, 128]⟩
abbrev S4096 : Shape := ⟨1, ![4096]⟩
abbrev S4096x26640 : Shape := ⟨2, ![4096, 26640]⟩
abbrev S16384x26640 : Shape := ⟨2, ![16384, 26640]⟩
abbrev S26640 : Shape := ⟨1, ![26640]⟩
abbrev S4x4096x26640 : Shape := ⟨3, ![4, 4096, 26640]⟩
abbrev S4x4096x3072 : Shape := ⟨3, ![4, 4096, 3072]⟩
abbrev S4x4096x3x8x128 : Shape := ⟨5, ![4, 4096, 3, 8, 128]⟩
abbrev S3x128 : Shape := ⟨2, ![3, 128]⟩
abbrev S3x1x128 : Shape := ⟨3, ![3, 1, 128]⟩
abbrev S_ : Shape := ⟨0, ![]⟩
abbrev S4x4096x3x8 : Shape := ⟨4, ![4, 4096, 3, 8]⟩
abbrev S4x4096x3x8x1 : Shape := ⟨5, ![4, 4096, 3, 8, 1]⟩
abbrev S1x1x3x1x128 : Shape := ⟨5, ![1, 1, 3, 1, 128]⟩
abbrev S64 : Shape := ⟨1, ![64]⟩
abbrev S4096x1 : Shape := ⟨2, ![4096, 1]⟩
abbrev S1x64 : Shape := ⟨2, ![1, 64]⟩
abbrev S4096x64 : Shape := ⟨2, ![4096, 64]⟩
abbrev S4096x1x1x64 : Shape := ⟨4, ![4096, 1, 1, 64]⟩
abbrev S4x4096x3x8x64 : Shape := ⟨5, ![4, 4096, 3, 8, 64]⟩
abbrev S1x4096x1x1x64 : Shape := ⟨5, ![1, 4096, 1, 1, 64]⟩
abbrev S4x4096x1x8x128 : Shape := ⟨5, ![4, 4096, 1, 8, 128]⟩
abbrev S4x4096x8x128 : Shape := ⟨4, ![4, 4096, 8, 128]⟩
abbrev S4x4096x16x128 : Shape := ⟨4, ![4, 4096, 16, 128]⟩
abbrev S4x16x4096x128 : Shape := ⟨4, ![4, 16, 4096, 128]⟩

abbrev nBuf : Space → Nat
  | .hbm => 133
  | .vmem => 0
  | .smem => 0
  | _ => 0

abbrev hbmTy0_0 (i : Nat) : BufTy := match i % 128 with
  | 0 => ⟨S16384x4096, .bf16⟩
  | 1 => ⟨S1x4096x26640, .f32⟩
  | 2 => ⟨S1x26640, .f32⟩
  | 3 => ⟨S1x3x128, .f32⟩
  | 4 => ⟨S1x3x128, .f32⟩
  | 5 => ⟨S1x128, .f32⟩
  | 6 => ⟨S1x128, .f32⟩
  | 7 => ⟨S4096, .i32⟩
  | 8 => ⟨S16384x4096, .f32⟩
  | 9 => ⟨S4096x26640, .f32⟩
  | 10 => ⟨S16384x26640, .f32⟩
  | 11 => ⟨S26640, .f32⟩
  | 12 => ⟨S1x26640, .f32⟩
  | 13 => ⟨S16384x26640, .f32⟩
  | 14 => ⟨S16384x26640, .f32⟩
  | 15 => ⟨S4x4096x26640, .f32⟩
  | 16 => ⟨S4x4096x3072, .f32⟩
  | 17 => ⟨S4x4096x3x8x128, .f32⟩
  | 18 => ⟨S4x4096x3072, .f32⟩
  | 19 => ⟨S4x4096x3x8x128, .f32⟩
  | 20 => ⟨S3x128, .f32⟩
  | 21 => ⟨S3x1x128, .f32⟩
  | 22 => ⟨S4x4096x3x8x128, .f32⟩
  | 23 => ⟨S_, .f32⟩
  | 24 => ⟨S4x4096x3x8, .f32⟩
  | 25 => ⟨S4x4096x3x8x1, .f32⟩
  | 26 => ⟨S_, .f32⟩
  | 27 => ⟨S4x4096x3x8x1, .f32⟩
  | 28 => ⟨S4x4096x3x8x1, .f32⟩
  | 29 => ⟨S_, .f32⟩
  | 30 => ⟨S4x4096x3x8x1, .f32⟩
  | 31 => ⟨S4x4096x3x8x1, .f32⟩
  | 32 => ⟨S4x4096x3x8x1, .f32⟩
  | 33 => ⟨S4x4096x3x8x128, .f32⟩
  | 34 => ⟨S4x4096x3x8x128, .f32⟩
  | 35 => ⟨S1x1x3x1x128, .f32⟩
  | 36 => ⟨S4x4096x3x8x128, .f32⟩
  | 37 => ⟨S4x4096x3x8x128, .f32⟩
  | 38 => ⟨S64, .f32⟩
  | 39 => ⟨S64, .f32⟩
  | 40 => ⟨S_, .f32⟩
  | 41 => ⟨S64, .f32⟩
  | 42 => ⟨S64, .f32⟩
  | 43 => ⟨S_, .f32⟩
  | 44 => ⟨S64, .f32⟩
  | 45 => ⟨S64, .f32⟩
  | 46 => ⟨S4096, .f32⟩
  | 47 => ⟨S4096x1, .f32⟩
  | 48 => ⟨S1x64, .f32⟩
  | 49 => ⟨S4096x64, .f32⟩
  | 50 => ⟨S4096x64, .f32⟩
  | 51 => ⟨S4096x64, .f32⟩
  | 52 => ⟨S4096x64, .f32⟩
  | 53 => ⟨S4096x1x1x64, .f32⟩
  | 54 => ⟨S4096x64, .f32⟩
  | 55 => ⟨S4096x1x1x64, .f32⟩
  | 56 => ⟨S4x4096x3x8x64, .f32⟩
  | 57 => ⟨S4x4096x3x8x64, .f32⟩
  | 58 => ⟨S1x4096x1x1x64, .f32⟩
  | 59 => ⟨S4x4096x3x8x64, .f32⟩
  | 60 => ⟨S4x4096x3x8x64, .f32⟩
  | 61 => ⟨S1x4096x1x1x64, .f32⟩
  | 62 => ⟨S4x4096x3x8x64, .f32⟩
  | 63 => ⟨S4x4096x3x8x64, .f32⟩
  | 64 => ⟨S4x4096x3x8x64, .f32⟩
  | 65 => ⟨S1x4096x1x1x64, .f32⟩
  | 66 => ⟨S4x4096x3x8x64, .f32⟩
  | 67 => ⟨S4x4096x3x8x64, .f32⟩
  | 68 => ⟨S1x4096x1x1x64, .f32⟩
  | 69 => ⟨S4x4096x3x8x64, .f32⟩
  | 70 => ⟨S4x4096x3x8x64, .f32⟩
  | 71 => ⟨S4x4096x3x8x64, .f32⟩
  | 72 => ⟨S4x4096x3x8x128, .f32⟩
  | 73 => ⟨S3x128, .f32⟩
  | 74 => ⟨S3x1x128, .f32⟩
  | 75 => ⟨S4x4096x3x8x128, .f32⟩
  | 76 => ⟨S_, .f32⟩
  | 77 => ⟨S4x4096x3x8, .f32⟩
  | 78 => ⟨S4x4096x3x8x1, .f32⟩
  | 79 => ⟨S_, .f32⟩
  | 80 => ⟨S4x4096x3x8x1, .f32⟩
  | 81 => ⟨S4x4096x3x8x1, .f32⟩
  | 82 => ⟨S_, .f32⟩
  | 83 => ⟨S4x4096x3x8x1, .f32⟩
  | 84 => ⟨S4x4096x3x8x1, .f32⟩
  | 85 => ⟨S4x4096x3x8x1, .f32⟩
  | 86 => ⟨S4x4096x3x8x128, .f32⟩
  | 87 => ⟨S4x4096x3x8x128, .f32⟩
  | 88 => ⟨S1x1x3x1x128, .f32⟩
  | 89 => ⟨S4x4096x3x8x128, .f32⟩
  | 90 => ⟨S4x4096x3x8x128, .f32⟩
  | 91 => ⟨S64, .f32⟩
  | 92 => ⟨S64, .f32⟩
  | 93 => ⟨S_, .f32⟩
  | 94 => ⟨S64, .f32⟩
  | 95 => ⟨S64, .f32⟩
  | 96 => ⟨S_, .f32⟩
  | 97 => ⟨S64, .f32⟩
  | 98 => ⟨S64, .f32⟩
  | 99 => ⟨S4096, .f32⟩
  | 100 => ⟨S4096x1, .f32⟩
  | 101 => ⟨S1x64, .f32⟩
  | 102 => ⟨S4096x64, .f32⟩
  | 103 => ⟨S4096x64, .f32⟩
  | 104 => ⟨S4096x64, .f32⟩
  | 105 => ⟨S4096x64, .f32⟩
  | 106 => ⟨S4096x1x1x64, .f32⟩
  | 107 => ⟨S4096x64, .f32⟩
  | 108 => ⟨S4096x1x1x64, .f32⟩
  | 109 => ⟨S4x4096x3x8x64, .f32⟩
  | 110 => ⟨S4x4096x3x8x64, .f32⟩
  | 111 => ⟨S1x4096x1x1x64, .f32⟩
  | 112 => ⟨S4x4096x3x8x64, .f32⟩
  | 113 => ⟨S4x4096x3x8x64, .f32⟩
  | 114 => ⟨S1x4096x1x1x64, .f32⟩
  | 115 => ⟨S4x4096x3x8x64, .f32⟩
  | 116 => ⟨S4x4096x3x8x64, .f32⟩
  | 117 => ⟨S4x4096x3x8x64, .f32⟩
  | 118 => ⟨S1x4096x1x1x64, .f32⟩
  | 119 => ⟨S4x4096x3x8x64, .f32⟩
  | 120 => ⟨S4x4096x3x8x64, .f32⟩
  | 121 => ⟨S1x4096x1x1x64, .f32⟩
  | 122 => ⟨S4x4096x3x8x64, .f32⟩
  | 123 => ⟨S4x4096x3x8x64, .f32⟩
  | 124 => ⟨S4x4096x3x8x64, .f32⟩
  | 125 => ⟨S4x4096x3x8x128, .f32⟩
  | 126 => ⟨S4x4096x1x8x128, .f32⟩
  | 127 => ⟨S4x4096x8x128, .f32⟩
  | _ => ⟨S16384x4096, .bf16⟩

abbrev hbmTy0_1 (i : Nat) : BufTy := match i % 128 with
  | 0 => ⟨S4x4096x1x8x128, .f32⟩
  | 1 => ⟨S4x4096x8x128, .f32⟩
  | 2 => ⟨S4x4096x16x128, .f32⟩
  | 3 => ⟨S4x16x4096x128, .f32⟩
  | 4 => ⟨S4x16x4096x128, .bf16⟩
  | _ => ⟨S16384x4096, .bf16⟩

abbrev hbmTy (i : Nat) : BufTy := match i / 128 with
  | 0 => hbmTy0_0 i
  | 1 => hbmTy0_1 i
  | _ => ⟨S16384x4096, .bf16⟩

abbrev bufTy : (tb : Table) → Fin (tcTables nBuf tb) → BufTy
  | .hbm, ⟨i, _⟩ => hbmTy i
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_cst_4 : Ref sig .tc := ⟨.hbm, 76, rfl⟩
abbrev main_v64 : Ref sig .tc := ⟨.hbm, 77, rfl⟩
abbrev main_v65 : Ref sig .tc := ⟨.hbm, 78, rfl⟩
abbrev main_cst_5 : Ref sig .tc := ⟨.hbm, 79, rfl⟩
abbrev main_v66 : Ref sig .tc := ⟨.hbm, 80, rfl⟩
abbrev main_v67 : Ref sig .tc := ⟨.hbm, 81, rfl⟩
abbrev main_cst_6 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_cst_7 : Ref sig .tc := ⟨.hbm, 93, rfl⟩
abbrev main_v78 : Ref sig .tc := ⟨.hbm, 94, rfl⟩
abbrev main_v79 : Ref sig .tc := ⟨.hbm, 95, rfl⟩
abbrev main_cst_8 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩

abbrev nD : Nat := 1
abbrev τ : Topo := Topo.v7x

variable {F : FTy → Type} [FloatOps F]
-- ==== ModKernel.lean ====
abbrev S4x4096 : Shape := ⟨2, ![4, 4096]⟩
abbrev S1x4096x12288 : Shape := ⟨3, ![1, 4096, 12288]⟩
abbrev S1x12288 : Shape := ⟨2, ![1, 12288]⟩
abbrev S4096x12288 : Shape := ⟨2, ![4096, 12288]⟩
abbrev S12288 : Shape := ⟨1, ![12288]⟩
abbrev S_ : Shape := ⟨0, ![]⟩
abbrev S8x4096 : Shape := ⟨2, ![8, 4096]⟩
abbrev S8x12288 : Shape := ⟨2, ![8, 12288]⟩
abbrev S4096x512 : Shape := ⟨2, ![4096, 512]⟩
abbrev S1x512 : Shape := ⟨2, ![1, 512]⟩
abbrev S8x512 : Shape := ⟨2, ![8, 512]⟩
abbrev S4x12288 : Shape := ⟨2, ![4, 12288]⟩

abbrev nBuf : Space → Nat
  | .hbm => 11
  | .vmem => 7
  | .smem => 0
  | _ => 0

abbrev bufTy : (tb : Table) → Fin (tcTables nBuf tb) → BufTy
  | .hbm, ⟨0, _⟩ => ⟨S4x4096, .f32⟩
  | .hbm, ⟨1, _⟩ => ⟨S1x4096x12288, .f32⟩
  | .hbm, ⟨2, _⟩ => ⟨S1x12288, .f32⟩
  | .hbm, ⟨3, _⟩ => ⟨S4096x12288, .f32⟩
  | .hbm, ⟨4, _⟩ => ⟨S12288, .f32⟩
  | .hbm, ⟨5, _⟩ => ⟨S_, .i32⟩
  | .hbm, ⟨6, _⟩ => ⟨S_, .f32⟩
  | .hbm, ⟨7, _⟩ => ⟨S8x4096, .f32⟩
  | .hbm, ⟨8, _⟩ => ⟨S1x12288, .f32⟩
  | .hbm, ⟨9, _⟩ => ⟨S8x12288, .f32⟩
  | .hbm, ⟨10, _⟩ => ⟨S4x12288, .f32⟩
  | .local _ .vmem, ⟨0, _⟩ => ⟨S8x4096, .f32⟩
  | .local _ .vmem, ⟨1, _⟩ => ⟨S4096x512, .f32⟩
  | .local _ .vmem, ⟨2, _⟩ => ⟨S4096x512, .f32⟩
  | .local _ .vmem, ⟨3, _⟩ => ⟨S1x512, .f32⟩
  | .local _ .vmem, ⟨4, _⟩ => ⟨S1x512, .f32⟩
  | .local _ .vmem, ⟨5, _⟩ => ⟨S8x512, .f32⟩
  | .local _ .vmem, ⟨6, _⟩ => ⟨S8x512, .f32⟩
  | _, _ => ⟨S4x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModReferenceIdeal.lean ====
abbrev S4x4096 : Shape := ⟨2, ![4, 4096]⟩
abbrev S1x4096x12288 : Shape := ⟨3, ![1, 4096, 12288]⟩
abbrev S1x12288 : Shape := ⟨2, ![1, 12288]⟩
abbrev S_ : Shape := ⟨0, ![]⟩
abbrev S4096x12288 : Shape := ⟨2, ![4096, 12288]⟩
abbrev S4x12288 : Shape := ⟨2, ![4, 12288]⟩
abbrev S12288 : Shape := ⟨1, ![12288]⟩

abbrev nBuf : Space → Nat
  | .hbm => 18
  | .vmem => 0
  | .smem => 0
  | _ => 0

abbrev bufTy : (tb : Table) → Fin (tcTables nBuf tb) → BufTy
  | .hbm, ⟨0, _⟩ => ⟨S4x4096, .f32⟩
  | .hbm, ⟨1, _⟩ => ⟨S1x4096x12288, .f32⟩
  | .hbm, ⟨2, _⟩ => ⟨S1x12288, .f32⟩
  | .hbm, ⟨3, _⟩ => ⟨S4x4096, .f32⟩
  | .hbm, ⟨4, _⟩ => ⟨S4x4096, .f32⟩
  | .hbm, ⟨5, _⟩ => ⟨S_, .f32⟩
  | .hbm, ⟨6, _⟩ => ⟨S4x4096, .f32⟩
  | .hbm, ⟨7, _⟩ => ⟨S4x4096, .f32⟩
  | .hbm, ⟨8, _⟩ => ⟨S_, .f32⟩
  | .hbm, ⟨9, _⟩ => ⟨S4x4096, .f32⟩
  | .hbm, ⟨10, _⟩ => ⟨S4x4096, .f32⟩
  | .hbm, ⟨11, _⟩ => ⟨S4x4096, .f32⟩
  | .hbm, ⟨12, _⟩ => ⟨S4096x12288, .f32⟩
  | .hbm, ⟨13, _⟩ => ⟨S4x12288, .f32⟩
  | .hbm, ⟨14, _⟩ => ⟨S12288, .f32⟩
  | .hbm, ⟨15, _⟩ => ⟨S1x12288, .f32⟩
  | .hbm, ⟨16, _⟩ => ⟨S4x12288, .f32⟩
  | .hbm, ⟨17, _⟩ => ⟨S4x12288, .f32⟩
  | _, _ => ⟨S4x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== NormKernel.lean ====
abbrev S4x4096x4096 : Shape := ⟨3, ![4, 4096, 4096]⟩
abbrev S1x4096 : Shape := ⟨2, ![1, 4096]⟩
abbrev S4x4096 : Shape := ⟨2, ![4, 4096]⟩
abbrev S1x4096x26640 : Shape := ⟨3, ![1, 4096, 26640]⟩
abbrev S1x26640 : Shape := ⟨2, ![1, 26640]⟩
abbrev S4096x26640 : Shape := ⟨2, ![4096, 26640]⟩
abbrev S26640x4096 : Shape := ⟨2, ![26640, 4096]⟩
abbrev S16384x4096 : Shape := ⟨2, ![16384, 4096]⟩
abbrev S4096 : Shape := ⟨1, ![4096]⟩
abbrev S1x128 : Shape := ⟨2, ![1, 128]⟩
abbrev S128 : Shape := ⟨1, ![128]⟩
abbrev S4x1x4096 : Shape := ⟨3, ![4, 1, 4096]⟩
abbrev S16384x128 : Shape := ⟨2, ![16384, 128]⟩
abbrev S512x4096 : Shape := ⟨2, ![512, 4096]⟩
abbrev S1x1x4096 : Shape := ⟨3, ![1, 1, 4096]⟩
abbrev S128x4096 : Shape := ⟨2, ![128, 4096]⟩
abbrev S512x128 : Shape := ⟨2, ![512, 128]⟩
abbrev S512 : Shape := ⟨1, ![512]⟩
abbrev S512x1 : Shape := ⟨2, ![512, 1]⟩

abbrev nBuf : Space → Nat
  | .hbm => 19
  | .vmem => 14
  | .smem => 0
  | _ => 0

abbrev bufTy : (tb : Table) → Fin (tcTables nBuf tb) → BufTy
  | .hbm, ⟨0, _⟩ => ⟨S4x4096x4096, .f32⟩
  | .hbm, ⟨1, _⟩ => ⟨S1x4096, .f32⟩
  | .hbm, ⟨2, _⟩ => ⟨S4x4096, .f32⟩
  | .hbm, ⟨3, _⟩ => ⟨S4x4096, .f32⟩
  | .hbm, ⟨4, _⟩ => ⟨S1x4096x26640, .f32⟩
  | .hbm, ⟨5, _⟩ => ⟨S1x26640, .f32⟩
  | .hbm, ⟨6, _⟩ => ⟨S4096x26640, .f32⟩
  | .hbm, ⟨7, _⟩ => ⟨S26640x4096, .f32⟩
  | .hbm, ⟨8, _⟩ => ⟨S26640x4096, .bf16⟩
  | .hbm, ⟨9, _⟩ => ⟨S16384x4096, .f32⟩
  | .hbm, ⟨10, _⟩ => ⟨S4096, .f32⟩
  | .hbm, ⟨11, _⟩ => ⟨S1x128, .f32⟩
  | .hbm, ⟨12, _⟩ => ⟨S128, .f32⟩
  | .hbm, ⟨13, _⟩ => ⟨S1x128, .f32⟩
  | .hbm, ⟨14, _⟩ => ⟨S1x4096, .f32⟩
  | .hbm, ⟨15, _⟩ => ⟨S4x1x4096, .f32⟩
  | .hbm, ⟨16, _⟩ => ⟨S4x1x4096, .f32⟩
  | .hbm, ⟨17, _⟩ => ⟨S16384x4096, .bf16⟩
  | .hbm, ⟨18, _⟩ => ⟨S16384x128, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S128x4096, .bf16⟩
  | .local _ .vmem, ⟨8, _⟩ => ⟨S1x128, .f32⟩
  | .local _ .vmem, ⟨9, _⟩ => ⟨S512x4096, .bf16⟩
  | .local _ .vmem, ⟨10, _⟩ => ⟨S512x4096, .bf16⟩
  | .local _ .vmem, ⟨11, _⟩ => ⟨S512x128, .f32⟩
  | .local _ .vmem, ⟨12, _⟩ => ⟨S512x128, .f32⟩
  | .local _ .vmem, ⟨13, _⟩ => ⟨S1x128, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c144_i32 : BitVec 32 := 144#32
  let c0_i32 : BitVec 32 := 0#32
  let c0_i32_0 : BitVec 32 := 0#32
  ![c144_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== NormReferenceIdeal.lean ====
abbrev S4x4096x4096 : Shape := ⟨3, ![4, 4096, 4096]⟩
abbrev S1x4096 : Shape := ⟨2, ![1, 4096]⟩
abbrev S4x4096 : Shape := ⟨2, ![4, 4096]⟩
abbrev S1x4096x26640 : Shape := ⟨3, ![1, 4096, 26640]⟩
abbrev S1x26640 : Shape := ⟨2, ![1, 26640]⟩
abbrev S4096 : Shape := ⟨1, ![4096]⟩
abbrev S_ : Shape := ⟨0, ![]⟩
abbrev S4x4096x1 : Shape := ⟨3, ![4, 4096, 1]⟩
abbrev S1x1x4096 : Shape := ⟨3, ![1, 1, 4096]⟩
abbrev S4x1x4096 : Shape := ⟨3, ![4, 1, 4096]⟩
abbrev S16384x4096 : Shape := ⟨2, ![16384, 4096]⟩

abbrev nBuf : Space → Nat
  | .hbm => 34
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S1x4096, .f32⟩
  | .hbm, ⟨2, _⟩ => ⟨S4x4096, .f32⟩
  | .hbm, ⟨3, _⟩ => ⟨S4x4096, .f32⟩
  | .hbm, ⟨4, _⟩ => ⟨S1x4096x26640, .f32⟩
  | .hbm, ⟨5, _⟩ => ⟨S1x26640, .f32⟩
  | .hbm, ⟨6, _⟩ => ⟨S4096, .f32⟩
  | .hbm, ⟨7, _⟩ => ⟨S4x4096x4096, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x4096, .f32⟩
  | .hbm, ⟨19, _⟩ => ⟨S4x4096x4096, .f32⟩
  | .hbm, ⟨20, _⟩ => ⟨S1x1x4096, .f32⟩
  | .hbm, ⟨21, _⟩ => ⟨S4x4096x4096, .f32⟩
  | .hbm, ⟨22, _⟩ => ⟨S4x4096x4096, .f32⟩
  | .hbm, ⟨23, _⟩ => ⟨S4x1x4096, .f32⟩
  | .hbm, ⟨24, _⟩ => ⟨S_, .f32⟩
  | .hbm, ⟨25, _⟩ => ⟨S4x1x4096, .f32⟩
  | .hbm, ⟨26, _⟩ => ⟨S4x1x4096, .f32⟩
  | .hbm, ⟨27, _⟩ => ⟨S4x4096x4096, .f32⟩
  | .hbm, ⟨28, _⟩ => ⟨S4x4096x4096, .f32⟩
  | .hbm, ⟨29, _⟩ => ⟨S4x1x4096, .f32⟩
  | .hbm, ⟨30, _⟩ => ⟨S4x4096x4096, .f32⟩
  | .hbm, ⟨31, _⟩ => ⟨S4x4096x4096, .f32⟩
  | .hbm, ⟨32, _⟩ => ⟨S16384x4096, .f32⟩
  | .hbm, ⟨33, _⟩ => ⟨S16384x4096, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Proof.Sigmoid.lean ====
/-
  The logistic function in the two spellings the programs use, on the extended reals: the kernels compute
  `½ · tanh(½ · x) + ½`, the references `1 / (1 + exp(−x))`. The two are equal at every extended real, the two
  infinities included, so no claim needs a precondition on their argument.
-/
module

public import Idealize.ShloMosaic.PureOps.Ideal.Laws
public import Idealize.ShloMosaic.Lib.IdealHost
public import Mathlib.Analysis.SpecialFunctions.Trigonometric.DerivHyp

@[expose] public section

noncomputable section

namespace Cert.Sigmoid

open Idealize.ShloMosaic

/-- The f32 pattern of the constant 0.5 is the real one half. -/
theorem half_eq : Ideal.ofBits .f32 0x3F000000#32 = ((1 / 2 : ℝ) : EReal) := by
  simp [Ideal.ofBits, Ideal.ieee, -EReal.coe_mul]; norm_num

/-- The half-angle form of the logistic function on the reals. -/
theorem real_half_tanh (r : ℝ) : 1 / 2 * Real.tanh (1 / 2 * r) + 1 / 2 = (1 + Real.exp (-r))⁻¹ := by
  have hp : 0 < Real.exp (1 / 2 * r) := Real.exp_pos _
  have hn : Real.exp (-(1 / 2 * r)) = (Real.exp (1 / 2 * r))⁻¹ := Real.exp_neg _
  have h2 : Real.exp (-r) = (Real.exp (1 / 2 * r))⁻¹ * (Real.exp (1 / 2 * r))⁻¹ := by
    rw [← Real.exp_neg, ← Real.exp_add]; congr 1; ring
  rw [Real.tanh_eq_sinh_div_cosh, Real.sinh_eq, Real.cosh_eq, hn, h2]
  generalize Real.exp (1 / 2 * r) = e at hp
  have he : e ≠ 0 := hp.ne'
  have h1 : e * e + 1 ≠ 0 := by positivity
  field_simp
  ring

/-- The quotient `1 / (1 + exp(−r))` at a real is the real quotient. -/
theorem logistic_coe (r : ℝ) : Ideal.logistic (r : EReal) = (((1 + Real.exp (-r))⁻¹ : ℝ) : EReal) := by
  have hpos : (0 : ℝ) < 1 + Real.exp (-r) := by positivity
  have e : (1 : EReal) + Ideal.exp (-(r : EReal)) = ((1 + Real.exp (-r) : ℝ) : EReal) := by
    rw [← EReal.coe_neg]
    show (1 : EReal) + ((Real.exp (-r) : ℝ) : EReal) = _
    norm_cast
  unfold Ideal.logistic Ideal.div
  rw [e, if_neg (by exact_mod_cast hpos.ne'), one_mul, EReal.coe_inv]

/-- The kernels' spelling is the logistic function at every extended real. -/
theorem half_tanh (x : EReal) :
    Ideal.ofBits .f32 0x3F000000#32 * Ideal.tanh (Ideal.ofBits .f32 0x3F000000#32 * x) + Ideal.ofBits .f32 0x3F000000#32
      = Ideal.logistic x := by
  rw [half_eq]
  induction x using EReal.rec with
  | bot =>
    rw [EReal.coe_mul_bot_of_pos (by norm_num)]
    have : Ideal.logistic ⊥ = 0 := by
      unfold Ideal.logistic Ideal.div
      rw [EReal.neg_bot, show Ideal.exp ⊤ = ⊤ from rfl, EReal.add_top_of_ne_bot (by decide), if_neg (by decide), EReal.inv_top, mul_zero]
    rw [this]
    show ((1 / 2 : ℝ) : EReal) * (-1) + ((1 / 2 : ℝ) : EReal) = 0
    rw [show (-1 : EReal) = ((-1 : ℝ) : EReal) by rw [EReal.coe_neg, EReal.coe_one], ← EReal.coe_mul, ← EReal.coe_add]
    norm_num
  | top =>
    rw [EReal.coe_mul_top_of_pos (by norm_num)]
    have : Ideal.logistic ⊤ = 1 := by
      unfold Ideal.logistic Ideal.div
      rw [EReal.neg_top, show Ideal.exp ⊥ = 0 from rfl, add_zero, if_neg one_ne_zero, one_mul]
      rw [show (1 : EReal) = ((1 : ℝ) : EReal) by norm_cast, ← EReal.coe_inv, inv_one]
    rw [this]
    show ((1 / 2 : ℝ) : EReal) * 1 + ((1 / 2 : ℝ) : EReal) = 1
    rw [mul_one, ← EReal.coe_add]
    norm_num
  | coe r =>
    rw [logistic_coe, ← real_half_tanh, ← EReal.coe_mul]
    show ((1 / 2 : ℝ) : EReal) * ((Real.tanh (1 / 2 * r) : ℝ) : EReal) + _ = _
    rw [← EReal.coe_mul, ← EReal.coe_add]

/-- The references' spelling: the quotient of one by one plus the exponential, with the printed constant one. -/
theorem quotient (x : EReal) :
    Ideal.div (Ideal.ofBits .f32 0x3F800000#32) (Ideal.ofBits .f32 0x3F800000#32 + Ideal.exp (-x)) = Ideal.logistic x := by
  rw [Ideal.ofBits_one_f32]; rfl

end Cert.Sigmoid

end
-- ==== Proof.GatesSpec.lean ====
/-
  What the gate projection computes, written once for both programs: entry (r, n) of the gates is the logistic function
  of row `r` of the normalised input times column `18448 + n` of the input projection's weight, plus that column's bias.
-/
module

public import Idealize.ShloMosaic.PureOps.Ideal.Laws
public import Idealize.ShloMosaic.Lib.ValueIdx

@[expose] public section

noncomputable section

namespace Cert.Gates

open Idealize.ShloMosaic Idealize.ShloMosaic.ValueIdx
open scoped BigOperators

/-- The column of the input projection that gate column `n` is: the gates begin at column 18448. -/
abbrev col (n : Fin 8192) : Fin 26640 := ⟨18448 + n.val, by have := n.isLt; omega⟩

/-- The gate of token `r` and gate column `n`. -/
def gate (h : (⟨2, ![16384, 4096]⟩ : Shape).Idx → EReal) (w : (⟨3, ![1, 4096, 26640]⟩ : Shape).Idx → EReal)
    (b : (⟨2, ![1, 26640]⟩ : Shape).Idx → EReal) (r : Fin 16384) (n : Fin 8192) : EReal :=
  Ideal.logistic ((∑ k : Fin 4096, h (ix2 r k) * w (ix3 (0 : Fin 1) k (col n))) + b (ix2 (0 : Fin 1) (col n)))

/-- The whole array of gates. -/
def gates (h : (⟨2, ![16384, 4096]⟩ : Shape).Idx → EReal) (w : (⟨3, ![1, 4096, 26640]⟩ : Shape).Idx → EReal)
    (b : (⟨2, ![1, 26640]⟩ : Shape).Idx → EReal) : (⟨2, ![16384, 8192]⟩ : Shape).Idx → EReal :=
  fun i => gate h w b (i 0) (i 1)

end Cert.Gates

end
-- ==== Proof.GatesBlock.lean ====
/-
  What one grid point of the gate projection writes: its block of 1024 tokens by 1024 gate columns holds the logistic
  function of the block product plus the bias. The weight's window is placed by an element offset (row 18448 + 1024·j of
  the transposed weight), so its block is read at that offset and not at a multiple of the block's size.
-/
module

public import proofs.«01_k».proof.Proof.Gen.KernelIdeal.Value
public import proofs.«01_k».proof.Proof.Sigmoid
public import proofs.«01_k».proof.Proof.GatesSpec
public import Idealize.ShloMosaic.Lib.Pipeline.Value
public import Idealize.ShloMosaic.Lib.MatmulPlain

@[expose] public section

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The body's payload read at row `p` and column `q` of its block. -/
theorem payload_apply (x0 x1 : Vec Ideal S1024x4096 .bf16) (x2 : Vec Ideal S1x1024 .f32) (p q : Fin 1024) :
    k0_pay1 (F := Ideal) x0 x1 x2 (ix2 p q)
      = Ideal.logistic ((∑ k : Fin 4096, x0 (ix2 p k) * x1 (ix2 q k)) + x2 (ix2 (0 : Fin 1) q)) := by
  have hm : matmul (F := Ideal) (φ₁ := .bf16) (φ₂ := .bf16) dot_S1024x4096_S1024x4096_S1024x1024_1_1_0_0_n_n none x0 x1
      (constant S1024x1024 .f32 0x00000000#32) (ix2 p q) = ∑ k : Fin 4096, x0 (ix2 p k) * x1 (ix2 q k) := by
    refine (Ideal.matmul_transposedRhs_apply none x0 x1 _ p q).trans ?_
    rw [constant_apply, Ideal.ofBits_zero_f32, zero_add]
  have hb : broadcastTo S1024x1024 x2 broadcasts_S1x1024_S1024x1024 (ix2 p q) = x2 (ix2 (0 : Fin 1) q) :=
    broadcastTo_apply x2 broadcasts_S1x1024_S1024x1024 (ix2 p q) (ix2 (0 : Fin 1) q) (fun a => match a with
      | ⟨0, _⟩ => rfl
      | ⟨1, _⟩ => rfl)
  unfold k0_pay1
  simp only [shapeCast_self]
  show Ideal.ofBits .f32 0x3F000000#32 * Ideal.tanh (Ideal.ofBits .f32 0x3F000000#32 *
      (matmul (F := Ideal) (φ₁ := .bf16) (φ₂ := .bf16) dot_S1024x4096_S1024x4096_S1024x1024_1_1_0_0_n_n none x0 x1
        (constant S1024x1024 .f32 0x00000000#32) (ix2 p q)
        + broadcastTo S1024x1024 x2 broadcasts_S1x1024_S1024x1024 (ix2 p q))) + Ideal.ofBits .f32 0x3F000000#32 = _
  rw [hm, hb, Cert.Sigmoid.half_tanh]

variable (m : (ℓ : Loc nD τ sig) → Buf (Elt Ideal) ℓ)

/-- The prepared weight the region finds: the transposed weight, element by element. -/
theorem weight_apply (c : Dev nD) (n : Fin 26640) (k : Fin 4096) :
    V m c main_v2 (ix2 n k) = m ((c : Thread nD τ).loc main_arg1) (ix3 (0 : Fin 1) k n) := by
  have e : (V m c main_v2 : FVec Ideal S26640x4096 .bf16) = truncf (F := Ideal) (φ := .f32) .bf16 (transpose S26640x4096 [1, 0] (shapeCast S4096x26640
      (m ((c : Thread nD τ).loc main_arg1)) shapeCasts_S1x4096x26640_S4096x26640) transposes_S4096x26640_S26640x4096_1_0) bitsLt_bf16_f32 := by
    unfold V
    after_results
    rfl
  rw [e, truncf_apply, transpose_apply _ _ _ (ix2 n k) (ix2 k n) (fun b => match b with
    | ⟨0, _⟩ => rfl
    | ⟨1, _⟩ => rfl)]
  exact shapeCast_apply _ _ (ix2 k n) (ix3 (0 : Fin 1) k n) (by
    rewrite [Shape.rowMajor_val_three, Shape.rowMajor_val_two]
    show (0 * 4096 + k.val) * 26640 + n.val = k.val * 26640 + n.val
    omega)

/-- The prepared bias the region finds: the gates' part of the bias, element by element. -/
theorem bias_apply (c : Dev nD) (n : Fin 8192) :
    V m c main_v5 (ix2 (0 : Fin 1) n) = m ((c : Thread nD τ).loc main_arg2) (ix2 (0 : Fin 1) (Cert.Gates.col n)) := by
  have e : V m c main_v5 = shapeCast S1x8192 (shapeCast S8192 (extractStridedSlice S1x8192 ![0, 18448]
      (m ((c : Thread nD τ).loc main_arg2)) slices_S1x26640_S1x8192_0_18448) shapeCasts_S1x8192_S8192) shapeCasts_S8192_S1x8192 := by
    unfold V
    after_results
    rfl
  rw [e, shapeCast_apply _ _ (ix2 (0 : Fin 1) n) (ix1 n) (by
      rewrite [Shape.rowMajor_val_two, Shape.rowMajor_val_one]
      show n.val = 0 * 8192 + n.val
      omega),
    shapeCast_apply _ _ (ix1 n) (ix2 (0 : Fin 1) n) (by
      rewrite [Shape.rowMajor_val_two, Shape.rowMajor_val_one]
      show 0 * 8192 + n.val = n.val
      omega)]
  exact extractStridedSlice_apply _ _ _ (ix2 (0 : Fin 1) n) (ix2 (0 : Fin 1) (Cert.Gates.col n)) (fun a => match a with
    | ⟨0, _⟩ => rfl
    | ⟨1, _⟩ => rfl)

/-- Where the windows stand at grid point `t`, row block `t / 8` and column block `t % 8`: the input's rows, the weight's
    rows by element offset, the bias's columns, and the result's block. -/
theorem idx_facts : ∀ t : Fin cfg0.N,
    win0_0.index t 0 = t.val / 8 ∧ win0_0.index t 1 = 0
    ∧ win0_1.index t 0 = 18448 + 1024 * (t.val % 8) ∧ win0_1.index t 1 = 0
    ∧ win0_2.index t 0 = 0 ∧ win0_2.index t 1 = t.val % 8
    ∧ win0_3.index t 0 = t.val / 8 ∧ win0_3.index t 1 = t.val % 8 :=
  (by decide +kernel : ∀ t : Fin grid0.N,
    win0_0.index t 0 = t.val / 8 ∧ win0_0.index t 1 = 0
    ∧ win0_1.index t 0 = 18448 + 1024 * (t.val % 8) ∧ win0_1.index t 1 = 0
    ∧ win0_2.index t 0 = 0 ∧ win0_2.index t 1 = t.val % 8
    ∧ win0_3.index t 0 = t.val / 8 ∧ win0_3.index t 1 = t.val % 8)

/-- The token that row `p` of point `t`'s block is. -/
abbrev row (t : Fin cfg0.N) (p : Fin 1024) : Fin 16384 :=
  ⟨1024 * (t.val / 8) + p.val, by have := t.isLt; have h : cfg0.N = 128 := N_0; have := p.isLt; omega⟩

/-- The gate column that column `q` of point `t`'s block is. -/
abbrev gcol (t : Fin cfg0.N) (q : Fin 1024) : Fin 8192 :=
  ⟨1024 * (t.val % 8) + q.val, by have := q.isLt; omega⟩

/-- The input's block at `t`, read at an element. -/
theorem hblk_apply (c : Dev nD) (t : Fin cfg0.N) (p : Fin 1024) (k : Fin 4096) :
    iblk m c 0 t (ix2 p k) = m ((c : Thread nD τ).loc main_arg0) (ix2 (row t p) k) := by
  rw [← V_main_arg0 m c]
  show V m c main_arg0 ((win0_0.rect t).emb (ix2 p k)) = V m c main_arg0 (ix2 (row t p) k)
  refine congrArg (V m c main_arg0) (funext fun a => Fin.ext ?_)
  have f := idx_facts t
  match a with
  | ⟨0, _⟩ =>
    refine (win0_0.rect_emb_val t (ix2 p k) 0).trans ?_
    rw [f.1]; show t.val / 8 * 1024 + p.val = 1024 * (t.val / 8) + p.val; omega
  | ⟨1, _⟩ =>
    refine (win0_0.rect_emb_val t (ix2 p k) 1).trans ?_
    rw [f.2.1]; show 0 * 4096 + k.val = k.val; omega

/-- The weight's block at `t`, read at an element: the window's element offset is added as it stands. -/
theorem wblk_apply (c : Dev nD) (t : Fin cfg0.N) (q : Fin 1024) (k : Fin 4096) :
    iblk m c 1 t (ix2 q k) = m ((c : Thread nD τ).loc main_arg1) (ix3 (0 : Fin 1) k (Cert.Gates.col (gcol t q))) := by
  rw [← weight_apply m c]
  show V m c main_v2 ((win0_1.rect t).emb (ix2 q k)) = V m c main_v2 (ix2 (Cert.Gates.col (gcol t q)) k)
  refine congrArg (V m c main_v2) (funext fun a => Fin.ext ?_)
  have f := idx_facts t
  match a with
  | ⟨0, _⟩ =>
    refine (win0_1.rect_emb_val_off t (ix2 q k) 0).trans ?_
    rw [f.2.2.1]; show 18448 + 1024 * (t.val % 8) + q.val = 18448 + (1024 * (t.val % 8) + q.val); omega
  | ⟨1, _⟩ =>
    refine (win0_1.rect_emb_val_off t (ix2 q k) 1).trans ?_
    rw [f.2.2.2.1]; show 0 + k.val = k.val; omega

/-- The bias's block at `t`, read at an element. -/
theorem bblk_apply (c : Dev nD) (t : Fin cfg0.N) (q : Fin 1024) :
    iblk m c 2 t (ix2 (0 : Fin 1) q) = m ((c : Thread nD τ).loc main_arg2) (ix2 (0 : Fin 1) (Cert.Gates.col (gcol t q))) := by
  rw [← bias_apply m c]
  show V m c main_v5 ((win0_2.rect t).emb (ix2 (0 : Fin 1) q)) = V m c main_v5 (ix2 (0 : Fin 1) (gcol t q))
  refine congrArg (V m c main_v5) (funext fun a => Fin.ext ?_)
  have f := idx_facts t
  match a with
  | ⟨0, _⟩ =>
    refine (win0_2.rect_emb_val t (ix2 (0 : Fin 1) q) 0).trans ?_
    rw [f.2.2.2.2.1]; rfl
  | ⟨1, _⟩ =>
    refine (win0_2.rect_emb_val t (ix2 (0 : Fin 1) q) 1).trans ?_
    rw [f.2.2.2.2.2.1]; show t.val % 8 * 1024 + q.val = 1024 * (t.val % 8) + q.val; omega

end Cert.KernelIdeal.Hand

end
-- ==== Proof.GatesArray.lean ====
/-
  The gate projection's result after the run: the 128 blocks tile the array, and every one of them is its block of the
  gates of the arguments, so the array is the gates.
-/
module

public import proofs.«01_k».proof.Proof.GatesBlock

@[expose] public section

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The gates of device `c`'s arguments: what the result array is shown to hold. -/
abbrev result (c : Dev nD) : Buf (Elt Ideal) ((c : Thread nD τ).loc main_v6) :=
  Cert.Gates.gates (m ((c : Thread nD τ).loc main_arg0)) (m ((c : Thread nD τ).loc main_arg1)) (m ((c : Thread nD τ).loc main_arg2))

theorem hz : (![0, 0] : Fin 2 → Nat) = fun _ => 0 := funext fun a => by fin_cases a <;> rfl

/-- An element of point `t`'s result block stands at row `1024·(t/8) + p` and column `1024·(t%8) + q` of the array. -/
theorem emb_out (t : Fin cfg0.N) (p q : Fin 1024) : (win0_3.rect t).emb (ix2 p q) = ix2 (row t p) (gcol t q) := by
  have f := idx_facts t
  refine funext fun a => Fin.ext ?_
  match a with
  | ⟨0, _⟩ =>
    refine (win0_3.rect_emb_val t (ix2 p q) 0).trans ?_
    rw [f.2.2.2.2.2.2.1]; show t.val / 8 * 1024 + p.val = 1024 * (t.val / 8) + p.val; omega
  | ⟨1, _⟩ =>
    refine (win0_3.rect_emb_val t (ix2 p q) 1).trans ?_
    rw [f.2.2.2.2.2.2.2]; show t.val % 8 * 1024 + q.val = 1024 * (t.val % 8) + q.val; omega

/-- What point `t` writes back is block `t` of the gates. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero hz, View.ld_unit_zero hz, View.ld_unit_zero hz, View.ld_unit_zero hz]
  funext y
  obtain ⟨p, q, rfl⟩ : ∃ p q : Fin 1024, y = ix2 p q := ⟨y 0, y 1, eq_ix2 y⟩
  show k0_pay1 (F := Ideal) (iblk m c 0 t) (iblk m c 1 t) (iblk m c 2 t) (ix2 p q)
    = result m c ((win0_3.rect t).emb (ix2 p q))
  rw [emb_out, payload_apply]
  simp only [hblk_apply m c t, wblk_apply m c t, bblk_apply m c t]
  rfl

/-- Every index of the result array is in some point's block. -/
theorem cover (i : S16384x8192.Idx) :
    ∃ t : Fin cfg0.N, (cfg0.win 3).flush t = true ∧ i ∈ ((cfg0.win 3).blk t).view.set := by
  have h0 : (i 0 : Nat) < 16384 := (i 0).isLt
  have h1 : (i 1 : Nat) < 8192 := (i 1).isLt
  have hN : cfg0.N = 128 := N_0
  let t : Fin cfg0.N := ⟨(i 0 : Nat) / 1024 * 8 + (i 1 : Nat) / 1024, by omega⟩
  have ht : t.val = (i 0 : Nat) / 1024 * 8 + (i 1 : Nat) / 1024 := rfl
  refine ⟨t, flush0_3 t, ?_⟩
  have e : i = (win0_3.rect t).emb (ix2 (⟨(i 0 : Nat) % 1024, by omega⟩ : Fin 1024) (⟨(i 1 : Nat) % 1024, by omega⟩ : Fin 1024)) := by
    rw [emb_out]
    refine funext fun a => Fin.ext ?_
    match a with
    | ⟨0, _⟩ => show (i 0 : Nat) = 1024 * (t.val / 8) + (i 0 : Nat) % 1024; omega
    | ⟨1, _⟩ => show (i 1 : Nat) = 1024 * (t.val % 8) + (i 1 : Nat) % 1024; omega
  rw [e]
  exact View.emb_mem_set ((cfg0.win 3).blk t).view _

/-- The result array after the run. -/
theorem final (c : Dev nD) : (dats m 0 c).arrAt 3 cfg0.N = result m c :=
  (dats m 0 c).arrAt_eq_of_cover 3 _ (fun t _ => flushed_eq m c t) cover

/-- The run, read: the result array is the gates, the arguments are unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.KernelIdeal.Hand

end
-- ==== Proof.GatesRef.lean ====
/-
  What the gates' reference computes: read at an index, its one result is the gates of its arguments. The reference
  multiplies the whole weight and takes the two halves of the gates as two slices, joined again along the columns.
-/
module

public import proofs.«01_k».proof.Proof.Gen.ReferenceIdeal.Read
public import proofs.«01_k».proof.Proof.Sigmoid
public import proofs.«01_k».proof.Proof.GatesSpec

@[expose] public section

noncomputable section

namespace Cert.ReferenceIdeal.Hand

open Cert.ReferenceIdeal Cert.ReferenceIdeal.Read Idealize.ShloMosaic Idealize.ShloMosaic.TcCoe Idealize.SL.Sem
open Idealize.ShloMosaic.ValueIdx
open scoped BigOperators

variable (x0 : (⟨S16384x4096, .bf16⟩ : BufTy).Contents (Elt Ideal)) (x1 : (⟨S1x4096x26640, .f32⟩ : BufTy).Contents (Elt Ideal))
  (x2 : (⟨S1x26640, .f32⟩ : BufTy).Contents (Elt Ideal))

/-- The whole projection at token `r` and column `n`. -/
theorem proj_apply (r : Fin 16384) (n : Fin 26640) :
    val_main_v6 (F := Ideal) x0 x1 x2 (ix2 r n)
      = (∑ k : Fin 4096, x0 (ix2 r k) * x1 (ix3 (0 : Fin 1) k n)) + x2 (ix2 (0 : Fin 1) n) := by
  rw [val_main_v6_apply, val_main_v2_apply, val_main_v5_apply, val_main_v4_apply, val_main_v3_apply]
  have hb : idx_main_v3 (idx_main_v4 (idx_main_v5 (ix2 r n))) = ix2 (0 : Fin 1) n := funext fun a => Fin.ext (by
    match a with
    | ⟨0, _⟩ => rfl
    | ⟨1, _⟩ => exact Nat.mod_eq_of_lt n.isLt)
  have hw : ∀ k : Fin 4096, val_main_v1 (F := Ideal) x1 (ridx_main_v2 (ix2 r n) k) = x1 (ix3 (0 : Fin 1) k n) := fun k => by
    rw [val_main_v1_apply]
    refine congrArg x1 (funext fun a => Fin.ext ?_)
    have hk := k.isLt
    have hn := n.isLt
    match a with
    | ⟨0, _⟩ => rfl
    | ⟨1, _⟩ => show (k.val * 26640 + n.val) / 26640 % 4096 = k.val; omega
    | ⟨2, _⟩ => show (k.val * 26640 + n.val) % 26640 = n.val; omega
  have hh : ∀ k : Fin 4096, val_main_v0 (F := Ideal) x0 (lidx_main_v2 (ix2 r n) k) = x0 (ix2 r k) := fun k => by
    rw [val_main_v0_apply]
    refine congrArg x0 (funext fun a => ?_)
    match a with
    | ⟨0, _⟩ => rfl
    | ⟨1, _⟩ => rfl
  simp only [hb, hw, hh]
  rfl

/-- The first half of the gates at a column below 4096. -/
theorem left_apply (r : Fin 16384) (n : Fin 4096) :
    val_main_v13 (F := Ideal) x0 x1 x2 (ix2 r n) = Cert.Gates.gate x0 x1 x2 r ⟨n.val, by have := n.isLt; omega⟩ := by
  rw [val_main_v13_apply, val_main_v12_apply, val_main_cst_0_apply, val_main_v11_apply, val_main_v10_apply, val_main_cst_apply,
    val_main_v9_apply, val_main_v8_apply, val_main_v7_apply]
  have e : idx_main_v7 (ix2 r n) = ix2 r (Cert.Gates.col ⟨n.val, by have := n.isLt; omega⟩) := funext fun a => by
    match a with
    | ⟨0, _⟩ => rfl
    | ⟨1, _⟩ => rfl
  rw [e, proj_apply]
  exact Cert.Sigmoid.quotient _

/-- The second half of the gates, at column `4096 + n`. -/
theorem right_apply (r : Fin 16384) (n : Fin 4096) :
    val_main_v20 (F := Ideal) x0 x1 x2 (ix2 r n) = Cert.Gates.gate x0 x1 x2 r ⟨4096 + n.val, by have := n.isLt; omega⟩ := by
  rw [val_main_v20_apply, val_main_v19_apply, val_main_cst_2_apply, val_main_v18_apply, val_main_v17_apply, val_main_cst_1_apply,
    val_main_v16_apply, val_main_v15_apply, val_main_v14_apply]
  have e : idx_main_v14 (ix2 r n) = ix2 r (Cert.Gates.col ⟨4096 + n.val, by have := n.isLt; omega⟩) := funext fun a => Fin.ext (by
    match a with
    | ⟨0, _⟩ => rfl
    | ⟨1, _⟩ => show 22544 + n.val = 18448 + (4096 + n.val); omega)
  rw [e, proj_apply]
  exact Cert.Sigmoid.quotient _

/-- The reference's result is the gates of its arguments. -/
theorem result_eq : val_main_v22 (F := Ideal) x0 x1 x2 = Cert.Gates.gates x0 x1 x2 := by
  funext i
  obtain ⟨r, n, rfl⟩ : ∃ (r : Fin 16384) (n : Fin 8192), i = ix2 r n := ⟨i 0, i 1, eq_ix2 i⟩
  rw [val_main_v22_apply]
  show val_main_v21 (F := Ideal) x0 x1 x2 (ix2 r n) = Cert.Gates.gate x0 x1 x2 r n
  unfold val_main_v21
  have hn := n.isLt
  rcases Nat.lt_or_ge n.val 4096 with h | h
  · rw [concatenate_pair_apply_left (s₁ := S16384x4096) (s₂ := S16384x4096) 1 _ _ _ (ix2 r n) rfl (ix2 r (⟨n.val, h⟩ : Fin 4096)) (fun b => match b with
      | ⟨0, _⟩ => rfl
      | ⟨1, _⟩ => rfl), left_apply]
  · rw [concatenate_pair_apply_right (s₁ := S16384x4096) (s₂ := S16384x4096) 1 _ _ _ (ix2 r n) rfl rfl (ix2 r (⟨n.val - 4096, by omega⟩ : Fin 4096)) (fun b => match b with
      | ⟨0, _⟩ => fun _ => rfl
      | ⟨1, _⟩ => fun hb => absurd rfl hb) (by show n.val - 4096 + 4096 = n.val; omega), right_apply]
    exact congrArg (Cert.Gates.gate x0 x1 x2 r) (Fin.ext (by show 4096 + (n.val - 4096) = n.val; omega))

/-- Every run of the reference ends with the gates of its arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v22)
        = Cert.Gates.gates (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono
    (fun _ h c => ⟨(h c).1.trans ((val_main_v22_eq _ _ _).trans (result_eq _ _ _)), (h c).2⟩)
    (Cert.ReferenceIdeal.Value.run (F := Ideal) m ρ)

end Cert.ReferenceIdeal.Hand

end
-- ==== Proof.Gates.lean ====
/-
  The gates' claims: the frames of the kernel, of its ideal form and of the reference, and that the two ideal runs end
  with equal results. Each run is read as the gates of its own arguments; the arguments agree, so the results do.
-/
module

public import proofs.«01_k».proof.Defs
public import proofs.«01_k».proof.Proof.Gen.Kernel.Frame
public import proofs.«01_k».proof.Proof.GatesArray
public import proofs.«01_k».proof.Proof.GatesRef
public import Idealize.ShloMosaic.Lib.Quiescent

@[expose] public section

noncomputable section

namespace Cert.Gates

open Idealize.ShloMosaic Idealize.ShloMosaic.TcCoe Idealize.SL.Sem

/-- Every run of the kernel ends with its arguments unchanged and every semaphore at zero. -/
theorem frame_kernel : Cert.quiescent_Kernel := fun m ρ _ => Cert.Kernel.Gen.frame m ρ

/-- The same of the kernel's ideal form. -/
theorem frame_ideal : Cert.quiescent_KernelIdeal := fun m ρ _ => Cert.KernelIdeal.Gen.frame m ρ

/-- The same of the reference, which raises no semaphore at all. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- From equal arguments the kernel and the reference end with equal gates. -/
theorem equal : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩) (Cert.ReferenceIdeal.Hand.run m' ρ')
  rw [(hagree c).1, (hagree c).2.1, (hagree c).2.2]

end Cert.Gates

end
-- ==== Proof.NatLaunch.lean ====
/-
  The launch of the head projections: what the host operations leave in the buffers when the region is entered, and the
  prefetched table. The table is written by the first host operation as a constant, so the whole launch is set at that one
  table: which block of the weight each point reads, and which of the two bodies it runs, are facts about constants.
-/
module

public import proofs.«01_k».proof.Proof.Gen.NatKernelIdeal.Launch
public import proofs.«01_k».proof.Proof.Gen.NatKernelIdeal.Skeleton
public import Idealize.ShloMosaic.Lib.Claim

@[expose] public section

set_option maxRecDepth 16384

noncomputable section

namespace Cert.NatKernelIdeal.Hand

open Cert.NatKernelIdeal Cert.NatKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What each buffer of core `c` holds when the region is entered. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

set_option maxHeartbeats 1600000 in
/-- The program is its host operations and then the region. -/
theorem hmain (𝒱₀ : Variants) : Pipeline.HMainP (Ix := Unit) (Name := ℕ) (U := UR sig nD τ) (Lvl := ℕ) pcfgs 0 defs₀ 𝒱₀ m
    (main (F := F)) (V m) :=
  Pipeline.hmainP_prefix pcfgs 0 defs₀ 𝒱₀ m main hostOps0 hostOps0_sub hostOps0_fresh main_chain

/-- A buffer that no host operation writes is as it was launched. -/
theorem V_of_ne (c : Dev nD) (b : Ref sig .tc)
    (h : (hostOps0 (F := F)).Forall fun op => Proc.devRef .tc b ∉ op.writes) :
    V m c b = m ((c : Thread nD τ).loc b) :=
  StableHlo.after_of_forall_not_mem (b := Proc.devRef .tc b) _ _ (List.forall_iff_forall_mem.mp h)

/-- The arguments, none of which a host operation writes. -/
def args : Fin 7 → Ref sig .tc := ![main_arg0, main_arg1, main_arg2, main_arg3, main_arg4, main_arg5, main_arg6]
theorem V_args (c : Dev nD) (k : Fin 7) : V m c (args k) = m ((c : Thread nD τ).loc (args k)) := V_of_ne m c _ (by
  simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by revert k; decide))
theorem V_main_arg0 (c : Dev nD) : V m c main_arg0 = m ((c : Thread nD τ).loc main_arg0) := V_args m c 0
theorem V_main_arg1 (c : Dev nD) : V m c main_arg1 = m ((c : Thread nD τ).loc main_arg1) := V_args m c 1
theorem V_main_arg2 (c : Dev nD) : V m c main_arg2 = m ((c : Thread nD τ).loc main_arg2) := V_args m c 2
theorem V_main_arg3 (c : Dev nD) : V m c main_arg3 = m ((c : Thread nD τ).loc main_arg3) := V_args m c 3
theorem V_main_arg4 (c : Dev nD) : V m c main_arg4 = m ((c : Thread nD τ).loc main_arg4) := V_args m c 4
theorem V_main_arg5 (c : Dev nD) : V m c main_arg5 = m ((c : Thread nD τ).loc main_arg5) := V_args m c 5
theorem V_main_arg6 (c : Dev nD) : V m c main_arg6 = m ((c : Thread nD τ).loc main_arg6) := V_args m c 6

/-- The table, element by element: the first row is the block of the weight, the third the body. -/
def table : pre0.Contents (Elt F) := fun j => match j with
  | ⟨0, _⟩ => fun i => lit0 (S4x10.rowMajor i)

theorem V_table (c : Dev nD) : V m c main_c = (table (F := F) 0) := by
  unfold V
  after_results
  rfl

/-- The block of the weight that each of the ten column blocks reads. -/
def blk : Fin 10 → ℕ := ![10, 11, 12, 13, 6, 9, 14, 15, 16, 17]

/-- The table's word that a scalar load at the offsets `off` reads. -/
abbrev word (off : Fin 2 → ℕ) (h : ∀ a, off a + S1x1.size a ≤ S4x10.size a) : BitVec 32 :=
  lit0 (S4x10.rowMajor ((Rect.unit (s := S4x10) off S1x1.size h).emb (Shape.Idx.first (numel1_S1x1.symm ▸ Nat.one_pos))))

theorem word_1 : ∀ i : grid0.Coords, (word (k0_off1 i) (k0_off1_inb i)).toNat = blk (i 1) := by decide +kernel
theorem word_2 : ∀ i : grid0.Coords, (word (k0_off2 i) (k0_off2_inb i)).toNat = 3 := by decide +kernel
/-- The first four column blocks run the normalising body, the other six the activating one. -/
theorem word_3 : ∀ i : grid0.Coords, word (k0_off3 i) (k0_off3_inb i) = if (i 1).val < 4 then 0#32 else 1#32 := by decide +kernel
theorem word_4 : ∀ i : grid0.Coords, word (k0_off4 i) (k0_off4_inb i) = if (i 1).val < 4 then 0#32 else 1#32 := by decide +kernel

theorem ix_1 (i : grid0.Coords) : cc0_transform_1 k0_off1_inb numel1_S1x1 (table (F := F)) i = ![blk (i 1), 0] := by
  rw [← word_1]; rfl
theorem ix_2 (i : grid0.Coords) : cc0_transform_2 k0_off1_inb numel1_S1x1 (table (F := F)) i = ![0, blk (i 1)] := by
  rw [← word_1]; rfl
theorem ix_3 (i : grid0.Coords) : cc0_transform_3 k0_off1_inb numel1_S1x1 (table (F := F)) i = ![0, blk (i 1)] := by
  rw [← word_1]; rfl
theorem ix_4 (i : grid0.Coords) : cc0_transform_4 k0_off1_inb numel1_S1x1 (table (F := F)) i = ![0, blk (i 1)] := by
  rw [← word_1]; rfl
/-- The quarter of the sequence a token block lies in, as the index maps compute it: a remainder by 4 that is made
    nonnegative by adding the divisor back. -/
abbrev quarter (i : Fin 16) : BitVec 32 :=
  let d : BitVec 32 := Scalar.select (Scalar.cmpi .eq 4#32 0#32) 1#32 4#32
  let r : BitVec 32 := Scalar.remsi (BitVec.ofNat 32 i.val) d
  Scalar.select (Scalar.andi (Scalar.xori (Scalar.cmpi .slt r 0#32) (Scalar.cmpi .slt d 0#32)) (Scalar.cmpi .ne r 0#32))
    (Scalar.addi r d) r
theorem quarter_eq : ∀ i : Fin 16, (quarter i).toNat = i.val % 4 := by decide +kernel
theorem ix_5 (i : grid0.Coords) : cc0_transform_5 k0_off2_inb numel1_S1x1 (table (F := F)) i = ![3, (i 0).val % 4, 0] :=
  (show _ = ![(word (k0_off2 i) (k0_off2_inb i)).toNat, (quarter (i 0)).toNat, 0] from rfl).trans (by
    rw [word_2 i, quarter_eq (i 0)])
theorem ix_6 (i : grid0.Coords) : cc0_transform_6 k0_off2_inb numel1_S1x1 (table (F := F)) i = ![3, (i 0).val % 4, 0] :=
  (show _ = ![(word (k0_off2 i) (k0_off2_inb i)).toNat, (quarter (i 0)).toNat, 0] from rfl).trans (by
    rw [word_2 i, quarter_eq (i 0)])
theorem ix_7 : ∀ i : grid0.Coords, cc0_transform_7 i = ![(i 0).val / 4, (i 1).val, (i 0).val % 4, 0] := by
  decide +kernel

/-- Every block that the table names lies in its array. -/
theorem ok_table : ok0 (F := F) table := by
  refine ⟨fun i => ?_, fun i => ?_, fun i => ?_, fun i => ?_, fun i => ?_, fun i => ?_⟩
  · rw [ix_1]
    exact (by decide +kernel : ∀ j : Fin 10, ∃ h : (∀ a, ((![blk j, 0] : Fin 2 → ℕ) a + 1) * S1024x4096.size a ≤ S18432x4096.size a), EltTy.bits .bf16 = 32 ∨ (Rect.block (s := S18432x4096) S1024x4096.size ![blk j, 0] h).WholeWords (EltTy.packing .bf16)) (i 1)
  · rw [ix_2]
    exact (by decide +kernel : ∀ j : Fin 10, ∃ h : (∀ a, ((![0, blk j] : Fin 2 → ℕ) a + 1) * S1x1024.size a ≤ S1x18432.size a), EltTy.bits .f32 = 32 ∨ (Rect.block (s := S1x18432) S1x1024.size ![0, blk j] h).WholeWords (EltTy.packing .f32)) (i 1)
  · rw [ix_3]
    exact (by decide +kernel : ∀ j : Fin 10, ∃ h : (∀ a, ((![0, blk j] : Fin 2 → ℕ) a + 1) * S1x1024.size a ≤ S1x18432.size a), EltTy.bits .f32 = 32 ∨ (Rect.block (s := S1x18432) S1x1024.size ![0, blk j] h).WholeWords (EltTy.packing .f32)) (i 1)
  · rw [ix_4]
    exact (by decide +kernel : ∀ j : Fin 10, ∃ h : (∀ a, ((![0, blk j] : Fin 2 → ℕ) a + 1) * S1x1024.size a ≤ S1x18432.size a), EltTy.bits .f32 = 32 ∨ (Rect.block (s := S1x18432) S1x1024.size ![0, blk j] h).WholeWords (EltTy.packing .f32)) (i 1)
  · rw [ix_5]
    exact (by decide +kernel : ∀ j : Fin 16, ∃ h : (∀ a, ((![3, j.val % 4, 0] : Fin 3 → ℕ) a + 1) * S1x1024x128.size a ≤ S4x4096x128.size a), EltTy.bits .f32 = 32 ∨ (Rect.block (s := S4x4096x128) S1x1024x128.size ![3, j.val % 4, 0] h).WholeWords (EltTy.packing .f32)) (i 0)
  · rw [ix_6]
    exact (by decide +kernel : ∀ j : Fin 16, ∃ h : (∀ a, ((![3, j.val % 4, 0] : Fin 3 → ℕ) a + 1) * S1x1024x128.size a ≤ S4x4096x128.size a), EltTy.bits .f32 = 32 ∨ (Rect.block (s := S4x4096x128) S1x1024x128.size ![3, j.val % 4, 0] h).WholeWords (EltTy.packing .f32)) (i 0)

/-- The table as admissible contents, and the pipeline at it. -/
abbrev adm : (pcfg0 (F := F)).Adm := ⟨table, ok_table⟩
abbrev cfgT : Pipeline.Cfg sig Λ₀ := cfg0 (adm (F := F))

/-- The first body's condition, -/
theorem cond_1 (i : grid0.Coords) : k0_cond1 (word (k0_off3 i) (k0_off3_inb i)) = 1#1 ↔ (i 1).val < 4 := by
  rw [word_3]
  by_cases h : (i 1).val < 4
  · rw [if_pos h]; exact ⟨fun _ => h, fun _ => by decide⟩
  · rw [if_neg h]; exact ⟨fun e => absurd e (by decide), fun e => absurd e h⟩

/-- and the second's. -/
theorem cond_2 (i : grid0.Coords) : k0_cond2 (word (k0_off4 i) (k0_off4_inb i)) = 1#1 ↔ ¬ (i 1).val < 4 := by
  rw [word_4]
  by_cases h : (i 1).val < 4
  · rw [if_pos h]; exact ⟨fun e => absurd e (by decide), fun e => absurd h e⟩
  · rw [if_neg h]; exact ⟨fun _ => h, fun _ => by decide⟩

/-- The word the region's own side conditions name. -/
theorem atD_eq (off : Fin 2 → ℕ) (h : ∀ a, off a + S1x1.size a ≤ S4x10.size a) :
    (table (F := F)).atD 0 off = word off h := by
  have h' : ∀ a : Fin 2, off a + 1 ≤ S4x10.size a := fun a => match a with
    | ⟨0, _⟩ => h 0
    | ⟨1, _⟩ => h 1
  refine (dif_pos h').trans ?_
  refine congrArg lit0 (congrArg _ (funext fun a => Fin.ext ?_))
  match a with
  | ⟨0, _⟩ => exact (Nat.add_zero _).symm
  | ⟨1, _⟩ => exact (Nat.add_zero _).symm

/-- No point leaves the result's block unwritten. -/
theorem idle_7 (i : grid0.Coords) : idle0 (F := F) table 7 i = false := by
  have e3 : (table (F := F)).atD 0 (k0_off3 i) = word (k0_off3 i) (k0_off3_inb i) := atD_eq _ _
  have e4 : (table (F := F)).atD 0 (k0_off4 i) = word (k0_off4 i) (k0_off4_inb i) := atD_eq _ _
  show (!(k0_cond1 ((table (F := F)).atD 0 (k0_off3 i)) == 1#1) && !(k0_cond2 ((table (F := F)).atD 0 (k0_off4 i)) == 1#1)) = false
  rw [e3, e4]
  by_cases h : (i 1).val < 4
  · rw [(cond_1 i).2 h]; rfl
  · rw [(cond_2 i).2 h, Bool.and_comm]; rfl

end Cert.NatKernelIdeal.Hand

end
-- ==== Proof.DilLaunch.lean ====
/-
  The launch of the head projections: what the host operations leave in the buffers when the region is entered, and the
  prefetched table. The table is written by the first host operation as a constant, so the whole launch is set at that one
  table: which block of the weight each point reads, and which of the two bodies it runs, are facts about constants.
-/
module

public import proofs.«01_k».proof.Proof.Gen.DilKernelIdeal.Launch
public import proofs.«01_k».proof.Proof.Gen.DilKernelIdeal.Skeleton
public import Idealize.ShloMosaic.Lib.Claim

@[expose] public section

set_option maxRecDepth 16384

noncomputable section

namespace Cert.DilKernelIdeal.Hand

open Cert.DilKernelIdeal Cert.DilKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What each buffer of core `c` holds when the region is entered. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

set_option maxHeartbeats 1600000 in
/-- The program is its host operations and then the region. -/
theorem hmain (𝒱₀ : Variants) : Pipeline.HMainP (Ix := Unit) (Name := ℕ) (U := UR sig nD τ) (Lvl := ℕ) pcfgs 0 defs₀ 𝒱₀ m
    (main (F := F)) (V m) :=
  Pipeline.hmainP_prefix pcfgs 0 defs₀ 𝒱₀ m main hostOps0 hostOps0_sub hostOps0_fresh main_chain

/-- A buffer that no host operation writes is as it was launched. -/
theorem V_of_ne (c : Dev nD) (b : Ref sig .tc)
    (h : (hostOps0 (F := F)).Forall fun op => Proc.devRef .tc b ∉ op.writes) :
    V m c b = m ((c : Thread nD τ).loc b) :=
  StableHlo.after_of_forall_not_mem (b := Proc.devRef .tc b) _ _ (List.forall_iff_forall_mem.mp h)

/-- The arguments, none of which a host operation writes. -/
def args : Fin 7 → Ref sig .tc := ![main_arg0, main_arg1, main_arg2, main_arg3, main_arg4, main_arg5, main_arg6]
theorem V_args (c : Dev nD) (k : Fin 7) : V m c (args k) = m ((c : Thread nD τ).loc (args k)) := V_of_ne m c _ (by
  simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by revert k; decide))
theorem V_main_arg0 (c : Dev nD) : V m c main_arg0 = m ((c : Thread nD τ).loc main_arg0) := V_args m c 0
theorem V_main_arg1 (c : Dev nD) : V m c main_arg1 = m ((c : Thread nD τ).loc main_arg1) := V_args m c 1
theorem V_main_arg2 (c : Dev nD) : V m c main_arg2 = m ((c : Thread nD τ).loc main_arg2) := V_args m c 2
theorem V_main_arg3 (c : Dev nD) : V m c main_arg3 = m ((c : Thread nD τ).loc main_arg3) := V_args m c 3
theorem V_main_arg4 (c : Dev nD) : V m c main_arg4 = m ((c : Thread nD τ).loc main_arg4) := V_args m c 4
theorem V_main_arg5 (c : Dev nD) : V m c main_arg5 = m ((c : Thread nD τ).loc main_arg5) := V_args m c 5
theorem V_main_arg6 (c : Dev nD) : V m c main_arg6 = m ((c : Thread nD τ).loc main_arg6) := V_args m c 6

/-- The table, element by element: the first row is the block of the weight, the third the body. -/
def table : pre0.Contents (Elt F) := fun j => match j with
  | ⟨0, _⟩ => fun i => lit0 (S4x6.rowMajor i)

theorem V_table (c : Dev nD) : V m c main_c = (table (F := F) 0) := by
  unfold V
  after_results
  rfl

/-- The block of the weight that each of the six column blocks reads, and the rotation table it takes. -/
def blk : Fin 6 → ℕ := ![1, 4, 7, 2, 5, 8]
def tab : Fin 6 → ℕ := ![1, 1, 3, 2, 2, 3]

/-- The table's word that a scalar load at the offsets `off` reads. -/
abbrev word (off : Fin 2 → ℕ) (h : ∀ a, off a + S1x1.size a ≤ S4x6.size a) : BitVec 32 :=
  lit0 (S4x6.rowMajor ((Rect.unit (s := S4x6) off S1x1.size h).emb (Shape.Idx.first (numel1_S1x1.symm ▸ Nat.one_pos))))

theorem word_1 : ∀ i : grid0.Coords, (word (k0_off1 i) (k0_off1_inb i)).toNat = blk (i 1) := by decide +kernel
theorem word_2 : ∀ i : grid0.Coords, (word (k0_off2 i) (k0_off2_inb i)).toNat = tab (i 1) := by decide +kernel
/-- The first three column blocks run the body of stride 4, the other three that of stride 16. -/
theorem word_3 : ∀ i : grid0.Coords, word (k0_off3 i) (k0_off3_inb i) = if (i 1).val < 3 then 0#32 else 1#32 := by decide +kernel
theorem word_4 : ∀ i : grid0.Coords, word (k0_off4 i) (k0_off4_inb i) = if (i 1).val < 3 then 0#32 else 1#32 := by decide +kernel

theorem ix_1 (i : grid0.Coords) : cc0_transform_1 k0_off1_inb numel1_S1x1 (table (F := F)) i = ![blk (i 1), 0] := by
  rw [← word_1]; rfl
theorem ix_2 (i : grid0.Coords) : cc0_transform_2 k0_off1_inb numel1_S1x1 (table (F := F)) i = ![0, blk (i 1)] := by
  rw [← word_1]; rfl
theorem ix_3 (i : grid0.Coords) : cc0_transform_3 k0_off1_inb numel1_S1x1 (table (F := F)) i = ![0, blk (i 1)] := by
  rw [← word_1]; rfl
theorem ix_4 (i : grid0.Coords) : cc0_transform_4 k0_off1_inb numel1_S1x1 (table (F := F)) i = ![0, blk (i 1)] := by
  rw [← word_1]; rfl
/-- The quarter of the sequence a token block lies in, as the index maps compute it: a remainder by 4 that is made
    nonnegative by adding the divisor back. -/
abbrev quarter (i : Fin 16) : BitVec 32 :=
  let d : BitVec 32 := Scalar.select (Scalar.cmpi .eq 4#32 0#32) 1#32 4#32
  let r : BitVec 32 := Scalar.remsi (BitVec.ofNat 32 i.val) d
  Scalar.select (Scalar.andi (Scalar.xori (Scalar.cmpi .slt r 0#32) (Scalar.cmpi .slt d 0#32)) (Scalar.cmpi .ne r 0#32))
    (Scalar.addi r d) r
theorem quarter_eq : ∀ i : Fin 16, (quarter i).toNat = i.val % 4 := by decide +kernel
theorem ix_5 (i : grid0.Coords) : cc0_transform_5 k0_off2_inb numel1_S1x1 (table (F := F)) i = ![tab (i 1), (i 0).val % 4, 0] :=
  (show _ = ![(word (k0_off2 i) (k0_off2_inb i)).toNat, (quarter (i 0)).toNat, 0] from rfl).trans (by
    rw [word_2 i, quarter_eq (i 0)])
theorem ix_6 (i : grid0.Coords) : cc0_transform_6 k0_off2_inb numel1_S1x1 (table (F := F)) i = ![tab (i 1), (i 0).val % 4, 0] :=
  (show _ = ![(word (k0_off2 i) (k0_off2_inb i)).toNat, (quarter (i 0)).toNat, 0] from rfl).trans (by
    rw [word_2 i, quarter_eq (i 0)])
theorem ix_7 : ∀ i : grid0.Coords, cc0_transform_7 i = ![(i 0).val / 4, (i 1).val, (i 0).val % 4, 0] := by
  decide +kernel

/-- Every block that the table names lies in its array. -/
theorem ok_table : ok0 (F := F) table := by
  refine ⟨fun i => ?_, fun i => ?_, fun i => ?_, fun i => ?_, fun i => ?_, fun i => ?_⟩
  · rw [ix_1]
    exact (by decide +kernel : ∀ j : Fin 6, ∃ h : (∀ a, ((![blk j, 0] : Fin 2 → ℕ) a + 1) * S1024x4096.size a ≤ S18432x4096.size a), EltTy.bits .bf16 = 32 ∨ (Rect.block (s := S18432x4096) S1024x4096.size ![blk j, 0] h).WholeWords (EltTy.packing .bf16)) (i 1)
  · rw [ix_2]
    exact (by decide +kernel : ∀ j : Fin 6, ∃ h : (∀ a, ((![0, blk j] : Fin 2 → ℕ) a + 1) * S1x1024.size a ≤ S1x18432.size a), EltTy.bits .f32 = 32 ∨ (Rect.block (s := S1x18432) S1x1024.size ![0, blk j] h).WholeWords (EltTy.packing .f32)) (i 1)
  · rw [ix_3]
    exact (by decide +kernel : ∀ j : Fin 6, ∃ h : (∀ a, ((![0, blk j] : Fin 2 → ℕ) a + 1) * S1x1024.size a ≤ S1x18432.size a), EltTy.bits .f32 = 32 ∨ (Rect.block (s := S1x18432) S1x1024.size ![0, blk j] h).WholeWords (EltTy.packing .f32)) (i 1)
  · rw [ix_4]
    exact (by decide +kernel : ∀ j : Fin 6, ∃ h : (∀ a, ((![0, blk j] : Fin 2 → ℕ) a + 1) * S1x1024.size a ≤ S1x18432.size a), EltTy.bits .f32 = 32 ∨ (Rect.block (s := S1x18432) S1x1024.size ![0, blk j] h).WholeWords (EltTy.packing .f32)) (i 1)
  · rw [ix_5]
    exact (by decide +kernel : ∀ (j : Fin 16) (l : Fin 6), ∃ h : (∀ a, ((![tab l, j.val % 4, 0] : Fin 3 → ℕ) a + 1) * S1x1024x128.size a ≤ S4x4096x128.size a), EltTy.bits .f32 = 32 ∨ (Rect.block (s := S4x4096x128) S1x1024x128.size ![tab l, j.val % 4, 0] h).WholeWords (EltTy.packing .f32)) (i 0) (i 1)
  · rw [ix_6]
    exact (by decide +kernel : ∀ (j : Fin 16) (l : Fin 6), ∃ h : (∀ a, ((![tab l, j.val % 4, 0] : Fin 3 → ℕ) a + 1) * S1x1024x128.size a ≤ S4x4096x128.size a), EltTy.bits .f32 = 32 ∨ (Rect.block (s := S4x4096x128) S1x1024x128.size ![tab l, j.val % 4, 0] h).WholeWords (EltTy.packing .f32)) (i 0) (i 1)

/-- The table as admissible contents, and the pipeline at it. -/
abbrev adm : (pcfg0 (F := F)).Adm := ⟨table, ok_table⟩
abbrev cfgT : Pipeline.Cfg sig Λ₀ := cfg0 (adm (F := F))

/-- The first body's condition, -/
theorem cond_1 (i : grid0.Coords) : k0_cond1 (word (k0_off3 i) (k0_off3_inb i)) = 1#1 ↔ (i 1).val < 3 := by
  rw [word_3]
  by_cases h : (i 1).val < 3
  · rw [if_pos h]; exact ⟨fun _ => h, fun _ => by decide⟩
  · rw [if_neg h]; exact ⟨fun e => absurd e (by decide), fun e => absurd e h⟩

/-- and the second's. -/
theorem cond_2 (i : grid0.Coords) : k0_cond2 (word (k0_off4 i) (k0_off4_inb i)) = 1#1 ↔ ¬ (i 1).val < 3 := by
  rw [word_4]
  by_cases h : (i 1).val < 3
  · rw [if_pos h]; exact ⟨fun e => absurd e (by decide), fun e => absurd h e⟩
  · rw [if_neg h]; exact ⟨fun _ => h, fun _ => by decide⟩

/-- The word the region's own side conditions name. -/
theorem atD_eq (off : Fin 2 → ℕ) (h : ∀ a, off a + S1x1.size a ≤ S4x6.size a) :
    (table (F := F)).atD 0 off = word off h := by
  have h' : ∀ a : Fin 2, off a + 1 ≤ S4x6.size a := fun a => match a with
    | ⟨0, _⟩ => h 0
    | ⟨1, _⟩ => h 1
  refine (dif_pos h').trans ?_
  refine congrArg lit0 (congrArg _ (funext fun a => Fin.ext ?_))
  match a with
  | ⟨0, _⟩ => exact (Nat.add_zero _).symm
  | ⟨1, _⟩ => exact (Nat.add_zero _).symm

/-- No point leaves the result's block unwritten. -/
theorem idle_7 (i : grid0.Coords) : idle0 (F := F) table 7 i = false := by
  have e3 : (table (F := F)).atD 0 (k0_off3 i) = word (k0_off3 i) (k0_off3_inb i) := atD_eq _ _
  have e4 : (table (F := F)).atD 0 (k0_off4 i) = word (k0_off4 i) (k0_off4_inb i) := atD_eq _ _
  show (!(k0_cond1 ((table (F := F)).atD 0 (k0_off3 i)) == 1#1) && !(k0_cond2 ((table (F := F)).atD 0 (k0_off4 i)) == 1#1)) = false
  rw [e3, e4]
  by_cases h : (i 1).val < 3
  · rw [(cond_1 i).2 h]; rfl
  · rw [(cond_2 i).2 h, Bool.and_comm]; rfl

end Cert.DilKernelIdeal.Hand

end
-- ==== Proof.DilTile.lean ====
/-
  What one point of the dilated head projections stores, as functions of its blocks. The body computes the block product
  plus the bias once; head by head it lays the head's 128 columns in a scratch array and reads them back with a stride, so
  that every 4th (or every 16th) token makes a tile. A tile is normalised where the flag says so, rotated by a table of
  cosines and sines, and stored.
-/
module

public import proofs.«01_k».proof.Proof.DilLaunch
public import Idealize.ShloMosaic.Lib.Pipeline.ReadBack
public import Idealize.ShloMosaic.Lib.Pipeline.FrameBody
public import Idealize.ShloMosaic.Lib.Pipeline.Value

@[expose] public section

noncomputable section

namespace Cert.DilKernelIdeal.Hand

open Cert.DilKernelIdeal Cert.DilKernelIdeal.Gen
open Idealize.ShloMosaic Idealize.ShloMosaic.TcCoe

variable {F : FTy → Type} [FloatOps F]

/-- Stores that are the tiles of a block, over whatever was there, leave the block. -/
theorem read_writes {sg : RefSig} {κ : Kind} {sp : Space} {S : Shape} {e : EltTy} (v : View sg κ sp S e) (f : v.ty.Contents (Elt F))
    (L : List (View.Piece (Elt F) S e)) (d : S.Idx → Elt F e) (sz : Fin S.rank → ℕ)
    (ht : View.Piece.tiled L sz = true) (hL : View.PiecesOf d L) : v.read (Elt F) (v.writes (Elt F) f L) = d :=
  (View.read_writes_eq_canon _ _ _ (View.cover_of_tiled L sz ht)).trans
    (funext fun y => View.canon_apply_of_pieces _ _ hL.mem y (View.cover_of_tiled L sz ht y))

theorem slab_ok : ∀ (h : Fin 8), S1024x1024.Slices ![0, 128 * h.val] S1024x128 := by decide
theorem lane_ok : ∀ (h : Fin 8) (a), (![0, 128 * h.val] : Fin 2 → ℕ) a + S1x128.size a ≤ S1x1024.size a := by decide

/-- The columns of head `h` of a block product. -/
def slab (a : FVec F S1024x1024 .f32) (h : Fin 8) : FVec F S1024x128 .f32 :=
  shapeCast S1024x128 (extractStridedSlice S1024x128 ![0, 128 * h.val] a (slab_ok h)) shapeCasts_S1024x128_S1024x128

/-- The columns of head `h` of a row of gains or flags. -/
def lane (g : Vec F S1x1024 .f32) (h : Fin 8) : Vec F S1x128 .f32 :=
  View.ld g (Rect.unit (s := S1x1024) ![0, 128 * h.val] S1x128.size (lane_ok h))

/-- The block product plus the bias. -/
def acc (x0 x1 : Vec F S1024x4096 .bf16) (x2 : Vec F S1x1024 .f32) : FVec F S1024x1024 .f32 :=
  addf (matmul dot_S1024x4096_S1024x4096_S1024x1024_1_1_0_0_n_n none
      (View.ld x0 (Rect.unit (s := S1024x4096) ![0, 0] S1024x4096.size inb_S1024x4096_S1024x4096_0_0))
      (shapeCast S1024x4096 (View.ld x1 (Rect.unit (s := S1024x4096) ![0, 0] S1024x4096.size inb_S1024x4096_S1024x4096_0_0)) shapeCasts_S1024x4096_S1024x4096)
      (constant S1024x1024 .f32 0x00000000#32))
    (broadcastTo S1024x1024 (shapeCast S1x1024 (View.ld x2 (Rect.unit (s := S1x1024) ![0, 0] S1x1024.size inb_S1x1024_S1x1024_0_0)) shapeCasts_S1x1024_S1x1024) broadcasts_S1x1024_S1024x1024)

theorem scratch_ok : ∀ (h : Fin 8) (a), (![1024 * h.val, 0] : Fin 2 → ℕ) a + S1024x128.size a ≤ S8192x128.size a := by decide

/-! ## Every 4th token -/

theorem part4_ok : ∀ (r : Fin 4) (a), (![0, 256 * r.val, 0] : Fin 3 → ℕ) a + S1x256x128.size a ≤ S1x1024x128.size a := by decide

/-- Rows `256 r …` of a rotation table. -/
def part4 (x : Vec F S1x1024x128 .f32) (r : Fin 4) : Vec F S1x256x128 .f32 :=
  View.ld x (Rect.unit (s := S1x1024x128) ![0, 256 * r.val, 0] S1x256x128.size (part4_ok r))

/-- A tile: normalised where the flag is above one half, then rotated. -/
def tile4 (s : FVec F S256x128 .f32) (g f : FVec F S1x128 .f32) (cs sn : FVec F S1x256x128 .f32) : FVec F S1x1x256x128 .bf16 :=
  let ms : FVec F S256x1 .f32 := divf (shapeCast S256x1 (multiReduction .add [1] S256 (mulf s s) 0x00000000#32 reduces_S256x128_S256 (.inl rfl) rfl) shapeCasts_S256_S256x1)
    (broadcast S256x1 (Scalar.ofBits .f32 0x43000000#32))
  let r : FVec F S256x1 .f32 := rsqrt (addf ms (broadcast S256x1 (Scalar.ofBits .f32 0x358637BD#32)))
  let y : FVec F S256x128 .f32 := mulf (mulf s (broadcastTo S256x128 r broadcasts_S256x1_S256x128))
    (broadcastTo S256x128 (shapeCast S1x128 g shapeCasts_S1x128_S1x128) broadcasts_S1x128_S256x128)
  let on : IVec S1x128 1 := cmpf .ogt (shapeCast S1x128 f shapeCasts_S1x128_S1x128) (broadcast S1x128 (Scalar.ofBits .f32 0x3F000000#32))
  let z : FVec F S256x128 .f32 := select (broadcastTo S256x128 (shapeCast S1x128 on shapeCasts_S1x128_S1x128) broadcasts_S1x128_S256x128) y s
  let w : FVec F S256x128 .f32 := addf (mulf z (shapeCast S256x128 cs shapeCasts_S1x256x128_S256x128))
    (mulf (dynamicRotate 1 64#32 none z rotates_S256x128_d1) (shapeCast S256x128 sn shapeCasts_S1x256x128_S256x128))
  shapeCast S1x1x256x128 (truncf .bf16 w bitsLt_bf16_f32 : FVec F S256x128 .bf16) shapeCasts_S256x128_S1x1x256x128

/-- Rows `r`, `r + 4`, … of a head's columns. -/
def step4 (r : Fin 4) (j : S256x128.Idx) : S1024x128.Idx := fun a => match a with
  | ⟨0, _⟩ => (⟨4 * (j 0).val + r.val, by have h : (j 0).val < 256 := (j 0).isLt; have := r.isLt; omega⟩ : Fin 1024)
  | ⟨1, _⟩ => (j 1 : Fin 128)
def every4 (w : FVec F S1024x128 .f32) (r : Fin 4) : FVec F S256x128 .f32 := fun j => w (step4 r j)

/-- Read back with stride 4 from the scratch array, a head's columns give every 4th row. -/
theorem readCov_every4 {sg : RefSig} {κ : Kind} {sp : Space} (v : View sg κ sp S8192x128 .f32) (r : Fin 4) (h : Fin 8) (w : FVec F S1024x128 .f32)
    (L : List (View.Piece (Elt F) S8192x128 .f32)) (ok1) (ok2) :
    v.readCov (⟨Rect.unit (s := S8192x128) ![1024 * h.val, 0] S1024x128.size ok1, w⟩ :: L)
      (⟨![1024 * h.val + r.val, 0], S256x128.size, ![4, 1], ok2⟩ : LoadRect S8192x128) = every4 w r := by
  rw [View.readCov_eq_canon']
  funext j
  have e : (⟨![1024 * h.val + r.val, 0], S256x128.size, ![4, 1], ok2⟩ : LoadRect S8192x128).idx j
      = (Rect.unit (s := S8192x128) ![1024 * h.val, 0] S1024x128.size ok1).emb (step4 r j) := by
    refine funext fun a => Fin.ext ?_
    match a with
    | ⟨0, _⟩ => show 1024 * h.val + r.val + 4 * (j 0).val = 1024 * h.val + 1 * (4 * (j 0).val + r.val); omega
    | ⟨1, _⟩ => show 0 + 1 * (j 1).val = 0 + 1 * (j 1).val; rfl
  refine (congrArg (View.canon (Val := Elt F) _) e).trans ?_
  exact (View.canon_cons_emb (Val := Elt F) (Rect.unit (s := S8192x128) ![1024 * h.val, 0] S1024x128.size ok1) w L (step4 r j))

/-- A block of 8 heads by 1024 tokens from its tiles. -/
def gather4 (T : Fin 4 → Fin 8 → FVec F S1x1x256x128 .bf16) : Vec F S1x8x1024x128 .bf16 := fun z =>
  T ⟨(z 2).val / 256, Nat.div_lt_of_lt_mul (z 2).isLt⟩ (z 1)
    (fun a => match a with
      | ⟨0, _⟩ => (⟨0, Nat.one_pos⟩ : Fin 1)
      | ⟨1, _⟩ => (⟨0, Nat.one_pos⟩ : Fin 1)
      | ⟨2, _⟩ => (⟨(z 2).val % 256, Nat.mod_lt _ (by decide)⟩ : Fin 256)
      | ⟨3, _⟩ => (z 3 : Fin 128))

theorem tile4_ok : ∀ (k : Fin 4) (h : Fin 8) (a), (![0, h.val, 256 * k.val, 0] : Fin 4 → ℕ) a + S1x1x256x128.size a ≤ S1x8x1024x128.size a := by
  decide

/-- Tile `k`, `h` is where the store at head `h` and row `256 k` puts it. -/
theorem gather4_emb (T : Fin 4 → Fin 8 → FVec F S1x1x256x128 .bf16) (k : Fin 4) (h : Fin 8) (x : S1x1x256x128.Idx) :
    T k h x = gather4 T ((Rect.unit (s := S1x8x1024x128) ![0, h.val, 256 * k.val, 0] S1x1x256x128.size (tile4_ok k h)).emb x) := by
  have hx0 : (x 0).val = 0 := Nat.lt_one_iff.mp (x 0).isLt
  have hx1 : (x 1).val = 0 := Nat.lt_one_iff.mp (x 1).isLt
  have hx2 : (x 2).val < 256 := (x 2).isLt
  generalize hz : (Rect.unit (s := S1x8x1024x128) ![0, h.val, 256 * k.val, 0] S1x1x256x128.size (tile4_ok k h)).emb x = z
  have z1 : (z 1).val = h.val + 1 * (x 1).val := by rw [← hz]; rfl
  have z2 : (z 2).val = 256 * k.val + 1 * (x 2).val := by rw [← hz]; rfl
  have z3 : (z 3).val = 0 + 1 * (x 3).val := by rw [← hz]; rfl
  unfold gather4
  have e1 : (⟨(z 2).val / 256, Nat.div_lt_of_lt_mul (z 2).isLt⟩ : Fin 4) = k := Fin.ext (by show (z 2).val / 256 = k.val; omega)
  have e2 : (z 1 : Fin 8) = h := Fin.ext (by rw [z1, hx1]; rfl)
  rw [e1, e2]
  refine congrArg _ (funext fun a => ?_)
  match a with
  | ⟨0, _⟩ => exact Fin.ext hx0
  | ⟨1, _⟩ => exact Fin.ext hx1
  | ⟨2, _⟩ => exact Fin.ext (by show (x 2).val = (z 2).val % 256; omega)
  | ⟨3, _⟩ => exact Fin.ext (by show (x 3).val = (z 3).val; omega)

/-- The tiles of a point, and the block it leaves. -/
def tiles4 (x0 x1 : Vec F S1024x4096 .bf16) (x2 x3 x4 : Vec F S1x1024 .f32) (x5 x6 : Vec F S1x1024x128 .f32) : Fin 4 → Fin 8 → FVec F S1x1x256x128 .bf16 :=
  fun r h => tile4 (every4 (slab (acc x0 x1 x2) h) r) (lane x3 h) (lane x4 h) (part4 x5 r) (part4 x6 r)
def out4 (x0 x1 : Vec F S1024x4096 .bf16) (x2 x3 x4 : Vec F S1x1024 .f32) (x5 x6 : Vec F S1x1024x128 .f32) : Vec F S1x8x1024x128 .bf16 :=
  gather4 (tiles4 x0 x1 x2 x3 x4 x5 x6)

/-- A tile computed from what is read back from the scratch array, where the store puts it. -/
theorem stored4 (x0 x1 : Vec F S1024x4096 .bf16) (x2 x3 x4 : Vec F S1x1024 .f32) (x5 x6 : Vec F S1x1024x128 .f32)
    {sg : RefSig} {κ : Kind} {sp : Space} (v : View sg κ sp S8192x128 .f32) (r : Fin 4) (h : Fin 8)
    (L : List (View.Piece (Elt F) S8192x128 .f32)) (ok1) (ok2) (x : S1x1x256x128.Idx) :
    tile4 (v.readCov (⟨Rect.unit (s := S8192x128) ![1024 * h.val, 0] S1024x128.size ok1, slab (acc x0 x1 x2) h⟩ :: L)
        (⟨![1024 * h.val + r.val, 0], S256x128.size, ![4, 1], ok2⟩ : LoadRect S8192x128)) (lane x3 h) (lane x4 h) (part4 x5 r) (part4 x6 r) x
      = out4 x0 x1 x2 x3 x4 x5 x6 ((Rect.unit (s := S1x8x1024x128) ![0, h.val, 256 * r.val, 0] S1x1x256x128.size (tile4_ok r h)).emb x) := by
  rw [readCov_every4]
  exact gather4_emb (tiles4 x0 x1 x2 x3 x4 x5 x6) r h x

/-! ## Every 16th token -/

theorem part16_ok : ∀ (r : Fin 16) (a), (![0, 64 * r.val, 0] : Fin 3 → ℕ) a + S1x64x128.size a ≤ S1x1024x128.size a := by decide

/-- Rows `64 r …` of a rotation table. -/
def part16 (x : Vec F S1x1024x128 .f32) (r : Fin 16) : Vec F S1x64x128 .f32 :=
  View.ld x (Rect.unit (s := S1x1024x128) ![0, 64 * r.val, 0] S1x64x128.size (part16_ok r))

/-- A tile: normalised where the flag is above one half, then rotated. -/
def tile16 (s : FVec F S64x128 .f32) (g f : FVec F S1x128 .f32) (cs sn : FVec F S1x64x128 .f32) : FVec F S1x1x64x128 .bf16 :=
  let ms : FVec F S64x1 .f32 := divf (shapeCast S64x1 (multiReduction .add [1] S64 (mulf s s) 0x00000000#32 reduces_S64x128_S64 (.inl rfl) rfl) shapeCasts_S64_S64x1)
    (broadcast S64x1 (Scalar.ofBits .f32 0x43000000#32))
  let r : FVec F S64x1 .f32 := rsqrt (addf ms (broadcast S64x1 (Scalar.ofBits .f32 0x358637BD#32)))
  let y : FVec F S64x128 .f32 := mulf (mulf s (broadcastTo S64x128 r broadcasts_S64x1_S64x128))
    (broadcastTo S64x128 (shapeCast S1x128 g shapeCasts_S1x128_S1x128) broadcasts_S1x128_S64x128)
  let on : IVec S1x128 1 := cmpf .ogt (shapeCast S1x128 f shapeCasts_S1x128_S1x128) (broadcast S1x128 (Scalar.ofBits .f32 0x3F000000#32))
  let z : FVec F S64x128 .f32 := select (broadcastTo S64x128 (shapeCast S1x128 on shapeCasts_S1x128_S1x128) broadcasts_S1x128_S64x128) y s
  let w : FVec F S64x128 .f32 := addf (mulf z (shapeCast S64x128 cs shapeCasts_S1x64x128_S64x128))
    (mulf (dynamicRotate 1 64#32 none z rotates_S64x128_d1) (shapeCast S64x128 sn shapeCasts_S1x64x128_S64x128))
  shapeCast S1x1x64x128 (truncf .bf16 w bitsLt_bf16_f32 : FVec F S64x128 .bf16) shapeCasts_S64x128_S1x1x64x128

/-- Rows `r`, `r + 16`, … of a head's columns. -/
def step16 (r : Fin 16) (j : S64x128.Idx) : S1024x128.Idx := fun a => match a with
  | ⟨0, _⟩ => (⟨16 * (j 0).val + r.val, by have h : (j 0).val < 64 := (j 0).isLt; have := r.isLt; omega⟩ : Fin 1024)
  | ⟨1, _⟩ => (j 1 : Fin 128)
def every16 (w : FVec F S1024x128 .f32) (r : Fin 16) : FVec F S64x128 .f32 := fun j => w (step16 r j)

/-- Read back with stride 16 from the scratch array, a head's columns give every 16th row. -/
theorem readCov_every16 {sg : RefSig} {κ : Kind} {sp : Space} (v : View sg κ sp S8192x128 .f32) (r : Fin 16) (h : Fin 8) (w : FVec F S1024x128 .f32)
    (L : List (View.Piece (Elt F) S8192x128 .f32)) (ok1) (ok2) :
    v.readCov (⟨Rect.unit (s := S8192x128) ![1024 * h.val, 0] S1024x128.size ok1, w⟩ :: L)
      (⟨![1024 * h.val + r.val, 0], S64x128.size, ![16, 1], ok2⟩ : LoadRect S8192x128) = every16 w r := by
  rw [View.readCov_eq_canon']
  funext j
  have e : (⟨![1024 * h.val + r.val, 0], S64x128.size, ![16, 1], ok2⟩ : LoadRect S8192x128).idx j
      = (Rect.unit (s := S8192x128) ![1024 * h.val, 0] S1024x128.size ok1).emb (step16 r j) := by
    refine funext fun a => Fin.ext ?_
    match a with
    | ⟨0, _⟩ => show 1024 * h.val + r.val + 16 * (j 0).val = 1024 * h.val + 1 * (16 * (j 0).val + r.val); omega
    | ⟨1, _⟩ => show 0 + 1 * (j 1).val = 0 + 1 * (j 1).val; rfl
  refine (congrArg (View.canon (Val := Elt F) _) e).trans ?_
  exact (View.canon_cons_emb (Val := Elt F) (Rect.unit (s := S8192x128) ![1024 * h.val, 0] S1024x128.size ok1) w L (step16 r j))

/-- A block of 8 heads by 1024 tokens from its tiles. -/
def gather16 (T : Fin 16 → Fin 8 → FVec F S1x1x64x128 .bf16) : Vec F S1x8x1024x128 .bf16 := fun z =>
  T ⟨(z 2).val / 64, Nat.div_lt_of_lt_mul (z 2).isLt⟩ (z 1)
    (fun a => match a with
      | ⟨0, _⟩ => (⟨0, Nat.one_pos⟩ : Fin 1)
      | ⟨1, _⟩ => (⟨0, Nat.one_pos⟩ : Fin 1)
      | ⟨2, _⟩ => (⟨(z 2).val % 64, Nat.mod_lt _ (by decide)⟩ : Fin 64)
      | ⟨3, _⟩ => (z 3 : Fin 128))

theorem tile16_ok : ∀ (k : Fin 16) (h : Fin 8) (a), (![0, h.val, 64 * k.val, 0] : Fin 4 → ℕ) a + S1x1x64x128.size a ≤ S1x8x1024x128.size a := by
  decide

/-- Tile `k`, `h` is where the store at head `h` and row `64 k` puts it. -/
theorem gather16_emb (T : Fin 16 → Fin 8 → FVec F S1x1x64x128 .bf16) (k : Fin 16) (h : Fin 8) (x : S1x1x64x128.Idx) :
    T k h x = gather16 T ((Rect.unit (s := S1x8x1024x128) ![0, h.val, 64 * k.val, 0] S1x1x64x128.size (tile16_ok k h)).emb x) := by
  have hx0 : (x 0).val = 0 := Nat.lt_one_iff.mp (x 0).isLt
  have hx1 : (x 1).val = 0 := Nat.lt_one_iff.mp (x 1).isLt
  have hx2 : (x 2).val < 64 := (x 2).isLt
  generalize hz : (Rect.unit (s := S1x8x1024x128) ![0, h.val, 64 * k.val, 0] S1x1x64x128.size (tile16_ok k h)).emb x = z
  have z1 : (z 1).val = h.val + 1 * (x 1).val := by rw [← hz]; rfl
  have z2 : (z 2).val = 64 * k.val + 1 * (x 2).val := by rw [← hz]; rfl
  have z3 : (z 3).val = 0 + 1 * (x 3).val := by rw [← hz]; rfl
  unfold gather16
  have e1 : (⟨(z 2).val / 64, Nat.div_lt_of_lt_mul (z 2).isLt⟩ : Fin 16) = k := Fin.ext (by show (z 2).val / 64 = k.val; omega)
  have e2 : (z 1 : Fin 8) = h := Fin.ext (by rw [z1, hx1]; rfl)
  rw [e1, e2]
  refine congrArg _ (funext fun a => ?_)
  match a with
  | ⟨0, _⟩ => exact Fin.ext hx0
  | ⟨1, _⟩ => exact Fin.ext hx1
  | ⟨2, _⟩ => exact Fin.ext (by show (x 2).val = (z 2).val % 64; omega)
  | ⟨3, _⟩ => exact Fin.ext (by show (x 3).val = (z 3).val; omega)

/-- The tiles of a point, and the block it leaves. -/
def tiles16 (x0 x1 : Vec F S1024x4096 .bf16) (x2 x3 x4 : Vec F S1x1024 .f32) (x5 x6 : Vec F S1x1024x128 .f32) : Fin 16 → Fin 8 → FVec F S1x1x64x128 .bf16 :=
  fun r h => tile16 (every16 (slab (acc x0 x1 x2) h) r) (lane x3 h) (lane x4 h) (part16 x5 r) (part16 x6 r)
def out16 (x0 x1 : Vec F S1024x4096 .bf16) (x2 x3 x4 : Vec F S1x1024 .f32) (x5 x6 : Vec F S1x1024x128 .f32) : Vec F S1x8x1024x128 .bf16 :=
  gather16 (tiles16 x0 x1 x2 x3 x4 x5 x6)

/-- A tile computed from what is read back from the scratch array, where the store puts it. -/
theorem stored16 (x0 x1 : Vec F S1024x4096 .bf16) (x2 x3 x4 : Vec F S1x1024 .f32) (x5 x6 : Vec F S1x1024x128 .f32)
    {sg : RefSig} {κ : Kind} {sp : Space} (v : View sg κ sp S8192x128 .f32) (r : Fin 16) (h : Fin 8)
    (L : List (View.Piece (Elt F) S8192x128 .f32)) (ok1) (ok2) (x : S1x1x64x128.Idx) :
    tile16 (v.readCov (⟨Rect.unit (s := S8192x128) ![1024 * h.val, 0] S1024x128.size ok1, slab (acc x0 x1 x2) h⟩ :: L)
        (⟨![1024 * h.val + r.val, 0], S64x128.size, ![16, 1], ok2⟩ : LoadRect S8192x128)) (lane x3 h) (lane x4 h) (part16 x5 r) (part16 x6 r) x
      = out16 x0 x1 x2 x3 x4 x5 x6 ((Rect.unit (s := S1x8x1024x128) ![0, h.val, 64 * r.val, 0] S1x1x64x128.size (tile16_ok r h)).emb x) := by
  rw [readCov_every16]
  exact gather16_emb (tiles16 x0 x1 x2 x3 x4 x5 x6) r h x

end Cert.DilKernelIdeal.Hand

end
-- ==== Proof.NatTile.lean ====
/-
  What one point of the head projections stores, as functions of its blocks. The body computes the block product plus the
  bias once, and stores it head by head and by chunks of 256 tokens: 32 tiles, each a normalised (or activated) piece of 256
  rows and the 128 columns of one head.
-/
module

public import proofs.«01_k».proof.Proof.NatLaunch
public import proofs.«01_k».proof.Proof.DilTile
public import Idealize.ShloMosaic.Lib.Pipeline.Value

@[expose] public section

noncomputable section

namespace Cert.NatKernelIdeal.Hand

open Cert.NatKernelIdeal Cert.NatKernelIdeal.Gen
open Idealize.ShloMosaic Idealize.ShloMosaic.TcCoe
open Cert.DilKernelIdeal.Hand (lane acc gather4)

variable {F : FTy → Type} [FloatOps F]

theorem slice_ok : ∀ (k : Fin 4) (h : Fin 8), S1024x1024.Slices ![256 * k.val, 128 * h.val] S256x128 := by decide
/-- Rows `256 k …` and the columns of head `h` of a block product. -/
def rows (a : FVec F S1024x1024 .f32) (k : Fin 4) (h : Fin 8) : FVec F S256x128 .f32 :=
  extractStridedSlice S256x128 ![256 * k.val, 128 * h.val] a (slice_ok k h)

/-- A tile of the normalising body: each row divided by its root mean square, times the gain. -/
def normTile (s : FVec F S256x128 .f32) (g : FVec F S1x128 .f32) : FVec F S1x1x256x128 .bf16 :=
  let ms : FVec F S256x1 .f32 := divf (shapeCast S256x1 (multiReduction .add [1] S256 (mulf s s) 0x00000000#32 reduces_S256x128_S256 (.inl rfl) rfl) shapeCasts_S256_S256x1)
    (broadcast S256x1 (Scalar.ofBits .f32 0x43000000#32))
  let r : FVec F S256x1 .f32 := rsqrt (addf ms (broadcast S256x1 (Scalar.ofBits .f32 0x358637BD#32)))
  let y : FVec F S256x128 .f32 := mulf (mulf s (broadcastTo S256x128 r broadcasts_S256x1_S256x128))
    (broadcastTo S256x128 (shapeCast S1x128 g shapeCasts_S1x128_S1x128) broadcasts_S1x128_S256x128)
  shapeCast S1x1x256x128 (truncf .bf16 y bitsLt_bf16_f32 : FVec F S256x128 .bf16) shapeCasts_S256x128_S1x1x256x128

/-- A tile of the activating body: times its logistic function where the flag is above one half, unchanged elsewhere. -/
def actTile (s : FVec F S256x128 .f32) (f : FVec F S1x128 .f32) : FVec F S1x1x256x128 .bf16 :=
  let half {t : Shape} : FVec F t .f32 := broadcast t (Scalar.ofBits .f32 0x3F000000#32)
  let on : IVec S1x128 1 := cmpf .ogt (shapeCast S1x128 f shapeCasts_S1x128_S1x128) half
  let y : FVec F S256x128 .f32 := mulf s (addf (mulf half (tanh (mulf half s))) half)
  let z : FVec F S256x128 .f32 := select (broadcastTo S256x128 (shapeCast S1x128 on shapeCasts_S1x128_S1x128) broadcasts_S1x128_S256x128) y s
  shapeCast S1x1x256x128 (truncf .bf16 z bitsLt_bf16_f32 : FVec F S256x128 .bf16) shapeCasts_S256x128_S1x1x256x128

/-- The tiles of a point of the normalising body, and the block it leaves. -/
def tilesNorm (x0 x1 : Vec F S1024x4096 .bf16) (x2 x3 : Vec F S1x1024 .f32) : Fin 4 → Fin 8 → FVec F S1x1x256x128 .bf16 :=
  fun k h => normTile (rows (acc x0 x1 x2) k h) (lane x3 h)
def outNorm (x0 x1 : Vec F S1024x4096 .bf16) (x2 x3 : Vec F S1x1024 .f32) : Vec F S1x8x1024x128 .bf16 :=
  gather4 (tilesNorm x0 x1 x2 x3)

/-- The tiles of a point of the activating body, and the block it leaves. -/
def tilesAct (x0 x1 : Vec F S1024x4096 .bf16) (x2 x4 : Vec F S1x1024 .f32) : Fin 4 → Fin 8 → FVec F S1x1x256x128 .bf16 :=
  fun k h => actTile (rows (acc x0 x1 x2) k h) (lane x4 h)
def outAct (x0 x1 : Vec F S1024x4096 .bf16) (x2 x4 : Vec F S1x1024 .f32) : Vec F S1x8x1024x128 .bf16 :=
  gather4 (tilesAct x0 x1 x2 x4)

end Cert.NatKernelIdeal.Hand

end
-- ==== Proof.NatRun.lean ====
/-
  The two bodies of the head projections, run on any buffers: each loads the table's word, takes its branch, and stores its
  32 tiles.
-/
module

public import proofs.«01_k».proof.Proof.NatTile
public import Idealize.ShloMosaic.Lib.Pipeline.ReadBack
public import Idealize.ShloMosaic.Lib.Pipeline.Value

@[expose] public section

set_option maxRecDepth 16384

noncomputable section

namespace Cert.NatKernelIdeal.Hand

open Cert.NatKernelIdeal Cert.NatKernelIdeal.Gen
open Idealize.ShloMosaic Idealize.ShloMosaic.TcCoe Idealize.ShloMosaic.Tactic
open Cert.DilKernelIdeal.Hand (read_writes gather4_emb)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The table as the body is handed it. -/
abbrev tabM : Memref sig .tc .smem S4x10 .i32 := Memref.whole main_c
abbrev TabBuf (c : Dev nD) {S : Shape} {e : EltTy} (M : Memref sig .tc .smem S e) : Type := Buf (Elt F) (M.view.loc (c : Thread nD τ))
/-- The half of the table's buffer that the body holds. -/
abbrev tabPt (c : Dev nD) {S : Shape} {e : EltTy} (M : Memref sig .tc .smem S e) (f : TabBuf (F := F) c M) : sProp 𝕄 :=
  M.view.loc (c : Thread nD τ) ↦{fullShare.right} f

/-- The word of the table that the body loads at the offsets `off`. -/
abbrev wordOf (c : Dev nD) (xt : TabBuf (F := F) c tabM) (off : Fin 2 → ℕ) (h : ∀ a, off a + S1x1.size a ≤ S4x10.size a) : BitVec 32 :=
  View.readAt (Elt F) tabM.view (Rect.unit (s := S4x10) off S1x1.size h).toLoadRect xt (Shape.Idx.first (numel1_S1x1.symm ▸ Nat.one_pos))

set_option maxHeartbeats 4000000 in
/-- A point of the normalising body: on whole staging buffers at the blocks it reads, with the table's words choosing the
    first branch, it leaves the block of `outNorm` and the rest as it was. -/
theorem run_norm (c : Dev nD) (i : grid0.Coords) (arg3 : Memref sig .tc .vmem S1024x4096 .bf16) (harg3 : arg3.IsWhole) (arg4 : Memref sig .tc .vmem S1024x4096 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024x128 .f32) (harg8 : arg8.IsWhole) (arg9 : Memref sig .tc .vmem S1x1024x128 .f32) (harg9 : arg9.IsWhole) (arg10 : Memref sig .tc .vmem S1x8x1024x128 .bf16) (harg10 : arg10.IsWhole) (arg11 : Memref sig .tc .vmem S8192x128 .f32) (harg11 : arg11.IsWhole)
    (x0 : Vec F S1024x4096 .bf16) (x1 : Vec F S1024x4096 .bf16) (x2 : Vec F S1x1024 .f32) (x3 : Vec F S1x1024 .f32) (xt : TabBuf (F := F) c tabM)
    (h1 : k0_cond1 (wordOf c xt (k0_off3 i) (k0_off3_inb i)) = 1#1) (h2 : ¬ (k0_cond2 (wordOf c xt (k0_off4 i) (k0_off4_inb i)) = 1#1))
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg10 fullShare d) ∗ tabPt c tabM xt
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg10 fullShare (outNorm x0 x1 x2 x3) ∗ tabPt c tabM xt) -∗ K ⟨⟩))
      ⊢ wp frame (wpE (defs₀ (F := F)) Variants.none c none) E (cc0_proj_heads_nat i tabM (Memref.isWhole_whole _) arg3 harg3 arg4 harg4 arg5 harg5 arg6 harg6 arg7 harg7 arg8 harg8 arg9 harg9 arg10 harg10 arg11 harg11) K := by
  simp only [cc0_proj_heads_nat_eq_skeleton]; unfold cc0_proj_heads_nat_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
  unfold owns
  iintro ⟨⟨%f0, %hf0, H0⟩, ⟨%f1, %hf1, H1⟩, ⟨%f2, %hf2, H2⟩, ⟨%f3, %hf3, H3⟩, ⟨%d7, %f7, -, H7⟩, HT0, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitr [HT0]
  · iexists _; isplitr; swap; · iexact H7
    ipureintro
    refine read_writes _ _ _ _ S1x1x256x128.size ?_ ?_
    · rfl
    · have g := gather4_emb (tilesNorm (arg3.view.read (Elt F) f0) (arg4.view.read (Elt F) f1) (arg5.view.read (Elt F) f2) (arg6.view.read (Elt F) f3))
      exact ⟨g 3 7, g 2 7, g 1 7, g 0 7, g 3 6, g 2 6, g 1 6, g 0 6, g 3 5, g 2 5, g 1 5, g 0 5, g 3 4, g 2 4, g 1 4, g 0 4, g 3 3, g 2 3, g 1 3, g 0 3, g 3 2, g 2 2, g 1 2, g 0 2, g 3 1, g 2 1, g 1 1, g 0 1, g 3 0, g 2 0, g 1 0, g 0 0, trivial⟩
  iexact HT0

set_option maxHeartbeats 4000000 in
/-- A point of the activating body: on whole staging buffers at the blocks it reads, with the table's words choosing the
    second branch, it leaves the block of `outAct` and the rest as it was. -/
theorem run_act (c : Dev nD) (i : grid0.Coords) (arg3 : Memref sig .tc .vmem S1024x4096 .bf16) (harg3 : arg3.IsWhole) (arg4 : Memref sig .tc .vmem S1024x4096 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024x128 .f32) (harg8 : arg8.IsWhole) (arg9 : Memref sig .tc .vmem S1x1024x128 .f32) (harg9 : arg9.IsWhole) (arg10 : Memref sig .tc .vmem S1x8x1024x128 .bf16) (harg10 : arg10.IsWhole) (arg11 : Memref sig .tc .vmem S8192x128 .f32) (harg11 : arg11.IsWhole)
    (x0 : Vec F S1024x4096 .bf16) (x1 : Vec F S1024x4096 .bf16) (x2 : Vec F S1x1024 .f32) (x3 : Vec F S1x1024 .f32) (xt : TabBuf (F := F) c tabM)
    (h1 : ¬ (k0_cond1 (wordOf c xt (k0_off3 i) (k0_off3_inb i)) = 1#1)) (h2 : k0_cond2 (wordOf c xt (k0_off4 i) (k0_off4_inb i)) = 1#1)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg7 fullShare x3 ∗ (∃ d, owns (c : Thread nD τ) arg10 fullShare d) ∗ tabPt c tabM xt
        ∗ (iprop(owns (c : Thread nD τ) arg3 fullShare x0 ∗ owns (c : Thread nD τ) arg4 fullShare x1 ∗ owns (c : Thread nD τ) arg5 fullShare x2 ∗ owns (c : Thread nD τ) arg7 fullShare x3 ∗ owns (c : Thread nD τ) arg10 fullShare (outAct x0 x1 x2 x3) ∗ tabPt c tabM xt) -∗ K ⟨⟩))
      ⊢ wp frame (wpE (defs₀ (F := F)) Variants.none c none) E (cc0_proj_heads_nat i tabM (Memref.isWhole_whole _) arg3 harg3 arg4 harg4 arg5 harg5 arg6 harg6 arg7 harg7 arg8 harg8 arg9 harg9 arg10 harg10 arg11 harg11) K := by
  simp only [cc0_proj_heads_nat_eq_skeleton]; unfold cc0_proj_heads_nat_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
  unfold owns
  iintro ⟨⟨%f0, %hf0, H0⟩, ⟨%f1, %hf1, H1⟩, ⟨%f2, %hf2, H2⟩, ⟨%f3, %hf3, H3⟩, ⟨%d7, %f7, -, H7⟩, HT0, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitr [HT0]
  · iexists _; isplitr; swap; · iexact H7
    ipureintro
    refine read_writes _ _ _ _ S1x1x256x128.size ?_ ?_
    · rfl
    · have g := gather4_emb (tilesAct (arg3.view.read (Elt F) f0) (arg4.view.read (Elt F) f1) (arg5.view.read (Elt F) f2) (arg7.view.read (Elt F) f3))
      exact ⟨g 3 7, g 2 7, g 1 7, g 0 7, g 3 6, g 2 6, g 1 6, g 0 6, g 3 5, g 2 5, g 1 5, g 0 5, g 3 4, g 2 4, g 1 4, g 0 4, g 3 3, g 2 3, g 1 3, g 0 3, g 3 2, g 2 2, g 1 2, g 0 2, g 3 1, g 2 1, g 1 1, g 0 1, g 3 0, g 2 0, g 1 0, g 0 0, trivial⟩
  iexact HT0

end Cert.NatKernelIdeal.Hand

end
-- ==== Proof.NatFrame.lean ====
/-
  The run of the head projections: the proof data of the pipeline at the constant table, the body at every point, the run to
  its named result, and the frame.
-/
module

public import proofs.«01_k».proof.Proof.NatRun
public import Idealize.ShloMosaic.Lib.Pipeline.Frame

@[expose] public section

set_option maxRecDepth 16384

noncomputable section

namespace Cert.NatKernelIdeal.Hand

open Cert.NatKernelIdeal Cert.NatKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem PhiT_eq (c : Dev nD) : (Pipeline.ΦT pre0 (table (F := F)) c : sProp 𝕄) = iprop(tabPt c tabM (table (F := F) 0)) := by
  unfold Pipeline.ΦT Pipeline.prefHeld
  rw [show (Finset.univ : Finset (Fin 1)) = {(0 : Fin 1)} from by decide, bigSep_singleton]
  rfl

theorem V_pre (c : Dev nD) (j : Fin 1) : V m c (pre0.ref j) = table (F := F) j := by
  match j with
  | ⟨0, _⟩ => exact V_table m c

/-- Window `w`'s block at point `t`, read off its array as the region finds it. -/
def iblk (c : Dev nD) (w : Fin (cfgT (F := F)).W) (t : Fin (cfgT (F := F)).N) :
    (((cfgT (F := F)).win w).xblock ((cfgT (F := F)).grid.coords t)).Idx → Elt F ((cfgT (F := F)).win w).elt :=
  (((cfgT (F := F)).win w).blk t).view.read (Elt F) (V m c (Pipeline.arrRef spec0 w))

/-- What point `t` leaves in its block of the result: the first four column blocks normalise, the other six activate. -/
def outAt (c : Dev nD) (t : Fin (cfgT (F := F)).N) : Vec F S1x8x1024x128 .bf16 :=
  if (grid0.coords t 1).val < 4 then outNorm (iblk m c 0 t) (iblk m c 1 t) (iblk m c 2 t) (iblk m c 3 t)
  else outAct (iblk m c 0 t) (iblk m c 1 t) (iblk m c 2 t) (iblk m c 4 t)

/-- The proof data: the inputs at their blocks, the result at `outAt`. -/
def dats (_ : Fin 1) (c : Dev nD) : Dat τ (Elt F) Unit ℕ (UR sig nD τ) ℕ (cfgT (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ _ := iprop(Pipeline.ΦA spec0 c ∗ Pipeline.ΦT pre0 (table (F := F)) c)
  q _ := fullShare
  owed _ := 0

theorem A_eq (c : Dev nD) (w : Fin (cfgT (F := F)).W) : (dats m 0 c).A w = V m c (Pipeline.arrRef spec0 w) := by
  dsimp only [dats]

theorem after_0 (c : Dev nD) (t : Fin (cfgT (F := F)).N) : (dats m 0 c).after 0 t = iblk m c 0 t := by dsimp only [dats]; try rfl
theorem after_1 (c : Dev nD) (t : Fin (cfgT (F := F)).N) : (dats m 0 c).after 1 t = iblk m c 1 t := by dsimp only [dats]; try rfl
theorem after_2 (c : Dev nD) (t : Fin (cfgT (F := F)).N) : (dats m 0 c).after 2 t = iblk m c 2 t := by dsimp only [dats]; try rfl
theorem after_3 (c : Dev nD) (t : Fin (cfgT (F := F)).N) : (dats m 0 c).after 3 t = iblk m c 3 t := by dsimp only [dats]; try rfl
theorem after_4 (c : Dev nD) (t : Fin (cfgT (F := F)).N) : (dats m 0 c).after 4 t = iblk m c 4 t := by dsimp only [dats]; try rfl
theorem after_5 (c : Dev nD) (t : Fin (cfgT (F := F)).N) : (dats m 0 c).after 5 t = iblk m c 5 t := by dsimp only [dats]; try rfl
theorem after_6 (c : Dev nD) (t : Fin (cfgT (F := F)).N) : (dats m 0 c).after 6 t = iblk m c 6 t := by dsimp only [dats]; try rfl
theorem after_7 (c : Dev nD) (t : Fin (cfgT (F := F)).N) : (dats m 0 c).after 7 t = outAt m c t := by dsimp only [dats]; try rfl

/-- An input's current buffer holds its block at every point. -/
theorem before_0 (c : Dev nD) (t : Fin (cfgT (F := F)).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfgT (F := F)).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfgT (F := F)).N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cfgT (F := F)).N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin (cfgT (F := F)).N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin (cfgT (F := F)).N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin (cfgT (F := F)).N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
abbrev ms_0 (t : Fin (cfgT (F := F)).N) : Memref sig .tc .vmem S1024x4096 .bf16 := spec0_0.stage ((cfgT (F := F)).slots t 0)
abbrev hs_0 (t : Fin (cfgT (F := F)).N) : (ms_0 (F := F) t).IsWhole := hstage0_0 (((cfgT (F := F)).slots t 0).cast nbuf0_0)
abbrev ms_1 (t : Fin (cfgT (F := F)).N) : Memref sig .tc .vmem S1024x4096 .bf16 := spec0_1.stage ((cfgT (F := F)).slots t 1)
abbrev hs_1 (t : Fin (cfgT (F := F)).N) : (ms_1 (F := F) t).IsWhole := hstage0_1 (((cfgT (F := F)).slots t 1).cast nbuf0_1)
abbrev ms_2 (t : Fin (cfgT (F := F)).N) : Memref sig .tc .vmem S1x1024 .f32 := spec0_2.stage ((cfgT (F := F)).slots t 2)
abbrev hs_2 (t : Fin (cfgT (F := F)).N) : (ms_2 (F := F) t).IsWhole := hstage0_2 (((cfgT (F := F)).slots t 2).cast nbuf0_2)
abbrev ms_3 (t : Fin (cfgT (F := F)).N) : Memref sig .tc .vmem S1x1024 .f32 := spec0_3.stage ((cfgT (F := F)).slots t 3)
abbrev hs_3 (t : Fin (cfgT (F := F)).N) : (ms_3 (F := F) t).IsWhole := hstage0_3 (((cfgT (F := F)).slots t 3).cast nbuf0_3)
abbrev ms_4 (t : Fin (cfgT (F := F)).N) : Memref sig .tc .vmem S1x1024 .f32 := spec0_4.stage ((cfgT (F := F)).slots t 4)
abbrev hs_4 (t : Fin (cfgT (F := F)).N) : (ms_4 (F := F) t).IsWhole := hstage0_4 (((cfgT (F := F)).slots t 4).cast nbuf0_4)
abbrev ms_5 (t : Fin (cfgT (F := F)).N) : Memref sig .tc .vmem S1x1024x128 .f32 := spec0_5.stage ((cfgT (F := F)).slots t 5)
abbrev hs_5 (t : Fin (cfgT (F := F)).N) : (ms_5 (F := F) t).IsWhole := hstage0_5 (((cfgT (F := F)).slots t 5).cast nbuf0_5)
abbrev ms_6 (t : Fin (cfgT (F := F)).N) : Memref sig .tc .vmem S1x1024x128 .f32 := spec0_6.stage ((cfgT (F := F)).slots t 6)
abbrev hs_6 (t : Fin (cfgT (F := F)).N) : (ms_6 (F := F) t).IsWhole := hstage0_6 (((cfgT (F := F)).slots t 6).cast nbuf0_6)
abbrev ms_7 (t : Fin (cfgT (F := F)).N) : Memref sig .tc .vmem S1x8x1024x128 .bf16 := spec0_7.stage ((cfgT (F := F)).slots t 7)
abbrev hs_7 (t : Fin (cfgT (F := F)).N) : (ms_7 (F := F) t).IsWhole := hstage0_7 (((cfgT (F := F)).slots t 7).cast nbuf0_7)

/-- The body at point `t`, on what the pipeline calls it with. -/
abbrev bodyAt (t : Fin (cfgT (F := F)).N) : Prog (TpuEff nD τ sig (Elt F) Λ₀ .tc) PUnit :=
  cc0_proj_heads_nat (grid0.coords t) tabM (Memref.isWhole_whole _) (ms_0 (F := F) t) (hs_0 t) (ms_1 (F := F) t) (hs_1 t) (ms_2 (F := F) t) (hs_2 t) (ms_3 (F := F) t) (hs_3 t) (ms_4 (F := F) t) (hs_4 t) (ms_5 (F := F) t) (hs_5 t) (ms_6 (F := F) t) (hs_6 t) (ms_7 (F := F) t) (hs_7 t) (Memref.whole cc0_scratch0) (Memref.isWhole_whole _)

def bodyPre (c : Dev nD) (t : Fin (cfgT (F := F)).N) : sProp 𝕄 :=
  iprop((dats m 0 c).Φ t.castSucc ∗ (dats m 0 c).owesAt () t.castSucc
    ∗ (∃ d, owns (c : Thread nD τ) (ms_0 (F := F) t) fullShare ((dats m 0 c).before 0 t d))
    ∗ (∃ d, owns (c : Thread nD τ) (ms_1 (F := F) t) fullShare ((dats m 0 c).before 1 t d))
    ∗ (∃ d, owns (c : Thread nD τ) (ms_2 (F := F) t) fullShare ((dats m 0 c).before 2 t d))
    ∗ (∃ d, owns (c : Thread nD τ) (ms_3 (F := F) t) fullShare ((dats m 0 c).before 3 t d))
    ∗ (∃ d, owns (c : Thread nD τ) (ms_4 (F := F) t) fullShare ((dats m 0 c).before 4 t d))
    ∗ (∃ d, owns (c : Thread nD τ) (ms_5 (F := F) t) fullShare ((dats m 0 c).before 5 t d))
    ∗ (∃ d, owns (c : Thread nD τ) (ms_6 (F := F) t) fullShare ((dats m 0 c).before 6 t d))
    ∗ (∃ d, owns (c : Thread nD τ) (ms_7 (F := F) t) fullShare ((dats m 0 c).before 7 t d)))

def bodyPost (c : Dev nD) (t : Fin (cfgT (F := F)).N) : sProp 𝕄 :=
  iprop((dats m 0 c).Φ t.succ ∗ (dats m 0 c).owesAt () t.succ
    ∗ owns (c : Thread nD τ) (ms_0 (F := F) t) fullShare ((dats m 0 c).after 0 t)
    ∗ owns (c : Thread nD τ) (ms_1 (F := F) t) fullShare ((dats m 0 c).after 1 t)
    ∗ owns (c : Thread nD τ) (ms_2 (F := F) t) fullShare ((dats m 0 c).after 2 t)
    ∗ owns (c : Thread nD τ) (ms_3 (F := F) t) fullShare ((dats m 0 c).after 3 t)
    ∗ owns (c : Thread nD τ) (ms_4 (F := F) t) fullShare ((dats m 0 c).after 4 t)
    ∗ owns (c : Thread nD τ) (ms_5 (F := F) t) fullShare ((dats m 0 c).after 5 t)
    ∗ owns (c : Thread nD τ) (ms_6 (F := F) t) fullShare ((dats m 0 c).after 6 t)
    ∗ owns (c : Thread nD τ) (ms_7 (F := F) t) fullShare ((dats m 0 c).after 7 t))

set_option maxHeartbeats 1600000 in
/-- The body at any point: the table's words choose the branch, and its run applies. -/
theorem sound_body (c : Dev nD) (t : Fin (cfgT (F := F)).N) :
    bodyPre m c t ⊢ wp frame (wpE (defs₀ (F := F)) Variants.none c none) Set.univ (bodyAt (F := F) t) (fun _ => bodyPost m c t) := by
  unfold bodyPre bodyPost bodyAt
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  rw [show (dats m 0 c).Φ t.castSucc = iprop(Pipeline.ΦA spec0 c ∗ Pipeline.ΦT pre0 (table (F := F)) c) from rfl, PhiT_eq]
  iintro ⟨⟨HA, HT⟩, Ho, ⟨%d0, H0⟩, ⟨%d1, H1⟩, ⟨%d2, H2⟩, ⟨%d3, H3⟩, ⟨%d4, H4⟩, ⟨%d5, H5⟩, ⟨%d6, H6⟩, ⟨%d7, H7⟩⟩
  by_cases h : (grid0.coords t 1).val < 4
  · have e : outAt m c t = outNorm (iblk m c 0 t) (iblk m c 1 t) (iblk m c 2 t) (iblk m c 3 t) := if_pos h
    rw [e]
    iapply (run_norm c (grid0.coords t) _ _ _ _ _ _ _ _ _ _ _ _ _ _ _ _ _ _ (iblk m c 0 t) (iblk m c 1 t) (iblk m c 2 t) (iblk m c 3 t) (table (F := F) 0)
      ((cond_1 _).2 h) (fun e => (cond_2 _).1 e h) Set.univ _)
    isplitl [H0]; · iexact H0
    isplitl [H1]; · iexact H1
    isplitl [H2]; · iexact H2
    isplitl [H3]; · iexact H3
    isplitl [H7]; · iexists _; iexact H7
    isplitl [HT]; · iexact HT
    iintro ⟨H0, H1, H2, H3, H7, HT⟩
    isplitl [HA HT]
    · isplitl [HA]
      · iexact HA
      iexact HT
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have e : outAt m c t = outAct (iblk m c 0 t) (iblk m c 1 t) (iblk m c 2 t) (iblk m c 4 t) := if_neg h
    rw [e]
    iapply (run_act c (grid0.coords t) _ _ _ _ _ _ _ _ _ _ _ _ _ _ _ _ _ _ (iblk m c 0 t) (iblk m c 1 t) (iblk m c 2 t) (iblk m c 4 t) (table (F := F) 0)
      (fun e => h ((cond_1 _).1 e)) ((cond_2 _).2 h) Set.univ _)
    isplitl [H0]; · iexact H0
    isplitl [H1]; · iexact H1
    isplitl [H2]; · iexact H2
    isplitl [H4]; · iexact H4
    isplitl [H7]; · iexists _; iexact H7
    isplitl [HT]; · iexact HT
    iintro ⟨H0, H1, H2, H4, H7, HT⟩
    isplitl [HA HT]
    · isplitl [HA]
      · iexact HA
      iexact HT
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem defs₀_row (t : Fin (cfgT (F := F)).N) :
    defs₀ (F := F) .tc (cfgT (F := F)).body ((cfgT (F := F)).bodyArgs t ((cfgT (F := F)).slots t)) = bodyAt (F := F) t := by
  unfold defs₀; rw [Defs.onTc_tc]

set_option maxHeartbeats 4000000 in
/-- The body obligation of the pipeline. -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  refine sep_mono .rfl (sep_mono .rfl (sep_mono .rfl (sep_mono .rfl (sep_mono .rfl (sep_mono .rfl (sep_mono .rfl (sep_mono .rfl (sep_mono .rfl ?_))))))))
  dsimp only
  split
  · next e => exact absurd (e.symm.trans (idle_7 (F := F) _)) (by decide)
  · exact .rfl

set_option backward.isDefEq.respectTransparency.types false in
/-- The run: every execution ends, each array of the pipeline at what the proof data names, every other buffer as the region
    found it, and every counter at zero. -/
theorem run_main_quiescent : θ_run defs (onTc (τ := τ) (main (F := F))) (s₀ m ρ)
    (fun r => Pipeline.FramePost (Pipeline.pin pcfgs fun _ => adm (F := F)) (dats m) 0 (V m) r ∧ r.2.sem = fun _ => 0) :=
  Pipeline.θ_run_frameP (Q' := _) pcfgs (fun _ => adm (F := F)) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m) (hΦ := fun _ _ => rfl)

/-- The arrays the windows read and write. -/
def arrs : Fin 8 → Ref sig .tc := ![main_arg0, main_v51, main_v54, main_v166, main_v167, main_v32, main_v47, main_v168]

theorem arr_ne (b : Ref sig .tc) (h : ∀ w : Fin 8, arrs w ≠ b) (w : Fin 8) : (spec0 w).arr.view.ref ≠ b :=
  match w with
  | ⟨0, _⟩ => h 0
  | ⟨1, _⟩ => h 1
  | ⟨2, _⟩ => h 2
  | ⟨3, _⟩ => h 3
  | ⟨4, _⟩ => h 4
  | ⟨5, _⟩ => h 5
  | ⟨6, _⟩ => h 6
  | ⟨7, _⟩ => h 7

/-- The run with its result named: the result's array at what the proof data leave, the arguments unchanged, the counters at zero. -/
theorem run_named : θ_run defs (onTc (τ := τ) (main (F := F))) ⟨m, fun _ => 0, ρ⟩ (fun r => (∀ c : Dev nD,
      r.2.mem ((c : Thread nD τ).loc main_v168) = (dats m 0 c).arrAt 7 (cfgT (F := F)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6))
      ∧ r.2.sem = fun _ => 0) :=
  (θ_run defs _ _).mono (fun r h => ⟨fun c => ⟨(h.1 c).1 7,
    ((h.1 c).1 0).trans (((dats m 0 c).arrAt_in 0 rfl _).trans ((A_eq m c 0).trans (V_main_arg0 m c))),
    ((h.1 c).2 main_arg1 (Pipeline.mem_restRefs_of main_arg1 (by decide) (arr_ne _ (by decide)))).trans (V_main_arg1 m c), ((h.1 c).2 main_arg2 (Pipeline.mem_restRefs_of main_arg2 (by decide) (arr_ne _ (by decide)))).trans (V_main_arg2 m c), ((h.1 c).2 main_arg3 (Pipeline.mem_restRefs_of main_arg3 (by decide) (arr_ne _ (by decide)))).trans (V_main_arg3 m c), ((h.1 c).2 main_arg4 (Pipeline.mem_restRefs_of main_arg4 (by decide) (arr_ne _ (by decide)))).trans (V_main_arg4 m c), ((h.1 c).2 main_arg5 (Pipeline.mem_restRefs_of main_arg5 (by decide) (arr_ne _ (by decide)))).trans (V_main_arg5 m c), ((h.1 c).2 main_arg6 (Pipeline.mem_restRefs_of main_arg6 (by decide) (arr_ne _ (by decide)))).trans (V_main_arg6 m c)⟩, h.2⟩) (run_main_quiescent m ρ)

/-- The frame: the arguments end unchanged and every counter at zero. -/
theorem frame_any : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6))
      ∧ r.2.sem = fun _ => 0) :=
  (θ_run defs _ _).mono (fun r h => ⟨fun c => (h.1 c).2, h.2⟩) (run_named m ρ)

end Cert.NatKernelIdeal.Hand

end
-- ==== Proof.NatSpec.lean ====
/-
  What the head projections compute, written once for both programs: for each of 80 heads, the input times the head's 128
  columns of the weight plus the bias; then the first 32 heads are divided by their root mean square and multiplied by a
  gain, heads 40 to 47 and the last 16 are multiplied by their own logistic function, the others are left as they are.
-/
module

public import Idealize.ShloMosaic.PureOps.Ideal.Laws
public import Idealize.ShloMosaic.Lib.ValueIdx

@[expose] public section

noncomputable section

namespace Cert.Nat

open Idealize.ShloMosaic Idealize.ShloMosaic.ValueIdx
open scoped BigOperators

/-- The projection at token `r` and column `n`. -/
def lin (h : (⟨2, ![16384, 4096]⟩ : Shape).Idx → EReal) (w : (⟨3, ![1, 4096, 26640]⟩ : Shape).Idx → EReal)
    (b : (⟨2, ![1, 26640]⟩ : Shape).Idx → EReal) (r : Fin 16384) (n : Fin 26640) : EReal :=
  (∑ k : Fin 4096, h (ix2 r k) * w (ix3 (0 : Fin 1) k n)) + b (ix2 (0 : Fin 1) n)

/-- A head divided by its root mean square, times the gain. -/
def normed (z g : Fin 128 → EReal) (d : Fin 128) : EReal :=
  z d * Ideal.rsqrt (Ideal.div (∑ e : Fin 128, z e * z e) (Ideal.ofBits .f32 0x43000000#32) + Ideal.ofBits .f32 0x358637BD#32) * g d

def silu (x : EReal) : EReal := x * Ideal.logistic x

/-- Where the columns of a head begin, less 128 times its number. -/
def shift (n : ℕ) : ℕ := if n < 32 then 10240 else if n < 40 then 2048 else if n < 48 then 4096 else 8192

theorem col_lt (n : Fin 80) (d : Fin 128) : shift n.val + 128 * n.val + d.val < 26640 := by
  have := n.isLt
  have := d.isLt
  unfold shift
  split
  · omega
  split
  · omega
  split <;> omega

/-- Column `d` of head `n`. -/
def col (n : Fin 80) (d : Fin 128) : Fin 26640 := ⟨shift n.val + 128 * n.val + d.val, col_lt n d⟩

/-- What head `n` makes of its projection `z`. -/
def finish (gq gk : Fin 128 → EReal) (n : Fin 80) (z : Fin 128 → EReal) (d : Fin 128) : EReal :=
  if n.val < 16 then normed z gq d
  else if n.val < 32 then normed z gk d
  else if n.val < 40 then z d
  else if n.val < 48 then silu (z d)
  else if n.val < 64 then z d
  else silu (z d)

/-- The token at position `s` of sequence `q`. -/
def token (q : Fin 4) (s : Fin 4096) : Fin 16384 := ⟨4096 * q.val + s.val, by have := q.isLt; have := s.isLt; omega⟩

/-- Head `n` at position `s` of sequence `q`, entry `d`. -/
def entry (h : (⟨2, ![16384, 4096]⟩ : Shape).Idx → EReal) (w : (⟨3, ![1, 4096, 26640]⟩ : Shape).Idx → EReal)
    (b : (⟨2, ![1, 26640]⟩ : Shape).Idx → EReal) (gq gk : (⟨2, ![1, 128]⟩ : Shape).Idx → EReal)
    (q : Fin 4) (n : Fin 80) (s : Fin 4096) (d : Fin 128) : EReal :=
  finish (fun e => gq (ix2 (0 : Fin 1) e)) (fun e => gk (ix2 (0 : Fin 1) e)) n (fun e => lin h w b (token q s) (col n e)) d

/-- The whole array. -/
def heads (h : (⟨2, ![16384, 4096]⟩ : Shape).Idx → EReal) (w : (⟨3, ![1, 4096, 26640]⟩ : Shape).Idx → EReal)
    (b : (⟨2, ![1, 26640]⟩ : Shape).Idx → EReal) (gq gk : (⟨2, ![1, 128]⟩ : Shape).Idx → EReal) :
    (⟨4, ![4, 80, 4096, 128]⟩ : Shape).Idx → EReal :=
  fun i => entry h w b gq gk (i 0) (i 1) (i 2) (i 3)

end Cert.Nat

end
-- ==== Proof.Rotate.lean ====
/-
  The rotation of a head by the position of its token, written once for the programs that use it: entry `d` and entry
  `d + 64` are turned in their plane by an angle that depends on the position and on `d` modulo 64. Also the tables of
  cosines and sines a kernel prepares for it, and what the elements of both are.
-/
module

public import Idealize.ShloMosaic.PureOps.Ideal.Laws
public import Idealize.ShloMosaic.Lib.ValueIdx
public import Idealize.ShloMosaic.Lib.Pipeline.Value

@[expose] public section

noncomputable section

namespace Cert.Rotate

open Idealize.ShloMosaic Idealize.ShloMosaic.ValueIdx

/-- A natural number as the number its 32-bit word converts to. -/
def num (n : ℕ) : EReal := (((BitVec.ofNat 32 n).toInt : ℝ) : EReal)

/-- The angle at position `s` and frequency `j`: the position times 10000 to the power `-j / 64`. -/
def angle (s : Fin 4096) (j : Fin 64) : EReal :=
  num s.val * Ideal.pow (Ideal.ofBits .f32 0x461C4000#32) (Ideal.div (-(num j.val)) (Ideal.ofBits .f32 0x42800000#32))

/-- The frequency of entry `d`, and the entry it is turned with. -/
def low (d : Fin 128) : Fin 64 := ⟨d.val % 64, Nat.mod_lt _ (by decide)⟩
def other (d : Fin 128) : Fin 128 := ⟨(d.val + 64) % 128, Nat.mod_lt _ (by decide)⟩

/-- The cosine and the signed sine of entry `d`. -/
def cosine (s : Fin 4096) (d : Fin 128) : EReal := Ideal.cos (angle s (low d))
def sine (s : Fin 4096) (d : Fin 128) : EReal := if d.val < 64 then -(Ideal.sin (angle s (low d))) else Ideal.sin (angle s (low d))

/-- The head `y` turned to position `s`. -/
def rotated (y : Fin 128 → EReal) (s : Fin 4096) (d : Fin 128) : EReal := y d * cosine s d + y (other d) * sine s d

/-- In the first half a difference, -/
theorem rotated_first (y : Fin 128 → EReal) (s : Fin 4096) (j : Fin 64) :
    y ⟨j.val, by omega⟩ * Ideal.cos (angle s j) - y ⟨64 + j.val, by omega⟩ * Ideal.sin (angle s j)
      = rotated y s ⟨j.val, by omega⟩ := by
  have hl : low ⟨j.val, by omega⟩ = j := Fin.ext (Nat.mod_eq_of_lt j.isLt)
  have ho : other ⟨j.val, by omega⟩ = ⟨64 + j.val, by omega⟩ := Fin.ext (by have := j.isLt; show (j.val + 64) % 128 = 64 + j.val; omega)
  unfold rotated cosine sine
  rw [hl, ho, if_pos j.isLt, sub_eq_add_neg, mul_neg]

/-- in the second a sum. -/
theorem rotated_second (y : Fin 128 → EReal) (s : Fin 4096) (j : Fin 64) :
    y ⟨64 + j.val, by omega⟩ * Ideal.cos (angle s j) + y ⟨j.val, by omega⟩ * Ideal.sin (angle s j)
      = rotated y s ⟨64 + j.val, by omega⟩ := by
  have hl : low ⟨64 + j.val, by omega⟩ = j := Fin.ext (by have := j.isLt; show (64 + j.val) % 64 = j.val; omega)
  have ho : other ⟨64 + j.val, by omega⟩ = ⟨j.val, by omega⟩ := Fin.ext (by have := j.isLt; show (64 + j.val + 64) % 128 = j.val; omega)
  unfold rotated cosine sine
  rw [hl, ho, if_neg (by show ¬ (64 + j.val < 64); omega)]

/-! ## The tables -/

abbrev Half : Shape := ⟨2, ![4096, 64]⟩
abbrev Full : Shape := ⟨2, ![4096, 128]⟩

/-- Two half tables side by side. -/
theorem sides_apply (x y : Half.Idx → EReal) (h) (s : Fin 4096) (d : Fin 128) :
    concatenate Full 1 [(⟨Half, x⟩ : (s : Shape) × (s.Idx → EReal)), ⟨Half, y⟩] h (ix2 s d)
      = if d.val < 64 then x (ix2 s (low d)) else y (ix2 s (low d)) := by
  split
  · rename_i hd
    exact concatenate_pair_apply_left (t := Full) (s₁ := Half) (s₂ := Half) (1 : Fin 2) x y h (ix2 s d) rfl (ix2 s (low d)) (fun b => match b with
      | ⟨0, _⟩ => rfl
      | ⟨1, _⟩ => Nat.mod_eq_of_lt hd)
  · rename_i hd
    exact concatenate_pair_apply_right (t := Full) (s₁ := Half) (s₂ := Half) (1 : Fin 2) x y h (ix2 s d) rfl rfl (ix2 s (low d))
      (fun b hb => match b, hb with
        | ⟨0, _⟩, _ => rfl
        | ⟨1, _⟩, hb => absurd rfl hb)
      (by have := d.isLt; show d.val % 64 + 64 = d.val; omega)

/-- The cosines of a table of angles, twice side by side, -/
theorem cosines_apply (x : FVec Ideal Half .f32) (h) (s : Fin 4096) (d : Fin 128) :
    concatenate Full 1 [(⟨Half, Host.cos x⟩ : (s : Shape) × (s.Idx → EReal)), ⟨Half, Host.cos x⟩] h (ix2 s d) = Ideal.cos (x (ix2 s (low d))) := by
  rw [sides_apply, ite_self]
  rfl

/-- and the sines, in the first half negated. -/
theorem sines_apply (x : FVec Ideal Half .f32) (h) (s : Fin 4096) (d : Fin 128) :
    concatenate Full 1 [(⟨Half, Host.negf (Host.sin x)⟩ : (s : Shape) × (s.Idx → EReal)), ⟨Half, Host.sin x⟩] h (ix2 s d)
      = if d.val < 64 then -(Ideal.sin (x (ix2 s (low d)))) else Ideal.sin (x (ix2 s (low d))) := by
  rw [sides_apply]
  rfl

end Cert.Rotate

end
-- ==== Proof.DilSpec.lean ====
/-
  What the dilated head projections compute, written once for both programs: for each of 48 heads, the input times the
  head's 128 columns of the weight plus the bias; queries and keys are divided by their root mean square, multiplied by a
  gain and turned to their position. The first 24 heads list, in every block of 1024 tokens, the tokens 0, 4, 8, …, then
  1, 5, 9, …; the last 24 list the tokens 0, 16, 32, …, then 1, 17, 33, …
-/
module

public import proofs.«01_k».proof.Proof.NatSpec
public import proofs.«01_k».proof.Proof.Rotate

@[expose] public section

noncomputable section

namespace Cert.Dil

open Idealize.ShloMosaic Idealize.ShloMosaic.ValueIdx

/-- The position that stands `p`-th in a head with stride 4, -/
def place4 (p : Fin 4096) : Fin 4096 := ⟨1024 * (p.val / 1024) + (4 * (p.val % 256) + p.val % 1024 / 256), by omega⟩
/-- and in a head with stride 16. -/
def place16 (p : Fin 4096) : Fin 4096 := ⟨1024 * (p.val / 1024) + (16 * (p.val % 64) + p.val % 1024 / 64), by omega⟩

/-- The stride is 4 in the first 24 heads and 16 in the last. -/
def place (n : Fin 48) (p : Fin 4096) : Fin 4096 := if n.val < 24 then place4 p else place16 p

/-- The group of gains a head uses. -/
def group (n : Fin 48) : Fin 3 := ⟨n.val / 24 + 1, by omega⟩

/-- Column `e` of head `n`: queries, keys and values are 3072 columns each, a group of 8 heads is 1024. -/
def col (n : Fin 48) (e : Fin 128) : Fin 26640 :=
  ⟨3072 * (n.val % 24 / 8) + 1024 * (n.val / 24 + 1) + 128 * (n.val % 8) + e.val, by omega⟩

/-- What head `n` makes of its projection `z` at position `s`. -/
def finish (gq gk : Fin 128 → EReal) (n : Fin 48) (z : Fin 128 → EReal) (s : Fin 4096) (d : Fin 128) : EReal :=
  if n.val % 24 < 8 then Cert.Rotate.rotated (Cert.Nat.normed z gq) s d
  else if n.val % 24 < 16 then Cert.Rotate.rotated (Cert.Nat.normed z gk) s d
  else z d

/-- Head `n` of sequence `q`, at the position `s`. -/
def entry (h : (⟨2, ![16384, 4096]⟩ : Shape).Idx → EReal) (w : (⟨3, ![1, 4096, 26640]⟩ : Shape).Idx → EReal)
    (b : (⟨2, ![1, 26640]⟩ : Shape).Idx → EReal) (gq gk : (⟨3, ![1, 3, 128]⟩ : Shape).Idx → EReal)
    (q : Fin 4) (n : Fin 48) (s : Fin 4096) (d : Fin 128) : EReal :=
  finish (fun e => gq (ix3 (0 : Fin 1) (group n) e)) (fun e => gk (ix3 (0 : Fin 1) (group n) e)) n
    (fun e => Cert.Nat.lin h w b (Cert.Nat.token q s) (col n e)) s d

/-- The whole array. -/
def heads (h : (⟨2, ![16384, 4096]⟩ : Shape).Idx → EReal) (w : (⟨3, ![1, 4096, 26640]⟩ : Shape).Idx → EReal)
    (b : (⟨2, ![1, 26640]⟩ : Shape).Idx → EReal) (gq gk : (⟨3, ![1, 3, 128]⟩ : Shape).Idx → EReal) :
    (⟨4, ![4, 48, 4096, 128]⟩ : Shape).Idx → EReal :=
  fun i => entry h w b gq gk (i 0) (i 1) (place (i 1) (i 2)) (i 3)

end Cert.Dil

end
-- ==== Proof.DilPoint.lean ====
/-
  The tiles of the dilated head projections read at an element, over the extended reals.
-/
module

public import proofs.«01_k».proof.Proof.DilTile
public import proofs.«01_k».proof.Proof.DilSpec
public import proofs.«01_k».proof.Proof.Sigmoid
public import Idealize.ShloMosaic.Lib.MatmulPlain
public import Idealize.ShloMosaic.Lib.KernelVsHost

@[expose] public section

noncomputable section

namespace Cert.DilKernelIdeal.Hand

open Cert.DilKernelIdeal Cert.DilKernelIdeal.Gen Idealize.ShloMosaic Idealize.ShloMosaic.TcCoe Idealize.SL.Sem
open Idealize.ShloMosaic.ValueIdx
open scoped BigOperators

theorem zero2 : (![0, 0] : Fin 2 → Nat) = fun _ => 0 := funext fun a => by fin_cases a <;> rfl

/-- The block product plus the bias, read at an element. -/
theorem acc_apply (x0 x1 : Vec Ideal S1024x4096 .bf16) (x2 : Vec Ideal S1x1024 .f32) (p q : Fin 1024) :
    acc (F := Ideal) x0 x1 x2 (ix2 p q) = (∑ k : Fin 4096, x0 (ix2 p k) * x1 (ix2 q k)) + x2 (ix2 (0 : Fin 1) q) := by
  have hm : matmul (F := Ideal) (φ₁ := .bf16) (φ₂ := .bf16) dot_S1024x4096_S1024x4096_S1024x1024_1_1_0_0_n_n none x0 x1
      (constant S1024x1024 .f32 0x00000000#32) (ix2 p q) = ∑ k : Fin 4096, x0 (ix2 p k) * x1 (ix2 q k) := by
    refine (Ideal.matmul_transposedRhs_apply none x0 x1 _ p q).trans ?_
    rw [constant_apply, Ideal.ofBits_zero_f32, zero_add]
  have hb : broadcastTo S1024x1024 x2 broadcasts_S1x1024_S1024x1024 (ix2 p q) = x2 (ix2 (0 : Fin 1) q) :=
    broadcastTo_apply x2 broadcasts_S1x1024_S1024x1024 (ix2 p q) (ix2 (0 : Fin 1) q) (fun a => match a with
      | ⟨0, _⟩ => rfl
      | ⟨1, _⟩ => rfl)
  unfold acc
  rw [View.ld_unit_zero zero2, View.ld_unit_zero zero2, View.ld_unit_zero zero2]
  have e1 : shapeCast S1024x4096 x1 shapeCasts_S1024x4096_S1024x4096 = x1 := shapeCast_self _ _
  have e2 : shapeCast S1x1024 x2 shapeCasts_S1x1024_S1x1024 = x2 := shapeCast_self _ _
  show matmul (F := Ideal) (φ₁ := .bf16) (φ₂ := .bf16) dot_S1024x4096_S1024x4096_S1024x1024_1_1_0_0_n_n none x0
      (shapeCast S1024x4096 x1 shapeCasts_S1024x4096_S1024x4096) (constant S1024x1024 .f32 0x00000000#32) (ix2 p q)
    + broadcastTo S1024x1024 (shapeCast S1x1024 x2 shapeCasts_S1x1024_S1x1024) broadcasts_S1x1024_S1024x1024 (ix2 p q) = _
  rw [e1, e2, hm, hb]

theorem slab_apply (a : FVec Ideal S1024x1024 .f32) (h : Fin 8) (p : Fin 1024) (d : Fin 128) :
    slab a h (ix2 p d) = a (ix2 p (⟨128 * h.val + d.val, by omega⟩ : Fin 1024)) := by
  unfold slab
  rw [shapeCast_self]
  exact extractStridedSlice_apply _ _ _ (ix2 p d) (ix2 p (⟨128 * h.val + d.val, by omega⟩ : Fin 1024)) (fun a => match a with
    | ⟨0, _⟩ => (Nat.zero_add _).symm
    | ⟨1, _⟩ => rfl)

theorem lane_apply (g : Vec Ideal S1x1024 .f32) (h : Fin 8) (d : Fin 128) :
    lane g h (ix2 (0 : Fin 1) d) = g (ix2 (0 : Fin 1) (⟨128 * h.val + d.val, by omega⟩ : Fin 1024)) := by
  unfold lane
  show g ((Rect.unit (s := S1x1024) ![0, 128 * h.val] S1x128.size (lane_ok h)).emb (ix2 (0 : Fin 1) d)) = _
  refine congrArg g (funext fun a => Fin.ext ?_)
  match a with
  | ⟨0, _⟩ => rfl
  | ⟨1, _⟩ => show 128 * h.val + 1 * d.val = 128 * h.val + d.val; omega

theorem one_gt : Ideal.cmp .ogt (Ideal.ofBits .f32 0x3F800000#32) (Ideal.ofBits .f32 0x3F000000#32) = 1#1 := by
  rw [Ideal.ofBits_one_f32, Cert.Sigmoid.half_eq]
  have h : ((1 / 2 : ℝ) : EReal) < 1 := by rw [show (1 : EReal) = ((1 : ℝ) : EReal) by norm_cast]; exact EReal.coe_lt_coe_iff.2 (by norm_num)
  show BitVec.ofBool (decide (((1 / 2 : ℝ) : EReal) < 1)) = 1#1
  rw [decide_eq_true h]; rfl

theorem zero_gt : Ideal.cmp .ogt (Ideal.ofBits .f32 0x00000000#32) (Ideal.ofBits .f32 0x3F000000#32) = 0#1 := by
  rw [Ideal.ofBits_zero_f32, Cert.Sigmoid.half_eq]
  have h : ¬ ((1 / 2 : ℝ) : EReal) < 0 := by rw [show (0 : EReal) = ((0 : ℝ) : EReal) by norm_cast]; exact fun h => absurd (EReal.coe_lt_coe_iff.1 h) (by norm_num)
  show BitVec.ofBool (decide (((1 / 2 : ℝ) : EReal) < 0)) = 0#1
  rw [decide_eq_false h]; rfl

/-- The column of the block that entry `d` of head `h` is. -/
abbrev bcol (h : Fin 8) (d : Fin 128) : Fin 1024 := ⟨128 * h.val + d.val, by omega⟩

/-! ## Every 4th token -/

theorem part4_apply (x : Vec Ideal S1x1024x128 .f32) (r : Fin 4) (p : Fin 256) (d : Fin 128) :
    shapeCast S256x128 (part4 x r) shapeCasts_S1x256x128_S256x128 (ix2 p d)
      = x (ix3 (0 : Fin 1) (⟨256 * r.val + p.val, by omega⟩ : Fin 1024) d) := by
  refine (shapeCast_apply _ _ (ix2 p d) (ix3 (0 : Fin 1) p d) (by
    rewrite [Shape.rowMajor_val_three, Shape.rowMajor_val_two]
    show (0 * 256 + p.val) * 128 + d.val = p.val * 128 + d.val
    omega)).trans ?_
  unfold part4
  show x ((Rect.unit (s := S1x1024x128) ![0, 256 * r.val, 0] S1x256x128.size (part4_ok r)).emb (ix3 (0 : Fin 1) p d)) = _
  refine congrArg x (funext fun a => Fin.ext ?_)
  match a with
  | ⟨0, _⟩ => rfl
  | ⟨1, _⟩ => show 256 * r.val + 1 * p.val = 256 * r.val + p.val; omega
  | ⟨2, _⟩ => show 0 + 1 * d.val = d.val; omega

theorem every4_apply (a : FVec Ideal S1024x1024 .f32) (h : Fin 8) (r : Fin 4) (p : Fin 256) (d : Fin 128) :
    every4 (slab a h) r (ix2 p d) = a (ix2 (⟨4 * p.val + r.val, by omega⟩ : Fin 1024) (bcol h d)) := by
  refine Eq.trans ?_ (slab_apply a h (⟨4 * p.val + r.val, by omega⟩ : Fin 1024) d)
  refine congrArg (slab a h) (funext fun a => ?_)
  match a with
  | ⟨0, _⟩ => rfl
  | ⟨1, _⟩ => rfl

theorem row4_lane {α : Type} (g : S1x128.Idx → α) (p : Fin 256) (d : Fin 128) :
    broadcastTo S256x128 g broadcasts_S1x128_S256x128 (ix2 p d) = g (ix2 (0 : Fin 1) d) :=
  broadcastTo_apply g broadcasts_S1x128_S256x128 (ix2 p d) (ix2 (0 : Fin 1) d) (fun a => match a with
    | ⟨0, _⟩ => rfl
    | ⟨1, _⟩ => rfl)

/-- A tile of four axes read through the two that count. -/
theorem box4_apply {φ : FTy} (y : FVec Ideal S256x128 φ) (p : Fin 256) (d : Fin 128) :
    shapeCast S1x1x256x128 y shapeCasts_S256x128_S1x1x256x128 (ix4 (0 : Fin 1) (0 : Fin 1) p d) = y (ix2 p d) :=
  shapeCast_apply _ _ (ix4 (0 : Fin 1) (0 : Fin 1) p d) (ix2 p d) (by
    rewrite [Shape.rowMajor_val_four, Shape.rowMajor_val_two]
    show p.val * 128 + d.val = ((0 * 1 + 0) * 256 + p.val) * 128 + d.val
    omega)

/-- The norm of a tile, before the flag chooses. -/
theorem norm4_apply (s : FVec Ideal S256x128 .f32) (g : FVec Ideal S1x128 .f32) (p : Fin 256) (d : Fin 128) :
    mulf (mulf s (broadcastTo S256x128 (rsqrt (addf (divf (shapeCast S256x1 (multiReduction (F := Ideal) .add [1] S256 (mulf s s) 0x00000000#32 reduces_S256x128_S256 (.inl rfl) rfl) shapeCasts_S256_S256x1)
        (broadcast S256x1 (Scalar.ofBits .f32 0x43000000#32))) (broadcast S256x1 (Scalar.ofBits .f32 0x358637BD#32))) : FVec Ideal S256x1 .f32) broadcasts_S256x1_S256x128))
        (broadcastTo S256x128 (shapeCast S1x128 g shapeCasts_S1x128_S1x128) broadcasts_S1x128_S256x128) (ix2 p d)
      = Cert.Nat.normed (fun e => s (ix2 p e)) (fun e => g (ix2 (0 : Fin 1) e)) d := by
  rw [mulf_apply, mulf_apply, shapeCast_self, row4_lane]
  rw [broadcastTo_apply _ broadcasts_S256x1_S256x128 (ix2 p d) (ix2 p (0 : Fin 1)) (fun a => match a with
    | ⟨0, _⟩ => rfl
    | ⟨1, _⟩ => rfl)]
  have hr : ∀ x : FVec Ideal S256x1 .f32, rsqrt x (ix2 p (0 : Fin 1)) = Ideal.rsqrt (x (ix2 p (0 : Fin 1))) := fun _ => rfl
  rw [hr, addf_apply, divf_apply, shapeCast_apply _ shapeCasts_S256_S256x1 (ix2 p (0 : Fin 1)) (ix1 p) (by
    rewrite [Shape.rowMajor_val_two, Shape.rowMajor_val_one]
    show p.val = p.val * 1 + 0
    omega)]
  have hl : ∀ k : Fin 128, reduces_S256x128_S256.lift (ix1 p) k = ix2 p k := fun k => funext fun a => match a with
    | ⟨0, _⟩ => rfl
    | ⟨1, _⟩ => rfl
  have hs : multiReduction (F := Ideal) .add [1] S256 (mulf s s) 0x00000000#32 reduces_S256x128_S256 (.inl rfl) rfl (ix1 p)
      = ∑ e : Fin 128, s (ix2 p e) * s (ix2 p e) :=
    (Ideal.multiReduction_add_single (mulf s s) _ reduces_S256x128_S256 _ _ (ix1 p)).trans
      (Finset.sum_congr rfl fun k _ => (congrArg (mulf s s) (hl k)).trans (mulf_apply s s _))
  exact congrArg (fun u => s (ix2 p d) * Ideal.rsqrt (Ideal.div u (Ideal.ofBits .f32 0x43000000#32) + Ideal.ofBits .f32 0x358637BD#32)
    * g (ix2 (0 : Fin 1) d)) hs

/-- A tile, whatever the flag chose: turned by the tables. -/
theorem turn4_apply (z : FVec Ideal S256x128 .f32) (cs sn : FVec Ideal S1x256x128 .f32) (p : Fin 256) (d : Fin 128) :
    shapeCast S1x1x256x128 (truncf .bf16 (addf (mulf z (shapeCast S256x128 cs shapeCasts_S1x256x128_S256x128))
        (mulf (dynamicRotate 1 64#32 none z rotates_S256x128_d1) (shapeCast S256x128 sn shapeCasts_S1x256x128_S256x128))) bitsLt_bf16_f32 : FVec Ideal S256x128 .bf16)
        shapeCasts_S256x128_S1x1x256x128 (ix4 (0 : Fin 1) (0 : Fin 1) p d)
      = z (ix2 p d) * shapeCast S256x128 cs shapeCasts_S1x256x128_S256x128 (ix2 p d)
        + z (ix2 p (Cert.Rotate.other d)) * shapeCast S256x128 sn shapeCasts_S1x256x128_S256x128 (ix2 p d) := by
  have hr : dynamicRotate 1 64#32 none z rotates_S256x128_d1 (ix2 p d) = z (ix2 p (Cert.Rotate.other d)) :=
    dynamicRotate_apply _ _ _ _ (ix2 p d) (ix2 p (Cert.Rotate.other d)) (fun b => match b with
      | ⟨0, _⟩ => rfl
      | ⟨1, _⟩ => rfl)
  rw [box4_apply, truncf_apply, addf_apply, mulf_apply, mulf_apply, hr]

/-- What the flag chooses. -/
theorem choose4_apply (y s : FVec Ideal S256x128 .f32) (f : FVec Ideal S1x128 .f32) (p : Fin 256) (d : Fin 128) :
    select (broadcastTo S256x128 (shapeCast S1x128 (cmpf .ogt (shapeCast S1x128 f shapeCasts_S1x128_S1x128) (broadcast S1x128 (Scalar.ofBits .f32 0x3F000000#32)) : IVec S1x128 1) shapeCasts_S1x128_S1x128) broadcasts_S1x128_S256x128) y s (ix2 p d)
      = Scalar.select (Ideal.cmp .ogt (f (ix2 (0 : Fin 1) d)) (Ideal.ofBits .f32 0x3F000000#32)) (y (ix2 p d)) (s (ix2 p d)) := by
  rw [select_apply, row4_lane, shapeCast_self, shapeCast_self]
  rfl

/-- A tile whose flags are one, -/
theorem tile4_on (s : FVec Ideal S256x128 .f32) (g f : FVec Ideal S1x128 .f32) (cs sn : FVec Ideal S1x256x128 .f32) (p : Fin 256) (d : Fin 128)
    (hf : ∀ e : Fin 128, f (ix2 (0 : Fin 1) e) = Ideal.ofBits .f32 0x3F800000#32) :
    tile4 s g f cs sn (ix4 (0 : Fin 1) (0 : Fin 1) p d)
      = Cert.Nat.normed (fun e => s (ix2 p e)) (fun e => g (ix2 (0 : Fin 1) e)) d * shapeCast S256x128 cs shapeCasts_S1x256x128_S256x128 (ix2 p d)
        + Cert.Nat.normed (fun e => s (ix2 p e)) (fun e => g (ix2 (0 : Fin 1) e)) (Cert.Rotate.other d) * shapeCast S256x128 sn shapeCasts_S1x256x128_S256x128 (ix2 p d) := by
  unfold tile4
  dsimp only
  have hx : ∀ x y : EReal, Scalar.select (1#1) x y = x := fun _ _ => rfl
  rw [turn4_apply, choose4_apply, choose4_apply, hf, hf, one_gt, hx, hx, norm4_apply, norm4_apply]

/-- and one whose flags are zero. -/
theorem tile4_off (s : FVec Ideal S256x128 .f32) (g f : FVec Ideal S1x128 .f32) (cs sn : FVec Ideal S1x256x128 .f32) (p : Fin 256) (d : Fin 128)
    (hf : ∀ e : Fin 128, f (ix2 (0 : Fin 1) e) = Ideal.ofBits .f32 0x00000000#32) :
    tile4 s g f cs sn (ix4 (0 : Fin 1) (0 : Fin 1) p d)
      = s (ix2 p d) * shapeCast S256x128 cs shapeCasts_S1x256x128_S256x128 (ix2 p d)
        + s (ix2 p (Cert.Rotate.other d)) * shapeCast S256x128 sn shapeCasts_S1x256x128_S256x128 (ix2 p d) := by
  unfold tile4
  dsimp only
  have hx : ∀ x y : EReal, Scalar.select (0#1) x y = y := fun _ _ => rfl
  rw [turn4_apply, choose4_apply, choose4_apply, hf, hf, zero_gt, hx, hx]

/-- A block's element, through the tile it lies in. -/
theorem gather4_apply (T : Fin 4 → Fin 8 → FVec Ideal S1x1x256x128 .bf16) (h : Fin 8) (s : Fin 1024) (d : Fin 128) :
    gather4 T (ix4 (0 : Fin 1) h s d)
      = T (⟨s.val / 256, by omega⟩ : Fin 4) h (ix4 (0 : Fin 1) (0 : Fin 1) (⟨s.val % 256, by omega⟩ : Fin 256) d) := by
  unfold gather4
  refine congrArg (T _ _) (funext fun a => ?_)
  match a with
  | ⟨0, _⟩ => rfl
  | ⟨1, _⟩ => rfl
  | ⟨2, _⟩ => rfl
  | ⟨3, _⟩ => rfl

theorem whole4 (s : Fin 1024) (h : 256 * (s.val / 256) + s.val % 256 < 1024) :
    (⟨256 * (s.val / 256) + s.val % 256, h⟩ : Fin 1024) = s := Fin.ext (by show 256 * (s.val / 256) + s.val % 256 = s.val; omega)

/-- The token of the block that stands in row `s` of the result's block. -/
abbrev from4 (s : Fin 1024) : Fin 1024 := ⟨4 * (s.val % 256) + s.val / 256, by omega⟩

/-- The block at an element where the flags are one, -/
theorem out4_on (x0 x1 : Vec Ideal S1024x4096 .bf16) (x2 x3 x4 : Vec Ideal S1x1024 .f32) (x5 x6 : Vec Ideal S1x1024x128 .f32) (h : Fin 8) (s : Fin 1024) (d : Fin 128)
    (hf : ∀ q, x4 (ix2 (0 : Fin 1) q) = Ideal.ofBits .f32 0x3F800000#32)
    (z g : Fin 128 → EReal) (hz : ∀ e, (∑ k : Fin 4096, x0 (ix2 (from4 s) k) * x1 (ix2 (bcol h e) k)) + x2 (ix2 (0 : Fin 1) (bcol h e)) = z e)
    (hg : ∀ e, x3 (ix2 (0 : Fin 1) (bcol h e)) = g e) :
    out4 x0 x1 x2 x3 x4 x5 x6 (ix4 (0 : Fin 1) h s d)
      = Cert.Nat.normed z g d * x5 (ix3 (0 : Fin 1) s d) + Cert.Nat.normed z g (Cert.Rotate.other d) * x6 (ix3 (0 : Fin 1) s d) := by
  unfold out4 tiles4
  rw [gather4_apply, tile4_on _ _ _ _ _ _ _ (fun e => (lane_apply _ _ _).trans (hf _))]
  simp only [every4_apply, lane_apply, acc_apply, hz, hg]
  exact congrArg₂ (fun u v => Cert.Nat.normed z g d * u + Cert.Nat.normed z g (Cert.Rotate.other d) * v)
    ((part4_apply x5 _ _ d).trans (congrArg (fun r => x5 (ix3 (0 : Fin 1) r d)) (whole4 s (by omega))))
    ((part4_apply x6 _ _ d).trans (congrArg (fun r => x6 (ix3 (0 : Fin 1) r d)) (whole4 s (by omega))))

/-- and where they are zero. -/
theorem out4_off (x0 x1 : Vec Ideal S1024x4096 .bf16) (x2 x3 x4 : Vec Ideal S1x1024 .f32) (x5 x6 : Vec Ideal S1x1024x128 .f32) (h : Fin 8) (s : Fin 1024) (d : Fin 128)
    (hf : ∀ q, x4 (ix2 (0 : Fin 1) q) = Ideal.ofBits .f32 0x00000000#32)
    (z : Fin 128 → EReal) (hz : ∀ e, (∑ k : Fin 4096, x0 (ix2 (from4 s) k) * x1 (ix2 (bcol h e) k)) + x2 (ix2 (0 : Fin 1) (bcol h e)) = z e) :
    out4 x0 x1 x2 x3 x4 x5 x6 (ix4 (0 : Fin 1) h s d)
      = z d * x5 (ix3 (0 : Fin 1) s d) + z (Cert.Rotate.other d) * x6 (ix3 (0 : Fin 1) s d) := by
  unfold out4 tiles4
  rw [gather4_apply, tile4_off _ _ _ _ _ _ _ (fun e => (lane_apply _ _ _).trans (hf _))]
  simp only [every4_apply, acc_apply, hz]
  exact congrArg₂ (fun u v => z d * u + z (Cert.Rotate.other d) * v)
    ((part4_apply x5 _ _ d).trans (congrArg (fun r => x5 (ix3 (0 : Fin 1) r d)) (whole4 s (by omega))))
    ((part4_apply x6 _ _ d).trans (congrArg (fun r => x6 (ix3 (0 : Fin 1) r d)) (whole4 s (by omega))))

/-! ## Every 16th token -/

theorem part16_apply (x : Vec Ideal S1x1024x128 .f32) (r : Fin 16) (p : Fin 64) (d : Fin 128) :
    shapeCast S64x128 (part16 x r) shapeCasts_S1x64x128_S64x128 (ix2 p d)
      = x (ix3 (0 : Fin 1) (⟨64 * r.val + p.val, by omega⟩ : Fin 1024) d) := by
  refine (shapeCast_apply _ _ (ix2 p d) (ix3 (0 : Fin 1) p d) (by
    rewrite [Shape.rowMajor_val_three, Shape.rowMajor_val_two]
    show (0 * 64 + p.val) * 128 + d.val = p.val * 128 + d.val
    omega)).trans ?_
  unfold part16
  show x ((Rect.unit (s := S1x1024x128) ![0, 64 * r.val, 0] S1x64x128.size (part16_ok r)).emb (ix3 (0 : Fin 1) p d)) = _
  refine congrArg x (funext fun a => Fin.ext ?_)
  match a with
  | ⟨0, _⟩ => rfl
  | ⟨1, _⟩ => show 64 * r.val + 1 * p.val = 64 * r.val + p.val; omega
  | ⟨2, _⟩ => show 0 + 1 * d.val = d.val; omega

theorem every16_apply (a : FVec Ideal S1024x1024 .f32) (h : Fin 8) (r : Fin 16) (p : Fin 64) (d : Fin 128) :
    every16 (slab a h) r (ix2 p d) = a (ix2 (⟨16 * p.val + r.val, by omega⟩ : Fin 1024) (bcol h d)) := by
  refine Eq.trans ?_ (slab_apply a h (⟨16 * p.val + r.val, by omega⟩ : Fin 1024) d)
  refine congrArg (slab a h) (funext fun a => ?_)
  match a with
  | ⟨0, _⟩ => rfl
  | ⟨1, _⟩ => rfl

theorem row16_lane {α : Type} (g : S1x128.Idx → α) (p : Fin 64) (d : Fin 128) :
    broadcastTo S64x128 g broadcasts_S1x128_S64x128 (ix2 p d) = g (ix2 (0 : Fin 1) d) :=
  broadcastTo_apply g broadcasts_S1x128_S64x128 (ix2 p d) (ix2 (0 : Fin 1) d) (fun a => match a with
    | ⟨0, _⟩ => rfl
    | ⟨1, _⟩ => rfl)

/-- A tile of four axes read through the two that count. -/
theorem box16_apply {φ : FTy} (y : FVec Ideal S64x128 φ) (p : Fin 64) (d : Fin 128) :
    shapeCast S1x1x64x128 y shapeCasts_S64x128_S1x1x64x128 (ix4 (0 : Fin 1) (0 : Fin 1) p d) = y (ix2 p d) :=
  shapeCast_apply _ _ (ix4 (0 : Fin 1) (0 : Fin 1) p d) (ix2 p d) (by
    rewrite [Shape.rowMajor_val_four, Shape.rowMajor_val_two]
    show p.val * 128 + d.val = ((0 * 1 + 0) * 64 + p.val) * 128 + d.val
    omega)

/-- The norm of a tile, before the flag chooses. -/
theorem norm16_apply (s : FVec Ideal S64x128 .f32) (g : FVec Ideal S1x128 .f32) (p : Fin 64) (d : Fin 128) :
    mulf (mulf s (broadcastTo S64x128 (rsqrt (addf (divf (shapeCast S64x1 (multiReduction (F := Ideal) .add [1] S64 (mulf s s) 0x00000000#32 reduces_S64x128_S64 (.inl rfl) rfl) shapeCasts_S64_S64x1)
        (broadcast S64x1 (Scalar.ofBits .f32 0x43000000#32))) (broadcast S64x1 (Scalar.ofBits .f32 0x358637BD#32))) : FVec Ideal S64x1 .f32) broadcasts_S64x1_S64x128))
        (broadcastTo S64x128 (shapeCast S1x128 g shapeCasts_S1x128_S1x128) broadcasts_S1x128_S64x128) (ix2 p d)
      = Cert.Nat.normed (fun e => s (ix2 p e)) (fun e => g (ix2 (0 : Fin 1) e)) d := by
  rw [mulf_apply, mulf_apply, shapeCast_self, row16_lane]
  rw [broadcastTo_apply _ broadcasts_S64x1_S64x128 (ix2 p d) (ix2 p (0 : Fin 1)) (fun a => match a with
    | ⟨0, _⟩ => rfl
    | ⟨1, _⟩ => rfl)]
  have hr : ∀ x : FVec Ideal S64x1 .f32, rsqrt x (ix2 p (0 : Fin 1)) = Ideal.rsqrt (x (ix2 p (0 : Fin 1))) := fun _ => rfl
  rw [hr, addf_apply, divf_apply, shapeCast_apply _ shapeCasts_S64_S64x1 (ix2 p (0 : Fin 1)) (ix1 p) (by
    rewrite [Shape.rowMajor_val_two, Shape.rowMajor_val_one]
    show p.val = p.val * 1 + 0
    omega)]
  have hl : ∀ k : Fin 128, reduces_S64x128_S64.lift (ix1 p) k = ix2 p k := fun k => funext fun a => match a with
    | ⟨0, _⟩ => rfl
    | ⟨1, _⟩ => rfl
  have hs : multiReduction (F := Ideal) .add [1] S64 (mulf s s) 0x00000000#32 reduces_S64x128_S64 (.inl rfl) rfl (ix1 p)
      = ∑ e : Fin 128, s (ix2 p e) * s (ix2 p e) :=
    (Ideal.multiReduction_add_single (mulf s s) _ reduces_S64x128_S64 _ _ (ix1 p)).trans
      (Finset.sum_congr rfl fun k _ => (congrArg (mulf s s) (hl k)).trans (mulf_apply s s _))
  exact congrArg (fun u => s (ix2 p d) * Ideal.rsqrt (Ideal.div u (Ideal.ofBits .f32 0x43000000#32) + Ideal.ofBits .f32 0x358637BD#32)
    * g (ix2 (0 : Fin 1) d)) hs

/-- A tile, whatever the flag chose: turned by the tables. -/
theorem turn16_apply (z : FVec Ideal S64x128 .f32) (cs sn : FVec Ideal S1x64x128 .f32) (p : Fin 64) (d : Fin 128) :
    shapeCast S1x1x64x128 (truncf .bf16 (addf (mulf z (shapeCast S64x128 cs shapeCasts_S1x64x128_S64x128))
        (mulf (dynamicRotate 1 64#32 none z rotates_S64x128_d1) (shapeCast S64x128 sn shapeCasts_S1x64x128_S64x128))) bitsLt_bf16_f32 : FVec Ideal S64x128 .bf16)
        shapeCasts_S64x128_S1x1x64x128 (ix4 (0 : Fin 1) (0 : Fin 1) p d)
      = z (ix2 p d) * shapeCast S64x128 cs shapeCasts_S1x64x128_S64x128 (ix2 p d)
        + z (ix2 p (Cert.Rotate.other d)) * shapeCast S64x128 sn shapeCasts_S1x64x128_S64x128 (ix2 p d) := by
  have hr : dynamicRotate 1 64#32 none z rotates_S64x128_d1 (ix2 p d) = z (ix2 p (Cert.Rotate.other d)) :=
    dynamicRotate_apply _ _ _ _ (ix2 p d) (ix2 p (Cert.Rotate.other d)) (fun b => match b with
      | ⟨0, _⟩ => rfl
      | ⟨1, _⟩ => rfl)
  rw [box16_apply, truncf_apply, addf_apply, mulf_apply, mulf_apply, hr]

/-- What the flag chooses. -/
theorem choose16_apply (y s : FVec Ideal S64x128 .f32) (f : FVec Ideal S1x128 .f32) (p : Fin 64) (d : Fin 128) :
    select (broadcastTo S64x128 (shapeCast S1x128 (cmpf .ogt (shapeCast S1x128 f shapeCasts_S1x128_S1x128) (broadcast S1x128 (Scalar.ofBits .f32 0x3F000000#32)) : IVec S1x128 1) shapeCasts_S1x128_S1x128) broadcasts_S1x128_S64x128) y s (ix2 p d)
      = Scalar.select (Ideal.cmp .ogt (f (ix2 (0 : Fin 1) d)) (Ideal.ofBits .f32 0x3F000000#32)) (y (ix2 p d)) (s (ix2 p d)) := by
  rw [select_apply, row16_lane, shapeCast_self, shapeCast_self]
  rfl

/-- A tile whose flags are one, -/
theorem tile16_on (s : FVec Ideal S64x128 .f32) (g f : FVec Ideal S1x128 .f32) (cs sn : FVec Ideal S1x64x128 .f32) (p : Fin 64) (d : Fin 128)
    (hf : ∀ e : Fin 128, f (ix2 (0 : Fin 1) e) = Ideal.ofBits .f32 0x3F800000#32) :
    tile16 s g f cs sn (ix4 (0 : Fin 1) (0 : Fin 1) p d)
      = Cert.Nat.normed (fun e => s (ix2 p e)) (fun e => g (ix2 (0 : Fin 1) e)) d * shapeCast S64x128 cs shapeCasts_S1x64x128_S64x128 (ix2 p d)
        + Cert.Nat.normed (fun e => s (ix2 p e)) (fun e => g (ix2 (0 : Fin 1) e)) (Cert.Rotate.other d) * shapeCast S64x128 sn shapeCasts_S1x64x128_S64x128 (ix2 p d) := by
  unfold tile16
  dsimp only
  have hx : ∀ x y : EReal, Scalar.select (1#1) x y = x := fun _ _ => rfl
  rw [turn16_apply, choose16_apply, choose16_apply, hf, hf, one_gt, hx, hx, norm16_apply, norm16_apply]

/-- and one whose flags are zero. -/
theorem tile16_off (s : FVec Ideal S64x128 .f32) (g f : FVec Ideal S1x128 .f32) (cs sn : FVec Ideal S1x64x128 .f32) (p : Fin 64) (d : Fin 128)
    (hf : ∀ e : Fin 128, f (ix2 (0 : Fin 1) e) = Ideal.ofBits .f32 0x00000000#32) :
    tile16 s g f cs sn (ix4 (0 : Fin 1) (0 : Fin 1) p d)
      = s (ix2 p d) * shapeCast S64x128 cs shapeCasts_S1x64x128_S64x128 (ix2 p d)
        + s (ix2 p (Cert.Rotate.other d)) * shapeCast S64x128 sn shapeCasts_S1x64x128_S64x128 (ix2 p d) := by
  unfold tile16
  dsimp only
  have hx : ∀ x y : EReal, Scalar.select (0#1) x y = y := fun _ _ => rfl
  rw [turn16_apply, choose16_apply, choose16_apply, hf, hf, zero_gt, hx, hx]

/-- A block's element, through the tile it lies in. -/
theorem gather16_apply (T : Fin 16 → Fin 8 → FVec Ideal S1x1x64x128 .bf16) (h : Fin 8) (s : Fin 1024) (d : Fin 128) :
    gather16 T (ix4 (0 : Fin 1) h s d)
      = T (⟨s.val / 64, by omega⟩ : Fin 16) h (ix4 (0 : Fin 1) (0 : Fin 1) (⟨s.val % 64, by omega⟩ : Fin 64) d) := by
  unfold gather16
  refine congrArg (T _ _) (funext fun a => ?_)
  match a with
  | ⟨0, _⟩ => rfl
  | ⟨1, _⟩ => rfl
  | ⟨2, _⟩ => rfl
  | ⟨3, _⟩ => rfl

theorem whole16 (s : Fin 1024) (h : 64 * (s.val / 64) + s.val % 64 < 1024) :
    (⟨64 * (s.val / 64) + s.val % 64, h⟩ : Fin 1024) = s := Fin.ext (by show 64 * (s.val / 64) + s.val % 64 = s.val; omega)

/-- The token of the block that stands in row `s` of the result's block. -/
abbrev from16 (s : Fin 1024) : Fin 1024 := ⟨16 * (s.val % 64) + s.val / 64, by omega⟩

/-- The block at an element where the flags are one, -/
theorem out16_on (x0 x1 : Vec Ideal S1024x4096 .bf16) (x2 x3 x4 : Vec Ideal S1x1024 .f32) (x5 x6 : Vec Ideal S1x1024x128 .f32) (h : Fin 8) (s : Fin 1024) (d : Fin 128)
    (hf : ∀ q, x4 (ix2 (0 : Fin 1) q) = Ideal.ofBits .f32 0x3F800000#32)
    (z g : Fin 128 → EReal) (hz : ∀ e, (∑ k : Fin 4096, x0 (ix2 (from16 s) k) * x1 (ix2 (bcol h e) k)) + x2 (ix2 (0 : Fin 1) (bcol h e)) = z e)
    (hg : ∀ e, x3 (ix2 (0 : Fin 1) (bcol h e)) = g e) :
    out16 x0 x1 x2 x3 x4 x5 x6 (ix4 (0 : Fin 1) h s d)
      = Cert.Nat.normed z g d * x5 (ix3 (0 : Fin 1) s d) + Cert.Nat.normed z g (Cert.Rotate.other d) * x6 (ix3 (0 : Fin 1) s d) := by
  unfold out16 tiles16
  rw [gather16_apply, tile16_on _ _ _ _ _ _ _ (fun e => (lane_apply _ _ _).trans (hf _))]
  simp only [every16_apply, lane_apply, acc_apply, hz, hg]
  exact congrArg₂ (fun u v => Cert.Nat.normed z g d * u + Cert.Nat.normed z g (Cert.Rotate.other d) * v)
    ((part16_apply x5 _ _ d).trans (congrArg (fun r => x5 (ix3 (0 : Fin 1) r d)) (whole16 s (by omega))))
    ((part16_apply x6 _ _ d).trans (congrArg (fun r => x6 (ix3 (0 : Fin 1) r d)) (whole16 s (by omega))))

/-- and where they are zero. -/
theorem out16_off (x0 x1 : Vec Ideal S1024x4096 .bf16) (x2 x3 x4 : Vec Ideal S1x1024 .f32) (x5 x6 : Vec Ideal S1x1024x128 .f32) (h : Fin 8) (s : Fin 1024) (d : Fin 128)
    (hf : ∀ q, x4 (ix2 (0 : Fin 1) q) = Ideal.ofBits .f32 0x00000000#32)
    (z : Fin 128 → EReal) (hz : ∀ e, (∑ k : Fin 4096, x0 (ix2 (from16 s) k) * x1 (ix2 (bcol h e) k)) + x2 (ix2 (0 : Fin 1) (bcol h e)) = z e) :
    out16 x0 x1 x2 x3 x4 x5 x6 (ix4 (0 : Fin 1) h s d)
      = z d * x5 (ix3 (0 : Fin 1) s d) + z (Cert.Rotate.other d) * x6 (ix3 (0 : Fin 1) s d) := by
  unfold out16 tiles16
  rw [gather16_apply, tile16_off _ _ _ _ _ _ _ (fun e => (lane_apply _ _ _).trans (hf _))]
  simp only [every16_apply, acc_apply, hz]
  exact congrArg₂ (fun u v => z d * u + z (Cert.Rotate.other d) * v)
    ((part16_apply x5 _ _ d).trans (congrArg (fun r => x5 (ix3 (0 : Fin 1) r d)) (whole16 s (by omega))))
    ((part16_apply x6 _ _ d).trans (congrArg (fun r => x6 (ix3 (0 : Fin 1) r d)) (whole16 s (by omega))))

end Cert.DilKernelIdeal.Hand

end
-- ==== Proof.NatPoint.lean ====
/-
  The tiles of the head projections read at an element, over the extended reals.
-/
module

public import proofs.«01_k».proof.Proof.NatTile
public import proofs.«01_k».proof.Proof.DilPoint
public import proofs.«01_k».proof.Proof.NatSpec
public import proofs.«01_k».proof.Proof.Sigmoid
public import Idealize.ShloMosaic.Lib.MatmulPlain

@[expose] public section

noncomputable section

namespace Cert.NatKernelIdeal.Hand

open Cert.NatKernelIdeal Cert.NatKernelIdeal.Gen Idealize.ShloMosaic Idealize.ShloMosaic.TcCoe Idealize.SL.Sem
open Idealize.ShloMosaic.ValueIdx
open scoped BigOperators
open Cert.DilKernelIdeal.Hand (lane acc gather4 lane_apply acc_apply bcol box4_apply norm4_apply one_gt zero_gt gather4_apply whole4)

theorem rows_apply (a : FVec Ideal S1024x1024 .f32) (k : Fin 4) (h : Fin 8) (p : Fin 256) (d : Fin 128) :
    rows a k h (ix2 p d) = a (ix2 (⟨256 * k.val + p.val, by omega⟩ : Fin 1024) (⟨128 * h.val + d.val, by omega⟩ : Fin 1024)) := by
  unfold rows
  exact extractStridedSlice_apply _ _ _ (ix2 p d) (ix2 (⟨256 * k.val + p.val, by omega⟩ : Fin 1024) (⟨128 * h.val + d.val, by omega⟩ : Fin 1024)) (fun a => match a with
    | ⟨0, _⟩ => rfl
    | ⟨1, _⟩ => rfl)

theorem normTile_apply (s : FVec Ideal S256x128 .f32) (g : FVec Ideal S1x128 .f32) (p : Fin 256) (d : Fin 128) :
    normTile s g (ix4 (0 : Fin 1) (0 : Fin 1) p d) = Cert.Nat.normed (fun e => s (ix2 p e)) (fun e => g (ix2 (0 : Fin 1) e)) d := by
  unfold normTile
  dsimp only
  rw [box4_apply, truncf_apply, norm4_apply]

/-- A tile of the activating body: the flag's comparison chooses. -/
theorem actTile_apply (s : FVec Ideal S256x128 .f32) (f : FVec Ideal S1x128 .f32) (p : Fin 256) (d : Fin 128) :
    actTile s f (ix4 (0 : Fin 1) (0 : Fin 1) p d)
      = Scalar.select (Ideal.cmp .ogt (f (ix2 (0 : Fin 1) d)) (Ideal.ofBits .f32 0x3F000000#32)) (Cert.Nat.silu (s (ix2 p d))) (s (ix2 p d)) := by
  unfold actTile
  dsimp only
  rw [box4_apply, truncf_apply, select_apply, shapeCast_self, shapeCast_self]
  rw [broadcastTo_apply _ broadcasts_S1x128_S256x128 (ix2 p d) (ix2 (0 : Fin 1) d) (fun a => match a with
    | ⟨0, _⟩ => rfl
    | ⟨1, _⟩ => rfl)]
  unfold Cert.Nat.silu
  rw [← Cert.Sigmoid.half_tanh]
  rfl

/-- Where the flag is one the entry is activated, -/
theorem actTile_on (s : FVec Ideal S256x128 .f32) (f : FVec Ideal S1x128 .f32) (p : Fin 256) (d : Fin 128)
    (hf : f (ix2 (0 : Fin 1) d) = Ideal.ofBits .f32 0x3F800000#32) :
    actTile s f (ix4 (0 : Fin 1) (0 : Fin 1) p d) = Cert.Nat.silu (s (ix2 p d)) := by
  rw [actTile_apply, hf, one_gt]; rfl

/-- and where it is zero it is left as it is. -/
theorem actTile_off (s : FVec Ideal S256x128 .f32) (f : FVec Ideal S1x128 .f32) (p : Fin 256) (d : Fin 128)
    (hf : f (ix2 (0 : Fin 1) d) = Ideal.ofBits .f32 0x00000000#32) :
    actTile s f (ix4 (0 : Fin 1) (0 : Fin 1) p d) = s (ix2 p d) := by
  rw [actTile_apply, hf, zero_gt]; rfl

/-- The normalising body's block at an element. -/
theorem outNorm_apply (x0 x1 : Vec Ideal S1024x4096 .bf16) (x2 x3 : Vec Ideal S1x1024 .f32) (h : Fin 8) (s : Fin 1024) (d : Fin 128) :
    outNorm x0 x1 x2 x3 (ix4 (0 : Fin 1) h s d)
      = Cert.Nat.normed (fun e => (∑ k : Fin 4096, x0 (ix2 s k) * x1 (ix2 (bcol h e) k)) + x2 (ix2 (0 : Fin 1) (bcol h e)))
          (fun e => x3 (ix2 (0 : Fin 1) (bcol h e))) d := by
  unfold outNorm tilesNorm
  rw [gather4_apply, normTile_apply]
  simp only [rows_apply, lane_apply, acc_apply, whole4]

/-- The activating body's block at an element whose flag is one, -/
theorem outAct_on (x0 x1 : Vec Ideal S1024x4096 .bf16) (x2 x4 : Vec Ideal S1x1024 .f32) (h : Fin 8) (s : Fin 1024) (d : Fin 128)
    (hf : x4 (ix2 (0 : Fin 1) (bcol h d)) = Ideal.ofBits .f32 0x3F800000#32) :
    outAct x0 x1 x2 x4 (ix4 (0 : Fin 1) h s d)
      = Cert.Nat.silu ((∑ k : Fin 4096, x0 (ix2 s k) * x1 (ix2 (bcol h d) k)) + x2 (ix2 (0 : Fin 1) (bcol h d))) := by
  unfold outAct tilesAct
  rw [gather4_apply, actTile_on _ _ _ _ ((lane_apply _ _ _).trans hf)]
  simp only [rows_apply, acc_apply, whole4]

/-- and at one whose flag is zero. -/
theorem outAct_off (x0 x1 : Vec Ideal S1024x4096 .bf16) (x2 x4 : Vec Ideal S1x1024 .f32) (h : Fin 8) (s : Fin 1024) (d : Fin 128)
    (hf : x4 (ix2 (0 : Fin 1) (bcol h d)) = Ideal.ofBits .f32 0x00000000#32) :
    outAct x0 x1 x2 x4 (ix4 (0 : Fin 1) h s d)
      = (∑ k : Fin 4096, x0 (ix2 s k) * x1 (ix2 (bcol h d) k)) + x2 (ix2 (0 : Fin 1) (bcol h d)) := by
  unfold outAct tilesAct
  rw [gather4_apply, actTile_off _ _ _ _ ((lane_apply _ _ _).trans hf)]
  simp only [rows_apply, acc_apply, whole4]

end Cert.NatKernelIdeal.Hand

end
-- ==== Proof.DilGains.lean ====
/-
  The row of gains the region finds, column by column: queries and keys have three groups of 1024 columns each, and every
  head of a group has the group's gains.
-/
module

public import proofs.«01_k».proof.Proof.DilLaunch
public import Idealize.ShloMosaic.Lib.ValueIdx
public import Idealize.ShloMosaic.Lib.Pipeline.Value

@[expose] public section

noncomputable section

namespace Cert.DilKernelIdeal.Hand

open Cert.DilKernelIdeal Cert.DilKernelIdeal.Gen Idealize.ShloMosaic Idealize.ShloMosaic.TcCoe Idealize.SL.Sem
open Idealize.ShloMosaic.ValueIdx
open scoped BigOperators

variable (m : (ℓ : Loc nD τ sig) → Buf (Elt Ideal) ℓ)

theorem flat_apply (x : FVec Ideal S18432 .f32) (n : Fin 18432) :
    shapeCast S1x18432 x shapeCasts_S18432_S1x18432 (ix2 (0 : Fin 1) n) = x (ix1 n) :=
  shapeCast_apply _ _ (ix2 (0 : Fin 1) n) (ix1 n) (by
    rewrite [Shape.rowMajor_val_two, Shape.rowMajor_val_one]
    show n.val = 0 * 18432 + n.val
    omega)

theorem unrow_apply (x : FVec Ideal S1x128 .f32) (d : Fin 128) :
    shapeCast S128 x shapeCasts_S1x128_S128 (ix1 d) = x (ix2 (0 : Fin 1) d) :=
  shapeCast_apply _ _ (ix1 d) (ix2 (0 : Fin 1) d) (by
    rewrite [Shape.rowMajor_val_two, Shape.rowMajor_val_one]
    show 0 * 128 + d.val = d.val
    omega)

/-- The gains of group `g`: a row of the argument. -/
def pick (x : FVec Ideal S1x3x128 .f32) (g : Fin 3) : FVec Ideal S128 .f32 := match g with
  | ⟨0, _⟩ => shapeCast S128 (extractStridedSlice S1x128 ![0, 0] (shapeCast S3x128 x shapeCasts_S1x3x128_S3x128) slices_S3x128_S1x128_0_0) shapeCasts_S1x128_S128
  | ⟨1, _⟩ => shapeCast S128 (extractStridedSlice S1x128 ![1, 0] (shapeCast S3x128 x shapeCasts_S1x3x128_S3x128) slices_S3x128_S1x128_1_0) shapeCasts_S1x128_S128
  | ⟨2, _⟩ => shapeCast S128 (extractStridedSlice S1x128 ![2, 0] (shapeCast S3x128 x shapeCasts_S1x3x128_S3x128) slices_S3x128_S1x128_2_0) shapeCasts_S1x128_S128

theorem rows_apply (x : FVec Ideal S1x3x128 .f32) (g : Fin 3) (d : Fin 128) :
    shapeCast S3x128 x shapeCasts_S1x3x128_S3x128 (ix2 g d) = x (ix3 (0 : Fin 1) g d) :=
  shapeCast_apply _ _ (ix2 g d) (ix3 (0 : Fin 1) g d) (by
    rewrite [Shape.rowMajor_val_three, Shape.rowMajor_val_two]
    show (0 * 3 + g.val) * 128 + d.val = g.val * 128 + d.val
    omega)

theorem pick_apply (x : FVec Ideal S1x3x128 .f32) (g : Fin 3) (d : Fin 128) : pick x g (ix1 d) = x (ix3 (0 : Fin 1) g d) := by
  refine Eq.trans ?_ (rows_apply x g d)
  match g with
  | ⟨0, _⟩ => exact (unrow_apply _ d).trans (extractStridedSlice_apply _ _ _ _ _ (fun a => match a with
    | ⟨0, _⟩ => rfl
    | ⟨1, _⟩ => (Nat.zero_add _).symm))
  | ⟨1, _⟩ => exact (unrow_apply _ d).trans (extractStridedSlice_apply _ _ _ _ _ (fun a => match a with
    | ⟨0, _⟩ => rfl
    | ⟨1, _⟩ => (Nat.zero_add _).symm))
  | ⟨2, _⟩ => exact (unrow_apply _ d).trans (extractStridedSlice_apply _ _ _ _ _ (fun a => match a with
    | ⟨0, _⟩ => rfl
    | ⟨1, _⟩ => (Nat.zero_add _).symm))

/-- Eight copies of a row of 128 and eight of another. -/
theorem eights_apply (x y : FVec Ideal S128 .f32) (n : Fin 2048) (h) :
    concatenate S2048 0 (List.ofFn fun k : Fin 16 => (⟨S128, if k.val < 8 then x else y⟩ : (s : Shape) × (s.Idx → EReal))) h (ix1 n)
      = (if n.val / 128 < 8 then x else y) (ix1 (⟨n.val % 128, Nat.mod_lt _ (by decide)⟩ : Fin 128)) :=
  concatenate_ofFn_apply (t := S2048) (s₁ := S128) (0 : Fin 1) (fun k : Fin 16 => if k.val < 8 then x else y) h rfl 128 rfl (ix1 n)
    (⟨n.val / 128, by omega⟩ : Fin 16) rfl (ix1 (⟨n.val % 128, Nat.mod_lt _ (by decide)⟩ : Fin 128)) rfl
    (fun b hb => absurd (Subsingleton.elim _ _) hb)

set_option maxHeartbeats 4000000 in
/-- The prepared gains: nine rows of 2048 side by side. -/
theorem gains_eq (c : Dev nD) : V m c main_v166 = shapeCast S1x18432
    (concatenate S18432 0 [⟨S2048, V m c main_v156⟩, ⟨S2048, V m c main_v157⟩, ⟨S2048, V m c main_v158⟩, ⟨S2048, V m c main_v159⟩,
      ⟨S2048, V m c main_v160⟩, ⟨S2048, V m c main_v161⟩, ⟨S2048, V m c main_v162⟩, ⟨S2048, V m c main_v163⟩, ⟨S2048, V m c main_v164⟩]
      concatenates_S2048_S2048_S2048_S2048_S2048_S2048_S2048_S2048_S2048_S18432_d0 : FVec Ideal S18432 .f32) shapeCasts_S18432_S1x18432 := by
  unfold V
  after_results
  rfl

/-- The first three of them, two groups of gains each: queries 0 and 1, -/
theorem gains_0 (c : Dev nD) (n : Fin 2048) : V m c main_v156 (ix1 n)
    = (if n.val / 128 < 8 then pick (m ((c : Thread nD τ).loc main_arg3)) 0 else pick (m ((c : Thread nD τ).loc main_arg3)) 1)
        (ix1 (⟨n.val % 128, Nat.mod_lt _ (by decide)⟩ : Fin 128)) := by
  refine Eq.trans (congrFun ?_ (ix1 n)) (eights_apply _ _ n
    concatenates_S128_S128_S128_S128_S128_S128_S128_S128_S128_S128_S128_S128_S128_S128_S128_S128_S2048_d0)
  unfold V
  after_results
  rfl

/-- queries 2 and keys 0, -/
theorem gains_1 (c : Dev nD) (n : Fin 2048) : V m c main_v157 (ix1 n)
    = (if n.val / 128 < 8 then pick (m ((c : Thread nD τ).loc main_arg3)) 2 else pick (m ((c : Thread nD τ).loc main_arg4)) 0)
        (ix1 (⟨n.val % 128, Nat.mod_lt _ (by decide)⟩ : Fin 128)) := by
  refine Eq.trans (congrFun ?_ (ix1 n)) (eights_apply _ _ n
    concatenates_S128_S128_S128_S128_S128_S128_S128_S128_S128_S128_S128_S128_S128_S128_S128_S128_S2048_d0)
  unfold V
  after_results
  rfl

/-- keys 1 and 2. -/
theorem gains_2 (c : Dev nD) (n : Fin 2048) : V m c main_v158 (ix1 n)
    = (if n.val / 128 < 8 then pick (m ((c : Thread nD τ).loc main_arg4)) 1 else pick (m ((c : Thread nD τ).loc main_arg4)) 2)
        (ix1 (⟨n.val % 128, Nat.mod_lt _ (by decide)⟩ : Fin 128)) := by
  refine Eq.trans (congrFun ?_ (ix1 n)) (eights_apply _ _ n
    concatenates_S128_S128_S128_S128_S128_S128_S128_S128_S128_S128_S128_S128_S128_S128_S128_S128_S2048_d0)
  unfold V
  after_results
  rfl

theorem piece_0 (c : Dev nD) (n : Fin 18432) (u : Fin 2048) (h : n.val = 0 + u.val) :
    V m c main_v166 (ix2 (0 : Fin 1) n) = V m c main_v156 (ix1 u) := by
  rw [gains_eq, flat_apply]
  refine concatenate_apply_piece (t := S18432) (0 : Fin 1) _ _ (ix1 n) 0 ?_ S2048 _ ?_ rfl 0 ?_ (ix1 u)
    (fun b hb => absurd (Subsingleton.elim _ _) hb) h.symm
  · exact (by decide : 0 < 9)
  · rfl
  · exact (by decide +kernel : (([] : List Shape).map fun s => if h : s.rank = S18432.rank then s.size ((0 : Fin S18432.rank).cast h.symm) else 0).sum = 0)

theorem piece_1 (c : Dev nD) (n : Fin 18432) (u : Fin 2048) (h : n.val = 2048 + u.val) :
    V m c main_v166 (ix2 (0 : Fin 1) n) = V m c main_v157 (ix1 u) := by
  rw [gains_eq, flat_apply]
  refine concatenate_apply_piece (t := S18432) (0 : Fin 1) _ _ (ix1 n) 1 ?_ S2048 _ ?_ rfl 2048 ?_ (ix1 u)
    (fun b hb => absurd (Subsingleton.elim _ _) hb) h.symm
  · exact (by decide : 1 < 9)
  · rfl
  · exact (by decide +kernel : (([S2048] : List Shape).map fun s => if h : s.rank = S18432.rank then s.size ((0 : Fin S18432.rank).cast h.symm) else 0).sum = 2048)

theorem piece_2 (c : Dev nD) (n : Fin 18432) (u : Fin 2048) (h : n.val = 4096 + u.val) :
    V m c main_v166 (ix2 (0 : Fin 1) n) = V m c main_v158 (ix1 u) := by
  rw [gains_eq, flat_apply]
  refine concatenate_apply_piece (t := S18432) (0 : Fin 1) _ _ (ix1 n) 2 ?_ S2048 _ ?_ rfl 4096 ?_ (ix1 u)
    (fun b hb => absurd (Subsingleton.elim _ _) hb) h.symm
  · exact (by decide : 2 < 9)
  · rfl
  · exact (by decide +kernel : (([S2048, S2048] : List Shape).map fun s => if h : s.rank = S18432.rank then s.size ((0 : Fin S18432.rank).cast h.symm) else 0).sum = 4096)

/-- The gains of the queries of group 1, -/
theorem gain_q1 (c : Dev nD) (n : Fin 18432) (u : Fin 1024) (h : n.val = 1024 + u.val) : V m c main_v166 (ix2 (0 : Fin 1) n)
    = m ((c : Thread nD τ).loc main_arg3) (ix3 (0 : Fin 1) (1 : Fin 3) (⟨u.val % 128, Nat.mod_lt _ (by decide)⟩ : Fin 128)) := by
  rw [piece_0 m c n (⟨1024 + u.val, by omega⟩ : Fin 2048) (by show n.val = 0 + (1024 + u.val); omega), gains_0,
    if_neg (by show ¬ (1024 + u.val) / 128 < 8; omega), pick_apply]
  exact congrArg (fun x : Fin 128 => m ((c : Thread nD τ).loc main_arg3) (ix3 (0 : Fin 1) (1 : Fin 3) x)) (Fin.ext (by show (1024 + u.val) % 128 = u.val % 128; omega))

/-- of the queries of group 2, -/
theorem gain_q2 (c : Dev nD) (n : Fin 18432) (u : Fin 1024) (h : n.val = 2048 + u.val) : V m c main_v166 (ix2 (0 : Fin 1) n)
    = m ((c : Thread nD τ).loc main_arg3) (ix3 (0 : Fin 1) (2 : Fin 3) (⟨u.val % 128, Nat.mod_lt _ (by decide)⟩ : Fin 128)) := by
  rw [piece_1 m c n (⟨u.val, by omega⟩ : Fin 2048) (by show n.val = 2048 + (u.val); omega), gains_1,
    if_pos (by show (u.val) / 128 < 8; omega), pick_apply]

/-- of the keys of group 1, -/
theorem gain_k1 (c : Dev nD) (n : Fin 18432) (u : Fin 1024) (h : n.val = 4096 + u.val) : V m c main_v166 (ix2 (0 : Fin 1) n)
    = m ((c : Thread nD τ).loc main_arg4) (ix3 (0 : Fin 1) (1 : Fin 3) (⟨u.val % 128, Nat.mod_lt _ (by decide)⟩ : Fin 128)) := by
  rw [piece_2 m c n (⟨u.val, by omega⟩ : Fin 2048) (by show n.val = 4096 + (u.val); omega), gains_2,
    if_pos (by show (u.val) / 128 < 8; omega), pick_apply]

/-- and of the keys of group 2. -/
theorem gain_k2 (c : Dev nD) (n : Fin 18432) (u : Fin 1024) (h : n.val = 5120 + u.val) : V m c main_v166 (ix2 (0 : Fin 1) n)
    = m ((c : Thread nD τ).loc main_arg4) (ix3 (0 : Fin 1) (2 : Fin 3) (⟨u.val % 128, Nat.mod_lt _ (by decide)⟩ : Fin 128)) := by
  rw [piece_2 m c n (⟨1024 + u.val, by omega⟩ : Fin 2048) (by show n.val = 4096 + (1024 + u.val); omega), gains_2,
    if_neg (by show ¬ (1024 + u.val) / 128 < 8; omega), pick_apply]
  exact congrArg (fun x : Fin 128 => m ((c : Thread nD τ).loc main_arg4) (ix3 (0 : Fin 1) (2 : Fin 3) x)) (Fin.ext (by show (1024 + u.val) % 128 = u.val % 128; omega))

end Cert.DilKernelIdeal.Hand

end
-- ==== Proof.NatGains.lean ====
/-
  The row of gains the region finds, column by column.
-/
module

public import proofs.«01_k».proof.Proof.NatLaunch
public import proofs.«01_k».proof.Proof.DilGains
public import Idealize.ShloMosaic.Lib.ValueIdx
public import Idealize.ShloMosaic.Lib.Pipeline.Value

@[expose] public section

noncomputable section

namespace Cert.NatKernelIdeal.Hand

open Cert.NatKernelIdeal Cert.NatKernelIdeal.Gen Idealize.ShloMosaic Idealize.ShloMosaic.TcCoe Idealize.SL.Sem
open Idealize.ShloMosaic.ValueIdx
open scoped BigOperators
open Cert.DilKernelIdeal.Hand (flat_apply unrow_apply)

variable (m : (ℓ : Loc nD τ sig) → Buf (Elt Ideal) ℓ)

/-- Sixteen copies of a row of 128 side by side. -/
theorem copies_apply (x : FVec Ideal S128 .f32) (n : Fin 2048) (h) :
    concatenate S2048 0 (List.replicate 16 (⟨S128, x⟩ : (s : Shape) × (s.Idx → EReal))) h (ix1 n)
      = x (ix1 (⟨n.val % 128, Nat.mod_lt _ (by decide)⟩ : Fin 128)) :=
  concatenate_replicate_apply (t := S2048) (s₁ := S128) (0 : Fin 1) 16 x h rfl (ix1 n) (ix1 (⟨n.val % 128, Nat.mod_lt _ (by decide)⟩ : Fin 128)) rfl
    (fun b hb => absurd (Subsingleton.elim _ _) hb)

set_option maxHeartbeats 4000000 in
/-- The prepared gains: nine rows of 2048 side by side, -/
theorem gains_eq (c : Dev nD) : V m c main_v166 = shapeCast S1x18432
    (concatenate S18432 0 [⟨S2048, V m c main_v156⟩, ⟨S2048, V m c main_v157⟩, ⟨S2048, V m c main_v158⟩, ⟨S2048, V m c main_v159⟩,
      ⟨S2048, V m c main_v160⟩, ⟨S2048, V m c main_v161⟩, ⟨S2048, V m c main_v162⟩, ⟨S2048, V m c main_v163⟩, ⟨S2048, V m c main_v164⟩]
      concatenates_S2048_S2048_S2048_S2048_S2048_S2048_S2048_S2048_S2048_S18432_d0 : FVec Ideal S18432 .f32) shapeCasts_S18432_S1x18432 := by
  unfold V
  after_results
  rfl

/-- of which two are the forgetting attention's. -/
theorem gain_q (c : Dev nD) (n : Fin 2048) : V m c main_v161 (ix1 n)
    = m ((c : Thread nD τ).loc main_arg5) (ix2 (0 : Fin 1) (⟨n.val % 128, Nat.mod_lt _ (by decide)⟩ : Fin 128)) := by
  have e : V m c main_v161 = concatenate S2048 0 (List.replicate 16 (⟨S128, shapeCast S128 (m ((c : Thread nD τ).loc main_arg5)) shapeCasts_S1x128_S128⟩ : (s : Shape) × (s.Idx → EReal)))
        concatenates_S128_S128_S128_S128_S128_S128_S128_S128_S128_S128_S128_S128_S128_S128_S128_S128_S2048_d0 := by
    unfold V
    after_results
    rfl
  rw [e, copies_apply, unrow_apply]

theorem gain_k (c : Dev nD) (n : Fin 2048) : V m c main_v162 (ix1 n)
    = m ((c : Thread nD τ).loc main_arg6) (ix2 (0 : Fin 1) (⟨n.val % 128, Nat.mod_lt _ (by decide)⟩ : Fin 128)) := by
  have e : V m c main_v162 = concatenate S2048 0 (List.replicate 16 (⟨S128, shapeCast S128 (m ((c : Thread nD τ).loc main_arg6)) shapeCasts_S1x128_S128⟩ : (s : Shape) × (s.Idx → EReal)))
        concatenates_S128_S128_S128_S128_S128_S128_S128_S128_S128_S128_S128_S128_S128_S128_S128_S128_S2048_d0 := by
    unfold V
    after_results
    rfl
  rw [e, copies_apply, unrow_apply]

/-- The gains at a query column -/
theorem gain_apply_q (c : Dev nD) (n : Fin 18432) (u : Fin 2048) (h : n.val = 10240 + u.val) : V m c main_v166 (ix2 (0 : Fin 1) n)
    = m ((c : Thread nD τ).loc main_arg5) (ix2 (0 : Fin 1) (⟨u.val % 128, Nat.mod_lt _ (by decide)⟩ : Fin 128)) := by
  rw [gains_eq, flat_apply]
  refine Eq.trans ?_ (gain_q m c u)
  refine concatenate_apply_piece (t := S18432) (0 : Fin 1) _ _ (ix1 n) 5 ?_ S2048 _ ?_ rfl 10240 ?_ (ix1 u)
    (fun b hb => absurd (Subsingleton.elim _ _) hb) h.symm
  · exact (by decide : 5 < 9)
  · rfl
  · exact (by decide +kernel : (([S2048, S2048, S2048, S2048, S2048] : List Shape).map fun s => if h : s.rank = S18432.rank then s.size ((0 : Fin S18432.rank).cast h.symm) else 0).sum = 10240)

/-- and at a key column. -/
theorem gain_apply_k (c : Dev nD) (n : Fin 18432) (u : Fin 2048) (h : n.val = 12288 + u.val) : V m c main_v166 (ix2 (0 : Fin 1) n)
    = m ((c : Thread nD τ).loc main_arg6) (ix2 (0 : Fin 1) (⟨u.val % 128, Nat.mod_lt _ (by decide)⟩ : Fin 128)) := by
  rw [gains_eq, flat_apply]
  refine Eq.trans ?_ (gain_k m c u)
  refine concatenate_apply_piece (t := S18432) (0 : Fin 1) _ _ (ix1 n) 6 ?_ S2048 _ ?_ rfl 12288 ?_ (ix1 u)
    (fun b hb => absurd (Subsingleton.elim _ _) hb) h.symm
  · exact (by decide : 6 < 9)
  · rfl
  · exact (by decide +kernel : (([S2048, S2048, S2048, S2048, S2048, S2048] : List Shape).map fun s => if h : s.rank = S18432.rank then s.size ((0 : Fin S18432.rank).cast h.symm) else 0).sum = 12288)

end Cert.NatKernelIdeal.Hand

end
-- ==== Proof.NatFlags.lean ====
/-
  The constant row of flags, column by column: one where a head is activated, zero where it is left as it is.
-/
module

public import proofs.«01_k».proof.Proof.NatLaunch
public import Idealize.ShloMosaic.Lib.ValueIdx

@[expose] public section

noncomputable section

namespace Cert.NatKernelIdeal.Hand

open Cert.NatKernelIdeal Cert.NatKernelIdeal.Gen Idealize.ShloMosaic Idealize.ShloMosaic.TcCoe Idealize.SL.Sem
open Idealize.ShloMosaic.ValueIdx
open scoped BigOperators

/-- The flags of the activated column blocks are one, -/
theorem flag_on : ∀ (j : Fin 3) (q : Fin 1024), lit1 (S18432.rowMajor (ix1 (⟨1024 * (![9, 16, 17] : Fin 3 → ℕ) j + q.val,
    by have : (![9, 16, 17] : Fin 3 → ℕ) j ≤ 17 := (by decide : ∀ j : Fin 3, (![9, 16, 17] : Fin 3 → ℕ) j ≤ 17) j; omega⟩ : Fin 18432))) = 0x3F800000#32 := by
  decide +kernel

/-- and those of the plain ones zero. -/
theorem flag_off : ∀ (j : Fin 3) (q : Fin 1024), lit1 (S18432.rowMajor (ix1 (⟨1024 * (![6, 14, 15] : Fin 3 → ℕ) j + q.val,
    by have : (![6, 14, 15] : Fin 3 → ℕ) j ≤ 17 := (by decide : ∀ j : Fin 3, (![6, 14, 15] : Fin 3 → ℕ) j ≤ 17) j; omega⟩ : Fin 18432))) = 0x00000000#32 := by
  decide +kernel

end Cert.NatKernelIdeal.Hand

end
-- ==== Proof.NatBlock.lean ====
/-
  The blocks of the head projections' windows, element by element, as the program's arguments.
-/
module

public import proofs.«01_k».proof.Proof.NatFrame
public import proofs.«01_k».proof.Proof.NatPoint
public import proofs.«01_k».proof.Proof.NatGains
public import proofs.«01_k».proof.Proof.NatFlags
public import Idealize.ShloMosaic.Lib.Pipeline.Value

@[expose] public section

noncomputable section

namespace Cert.NatKernelIdeal.Hand

open Cert.NatKernelIdeal Cert.NatKernelIdeal.Gen Idealize.ShloMosaic Idealize.ShloMosaic.TcCoe Idealize.SL.Sem
open Idealize.ShloMosaic.ValueIdx
open scoped BigOperators
open Cert.DilKernelIdeal.Hand (flat_apply)

variable (m : (ℓ : Loc nD τ sig) → Buf (Elt Ideal) ℓ)

/-- A column of the heads among all the weight's columns. -/
abbrev wide (n : Fin 18432) : Fin 26640 := ⟨n.val, by omega⟩

/-- The prepared weight the region finds: the heads' columns of the weight, transposed. -/
theorem weight_apply (c : Dev nD) (n : Fin 18432) (k : Fin 4096) :
    V m c main_v51 (ix2 n k) = m ((c : Thread nD τ).loc main_arg1) (ix3 (0 : Fin 1) k (wide n)) := by
  have e : (V m c main_v51 : FVec Ideal S18432x4096 .bf16) = extractStridedSlice S18432x4096 ![0, 0]
      (truncf (F := Ideal) (φ := .f32) .bf16 (transpose S26640x4096 [1, 0] (shapeCast S4096x26640
      (m ((c : Thread nD τ).loc main_arg1)) shapeCasts_S1x4096x26640_S4096x26640) transposes_S4096x26640_S26640x4096_1_0) bitsLt_bf16_f32)
      slices_S26640x4096_S18432x4096_0_0 := by
    unfold V
    after_results
    rfl
  rw [e, extractStridedSlice_apply _ _ _ (ix2 n k) (ix2 (wide n) k) (fun a => match a with
    | ⟨0, _⟩ => (Nat.zero_add _).symm
    | ⟨1, _⟩ => (Nat.zero_add _).symm),
    truncf_apply, transpose_apply _ _ _ (ix2 (wide n) k) (ix2 k (wide n)) (fun b => match b with
    | ⟨0, _⟩ => rfl
    | ⟨1, _⟩ => rfl)]
  exact shapeCast_apply _ _ (ix2 k (wide n)) (ix3 (0 : Fin 1) k (wide n)) (by
    rewrite [Shape.rowMajor_val_three, Shape.rowMajor_val_two]
    show (0 * 4096 + k.val) * 26640 + n.val = k.val * 26640 + n.val
    omega)

/-- The prepared bias: the heads' columns of the bias. -/
theorem bias_apply (c : Dev nD) (n : Fin 18432) :
    V m c main_v54 (ix2 (0 : Fin 1) n) = m ((c : Thread nD τ).loc main_arg2) (ix2 (0 : Fin 1) (wide n)) := by
  have e : V m c main_v54 = shapeCast S1x18432 (shapeCast S18432 (extractStridedSlice S1x18432 ![0, 0]
      (m ((c : Thread nD τ).loc main_arg2)) slices_S1x26640_S1x18432_0_0) shapeCasts_S1x18432_S18432) shapeCasts_S18432_S1x18432 := by
    unfold V
    after_results
    rfl
  rw [e, flat_apply, shapeCast_apply _ _ (ix1 n) (ix2 (0 : Fin 1) n) (by
      rewrite [Shape.rowMajor_val_two, Shape.rowMajor_val_one]
      show 0 * 18432 + n.val = n.val
      omega)]
  exact extractStridedSlice_apply _ _ _ (ix2 (0 : Fin 1) n) (ix2 (0 : Fin 1) (wide n)) (fun a => match a with
    | ⟨0, _⟩ => rfl
    | ⟨1, _⟩ => (Nat.zero_add _).symm)

/-- The prepared flags: the program's constant. -/
theorem flag_apply (c : Dev nD) (n : Fin 18432) :
    V m c main_v167 (ix2 (0 : Fin 1) n) = Ideal.ofBits .f32 (lit1 (S18432.rowMajor (ix1 n))) := by
  have e : V m c main_v167 = shapeCast S1x18432 (fun i => Ideal.ofBits .f32 (lit1 (S18432.rowMajor i)) : FVec Ideal S18432 .f32) shapeCasts_S18432_S1x18432 := by
    unfold V
    after_results
    rfl
  rw [e, flat_apply]

/-- The token block and the column block of a point. -/
abbrev tok (t : Fin (cfgT (F := Ideal)).N) : Fin 16 := grid0.coords t 0
abbrev cb (t : Fin (cfgT (F := Ideal)).N) : Fin 10 := grid0.coords t 1

theorem blk_lt : ∀ j : Fin 10, blk j ≤ 17 := by decide

/-- The token that row `s` of a block is. -/
abbrev row (t : Fin (cfgT (F := Ideal)).N) (s : Fin 1024) : Fin 16384 := ⟨1024 * (tok t).val + s.val, by have := (tok t).isLt; omega⟩
/-- The column that column `q` of a block is. -/
abbrev bc (t : Fin (cfgT (F := Ideal)).N) (q : Fin 1024) : Fin 18432 := ⟨1024 * blk (cb t) + q.val, by have := blk_lt (cb t); omega⟩

theorem index_0 : ∀ i : grid0.Coords, cc0_transform_0 i = ![(i 0).val, 0] := by decide +kernel

/-- The input's block, read at an element. -/
theorem h_apply (c : Dev nD) (t : Fin (cfgT (F := Ideal)).N) (s : Fin 1024) (k : Fin 4096) :
    iblk m c 0 t (ix2 s k) = m ((c : Thread nD τ).loc main_arg0) (ix2 (row t s) k) := by
  rw [← V_main_arg0 m c]
  show V m c main_arg0 ((((cfgT (F := Ideal)).win 0).rect t).emb (ix2 s k)) = V m c main_arg0 (ix2 (row t s) k)
  refine congrArg (V m c main_arg0) (funext fun a => Fin.ext ?_)
  have f : ((cfgT (F := Ideal)).win 0).index t = ![(tok t).val, 0] := index_0 _
  match a with
  | ⟨0, _⟩ =>
    refine (((cfgT (F := Ideal)).win 0).rect_emb_val t (ix2 s k) 0).trans ?_
    rw [f]; show (tok t).val * 1024 + s.val = 1024 * (tok t).val + s.val; omega
  | ⟨1, _⟩ =>
    refine (((cfgT (F := Ideal)).win 0).rect_emb_val t (ix2 s k) 1).trans ?_
    rw [f]; show 0 * 4096 + k.val = k.val; omega

/-- The weight's block, read at an element. -/
theorem w_apply (c : Dev nD) (t : Fin (cfgT (F := Ideal)).N) (q : Fin 1024) (k : Fin 4096) :
    iblk m c 1 t (ix2 q k) = m ((c : Thread nD τ).loc main_arg1) (ix3 (0 : Fin 1) k (wide (bc t q))) := by
  rw [← weight_apply m c]
  show V m c main_v51 ((((cfgT (F := Ideal)).win 1).rect t).emb (ix2 q k)) = V m c main_v51 (ix2 (bc t q) k)
  refine congrArg (V m c main_v51) (funext fun a => Fin.ext ?_)
  have f : ((cfgT (F := Ideal)).win 1).index t = ![blk (cb t), 0] := ix_1 _
  match a with
  | ⟨0, _⟩ =>
    refine (((cfgT (F := Ideal)).win 1).rect_emb_val t (ix2 q k) 0).trans ?_
    rw [f]; show blk (cb t) * 1024 + q.val = 1024 * blk (cb t) + q.val; omega
  | ⟨1, _⟩ =>
    refine (((cfgT (F := Ideal)).win 1).rect_emb_val t (ix2 q k) 1).trans ?_
    rw [f]; show 0 * 4096 + k.val = k.val; omega

/-- The block of the row of biases, read at an element. -/
theorem b_apply (c : Dev nD) (t : Fin (cfgT (F := Ideal)).N) (q : Fin 1024) :
    iblk m c 2 t (ix2 (0 : Fin 1) q) = V m c main_v54 (ix2 (0 : Fin 1) (bc t q)) := by
  show V m c main_v54 ((((cfgT (F := Ideal)).win 2).rect t).emb (ix2 (0 : Fin 1) q)) = V m c main_v54 (ix2 (0 : Fin 1) (bc t q))
  refine congrArg (V m c main_v54) (funext fun a => Fin.ext ?_)
  have f : ((cfgT (F := Ideal)).win 2).index t = ![0, blk (cb t)] := ix_2 _
  match a with
  | ⟨0, _⟩ =>
    refine (((cfgT (F := Ideal)).win 2).rect_emb_val t (ix2 (0 : Fin 1) q) 0).trans ?_
    rw [f]; rfl
  | ⟨1, _⟩ =>
    refine (((cfgT (F := Ideal)).win 2).rect_emb_val t (ix2 (0 : Fin 1) q) 1).trans ?_
    rw [f]; show blk (cb t) * 1024 + q.val = 1024 * blk (cb t) + q.val; omega

/-- The block of the row of gains, read at an element. -/
theorem g_apply (c : Dev nD) (t : Fin (cfgT (F := Ideal)).N) (q : Fin 1024) :
    iblk m c 3 t (ix2 (0 : Fin 1) q) = V m c main_v166 (ix2 (0 : Fin 1) (bc t q)) := by
  show V m c main_v166 ((((cfgT (F := Ideal)).win 3).rect t).emb (ix2 (0 : Fin 1) q)) = V m c main_v166 (ix2 (0 : Fin 1) (bc t q))
  refine congrArg (V m c main_v166) (funext fun a => Fin.ext ?_)
  have f : ((cfgT (F := Ideal)).win 3).index t = ![0, blk (cb t)] := ix_3 _
  match a with
  | ⟨0, _⟩ =>
    refine (((cfgT (F := Ideal)).win 3).rect_emb_val t (ix2 (0 : Fin 1) q) 0).trans ?_
    rw [f]; rfl
  | ⟨1, _⟩ =>
    refine (((cfgT (F := Ideal)).win 3).rect_emb_val t (ix2 (0 : Fin 1) q) 1).trans ?_
    rw [f]; show blk (cb t) * 1024 + q.val = 1024 * blk (cb t) + q.val; omega

/-- The block of the row of flags, read at an element. -/
theorem f_apply (c : Dev nD) (t : Fin (cfgT (F := Ideal)).N) (q : Fin 1024) :
    iblk m c 4 t (ix2 (0 : Fin 1) q) = V m c main_v167 (ix2 (0 : Fin 1) (bc t q)) := by
  show V m c main_v167 ((((cfgT (F := Ideal)).win 4).rect t).emb (ix2 (0 : Fin 1) q)) = V m c main_v167 (ix2 (0 : Fin 1) (bc t q))
  refine congrArg (V m c main_v167) (funext fun a => Fin.ext ?_)
  have f : ((cfgT (F := Ideal)).win 4).index t = ![0, blk (cb t)] := ix_4 _
  match a with
  | ⟨0, _⟩ =>
    refine (((cfgT (F := Ideal)).win 4).rect_emb_val t (ix2 (0 : Fin 1) q) 0).trans ?_
    rw [f]; rfl
  | ⟨1, _⟩ =>
    refine (((cfgT (F := Ideal)).win 4).rect_emb_val t (ix2 (0 : Fin 1) q) 1).trans ?_
    rw [f]; show blk (cb t) * 1024 + q.val = 1024 * blk (cb t) + q.val; omega

end Cert.NatKernelIdeal.Hand

end
-- ==== Proof.NatArray.lean ====
/-
  The result of the head projections after the run: the 160 blocks tile the array, and every one of them is its block of
  the heads of the arguments.
-/
module

public import proofs.«01_k».proof.Proof.NatBlock

@[expose] public section

noncomputable section

namespace Cert.NatKernelIdeal.Hand

open Cert.NatKernelIdeal Cert.NatKernelIdeal.Gen Idealize.ShloMosaic Idealize.ShloMosaic.TcCoe Idealize.SL.Sem
open Idealize.ShloMosaic.ValueIdx
open Idealize.ShloMosaic.Pipeline (Dat)
open scoped BigOperators
open Cert.DilKernelIdeal.Hand (bcol)

variable (m : (ℓ : Loc nD τ sig) → Buf (Elt Ideal) ℓ) (ρ : Dev nD → PrngReg)

/-- The heads of device `c`'s arguments: what the result array is shown to hold. -/
abbrev result (c : Dev nD) : Buf (Elt Ideal) ((c : Thread nD τ).loc main_v168) :=
  Cert.Nat.heads (m ((c : Thread nD τ).loc main_arg0)) (m ((c : Thread nD τ).loc main_arg1)) (m ((c : Thread nD τ).loc main_arg2))
    (m ((c : Thread nD τ).loc main_arg5)) (m ((c : Thread nD τ).loc main_arg6))

/-- Where an element of a block of the result stands: its sequence, its head, its position. -/
abbrev oseq (t : Fin (cfgT (F := Ideal)).N) : Fin 4 := ⟨(tok t).val / 4, by have := (tok t).isLt; omega⟩
abbrev ohead (t : Fin (cfgT (F := Ideal)).N) (h : Fin 8) : Fin 80 := ⟨8 * (cb t).val + h.val, by have := (cb t).isLt; omega⟩
abbrev opos (t : Fin (cfgT (F := Ideal)).N) (s : Fin 1024) : Fin 4096 := ⟨1024 * ((tok t).val % 4) + s.val, by omega⟩

theorem emb_out (t : Fin (cfgT (F := Ideal)).N) (h : Fin 8) (s : Fin 1024) (d : Fin 128) :
    (((cfgT (F := Ideal)).win 7).rect t).emb (ix4 (0 : Fin 1) h s d) = ix4 (oseq t) (ohead t h) (opos t s) d := by
  have f : ((cfgT (F := Ideal)).win 7).index t = ![(tok t).val / 4, (cb t).val, (tok t).val % 4, 0] := ix_7 _
  refine funext fun a => Fin.ext ?_
  match a with
  | ⟨0, _⟩ =>
    refine (((cfgT (F := Ideal)).win 7).rect_emb_val t (ix4 (0 : Fin 1) h s d) 0).trans ?_
    rw [f]; show (tok t).val / 4 * 1 + 0 = (tok t).val / 4; omega
  | ⟨1, _⟩ =>
    refine (((cfgT (F := Ideal)).win 7).rect_emb_val t (ix4 (0 : Fin 1) h s d) 1).trans ?_
    rw [f]; show (cb t).val * 8 + h.val = 8 * (cb t).val + h.val; omega
  | ⟨2, _⟩ =>
    refine (((cfgT (F := Ideal)).win 7).rect_emb_val t (ix4 (0 : Fin 1) h s d) 2).trans ?_
    rw [f]; show (tok t).val % 4 * 1024 + s.val = 1024 * ((tok t).val % 4) + s.val; omega
  | ⟨3, _⟩ =>
    refine (((cfgT (F := Ideal)).win 7).rect_emb_val t (ix4 (0 : Fin 1) h s d) 3).trans ?_
    rw [f]; show 0 * 128 + d.val = d.val; omega

theorem col_fact : ∀ (j : Fin 10) (h : Fin 8), 1024 * blk j + 128 * h.val = Cert.Nat.shift (8 * j.val + h.val) + 128 * (8 * j.val + h.val) := by
  decide +kernel

theorem wide_eq (t : Fin (cfgT (F := Ideal)).N) (h : Fin 8) (e : Fin 128) : wide (bc t (bcol h e)) = Cert.Nat.col (ohead t h) e :=
  Fin.ext (by
    have f := col_fact (cb t) h
    show 1024 * blk (cb t) + (128 * h.val + e.val) = Cert.Nat.shift (8 * (cb t).val + h.val) + 128 * (8 * (cb t).val + h.val) + e.val
    omega)

theorem row_eq (t : Fin (cfgT (F := Ideal)).N) (s : Fin 1024) : row t s = Cert.Nat.token (oseq t) (opos t s) :=
  Fin.ext (by
    show 1024 * (tok t).val + s.val = 4096 * ((tok t).val / 4) + (1024 * ((tok t).val % 4) + s.val)
    omega)

/-- The projection a point computes. -/
theorem lin_eq (c : Dev nD) (t : Fin (cfgT (F := Ideal)).N) (h : Fin 8) (s : Fin 1024) (e : Fin 128)
    (x0 x1 : FVec Ideal S1024x4096 .bf16) (x2 : FVec Ideal S1x1024 .f32) (h0 : x0 = iblk m c 0 t) (h1 : x1 = iblk m c 1 t) (h2 : x2 = iblk m c 2 t) :
    (∑ k : Fin 4096, x0 (ix2 s k) * x1 (ix2 (bcol h e) k)) + x2 (ix2 (0 : Fin 1) (bcol h e))
      = Cert.Nat.lin (m ((c : Thread nD τ).loc main_arg0)) (m ((c : Thread nD τ).loc main_arg1)) (m ((c : Thread nD τ).loc main_arg2))
          (Cert.Nat.token (oseq t) (opos t s)) (Cert.Nat.col (ohead t h) e) := by
  have e0 : ∀ k, x0 (ix2 s k) = m ((c : Thread nD τ).loc main_arg0) (ix2 (Cert.Nat.token (oseq t) (opos t s)) k) := fun k => by
    rw [h0, h_apply, row_eq]
  have e1 : ∀ k, x1 (ix2 (bcol h e) k) = m ((c : Thread nD τ).loc main_arg1) (ix3 (0 : Fin 1) k (Cert.Nat.col (ohead t h) e)) := fun k => by
    rw [h1, w_apply, wide_eq]
  have e2 : x2 (ix2 (0 : Fin 1) (bcol h e)) = m ((c : Thread nD τ).loc main_arg2) (ix2 (0 : Fin 1) (Cert.Nat.col (ohead t h) e)) := by
    rw [h2, b_apply, bias_apply, wide_eq]
  simp only [e0, e1, e2]
  rfl

theorem gq_eq (c : Dev nD) (t : Fin (cfgT (F := Ideal)).N) (hj : (cb t).val < 2) (h : Fin 8) (e : Fin 128) :
    iblk m c 3 t (ix2 (0 : Fin 1) (bcol h e)) = m ((c : Thread nD τ).loc main_arg5) (ix2 (0 : Fin 1) e) := by
  have f : ∀ j : Fin 10, j.val < 2 → 1024 * blk j = 10240 + 1024 * j.val := by decide
  rw [g_apply, gain_apply_q m c _ (⟨1024 * (cb t).val + (128 * h.val + e.val), by omega⟩ : Fin 2048)
    (by have := f _ hj; show 1024 * blk (cb t) + (128 * h.val + e.val) = 10240 + (1024 * (cb t).val + (128 * h.val + e.val)); omega)]
  refine congrArg (fun x : Fin 128 => m ((c : Thread nD τ).loc main_arg5) (ix2 (0 : Fin 1) x)) (Fin.ext ?_)
  show (1024 * (cb t).val + (128 * h.val + e.val)) % 128 = e.val
  omega

theorem gk_eq (c : Dev nD) (t : Fin (cfgT (F := Ideal)).N) (hj : 2 ≤ (cb t).val) (hj' : (cb t).val < 4) (h : Fin 8) (e : Fin 128) :
    iblk m c 3 t (ix2 (0 : Fin 1) (bcol h e)) = m ((c : Thread nD τ).loc main_arg6) (ix2 (0 : Fin 1) e) := by
  have f : ∀ j : Fin 10, 2 ≤ j.val → j.val < 4 → 1024 * blk j = 12288 + 1024 * (j.val - 2) := by decide
  rw [g_apply, gain_apply_k m c _ (⟨1024 * ((cb t).val - 2) + (128 * h.val + e.val), by omega⟩ : Fin 2048)
    (by have := f _ hj hj'; show 1024 * blk (cb t) + (128 * h.val + e.val) = 12288 + (1024 * ((cb t).val - 2) + (128 * h.val + e.val)); omega)]
  refine congrArg (fun x : Fin 128 => m ((c : Thread nD τ).loc main_arg6) (ix2 (0 : Fin 1) x)) (Fin.ext ?_)
  show (1024 * ((cb t).val - 2) + (128 * h.val + e.val)) % 128 = e.val
  omega

theorem on_eq (c : Dev nD) (t : Fin (cfgT (F := Ideal)).N) (hj : (cb t).val = 5 ∨ 8 ≤ (cb t).val) (q : Fin 1024) :
    iblk m c 4 t (ix2 (0 : Fin 1) q) = Ideal.ofBits .f32 0x3F800000#32 := by
  obtain ⟨u, hu⟩ := (by decide : ∀ j : Fin 10, j.val = 5 ∨ 8 ≤ j.val → ∃ u : Fin 3, (![9, 16, 17] : Fin 3 → ℕ) u = blk j) _ hj
  rw [f_apply, flag_apply, ← flag_on u q]
  refine congrArg (fun x : Fin 18432 => Ideal.ofBits .f32 (lit1 (S18432.rowMajor (ix1 x)))) (Fin.ext ?_)
  show 1024 * blk (cb t) + q.val = 1024 * (![9, 16, 17] : Fin 3 → ℕ) u + q.val
  rw [hu]

theorem off_eq (c : Dev nD) (t : Fin (cfgT (F := Ideal)).N) (hj : (cb t).val = 4 ∨ (cb t).val = 6 ∨ (cb t).val = 7) (q : Fin 1024) :
    iblk m c 4 t (ix2 (0 : Fin 1) q) = Ideal.ofBits .f32 0x00000000#32 := by
  obtain ⟨u, hu⟩ := (by decide : ∀ j : Fin 10, j.val = 4 ∨ j.val = 6 ∨ j.val = 7 → ∃ u : Fin 3, (![6, 14, 15] : Fin 3 → ℕ) u = blk j) _ hj
  rw [f_apply, flag_apply, ← flag_off u q]
  refine congrArg (fun x : Fin 18432 => Ideal.ofBits .f32 (lit1 (S18432.rowMajor (ix1 x)))) (Fin.ext ?_)
  show 1024 * blk (cb t) + q.val = 1024 * (![6, 14, 15] : Fin 3 → ℕ) u + q.val
  rw [hu]

/-- What a point leaves, element by element. -/
theorem outAt_apply (c : Dev nD) (t : Fin (cfgT (F := Ideal)).N) (h : Fin 8) (s : Fin 1024) (d : Fin 128) :
    outAt m c t (ix4 (0 : Fin 1) h s d) = result m c (ix4 (oseq t) (ohead t h) (opos t s) d) := by
  have hn : (ohead t h).val = 8 * (cb t).val + h.val := rfl
  have hh := h.isLt
  have hc := (cb t).isLt
  show _ = Cert.Nat.entry (m ((c : Thread nD τ).loc main_arg0)) (m ((c : Thread nD τ).loc main_arg1)) (m ((c : Thread nD τ).loc main_arg2))
    (m ((c : Thread nD τ).loc main_arg5)) (m ((c : Thread nD τ).loc main_arg6)) (oseq t) (ohead t h) (opos t s) d
  unfold Cert.Nat.entry Cert.Nat.finish outAt
  have L := fun e : Fin 128 => lin_eq m c t h s e _ _ _ rfl rfl rfl
  by_cases h4 : (cb t).val < 4
  · rw [if_pos h4]
    refine (outNorm_apply _ _ _ _ h s d).trans ?_
    by_cases h2 : (cb t).val < 2
    · rw [if_pos (by omega)]
      exact congrArg₂ (fun z g => Cert.Nat.normed z g d) (funext L) (funext fun e => gq_eq m c t h2 h e)
    · rw [if_neg (by omega), if_pos (by omega)]
      exact congrArg₂ (fun z g => Cert.Nat.normed z g d) (funext L) (funext fun e => gk_eq m c t (by omega) h4 h e)
  · rw [if_neg h4, if_neg (by omega), if_neg (by omega)]
    by_cases hA : (cb t).val = 5 ∨ 8 ≤ (cb t).val
    · refine (outAct_on _ _ _ _ h s d (on_eq m c t hA _)).trans ((congrArg Cert.Nat.silu (L d)).trans ?_)
      rcases hA with hA | hA
      · rw [if_neg (by omega), if_pos (by omega)]
      · rw [if_neg (by omega), if_neg (by omega), if_neg (by omega)]
    · refine (outAct_off _ _ _ _ h s d (off_eq m c t (by omega) _)).trans ((L d).trans ?_)
      by_cases h5 : (cb t).val = 4
      · rw [if_pos (by omega)]
      · rw [if_neg (by omega), if_neg (by omega), if_pos (by omega)]

/-- What point `t` writes back is block `t` of the heads. -/
theorem flushed_eq (c : Dev nD) (t : Fin (cfgT (F := Ideal)).N) :
    (dats m 0 c).flushed 7 t = (((cfgT (F := Ideal)).win 7).blk t).view.read (Elt Ideal) (result m c) := by
  show ((cfgT (F := Ideal)).win 7).cut (grid0.coords t) ((dats m 0 c).after 7 t) = _
  rw [after_7]
  funext y
  obtain ⟨h, s, d, rfl⟩ : ∃ (h : Fin 8) (s : Fin 1024) (d : Fin 128), y = ix4 (0 : Fin 1) h s d :=
    ⟨y 1, y 2, y 3, funext fun a => match a with
      | ⟨0, _⟩ => Subsingleton.elim (α := Fin 1) _ _
      | ⟨1, _⟩ => rfl
      | ⟨2, _⟩ => rfl
      | ⟨3, _⟩ => rfl⟩
  show outAt m c t (ix4 (0 : Fin 1) h s d) = result m c ((((cfgT (F := Ideal)).win 7).rect t).emb (ix4 (0 : Fin 1) h s d))
  rw [emb_out, outAt_apply]

/-- Every point writes its block back. -/
theorem flush_7 (t : Fin (cfgT (F := Ideal)).N) : ((cfgT (F := Ideal)).win 7).flush t = true :=
  (by decide +kernel : ∀ t : Fin grid0.N, (true && (decide (t.val + 1 = grid0.N)
    || decide (∃ h : t.val + 1 < grid0.N, cc0_transform_7 (grid0.coords ⟨t.val + 1, h⟩) ≠ cc0_transform_7 (grid0.coords t)))) = true) t

theorem coords_eq : ∀ t : Fin grid0.N, (grid0.coords t 0).val = t.val / 10 ∧ (grid0.coords t 1).val = t.val % 10 := by decide +kernel

/-- Every index of the result array is in some point's block. -/
theorem cover (i : S4x80x4096x128.Idx) :
    ∃ t : Fin (cfgT (F := Ideal)).N, ((cfgT (F := Ideal)).win 7).flush t = true ∧ i ∈ (((cfgT (F := Ideal)).win 7).blk t).view.set := by
  have h0 : (i 0 : Nat) < 4 := (i 0).isLt
  have h1 : (i 1 : Nat) < 80 := (i 1).isLt
  have h2 : (i 2 : Nat) < 4096 := (i 2).isLt
  have hN : (cfgT (F := Ideal)).N = 160 := (by decide : grid0.N = 160)
  let t : Fin (cfgT (F := Ideal)).N := ⟨(4 * (i 0 : Nat) + (i 2 : Nat) / 1024) * 10 + (i 1 : Nat) / 8, by omega⟩
  have ht : (tok t).val = 4 * (i 0 : Nat) + (i 2 : Nat) / 1024 :=
    (coords_eq t).1.trans (by show ((4 * (i 0 : Nat) + (i 2 : Nat) / 1024) * 10 + (i 1 : Nat) / 8) / 10 = _; omega)
  have hb : (cb t).val = (i 1 : Nat) / 8 :=
    (coords_eq t).2.trans (by show ((4 * (i 0 : Nat) + (i 2 : Nat) / 1024) * 10 + (i 1 : Nat) / 8) % 10 = _; omega)
  refine ⟨t, flush_7 t, ?_⟩
  have e : i = (((cfgT (F := Ideal)).win 7).rect t).emb (ix4 (0 : Fin 1) (⟨(i 1 : Nat) % 8, by omega⟩ : Fin 8) (⟨(i 2 : Nat) % 1024, by omega⟩ : Fin 1024) (i 3)) := by
    refine Eq.trans ?_ (emb_out t _ _ _).symm
    refine funext fun a => Fin.ext ?_
    match a with
    | ⟨0, _⟩ => show (i 0 : Nat) = (tok t).val / 4; omega
    | ⟨1, _⟩ => show (i 1 : Nat) = 8 * (cb t).val + (i 1 : Nat) % 8; omega
    | ⟨2, _⟩ => show (i 2 : Nat) = 1024 * ((tok t).val % 4) + (i 2 : Nat) % 1024; omega
    | ⟨3, _⟩ => rfl
  rw [e]
  exact View.emb_mem_set (((cfgT (F := Ideal)).win 7).blk t).view _

/-- The result array after the run. -/
theorem final (c : Dev nD) : (dats m 0 c).arrAt 7 (cfgT (F := Ideal)).N = result m c :=
  (dats m 0 c).arrAt_eq_of_cover 7 _ (fun t _ => flushed_eq m c t) cover

end Cert.NatKernelIdeal.Hand

end
-- ==== Proof.NatRef.lean ====
/-
  What the head projections' reference computes: read at an index, its one result is the heads of its arguments. The
  reference multiplies the whole weight, cuts the six groups of heads out of the product and joins them along the heads.
-/
module

public import proofs.«01_k».proof.Proof.Gen.NatReferenceIdeal.Read
public import proofs.«01_k».proof.Proof.Sigmoid
public import proofs.«01_k».proof.Proof.NatSpec

@[expose] public section

noncomputable section

namespace Cert.NatReferenceIdeal.Hand

open Cert.NatReferenceIdeal Cert.NatReferenceIdeal.Read Idealize.ShloMosaic Idealize.ShloMosaic.TcCoe Idealize.SL.Sem
open Idealize.ShloMosaic.ValueIdx
open scoped BigOperators

variable (x0 : (⟨S16384x4096, .bf16⟩ : BufTy).Contents (Elt Ideal)) (x1 : (⟨S1x4096x26640, .f32⟩ : BufTy).Contents (Elt Ideal))
  (x2 : (⟨S1x26640, .f32⟩ : BufTy).Contents (Elt Ideal)) (x5 x6 : (⟨S1x128, .f32⟩ : BufTy).Contents (Elt Ideal))

/-- The whole projection at token `r` and column `n`. -/
theorem proj_apply (r : Fin 16384) (n : Fin 26640) : val_main_v6 (F := Ideal) x0 x1 x2 (ix2 r n) = Cert.Nat.lin x0 x1 x2 r n := by
  have hn := n.isLt
  have eb : idx_main_v3 (idx_main_v4 (idx_main_v5 (ix2 r n))) = ix2 (0 : Fin 1) n := funext fun a => Fin.ext (match a with
    | ⟨0, _⟩ => rfl
    | ⟨1, _⟩ => Nat.mod_eq_of_lt hn)
  have ew : ∀ k : Fin 4096, idx_main_v1 (ridx_main_v2 (ix2 r n) k) = ix3 (0 : Fin 1) k n := fun k => funext fun a => Fin.ext (by
    have hk := k.isLt
    match a with
    | ⟨0, _⟩ => rfl
    | ⟨1, _⟩ => show (k.val * 26640 + n.val) / 26640 % 4096 = k.val; omega
    | ⟨2, _⟩ => show (k.val * 26640 + n.val) % 26640 = n.val; omega)
  have eh : ∀ k : Fin 4096, lidx_main_v2 (ix2 r n) k = ix2 r k := fun k => funext fun a => match a with
    | ⟨0, _⟩ => rfl
    | ⟨1, _⟩ => rfl
  rw [val_main_v6_apply, val_main_v2_apply, val_main_v5_apply, val_main_v4_apply, val_main_v3_apply, eb]
  simp only [val_main_v1_apply, val_main_v0_apply, ew, eh]
  rfl

/-- The projection by sequence and position: the columns of a head at one of its entries. -/
theorem seq_apply (i : S4x4096x26640.Idx) (q : Fin 4) (s : Fin 4096) (n : Fin 80) (d : Fin 128) (h0 : (i 0 : Nat) = q.val)
    (h1 : (i 1 : Nat) = s.val) (h2 : (i 2 : Nat) = Cert.Nat.shift n.val + 128 * n.val + d.val) :
    val_main_v7 (F := Ideal) x0 x1 x2 i = Cert.Nat.lin x0 x1 x2 (Cert.Nat.token q s) (Cert.Nat.col n d) := by
  have e : idx_main_v7 i = ix2 (Cert.Nat.token q s) (Cert.Nat.col n d) := funext fun a => Fin.ext (by
    have hc : (i 2 : Nat) < 26640 := (i 2).isLt
    match a with
    | ⟨0, _⟩ =>
      show (((i 0 : Nat) * 4096 + (i 1 : Nat)) * 26640 + (i 2 : Nat)) / 26640 = 4096 * q.val + s.val
      omega
    | ⟨1, _⟩ =>
      show (((i 0 : Nat) * 4096 + (i 1 : Nat)) * 26640 + (i 2 : Nat)) % 26640 = Cert.Nat.shift n.val + 128 * n.val + d.val
      omega)
  rw [val_main_v7_apply, e, proj_apply]

/-- The queries before their norm. -/
theorem query_apply (q : Fin 4) (s : Fin 4096) (h : Fin 16) (d : Fin 128) : val_main_v16 (F := Ideal) x0 x1 x2 (ix4 q s h d)
    = Cert.Nat.lin x0 x1 x2 (Cert.Nat.token q s) (Cert.Nat.col ⟨0 + h.val, by have := h.isLt; omega⟩ d) := by
  have hq := q.isLt
  have hs := s.isLt
  have hh := h.isLt
  have hd := d.isLt
  have hc : Cert.Nat.shift (0 + h.val) = 10240 := by unfold Cert.Nat.shift; rw [if_pos (by omega)]
  rw [val_main_v16_apply, val_main_v15_apply]
  refine seq_apply x0 x1 x2 _ q s _ d ?_ ?_ ?_
  · show (((q.val * 4096 + s.val) * 16 + h.val) * 128 + d.val) / 8388608 = q.val
    omega
  · show (((q.val * 4096 + s.val) * 16 + h.val) * 128 + d.val) / 2048 % 4096 = s.val
    omega
  · show 10240 + (((q.val * 4096 + s.val) * 16 + h.val) * 128 + d.val) % 2048 = Cert.Nat.shift (0 + h.val) + 128 * (0 + h.val) + d.val
    omega

/-- The keys before their norm. -/
theorem key_apply (q : Fin 4) (s : Fin 4096) (h : Fin 16) (d : Fin 128) : val_main_v32 (F := Ideal) x0 x1 x2 (ix4 q s h d)
    = Cert.Nat.lin x0 x1 x2 (Cert.Nat.token q s) (Cert.Nat.col ⟨16 + h.val, by have := h.isLt; omega⟩ d) := by
  have hq := q.isLt
  have hs := s.isLt
  have hh := h.isLt
  have hd := d.isLt
  have hc : Cert.Nat.shift (16 + h.val) = 10240 := by unfold Cert.Nat.shift; rw [if_pos (by omega)]
  rw [val_main_v32_apply, val_main_v31_apply]
  refine seq_apply x0 x1 x2 _ q s _ d ?_ ?_ ?_
  · show (((q.val * 4096 + s.val) * 16 + h.val) * 128 + d.val) / 8388608 = q.val
    omega
  · show (((q.val * 4096 + s.val) * 16 + h.val) * 128 + d.val) / 2048 % 4096 = s.val
    omega
  · show 12288 + (((q.val * 4096 + s.val) * 16 + h.val) * 128 + d.val) % 2048 = Cert.Nat.shift (16 + h.val) + 128 * (16 + h.val) + d.val
    omega

/-- Heads 48 to 63. -/
theorem plain_apply (q : Fin 4) (s : Fin 4096) (h : Fin 16) (d : Fin 128) : val_main_v48 (F := Ideal) x0 x1 x2 (ix4 q s h d)
    = Cert.Nat.lin x0 x1 x2 (Cert.Nat.token q s) (Cert.Nat.col ⟨48 + h.val, by have := h.isLt; omega⟩ d) := by
  have hq := q.isLt
  have hs := s.isLt
  have hh := h.isLt
  have hd := d.isLt
  have hc : Cert.Nat.shift (48 + h.val) = 8192 := by unfold Cert.Nat.shift; rw [if_neg (by omega), if_neg (by omega), if_neg (by omega)]
  rw [val_main_v48_apply, val_main_v47_apply]
  refine seq_apply x0 x1 x2 _ q s _ d ?_ ?_ ?_
  · show (((q.val * 4096 + s.val) * 16 + h.val) * 128 + d.val) / 8388608 = q.val
    omega
  · show (((q.val * 4096 + s.val) * 16 + h.val) * 128 + d.val) / 2048 % 4096 = s.val
    omega
  · show 14336 + (((q.val * 4096 + s.val) * 16 + h.val) * 128 + d.val) % 2048 = Cert.Nat.shift (48 + h.val) + 128 * (48 + h.val) + d.val
    omega

/-- Heads 32 to 39, the first of the three groups their columns hold. -/
theorem first_apply (q : Fin 4) (s : Fin 4096) (h : Fin 8) (d : Fin 128) : val_main_v11 (F := Ideal) x0 x1 x2 (ix4 q s h d)
    = Cert.Nat.lin x0 x1 x2 (Cert.Nat.token q s) (Cert.Nat.col ⟨32 + h.val, by have := h.isLt; omega⟩ d) := by
  have hq := q.isLt
  have hs := s.isLt
  have hh := h.isLt
  have hd := d.isLt
  have hc : Cert.Nat.shift (32 + h.val) = 2048 := by unfold Cert.Nat.shift; rw [if_neg (by omega), if_pos (by omega)]
  have e : idx_main_v10 (idx_main_v11 (ix4 q s h d)) = ix5 q s (0 : Fin 3) h d := funext fun a => Fin.ext (by
    match a with
    | ⟨0, _⟩ => show (((q.val * 4096 + s.val) * 8 + h.val) * 128 + d.val) / 4194304 = q.val; omega
    | ⟨1, _⟩ => show (((q.val * 4096 + s.val) * 8 + h.val) * 128 + d.val) / 1024 % 4096 = s.val; omega
    | ⟨2, _⟩ => rfl
    | ⟨3, _⟩ => show (((q.val * 4096 + s.val) * 8 + h.val) * 128 + d.val) / 128 % 8 = h.val; omega
    | ⟨4, _⟩ => show (((q.val * 4096 + s.val) * 8 + h.val) * 128 + d.val) % 128 = d.val; omega)
  rw [val_main_v11_apply, val_main_v10_apply, e, val_main_v9_apply, val_main_v8_apply]
  refine seq_apply x0 x1 x2 _ q s _ d ?_ ?_ ?_
  · show ((((q.val * 4096 + s.val) * 3 + 0) * 8 + h.val) * 128 + d.val) / 12582912 = q.val
    omega
  · show ((((q.val * 4096 + s.val) * 3 + 0) * 8 + h.val) * 128 + d.val) / 3072 % 4096 = s.val
    omega
  · show 6144 + ((((q.val * 4096 + s.val) * 3 + 0) * 8 + h.val) * 128 + d.val) % 3072 = Cert.Nat.shift (32 + h.val) + 128 * (32 + h.val) + d.val
    omega

/-- Heads 40 to 47, times their logistic function. -/
theorem gate_apply (q : Fin 4) (s : Fin 4096) (h : Fin 8) (d : Fin 128) : val_main_v14 (F := Ideal) x0 x1 x2 (ix4 q s h d)
    = Cert.Nat.silu (Cert.Nat.lin x0 x1 x2 (Cert.Nat.token q s) (Cert.Nat.col ⟨40 + h.val, by have := h.isLt; omega⟩ d)) := by
  have hq := q.isLt
  have hs := s.isLt
  have hh := h.isLt
  have hd := d.isLt
  have hc : Cert.Nat.shift (40 + h.val) = 4096 := by unfold Cert.Nat.shift; rw [if_neg (by omega), if_neg (by omega), if_pos (by omega)]
  have e : val_main_v12 (F := Ideal) x0 x1 x2 (idx_main_v14 (ix4 q s h d))
      = Cert.Nat.lin x0 x1 x2 (Cert.Nat.token q s) (Cert.Nat.col ⟨40 + h.val, by omega⟩ d) := by
    rw [val_main_v12_apply]
    refine seq_apply x0 x1 x2 _ q s _ d ?_ ?_ ?_
    · show (((q.val * 4096 + s.val) * 8 + h.val) * 128 + d.val) / 4194304 = q.val
      omega
    · show (((q.val * 4096 + s.val) * 8 + h.val) * 128 + d.val) / 1024 % 4096 = s.val
      omega
    · show 9216 + (((q.val * 4096 + s.val) * 8 + h.val) * 128 + d.val) % 1024 = Cert.Nat.shift (40 + h.val) + 128 * (40 + h.val) + d.val
      omega
  rw [val_main_v14_apply, val_main_v13_apply, val_main_call0_v5_apply, val_main_call0_v4_apply, val_main_call0_cst_0_apply,
    val_main_call0_v3_apply, val_main_call0_v2_apply, val_main_call0_cst_apply, val_main_call0_v1_apply, val_main_call0_v0_apply, e]
  exact congrArg (_ * ·) (Cert.Sigmoid.quotient _)

/-- Heads 64 to 79, times their logistic function. -/
theorem last_apply (q : Fin 4) (s : Fin 4096) (h : Fin 16) (d : Fin 128) : val_main_v51 (F := Ideal) x0 x1 x2 (ix4 q s h d)
    = Cert.Nat.silu (Cert.Nat.lin x0 x1 x2 (Cert.Nat.token q s) (Cert.Nat.col ⟨64 + h.val, by have := h.isLt; omega⟩ d)) := by
  have hq := q.isLt
  have hs := s.isLt
  have hh := h.isLt
  have hd := d.isLt
  have hc : Cert.Nat.shift (64 + h.val) = 8192 := by unfold Cert.Nat.shift; rw [if_neg (by omega), if_neg (by omega), if_neg (by omega)]
  have e : val_main_v49 (F := Ideal) x0 x1 x2 (idx_main_v51 (ix4 q s h d))
      = Cert.Nat.lin x0 x1 x2 (Cert.Nat.token q s) (Cert.Nat.col ⟨64 + h.val, by omega⟩ d) := by
    rw [val_main_v49_apply]
    refine seq_apply x0 x1 x2 _ q s _ d ?_ ?_ ?_
    · show (((q.val * 4096 + s.val) * 16 + h.val) * 128 + d.val) / 8388608 = q.val
      omega
    · show (((q.val * 4096 + s.val) * 16 + h.val) * 128 + d.val) / 2048 % 4096 = s.val
      omega
    · show 16384 + (((q.val * 4096 + s.val) * 16 + h.val) * 128 + d.val) % 2048 = Cert.Nat.shift (64 + h.val) + 128 * (64 + h.val) + d.val
      omega
  rw [val_main_v51_apply, val_main_v50_apply, val_main_call1_v5_apply, val_main_call1_v4_apply, val_main_call1_cst_0_apply,
    val_main_call1_v3_apply, val_main_call1_v2_apply, val_main_call1_cst_apply, val_main_call1_v1_apply, val_main_call1_v0_apply, e]
  exact congrArg (_ * ·) (Cert.Sigmoid.quotient _)

/-- The queries after their norm. -/
theorem query_normed (q : Fin 4) (s : Fin 4096) (h : Fin 16) (d : Fin 128) : val_main_v30 (F := Ideal) x0 x1 x2 x5 (ix4 q s h d)
    = Cert.Nat.normed (fun e => Cert.Nat.lin x0 x1 x2 (Cert.Nat.token q s) (Cert.Nat.col ⟨0 + h.val, by have := h.isLt; omega⟩ e))
        (fun e => x5 (ix2 (0 : Fin 1) e)) d := by
  have eg : idx_main_v17 (idx_main_v28 (idx_main_v29 (ix4 q s h d))) = ix2 (0 : Fin 1) d := funext fun a => Fin.ext (match a with
    | ⟨0, _⟩ => rfl
    | ⟨1, _⟩ => Nat.mod_eq_of_lt d.isLt)
  have es : ∀ e : Fin 128, idx_main_v19 (idx_main_v20 (idx_main_v26 (ix4 q s h d))) e = ix4 q s h e := fun e => funext fun a => match a with
    | ⟨0, _⟩ => rfl
    | ⟨1, _⟩ => rfl
    | ⟨2, _⟩ => rfl
    | ⟨3, _⟩ => rfl
  rw [val_main_v30_apply, val_main_v29_apply, val_main_v28_apply, val_main_v17_apply, eg, val_main_v27_apply, val_main_v26_apply, val_main_v25_apply, val_main_v24_apply, val_main_v23_apply, val_main_cst_1_apply,
    val_main_v22_apply, val_main_v21_apply, val_main_cst_0_apply, val_main_v20_apply, val_main_v19_apply, val_main_cst_apply]
  simp only [val_main_v18_apply, es, query_apply]
  refine congrArg (fun u => Cert.Nat.lin x0 x1 x2 (Cert.Nat.token q s) (Cert.Nat.col ⟨0 + h.val, by have := h.isLt; omega⟩ d)
    * Ideal.rsqrt (Ideal.div u (Ideal.ofBits .f32 0x43000000#32) + Ideal.ofBits .f32 0x358637BD#32) * x5 (ix2 (0 : Fin 1) d)) ?_
  refine (congrArg (· + _) ?_).trans (zero_add _)
  exact Ideal.ofBits_zero_f32

/-- The keys after their norm. -/
theorem key_normed (q : Fin 4) (s : Fin 4096) (h : Fin 16) (d : Fin 128) : val_main_v46 (F := Ideal) x0 x1 x2 x6 (ix4 q s h d)
    = Cert.Nat.normed (fun e => Cert.Nat.lin x0 x1 x2 (Cert.Nat.token q s) (Cert.Nat.col ⟨16 + h.val, by have := h.isLt; omega⟩ e))
        (fun e => x6 (ix2 (0 : Fin 1) e)) d := by
  have eg : idx_main_v33 (idx_main_v44 (idx_main_v45 (ix4 q s h d))) = ix2 (0 : Fin 1) d := funext fun a => Fin.ext (match a with
    | ⟨0, _⟩ => rfl
    | ⟨1, _⟩ => Nat.mod_eq_of_lt d.isLt)
  have es : ∀ e : Fin 128, idx_main_v35 (idx_main_v36 (idx_main_v42 (ix4 q s h d))) e = ix4 q s h e := fun e => funext fun a => match a with
    | ⟨0, _⟩ => rfl
    | ⟨1, _⟩ => rfl
    | ⟨2, _⟩ => rfl
    | ⟨3, _⟩ => rfl
  rw [val_main_v46_apply, val_main_v45_apply, val_main_v44_apply, val_main_v33_apply, eg, val_main_v43_apply, val_main_v42_apply, val_main_v41_apply, val_main_v40_apply, val_main_v39_apply, val_main_cst_4_apply,
    val_main_v38_apply, val_main_v37_apply, val_main_cst_3_apply, val_main_v36_apply, val_main_v35_apply, val_main_cst_2_apply]
  simp only [val_main_v34_apply, es, key_apply]
  refine congrArg (fun u => Cert.Nat.lin x0 x1 x2 (Cert.Nat.token q s) (Cert.Nat.col ⟨16 + h.val, by have := h.isLt; omega⟩ d)
    * Ideal.rsqrt (Ideal.div u (Ideal.ofBits .f32 0x43000000#32) + Ideal.ofBits .f32 0x358637BD#32) * x6 (ix2 (0 : Fin 1) d)) ?_
  refine (congrArg (· + _) ?_).trans (zero_add _)
  exact Ideal.ofBits_zero_f32

/-- The six groups joined. -/
theorem joined_apply (q : Fin 4) (s : Fin 4096) (n : Fin 80) (d : Fin 128) :
    val_main_v52 (F := Ideal) x0 x1 x2 x5 x6 (ix4 q s n d) = Cert.Nat.entry x0 x1 x2 x5 x6 q n s d := by
  have hn := n.isLt
  unfold val_main_v52
  rcases Nat.lt_or_ge n.val 16 with g0 | g0
  · obtain ⟨h, rfl⟩ : ∃ h : Fin 16, n = ⟨0 + h.val, Nat.lt_of_lt_of_le (Nat.add_lt_add_left h.isLt 0) (by decide)⟩ := ⟨⟨n.val - 0, by omega⟩, Fin.ext (by show n.val = 0 + (n.val - 0); omega)⟩
    have hh := h.isLt
    refine (concatenate_apply_piece (t := S4x4096x80x128) (2 : Fin 4) _ _ (ix4 q s _ d) 0 ?_ S4x4096x16x128 (val_main_v30 (F := Ideal) x0 x1 x2 x5) ?_ rfl 0 ?_ (ix4 q s h d) (fun b hb => match b, hb with
      | ⟨0, _⟩, _ => rfl
      | ⟨1, _⟩, _ => rfl
      | ⟨2, _⟩, hb => absurd rfl hb
      | ⟨3, _⟩, _ => rfl) rfl).trans ?_
    · exact (by decide : 0 < 6)
    · rfl
    · exact (by decide +kernel : (([] : List Shape).map fun s => if h : s.rank = S4x4096x80x128.rank then s.size ((2 : Fin S4x4096x80x128.rank).cast h.symm) else 0).sum = 0)
    · refine (query_normed x0 x1 x2 x5 q s h d).trans ?_
      unfold Cert.Nat.entry Cert.Nat.finish
      dsimp only
      rw [if_pos (by omega)]
  rcases Nat.lt_or_ge n.val 32 with g1 | g1
  · obtain ⟨h, rfl⟩ : ∃ h : Fin 16, n = ⟨16 + h.val, Nat.lt_of_lt_of_le (Nat.add_lt_add_left h.isLt 16) (by decide)⟩ := ⟨⟨n.val - 16, by omega⟩, Fin.ext (by show n.val = 16 + (n.val - 16); omega)⟩
    have hh := h.isLt
    refine (concatenate_apply_piece (t := S4x4096x80x128) (2 : Fin 4) _ _ (ix4 q s _ d) 1 ?_ S4x4096x16x128 (val_main_v46 (F := Ideal) x0 x1 x2 x6) ?_ rfl 16 ?_ (ix4 q s h d) (fun b hb => match b, hb with
      | ⟨0, _⟩, _ => rfl
      | ⟨1, _⟩, _ => rfl
      | ⟨2, _⟩, hb => absurd rfl hb
      | ⟨3, _⟩, _ => rfl) rfl).trans ?_
    · exact (by decide : 1 < 6)
    · rfl
    · exact (by decide +kernel : (([S4x4096x16x128] : List Shape).map fun s => if h : s.rank = S4x4096x80x128.rank then s.size ((2 : Fin S4x4096x80x128.rank).cast h.symm) else 0).sum = 16)
    · refine (key_normed x0 x1 x2 x6 q s h d).trans ?_
      unfold Cert.Nat.entry Cert.Nat.finish
      dsimp only
      rw [if_neg (by omega), if_pos (by omega)]
  rcases Nat.lt_or_ge n.val 40 with g2 | g2
  · obtain ⟨h, rfl⟩ : ∃ h : Fin 8, n = ⟨32 + h.val, Nat.lt_of_lt_of_le (Nat.add_lt_add_left h.isLt 32) (by decide)⟩ := ⟨⟨n.val - 32, by omega⟩, Fin.ext (by show n.val = 32 + (n.val - 32); omega)⟩
    have hh := h.isLt
    refine (concatenate_apply_piece (t := S4x4096x80x128) (2 : Fin 4) _ _ (ix4 q s _ d) 2 ?_ S4x4096x8x128 (val_main_v11 (F := Ideal) x0 x1 x2) ?_ rfl 32 ?_ (ix4 q s h d) (fun b hb => match b, hb with
      | ⟨0, _⟩, _ => rfl
      | ⟨1, _⟩, _ => rfl
      | ⟨2, _⟩, hb => absurd rfl hb
      | ⟨3, _⟩, _ => rfl) rfl).trans ?_
    · exact (by decide : 2 < 6)
    · rfl
    · exact (by decide +kernel : (([S4x4096x16x128, S4x4096x16x128] : List Shape).map fun s => if h : s.rank = S4x4096x80x128.rank then s.size ((2 : Fin S4x4096x80x128.rank).cast h.symm) else 0).sum = 32)
    · refine (first_apply x0 x1 x2 q s h d).trans ?_
      unfold Cert.Nat.entry Cert.Nat.finish
      dsimp only
      rw [if_neg (by omega), if_neg (by omega), if_pos (by omega)]
  rcases Nat.lt_or_ge n.val 48 with g3 | g3
  · obtain ⟨h, rfl⟩ : ∃ h : Fin 8, n = ⟨40 + h.val, Nat.lt_of_lt_of_le (Nat.add_lt_add_left h.isLt 40) (by decide)⟩ := ⟨⟨n.val - 40, by omega⟩, Fin.ext (by show n.val = 40 + (n.val - 40); omega)⟩
    have hh := h.isLt
    refine (concatenate_apply_piece (t := S4x4096x80x128) (2 : Fin 4) _ _ (ix4 q s _ d) 3 ?_ S4x4096x8x128 (val_main_v14 (F := Ideal) x0 x1 x2) ?_ rfl 40 ?_ (ix4 q s h d) (fun b hb => match b, hb with
      | ⟨0, _⟩, _ => rfl
      | ⟨1, _⟩, _ => rfl
      | ⟨2, _⟩, hb => absurd rfl hb
      | ⟨3, _⟩, _ => rfl) rfl).trans ?_
    · exact (by decide : 3 < 6)
    · rfl
    · exact (by decide +kernel : (([S4x4096x16x128, S4x4096x16x128, S4x4096x8x128] : List Shape).map fun s => if h : s.rank = S4x4096x80x128.rank then s.size ((2 : Fin S4x4096x80x128.rank).cast h.symm) else 0).sum = 40)
    · refine (gate_apply x0 x1 x2 q s h d).trans ?_
      unfold Cert.Nat.entry Cert.Nat.finish
      dsimp only
      rw [if_neg (by omega), if_neg (by omega), if_neg (by omega), if_pos (by omega)]
  rcases Nat.lt_or_ge n.val 64 with g4 | g4
  · obtain ⟨h, rfl⟩ : ∃ h : Fin 16, n = ⟨48 + h.val, Nat.lt_of_lt_of_le (Nat.add_lt_add_left h.isLt 48) (by decide)⟩ := ⟨⟨n.val - 48, by omega⟩, Fin.ext (by show n.val = 48 + (n.val - 48); omega)⟩
    have hh := h.isLt
    refine (concatenate_apply_piece (t := S4x4096x80x128) (2 : Fin 4) _ _ (ix4 q s _ d) 4 ?_ S4x4096x16x128 (val_main_v48 (F := Ideal) x0 x1 x2) ?_ rfl 48 ?_ (ix4 q s h d) (fun b hb => match b, hb with
      | ⟨0, _⟩, _ => rfl
      | ⟨1, _⟩, _ => rfl
      | ⟨2, _⟩, hb => absurd rfl hb
      | ⟨3, _⟩, _ => rfl) rfl).trans ?_
    · exact (by decide : 4 < 6)
    · rfl
    · exact (by decide +kernel : (([S4x4096x16x128, S4x4096x16x128, S4x4096x8x128, S4x4096x8x128] : List Shape).map fun s => if h : s.rank = S4x4096x80x128.rank then s.size ((2 : Fin S4x4096x80x128.rank).cast h.symm) else 0).sum = 48)
    · refine (plain_apply x0 x1 x2 q s h d).trans ?_
      unfold Cert.Nat.entry Cert.Nat.finish
      dsimp only
      rw [if_neg (by omega), if_neg (by omega), if_neg (by omega), if_neg (by omega), if_pos (by omega)]
  obtain ⟨h, rfl⟩ : ∃ h : Fin 16, n = ⟨64 + h.val, Nat.lt_of_lt_of_le (Nat.add_lt_add_left h.isLt 64) (by decide)⟩ := ⟨⟨n.val - 64, by omega⟩, Fin.ext (by show n.val = 64 + (n.val - 64); omega)⟩
  have hh := h.isLt
  refine (concatenate_apply_piece (t := S4x4096x80x128) (2 : Fin 4) _ _ (ix4 q s _ d) 5 ?_ S4x4096x16x128 (val_main_v51 (F := Ideal) x0 x1 x2) ?_ rfl 64 ?_ (ix4 q s h d) (fun b hb => match b, hb with
    | ⟨0, _⟩, _ => rfl
    | ⟨1, _⟩, _ => rfl
    | ⟨2, _⟩, hb => absurd rfl hb
    | ⟨3, _⟩, _ => rfl) rfl).trans ?_
  · exact (by decide : 5 < 6)
  · rfl
  · exact (by decide +kernel : (([S4x4096x16x128, S4x4096x16x128, S4x4096x8x128, S4x4096x8x128, S4x4096x16x128] : List Shape).map fun s => if h : s.rank = S4x4096x80x128.rank then s.size ((2 : Fin S4x4096x80x128.rank).cast h.symm) else 0).sum = 64)
  · refine (last_apply x0 x1 x2 q s h d).trans ?_
    unfold Cert.Nat.entry Cert.Nat.finish
    dsimp only
    rw [if_neg (by omega), if_neg (by omega), if_neg (by omega), if_neg (by omega), if_neg (by omega)]

/-- The reference's result is the heads of its arguments. -/
theorem result_eq : val_main_v54 (F := Ideal) x0 x1 x2 x5 x6 = Cert.Nat.heads x0 x1 x2 x5 x6 := by
  funext i
  have e : idx_main_v53 i = ix4 (i 0) (i 2) (i 1) (i 3) := funext fun a => match a with
    | ⟨0, _⟩ => rfl
    | ⟨1, _⟩ => rfl
    | ⟨2, _⟩ => rfl
    | ⟨3, _⟩ => rfl
  rw [val_main_v54_apply, val_main_v53_apply, e]
  exact joined_apply x0 x1 x2 x5 x6 (i 0) (i 2) (i 1) (i 3)

/-- Every run of the reference ends with the heads of its arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v54)
        = Cert.Nat.heads (m ((c : Thread nD τ).loc main_arg0)) (m ((c : Thread nD τ).loc main_arg1)) (m ((c : Thread nD τ).loc main_arg2))
          (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono
    (fun _ h c => ⟨(h c).1.trans ((val_main_v54_eq m c).trans (result_eq _ _ _ _ _)), (h c).2⟩)
    (Cert.NatReferenceIdeal.Value.run (F := Ideal) m ρ)

end Cert.NatReferenceIdeal.Hand

end
-- ==== Proof.Nat.lean ====
/-
  The head projections' claims: the three frames, and that the two ideal runs end with equal results.
-/
module

public import proofs.«01_k».proof.Defs
public import proofs.«01_k».proof.Proof.NatBitsFrame
public import proofs.«01_k».proof.Proof.NatArray
public import proofs.«01_k».proof.Proof.NatRef
public import Idealize.ShloMosaic.Lib.Quiescent

@[expose] public section

noncomputable section

namespace Cert.Nat

open Idealize.ShloMosaic Idealize.ShloMosaic.TcCoe Idealize.SL.Sem

/-- Every run of the kernel ends with its arguments unchanged and every semaphore at zero. -/
theorem frame_kernel : Cert.quiescent_NatKernel := fun m ρ _ => Cert.NatKernel.Hand.frame_any (F := Bits) m ρ

/-- The same of the kernel's ideal form. -/
theorem frame_ideal : Cert.quiescent_NatKernelIdeal := fun m ρ _ => Cert.NatKernelIdeal.Hand.frame_any (F := Ideal) m ρ

/-- The same of the reference, which raises no semaphore at all. -/
theorem frame_reference : Cert.quiescent_NatReferenceIdeal := fun m ρ _ =>
  (θ_run Cert.NatReferenceIdeal.defs _ _).mono
    (fun r h => ⟨fun c => (h c).2, sem_eq_zero_of_no_sems (by decide) r.2⟩)
    (Cert.NatReferenceIdeal.Value.run (F := Ideal) m ρ)

/-- From equal arguments the kernel and the reference end with equal results. -/
theorem equal : Cert.algebraic_NatKernelIdeal_NatReferenceIdeal := by
  intro m ρ m' ρ' _ hagree
  refine ⟨fun c => Cert.NatKernelIdeal.Hand.result m c,
    (θ_run Cert.NatKernelIdeal.defs _ _).mono (fun _ h c => ⟨((h.1 c).1).trans (Cert.NatKernelIdeal.Hand.final m c), (h.1 c).2⟩)
      (Cert.NatKernelIdeal.Hand.run_named m ρ), ?_⟩
  refine (θ_run Cert.NatReferenceIdeal.defs _ _).mono (fun _ h c => ⟨(h c).1.trans ?_, (h c).2⟩) (Cert.NatReferenceIdeal.Hand.run m' ρ')
  rw [(hagree c).1, (hagree c).2.1, (hagree c).2.2.1, (hagree c).2.2.2.2.2.1, (hagree c).2.2.2.2.2.2]

end Cert.Nat

end
-- ==== Proof.DilRun.lean ====
/-
  The two bodies of the dilated head projections, run on any buffers: each loads the table's word, takes its branch, and
  stores its tiles, 32 of them or 128.
-/
module

public import proofs.«01_k».proof.Proof.DilTile
public import Idealize.ShloMosaic.Lib.Pipeline.ReadBack
public import Idealize.ShloMosaic.Lib.Pipeline.Value

@[expose] public section

set_option maxRecDepth 16384

noncomputable section

namespace Cert.DilKernelIdeal.Hand

open Cert.DilKernelIdeal Cert.DilKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The table as the body is handed it. -/
abbrev tabM : Memref sig .tc .smem S4x6 .i32 := Memref.whole main_c
abbrev TabBuf (c : Dev nD) {S : Shape} {e : EltTy} (M : Memref sig .tc .smem S e) : Type := Buf (Elt F) (M.view.loc (c : Thread nD τ))
/-- The half of the table's buffer that the body holds. -/
abbrev tabPt (c : Dev nD) {S : Shape} {e : EltTy} (M : Memref sig .tc .smem S e) (f : TabBuf (F := F) c M) : sProp 𝕄 :=
  M.view.loc (c : Thread nD τ) ↦{fullShare.right} f

/-- The word of the table that the body loads at the offsets `off`. -/
abbrev wordOf (c : Dev nD) (xt : TabBuf (F := F) c tabM) (off : Fin 2 → ℕ) (h : ∀ a, off a + S1x1.size a ≤ S4x6.size a) : BitVec 32 :=
  View.readAt (Elt F) tabM.view (Rect.unit (s := S4x6) off S1x1.size h).toLoadRect xt (Shape.Idx.first (numel1_S1x1.symm ▸ Nat.one_pos))

set_option maxHeartbeats 40000000 in
/-- A point of the first body: on whole staging buffers at the blocks it reads, with the table's words choosing the first
    branch, it leaves the block of `out4`, something in the scratch array, and the rest as it was. -/
theorem run_4 (c : Dev nD) (i : grid0.Coords) (arg3 : Memref sig .tc .vmem S1024x4096 .bf16) (harg3 : arg3.IsWhole) (arg4 : Memref sig .tc .vmem S1024x4096 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024x128 .f32) (harg8 : arg8.IsWhole) (arg9 : Memref sig .tc .vmem S1x1024x128 .f32) (harg9 : arg9.IsWhole) (arg10 : Memref sig .tc .vmem S1x8x1024x128 .bf16) (harg10 : arg10.IsWhole) (arg11 : Memref sig .tc .vmem S8192x128 .f32) (harg11 : arg11.IsWhole)
    (x0 : Vec F S1024x4096 .bf16) (x1 : Vec F S1024x4096 .bf16) (x2 : Vec F S1x1024 .f32) (x3 : Vec F S1x1024 .f32) (x4 : Vec F S1x1024 .f32) (x5 : Vec F S1x1024x128 .f32) (x6 : Vec F S1x1024x128 .f32) (xt : TabBuf (F := F) c tabM)
    (h1 : k0_cond1 (wordOf c xt (k0_off3 i) (k0_off3_inb i)) = 1#1) (h2 : ¬ (k0_cond2 (wordOf c xt (k0_off4 i) (k0_off4_inb i)) = 1#1))
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ tabPt c tabM xt
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (out4 x0 x1 x2 x3 x4 x5 x6) ∗ (∃ d, owns (c : Thread nD τ) arg11 fullShare d) ∗ tabPt c tabM xt) -∗ K ⟨⟩))
      ⊢ wp frame (wpE (defs₀ (F := F)) Variants.none c none) E (cc0_proj_heads_dil i tabM (Memref.isWhole_whole _) arg3 harg3 arg4 harg4 arg5 harg5 arg6 harg6 arg7 harg7 arg8 harg8 arg9 harg9 arg10 harg10 arg11 harg11) K := by
  simp only [cc0_proj_heads_dil_eq_skeleton]; unfold cc0_proj_heads_dil_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, HT0, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr; swap; · iexact H7
    ipureintro
    refine read_writes _ _ _ _ S1x1x256x128.size ?_ ?_
    · rfl
    · have g := stored4 (arg3.view.read (Elt F) f0) (arg4.view.read (Elt F) f1) (arg5.view.read (Elt F) f2) (arg6.view.read (Elt F) f3) (arg7.view.read (Elt F) f4) (arg8.view.read (Elt F) f5) (arg9.view.read (Elt F) f6) arg11.view
      exact ⟨g 3 7 _ _ _, g 2 7 _ _ _, g 1 7 _ _ _, g 0 7 _ _ _, g 3 6 _ _ _, g 2 6 _ _ _, g 1 6 _ _ _, g 0 6 _ _ _, g 3 5 _ _ _, g 2 5 _ _ _, g 1 5 _ _ _, g 0 5 _ _ _, g 3 4 _ _ _, g 2 4 _ _ _, g 1 4 _ _ _, g 0 4 _ _ _, g 3 3 _ _ _, g 2 3 _ _ _, g 1 3 _ _ _, g 0 3 _ _ _, g 3 2 _ _ _, g 2 2 _ _ _, g 1 2 _ _ _, g 0 2 _ _ _, g 3 1 _ _ _, g 2 1 _ _ _, g 1 1 _ _ _, g 0 1 _ _ _, g 3 0 _ _ _, g 2 0 _ _ _, g 1 0 _ _ _, g 0 0 _ _ _, trivial⟩
  isplitr [HT0]
  · iexists _, _; isplitr; swap; · iexact H8
    ipureintro; rfl
  iexact HT0

set_option maxHeartbeats 40000000 in
/-- A point of the second body: the same with `out16`, when the table's words choose the second branch. -/
theorem run_16 (c : Dev nD) (i : grid0.Coords) (arg3 : Memref sig .tc .vmem S1024x4096 .bf16) (harg3 : arg3.IsWhole) (arg4 : Memref sig .tc .vmem S1024x4096 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024x128 .f32) (harg8 : arg8.IsWhole) (arg9 : Memref sig .tc .vmem S1x1024x128 .f32) (harg9 : arg9.IsWhole) (arg10 : Memref sig .tc .vmem S1x8x1024x128 .bf16) (harg10 : arg10.IsWhole) (arg11 : Memref sig .tc .vmem S8192x128 .f32) (harg11 : arg11.IsWhole)
    (x0 : Vec F S1024x4096 .bf16) (x1 : Vec F S1024x4096 .bf16) (x2 : Vec F S1x1024 .f32) (x3 : Vec F S1x1024 .f32) (x4 : Vec F S1x1024 .f32) (x5 : Vec F S1x1024x128 .f32) (x6 : Vec F S1x1024x128 .f32) (xt : TabBuf (F := F) c tabM)
    (h1 : ¬ (k0_cond1 (wordOf c xt (k0_off3 i) (k0_off3_inb i)) = 1#1)) (h2 : k0_cond2 (wordOf c xt (k0_off4 i) (k0_off4_inb i)) = 1#1)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ tabPt c tabM xt
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (out16 x0 x1 x2 x3 x4 x5 x6) ∗ (∃ d, owns (c : Thread nD τ) arg11 fullShare d) ∗ tabPt c tabM xt) -∗ K ⟨⟩))
      ⊢ wp frame (wpE (defs₀ (F := F)) Variants.none c none) E (cc0_proj_heads_dil i tabM (Memref.isWhole_whole _) arg3 harg3 arg4 harg4 arg5 harg5 arg6 harg6 arg7 harg7 arg8 harg8 arg9 harg9 arg10 harg10 arg11 harg11) K := by
  simp only [cc0_proj_heads_dil_eq_skeleton]; unfold cc0_proj_heads_dil_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, HT0, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr; swap; · iexact H7
    ipureintro
    refine read_writes _ _ _ _ S1x1x64x128.size ?_ ?_
    · rfl
    · have g := stored16 (arg3.view.read (Elt F) f0) (arg4.view.read (Elt F) f1) (arg5.view.read (Elt F) f2) (arg6.view.read (Elt F) f3) (arg7.view.read (Elt F) f4) (arg8.view.read (Elt F) f5) (arg9.view.read (Elt F) f6) arg11.view
      exact ⟨g 15 7 _ _ _, g 14 7 _ _ _, g 13 7 _ _ _, g 12 7 _ _ _, g 11 7 _ _ _, g 10 7 _ _ _, g 9 7 _ _ _, g 8 7 _ _ _, g 7 7 _ _ _, g 6 7 _ _ _, g 5 7 _ _ _, g 4 7 _ _ _, g 3 7 _ _ _, g 2 7 _ _ _, g 1 7 _ _ _, g 0 7 _ _ _, g 15 6 _ _ _, g 14 6 _ _ _, g 13 6 _ _ _, g 12 6 _ _ _, g 11 6 _ _ _, g 10 6 _ _ _, g 9 6 _ _ _, g 8 6 _ _ _, g 7 6 _ _ _, g 6 6 _ _ _, g 5 6 _ _ _, g 4 6 _ _ _, g 3 6 _ _ _, g 2 6 _ _ _, g 1 6 _ _ _, g 0 6 _ _ _, g 15 5 _ _ _, g 14 5 _ _ _, g 13 5 _ _ _, g 12 5 _ _ _, g 11 5 _ _ _, g 10 5 _ _ _, g 9 5 _ _ _, g 8 5 _ _ _, g 7 5 _ _ _, g 6 5 _ _ _, g 5 5 _ _ _, g 4 5 _ _ _, g 3 5 _ _ _, g 2 5 _ _ _, g 1 5 _ _ _, g 0 5 _ _ _, g 15 4 _ _ _, g 14 4 _ _ _, g 13 4 _ _ _, g 12 4 _ _ _, g 11 4 _ _ _, g 10 4 _ _ _, g 9 4 _ _ _, g 8 4 _ _ _, g 7 4 _ _ _, g 6 4 _ _ _, g 5 4 _ _ _, g 4 4 _ _ _, g 3 4 _ _ _, g 2 4 _ _ _, g 1 4 _ _ _, g 0 4 _ _ _, g 15 3 _ _ _, g 14 3 _ _ _, g 13 3 _ _ _, g 12 3 _ _ _, g 11 3 _ _ _, g 10 3 _ _ _, g 9 3 _ _ _, g 8 3 _ _ _, g 7 3 _ _ _, g 6 3 _ _ _, g 5 3 _ _ _, g 4 3 _ _ _, g 3 3 _ _ _, g 2 3 _ _ _, g 1 3 _ _ _, g 0 3 _ _ _, g 15 2 _ _ _, g 14 2 _ _ _, g 13 2 _ _ _, g 12 2 _ _ _, g 11 2 _ _ _, g 10 2 _ _ _, g 9 2 _ _ _, g 8 2 _ _ _, g 7 2 _ _ _, g 6 2 _ _ _, g 5 2 _ _ _, g 4 2 _ _ _, g 3 2 _ _ _, g 2 2 _ _ _, g 1 2 _ _ _, g 0 2 _ _ _, g 15 1 _ _ _, g 14 1 _ _ _, g 13 1 _ _ _, g 12 1 _ _ _, g 11 1 _ _ _, g 10 1 _ _ _, g 9 1 _ _ _, g 8 1 _ _ _, g 7 1 _ _ _, g 6 1 _ _ _, g 5 1 _ _ _, g 4 1 _ _ _, g 3 1 _ _ _, g 2 1 _ _ _, g 1 1 _ _ _, g 0 1 _ _ _, g 15 0 _ _ _, g 14 0 _ _ _, g 13 0 _ _ _, g 12 0 _ _ _, g 11 0 _ _ _, g 10 0 _ _ _, g 9 0 _ _ _, g 8 0 _ _ _, g 7 0 _ _ _, g 6 0 _ _ _, g 5 0 _ _ _, g 4 0 _ _ _, g 3 0 _ _ _, g 2 0 _ _ _, g 1 0 _ _ _, g 0 0 _ _ _, trivial⟩
  isplitr [HT0]
  · iexists _, _; isplitr; swap; · iexact H8
    ipureintro; rfl
  iexact HT0

end Cert.DilKernelIdeal.Hand

end
-- ==== Proof.DilFrame.lean ====
/-
  The run of the dilated head projections: the proof data of the pipeline at the constant table, the body at every point, the run to
  its named result, and the frame.
-/
module

public import proofs.«01_k».proof.Proof.DilRun
public import Idealize.ShloMosaic.Lib.Pipeline.Frame

@[expose] public section

set_option maxRecDepth 16384

noncomputable section

namespace Cert.DilKernelIdeal.Hand

open Cert.DilKernelIdeal Cert.DilKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem PhiT_eq (c : Dev nD) : (Pipeline.ΦT pre0 (table (F := F)) c : sProp 𝕄) = iprop(tabPt c tabM (table (F := F) 0)) := by
  unfold Pipeline.ΦT Pipeline.prefHeld
  rw [show (Finset.univ : Finset (Fin 1)) = {(0 : Fin 1)} from by decide, bigSep_singleton]
  rfl

/-- The region's own resources: the scratch array at some contents, and the generator's register. -/
theorem PhiA_eq (c : Dev nD) : (Pipeline.ΦA spec0 c : sProp 𝕄)
    = iprop((∃ d, owns (c : Thread nD τ) (Memref.whole cc0_scratch0) fullShare d) ∗ ∃ r, prngReg c r) := by
  unfold Pipeline.ΦA
  rw [scopedRest0_eq]
  simp only [owns_whole]

theorem V_pre (c : Dev nD) (j : Fin 1) : V m c (pre0.ref j) = table (F := F) j := by
  match j with
  | ⟨0, _⟩ => exact V_table m c

/-- Window `w`'s block at point `t`, read off its array as the region finds it. -/
def iblk (c : Dev nD) (w : Fin (cfgT (F := F)).W) (t : Fin (cfgT (F := F)).N) :
    (((cfgT (F := F)).win w).xblock ((cfgT (F := F)).grid.coords t)).Idx → Elt F ((cfgT (F := F)).win w).elt :=
  (((cfgT (F := F)).win w).blk t).view.read (Elt F) (V m c (Pipeline.arrRef spec0 w))

/-- What point `t` leaves in its block of the result: the first three column blocks take every 4th token, the other three
    every 16th. -/
def outAt (c : Dev nD) (t : Fin (cfgT (F := F)).N) : Vec F S1x8x1024x128 .bf16 :=
  if (grid0.coords t 1).val < 3 then out4 (iblk m c 0 t) (iblk m c 1 t) (iblk m c 2 t) (iblk m c 3 t) (iblk m c 4 t) (iblk m c 5 t) (iblk m c 6 t)
  else out16 (iblk m c 0 t) (iblk m c 1 t) (iblk m c 2 t) (iblk m c 3 t) (iblk m c 4 t) (iblk m c 5 t) (iblk m c 6 t)

/-- The proof data: the inputs at their blocks, the result at `outAt`. -/
def dats (_ : Fin 1) (c : Dev nD) : Dat τ (Elt F) Unit ℕ (UR sig nD τ) ℕ (cfgT (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ _ := iprop(Pipeline.ΦA spec0 c ∗ Pipeline.ΦT pre0 (table (F := F)) c)
  q _ := fullShare
  owed _ := 0

theorem A_eq (c : Dev nD) (w : Fin (cfgT (F := F)).W) : (dats m 0 c).A w = V m c (Pipeline.arrRef spec0 w) := by
  dsimp only [dats]

theorem after_0 (c : Dev nD) (t : Fin (cfgT (F := F)).N) : (dats m 0 c).after 0 t = iblk m c 0 t := by dsimp only [dats]; try rfl
theorem after_1 (c : Dev nD) (t : Fin (cfgT (F := F)).N) : (dats m 0 c).after 1 t = iblk m c 1 t := by dsimp only [dats]; try rfl
theorem after_2 (c : Dev nD) (t : Fin (cfgT (F := F)).N) : (dats m 0 c).after 2 t = iblk m c 2 t := by dsimp only [dats]; try rfl
theorem after_3 (c : Dev nD) (t : Fin (cfgT (F := F)).N) : (dats m 0 c).after 3 t = iblk m c 3 t := by dsimp only [dats]; try rfl
theorem after_4 (c : Dev nD) (t : Fin (cfgT (F := F)).N) : (dats m 0 c).after 4 t = iblk m c 4 t := by dsimp only [dats]; try rfl
theorem after_5 (c : Dev nD) (t : Fin (cfgT (F := F)).N) : (dats m 0 c).after 5 t = iblk m c 5 t := by dsimp only [dats]; try rfl
theorem after_6 (c : Dev nD) (t : Fin (cfgT (F := F)).N) : (dats m 0 c).after 6 t = iblk m c 6 t := by dsimp only [dats]; try rfl
theorem after_7 (c : Dev nD) (t : Fin (cfgT (F := F)).N) : (dats m 0 c).after 7 t = outAt m c t := by dsimp only [dats]; try rfl

/-- An input's current buffer holds its block at every point. -/
theorem before_0 (c : Dev nD) (t : Fin (cfgT (F := F)).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfgT (F := F)).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfgT (F := F)).N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cfgT (F := F)).N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin (cfgT (F := F)).N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin (cfgT (F := F)).N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin (cfgT (F := F)).N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
abbrev ms_0 (t : Fin (cfgT (F := F)).N) : Memref sig .tc .vmem S1024x4096 .bf16 := spec0_0.stage ((cfgT (F := F)).slots t 0)
abbrev hs_0 (t : Fin (cfgT (F := F)).N) : (ms_0 (F := F) t).IsWhole := hstage0_0 (((cfgT (F := F)).slots t 0).cast nbuf0_0)
abbrev ms_1 (t : Fin (cfgT (F := F)).N) : Memref sig .tc .vmem S1024x4096 .bf16 := spec0_1.stage ((cfgT (F := F)).slots t 1)
abbrev hs_1 (t : Fin (cfgT (F := F)).N) : (ms_1 (F := F) t).IsWhole := hstage0_1 (((cfgT (F := F)).slots t 1).cast nbuf0_1)
abbrev ms_2 (t : Fin (cfgT (F := F)).N) : Memref sig .tc .vmem S1x1024 .f32 := spec0_2.stage ((cfgT (F := F)).slots t 2)
abbrev hs_2 (t : Fin (cfgT (F := F)).N) : (ms_2 (F := F) t).IsWhole := hstage0_2 (((cfgT (F := F)).slots t 2).cast nbuf0_2)
abbrev ms_3 (t : Fin (cfgT (F := F)).N) : Memref sig .tc .vmem S1x1024 .f32 := spec0_3.stage ((cfgT (F := F)).slots t 3)
abbrev hs_3 (t : Fin (cfgT (F := F)).N) : (ms_3 (F := F) t).IsWhole := hstage0_3 (((cfgT (F := F)).slots t 3).cast nbuf0_3)
abbrev ms_4 (t : Fin (cfgT (F := F)).N) : Memref sig .tc .vmem S1x1024 .f32 := spec0_4.stage ((cfgT (F := F)).slots t 4)
abbrev hs_4 (t : Fin (cfgT (F := F)).N) : (ms_4 (F := F) t).IsWhole := hstage0_4 (((cfgT (F := F)).slots t 4).cast nbuf0_4)
abbrev ms_5 (t : Fin (cfgT (F := F)).N) : Memref sig .tc .vmem S1x1024x128 .f32 := spec0_5.stage ((cfgT (F := F)).slots t 5)
abbrev hs_5 (t : Fin (cfgT (F := F)).N) : (ms_5 (F := F) t).IsWhole := hstage0_5 (((cfgT (F := F)).slots t 5).cast nbuf0_5)
abbrev ms_6 (t : Fin (cfgT (F := F)).N) : Memref sig .tc .vmem S1x1024x128 .f32 := spec0_6.stage ((cfgT (F := F)).slots t 6)
abbrev hs_6 (t : Fin (cfgT (F := F)).N) : (ms_6 (F := F) t).IsWhole := hstage0_6 (((cfgT (F := F)).slots t 6).cast nbuf0_6)
abbrev ms_7 (t : Fin (cfgT (F := F)).N) : Memref sig .tc .vmem S1x8x1024x128 .bf16 := spec0_7.stage ((cfgT (F := F)).slots t 7)
abbrev hs_7 (t : Fin (cfgT (F := F)).N) : (ms_7 (F := F) t).IsWhole := hstage0_7 (((cfgT (F := F)).slots t 7).cast nbuf0_7)

/-- The body at point `t`, on what the pipeline calls it with. -/
abbrev bodyAt (t : Fin (cfgT (F := F)).N) : Prog (TpuEff nD τ sig (Elt F) Λ₀ .tc) PUnit :=
  cc0_proj_heads_dil (grid0.coords t) tabM (Memref.isWhole_whole _) (ms_0 (F := F) t) (hs_0 t) (ms_1 (F := F) t) (hs_1 t) (ms_2 (F := F) t) (hs_2 t) (ms_3 (F := F) t) (hs_3 t) (ms_4 (F := F) t) (hs_4 t) (ms_5 (F := F) t) (hs_5 t) (ms_6 (F := F) t) (hs_6 t) (ms_7 (F := F) t) (hs_7 t) (Memref.whole cc0_scratch0) (Memref.isWhole_whole _)

def bodyPre (c : Dev nD) (t : Fin (cfgT (F := F)).N) : sProp 𝕄 :=
  iprop((dats m 0 c).Φ t.castSucc ∗ (dats m 0 c).owesAt () t.castSucc
    ∗ (∃ d, owns (c : Thread nD τ) (ms_0 (F := F) t) fullShare ((dats m 0 c).before 0 t d))
    ∗ (∃ d, owns (c : Thread nD τ) (ms_1 (F := F) t) fullShare ((dats m 0 c).before 1 t d))
    ∗ (∃ d, owns (c : Thread nD τ) (ms_2 (F := F) t) fullShare ((dats m 0 c).before 2 t d))
    ∗ (∃ d, owns (c : Thread nD τ) (ms_3 (F := F) t) fullShare ((dats m 0 c).before 3 t d))
    ∗ (∃ d, owns (c : Thread nD τ) (ms_4 (F := F) t) fullShare ((dats m 0 c).before 4 t d))
    ∗ (∃ d, owns (c : Thread nD τ) (ms_5 (F := F) t) fullShare ((dats m 0 c).before 5 t d))
    ∗ (∃ d, owns (c : Thread nD τ) (ms_6 (F := F) t) fullShare ((dats m 0 c).before 6 t d))
    ∗ (∃ d, owns (c : Thread nD τ) (ms_7 (F := F) t) fullShare ((dats m 0 c).before 7 t d)))

def bodyPost (c : Dev nD) (t : Fin (cfgT (F := F)).N) : sProp 𝕄 :=
  iprop((dats m 0 c).Φ t.succ ∗ (dats m 0 c).owesAt () t.succ
    ∗ owns (c : Thread nD τ) (ms_0 (F := F) t) fullShare ((dats m 0 c).after 0 t)
    ∗ owns (c : Thread nD τ) (ms_1 (F := F) t) fullShare ((dats m 0 c).after 1 t)
    ∗ owns (c : Thread nD τ) (ms_2 (F := F) t) fullShare ((dats m 0 c).after 2 t)
    ∗ owns (c : Thread nD τ) (ms_3 (F := F) t) fullShare ((dats m 0 c).after 3 t)
    ∗ owns (c : Thread nD τ) (ms_4 (F := F) t) fullShare ((dats m 0 c).after 4 t)
    ∗ owns (c : Thread nD τ) (ms_5 (F := F) t) fullShare ((dats m 0 c).after 5 t)
    ∗ owns (c : Thread nD τ) (ms_6 (F := F) t) fullShare ((dats m 0 c).after 6 t)
    ∗ owns (c : Thread nD τ) (ms_7 (F := F) t) fullShare ((dats m 0 c).after 7 t))

set_option maxHeartbeats 1600000 in
/-- The body at any point: the table's words choose the branch, and its run applies. -/
theorem sound_body (c : Dev nD) (t : Fin (cfgT (F := F)).N) :
    bodyPre m c t ⊢ wp frame (wpE (defs₀ (F := F)) Variants.none c none) Set.univ (bodyAt (F := F) t) (fun _ => bodyPost m c t) := by
  unfold bodyPre bodyPost bodyAt
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  rw [show (dats m 0 c).Φ t.castSucc = iprop(Pipeline.ΦA spec0 c ∗ Pipeline.ΦT pre0 (table (F := F)) c) from rfl, PhiT_eq, PhiA_eq]
  iintro ⟨⟨⟨HS, HR⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩⟩
  by_cases h : (grid0.coords t 1).val < 3
  · have e : outAt m c t = out4 (iblk m c 0 t) (iblk m c 1 t) (iblk m c 2 t) (iblk m c 3 t) (iblk m c 4 t) (iblk m c 5 t) (iblk m c 6 t) := if_pos h
    rw [e]
    iapply (run_4 c (grid0.coords t) _ _ _ _ _ _ _ _ _ _ _ _ _ _ _ _ _ _ (iblk m c 0 t) (iblk m c 1 t) (iblk m c 2 t) (iblk m c 3 t) (iblk m c 4 t) (iblk m c 5 t) (iblk m c 6 t) (table (F := F) 0)
      ((cond_1 _).2 h) (fun e => (cond_2 _).1 e h) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    isplitl [HT]; · iexact HT
    iintro ⟨H0, H1, H2, H3, H4, H5, H6, H7, HS, HT⟩
    isplitl [HS HR HT]
    · isplitl [HS HR]
      · isplitl [HS]; · iexact HS
        iexact HR
      iexact HT
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have e : outAt m c t = out16 (iblk m c 0 t) (iblk m c 1 t) (iblk m c 2 t) (iblk m c 3 t) (iblk m c 4 t) (iblk m c 5 t) (iblk m c 6 t) := if_neg h
    rw [e]
    iapply (run_16 c (grid0.coords t) _ _ _ _ _ _ _ _ _ _ _ _ _ _ _ _ _ _ (iblk m c 0 t) (iblk m c 1 t) (iblk m c 2 t) (iblk m c 3 t) (iblk m c 4 t) (iblk m c 5 t) (iblk m c 6 t) (table (F := F) 0)
      (fun e => h ((cond_1 _).1 e)) ((cond_2 _).2 h) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    isplitl [HT]; · iexact HT
    iintro ⟨H0, H1, H2, H3, H4, H5, H6, H7, HS, HT⟩
    isplitl [HS HR HT]
    · isplitl [HS HR]
      · isplitl [HS]; · iexact HS
        iexact HR
      iexact HT
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem defs₀_row (t : Fin (cfgT (F := F)).N) :
    defs₀ (F := F) .tc (cfgT (F := F)).body ((cfgT (F := F)).bodyArgs t ((cfgT (F := F)).slots t)) = bodyAt (F := F) t := by
  unfold defs₀; rw [Defs.onTc_tc]

set_option maxHeartbeats 4000000 in
/-- The body obligation of the pipeline. -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  refine sep_mono .rfl (sep_mono .rfl (sep_mono .rfl (sep_mono .rfl (sep_mono .rfl (sep_mono .rfl (sep_mono .rfl (sep_mono .rfl (sep_mono .rfl ?_))))))))
  dsimp only
  split
  · next e => exact absurd (e.symm.trans (idle_7 (F := F) _)) (by decide)
  · exact .rfl

set_option backward.isDefEq.respectTransparency.types false in
/-- The run: every execution ends, each array of the pipeline at what the proof data names, every other buffer as the region
    found it, and every counter at zero. -/
theorem run_main_quiescent : θ_run defs (onTc (τ := τ) (main (F := F))) (s₀ m ρ)
    (fun r => Pipeline.FramePost (Pipeline.pin pcfgs fun _ => adm (F := F)) (dats m) 0 (V m) r ∧ r.2.sem = fun _ => 0) :=
  Pipeline.θ_run_frameP (Q' := _) pcfgs (fun _ => adm (F := F)) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m) (hΦ := fun _ _ => rfl)

/-- The arrays the windows read and write. -/
def arrs : Fin 8 → Ref sig .tc := ![main_arg0, main_v51, main_v54, main_v166, main_v167, main_v32, main_v47, main_v168]

theorem arr_ne (b : Ref sig .tc) (h : ∀ w : Fin 8, arrs w ≠ b) (w : Fin 8) : (spec0 w).arr.view.ref ≠ b :=
  match w with
  | ⟨0, _⟩ => h 0
  | ⟨1, _⟩ => h 1
  | ⟨2, _⟩ => h 2
  | ⟨3, _⟩ => h 3
  | ⟨4, _⟩ => h 4
  | ⟨5, _⟩ => h 5
  | ⟨6, _⟩ => h 6
  | ⟨7, _⟩ => h 7

/-- The run with its result named: the result's array at what the proof data leave, the arguments unchanged, the counters at zero. -/
theorem run_named : θ_run defs (onTc (τ := τ) (main (F := F))) ⟨m, fun _ => 0, ρ⟩ (fun r => (∀ c : Dev nD,
      r.2.mem ((c : Thread nD τ).loc main_v168) = (dats m 0 c).arrAt 7 (cfgT (F := F)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6))
      ∧ r.2.sem = fun _ => 0) :=
  (θ_run defs _ _).mono (fun r h => ⟨fun c => ⟨(h.1 c).1 7,
    ((h.1 c).1 0).trans (((dats m 0 c).arrAt_in 0 rfl _).trans ((A_eq m c 0).trans (V_main_arg0 m c))),
    ((h.1 c).2 main_arg1 (Pipeline.mem_restRefs_of main_arg1 (by decide) (arr_ne _ (by decide)))).trans (V_main_arg1 m c), ((h.1 c).2 main_arg2 (Pipeline.mem_restRefs_of main_arg2 (by decide) (arr_ne _ (by decide)))).trans (V_main_arg2 m c), ((h.1 c).2 main_arg3 (Pipeline.mem_restRefs_of main_arg3 (by decide) (arr_ne _ (by decide)))).trans (V_main_arg3 m c), ((h.1 c).2 main_arg4 (Pipeline.mem_restRefs_of main_arg4 (by decide) (arr_ne _ (by decide)))).trans (V_main_arg4 m c), ((h.1 c).2 main_arg5 (Pipeline.mem_restRefs_of main_arg5 (by decide) (arr_ne _ (by decide)))).trans (V_main_arg5 m c), ((h.1 c).2 main_arg6 (Pipeline.mem_restRefs_of main_arg6 (by decide) (arr_ne _ (by decide)))).trans (V_main_arg6 m c)⟩, h.2⟩) (run_main_quiescent m ρ)

/-- The frame: the arguments end unchanged and every counter at zero. -/
theorem frame_any : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6))
      ∧ r.2.sem = fun _ => 0) :=
  (θ_run defs _ _).mono (fun r h => ⟨fun c => (h.1 c).2, h.2⟩) (run_named m ρ)

end Cert.DilKernelIdeal.Hand

end
-- ==== Proof.DilFlags.lean ====
/-
  The constant row of flags, column by column: one where a head is a query or a key, zero where it is a value.
-/
module

public import proofs.«01_k».proof.Proof.DilLaunch
public import Idealize.ShloMosaic.Lib.ValueIdx

@[expose] public section

noncomputable section

namespace Cert.DilKernelIdeal.Hand

open Cert.DilKernelIdeal Cert.DilKernelIdeal.Gen Idealize.ShloMosaic Idealize.ShloMosaic.TcCoe Idealize.SL.Sem
open Idealize.ShloMosaic.ValueIdx
open scoped BigOperators

/-- The flags of the queries and keys are one, -/
theorem flag_on : ∀ (j : Fin 4) (q : Fin 1024), lit1 (S18432.rowMajor (ix1 (⟨1024 * (![1, 4, 2, 5] : Fin 4 → ℕ) j + q.val,
    by have : (![1, 4, 2, 5] : Fin 4 → ℕ) j ≤ 8 := (by decide : ∀ j : Fin 4, (![1, 4, 2, 5] : Fin 4 → ℕ) j ≤ 8) j; omega⟩ : Fin 18432))) = 0x3F800000#32 := by
  decide +kernel

/-- and those of the values zero. -/
theorem flag_off : ∀ (j : Fin 2) (q : Fin 1024), lit1 (S18432.rowMajor (ix1 (⟨1024 * (![7, 8] : Fin 2 → ℕ) j + q.val,
    by have : (![7, 8] : Fin 2 → ℕ) j ≤ 8 := (by decide : ∀ j : Fin 2, (![7, 8] : Fin 2 → ℕ) j ≤ 8) j; omega⟩ : Fin 18432))) = 0x00000000#32 := by
  decide +kernel

end Cert.DilKernelIdeal.Hand

end
-- ==== Proof.DilTables.lean ====
/-
  The tables of cosines and sines the region finds, element by element. Each holds four layers of 4096 rows; layer 1 lists
  the rows in the order of stride 4, layer 2 in the order of stride 16, and layer 3 is the constant that turns nothing.
-/
module

public import proofs.«01_k».proof.Proof.DilLaunch
public import proofs.«01_k».proof.Proof.DilSpec
public import Idealize.ShloMosaic.Lib.ValueIdx
public import Idealize.ShloMosaic.Lib.Pipeline.Value

@[expose] public section

noncomputable section

namespace Cert.DilKernelIdeal.Hand

open Cert.DilKernelIdeal Cert.DilKernelIdeal.Gen Idealize.ShloMosaic Idealize.ShloMosaic.TcCoe Idealize.SL.Sem
open Idealize.ShloMosaic.ValueIdx

variable (m : (ℓ : Loc nD τ sig) → Buf (Elt Ideal) ℓ)

set_option maxHeartbeats 4000000 in
/-- The angles. -/
theorem angle_apply (c : Dev nD) (s : Fin 4096) (j : Fin 64) : V m c main_v12 (ix2 s j) = Cert.Rotate.angle s j := by
  have e : (V m c main_v12 : FVec Ideal S4096x64 .f32) = mulf
      (broadcastInDim S4096x64 ![0, 1] bcast_S4096x1_S4096x64_0_1 (broadcastInDim S4096x1 ![0] bcast_S4096_S4096x1_0 (sitofp (F := Ideal) .f32 (iotaInDim S4096 32 0))))
      (broadcastInDim S4096x64 ![0, 1] bcast_S1x64_S4096x64_0_1 (broadcastInDim S1x64 ![1] bcast_S64_S1x64_1
        (Host.powf (broadcastInDim S64 ![] bcast_S_S64 (constant (F := Ideal) S_ .f32 0x461C4000#32))
          (Host.divf (Host.negf (sitofp (F := Ideal) .f32 (iotaInDim S64 32 0))) (broadcastInDim S64 ![] bcast_S_S64 (constant (F := Ideal) S_ .f32 0x42800000#32)))))) := by
    unfold V
    after_results
  rw [e]
  rfl

/-- A table's rows in the order of stride 4 -/
theorem perm4_apply (x : FVec Ideal S4096x128 .f32) (p : Fin 4096) (d : Fin 128) :
    shapeCast S4096x128 (transpose S4x4x256x128 [0, 2, 1, 3] (shapeCast S4x256x4x128 x shapeCasts_S4096x128_S4x256x4x128)
      transposes_S4x256x4x128_S4x4x256x128_0_2_1_3) shapeCasts_S4x4x256x128_S4096x128 (ix2 p d) = x (ix2 (Cert.Dil.place4 p) d) := by
  have hp := p.isLt
  have hd := d.isLt
  refine (shapeCast_apply _ _ (ix2 p d) (ix4 (⟨p.val / 1024, by omega⟩ : Fin 4) (⟨p.val % 1024 / 256, by omega⟩ : Fin 4) (⟨p.val % 256, by omega⟩ : Fin 256) d) (by
    rewrite [Shape.rowMajor_val_four, Shape.rowMajor_val_two]
    show ((p.val / 1024 * 4 + p.val % 1024 / 256) * 256 + p.val % 256) * 128 + d.val = p.val * 128 + d.val
    omega)).trans ?_
  refine (transpose_apply _ _ _ _ (ix4 (⟨p.val / 1024, by omega⟩ : Fin 4) (⟨p.val % 256, by omega⟩ : Fin 256) (⟨p.val % 1024 / 256, by omega⟩ : Fin 4) d) (fun b => match b with
    | ⟨0, _⟩ => rfl
    | ⟨1, _⟩ => rfl
    | ⟨2, _⟩ => rfl
    | ⟨3, _⟩ => rfl)).trans ?_
  exact shapeCast_apply _ _ _ (ix2 (Cert.Dil.place4 p) d) (by
    rewrite [Shape.rowMajor_val_four, Shape.rowMajor_val_two]
    show (1024 * (p.val / 1024) + (4 * (p.val % 256) + p.val % 1024 / 256)) * 128 + d.val = ((p.val / 1024 * 256 + p.val % 256) * 4 + p.val % 1024 / 256) * 128 + d.val
    omega)

/-- and in the order of stride 16. -/
theorem perm16_apply (x : FVec Ideal S4096x128 .f32) (p : Fin 4096) (d : Fin 128) :
    shapeCast S4096x128 (transpose S4x16x64x128 [0, 2, 1, 3] (shapeCast S4x64x16x128 x shapeCasts_S4096x128_S4x64x16x128)
      transposes_S4x64x16x128_S4x16x64x128_0_2_1_3) shapeCasts_S4x16x64x128_S4096x128 (ix2 p d) = x (ix2 (Cert.Dil.place16 p) d) := by
  have hp := p.isLt
  have hd := d.isLt
  refine (shapeCast_apply _ _ (ix2 p d) (ix4 (⟨p.val / 1024, by omega⟩ : Fin 4) (⟨p.val % 1024 / 64, by omega⟩ : Fin 16) (⟨p.val % 64, by omega⟩ : Fin 64) d) (by
    rewrite [Shape.rowMajor_val_four, Shape.rowMajor_val_two]
    show ((p.val / 1024 * 16 + p.val % 1024 / 64) * 64 + p.val % 64) * 128 + d.val = p.val * 128 + d.val
    omega)).trans ?_
  refine (transpose_apply _ _ _ _ (ix4 (⟨p.val / 1024, by omega⟩ : Fin 4) (⟨p.val % 64, by omega⟩ : Fin 64) (⟨p.val % 1024 / 64, by omega⟩ : Fin 16) d) (fun b => match b with
    | ⟨0, _⟩ => rfl
    | ⟨1, _⟩ => rfl
    | ⟨2, _⟩ => rfl
    | ⟨3, _⟩ => rfl)).trans ?_
  exact shapeCast_apply _ _ _ (ix2 (Cert.Dil.place16 p) d) (by
    rewrite [Shape.rowMajor_val_four, Shape.rowMajor_val_two]
    show (1024 * (p.val / 1024) + (16 * (p.val % 64) + p.val % 1024 / 64)) * 128 + d.val = ((p.val / 1024 * 64 + p.val % 64) * 16 + p.val % 1024 / 64) * 128 + d.val
    omega)

/-- The cosines before they are reordered, -/
theorem cosine_apply (c : Dev nD) (s : Fin 4096) (d : Fin 128) : V m c main_v15 (ix2 s d) = Cert.Rotate.cosine s d := by
  have e : (V m c main_v15 : FVec Ideal S4096x128 .f32) = concatenate S4096x128 1
      [⟨S4096x64, Host.cos (F := Ideal) (φ := .f32) (V m c main_v12)⟩, ⟨S4096x64, Host.cos (F := Ideal) (φ := .f32) (V m c main_v12)⟩] concatenates_S4096x64_S4096x64_S4096x128_d1 := by
    unfold V
    after_results
  rw [e]
  refine (Cert.Rotate.cosines_apply _ _ s d).trans ?_
  rw [angle_apply]
  rfl

/-- and the sines. -/
theorem sine_apply (c : Dev nD) (s : Fin 4096) (d : Fin 128) : V m c main_v17 (ix2 s d) = Cert.Rotate.sine s d := by
  have e : (V m c main_v17 : FVec Ideal S4096x128 .f32) = concatenate S4096x128 1
      [⟨S4096x64, Host.negf (Host.sin (F := Ideal) (φ := .f32) (V m c main_v12))⟩, ⟨S4096x64, Host.sin (F := Ideal) (φ := .f32) (V m c main_v12)⟩] concatenates_S4096x64_S4096x64_S4096x128_d1 := by
    unfold V
    after_results
  rw [e]
  refine (Cert.Rotate.sines_apply _ _ s d).trans ?_
  rw [angle_apply]
  rfl

/-! ## The layers of the cosines -/

set_option maxHeartbeats 4000000 in
theorem cosines_eq (c : Dev nD) : V m c main_v32 = (concatenate S4x4096x128 0
      [⟨S1x4096x128, V m c main_v28⟩, ⟨S1x4096x128, V m c main_v29⟩, ⟨S1x4096x128, V m c main_v30⟩, ⟨S1x4096x128, V m c main_v31⟩]
      concatenates_S1x4096x128_S1x4096x128_S1x4096x128_S1x4096x128_S4x4096x128_d0 : FVec Ideal S4x4096x128 .f32) := by
  unfold V
  after_results
  rfl

theorem cosine_layer1 (c : Dev nD) (p : Fin 4096) (d : Fin 128) : V m c main_v29 (ix3 (0 : Fin 1) p d) = Cert.Rotate.cosine (Cert.Dil.place4 p) d := by
  have e : (V m c main_v29 : FVec Ideal S1x4096x128 .f32) = broadcastInDim S1x4096x128 ![1, 2] bcast_S4096x128_S1x4096x128_1_2
      (shapeCast S4096x128 (transpose S4x4x256x128 [0, 2, 1, 3] (shapeCast S4x256x4x128 (V m c main_v15) shapeCasts_S4096x128_S4x256x4x128)
        transposes_S4x256x4x128_S4x4x256x128_0_2_1_3) shapeCasts_S4x4x256x128_S4096x128) := by
    unfold V
    after_results
    rfl
  rw [e]
  refine (broadcastInDim_apply _ _ _ (ix3 (0 : Fin 1) p d) (ix2 p d) (fun a => match a with
    | ⟨0, _⟩ => rfl
    | ⟨1, _⟩ => rfl)).trans ?_
  exact (perm4_apply _ p d).trans (cosine_apply m c _ d)

theorem cosine_layer2 (c : Dev nD) (p : Fin 4096) (d : Fin 128) : V m c main_v30 (ix3 (0 : Fin 1) p d) = Cert.Rotate.cosine (Cert.Dil.place16 p) d := by
  have e : (V m c main_v30 : FVec Ideal S1x4096x128 .f32) = broadcastInDim S1x4096x128 ![1, 2] bcast_S4096x128_S1x4096x128_1_2
      (shapeCast S4096x128 (transpose S4x16x64x128 [0, 2, 1, 3] (shapeCast S4x64x16x128 (V m c main_v15) shapeCasts_S4096x128_S4x64x16x128)
        transposes_S4x64x16x128_S4x16x64x128_0_2_1_3) shapeCasts_S4x16x64x128_S4096x128) := by
    unfold V
    after_results
    rfl
  rw [e]
  refine (broadcastInDim_apply _ _ _ (ix3 (0 : Fin 1) p d) (ix2 p d) (fun a => match a with
    | ⟨0, _⟩ => rfl
    | ⟨1, _⟩ => rfl)).trans ?_
  exact (perm16_apply _ p d).trans (cosine_apply m c _ d)

theorem cosine_layer3 (c : Dev nD) (p : Fin 4096) (d : Fin 128) : V m c main_v31 (ix3 (0 : Fin 1) p d) = Ideal.ofBits .f32 0x3F800000#32 := by
  have e : (V m c main_v31 : FVec Ideal S1x4096x128 .f32) = broadcastInDim S1x4096x128 ![1, 2] bcast_S4096x128_S1x4096x128_1_2
      (broadcastInDim S4096x128 ![] bcast_S_S4096x128 (constant (F := Ideal) S_ .f32 0x3F800000#32)) := by
    unfold V
    after_results
  rw [e]
  rfl

theorem cosines_1 (c : Dev nD) (p : Fin 4096) (d : Fin 128) : V m c main_v32 (ix3 (1 : Fin 4) p d) = Cert.Rotate.cosine (Cert.Dil.place4 p) d := by
  rw [cosines_eq]
  refine Eq.trans ?_ (cosine_layer1 m c p d)
  refine concatenate_apply_piece (t := S4x4096x128) (0 : Fin 3) _ _ (ix3 (1 : Fin 4) p d) 1 ?_ S1x4096x128 _ ?_ rfl 1 ?_ (ix3 (0 : Fin 1) p d) (fun b hb => match b, hb with
      | ⟨0, _⟩, hb => absurd rfl hb
      | ⟨1, _⟩, _ => rfl
      | ⟨2, _⟩, _ => rfl) rfl
  · exact (by decide : 1 < 4)
  · rfl
  · exact (by decide +kernel : (([S1x4096x128] : List Shape).map fun s => if h : s.rank = S4x4096x128.rank then s.size ((0 : Fin S4x4096x128.rank).cast h.symm) else 0).sum = 1)

theorem cosines_2 (c : Dev nD) (p : Fin 4096) (d : Fin 128) : V m c main_v32 (ix3 (2 : Fin 4) p d) = Cert.Rotate.cosine (Cert.Dil.place16 p) d := by
  rw [cosines_eq]
  refine Eq.trans ?_ (cosine_layer2 m c p d)
  refine concatenate_apply_piece (t := S4x4096x128) (0 : Fin 3) _ _ (ix3 (2 : Fin 4) p d) 2 ?_ S1x4096x128 _ ?_ rfl 2 ?_ (ix3 (0 : Fin 1) p d) (fun b hb => match b, hb with
      | ⟨0, _⟩, hb => absurd rfl hb
      | ⟨1, _⟩, _ => rfl
      | ⟨2, _⟩, _ => rfl) rfl
  · exact (by decide : 2 < 4)
  · rfl
  · exact (by decide +kernel : (([S1x4096x128, S1x4096x128] : List Shape).map fun s => if h : s.rank = S4x4096x128.rank then s.size ((0 : Fin S4x4096x128.rank).cast h.symm) else 0).sum = 2)

theorem cosines_3 (c : Dev nD) (p : Fin 4096) (d : Fin 128) : V m c main_v32 (ix3 (3 : Fin 4) p d) = Ideal.ofBits .f32 0x3F800000#32 := by
  rw [cosines_eq]
  refine Eq.trans ?_ (cosine_layer3 m c p d)
  refine concatenate_apply_piece (t := S4x4096x128) (0 : Fin 3) _ _ (ix3 (3 : Fin 4) p d) 3 ?_ S1x4096x128 _ ?_ rfl 3 ?_ (ix3 (0 : Fin 1) p d) (fun b hb => match b, hb with
      | ⟨0, _⟩, hb => absurd rfl hb
      | ⟨1, _⟩, _ => rfl
      | ⟨2, _⟩, _ => rfl) rfl
  · exact (by decide : 3 < 4)
  · rfl
  · exact (by decide +kernel : (([S1x4096x128, S1x4096x128, S1x4096x128] : List Shape).map fun s => if h : s.rank = S4x4096x128.rank then s.size ((0 : Fin S4x4096x128.rank).cast h.symm) else 0).sum = 3)

/-! ## The layers of the sines -/

set_option maxHeartbeats 4000000 in
theorem sines_eq (c : Dev nD) : V m c main_v47 = (concatenate S4x4096x128 0
      [⟨S1x4096x128, V m c main_v43⟩, ⟨S1x4096x128, V m c main_v44⟩, ⟨S1x4096x128, V m c main_v45⟩, ⟨S1x4096x128, V m c main_v46⟩]
      concatenates_S1x4096x128_S1x4096x128_S1x4096x128_S1x4096x128_S4x4096x128_d0 : FVec Ideal S4x4096x128 .f32) := by
  unfold V
  after_results
  rfl

theorem sine_layer1 (c : Dev nD) (p : Fin 4096) (d : Fin 128) : V m c main_v44 (ix3 (0 : Fin 1) p d) = Cert.Rotate.sine (Cert.Dil.place4 p) d := by
  have e : (V m c main_v44 : FVec Ideal S1x4096x128 .f32) = broadcastInDim S1x4096x128 ![1, 2] bcast_S4096x128_S1x4096x128_1_2
      (shapeCast S4096x128 (transpose S4x4x256x128 [0, 2, 1, 3] (shapeCast S4x256x4x128 (V m c main_v17) shapeCasts_S4096x128_S4x256x4x128)
        transposes_S4x256x4x128_S4x4x256x128_0_2_1_3) shapeCasts_S4x4x256x128_S4096x128) := by
    unfold V
    after_results
    rfl
  rw [e]
  refine (broadcastInDim_apply _ _ _ (ix3 (0 : Fin 1) p d) (ix2 p d) (fun a => match a with
    | ⟨0, _⟩ => rfl
    | ⟨1, _⟩ => rfl)).trans ?_
  exact (perm4_apply _ p d).trans (sine_apply m c _ d)

theorem sine_layer2 (c : Dev nD) (p : Fin 4096) (d : Fin 128) : V m c main_v45 (ix3 (0 : Fin 1) p d) = Cert.Rotate.sine (Cert.Dil.place16 p) d := by
  have e : (V m c main_v45 : FVec Ideal S1x4096x128 .f32) = broadcastInDim S1x4096x128 ![1, 2] bcast_S4096x128_S1x4096x128_1_2
      (shapeCast S4096x128 (transpose S4x16x64x128 [0, 2, 1, 3] (shapeCast S4x64x16x128 (V m c main_v17) shapeCasts_S4096x128_S4x64x16x128)
        transposes_S4x64x16x128_S4x16x64x128_0_2_1_3) shapeCasts_S4x16x64x128_S4096x128) := by
    unfold V
    after_results
    rfl
  rw [e]
  refine (broadcastInDim_apply _ _ _ (ix3 (0 : Fin 1) p d) (ix2 p d) (fun a => match a with
    | ⟨0, _⟩ => rfl
    | ⟨1, _⟩ => rfl)).trans ?_
  exact (perm16_apply _ p d).trans (sine_apply m c _ d)

theorem sine_layer3 (c : Dev nD) (p : Fin 4096) (d : Fin 128) : V m c main_v46 (ix3 (0 : Fin 1) p d) = Ideal.ofBits .f32 0x00000000#32 := by
  have e : (V m c main_v46 : FVec Ideal S1x4096x128 .f32) = broadcastInDim S1x4096x128 ![1, 2] bcast_S4096x128_S1x4096x128_1_2
      (broadcastInDim S4096x128 ![] bcast_S_S4096x128 (constant (F := Ideal) S_ .f32 0x00000000#32)) := by
    unfold V
    after_results
  rw [e]
  rfl

theorem sines_1 (c : Dev nD) (p : Fin 4096) (d : Fin 128) : V m c main_v47 (ix3 (1 : Fin 4) p d) = Cert.Rotate.sine (Cert.Dil.place4 p) d := by
  rw [sines_eq]
  refine Eq.trans ?_ (sine_layer1 m c p d)
  refine concatenate_apply_piece (t := S4x4096x128) (0 : Fin 3) _ _ (ix3 (1 : Fin 4) p d) 1 ?_ S1x4096x128 _ ?_ rfl 1 ?_ (ix3 (0 : Fin 1) p d) (fun b hb => match b, hb with
      | ⟨0, _⟩, hb => absurd rfl hb
      | ⟨1, _⟩, _ => rfl
      | ⟨2, _⟩, _ => rfl) rfl
  · exact (by decide : 1 < 4)
  · rfl
  · exact (by decide +kernel : (([S1x4096x128] : List Shape).map fun s => if h : s.rank = S4x4096x128.rank then s.size ((0 : Fin S4x4096x128.rank).cast h.symm) else 0).sum = 1)

theorem sines_2 (c : Dev nD) (p : Fin 4096) (d : Fin 128) : V m c main_v47 (ix3 (2 : Fin 4) p d) = Cert.Rotate.sine (Cert.Dil.place16 p) d := by
  rw [sines_eq]
  refine Eq.trans ?_ (sine_layer2 m c p d)
  refine concatenate_apply_piece (t := S4x4096x128) (0 : Fin 3) _ _ (ix3 (2 : Fin 4) p d) 2 ?_ S1x4096x128 _ ?_ rfl 2 ?_ (ix3 (0 : Fin 1) p d) (fun b hb => match b, hb with
      | ⟨0, _⟩, hb => absurd rfl hb
      | ⟨1, _⟩, _ => rfl
      | ⟨2, _⟩, _ => rfl) rfl
  · exact (by decide : 2 < 4)
  · rfl
  · exact (by decide +kernel : (([S1x4096x128, S1x4096x128] : List Shape).map fun s => if h : s.rank = S4x4096x128.rank then s.size ((0 : Fin S4x4096x128.rank).cast h.symm) else 0).sum = 2)

theorem sines_3 (c : Dev nD) (p : Fin 4096) (d : Fin 128) : V m c main_v47 (ix3 (3 : Fin 4) p d) = Ideal.ofBits .f32 0x00000000#32 := by
  rw [sines_eq]
  refine Eq.trans ?_ (sine_layer3 m c p d)
  refine concatenate_apply_piece (t := S4x4096x128) (0 : Fin 3) _ _ (ix3 (3 : Fin 4) p d) 3 ?_ S1x4096x128 _ ?_ rfl 3 ?_ (ix3 (0 : Fin 1) p d) (fun b hb => match b, hb with
      | ⟨0, _⟩, hb => absurd rfl hb
      | ⟨1, _⟩, _ => rfl
      | ⟨2, _⟩, _ => rfl) rfl
  · exact (by decide : 3 < 4)
  · rfl
  · exact (by decide +kernel : (([S1x4096x128, S1x4096x128, S1x4096x128] : List Shape).map fun s => if h : s.rank = S4x4096x128.rank then s.size ((0 : Fin S4x4096x128.rank).cast h.symm) else 0).sum = 3)

end Cert.DilKernelIdeal.Hand

end
-- ==== Proof.DilBlock.lean ====
/-
  The blocks of the dilated head projections' windows, element by element, as the program's arguments.
-/
module

public import proofs.«01_k».proof.Proof.DilFrame
public import proofs.«01_k».proof.Proof.DilPoint
public import proofs.«01_k».proof.Proof.DilGains
public import proofs.«01_k».proof.Proof.DilFlags
public import proofs.«01_k».proof.Proof.DilTables
public import Idealize.ShloMosaic.Lib.Pipeline.Value

@[expose] public section

noncomputable section

namespace Cert.DilKernelIdeal.Hand

open Cert.DilKernelIdeal Cert.DilKernelIdeal.Gen Idealize.ShloMosaic Idealize.ShloMosaic.TcCoe Idealize.SL.Sem
open Idealize.ShloMosaic.ValueIdx
open scoped BigOperators

variable (m : (ℓ : Loc nD τ sig) → Buf (Elt Ideal) ℓ)

/-- A column of the heads among all the weight's columns. -/
abbrev wide (n : Fin 18432) : Fin 26640 := ⟨n.val, by omega⟩

/-- The prepared weight the region finds: the heads' columns of the weight, transposed. -/
theorem weight_apply (c : Dev nD) (n : Fin 18432) (k : Fin 4096) :
    V m c main_v51 (ix2 n k) = m ((c : Thread nD τ).loc main_arg1) (ix3 (0 : Fin 1) k (wide n)) := by
  have e : (V m c main_v51 : FVec Ideal S18432x4096 .bf16) = extractStridedSlice S18432x4096 ![0, 0]
      (truncf (F := Ideal) (φ := .f32) .bf16 (transpose S26640x4096 [1, 0] (shapeCast S4096x26640
      (m ((c : Thread nD τ).loc main_arg1)) shapeCasts_S1x4096x26640_S4096x26640) transposes_S4096x26640_S26640x4096_1_0) bitsLt_bf16_f32)
      slices_S26640x4096_S18432x4096_0_0 := by
    unfold V
    after_results
    rfl
  rw [e, extractStridedSlice_apply _ _ _ (ix2 n k) (ix2 (wide n) k) (fun a => match a with
    | ⟨0, _⟩ => (Nat.zero_add _).symm
    | ⟨1, _⟩ => (Nat.zero_add _).symm),
    truncf_apply, transpose_apply _ _ _ (ix2 (wide n) k) (ix2 k (wide n)) (fun b => match b with
    | ⟨0, _⟩ => rfl
    | ⟨1, _⟩ => rfl)]
  exact shapeCast_apply _ _ (ix2 k (wide n)) (ix3 (0 : Fin 1) k (wide n)) (by
    rewrite [Shape.rowMajor_val_three, Shape.rowMajor_val_two]
    show (0 * 4096 + k.val) * 26640 + n.val = k.val * 26640 + n.val
    omega)

/-- The prepared bias: the heads' columns of the bias. -/
theorem bias_apply (c : Dev nD) (n : Fin 18432) :
    V m c main_v54 (ix2 (0 : Fin 1) n) = m ((c : Thread nD τ).loc main_arg2) (ix2 (0 : Fin 1) (wide n)) := by
  have e : V m c main_v54 = shapeCast S1x18432 (shapeCast S18432 (extractStridedSlice S1x18432 ![0, 0]
      (m ((c : Thread nD τ).loc main_arg2)) slices_S1x26640_S1x18432_0_0) shapeCasts_S1x18432_S18432) shapeCasts_S18432_S1x18432 := by
    unfold V
    after_results
    rfl
  rw [e, flat_apply, shapeCast_apply _ _ (ix1 n) (ix2 (0 : Fin 1) n) (by
      rewrite [Shape.rowMajor_val_two, Shape.rowMajor_val_one]
      show 0 * 18432 + n.val = n.val
      omega)]
  exact extractStridedSlice_apply _ _ _ (ix2 (0 : Fin 1) n) (ix2 (0 : Fin 1) (wide n)) (fun a => match a with
    | ⟨0, _⟩ => rfl
    | ⟨1, _⟩ => (Nat.zero_add _).symm)

/-- The prepared flags: the program's constant. -/
theorem flag_apply (c : Dev nD) (n : Fin 18432) :
    V m c main_v167 (ix2 (0 : Fin 1) n) = Ideal.ofBits .f32 (lit1 (S18432.rowMajor (ix1 n))) := by
  have e : V m c main_v167 = shapeCast S1x18432 (fun i => Ideal.ofBits .f32 (lit1 (S18432.rowMajor i)) : FVec Ideal S18432 .f32) shapeCasts_S18432_S1x18432 := by
    unfold V
    after_results
    rfl
  rw [e, flat_apply]

/-- The token block and the column block of a point. -/
abbrev tok (t : Fin (cfgT (F := Ideal)).N) : Fin 16 := grid0.coords t 0
abbrev cb (t : Fin (cfgT (F := Ideal)).N) : Fin 6 := grid0.coords t 1

theorem blk_lt : ∀ j : Fin 6, blk j ≤ 8 := by decide

/-- The token that row `s` of a block is. -/
abbrev row (t : Fin (cfgT (F := Ideal)).N) (s : Fin 1024) : Fin 16384 := ⟨1024 * (tok t).val + s.val, by have := (tok t).isLt; omega⟩
/-- The column that column `q` of a block is. -/
abbrev bc (t : Fin (cfgT (F := Ideal)).N) (q : Fin 1024) : Fin 18432 := ⟨1024 * blk (cb t) + q.val, by have := blk_lt (cb t); omega⟩

theorem index_0 : ∀ i : grid0.Coords, cc0_transform_0 i = ![(i 0).val, 0] := by decide +kernel

/-- The input's block, read at an element. -/
theorem h_apply (c : Dev nD) (t : Fin (cfgT (F := Ideal)).N) (s : Fin 1024) (k : Fin 4096) :
    iblk m c 0 t (ix2 s k) = m ((c : Thread nD τ).loc main_arg0) (ix2 (row t s) k) := by
  rw [← V_main_arg0 m c]
  show V m c main_arg0 ((((cfgT (F := Ideal)).win 0).rect t).emb (ix2 s k)) = V m c main_arg0 (ix2 (row t s) k)
  refine congrArg (V m c main_arg0) (funext fun a => Fin.ext ?_)
  have f : ((cfgT (F := Ideal)).win 0).index t = ![(tok t).val, 0] := index_0 _
  match a with
  | ⟨0, _⟩ =>
    refine (((cfgT (F := Ideal)).win 0).rect_emb_val t (ix2 s k) 0).trans ?_
    rw [f]; show (tok t).val * 1024 + s.val = 1024 * (tok t).val + s.val; omega
  | ⟨1, _⟩ =>
    refine (((cfgT (F := Ideal)).win 0).rect_emb_val t (ix2 s k) 1).trans ?_
    rw [f]; show 0 * 4096 + k.val = k.val; omega

/-- The weight's block, read at an element. -/
theorem w_apply (c : Dev nD) (t : Fin (cfgT (F := Ideal)).N) (q : Fin 1024) (k : Fin 4096) :
    iblk m c 1 t (ix2 q k) = m ((c : Thread nD τ).loc main_arg1) (ix3 (0 : Fin 1) k (wide (bc t q))) := by
  rw [← weight_apply m c]
  show V m c main_v51 ((((cfgT (F := Ideal)).win 1).rect t).emb (ix2 q k)) = V m c main_v51 (ix2 (bc t q) k)
  refine congrArg (V m c main_v51) (funext fun a => Fin.ext ?_)
  have f : ((cfgT (F := Ideal)).win 1).index t = ![blk (cb t), 0] := ix_1 _
  match a with
  | ⟨0, _⟩ =>
    refine (((cfgT (F := Ideal)).win 1).rect_emb_val t (ix2 q k) 0).trans ?_
    rw [f]; show blk (cb t) * 1024 + q.val = 1024 * blk (cb t) + q.val; omega
  | ⟨1, _⟩ =>
    refine (((cfgT (F := Ideal)).win 1).rect_emb_val t (ix2 q k) 1).trans ?_
    rw [f]; show 0 * 4096 + k.val = k.val; omega

/-- The block of the row of biases, read at an element. -/
theorem b_apply (c : Dev nD) (t : Fin (cfgT (F := Ideal)).N) (q : Fin 1024) :
    iblk m c 2 t (ix2 (0 : Fin 1) q) = V m c main_v54 (ix2 (0 : Fin 1) (bc t q)) := by
  show V m c main_v54 ((((cfgT (F := Ideal)).win 2).rect t).emb (ix2 (0 : Fin 1) q)) = V m c main_v54 (ix2 (0 : Fin 1) (bc t q))
  refine congrArg (V m c main_v54) (funext fun a => Fin.ext ?_)
  have f : ((cfgT (F := Ideal)).win 2).index t = ![0, blk (cb t)] := ix_2 _
  match a with
  | ⟨0, _⟩ =>
    refine (((cfgT (F := Ideal)).win 2).rect_emb_val t (ix2 (0 : Fin 1) q) 0).trans ?_
    rw [f]; rfl
  | ⟨1, _⟩ =>
    refine (((cfgT (F := Ideal)).win 2).rect_emb_val t (ix2 (0 : Fin 1) q) 1).trans ?_
    rw [f]; show blk (cb t) * 1024 + q.val = 1024 * blk (cb t) + q.val; omega

/-- The block of the row of gains, read at an element. -/
theorem g_apply (c : Dev nD) (t : Fin (cfgT (F := Ideal)).N) (q : Fin 1024) :
    iblk m c 3 t (ix2 (0 : Fin 1) q) = V m c main_v166 (ix2 (0 : Fin 1) (bc t q)) := by
  show V m c main_v166 ((((cfgT (F := Ideal)).win 3).rect t).emb (ix2 (0 : Fin 1) q)) = V m c main_v166 (ix2 (0 : Fin 1) (bc t q))
  refine congrArg (V m c main_v166) (funext fun a => Fin.ext ?_)
  have f : ((cfgT (F := Ideal)).win 3).index t = ![0, blk (cb t)] := ix_3 _
  match a with
  | ⟨0, _⟩ =>
    refine (((cfgT (F := Ideal)).win 3).rect_emb_val t (ix2 (0 : Fin 1) q) 0).trans ?_
    rw [f]; rfl
  | ⟨1, _⟩ =>
    refine (((cfgT (F := Ideal)).win 3).rect_emb_val t (ix2 (0 : Fin 1) q) 1).trans ?_
    rw [f]; show blk (cb t) * 1024 + q.val = 1024 * blk (cb t) + q.val; omega

/-- The block of the row of flags, read at an element. -/
theorem f_apply (c : Dev nD) (t : Fin (cfgT (F := Ideal)).N) (q : Fin 1024) :
    iblk m c 4 t (ix2 (0 : Fin 1) q) = V m c main_v167 (ix2 (0 : Fin 1) (bc t q)) := by
  show V m c main_v167 ((((cfgT (F := Ideal)).win 4).rect t).emb (ix2 (0 : Fin 1) q)) = V m c main_v167 (ix2 (0 : Fin 1) (bc t q))
  refine congrArg (V m c main_v167) (funext fun a => Fin.ext ?_)
  have f : ((cfgT (F := Ideal)).win 4).index t = ![0, blk (cb t)] := ix_4 _
  match a with
  | ⟨0, _⟩ =>
    refine (((cfgT (F := Ideal)).win 4).rect_emb_val t (ix2 (0 : Fin 1) q) 0).trans ?_
    rw [f]; rfl
  | ⟨1, _⟩ =>
    refine (((cfgT (F := Ideal)).win 4).rect_emb_val t (ix2 (0 : Fin 1) q) 1).trans ?_
    rw [f]; show blk (cb t) * 1024 + q.val = 1024 * blk (cb t) + q.val; omega

theorem tab_lt : ∀ j : Fin 6, tab j < 4 := by decide

/-- The table's layer and the position that a row of a block is. -/
abbrev layer (t : Fin (cfgT (F := Ideal)).N) : Fin 4 := ⟨tab (cb t), tab_lt _⟩
abbrev opos (t : Fin (cfgT (F := Ideal)).N) (s : Fin 1024) : Fin 4096 := ⟨1024 * ((tok t).val % 4) + s.val, by omega⟩

/-- The block of the table of cosines, read at an element. -/
theorem cs_apply (c : Dev nD) (t : Fin (cfgT (F := Ideal)).N) (s : Fin 1024) (d : Fin 128) :
    iblk m c 5 t (ix3 (0 : Fin 1) s d) = V m c main_v32 (ix3 (layer t) (opos t s) d) := by
  show V m c main_v32 ((((cfgT (F := Ideal)).win 5).rect t).emb (ix3 (0 : Fin 1) s d)) = V m c main_v32 (ix3 (layer t) (opos t s) d)
  refine congrArg (V m c main_v32) (funext fun a => Fin.ext ?_)
  have f : ((cfgT (F := Ideal)).win 5).index t = ![tab (cb t), (tok t).val % 4, 0] := ix_5 _
  match a with
  | ⟨0, _⟩ =>
    refine (((cfgT (F := Ideal)).win 5).rect_emb_val t (ix3 (0 : Fin 1) s d) 0).trans ?_
    rw [f]; show tab (cb t) * 1 + 0 = tab (cb t); omega
  | ⟨1, _⟩ =>
    refine (((cfgT (F := Ideal)).win 5).rect_emb_val t (ix3 (0 : Fin 1) s d) 1).trans ?_
    rw [f]; show (tok t).val % 4 * 1024 + s.val = 1024 * ((tok t).val % 4) + s.val; omega
  | ⟨2, _⟩ =>
    refine (((cfgT (F := Ideal)).win 5).rect_emb_val t (ix3 (0 : Fin 1) s d) 2).trans ?_
    rw [f]; show 0 * 128 + d.val = d.val; omega

/-- The block of the table of sines, read at an element. -/
theorem sn_apply (c : Dev nD) (t : Fin (cfgT (F := Ideal)).N) (s : Fin 1024) (d : Fin 128) :
    iblk m c 6 t (ix3 (0 : Fin 1) s d) = V m c main_v47 (ix3 (layer t) (opos t s) d) := by
  show V m c main_v47 ((((cfgT (F := Ideal)).win 6).rect t).emb (ix3 (0 : Fin 1) s d)) = V m c main_v47 (ix3 (layer t) (opos t s) d)
  refine congrArg (V m c main_v47) (funext fun a => Fin.ext ?_)
  have f : ((cfgT (F := Ideal)).win 6).index t = ![tab (cb t), (tok t).val % 4, 0] := ix_6 _
  match a with
  | ⟨0, _⟩ =>
    refine (((cfgT (F := Ideal)).win 6).rect_emb_val t (ix3 (0 : Fin 1) s d) 0).trans ?_
    rw [f]; show tab (cb t) * 1 + 0 = tab (cb t); omega
  | ⟨1, _⟩ =>
    refine (((cfgT (F := Ideal)).win 6).rect_emb_val t (ix3 (0 : Fin 1) s d) 1).trans ?_
    rw [f]; show (tok t).val % 4 * 1024 + s.val = 1024 * ((tok t).val % 4) + s.val; omega
  | ⟨2, _⟩ =>
    refine (((cfgT (F := Ideal)).win 6).rect_emb_val t (ix3 (0 : Fin 1) s d) 2).trans ?_
    rw [f]; show 0 * 128 + d.val = d.val; omega

end Cert.DilKernelIdeal.Hand

end
-- ==== Proof.DilArray.lean ====
/-
  The result of the dilated head projections after the run: the 96 blocks tile the array, and every one of them is its block of
  the heads of the arguments.
-/
module

public import proofs.«01_k».proof.Proof.DilBlock

@[expose] public section

noncomputable section

namespace Cert.DilKernelIdeal.Hand

open Cert.DilKernelIdeal Cert.DilKernelIdeal.Gen Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ) (ρ : Dev nD → PrngReg)

/-- The heads of device `c`'s arguments: what the result array is shown to hold. -/
abbrev result (c : Dev nD) : Buf (Elt Ideal) ((c : Thread nD τ).loc main_v168) :=
  Cert.Dil.heads (m ((c : Thread nD τ).loc main_arg0)) (m ((c : Thread nD τ).loc main_arg1)) (m ((c : Thread nD τ).loc main_arg2))
    (m ((c : Thread nD τ).loc main_arg3)) (m ((c : Thread nD τ).loc main_arg4))

/-- Where an element of a block of the result stands: its sequence, its head, its position. -/
abbrev oseq (t : Fin (cfgT (F := Ideal)).N) : Fin 4 := ⟨(tok t).val / 4, by have := (tok t).isLt; omega⟩
abbrev ohead (t : Fin (cfgT (F := Ideal)).N) (h : Fin 8) : Fin 48 := ⟨8 * (cb t).val + h.val, by have := (cb t).isLt; omega⟩

theorem emb_out (t : Fin (cfgT (F := Ideal)).N) (h : Fin 8) (s : Fin 1024) (d : Fin 128) :
    (((cfgT (F := Ideal)).win 7).rect t).emb (ix4 (0 : Fin 1) h s d) = ix4 (oseq t) (ohead t h) (opos t s) d := by
  have f : ((cfgT (F := Ideal)).win 7).index t = ![(tok t).val / 4, (cb t).val, (tok t).val % 4, 0] := ix_7 _
  refine funext fun a => Fin.ext ?_
  match a with
  | ⟨0, _⟩ =>
    refine (((cfgT (F := Ideal)).win 7).rect_emb_val t (ix4 (0 : Fin 1) h s d) 0).trans ?_
    rw [f]; show (tok t).val / 4 * 1 + 0 = (tok t).val / 4; omega
  | ⟨1, _⟩ =>
    refine (((cfgT (F := Ideal)).win 7).rect_emb_val t (ix4 (0 : Fin 1) h s d) 1).trans ?_
    rw [f]; show (cb t).val * 8 + h.val = 8 * (cb t).val + h.val; omega
  | ⟨2, _⟩ =>
    refine (((cfgT (F := Ideal)).win 7).rect_emb_val t (ix4 (0 : Fin 1) h s d) 2).trans ?_
    rw [f]; show (tok t).val % 4 * 1024 + s.val = 1024 * ((tok t).val % 4) + s.val; omega
  | ⟨3, _⟩ =>
    refine (((cfgT (F := Ideal)).win 7).rect_emb_val t (ix4 (0 : Fin 1) h s d) 3).trans ?_
    rw [f]; show 0 * 128 + d.val = d.val; omega

theorem col_fact : ∀ (j : Fin 6) (h : Fin 8), 1024 * blk j + 128 * h.val = 3072 * ((8 * j.val + h.val) % 24 / 8) + 1024 * ((8 * j.val + h.val) / 24 + 1) + 128 * ((8 * j.val + h.val) % 8) := by
  decide +kernel

theorem wide_eq (t : Fin (cfgT (F := Ideal)).N) (h : Fin 8) (e : Fin 128) : wide (bc t (bcol h e)) = Cert.Dil.col (ohead t h) e :=
  Fin.ext (by
    have f := col_fact (cb t) h
    show 1024 * blk (cb t) + (128 * h.val + e.val) = 3072 * ((8 * (cb t).val + h.val) % 24 / 8) + 1024 * ((8 * (cb t).val + h.val) / 24 + 1) + 128 * ((8 * (cb t).val + h.val) % 8) + e.val
    omega)

/-- The position that stands in row `s` of a block of the result, and the token of the block it is: stride 4, -/
theorem row4_eq (t : Fin (cfgT (F := Ideal)).N) (s : Fin 1024) : row t (from4 s) = Cert.Nat.token (oseq t) (Cert.Dil.place4 (opos t s)) :=
  Fin.ext (by
    have hs := s.isLt
    show 1024 * (tok t).val + (4 * (s.val % 256) + s.val / 256) = 4096 * ((tok t).val / 4) + (1024 * ((1024 * ((tok t).val % 4) + s.val) / 1024)
      + (4 * ((1024 * ((tok t).val % 4) + s.val) % 256) + (1024 * ((tok t).val % 4) + s.val) % 1024 / 256))
    omega)

/-- and stride 16. -/
theorem row16_eq (t : Fin (cfgT (F := Ideal)).N) (s : Fin 1024) : row t (from16 s) = Cert.Nat.token (oseq t) (Cert.Dil.place16 (opos t s)) :=
  Fin.ext (by
    have hs := s.isLt
    show 1024 * (tok t).val + (16 * (s.val % 64) + s.val / 64) = 4096 * ((tok t).val / 4) + (1024 * ((1024 * ((tok t).val % 4) + s.val) / 1024)
      + (16 * ((1024 * ((tok t).val % 4) + s.val) % 64) + (1024 * ((tok t).val % 4) + s.val) % 1024 / 64))
    omega)

/-- The projection a point computes at row `r` of its tokens. -/
theorem lin_eq (c : Dev nD) (t : Fin (cfgT (F := Ideal)).N) (h : Fin 8) (r : Fin 1024) (p : Fin 4096) (hr : row t r = Cert.Nat.token (oseq t) p) (e : Fin 128)
    (x0 x1 : FVec Ideal S1024x4096 .bf16) (x2 : FVec Ideal S1x1024 .f32) (h0 : x0 = iblk m c 0 t) (h1 : x1 = iblk m c 1 t) (h2 : x2 = iblk m c 2 t) :
    (∑ k : Fin 4096, x0 (ix2 r k) * x1 (ix2 (bcol h e) k)) + x2 (ix2 (0 : Fin 1) (bcol h e))
      = Cert.Nat.lin (m ((c : Thread nD τ).loc main_arg0)) (m ((c : Thread nD τ).loc main_arg1)) (m ((c : Thread nD τ).loc main_arg2))
          (Cert.Nat.token (oseq t) p) (Cert.Dil.col (ohead t h) e) := by
  have e0 : ∀ k, x0 (ix2 r k) = m ((c : Thread nD τ).loc main_arg0) (ix2 (Cert.Nat.token (oseq t) p) k) := fun k => by
    rw [h0, h_apply, hr]
  have e1 : ∀ k, x1 (ix2 (bcol h e) k) = m ((c : Thread nD τ).loc main_arg1) (ix3 (0 : Fin 1) k (Cert.Dil.col (ohead t h) e)) := fun k => by
    rw [h1, w_apply, wide_eq]
  have e2 : x2 (ix2 (0 : Fin 1) (bcol h e)) = m ((c : Thread nD τ).loc main_arg2) (ix2 (0 : Fin 1) (Cert.Dil.col (ohead t h) e)) := by
    rw [h2, b_apply, bias_apply, wide_eq]
  simp only [e0, e1, e2]
  rfl

theorem group_eq (t : Fin (cfgT (F := Ideal)).N) (h : Fin 8) (g : Fin 3) (hg : (cb t).val / 3 + 1 = g.val) : g = Cert.Dil.group (ohead t h) :=
  Fin.ext (by have := h.isLt; have := (cb t).isLt; show g.val = (8 * (cb t).val + h.val) / 24 + 1; omega)

theorem lane_eq (h : Fin 8) (e : Fin 128) (H) : (⟨(bcol h e).val % 128, H⟩ : Fin 128) = e :=
  Fin.ext (by have := h.isLt; have := e.isLt; show (128 * h.val + e.val) % 128 = e.val; omega)

theorem gq_eq (c : Dev nD) (t : Fin (cfgT (F := Ideal)).N) (hj : (cb t).val % 3 = 0) (h : Fin 8) (e : Fin 128) :
    iblk m c 3 t (ix2 (0 : Fin 1) (bcol h e)) = m ((c : Thread nD τ).loc main_arg3) (ix3 (0 : Fin 1) (Cert.Dil.group (ohead t h)) e) := by
  rw [g_apply]
  rcases (by decide : ∀ j : Fin 6, j.val % 3 = 0 → (blk j = 1 ∧ j.val / 3 + 1 = 1) ∨ (blk j = 2 ∧ j.val / 3 + 1 = 2)) _ hj with ⟨hb, hg⟩ | ⟨hb, hg⟩
  · rw [gain_q1 m c _ (bcol h e) (by show 1024 * blk (cb t) + (128 * h.val + e.val) = 1024 + (128 * h.val + e.val); rw [hb]), lane_eq,
      ← group_eq t h (1 : Fin 3) hg]
  · rw [gain_q2 m c _ (bcol h e) (by show 1024 * blk (cb t) + (128 * h.val + e.val) = 2048 + (128 * h.val + e.val); rw [hb]), lane_eq,
      ← group_eq t h (2 : Fin 3) hg]

theorem gk_eq (c : Dev nD) (t : Fin (cfgT (F := Ideal)).N) (hj : (cb t).val % 3 = 1) (h : Fin 8) (e : Fin 128) :
    iblk m c 3 t (ix2 (0 : Fin 1) (bcol h e)) = m ((c : Thread nD τ).loc main_arg4) (ix3 (0 : Fin 1) (Cert.Dil.group (ohead t h)) e) := by
  rw [g_apply]
  rcases (by decide : ∀ j : Fin 6, j.val % 3 = 1 → (blk j = 4 ∧ j.val / 3 + 1 = 1) ∨ (blk j = 5 ∧ j.val / 3 + 1 = 2)) _ hj with ⟨hb, hg⟩ | ⟨hb, hg⟩
  · rw [gain_k1 m c _ (bcol h e) (by show 1024 * blk (cb t) + (128 * h.val + e.val) = 4096 + (128 * h.val + e.val); rw [hb]), lane_eq,
      ← group_eq t h (1 : Fin 3) hg]
  · rw [gain_k2 m c _ (bcol h e) (by show 1024 * blk (cb t) + (128 * h.val + e.val) = 5120 + (128 * h.val + e.val); rw [hb]), lane_eq,
      ← group_eq t h (2 : Fin 3) hg]

theorem on_eq (c : Dev nD) (t : Fin (cfgT (F := Ideal)).N) (hj : (cb t).val % 3 < 2) (q : Fin 1024) :
    iblk m c 4 t (ix2 (0 : Fin 1) q) = Ideal.ofBits .f32 0x3F800000#32 := by
  obtain ⟨u, hu⟩ := (by decide : ∀ j : Fin 6, j.val % 3 < 2 → ∃ u : Fin 4, (![1, 4, 2, 5] : Fin 4 → ℕ) u = blk j) _ hj
  rw [f_apply, flag_apply, ← flag_on u q]
  refine congrArg (fun x : Fin 18432 => Ideal.ofBits .f32 (lit1 (S18432.rowMajor (ix1 x)))) (Fin.ext ?_)
  show 1024 * blk (cb t) + q.val = 1024 * (![1, 4, 2, 5] : Fin 4 → ℕ) u + q.val
  rw [hu]

theorem off_eq (c : Dev nD) (t : Fin (cfgT (F := Ideal)).N) (hj : (cb t).val % 3 = 2) (q : Fin 1024) :
    iblk m c 4 t (ix2 (0 : Fin 1) q) = Ideal.ofBits .f32 0x00000000#32 := by
  obtain ⟨u, hu⟩ := (by decide : ∀ j : Fin 6, j.val % 3 = 2 → ∃ u : Fin 2, (![7, 8] : Fin 2 → ℕ) u = blk j) _ hj
  rw [f_apply, flag_apply, ← flag_off u q]
  refine congrArg (fun x : Fin 18432 => Ideal.ofBits .f32 (lit1 (S18432.rowMajor (ix1 x)))) (Fin.ext ?_)
  show 1024 * blk (cb t) + q.val = 1024 * (![7, 8] : Fin 2 → ℕ) u + q.val
  rw [hu]

/-! The layer of the tables a point reads: 1 with stride 4, 2 with stride 16, 3 for values. -/

theorem layer_eq (t : Fin (cfgT (F := Ideal)).N) (k : Fin 4) (hk : tab (cb t) = k.val) : layer t = k := Fin.ext hk

theorem cs1_eq (c : Dev nD) (t : Fin (cfgT (F := Ideal)).N) (hj : (cb t).val < 2) (s : Fin 1024) (d : Fin 128) :
    iblk m c 5 t (ix3 (0 : Fin 1) s d) = Cert.Rotate.cosine (Cert.Dil.place4 (opos t s)) d := by
  rw [cs_apply, layer_eq t 1 ((by decide : ∀ j : Fin 6, j.val < 2 → tab j = 1) _ hj)]
  exact cosines_1 m c (opos t s) d

theorem cs2_eq (c : Dev nD) (t : Fin (cfgT (F := Ideal)).N) (hj : 3 ≤ (cb t).val ∧ (cb t).val < 5) (s : Fin 1024) (d : Fin 128) :
    iblk m c 5 t (ix3 (0 : Fin 1) s d) = Cert.Rotate.cosine (Cert.Dil.place16 (opos t s)) d := by
  rw [cs_apply, layer_eq t 2 ((by decide : ∀ j : Fin 6, 3 ≤ j.val ∧ j.val < 5 → tab j = 2) _ hj)]
  exact cosines_2 m c (opos t s) d

theorem cs3_eq (c : Dev nD) (t : Fin (cfgT (F := Ideal)).N) (hj : (cb t).val % 3 = 2) (s : Fin 1024) (d : Fin 128) :
    iblk m c 5 t (ix3 (0 : Fin 1) s d) = Ideal.ofBits .f32 0x3F800000#32 := by
  rw [cs_apply, layer_eq t 3 ((by decide : ∀ j : Fin 6, j.val % 3 = 2 → tab j = 3) _ hj)]
  exact cosines_3 m c (opos t s) d

theorem sn1_eq (c : Dev nD) (t : Fin (cfgT (F := Ideal)).N) (hj : (cb t).val < 2) (s : Fin 1024) (d : Fin 128) :
    iblk m c 6 t (ix3 (0 : Fin 1) s d) = Cert.Rotate.sine (Cert.Dil.place4 (opos t s)) d := by
  rw [sn_apply, layer_eq t 1 ((by decide : ∀ j : Fin 6, j.val < 2 → tab j = 1) _ hj)]
  exact sines_1 m c (opos t s) d

theorem sn2_eq (c : Dev nD) (t : Fin (cfgT (F := Ideal)).N) (hj : 3 ≤ (cb t).val ∧ (cb t).val < 5) (s : Fin 1024) (d : Fin 128) :
    iblk m c 6 t (ix3 (0 : Fin 1) s d) = Cert.Rotate.sine (Cert.Dil.place16 (opos t s)) d := by
  rw [sn_apply, layer_eq t 2 ((by decide : ∀ j : Fin 6, 3 ≤ j.val ∧ j.val < 5 → tab j = 2) _ hj)]
  exact sines_2 m c (opos t s) d

theorem sn3_eq (c : Dev nD) (t : Fin (cfgT (F := Ideal)).N) (hj : (cb t).val % 3 = 2) (s : Fin 1024) (d : Fin 128) :
    iblk m c 6 t (ix3 (0 : Fin 1) s d) = Ideal.ofBits .f32 0x00000000#32 := by
  rw [sn_apply, layer_eq t 3 ((by decide : ∀ j : Fin 6, j.val % 3 = 2 → tab j = 3) _ hj)]
  exact sines_3 m c (opos t s) d

/-- The entry at an element of a point's block, its stride and its part fixed by the column block. -/
theorem place_4 (t : Fin (cfgT (F := Ideal)).N) (h : Fin 8) (hj : (cb t).val < 3) (p : Fin 4096) : Cert.Dil.place (ohead t h) p = Cert.Dil.place4 p :=
  if_pos (by have := h.isLt; show 8 * (cb t).val + h.val < 24; omega)
theorem place_16 (t : Fin (cfgT (F := Ideal)).N) (h : Fin 8) (hj : ¬ (cb t).val < 3) (p : Fin 4096) : Cert.Dil.place (ohead t h) p = Cert.Dil.place16 p :=
  if_neg (by show ¬ (8 * (cb t).val + h.val < 24); omega)

theorem plain (x y : EReal) : x * Ideal.ofBits .f32 0x3F800000#32 + y * Ideal.ofBits .f32 0x00000000#32 = x := by
  rw [Ideal.ofBits_one_f32, Ideal.ofBits_zero_f32, mul_one, mul_zero, add_zero]

/-- What a point leaves, element by element. -/
theorem outAt_apply (c : Dev nD) (t : Fin (cfgT (F := Ideal)).N) (h : Fin 8) (s : Fin 1024) (d : Fin 128) :
    outAt m c t (ix4 (0 : Fin 1) h s d) = result m c (ix4 (oseq t) (ohead t h) (opos t s) d) := by
  have hn : (ohead t h).val = 8 * (cb t).val + h.val := rfl
  have hh := h.isLt
  have hc := (cb t).isLt
  show _ = Cert.Dil.entry (m ((c : Thread nD τ).loc main_arg0)) (m ((c : Thread nD τ).loc main_arg1)) (m ((c : Thread nD τ).loc main_arg2))
    (m ((c : Thread nD τ).loc main_arg3)) (m ((c : Thread nD τ).loc main_arg4)) (oseq t) (ohead t h) (Cert.Dil.place (ohead t h) (opos t s)) d
  unfold outAt
  by_cases h3 : (cb t).val < 3
  · rw [if_pos h3, place_4 t h h3]
    unfold Cert.Dil.entry Cert.Dil.finish
    have L := fun e : Fin 128 => lin_eq m c t h (from4 s) _ (row4_eq t s) e _ _ _ rfl rfl rfl
    by_cases hA : (cb t).val % 3 < 2
    · by_cases hQ : (cb t).val % 3 = 0
      · rw [if_pos (by omega)]
        refine (out4_on _ _ _ _ _ _ _ h s d (on_eq m c t hA) _ _ L (gq_eq m c t hQ h)).trans ?_
        rw [cs1_eq m c t (by omega), sn1_eq m c t (by omega)]
        rfl
      · rw [if_neg (by omega), if_pos (by omega)]
        refine (out4_on _ _ _ _ _ _ _ h s d (on_eq m c t hA) _ _ L (gk_eq m c t (by omega) h)).trans ?_
        rw [cs1_eq m c t (by omega), sn1_eq m c t (by omega)]
        rfl
    · rw [if_neg (by omega), if_neg (by omega)]
      refine (out4_off _ _ _ _ _ _ _ h s d (off_eq m c t (by omega)) _ L).trans ?_
      rw [cs3_eq m c t (by omega), sn3_eq m c t (by omega), plain]
  · rw [if_neg h3, place_16 t h h3]
    unfold Cert.Dil.entry Cert.Dil.finish
    have L := fun e : Fin 128 => lin_eq m c t h (from16 s) _ (row16_eq t s) e _ _ _ rfl rfl rfl
    by_cases hA : (cb t).val % 3 < 2
    · by_cases hQ : (cb t).val % 3 = 0
      · rw [if_pos (by omega)]
        refine (out16_on _ _ _ _ _ _ _ h s d (on_eq m c t hA) _ _ L (gq_eq m c t hQ h)).trans ?_
        rw [cs2_eq m c t (by omega), sn2_eq m c t (by omega)]
        rfl
      · rw [if_neg (by omega), if_pos (by omega)]
        refine (out16_on _ _ _ _ _ _ _ h s d (on_eq m c t hA) _ _ L (gk_eq m c t (by omega) h)).trans ?_
        rw [cs2_eq m c t (by omega), sn2_eq m c t (by omega)]
        rfl
    · rw [if_neg (by omega), if_neg (by omega)]
      refine (out16_off _ _ _ _ _ _ _ h s d (off_eq m c t (by omega)) _ L).trans ?_
      rw [cs3_eq m c t (by omega), sn3_eq m c t (by omega), plain]

/-- What point `t` writes back is block `t` of the heads. -/
theorem flushed_eq (c : Dev nD) (t : Fin (cfgT (F := Ideal)).N) :
    (dats m 0 c).flushed 7 t = (((cfgT (F := Ideal)).win 7).blk t).view.read (Elt Ideal) (result m c) := by
  show ((cfgT (F := Ideal)).win 7).cut (grid0.coords t) ((dats m 0 c).after 7 t) = _
  rw [after_7]
  funext y
  obtain ⟨h, s, d, rfl⟩ : ∃ (h : Fin 8) (s : Fin 1024) (d : Fin 128), y = ix4 (0 : Fin 1) h s d :=
    ⟨y 1, y 2, y 3, funext fun a => match a with
      | ⟨0, _⟩ => Subsingleton.elim (α := Fin 1) _ _
      | ⟨1, _⟩ => rfl
      | ⟨2, _⟩ => rfl
      | ⟨3, _⟩ => rfl⟩
  show outAt m c t (ix4 (0 : Fin 1) h s d) = result m c ((((cfgT (F := Ideal)).win 7).rect t).emb (ix4 (0 : Fin 1) h s d))
  rw [emb_out, outAt_apply]

/-- Every point writes its block back. -/
theorem flush_7 (t : Fin (cfgT (F := Ideal)).N) : ((cfgT (F := Ideal)).win 7).flush t = true :=
  (by decide +kernel : ∀ t : Fin grid0.N, (true && (decide (t.val + 1 = grid0.N)
    || decide (∃ h : t.val + 1 < grid0.N, cc0_transform_7 (grid0.coords ⟨t.val + 1, h⟩) ≠ cc0_transform_7 (grid0.coords t)))) = true) t

theorem coords_eq : ∀ t : Fin grid0.N, (grid0.coords t 0).val = t.val / 6 ∧ (grid0.coords t 1).val = t.val % 6 := by decide +kernel

/-- Every index of the result array is in some point's block. -/
theorem cover (i : S4x48x4096x128.Idx) :
    ∃ t : Fin (cfgT (F := Ideal)).N, ((cfgT (F := Ideal)).win 7).flush t = true ∧ i ∈ (((cfgT (F := Ideal)).win 7).blk t).view.set := by
  have h0 : (i 0 : Nat) < 4 := (i 0).isLt
  have h1 : (i 1 : Nat) < 48 := (i 1).isLt
  have h2 : (i 2 : Nat) < 4096 := (i 2).isLt
  have hN : (cfgT (F := Ideal)).N = 96 := (by decide : grid0.N = 96)
  let t : Fin (cfgT (F := Ideal)).N := ⟨(4 * (i 0 : Nat) + (i 2 : Nat) / 1024) * 6 + (i 1 : Nat) / 8, by omega⟩
  have ht : (tok t).val = 4 * (i 0 : Nat) + (i 2 : Nat) / 1024 :=
    (coords_eq t).1.trans (by show ((4 * (i 0 : Nat) + (i 2 : Nat) / 1024) * 6 + (i 1 : Nat) / 8) / 6 = _; omega)
  have hb : (cb t).val = (i 1 : Nat) / 8 :=
    (coords_eq t).2.trans (by show ((4 * (i 0 : Nat) + (i 2 : Nat) / 1024) * 6 + (i 1 : Nat) / 8) % 6 = _; omega)
  refine ⟨t, flush_7 t, ?_⟩
  have e : i = (((cfgT (F := Ideal)).win 7).rect t).emb (ix4 (0 : Fin 1) (⟨(i 1 : Nat) % 8, by omega⟩ : Fin 8) (⟨(i 2 : Nat) % 1024, by omega⟩ : Fin 1024) (i 3)) := by
    refine Eq.trans ?_ (emb_out t _ _ _).symm
    refine funext fun a => Fin.ext ?_
    match a with
    | ⟨0, _⟩ => show (i 0 : Nat) = (tok t).val / 4; omega
    | ⟨1, _⟩ => show (i 1 : Nat) = 8 * (cb t).val + (i 1 : Nat) % 8; omega
    | ⟨2, _⟩ => show (i 2 : Nat) = 1024 * ((tok t).val % 4) + (i 2 : Nat) % 1024; omega
    | ⟨3, _⟩ => rfl
  rw [e]
  exact View.emb_mem_set (((cfgT (F := Ideal)).win 7).blk t).view _

/-- The result array after the run. -/
theorem final (c : Dev nD) : (dats m 0 c).arrAt 7 (cfgT (F := Ideal)).N = result m c :=
  (dats m 0 c).arrAt_eq_of_cover 7 _ (fun t _ => flushed_eq m c t) cover

end Cert.DilKernelIdeal.Hand

end
-- ==== Proof.DilRef.lean ====
/-
  What the dilated head projections' reference computes: read at an index, its one result is the heads of its arguments.
  The reference multiplies the whole weight, cuts queries, keys and values out of the product, normalises and turns queries
  and keys, joins the heads of a stride, and lists every block's tokens stride by stride.
-/
module

public import proofs.«01_k».proof.Proof.Gen.DilReferenceIdeal.Read
public import proofs.«01_k».proof.Proof.DilSpec
public import Idealize.ShloMosaic.Lib.ValueIdxRank6

@[expose] public section

noncomputable section

namespace Cert.DilReferenceIdeal.Hand

open Cert.DilReferenceIdeal Cert.DilReferenceIdeal.Read Idealize.ShloMosaic Idealize.ShloMosaic.TcCoe Idealize.SL.Sem
open Idealize.ShloMosaic.ValueIdx
open scoped BigOperators

variable (x0 : (⟨S16384x4096, .bf16⟩ : BufTy).Contents (Elt Ideal)) (x1 : (⟨S1x4096x26640, .f32⟩ : BufTy).Contents (Elt Ideal))
  (x2 : (⟨S1x26640, .f32⟩ : BufTy).Contents (Elt Ideal)) (x3 x4 : (⟨S1x3x128, .f32⟩ : BufTy).Contents (Elt Ideal))

/-- The whole projection at token `r` and column `n`. -/
theorem proj_apply (r : Fin 16384) (n : Fin 26640) : val_main_v7 (F := Ideal) x0 x1 x2 (ix2 r n) = Cert.Nat.lin x0 x1 x2 r n := by
  have hn := n.isLt
  have eb : idx_main_v4 (idx_main_v5 (idx_main_v6 (ix2 r n))) = ix2 (0 : Fin 1) n := funext fun a => Fin.ext (match a with
    | ⟨0, _⟩ => rfl
    | ⟨1, _⟩ => Nat.mod_eq_of_lt hn)
  have ew : ∀ k : Fin 4096, idx_main_v2 (ridx_main_v3 (ix2 r n) k) = ix3 (0 : Fin 1) k n := fun k => funext fun a => Fin.ext (by
    have hk := k.isLt
    match a with
    | ⟨0, _⟩ => rfl
    | ⟨1, _⟩ => show (k.val * 26640 + n.val) / 26640 % 4096 = k.val; omega
    | ⟨2, _⟩ => show (k.val * 26640 + n.val) % 26640 = n.val; omega)
  have eh : ∀ k : Fin 4096, lidx_main_v3 (ix2 r n) k = ix2 r k := fun k => funext fun a => match a with
    | ⟨0, _⟩ => rfl
    | ⟨1, _⟩ => rfl
  rw [val_main_v7_apply, val_main_v3_apply, val_main_v6_apply, val_main_v5_apply, val_main_v4_apply, eb]
  simp only [val_main_v2_apply, val_main_v1_apply, ew, eh]
  rfl

/-- The projection by sequence and position. -/
theorem seq_apply (i : S4x4096x26640.Idx) (q : Fin 4) (s : Fin 4096) (n : Fin 26640) (h0 : (i 0 : Nat) = q.val)
    (h1 : (i 1 : Nat) = s.val) (h2 : (i 2 : Nat) = n.val) :
    val_main_v8 (F := Ideal) x0 x1 x2 i = Cert.Nat.lin x0 x1 x2 (Cert.Nat.token q s) n := by
  have e : idx_main_v8 i = ix2 (Cert.Nat.token q s) n := funext fun a => Fin.ext (by
    have hc : (i 2 : Nat) < 26640 := (i 2).isLt
    match a with
    | ⟨0, _⟩ =>
      show (((i 0 : Nat) * 4096 + (i 1 : Nat)) * 26640 + (i 2 : Nat)) / 26640 = 4096 * q.val + s.val
      omega
    | ⟨1, _⟩ =>
      show (((i 0 : Nat) * 4096 + (i 1 : Nat)) * 26640 + (i 2 : Nat)) % 26640 = n.val
      omega)
  rw [val_main_v8_apply, e, proj_apply]

/-- Column `d` of head `h` of group `g` of the queries (part 0), the keys (part 1) or the values (part 2). -/
def at3 (part g : Fin 3) (h : Fin 8) (d : Fin 128) : Fin 26640 :=
  ⟨3072 * part.val + 1024 * g.val + 128 * h.val + d.val, by omega⟩

/-- The queries before anything is done to them. -/
theorem raw_0 (q : Fin 4) (s : Fin 4096) (g : Fin 3) (h : Fin 8) (d : Fin 128) : val_main_v10 (F := Ideal) x0 x1 x2 (ix5 q s g h d)
    = Cert.Nat.lin x0 x1 x2 (Cert.Nat.token q s) (at3 0 g h d) := by
  have hq := q.isLt
  have hs := s.isLt
  have hg := g.isLt
  have hh := h.isLt
  have hd := d.isLt
  rw [val_main_v10_apply, val_main_v9_apply]
  refine seq_apply x0 x1 x2 _ q s _ ?_ ?_ ?_
  · show ((((q.val * 4096 + s.val) * 3 + g.val) * 8 + h.val) * 128 + d.val) / 12582912 = q.val
    omega
  · show ((((q.val * 4096 + s.val) * 3 + g.val) * 8 + h.val) * 128 + d.val) / 3072 % 4096 = s.val
    omega
  · show ((((q.val * 4096 + s.val) * 3 + g.val) * 8 + h.val) * 128 + d.val) % 3072 = 3072 * 0 + 1024 * g.val + 128 * h.val + d.val
    omega

/-- The keys before anything is done to them. -/
theorem raw_1 (q : Fin 4) (s : Fin 4096) (g : Fin 3) (h : Fin 8) (d : Fin 128) : val_main_v12 (F := Ideal) x0 x1 x2 (ix5 q s g h d)
    = Cert.Nat.lin x0 x1 x2 (Cert.Nat.token q s) (at3 1 g h d) := by
  have hq := q.isLt
  have hs := s.isLt
  have hg := g.isLt
  have hh := h.isLt
  have hd := d.isLt
  rw [val_main_v12_apply, val_main_v11_apply]
  refine seq_apply x0 x1 x2 _ q s _ ?_ ?_ ?_
  · show ((((q.val * 4096 + s.val) * 3 + g.val) * 8 + h.val) * 128 + d.val) / 12582912 = q.val
    omega
  · show ((((q.val * 4096 + s.val) * 3 + g.val) * 8 + h.val) * 128 + d.val) / 3072 % 4096 = s.val
    omega
  · show 3072 + ((((q.val * 4096 + s.val) * 3 + g.val) * 8 + h.val) * 128 + d.val) % 3072 = 3072 * 1 + 1024 * g.val + 128 * h.val + d.val
    omega

/-- The values before anything is done to them. -/
theorem raw_2 (q : Fin 4) (s : Fin 4096) (g : Fin 3) (h : Fin 8) (d : Fin 128) : val_main_v14 (F := Ideal) x0 x1 x2 (ix5 q s g h d)
    = Cert.Nat.lin x0 x1 x2 (Cert.Nat.token q s) (at3 2 g h d) := by
  have hq := q.isLt
  have hs := s.isLt
  have hg := g.isLt
  have hh := h.isLt
  have hd := d.isLt
  rw [val_main_v14_apply, val_main_v13_apply]
  refine seq_apply x0 x1 x2 _ q s _ ?_ ?_ ?_
  · show ((((q.val * 4096 + s.val) * 3 + g.val) * 8 + h.val) * 128 + d.val) / 12582912 = q.val
    omega
  · show ((((q.val * 4096 + s.val) * 3 + g.val) * 8 + h.val) * 128 + d.val) / 3072 % 4096 = s.val
    omega
  · show 6144 + ((((q.val * 4096 + s.val) * 3 + g.val) * 8 + h.val) * 128 + d.val) % 3072 = 3072 * 2 + 1024 * g.val + 128 * h.val + d.val
    omega

/-- The queries after their norm. -/
theorem normed_0 (q : Fin 4) (s : Fin 4096) (g : Fin 3) (h : Fin 8) (d : Fin 128) : val_main_v29 (F := Ideal) x0 x1 x2 x3 (ix5 q s g h d)
    = Cert.Nat.normed (fun e => Cert.Nat.lin x0 x1 x2 (Cert.Nat.token q s) (at3 0 g h e)) (fun e => x3 (ix3 (0 : Fin 1) g e)) d := by
  have hg := g.isLt
  have hd := d.isLt
  have eg : idx_main_v15 (idx_main_v16 (idx_main_v27 (idx_main_v28 (ix5 q s g h d)))) = ix3 (0 : Fin 1) g d := funext fun a => Fin.ext (by
    match a with
    | ⟨0, _⟩ => rfl
    | ⟨1, _⟩ => show (g.val * 128 + d.val) / 128 % 3 = g.val; omega
    | ⟨2, _⟩ => show (g.val * 128 + d.val) % 128 = d.val; omega)
  have es : ∀ e : Fin 128, idx_main_v18 (idx_main_v19 (idx_main_v25 (ix5 q s g h d))) e = ix5 q s g h e := fun e => funext fun a => match a with
    | ⟨0, _⟩ => rfl
    | ⟨1, _⟩ => rfl
    | ⟨2, _⟩ => rfl
    | ⟨3, _⟩ => rfl
    | ⟨4, _⟩ => rfl
  rw [val_main_v29_apply, val_main_v28_apply, val_main_v27_apply, val_main_v16_apply, val_main_v15_apply, eg, val_main_v26_apply, val_main_v25_apply, val_main_v24_apply, val_main_v23_apply, val_main_v22_apply, val_main_cst_1_apply,
    val_main_v21_apply, val_main_v20_apply, val_main_cst_0_apply, val_main_v19_apply, val_main_v18_apply, val_main_cst_apply]
  simp only [val_main_v17_apply, es, raw_0]
  refine congrArg (fun u => Cert.Nat.lin x0 x1 x2 (Cert.Nat.token q s) (at3 0 g h d)
    * Ideal.rsqrt (Ideal.div u (Ideal.ofBits .f32 0x43000000#32) + Ideal.ofBits .f32 0x358637BD#32) * x3 (ix3 (0 : Fin 1) g d)) ?_
  refine (congrArg (· + _) ?_).trans (zero_add _)
  exact Ideal.ofBits_zero_f32

/-- The angles of the queries. -/
theorem cos_0 (s : Fin 4096) (j : Fin 64) : val_main_v42 (F := Ideal) (ix2 s j) = Ideal.cos (Cert.Rotate.angle s j) := rfl
theorem sin_0 (s : Fin 4096) (j : Fin 64) : val_main_v44 (F := Ideal) (ix2 s j) = Ideal.sin (Cert.Rotate.angle s j) := rfl

theorem half_0 (q : Fin 4) (s : Fin 4096) (g : Fin 3) (h : Fin 8) (j : Fin 64) :
    (val_main_v46 (F := Ideal) x0 x1 x2 x3 (ix5 q s g h j) = val_main_v29 (F := Ideal) x0 x1 x2 x3 (ix5 q s g h (⟨j.val, by omega⟩ : Fin 128)))
    ∧ (val_main_v47 (F := Ideal) x0 x1 x2 x3 (ix5 q s g h j) = val_main_v29 (F := Ideal) x0 x1 x2 x3 (ix5 q s g h (⟨64 + j.val, by omega⟩ : Fin 128))) := by
  have e0 : idx_main_v46 (ix5 q s g h j) = ix5 q s g h (⟨j.val, by omega⟩ : Fin 128) := funext fun a => match a with
    | ⟨0, _⟩ => rfl
    | ⟨1, _⟩ => rfl
    | ⟨2, _⟩ => rfl
    | ⟨3, _⟩ => rfl
    | ⟨4, _⟩ => rfl
  have e1 : idx_main_v47 (ix5 q s g h j) = ix5 q s g h (⟨64 + j.val, by omega⟩ : Fin 128) := funext fun a => match a with
    | ⟨0, _⟩ => rfl
    | ⟨1, _⟩ => rfl
    | ⟨2, _⟩ => rfl
    | ⟨3, _⟩ => rfl
    | ⟨4, _⟩ => rfl
  exact ⟨by rw [val_main_v46_apply, e0], by rw [val_main_v47_apply, e1]⟩

/-- The first half of a head of the queries, turned, -/
theorem first_0 (q : Fin 4) (s : Fin 4096) (g : Fin 3) (h : Fin 8) (j : Fin 64) :
    val_main_v54 (F := Ideal) x0 x1 x2 x3 (ix5 q s g h j)
      = Cert.Rotate.rotated (fun e => val_main_v29 (F := Ideal) x0 x1 x2 x3 (ix5 q s g h e)) s (⟨j.val, by omega⟩ : Fin 128) := by
  have hs := s.isLt
  have hj := j.isLt
  have ec : idx_main_v43 (idx_main_v48 (idx_main_v49 (ix5 q s g h j))) = ix2 s j := funext fun a => Fin.ext (by
    match a with
    | ⟨0, _⟩ => show (((s.val * 1 + 0) * 1 + 0) * 64 + j.val) / 64 = s.val; omega
    | ⟨1, _⟩ => show (((s.val * 1 + 0) * 1 + 0) * 64 + j.val) % 64 = j.val; omega)
  have en : idx_main_v45 (idx_main_v51 (idx_main_v52 (ix5 q s g h j))) = ix2 s j := funext fun a => Fin.ext (by
    match a with
    | ⟨0, _⟩ => show (((s.val * 1 + 0) * 1 + 0) * 64 + j.val) / 64 = s.val; omega
    | ⟨1, _⟩ => show (((s.val * 1 + 0) * 1 + 0) * 64 + j.val) % 64 = j.val; omega)
  rw [val_main_v54_apply, val_main_v50_apply, val_main_v53_apply, val_main_v49_apply, val_main_v48_apply, val_main_v43_apply, ec, val_main_v52_apply, val_main_v51_apply, val_main_v45_apply, en, cos_0, sin_0,
    (half_0 x0 x1 x2 x3 q s g h j).1, (half_0 x0 x1 x2 x3 q s g h j).2]
  exact Cert.Rotate.rotated_first (fun e => val_main_v29 (F := Ideal) x0 x1 x2 x3 (ix5 q s g h e)) s j

/-- and the second. -/
theorem second_0 (q : Fin 4) (s : Fin 4096) (g : Fin 3) (h : Fin 8) (j : Fin 64) :
    val_main_v61 (F := Ideal) x0 x1 x2 x3 (ix5 q s g h j)
      = Cert.Rotate.rotated (fun e => val_main_v29 (F := Ideal) x0 x1 x2 x3 (ix5 q s g h e)) s (⟨64 + j.val, by omega⟩ : Fin 128) := by
  have hs := s.isLt
  have hj := j.isLt
  have ec : idx_main_v43 (idx_main_v55 (idx_main_v56 (ix5 q s g h j))) = ix2 s j := funext fun a => Fin.ext (by
    match a with
    | ⟨0, _⟩ => show (((s.val * 1 + 0) * 1 + 0) * 64 + j.val) / 64 = s.val; omega
    | ⟨1, _⟩ => show (((s.val * 1 + 0) * 1 + 0) * 64 + j.val) % 64 = j.val; omega)
  have en : idx_main_v45 (idx_main_v58 (idx_main_v59 (ix5 q s g h j))) = ix2 s j := funext fun a => Fin.ext (by
    match a with
    | ⟨0, _⟩ => show (((s.val * 1 + 0) * 1 + 0) * 64 + j.val) / 64 = s.val; omega
    | ⟨1, _⟩ => show (((s.val * 1 + 0) * 1 + 0) * 64 + j.val) % 64 = j.val; omega)
  rw [val_main_v61_apply, val_main_v57_apply, val_main_v60_apply, val_main_v56_apply, val_main_v55_apply, val_main_v43_apply, ec, val_main_v59_apply, val_main_v58_apply, val_main_v45_apply, en, cos_0, sin_0,
    (half_0 x0 x1 x2 x3 q s g h j).1, (half_0 x0 x1 x2 x3 q s g h j).2]
  exact Cert.Rotate.rotated_second (fun e => val_main_v29 (F := Ideal) x0 x1 x2 x3 (ix5 q s g h e)) s j

/-- The queries normalised and turned. -/
theorem turned_0 (q : Fin 4) (s : Fin 4096) (g : Fin 3) (h : Fin 8) (d : Fin 128) :
    val_main_v62 (F := Ideal) x0 x1 x2 x3 (ix5 q s g h d)
      = Cert.Rotate.rotated (Cert.Nat.normed (fun e => Cert.Nat.lin x0 x1 x2 (Cert.Nat.token q s) (at3 0 g h e)) (fun e => x3 (ix3 (0 : Fin 1) g e))) s d := by
  have hy : (fun e => val_main_v29 (F := Ideal) x0 x1 x2 x3 (ix5 q s g h e))
      = Cert.Nat.normed (fun e => Cert.Nat.lin x0 x1 x2 (Cert.Nat.token q s) (at3 0 g h e)) (fun e => x3 (ix3 (0 : Fin 1) g e)) :=
    funext fun e => normed_0 x0 x1 x2 x3 q s g h e
  rw [← hy]
  unfold val_main_v62
  rcases Nat.lt_or_ge d.val 64 with hd | hd
  · refine (concatenate_pair_apply_left (t := S4x4096x3x8x128) (s₁ := S4x4096x3x8x64) (s₂ := S4x4096x3x8x64) (4 : Fin 5) _ _ _ (ix5 q s g h d) rfl
      (ix5 q s g h (⟨d.val, hd⟩ : Fin 64)) (fun b => match b with
        | ⟨0, _⟩ => rfl
        | ⟨1, _⟩ => rfl
        | ⟨2, _⟩ => rfl
        | ⟨3, _⟩ => rfl
        | ⟨4, _⟩ => rfl)).trans ?_
    exact first_0 x0 x1 x2 x3 q s g h ⟨d.val, hd⟩
  · have hd' := d.isLt
    refine (concatenate_pair_apply_right (t := S4x4096x3x8x128) (s₁ := S4x4096x3x8x64) (s₂ := S4x4096x3x8x64) (4 : Fin 5) _ _ _ (ix5 q s g h d) rfl rfl
      (ix5 q s g h (⟨d.val - 64, by omega⟩ : Fin 64)) (fun b hb => match b, hb with
        | ⟨0, _⟩, _ => rfl
        | ⟨1, _⟩, _ => rfl
        | ⟨2, _⟩, _ => rfl
        | ⟨3, _⟩, _ => rfl
        | ⟨4, _⟩, hb => absurd rfl hb) (by show d.val - 64 + 64 = d.val; omega)).trans ?_
    refine (second_0 x0 x1 x2 x3 q s g h ⟨d.val - 64, by omega⟩).trans ?_
    exact congrArg _ (Fin.ext (by show 64 + (d.val - 64) = d.val; omega))

/-- The keys after their norm. -/
theorem normed_1 (q : Fin 4) (s : Fin 4096) (g : Fin 3) (h : Fin 8) (d : Fin 128) : val_main_v77 (F := Ideal) x0 x1 x2 x4 (ix5 q s g h d)
    = Cert.Nat.normed (fun e => Cert.Nat.lin x0 x1 x2 (Cert.Nat.token q s) (at3 1 g h e)) (fun e => x4 (ix3 (0 : Fin 1) g e)) d := by
  have hg := g.isLt
  have hd := d.isLt
  have eg : idx_main_v63 (idx_main_v64 (idx_main_v75 (idx_main_v76 (ix5 q s g h d)))) = ix3 (0 : Fin 1) g d := funext fun a => Fin.ext (by
    match a with
    | ⟨0, _⟩ => rfl
    | ⟨1, _⟩ => show (g.val * 128 + d.val) / 128 % 3 = g.val; omega
    | ⟨2, _⟩ => show (g.val * 128 + d.val) % 128 = d.val; omega)
  have es : ∀ e : Fin 128, idx_main_v66 (idx_main_v67 (idx_main_v73 (ix5 q s g h d))) e = ix5 q s g h e := fun e => funext fun a => match a with
    | ⟨0, _⟩ => rfl
    | ⟨1, _⟩ => rfl
    | ⟨2, _⟩ => rfl
    | ⟨3, _⟩ => rfl
    | ⟨4, _⟩ => rfl
  rw [val_main_v77_apply, val_main_v76_apply, val_main_v75_apply, val_main_v64_apply, val_main_v63_apply, eg, val_main_v74_apply, val_main_v73_apply, val_main_v72_apply, val_main_v71_apply, val_main_v70_apply, val_main_cst_6_apply,
    val_main_v69_apply, val_main_v68_apply, val_main_cst_5_apply, val_main_v67_apply, val_main_v66_apply, val_main_cst_4_apply]
  simp only [val_main_v65_apply, es, raw_1]
  refine congrArg (fun u => Cert.Nat.lin x0 x1 x2 (Cert.Nat.token q s) (at3 1 g h d)
    * Ideal.rsqrt (Ideal.div u (Ideal.ofBits .f32 0x43000000#32) + Ideal.ofBits .f32 0x358637BD#32) * x4 (ix3 (0 : Fin 1) g d)) ?_
  refine (congrArg (· + _) ?_).trans (zero_add _)
  exact Ideal.ofBits_zero_f32

/-- The angles of the keys. -/
theorem cos_1 (s : Fin 4096) (j : Fin 64) : val_main_v90 (F := Ideal) (ix2 s j) = Ideal.cos (Cert.Rotate.angle s j) := rfl
theorem sin_1 (s : Fin 4096) (j : Fin 64) : val_main_v92 (F := Ideal) (ix2 s j) = Ideal.sin (Cert.Rotate.angle s j) := rfl

theorem half_1 (q : Fin 4) (s : Fin 4096) (g : Fin 3) (h : Fin 8) (j : Fin 64) :
    (val_main_v94 (F := Ideal) x0 x1 x2 x4 (ix5 q s g h j) = val_main_v77 (F := Ideal) x0 x1 x2 x4 (ix5 q s g h (⟨j.val, by omega⟩ : Fin 128)))
    ∧ (val_main_v95 (F := Ideal) x0 x1 x2 x4 (ix5 q s g h j) = val_main_v77 (F := Ideal) x0 x1 x2 x4 (ix5 q s g h (⟨64 + j.val, by omega⟩ : Fin 128))) := by
  have e0 : idx_main_v94 (ix5 q s g h j) = ix5 q s g h (⟨j.val, by omega⟩ : Fin 128) := funext fun a => match a with
    | ⟨0, _⟩ => rfl
    | ⟨1, _⟩ => rfl
    | ⟨2, _⟩ => rfl
    | ⟨3, _⟩ => rfl
    | ⟨4, _⟩ => rfl
  have e1 : idx_main_v95 (ix5 q s g h j) = ix5 q s g h (⟨64 + j.val, by omega⟩ : Fin 128) := funext fun a => match a with
    | ⟨0, _⟩ => rfl
    | ⟨1, _⟩ => rfl
    | ⟨2, _⟩ => rfl
    | ⟨3, _⟩ => rfl
    | ⟨4, _⟩ => rfl
  exact ⟨by rw [val_main_v94_apply, e0], by rw [val_main_v95_apply, e1]⟩

/-- The first half of a head of the keys, turned, -/
theorem first_1 (q : Fin 4) (s : Fin 4096) (g : Fin 3) (h : Fin 8) (j : Fin 64) :
    val_main_v102 (F := Ideal) x0 x1 x2 x4 (ix5 q s g h j)
      = Cert.Rotate.rotated (fun e => val_main_v77 (F := Ideal) x0 x1 x2 x4 (ix5 q s g h e)) s (⟨j.val, by omega⟩ : Fin 128) := by
  have hs := s.isLt
  have hj := j.isLt
  have ec : idx_main_v91 (idx_main_v96 (idx_main_v97 (ix5 q s g h j))) = ix2 s j := funext fun a => Fin.ext (by
    match a with
    | ⟨0, _⟩ => show (((s.val * 1 + 0) * 1 + 0) * 64 + j.val) / 64 = s.val; omega
    | ⟨1, _⟩ => show (((s.val * 1 + 0) * 1 + 0) * 64 + j.val) % 64 = j.val; omega)
  have en : idx_main_v93 (idx_main_v99 (idx_main_v100 (ix5 q s g h j))) = ix2 s j := funext fun a => Fin.ext (by
    match a with
    | ⟨0, _⟩ => show (((s.val * 1 + 0) * 1 + 0) * 64 + j.val) / 64 = s.val; omega
    | ⟨1, _⟩ => show (((s.val * 1 + 0) * 1 + 0) * 64 + j.val) % 64 = j.val; omega)
  rw [val_main_v102_apply, val_main_v98_apply, val_main_v101_apply, val_main_v97_apply, val_main_v96_apply, val_main_v91_apply, ec, val_main_v100_apply, val_main_v99_apply, val_main_v93_apply, en, cos_1, sin_1,
    (half_1 x0 x1 x2 x4 q s g h j).1, (half_1 x0 x1 x2 x4 q s g h j).2]
  exact Cert.Rotate.rotated_first (fun e => val_main_v77 (F := Ideal) x0 x1 x2 x4 (ix5 q s g h e)) s j

/-- and the second. -/
theorem second_1 (q : Fin 4) (s : Fin 4096) (g : Fin 3) (h : Fin 8) (j : Fin 64) :
    val_main_v109 (F := Ideal) x0 x1 x2 x4 (ix5 q s g h j)
      = Cert.Rotate.rotated (fun e => val_main_v77 (F := Ideal) x0 x1 x2 x4 (ix5 q s g h e)) s (⟨64 + j.val, by omega⟩ : Fin 128) := by
  have hs := s.isLt
  have hj := j.isLt
  have ec : idx_main_v91 (idx_main_v103 (idx_main_v104 (ix5 q s g h j))) = ix2 s j := funext fun a => Fin.ext (by
    match a with
    | ⟨0, _⟩ => show (((s.val * 1 + 0) * 1 + 0) * 64 + j.val) / 64 = s.val; omega
    | ⟨1, _⟩ => show (((s.val * 1 + 0) * 1 + 0) * 64 + j.val) % 64 = j.val; omega)
  have en : idx_main_v93 (idx_main_v106 (idx_main_v107 (ix5 q s g h j))) = ix2 s j := funext fun a => Fin.ext (by
    match a with
    | ⟨0, _⟩ => show (((s.val * 1 + 0) * 1 + 0) * 64 + j.val) / 64 = s.val; omega
    | ⟨1, _⟩ => show (((s.val * 1 + 0) * 1 + 0) * 64 + j.val) % 64 = j.val; omega)
  rw [val_main_v109_apply, val_main_v105_apply, val_main_v108_apply, val_main_v104_apply, val_main_v103_apply, val_main_v91_apply, ec, val_main_v107_apply, val_main_v106_apply, val_main_v93_apply, en, cos_1, sin_1,
    (half_1 x0 x1 x2 x4 q s g h j).1, (half_1 x0 x1 x2 x4 q s g h j).2]
  exact Cert.Rotate.rotated_second (fun e => val_main_v77 (F := Ideal) x0 x1 x2 x4 (ix5 q s g h e)) s j

/-- The keys normalised and turned. -/
theorem turned_1 (q : Fin 4) (s : Fin 4096) (g : Fin 3) (h : Fin 8) (d : Fin 128) :
    val_main_v110 (F := Ideal) x0 x1 x2 x4 (ix5 q s g h d)
      = Cert.Rotate.rotated (Cert.Nat.normed (fun e => Cert.Nat.lin x0 x1 x2 (Cert.Nat.token q s) (at3 1 g h e)) (fun e => x4 (ix3 (0 : Fin 1) g e))) s d := by
  have hy : (fun e => val_main_v77 (F := Ideal) x0 x1 x2 x4 (ix5 q s g h e))
      = Cert.Nat.normed (fun e => Cert.Nat.lin x0 x1 x2 (Cert.Nat.token q s) (at3 1 g h e)) (fun e => x4 (ix3 (0 : Fin 1) g e)) :=
    funext fun e => normed_1 x0 x1 x2 x4 q s g h e
  rw [← hy]
  unfold val_main_v110
  rcases Nat.lt_or_ge d.val 64 with hd | hd
  · refine (concatenate_pair_apply_left (t := S4x4096x3x8x128) (s₁ := S4x4096x3x8x64) (s₂ := S4x4096x3x8x64) (4 : Fin 5) _ _ _ (ix5 q s g h d) rfl
      (ix5 q s g h (⟨d.val, hd⟩ : Fin 64)) (fun b => match b with
        | ⟨0, _⟩ => rfl
        | ⟨1, _⟩ => rfl
        | ⟨2, _⟩ => rfl
        | ⟨3, _⟩ => rfl
        | ⟨4, _⟩ => rfl)).trans ?_
    exact first_1 x0 x1 x2 x4 q s g h ⟨d.val, hd⟩
  · have hd' := d.isLt
    refine (concatenate_pair_apply_right (t := S4x4096x3x8x128) (s₁ := S4x4096x3x8x64) (s₂ := S4x4096x3x8x64) (4 : Fin 5) _ _ _ (ix5 q s g h d) rfl rfl
      (ix5 q s g h (⟨d.val - 64, by omega⟩ : Fin 64)) (fun b hb => match b, hb with
        | ⟨0, _⟩, _ => rfl
        | ⟨1, _⟩, _ => rfl
        | ⟨2, _⟩, _ => rfl
        | ⟨3, _⟩, _ => rfl
        | ⟨4, _⟩, hb => absurd rfl hb) (by show d.val - 64 + 64 = d.val; omega)).trans ?_
    refine (second_1 x0 x1 x2 x4 q s g h ⟨d.val - 64, by omega⟩).trans ?_
    exact congrArg _ (Fin.ext (by show 64 + (d.val - 64) = d.val; omega))

theorem cut_112 (q : Fin 4) (s : Fin 4096) (h : Fin 8) (d : Fin 128) :
    val_main_v112 (F := Ideal) x0 x1 x2 x3 (ix4 q s h d) = val_main_v62 (F := Ideal) x0 x1 x2 x3 (ix5 q s (1 : Fin 3) h d) := by
  have hq := q.isLt
  have hs := s.isLt
  have hh := h.isLt
  have hd := d.isLt
  have e : idx_main_v111 (idx_main_v112 (ix4 q s h d)) = ix5 q s (1 : Fin 3) h d := funext fun a => Fin.ext (by
    match a with
    | ⟨0, _⟩ => show (((q.val * 4096 + s.val) * 8 + h.val) * 128 + d.val) / 4194304 = q.val; omega
    | ⟨1, _⟩ => show (((q.val * 4096 + s.val) * 8 + h.val) * 128 + d.val) / 1024 % 4096 = s.val; omega
    | ⟨2, _⟩ => rfl
    | ⟨3, _⟩ => show (((q.val * 4096 + s.val) * 8 + h.val) * 128 + d.val) / 128 % 8 = h.val; omega
    | ⟨4, _⟩ => show (((q.val * 4096 + s.val) * 8 + h.val) * 128 + d.val) % 128 = d.val; omega)
  rw [val_main_v112_apply, val_main_v111_apply, e]

theorem cut_114 (q : Fin 4) (s : Fin 4096) (h : Fin 8) (d : Fin 128) :
    val_main_v114 (F := Ideal) x0 x1 x2 x4 (ix4 q s h d) = val_main_v110 (F := Ideal) x0 x1 x2 x4 (ix5 q s (1 : Fin 3) h d) := by
  have hq := q.isLt
  have hs := s.isLt
  have hh := h.isLt
  have hd := d.isLt
  have e : idx_main_v113 (idx_main_v114 (ix4 q s h d)) = ix5 q s (1 : Fin 3) h d := funext fun a => Fin.ext (by
    match a with
    | ⟨0, _⟩ => show (((q.val * 4096 + s.val) * 8 + h.val) * 128 + d.val) / 4194304 = q.val; omega
    | ⟨1, _⟩ => show (((q.val * 4096 + s.val) * 8 + h.val) * 128 + d.val) / 1024 % 4096 = s.val; omega
    | ⟨2, _⟩ => rfl
    | ⟨3, _⟩ => show (((q.val * 4096 + s.val) * 8 + h.val) * 128 + d.val) / 128 % 8 = h.val; omega
    | ⟨4, _⟩ => show (((q.val * 4096 + s.val) * 8 + h.val) * 128 + d.val) % 128 = d.val; omega)
  rw [val_main_v114_apply, val_main_v113_apply, e]

theorem cut_116 (q : Fin 4) (s : Fin 4096) (h : Fin 8) (d : Fin 128) :
    val_main_v116 (F := Ideal) x0 x1 x2 (ix4 q s h d) = val_main_v14 (F := Ideal) x0 x1 x2 (ix5 q s (1 : Fin 3) h d) := by
  have hq := q.isLt
  have hs := s.isLt
  have hh := h.isLt
  have hd := d.isLt
  have e : idx_main_v115 (idx_main_v116 (ix4 q s h d)) = ix5 q s (1 : Fin 3) h d := funext fun a => Fin.ext (by
    match a with
    | ⟨0, _⟩ => show (((q.val * 4096 + s.val) * 8 + h.val) * 128 + d.val) / 4194304 = q.val; omega
    | ⟨1, _⟩ => show (((q.val * 4096 + s.val) * 8 + h.val) * 128 + d.val) / 1024 % 4096 = s.val; omega
    | ⟨2, _⟩ => rfl
    | ⟨3, _⟩ => show (((q.val * 4096 + s.val) * 8 + h.val) * 128 + d.val) / 128 % 8 = h.val; omega
    | ⟨4, _⟩ => show (((q.val * 4096 + s.val) * 8 + h.val) * 128 + d.val) % 128 = d.val; omega)
  rw [val_main_v116_apply, val_main_v115_apply, e]

theorem cut_122 (q : Fin 4) (s : Fin 4096) (h : Fin 8) (d : Fin 128) :
    val_main_v122 (F := Ideal) x0 x1 x2 x3 (ix4 q s h d) = val_main_v62 (F := Ideal) x0 x1 x2 x3 (ix5 q s (2 : Fin 3) h d) := by
  have hq := q.isLt
  have hs := s.isLt
  have hh := h.isLt
  have hd := d.isLt
  have e : idx_main_v121 (idx_main_v122 (ix4 q s h d)) = ix5 q s (2 : Fin 3) h d := funext fun a => Fin.ext (by
    match a with
    | ⟨0, _⟩ => show (((q.val * 4096 + s.val) * 8 + h.val) * 128 + d.val) / 4194304 = q.val; omega
    | ⟨1, _⟩ => show (((q.val * 4096 + s.val) * 8 + h.val) * 128 + d.val) / 1024 % 4096 = s.val; omega
    | ⟨2, _⟩ => rfl
    | ⟨3, _⟩ => show (((q.val * 4096 + s.val) * 8 + h.val) * 128 + d.val) / 128 % 8 = h.val; omega
    | ⟨4, _⟩ => show (((q.val * 4096 + s.val) * 8 + h.val) * 128 + d.val) % 128 = d.val; omega)
  rw [val_main_v122_apply, val_main_v121_apply, e]

theorem cut_124 (q : Fin 4) (s : Fin 4096) (h : Fin 8) (d : Fin 128) :
    val_main_v124 (F := Ideal) x0 x1 x2 x4 (ix4 q s h d) = val_main_v110 (F := Ideal) x0 x1 x2 x4 (ix5 q s (2 : Fin 3) h d) := by
  have hq := q.isLt
  have hs := s.isLt
  have hh := h.isLt
  have hd := d.isLt
  have e : idx_main_v123 (idx_main_v124 (ix4 q s h d)) = ix5 q s (2 : Fin 3) h d := funext fun a => Fin.ext (by
    match a with
    | ⟨0, _⟩ => show (((q.val * 4096 + s.val) * 8 + h.val) * 128 + d.val) / 4194304 = q.val; omega
    | ⟨1, _⟩ => show (((q.val * 4096 + s.val) * 8 + h.val) * 128 + d.val) / 1024 % 4096 = s.val; omega
    | ⟨2, _⟩ => rfl
    | ⟨3, _⟩ => show (((q.val * 4096 + s.val) * 8 + h.val) * 128 + d.val) / 128 % 8 = h.val; omega
    | ⟨4, _⟩ => show (((q.val * 4096 + s.val) * 8 + h.val) * 128 + d.val) % 128 = d.val; omega)
  rw [val_main_v124_apply, val_main_v123_apply, e]

theorem cut_126 (q : Fin 4) (s : Fin 4096) (h : Fin 8) (d : Fin 128) :
    val_main_v126 (F := Ideal) x0 x1 x2 (ix4 q s h d) = val_main_v14 (F := Ideal) x0 x1 x2 (ix5 q s (2 : Fin 3) h d) := by
  have hq := q.isLt
  have hs := s.isLt
  have hh := h.isLt
  have hd := d.isLt
  have e : idx_main_v125 (idx_main_v126 (ix4 q s h d)) = ix5 q s (2 : Fin 3) h d := funext fun a => Fin.ext (by
    match a with
    | ⟨0, _⟩ => show (((q.val * 4096 + s.val) * 8 + h.val) * 128 + d.val) / 4194304 = q.val; omega
    | ⟨1, _⟩ => show (((q.val * 4096 + s.val) * 8 + h.val) * 128 + d.val) / 1024 % 4096 = s.val; omega
    | ⟨2, _⟩ => rfl
    | ⟨3, _⟩ => show (((q.val * 4096 + s.val) * 8 + h.val) * 128 + d.val) / 128 % 8 = h.val; omega
    | ⟨4, _⟩ => show (((q.val * 4096 + s.val) * 8 + h.val) * 128 + d.val) % 128 = d.val; omega)
  rw [val_main_v126_apply, val_main_v125_apply, e]

/-- The heads of stride 4 joined. -/
theorem joined_4 (q : Fin 4) (s : Fin 4096) (n : Fin 48) (k : Fin 24) (hn : n.val = 0 + k.val) (d : Fin 128) :
    val_main_v117 (F := Ideal) x0 x1 x2 x3 x4 (ix4 q s k d) = Cert.Dil.entry x0 x1 x2 x3 x4 q n s d := by
  have hk := k.isLt
  have hgr : Cert.Dil.group n = (1 : Fin 3) := Fin.ext (by show n.val / 24 + 1 = 1; omega)
  have hcol : ∀ (part : Fin 3) (h : Fin 8) (e : Fin 128), k.val = 8 * part.val + h.val → at3 part (1 : Fin 3) h e = Cert.Dil.col n e := fun part h e hp =>
    Fin.ext (by
      have hh := h.isLt
      have hpt := part.isLt
      show 3072 * part.val + 1024 * 1 + 128 * h.val + e.val = 3072 * (n.val % 24 / 8) + 1024 * (n.val / 24 + 1) + 128 * (n.val % 8) + e.val
      omega)
  unfold Cert.Dil.entry Cert.Dil.finish
  rw [hgr]
  unfold val_main_v117
  rcases Nat.lt_or_ge k.val 8 with g0 | g0
  · obtain ⟨h, hh⟩ : ∃ h : Fin 8, k.val = 8 * 0 + h.val := ⟨⟨k.val - 0, by omega⟩, by show k.val = 8 * 0 + (k.val - 0); omega⟩
    have hh' := h.isLt
    refine (concatenate_apply_piece (t := S4x4096x24x128) (2 : Fin 4) _ _ (ix4 q s k d) 0 ?_ S4x4096x8x128 (val_main_v112 (F := Ideal) x0 x1 x2 x3) ?_ rfl 0 ?_ (ix4 q s h d) (fun b hb => match b, hb with
      | ⟨0, _⟩, _ => rfl
      | ⟨1, _⟩, _ => rfl
      | ⟨2, _⟩, hb => absurd rfl hb
      | ⟨3, _⟩, _ => rfl) (by show 0 + h.val = k.val; omega)).trans ?_
    · exact (by decide : 0 < 3)
    · rfl
    · exact (by decide +kernel : (([] : List Shape).map fun s => if h : s.rank = S4x4096x24x128.rank then s.size ((2 : Fin S4x4096x24x128.rank).cast h.symm) else 0).sum = 0)
    · rw [cut_112, turned_0, if_pos (by omega)]
      simp only [hcol 0 h _ hh]
  rcases Nat.lt_or_ge k.val 16 with g1 | g1
  · obtain ⟨h, hh⟩ : ∃ h : Fin 8, k.val = 8 * 1 + h.val := ⟨⟨k.val - 8, by omega⟩, by show k.val = 8 * 1 + (k.val - 8); omega⟩
    have hh' := h.isLt
    refine (concatenate_apply_piece (t := S4x4096x24x128) (2 : Fin 4) _ _ (ix4 q s k d) 1 ?_ S4x4096x8x128 (val_main_v114 (F := Ideal) x0 x1 x2 x4) ?_ rfl 8 ?_ (ix4 q s h d) (fun b hb => match b, hb with
      | ⟨0, _⟩, _ => rfl
      | ⟨1, _⟩, _ => rfl
      | ⟨2, _⟩, hb => absurd rfl hb
      | ⟨3, _⟩, _ => rfl) (by show 8 + h.val = k.val; omega)).trans ?_
    · exact (by decide : 1 < 3)
    · rfl
    · exact (by decide +kernel : (([S4x4096x8x128] : List Shape).map fun s => if h : s.rank = S4x4096x24x128.rank then s.size ((2 : Fin S4x4096x24x128.rank).cast h.symm) else 0).sum = 8)
    · rw [cut_114, turned_1, if_neg (by omega), if_pos (by omega)]
      simp only [hcol 1 h _ hh]
  obtain ⟨h, hh⟩ : ∃ h : Fin 8, k.val = 8 * 2 + h.val := ⟨⟨k.val - 16, by omega⟩, by show k.val = 8 * 2 + (k.val - 16); omega⟩
  have hh' := h.isLt
  refine (concatenate_apply_piece (t := S4x4096x24x128) (2 : Fin 4) _ _ (ix4 q s k d) 2 ?_ S4x4096x8x128 (val_main_v116 (F := Ideal) x0 x1 x2) ?_ rfl 16 ?_ (ix4 q s h d) (fun b hb => match b, hb with
    | ⟨0, _⟩, _ => rfl
    | ⟨1, _⟩, _ => rfl
    | ⟨2, _⟩, hb => absurd rfl hb
    | ⟨3, _⟩, _ => rfl) (by show 16 + h.val = k.val; omega)).trans ?_
  · exact (by decide : 2 < 3)
  · rfl
  · exact (by decide +kernel : (([S4x4096x8x128, S4x4096x8x128] : List Shape).map fun s => if h : s.rank = S4x4096x24x128.rank then s.size ((2 : Fin S4x4096x24x128.rank).cast h.symm) else 0).sum = 16)
  · rw [cut_116, raw_2, if_neg (by omega), if_neg (by omega), hcol 2 h _ hh]

/-- The heads of stride 4, every block's tokens listed stride by stride. -/
theorem listed_4 (q : Fin 4) (k : Fin 24) (p : Fin 4096) (d : Fin 128) :
    val_main_v120 (F := Ideal) x0 x1 x2 x3 x4 (ix4 q k p d) = val_main_v117 (F := Ideal) x0 x1 x2 x3 x4 (ix4 q (Cert.Dil.place4 p) k d) := by
  have hp := p.isLt
  have e : idx_main_v119 (ix6 q k (⟨p.val / 1024, by omega⟩ : Fin 4) (⟨p.val % 1024 / 256, by omega⟩ : Fin 4) (⟨p.val % 256, by omega⟩ : Fin 256) d)
      = ix6 q (⟨p.val / 1024, by omega⟩ : Fin 4) (⟨p.val % 256, by omega⟩ : Fin 256) (⟨p.val % 1024 / 256, by omega⟩ : Fin 4) k d := funext fun a => match a with
    | ⟨0, _⟩ => rfl
    | ⟨1, _⟩ => rfl
    | ⟨2, _⟩ => rfl
    | ⟨3, _⟩ => rfl
    | ⟨4, _⟩ => rfl
    | ⟨5, _⟩ => rfl
  unfold val_main_v120
  refine (shapeCast_apply _ _ (ix4 q k p d) (ix6 q k (⟨p.val / 1024, by omega⟩ : Fin 4) (⟨p.val % 1024 / 256, by omega⟩ : Fin 4) (⟨p.val % 256, by omega⟩ : Fin 256) d) (by
    rewrite [Shape.rowMajor_val_six, Shape.rowMajor_val_four]
    show ((((q.val * 24 + k.val) * 4 + p.val / 1024) * 4 + p.val % 1024 / 256) * 256 + p.val % 256) * 128 + d.val = ((q.val * 24 + k.val) * 4096 + p.val) * 128 + d.val
    omega)).trans ?_
  rw [val_main_v119_apply, e]
  unfold val_main_v118
  exact shapeCast_apply _ _ _ (ix4 q (Cert.Dil.place4 p) k d) (by
    rewrite [Shape.rowMajor_val_four, Shape.rowMajor_val_six]
    show ((q.val * 4096 + (1024 * (p.val / 1024) + (4 * (p.val % 256) + p.val % 1024 / 256))) * 24 + k.val) * 128 + d.val
      = ((((q.val * 4 + p.val / 1024) * 256 + p.val % 256) * 4 + p.val % 1024 / 256) * 24 + k.val) * 128 + d.val
    omega)

/-- The heads of stride 16 joined. -/
theorem joined_16 (q : Fin 4) (s : Fin 4096) (n : Fin 48) (k : Fin 24) (hn : n.val = 24 + k.val) (d : Fin 128) :
    val_main_v127 (F := Ideal) x0 x1 x2 x3 x4 (ix4 q s k d) = Cert.Dil.entry x0 x1 x2 x3 x4 q n s d := by
  have hk := k.isLt
  have hgr : Cert.Dil.group n = (2 : Fin 3) := Fin.ext (by show n.val / 24 + 1 = 2; omega)
  have hcol : ∀ (part : Fin 3) (h : Fin 8) (e : Fin 128), k.val = 8 * part.val + h.val → at3 part (2 : Fin 3) h e = Cert.Dil.col n e := fun part h e hp =>
    Fin.ext (by
      have hh := h.isLt
      have hpt := part.isLt
      show 3072 * part.val + 1024 * 2 + 128 * h.val + e.val = 3072 * (n.val % 24 / 8) + 1024 * (n.val / 24 + 1) + 128 * (n.val % 8) + e.val
      omega)
  unfold Cert.Dil.entry Cert.Dil.finish
  rw [hgr]
  unfold val_main_v127
  rcases Nat.lt_or_ge k.val 8 with g0 | g0
  · obtain ⟨h, hh⟩ : ∃ h : Fin 8, k.val = 8 * 0 + h.val := ⟨⟨k.val - 0, by omega⟩, by show k.val = 8 * 0 + (k.val - 0); omega⟩
    have hh' := h.isLt
    refine (concatenate_apply_piece (t := S4x4096x24x128) (2 : Fin 4) _ _ (ix4 q s k d) 0 ?_ S4x4096x8x128 (val_main_v122 (F := Ideal) x0 x1 x2 x3) ?_ rfl 0 ?_ (ix4 q s h d) (fun b hb => match b, hb with
      | ⟨0, _⟩, _ => rfl
      | ⟨1, _⟩, _ => rfl
      | ⟨2, _⟩, hb => absurd rfl hb
      | ⟨3, _⟩, _ => rfl) (by show 0 + h.val = k.val; omega)).trans ?_
    · exact (by decide : 0 < 3)
    · rfl
    · exact (by decide +kernel : (([] : List Shape).map fun s => if h : s.rank = S4x4096x24x128.rank then s.size ((2 : Fin S4x4096x24x128.rank).cast h.symm) else 0).sum = 0)
    · rw [cut_122, turned_0, if_pos (by omega)]
      simp only [hcol 0 h _ hh]
  rcases Nat.lt_or_ge k.val 16 with g1 | g1
  · obtain ⟨h, hh⟩ : ∃ h : Fin 8, k.val = 8 * 1 + h.val := ⟨⟨k.val - 8, by omega⟩, by show k.val = 8 * 1 + (k.val - 8); omega⟩
    have hh' := h.isLt
    refine (concatenate_apply_piece (t := S4x4096x24x128) (2 : Fin 4) _ _ (ix4 q s k d) 1 ?_ S4x4096x8x128 (val_main_v124 (F := Ideal) x0 x1 x2 x4) ?_ rfl 8 ?_ (ix4 q s h d) (fun b hb => match b, hb with
      | ⟨0, _⟩, _ => rfl
      | ⟨1, _⟩, _ => rfl
      | ⟨2, _⟩, hb => absurd rfl hb
      | ⟨3, _⟩, _ => rfl) (by show 8 + h.val = k.val; omega)).trans ?_
    · exact (by decide : 1 < 3)
    · rfl
    · exact (by decide +kernel : (([S4x4096x8x128] : List Shape).map fun s => if h : s.rank = S4x4096x24x128.rank then s.size ((2 : Fin S4x4096x24x128.rank).cast h.symm) else 0).sum = 8)
    · rw [cut_124, turned_1, if_neg (by omega), if_pos (by omega)]
      simp only [hcol 1 h _ hh]
  obtain ⟨h, hh⟩ : ∃ h : Fin 8, k.val = 8 * 2 + h.val := ⟨⟨k.val - 16, by omega⟩, by show k.val = 8 * 2 + (k.val - 16); omega⟩
  have hh' := h.isLt
  refine (concatenate_apply_piece (t := S4x4096x24x128) (2 : Fin 4) _ _ (ix4 q s k d) 2 ?_ S4x4096x8x128 (val_main_v126 (F := Ideal) x0 x1 x2) ?_ rfl 16 ?_ (ix4 q s h d) (fun b hb => match b, hb with
    | ⟨0, _⟩, _ => rfl
    | ⟨1, _⟩, _ => rfl
    | ⟨2, _⟩, hb => absurd rfl hb
    | ⟨3, _⟩, _ => rfl) (by show 16 + h.val = k.val; omega)).trans ?_
  · exact (by decide : 2 < 3)
  · rfl
  · exact (by decide +kernel : (([S4x4096x8x128, S4x4096x8x128] : List Shape).map fun s => if h : s.rank = S4x4096x24x128.rank then s.size ((2 : Fin S4x4096x24x128.rank).cast h.symm) else 0).sum = 16)
  · rw [cut_126, raw_2, if_neg (by omega), if_neg (by omega), hcol 2 h _ hh]

/-- The heads of stride 16, every block's tokens listed stride by stride. -/
theorem listed_16 (q : Fin 4) (k : Fin 24) (p : Fin 4096) (d : Fin 128) :
    val_main_v130 (F := Ideal) x0 x1 x2 x3 x4 (ix4 q k p d) = val_main_v127 (F := Ideal) x0 x1 x2 x3 x4 (ix4 q (Cert.Dil.place16 p) k d) := by
  have hp := p.isLt
  have e : idx_main_v129 (ix6 q k (⟨p.val / 1024, by omega⟩ : Fin 4) (⟨p.val % 1024 / 64, by omega⟩ : Fin 16) (⟨p.val % 64, by omega⟩ : Fin 64) d)
      = ix6 q (⟨p.val / 1024, by omega⟩ : Fin 4) (⟨p.val % 64, by omega⟩ : Fin 64) (⟨p.val % 1024 / 64, by omega⟩ : Fin 16) k d := funext fun a => match a with
    | ⟨0, _⟩ => rfl
    | ⟨1, _⟩ => rfl
    | ⟨2, _⟩ => rfl
    | ⟨3, _⟩ => rfl
    | ⟨4, _⟩ => rfl
    | ⟨5, _⟩ => rfl
  unfold val_main_v130
  refine (shapeCast_apply _ _ (ix4 q k p d) (ix6 q k (⟨p.val / 1024, by omega⟩ : Fin 4) (⟨p.val % 1024 / 64, by omega⟩ : Fin 16) (⟨p.val % 64, by omega⟩ : Fin 64) d) (by
    rewrite [Shape.rowMajor_val_six, Shape.rowMajor_val_four]
    show ((((q.val * 24 + k.val) * 4 + p.val / 1024) * 16 + p.val % 1024 / 64) * 64 + p.val % 64) * 128 + d.val = ((q.val * 24 + k.val) * 4096 + p.val) * 128 + d.val
    omega)).trans ?_
  rw [val_main_v129_apply, e]
  unfold val_main_v128
  exact shapeCast_apply _ _ _ (ix4 q (Cert.Dil.place16 p) k d) (by
    rewrite [Shape.rowMajor_val_four, Shape.rowMajor_val_six]
    show ((q.val * 4096 + (1024 * (p.val / 1024) + (16 * (p.val % 64) + p.val % 1024 / 64))) * 24 + k.val) * 128 + d.val
      = ((((q.val * 4 + p.val / 1024) * 64 + p.val % 64) * 16 + p.val % 1024 / 64) * 24 + k.val) * 128 + d.val
    omega)

/-- The reference's result is the heads of its arguments. -/
theorem result_eq : val_main_v132 (F := Ideal) x0 x1 x2 x3 x4 = Cert.Dil.heads x0 x1 x2 x3 x4 := by
  funext i
  obtain ⟨q, n, p, d, rfl⟩ : ∃ (q : Fin 4) (n : Fin 48) (p : Fin 4096) (d : Fin 128), i = ix4 q n p d :=
    ⟨i 0, i 1, i 2, i 3, funext fun a => match a with
      | ⟨0, _⟩ => rfl
      | ⟨1, _⟩ => rfl
      | ⟨2, _⟩ => rfl
      | ⟨3, _⟩ => rfl⟩
  rw [val_main_v132_apply]
  show val_main_v131 (F := Ideal) x0 x1 x2 x3 x4 (ix4 q n p d) = Cert.Dil.entry x0 x1 x2 x3 x4 q n (Cert.Dil.place n p) d
  unfold val_main_v131
  have hn := n.isLt
  rcases Nat.lt_or_ge n.val 24 with h | h
  · have hpl : Cert.Dil.place n p = Cert.Dil.place4 p := if_pos h
    rw [hpl]
    refine (concatenate_pair_apply_left (t := S4x48x4096x128) (s₁ := S4x24x4096x128) (s₂ := S4x24x4096x128) (1 : Fin 4) _ _ _ (ix4 q n p d) rfl
      (ix4 q (⟨n.val, h⟩ : Fin 24) p d) (fun b => match b with
        | ⟨0, _⟩ => rfl
        | ⟨1, _⟩ => rfl
        | ⟨2, _⟩ => rfl
        | ⟨3, _⟩ => rfl)).trans ?_
    exact (listed_4 x0 x1 x2 x3 x4 q _ p d).trans (joined_4 x0 x1 x2 x3 x4 q _ n _ (Nat.zero_add _).symm d)
  · have hpl : Cert.Dil.place n p = Cert.Dil.place16 p := if_neg (by omega)
    rw [hpl]
    refine (concatenate_pair_apply_right (t := S4x48x4096x128) (s₁ := S4x24x4096x128) (s₂ := S4x24x4096x128) (1 : Fin 4) _ _ _ (ix4 q n p d) rfl rfl
      (ix4 q (⟨n.val - 24, by omega⟩ : Fin 24) p d) (fun b hb => match b, hb with
        | ⟨0, _⟩, _ => rfl
        | ⟨1, _⟩, hb => absurd rfl hb
        | ⟨2, _⟩, _ => rfl
        | ⟨3, _⟩, _ => rfl) (by show n.val - 24 + 24 = n.val; omega)).trans ?_
    exact (listed_16 x0 x1 x2 x3 x4 q _ p d).trans (joined_16 x0 x1 x2 x3 x4 q _ n _ (by show n.val = 24 + (n.val - 24); omega) d)

/-- Every run of the reference ends with the heads of its arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v132)
        = Cert.Dil.heads (m ((c : Thread nD τ).loc main_arg0)) (m ((c : Thread nD τ).loc main_arg1)) (m ((c : Thread nD τ).loc main_arg2))
          (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono
    (fun _ h c => ⟨(h c).1.trans ((val_main_v132_eq m c).trans (result_eq _ _ _ _ _)), (h c).2⟩)
    (Cert.DilReferenceIdeal.Value.run (F := Ideal) m ρ)

end Cert.DilReferenceIdeal.Hand

end
-- ==== Proof.Dil.lean ====
/-
  The dilated head projections' claims: the three frames, and that the two ideal runs end with equal results.
-/
module

public import proofs.«01_k».proof.Defs
public import proofs.«01_k».proof.Proof.DilBitsFrame
public import proofs.«01_k».proof.Proof.DilArray
public import proofs.«01_k».proof.Proof.DilRef
public import Idealize.ShloMosaic.Lib.Quiescent

@[expose] public section

noncomputable section

namespace Cert.Dil

open Idealize.ShloMosaic Idealize.ShloMosaic.TcCoe Idealize.SL.Sem

/-- Every run of the kernel ends with its arguments unchanged and every semaphore at zero. -/
theorem frame_kernel : Cert.quiescent_DilKernel := fun m ρ _ => Cert.DilKernel.Hand.frame_any (F := Bits) m ρ

/-- The same of the kernel's ideal form. -/
theorem frame_ideal : Cert.quiescent_DilKernelIdeal := fun m ρ _ => Cert.DilKernelIdeal.Hand.frame_any (F := Ideal) m ρ

/-- The same of the reference, which raises no semaphore at all. -/
theorem frame_reference : Cert.quiescent_DilReferenceIdeal := fun m ρ _ =>
  (θ_run Cert.DilReferenceIdeal.defs _ _).mono
    (fun r h => ⟨fun c => (h c).2, sem_eq_zero_of_no_sems (by decide) r.2⟩)
    (Cert.DilReferenceIdeal.Value.run (F := Ideal) m ρ)

/-- From equal arguments the kernel and the reference end with equal results. -/
theorem equal : Cert.algebraic_DilKernelIdeal_DilReferenceIdeal := by
  intro m ρ m' ρ' _ hagree
  refine ⟨fun c => Cert.DilKernelIdeal.Hand.result m c,
    (θ_run Cert.DilKernelIdeal.defs _ _).mono (fun _ h c => ⟨((h.1 c).1).trans (Cert.DilKernelIdeal.Hand.final m c), (h.1 c).2⟩)
      (Cert.DilKernelIdeal.Hand.run_named m ρ), ?_⟩
  refine (θ_run Cert.DilReferenceIdeal.defs _ _).mono (fun _ h c => ⟨(h c).1.trans ?_, (h c).2⟩) (Cert.DilReferenceIdeal.Hand.run m' ρ')
  rw [(hagree c).1, (hagree c).2.1, (hagree c).2.2.1, (hagree c).2.2.2.1, (hagree c).2.2.2.2.1]

end Cert.Dil

end
-- ==== Proof.RopeLaunch.lean ====
/-
  The launch of the rotated head projections: what the host operations leave in the buffers when the region is entered, and
  the prefetched table. The table is written by the first host operation as a constant, so the whole launch is set at that
  one table: which block of the weight each point reads, and that the body runs at every point, are facts about constants.
-/
module

public import proofs.«01_k».proof.Proof.Gen.RopeKernelIdeal.Launch
public import proofs.«01_k».proof.Proof.Gen.RopeKernelIdeal.Skeleton
public import Idealize.ShloMosaic.Lib.Claim

@[expose] public section

set_option maxRecDepth 16384

noncomputable section

namespace Cert.RopeKernelIdeal.Hand

open Cert.RopeKernelIdeal Cert.RopeKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What each buffer of core `c` holds when the region is entered. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

set_option maxHeartbeats 1600000 in
/-- The program is its host operations and then the region. -/
theorem hmain (𝒱₀ : Variants) : Pipeline.HMainP (Ix := Unit) (Name := ℕ) (U := UR sig nD τ) (Lvl := ℕ) pcfgs 0 defs₀ 𝒱₀ m
    (main (F := F)) (V m) :=
  Pipeline.hmainP_prefix pcfgs 0 defs₀ 𝒱₀ m main hostOps0 hostOps0_sub hostOps0_fresh main_chain

/-- A buffer that no host operation writes is as it was launched. -/
theorem V_of_ne (c : Dev nD) (b : Ref sig .tc)
    (h : (hostOps0 (F := F)).Forall fun op => Proc.devRef .tc b ∉ op.writes) :
    V m c b = m ((c : Thread nD τ).loc b) :=
  StableHlo.after_of_forall_not_mem (b := Proc.devRef .tc b) _ _ (List.forall_iff_forall_mem.mp h)

/-- The arguments, none of which a host operation writes. -/
def args : Fin 7 → Ref sig .tc := ![main_arg0, main_arg1, main_arg2, main_arg3, main_arg4, main_arg5, main_arg6]
theorem V_args (c : Dev nD) (k : Fin 7) : V m c (args k) = m ((c : Thread nD τ).loc (args k)) := V_of_ne m c _ (by
  simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by revert k; decide))
theorem V_main_arg0 (c : Dev nD) : V m c main_arg0 = m ((c : Thread nD τ).loc main_arg0) := V_args m c 0
theorem V_main_arg1 (c : Dev nD) : V m c main_arg1 = m ((c : Thread nD τ).loc main_arg1) := V_args m c 1
theorem V_main_arg2 (c : Dev nD) : V m c main_arg2 = m ((c : Thread nD τ).loc main_arg2) := V_args m c 2
theorem V_main_arg3 (c : Dev nD) : V m c main_arg3 = m ((c : Thread nD τ).loc main_arg3) := V_args m c 3
theorem V_main_arg4 (c : Dev nD) : V m c main_arg4 = m ((c : Thread nD τ).loc main_arg4) := V_args m c 4
theorem V_main_arg5 (c : Dev nD) : V m c main_arg5 = m ((c : Thread nD τ).loc main_arg5) := V_args m c 5
theorem V_main_arg6 (c : Dev nD) : V m c main_arg6 = m ((c : Thread nD τ).loc main_arg6) := V_args m c 6

/-- The table, element by element: the first row is the block of the weight, the third the body. -/
def table : pre0.Contents (Elt F) := fun j => match j with
  | ⟨0, _⟩ => fun i => lit0 (S4x2.rowMajor i)

theorem V_table (c : Dev nD) : V m c main_c = (table (F := F) 0) := by
  unfold V
  after_results
  rfl

/-- The block of the weight that each of the two column blocks reads, and the rotation table it takes. -/
def blk : Fin 2 → ℕ := ![0, 3]
def tab : Fin 2 → ℕ := ![0, 0]

/-- The table's word that a scalar load at the offsets `off` reads. -/
abbrev word (off : Fin 2 → ℕ) (h : ∀ a, off a + S1x1.size a ≤ S4x2.size a) : BitVec 32 :=
  lit0 (S4x2.rowMajor ((Rect.unit (s := S4x2) off S1x1.size h).emb (Shape.Idx.first (numel1_S1x1.symm ▸ Nat.one_pos))))

theorem word_1 : ∀ i : grid0.Coords, (word (k0_off1 i) (k0_off1_inb i)).toNat = blk (i 1) := by decide +kernel
theorem word_2 : ∀ i : grid0.Coords, (word (k0_off2 i) (k0_off2_inb i)).toNat = tab (i 1) := by decide +kernel
theorem word_3 : ∀ i : grid0.Coords, word (k0_off3 i) (k0_off3_inb i) = 0#32 := by decide +kernel

theorem ix_1 (i : grid0.Coords) : cc0_transform_1 k0_off1_inb numel1_S1x1 (table (F := F)) i = ![blk (i 1), 0] := by
  rw [← word_1]; rfl
theorem ix_2 (i : grid0.Coords) : cc0_transform_2 k0_off1_inb numel1_S1x1 (table (F := F)) i = ![0, blk (i 1)] := by
  rw [← word_1]; rfl
theorem ix_3 (i : grid0.Coords) : cc0_transform_3 k0_off1_inb numel1_S1x1 (table (F := F)) i = ![0, blk (i 1)] := by
  rw [← word_1]; rfl
theorem ix_4 (i : grid0.Coords) : cc0_transform_4 k0_off1_inb numel1_S1x1 (table (F := F)) i = ![0, blk (i 1)] := by
  rw [← word_1]; rfl
/-- The quarter of the sequence a token block lies in, as the index maps compute it: a remainder by 4 that is made
    nonnegative by adding the divisor back. -/
abbrev quarter (i : Fin 16) : BitVec 32 :=
  let d : BitVec 32 := Scalar.select (Scalar.cmpi .eq 4#32 0#32) 1#32 4#32
  let r : BitVec 32 := Scalar.remsi (BitVec.ofNat 32 i.val) d
  Scalar.select (Scalar.andi (Scalar.xori (Scalar.cmpi .slt r 0#32) (Scalar.cmpi .slt d 0#32)) (Scalar.cmpi .ne r 0#32))
    (Scalar.addi r d) r
theorem quarter_eq : ∀ i : Fin 16, (quarter i).toNat = i.val % 4 := by decide +kernel
theorem ix_5 (i : grid0.Coords) : cc0_transform_5 k0_off2_inb numel1_S1x1 (table (F := F)) i = ![tab (i 1), (i 0).val % 4, 0] :=
  (show _ = ![(word (k0_off2 i) (k0_off2_inb i)).toNat, (quarter (i 0)).toNat, 0] from rfl).trans (by
    rw [word_2 i, quarter_eq (i 0)])
theorem ix_6 (i : grid0.Coords) : cc0_transform_6 k0_off2_inb numel1_S1x1 (table (F := F)) i = ![tab (i 1), (i 0).val % 4, 0] :=
  (show _ = ![(word (k0_off2 i) (k0_off2_inb i)).toNat, (quarter (i 0)).toNat, 0] from rfl).trans (by
    rw [word_2 i, quarter_eq (i 0)])
theorem ix_7 : ∀ i : grid0.Coords, cc0_transform_7 i = ![(i 0).val / 4, (i 1).val, (i 0).val % 4, 0] := by
  decide +kernel

/-- Every block that the table names lies in its array. -/
theorem ok_table : ok0 (F := F) table := by
  refine ⟨fun i => ?_, fun i => ?_, fun i => ?_, fun i => ?_, fun i => ?_, fun i => ?_⟩
  · rw [ix_1]
    exact (by decide +kernel : ∀ j : Fin 2, ∃ h : (∀ a, ((![blk j, 0] : Fin 2 → ℕ) a + 1) * S1024x4096.size a ≤ S18432x4096.size a), EltTy.bits .bf16 = 32 ∨ (Rect.block (s := S18432x4096) S1024x4096.size ![blk j, 0] h).WholeWords (EltTy.packing .bf16)) (i 1)
  · rw [ix_2]
    exact (by decide +kernel : ∀ j : Fin 2, ∃ h : (∀ a, ((![0, blk j] : Fin 2 → ℕ) a + 1) * S1x1024.size a ≤ S1x18432.size a), EltTy.bits .f32 = 32 ∨ (Rect.block (s := S1x18432) S1x1024.size ![0, blk j] h).WholeWords (EltTy.packing .f32)) (i 1)
  · rw [ix_3]
    exact (by decide +kernel : ∀ j : Fin 2, ∃ h : (∀ a, ((![0, blk j] : Fin 2 → ℕ) a + 1) * S1x1024.size a ≤ S1x18432.size a), EltTy.bits .f32 = 32 ∨ (Rect.block (s := S1x18432) S1x1024.size ![0, blk j] h).WholeWords (EltTy.packing .f32)) (i 1)
  · rw [ix_4]
    exact (by decide +kernel : ∀ j : Fin 2, ∃ h : (∀ a, ((![0, blk j] : Fin 2 → ℕ) a + 1) * S1x1024.size a ≤ S1x18432.size a), EltTy.bits .f32 = 32 ∨ (Rect.block (s := S1x18432) S1x1024.size ![0, blk j] h).WholeWords (EltTy.packing .f32)) (i 1)
  · rw [ix_5]
    exact (by decide +kernel : ∀ (j : Fin 16) (l : Fin 2), ∃ h : (∀ a, ((![tab l, j.val % 4, 0] : Fin 3 → ℕ) a + 1) * S1x1024x128.size a ≤ S4x4096x128.size a), EltTy.bits .f32 = 32 ∨ (Rect.block (s := S4x4096x128) S1x1024x128.size ![tab l, j.val % 4, 0] h).WholeWords (EltTy.packing .f32)) (i 0) (i 1)
  · rw [ix_6]
    exact (by decide +kernel : ∀ (j : Fin 16) (l : Fin 2), ∃ h : (∀ a, ((![tab l, j.val % 4, 0] : Fin 3 → ℕ) a + 1) * S1x1024x128.size a ≤ S4x4096x128.size a), EltTy.bits .f32 = 32 ∨ (Rect.block (s := S4x4096x128) S1x1024x128.size ![tab l, j.val % 4, 0] h).WholeWords (EltTy.packing .f32)) (i 0) (i 1)

/-- The table as admissible contents, and the pipeline at it. -/
abbrev adm : (pcfg0 (F := F)).Adm := ⟨table, ok_table⟩
abbrev cfgT : Pipeline.Cfg sig Λ₀ := cfg0 (adm (F := F))

/-- The body's condition holds at every point. -/
theorem cond_1 (i : grid0.Coords) : k0_cond1 (word (k0_off3 i) (k0_off3_inb i)) = 1#1 := by
  rw [word_3]; decide

/-- The word the region's own side conditions name. -/
theorem atD_eq (off : Fin 2 → ℕ) (h : ∀ a, off a + S1x1.size a ≤ S4x2.size a) :
    (table (F := F)).atD 0 off = word off h := by
  have h' : ∀ a : Fin 2, off a + 1 ≤ S4x2.size a := fun a => match a with
    | ⟨0, _⟩ => h 0
    | ⟨1, _⟩ => h 1
  refine (dif_pos h').trans ?_
  refine congrArg lit0 (congrArg _ (funext fun a => Fin.ext ?_))
  match a with
  | ⟨0, _⟩ => exact (Nat.add_zero _).symm
  | ⟨1, _⟩ => exact (Nat.add_zero _).symm

/-- No point leaves the result's block unwritten. -/
theorem idle_7 (i : grid0.Coords) : idle0 (F := F) table 7 i = false := by
  have e3 : (table (F := F)).atD 0 (k0_off3 i) = word (k0_off3 i) (k0_off3_inb i) := atD_eq _ _
  show (!(k0_cond1 ((table (F := F)).atD 0 (k0_off3 i)) == 1#1)) = false
  rw [e3, cond_1]; rfl

end Cert.RopeKernelIdeal.Hand

end
-- ==== Proof.RopeTile.lean ====
/-
  What one point of the rotated head projections stores, as functions of its blocks. The body computes the block product
  plus the bias once; head by head it lays the head's 128 columns in a scratch array and reads them back by chunks of 256
  tokens. A chunk is normalised, rotated by a table of cosines and sines, and stored: 32 tiles.
-/
module

public import proofs.«01_k».proof.Proof.RopeLaunch
public import proofs.«01_k».proof.Proof.DilTile
public import Idealize.ShloMosaic.Lib.Pipeline.ReadBack
public import Idealize.ShloMosaic.Lib.Pipeline.FrameBody
public import Idealize.ShloMosaic.Lib.Pipeline.Value

@[expose] public section

noncomputable section

namespace Cert.RopeKernelIdeal.Hand

open Cert.RopeKernelIdeal Cert.RopeKernelIdeal.Gen
open Idealize.ShloMosaic Idealize.ShloMosaic.TcCoe
open Cert.DilKernelIdeal.Hand (slab lane acc part4 gather4 tile4_ok gather4_emb)

variable {F : FTy → Type} [FloatOps F]

/-- A tile: normalised, then rotated. -/
def tile (s : FVec F S256x128 .f32) (g : FVec F S1x128 .f32) (cs sn : FVec F S1x256x128 .f32) : FVec F S1x1x256x128 .bf16 :=
  let ms : FVec F S256x1 .f32 := divf (shapeCast S256x1 (multiReduction .add [1] S256 (mulf s s) 0x00000000#32 reduces_S256x128_S256 (.inl rfl) rfl) shapeCasts_S256_S256x1)
    (broadcast S256x1 (Scalar.ofBits .f32 0x43000000#32))
  let r : FVec F S256x1 .f32 := rsqrt (addf ms (broadcast S256x1 (Scalar.ofBits .f32 0x358637BD#32)))
  let y : FVec F S256x128 .f32 := mulf (mulf s (broadcastTo S256x128 r broadcasts_S256x1_S256x128))
    (broadcastTo S256x128 (shapeCast S1x128 g shapeCasts_S1x128_S1x128) broadcasts_S1x128_S256x128)
  let w : FVec F S256x128 .f32 := addf (mulf y (shapeCast S256x128 cs shapeCasts_S1x256x128_S256x128))
    (mulf (dynamicRotate 1 64#32 none y rotates_S256x128_d1) (shapeCast S256x128 sn shapeCasts_S1x256x128_S256x128))
  shapeCast S1x1x256x128 (truncf .bf16 w bitsLt_bf16_f32 : FVec F S256x128 .bf16) shapeCasts_S256x128_S1x1x256x128

/-- Rows `256 r …` of a head's columns. -/
def step (r : Fin 4) (j : S256x128.Idx) : S1024x128.Idx := fun a => match a with
  | ⟨0, _⟩ => (⟨256 * r.val + (j 0).val, by have h : (j 0).val < 256 := (j 0).isLt; have := r.isLt; omega⟩ : Fin 1024)
  | ⟨1, _⟩ => (j 1 : Fin 128)
def chunk (w : FVec F S1024x128 .f32) (r : Fin 4) : FVec F S256x128 .f32 := fun j => w (step r j)

/-- Read back from the scratch array by 256 rows, a head's columns give the chunk. -/
theorem readCov_chunk {sg : RefSig} {κ : Kind} {sp : Space} (v : View sg κ sp S8192x128 .f32) (r : Fin 4) (h : Fin 8) (w : FVec F S1024x128 .f32)
    (L : List (View.Piece (Elt F) S8192x128 .f32)) (ok1) (off : Fin 2 → ℕ) (hoff : off = ![1024 * h.val + 256 * r.val, 0]) (ok2) :
    v.readCov (⟨Rect.unit (s := S8192x128) ![1024 * h.val, 0] S1024x128.size ok1, w⟩ :: L)
      (Rect.unit (s := S8192x128) off S256x128.size ok2).toLoadRect = chunk w r := by
  subst hoff
  rw [View.readCov_eq_canon']
  funext j
  have e : (Rect.unit (s := S8192x128) ![1024 * h.val + 256 * r.val, 0] S256x128.size ok2).toLoadRect.idx j
      = (Rect.unit (s := S8192x128) ![1024 * h.val, 0] S1024x128.size ok1).emb (step r j) := by
    refine funext fun a => Fin.ext ?_
    match a with
    | ⟨0, _⟩ => show 1024 * h.val + 256 * r.val + 1 * (j 0).val = 1024 * h.val + 1 * (256 * r.val + (j 0).val); omega
    | ⟨1, _⟩ => show 0 + 1 * (j 1).val = 0 + 1 * (j 1).val; rfl
  refine (congrArg (View.canon (Val := Elt F) _) e).trans ?_
  exact (View.canon_cons_emb (Val := Elt F) (Rect.unit (s := S8192x128) ![1024 * h.val, 0] S1024x128.size ok1) w L (step r j))

/-- The tiles of a point, and the block it leaves. -/
def tiles (x0 x1 : Vec F S1024x4096 .bf16) (x2 x3 : Vec F S1x1024 .f32) (x5 x6 : Vec F S1x1024x128 .f32) : Fin 4 → Fin 8 → FVec F S1x1x256x128 .bf16 :=
  fun r h => tile (chunk (slab (acc x0 x1 x2) h) r) (lane x3 h) (part4 x5 r) (part4 x6 r)
def outRope (x0 x1 : Vec F S1024x4096 .bf16) (x2 x3 : Vec F S1x1024 .f32) (x5 x6 : Vec F S1x1024x128 .f32) : Vec F S1x8x1024x128 .bf16 :=
  gather4 (tiles x0 x1 x2 x3 x5 x6)

/-- A tile computed from what is read back from the scratch array, where the store puts it. -/
theorem stored (x0 x1 : Vec F S1024x4096 .bf16) (x2 x3 : Vec F S1x1024 .f32) (x5 x6 : Vec F S1x1024x128 .f32)
    {sg : RefSig} {κ : Kind} {sp : Space} (v : View sg κ sp S8192x128 .f32) (r : Fin 4) (h : Fin 8)
    (L : List (View.Piece (Elt F) S8192x128 .f32)) (ok1) (off : Fin 2 → ℕ) (hoff : off = ![1024 * h.val + 256 * r.val, 0]) (ok2) (x : S1x1x256x128.Idx) :
    tile (v.readCov (⟨Rect.unit (s := S8192x128) ![1024 * h.val, 0] S1024x128.size ok1, slab (acc x0 x1 x2) h⟩ :: L)
        (Rect.unit (s := S8192x128) off S256x128.size ok2).toLoadRect) (lane x3 h) (part4 x5 r) (part4 x6 r) x
      = outRope x0 x1 x2 x3 x5 x6 ((Rect.unit (s := S1x8x1024x128) ![0, h.val, 256 * r.val, 0] S1x1x256x128.size (tile4_ok r h)).emb x) := by
  rw [readCov_chunk v r h _ L ok1 off hoff]
  exact gather4_emb (tiles x0 x1 x2 x3 x5 x6) r h x

end Cert.RopeKernelIdeal.Hand

end
-- ==== Proof.RopeRun.lean ====
/-
  The body of the rotated head projections, run on any buffers: it loads the table's word, takes its branch, and stores its 32
  tiles. The rows it reads back from the scratch array start at offsets that the table's last row adds to; that row is zero.
-/
module

public import proofs.«01_k».proof.Proof.RopeTile
public import Idealize.ShloMosaic.Lib.Pipeline.ReadBack
public import Idealize.ShloMosaic.Lib.Pipeline.Value

@[expose] public section

set_option maxRecDepth 16384

noncomputable section

namespace Cert.RopeKernelIdeal.Hand

open Cert.RopeKernelIdeal Cert.RopeKernelIdeal.Gen
open Idealize.ShloMosaic Idealize.ShloMosaic.TcCoe Idealize.ShloMosaic.Tactic
open Cert.DilKernelIdeal.Hand (read_writes)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The table as the body is handed it. -/
abbrev tabM : Memref sig .tc .smem S4x2 .i32 := Memref.whole main_c
abbrev TabBuf (c : Dev nD) {S : Shape} {e : EltTy} (M : Memref sig .tc .smem S e) : Type := Buf (Elt F) (M.view.loc (c : Thread nD τ))
/-- The half of the table's buffer that the body holds. -/
abbrev tabPt (c : Dev nD) {S : Shape} {e : EltTy} (M : Memref sig .tc .smem S e) (f : TabBuf (F := F) c M) : sProp 𝕄 :=
  M.view.loc (c : Thread nD τ) ↦{fullShare.right} f

/-- The word of the table that the body loads at the offsets `off`. -/
abbrev wordOf (c : Dev nD) (xt : TabBuf (F := F) c tabM) (off : Fin 2 → ℕ) (h : ∀ a, off a + S1x1.size a ≤ S4x2.size a) : BitVec 32 :=
  View.readAt (Elt F) tabM.view (Rect.unit (s := S4x2) off S1x1.size h).toLoadRect xt (Shape.Idx.first (numel1_S1x1.symm ▸ Nat.one_pos))

set_option maxHeartbeats 40000000 in
/-- A point of the body: on whole staging buffers at the blocks it reads, with the table's word choosing the branch and the
    table's last row zero, it leaves the block of `outRope`, something in the scratch array, and the rest as it was. -/
theorem run_rope (c : Dev nD) (i : grid0.Coords) (arg3 : Memref sig .tc .vmem S1024x4096 .bf16) (harg3 : arg3.IsWhole) (arg4 : Memref sig .tc .vmem S1024x4096 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024x128 .f32) (harg8 : arg8.IsWhole) (arg9 : Memref sig .tc .vmem S1x1024x128 .f32) (harg9 : arg9.IsWhole) (arg10 : Memref sig .tc .vmem S1x8x1024x128 .bf16) (harg10 : arg10.IsWhole) (arg11 : Memref sig .tc .vmem S8192x128 .f32) (harg11 : arg11.IsWhole)
    (x0 : Vec F S1024x4096 .bf16) (x1 : Vec F S1024x4096 .bf16) (x2 : Vec F S1x1024 .f32) (x3 : Vec F S1x1024 .f32) (x5 : Vec F S1x1024x128 .f32) (x6 : Vec F S1x1024x128 .f32) (xt : TabBuf (F := F) c tabM)
    (h1 : k0_cond1 (wordOf c xt (k0_off3 i) (k0_off3_inb i)) = 1#1)
    (hz : ∀ (off : Fin 2 → ℕ) (h : ∀ a, off a + S1x1.size a ≤ S4x2.size a), off 0 = 3 → View.readAt (Elt F) tabM.view (Rect.unit (s := S4x2) off S1x1.size h).toLoadRect xt = fun _ => 0#32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ tabPt c tabM xt
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg8 fullShare x5 ∗ owns (c : Thread nD τ) arg9 fullShare x6 ∗ owns (c : Thread nD τ) arg10 fullShare (outRope x0 x1 x2 x3 x5 x6) ∗ (∃ d, owns (c : Thread nD τ) arg11 fullShare d) ∗ tabPt c tabM xt) -∗ K ⟨⟩))
      ⊢ wp frame (wpE (defs₀ (F := F)) Variants.none c none) E (cc0_proj_heads_rope i tabM (Memref.isWhole_whole _) arg3 harg3 arg4 harg4 arg5 harg5 arg6 harg6 arg7 harg7 arg8 harg8 arg9 harg9 arg10 harg10 arg11 harg11) K := by
  simp only [cc0_proj_heads_rope_eq_skeleton]; unfold cc0_proj_heads_rope_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
  have z (off : Fin 2 → ℕ) (h) (e : off 0 = 3) : View.readAt (Elt F) tabM.view (Rect.unit (s := S4x2) off S1x1.size h).toLoadRect xt = fun _ => 0#32 := hz off h e
  have z0 := z (k0_off4 i) (k0_off4_inb i) rfl
  have z1 := z (k0_off6 i) (k0_off6_inb i) rfl
  have z2 := z (k0_off8 i) (k0_off8_inb i) rfl
  have z3 := z (k0_off10 i) (k0_off10_inb i) rfl
  have z4 := z (k0_off12 i) (k0_off12_inb i) rfl
  have z5 := z (k0_off14 i) (k0_off14_inb i) rfl
  have z6 := z (k0_off16 i) (k0_off16_inb i) rfl
  have z7 := z (k0_off18 i) (k0_off18_inb i) rfl
  have z8 := z (k0_off20 i) (k0_off20_inb i) rfl
  have z9 := z (k0_off22 i) (k0_off22_inb i) rfl
  have z10 := z (k0_off24 i) (k0_off24_inb i) rfl
  have z11 := z (k0_off26 i) (k0_off26_inb i) rfl
  have z12 := z (k0_off28 i) (k0_off28_inb i) rfl
  have z13 := z (k0_off30 i) (k0_off30_inb i) rfl
  have z14 := z (k0_off32 i) (k0_off32_inb i) rfl
  have z15 := z (k0_off34 i) (k0_off34_inb i) rfl
  have z16 := z (k0_off36 i) (k0_off36_inb i) rfl
  have z17 := z (k0_off38 i) (k0_off38_inb i) rfl
  have z18 := z (k0_off40 i) (k0_off40_inb i) rfl
  have z19 := z (k0_off42 i) (k0_off42_inb i) rfl
  have z20 := z (k0_off44 i) (k0_off44_inb i) rfl
  have z21 := z (k0_off46 i) (k0_off46_inb i) rfl
  have z22 := z (k0_off48 i) (k0_off48_inb i) rfl
  have z23 := z (k0_off50 i) (k0_off50_inb i) rfl
  have z24 := z (k0_off52 i) (k0_off52_inb i) rfl
  have z25 := z (k0_off54 i) (k0_off54_inb i) rfl
  have z26 := z (k0_off56 i) (k0_off56_inb i) rfl
  have z27 := z (k0_off58 i) (k0_off58_inb i) rfl
  have z28 := z (k0_off60 i) (k0_off60_inb i) rfl
  have z29 := z (k0_off62 i) (k0_off62_inb i) rfl
  have z30 := z (k0_off64 i) (k0_off64_inb i) rfl
  have z31 := z (k0_off66 i) (k0_off66_inb i) rfl
  have c1 : ∀ v, k0_chk1 v 0#32 := fun v => ⟨fun _ => by decide +kernel, fun _ => by decide +kernel⟩
  have c2 : ∀ v, k0_chk2 v 0#32 := fun v => ⟨fun _ => by decide +kernel, fun _ => by decide +kernel⟩
  have c3 : ∀ v, k0_chk3 v 0#32 := fun v => ⟨fun _ => by decide +kernel, fun _ => by decide +kernel⟩
  have c4 : ∀ v, k0_chk4 v 0#32 := fun v => ⟨fun _ => by decide +kernel, fun _ => by decide +kernel⟩
  have c5 : ∀ v, k0_chk5 v 0#32 := fun v => ⟨fun _ => by decide +kernel, fun _ => by decide +kernel⟩
  have c6 : ∀ v, k0_chk6 v 0#32 := fun v => ⟨fun _ => by decide +kernel, fun _ => by decide +kernel⟩
  have c7 : ∀ v, k0_chk7 v 0#32 := fun v => ⟨fun _ => by decide +kernel, fun _ => by decide +kernel⟩
  have c8 : ∀ v, k0_chk8 v 0#32 := fun v => ⟨fun _ => by decide +kernel, fun _ => by decide +kernel⟩
  have c9 : ∀ v, k0_chk9 v 0#32 := fun v => ⟨fun _ => by decide +kernel, fun _ => by decide +kernel⟩
  have c10 : ∀ v, k0_chk10 v 0#32 := fun v => ⟨fun _ => by decide +kernel, fun _ => by decide +kernel⟩
  have c11 : ∀ v, k0_chk11 v 0#32 := fun v => ⟨fun _ => by decide +kernel, fun _ => by decide +kernel⟩
  have c12 : ∀ v, k0_chk12 v 0#32 := fun v => ⟨fun _ => by decide +kernel, fun _ => by decide +kernel⟩
  have c13 : ∀ v, k0_chk13 v 0#32 := fun v => ⟨fun _ => by decide +kernel, fun _ => by decide +kernel⟩
  have c14 : ∀ v, k0_chk14 v 0#32 := fun v => ⟨fun _ => by decide +kernel, fun _ => by decide +kernel⟩
  have c15 : ∀ v, k0_chk15 v 0#32 := fun v => ⟨fun _ => by decide +kernel, fun _ => by decide +kernel⟩
  have c16 : ∀ v, k0_chk16 v 0#32 := fun v => ⟨fun _ => by decide +kernel, fun _ => by decide +kernel⟩
  have c17 : ∀ v, k0_chk17 v 0#32 := fun v => ⟨fun _ => by decide +kernel, fun _ => by decide +kernel⟩
  have c18 : ∀ v, k0_chk18 v 0#32 := fun v => ⟨fun _ => by decide +kernel, fun _ => by decide +kernel⟩
  have c19 : ∀ v, k0_chk19 v 0#32 := fun v => ⟨fun _ => by decide +kernel, fun _ => by decide +kernel⟩
  have c20 : ∀ v, k0_chk20 v 0#32 := fun v => ⟨fun _ => by decide +kernel, fun _ => by decide +kernel⟩
  have c21 : ∀ v, k0_chk21 v 0#32 := fun v => ⟨fun _ => by decide +kernel, fun _ => by decide +kernel⟩
  have c22 : ∀ v, k0_chk22 v 0#32 := fun v => ⟨fun _ => by decide +kernel, fun _ => by decide +kernel⟩
  have c23 : ∀ v, k0_chk23 v 0#32 := fun v => ⟨fun _ => by decide +kernel, fun _ => by decide +kernel⟩
  have c24 : ∀ v, k0_chk24 v 0#32 := fun v => ⟨fun _ => by decide +kernel, fun _ => by decide +kernel⟩
  have c25 : ∀ v, k0_chk25 v 0#32 := fun v => ⟨fun _ => by decide +kernel, fun _ => by decide +kernel⟩
  have c26 : ∀ v, k0_chk26 v 0#32 := fun v => ⟨fun _ => by decide +kernel, fun _ => by decide +kernel⟩
  have c27 : ∀ v, k0_chk27 v 0#32 := fun v => ⟨fun _ => by decide +kernel, fun _ => by decide +kernel⟩
  have c28 : ∀ v, k0_chk28 v 0#32 := fun v => ⟨fun _ => by decide +kernel, fun _ => by decide +kernel⟩
  have c29 : ∀ v, k0_chk29 v 0#32 := fun v => ⟨fun _ => by decide +kernel, fun _ => by decide +kernel⟩
  have c30 : ∀ v, k0_chk30 v 0#32 := fun v => ⟨fun _ => by decide +kernel, fun _ => by decide +kernel⟩
  have c31 : ∀ v, k0_chk31 v 0#32 := fun v => ⟨fun _ => by decide +kernel, fun _ => by decide +kernel⟩
  have c32 : ∀ v, k0_chk32 v 0#32 := fun v => ⟨fun _ => by decide +kernel, fun _ => by decide +kernel⟩
  clear z hz
  unfold owns
  iintro ⟨⟨%f0, %hf0, H0⟩, ⟨%f1, %hf1, H1⟩, ⟨%f2, %hf2, H2⟩, ⟨%f3, %hf3, H3⟩, ⟨%f5, %hf5, H5⟩, ⟨%f6, %hf6, H6⟩, ⟨%d7, %f7, -, H7⟩, ⟨%d8, %f8, -, H8⟩, HT0, Hk⟩
  subst hf0 hf1 hf2 hf3 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H5]
  · iexists f5; isplitr; · ipureintro; rfl
    iexact H5
  isplitl [H6]
  · iexists f6; isplitr; · ipureintro; rfl
    iexact H6
  isplitl [H7]
  · iexists _; isplitr; swap; · iexact H7
    ipureintro
    refine read_writes _ _ _ _ S1x1x256x128.size ?_ ?_
    · rfl
    · have g := stored (arg3.view.read (Elt F) f0) (arg4.view.read (Elt F) f1) (arg5.view.read (Elt F) f2) (arg6.view.read (Elt F) f3) (arg8.view.read (Elt F) f5) (arg9.view.read (Elt F) f6) arg11.view
      exact ⟨g 3 7 _ _ _ rfl _, g 2 7 _ _ _ rfl _, g 1 7 _ _ _ rfl _, g 0 7 _ _ _ rfl _, g 3 6 _ _ _ rfl _, g 2 6 _ _ _ rfl _, g 1 6 _ _ _ rfl _, g 0 6 _ _ _ rfl _, g 3 5 _ _ _ rfl _, g 2 5 _ _ _ rfl _, g 1 5 _ _ _ rfl _, g 0 5 _ _ _ rfl _, g 3 4 _ _ _ rfl _, g 2 4 _ _ _ rfl _, g 1 4 _ _ _ rfl _, g 0 4 _ _ _ rfl _, g 3 3 _ _ _ rfl _, g 2 3 _ _ _ rfl _, g 1 3 _ _ _ rfl _, g 0 3 _ _ _ rfl _, g 3 2 _ _ _ rfl _, g 2 2 _ _ _ rfl _, g 1 2 _ _ _ rfl _, g 0 2 _ _ _ rfl _, g 3 1 _ _ _ rfl _, g 2 1 _ _ _ rfl _, g 1 1 _ _ _ rfl _, g 0 1 _ _ _ rfl _, g 3 0 _ _ _ rfl _, g 2 0 _ _ _ rfl _, g 1 0 _ _ _ rfl _, g 0 0 _ _ _ rfl _, trivial⟩
  isplitr [HT0]
  · iexists _, _; isplitr; swap; · iexact H8
    ipureintro; rfl
  iexact HT0

end Cert.RopeKernelIdeal.Hand

end
-- ==== Proof.RopeFrame.lean ====
/-
  The run of the rotated head projections: the proof data of the pipeline at the constant table, the body at every point, the run to
  its named result, and the frame.
-/
module

public import proofs.«01_k».proof.Proof.RopeRun
public import Idealize.ShloMosaic.Lib.Pipeline.Frame

@[expose] public section

set_option maxRecDepth 16384

noncomputable section

namespace Cert.RopeKernelIdeal.Hand

open Cert.RopeKernelIdeal Cert.RopeKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem PhiT_eq (c : Dev nD) : (Pipeline.ΦT pre0 (table (F := F)) c : sProp 𝕄) = iprop(tabPt c tabM (table (F := F) 0)) := by
  unfold Pipeline.ΦT Pipeline.prefHeld
  rw [show (Finset.univ : Finset (Fin 1)) = {(0 : Fin 1)} from by decide, bigSep_singleton]
  rfl

/-- The region's own resources: the scratch array at some contents, and the generator's register. -/
theorem PhiA_eq (c : Dev nD) : (Pipeline.ΦA spec0 c : sProp 𝕄)
    = iprop((∃ d, owns (c : Thread nD τ) (Memref.whole cc0_scratch0) fullShare d) ∗ ∃ r, prngReg c r) := by
  unfold Pipeline.ΦA
  rw [scopedRest0_eq]
  simp only [owns_whole]

theorem V_pre (c : Dev nD) (j : Fin 1) : V m c (pre0.ref j) = table (F := F) j := by
  match j with
  | ⟨0, _⟩ => exact V_table m c

/-- Window `w`'s block at point `t`, read off its array as the region finds it. -/
def iblk (c : Dev nD) (w : Fin (cfgT (F := F)).W) (t : Fin (cfgT (F := F)).N) :
    (((cfgT (F := F)).win w).xblock ((cfgT (F := F)).grid.coords t)).Idx → Elt F ((cfgT (F := F)).win w).elt :=
  (((cfgT (F := F)).win w).blk t).view.read (Elt F) (V m c (Pipeline.arrRef spec0 w))

/-- What point `t` leaves in its block of the result. -/
def outAt (c : Dev nD) (t : Fin (cfgT (F := F)).N) : Vec F S1x8x1024x128 .bf16 :=
  outRope (iblk m c 0 t) (iblk m c 1 t) (iblk m c 2 t) (iblk m c 3 t) (iblk m c 5 t) (iblk m c 6 t)

/-- The table's last row is zero. -/
theorem row_3 : ∀ i : S4x2.Idx, (i 0).val = 3 → lit0 (S4x2.rowMajor i) = 0#32 := by decide +kernel

theorem words_3 (off : Fin 2 → ℕ) (h : ∀ a, off a + S1x1.size a ≤ S4x2.size a) (e : off 0 = 3) :
    View.readAt (Elt F) tabM.view (Rect.unit (s := S4x2) off S1x1.size h).toLoadRect (table (F := F) 0) = fun _ => 0#32 :=
  funext fun j => row_3 ((Rect.unit (s := S4x2) off S1x1.size h).emb j) (by
    have hj : (j 0).val < 1 := (j 0).isLt
    show off 0 + 1 * (j 0).val = 3
    omega)

/-- The proof data: the inputs at their blocks, the result at `outAt`. -/
def dats (_ : Fin 1) (c : Dev nD) : Dat τ (Elt F) Unit ℕ (UR sig nD τ) ℕ (cfgT (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ _ := iprop(Pipeline.ΦA spec0 c ∗ Pipeline.ΦT pre0 (table (F := F)) c)
  q _ := fullShare
  owed _ := 0

theorem A_eq (c : Dev nD) (w : Fin (cfgT (F := F)).W) : (dats m 0 c).A w = V m c (Pipeline.arrRef spec0 w) := by
  dsimp only [dats]

theorem after_0 (c : Dev nD) (t : Fin (cfgT (F := F)).N) : (dats m 0 c).after 0 t = iblk m c 0 t := by dsimp only [dats]; try rfl
theorem after_1 (c : Dev nD) (t : Fin (cfgT (F := F)).N) : (dats m 0 c).after 1 t = iblk m c 1 t := by dsimp only [dats]; try rfl
theorem after_2 (c : Dev nD) (t : Fin (cfgT (F := F)).N) : (dats m 0 c).after 2 t = iblk m c 2 t := by dsimp only [dats]; try rfl
theorem after_3 (c : Dev nD) (t : Fin (cfgT (F := F)).N) : (dats m 0 c).after 3 t = iblk m c 3 t := by dsimp only [dats]; try rfl
theorem after_4 (c : Dev nD) (t : Fin (cfgT (F := F)).N) : (dats m 0 c).after 4 t = iblk m c 4 t := by dsimp only [dats]; try rfl
theorem after_5 (c : Dev nD) (t : Fin (cfgT (F := F)).N) : (dats m 0 c).after 5 t = iblk m c 5 t := by dsimp only [dats]; try rfl
theorem after_6 (c : Dev nD) (t : Fin (cfgT (F := F)).N) : (dats m 0 c).after 6 t = iblk m c 6 t := by dsimp only [dats]; try rfl
theorem after_7 (c : Dev nD) (t : Fin (cfgT (F := F)).N) : (dats m 0 c).after 7 t = outAt m c t := by dsimp only [dats]; try rfl

/-- An input's current buffer holds its block at every point. -/
theorem before_0 (c : Dev nD) (t : Fin (cfgT (F := F)).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfgT (F := F)).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfgT (F := F)).N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cfgT (F := F)).N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin (cfgT (F := F)).N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin (cfgT (F := F)).N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin (cfgT (F := F)).N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
abbrev ms_0 (t : Fin (cfgT (F := F)).N) : Memref sig .tc .vmem S1024x4096 .bf16 := spec0_0.stage ((cfgT (F := F)).slots t 0)
abbrev hs_0 (t : Fin (cfgT (F := F)).N) : (ms_0 (F := F) t).IsWhole := hstage0_0 (((cfgT (F := F)).slots t 0).cast nbuf0_0)
abbrev ms_1 (t : Fin (cfgT (F := F)).N) : Memref sig .tc .vmem S1024x4096 .bf16 := spec0_1.stage ((cfgT (F := F)).slots t 1)
abbrev hs_1 (t : Fin (cfgT (F := F)).N) : (ms_1 (F := F) t).IsWhole := hstage0_1 (((cfgT (F := F)).slots t 1).cast nbuf0_1)
abbrev ms_2 (t : Fin (cfgT (F := F)).N) : Memref sig .tc .vmem S1x1024 .f32 := spec0_2.stage ((cfgT (F := F)).slots t 2)
abbrev hs_2 (t : Fin (cfgT (F := F)).N) : (ms_2 (F := F) t).IsWhole := hstage0_2 (((cfgT (F := F)).slots t 2).cast nbuf0_2)
abbrev ms_3 (t : Fin (cfgT (F := F)).N) : Memref sig .tc .vmem S1x1024 .f32 := spec0_3.stage ((cfgT (F := F)).slots t 3)
abbrev hs_3 (t : Fin (cfgT (F := F)).N) : (ms_3 (F := F) t).IsWhole := hstage0_3 (((cfgT (F := F)).slots t 3).cast nbuf0_3)
abbrev ms_4 (t : Fin (cfgT (F := F)).N) : Memref sig .tc .vmem S1x1024 .f32 := spec0_4.stage ((cfgT (F := F)).slots t 4)
abbrev hs_4 (t : Fin (cfgT (F := F)).N) : (ms_4 (F := F) t).IsWhole := hstage0_4 (((cfgT (F := F)).slots t 4).cast nbuf0_4)
abbrev ms_5 (t : Fin (cfgT (F := F)).N) : Memref sig .tc .vmem S1x1024x128 .f32 := spec0_5.stage ((cfgT (F := F)).slots t 5)
abbrev hs_5 (t : Fin (cfgT (F := F)).N) : (ms_5 (F := F) t).IsWhole := hstage0_5 (((cfgT (F := F)).slots t 5).cast nbuf0_5)
abbrev ms_6 (t : Fin (cfgT (F := F)).N) : Memref sig .tc .vmem S1x1024x128 .f32 := spec0_6.stage ((cfgT (F := F)).slots t 6)
abbrev hs_6 (t : Fin (cfgT (F := F)).N) : (ms_6 (F := F) t).IsWhole := hstage0_6 (((cfgT (F := F)).slots t 6).cast nbuf0_6)
abbrev ms_7 (t : Fin (cfgT (F := F)).N) : Memref sig .tc .vmem S1x8x1024x128 .bf16 := spec0_7.stage ((cfgT (F := F)).slots t 7)
abbrev hs_7 (t : Fin (cfgT (F := F)).N) : (ms_7 (F := F) t).IsWhole := hstage0_7 (((cfgT (F := F)).slots t 7).cast nbuf0_7)

/-- The body at point `t`, on what the pipeline calls it with. -/
abbrev bodyAt (t : Fin (cfgT (F := F)).N) : Prog (TpuEff nD τ sig (Elt F) Λ₀ .tc) PUnit :=
  cc0_proj_heads_rope (grid0.coords t) tabM (Memref.isWhole_whole _) (ms_0 (F := F) t) (hs_0 t) (ms_1 (F := F) t) (hs_1 t) (ms_2 (F := F) t) (hs_2 t) (ms_3 (F := F) t) (hs_3 t) (ms_4 (F := F) t) (hs_4 t) (ms_5 (F := F) t) (hs_5 t) (ms_6 (F := F) t) (hs_6 t) (ms_7 (F := F) t) (hs_7 t) (Memref.whole cc0_scratch0) (Memref.isWhole_whole _)

def bodyPre (c : Dev nD) (t : Fin (cfgT (F := F)).N) : sProp 𝕄 :=
  iprop((dats m 0 c).Φ t.castSucc ∗ (dats m 0 c).owesAt () t.castSucc
    ∗ (∃ d, owns (c : Thread nD τ) (ms_0 (F := F) t) fullShare ((dats m 0 c).before 0 t d))
    ∗ (∃ d, owns (c : Thread nD τ) (ms_1 (F := F) t) fullShare ((dats m 0 c).before 1 t d))
    ∗ (∃ d, owns (c : Thread nD τ) (ms_2 (F := F) t) fullShare ((dats m 0 c).before 2 t d))
    ∗ (∃ d, owns (c : Thread nD τ) (ms_3 (F := F) t) fullShare ((dats m 0 c).before 3 t d))
    ∗ (∃ d, owns (c : Thread nD τ) (ms_4 (F := F) t) fullShare ((dats m 0 c).before 4 t d))
    ∗ (∃ d, owns (c : Thread nD τ) (ms_5 (F := F) t) fullShare ((dats m 0 c).before 5 t d))
    ∗ (∃ d, owns (c : Thread nD τ) (ms_6 (F := F) t) fullShare ((dats m 0 c).before 6 t d))
    ∗ (∃ d, owns (c : Thread nD τ) (ms_7 (F := F) t) fullShare ((dats m 0 c).before 7 t d)))

def bodyPost (c : Dev nD) (t : Fin (cfgT (F := F)).N) : sProp 𝕄 :=
  iprop((dats m 0 c).Φ t.succ ∗ (dats m 0 c).owesAt () t.succ
    ∗ owns (c : Thread nD τ) (ms_0 (F := F) t) fullShare ((dats m 0 c).after 0 t)
    ∗ owns (c : Thread nD τ) (ms_1 (F := F) t) fullShare ((dats m 0 c).after 1 t)
    ∗ owns (c : Thread nD τ) (ms_2 (F := F) t) fullShare ((dats m 0 c).after 2 t)
    ∗ owns (c : Thread nD τ) (ms_3 (F := F) t) fullShare ((dats m 0 c).after 3 t)
    ∗ owns (c : Thread nD τ) (ms_4 (F := F) t) fullShare ((dats m 0 c).after 4 t)
    ∗ owns (c : Thread nD τ) (ms_5 (F := F) t) fullShare ((dats m 0 c).after 5 t)
    ∗ owns (c : Thread nD τ) (ms_6 (F := F) t) fullShare ((dats m 0 c).after 6 t)
    ∗ owns (c : Thread nD τ) (ms_7 (F := F) t) fullShare ((dats m 0 c).after 7 t))

set_option maxHeartbeats 1600000 in
/-- The body at any point: the table's word chooses the branch, and its run applies. -/
theorem sound_body (c : Dev nD) (t : Fin (cfgT (F := F)).N) :
    bodyPre m c t ⊢ wp frame (wpE (defs₀ (F := F)) Variants.none c none) Set.univ (bodyAt (F := F) t) (fun _ => bodyPost m c t) := by
  unfold bodyPre bodyPost bodyAt
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  rw [show (dats m 0 c).Φ t.castSucc = iprop(Pipeline.ΦA spec0 c ∗ Pipeline.ΦT pre0 (table (F := F)) c) from rfl, PhiT_eq, PhiA_eq]
  iintro ⟨⟨⟨HS, HR⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩⟩
  rw [show outAt m c t = outRope (iblk m c 0 t) (iblk m c 1 t) (iblk m c 2 t) (iblk m c 3 t) (iblk m c 5 t) (iblk m c 6 t) from rfl]
  iapply (run_rope c (grid0.coords t) _ _ _ _ _ _ _ _ _ _ _ _ _ _ _ _ _ _ (iblk m c 0 t) (iblk m c 1 t) (iblk m c 2 t) (iblk m c 3 t) (iblk m c 5 t) (iblk m c 6 t) (table (F := F) 0)
    (cond_1 _) words_3 Set.univ _)
  isplitl [H0]; · iexact H0
  isplitl [H1]; · iexact H1
  isplitl [H2]; · iexact H2
  isplitl [H3]; · iexact H3
  isplitl [H5]; · iexact H5
  isplitl [H6]; · iexact H6
  isplitl [H7]; · iexists _; iexact H7
  isplitl [HS]; · iexact HS
  isplitl [HT]; · iexact HT
  iintro ⟨H0, H1, H2, H3, H5, H6, H7, HS, HT⟩
  isplitl [HS HR HT]
  · isplitl [HS HR]
    · isplitl [HS]; · iexact HS
      iexact HR
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin (cfgT (F := F)).N) :
    defs₀ (F := F) .tc (cfgT (F := F)).body ((cfgT (F := F)).bodyArgs t ((cfgT (F := F)).slots t)) = bodyAt (F := F) t := by
  unfold defs₀; rw [Defs.onTc_tc]

set_option maxHeartbeats 4000000 in
/-- The body obligation of the pipeline. -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  refine sep_mono .rfl (sep_mono .rfl (sep_mono .rfl (sep_mono .rfl (sep_mono .rfl (sep_mono .rfl (sep_mono .rfl (sep_mono .rfl (sep_mono .rfl ?_))))))))
  dsimp only
  split
  · next e => exact absurd (e.symm.trans (idle_7 (F := F) _)) (by decide)
  · exact .rfl

set_option backward.isDefEq.respectTransparency.types false in
/-- The run: every execution ends, each array of the pipeline at what the proof data names, every other buffer as the region
    found it, and every counter at zero. -/
theorem run_main_quiescent : θ_run defs (onTc (τ := τ) (main (F := F))) (s₀ m ρ)
    (fun r => Pipeline.FramePost (Pipeline.pin pcfgs fun _ => adm (F := F)) (dats m) 0 (V m) r ∧ r.2.sem = fun _ => 0) :=
  Pipeline.θ_run_frameP (Q' := _) pcfgs (fun _ => adm (F := F)) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m) (hΦ := fun _ _ => rfl)

/-- The arrays the windows read and write. -/
def arrs : Fin 8 → Ref sig .tc := ![main_arg0, main_v51, main_v54, main_v166, main_v167, main_v32, main_v47, main_v168]

theorem arr_ne (b : Ref sig .tc) (h : ∀ w : Fin 8, arrs w ≠ b) (w : Fin 8) : (spec0 w).arr.view.ref ≠ b :=
  match w with
  | ⟨0, _⟩ => h 0
  | ⟨1, _⟩ => h 1
  | ⟨2, _⟩ => h 2
  | ⟨3, _⟩ => h 3
  | ⟨4, _⟩ => h 4
  | ⟨5, _⟩ => h 5
  | ⟨6, _⟩ => h 6
  | ⟨7, _⟩ => h 7

/-- The run with its result named: the result's array at what the proof data leave, the arguments unchanged, the counters at zero. -/
theorem run_named : θ_run defs (onTc (τ := τ) (main (F := F))) ⟨m, fun _ => 0, ρ⟩ (fun r => (∀ c : Dev nD,
      r.2.mem ((c : Thread nD τ).loc main_v168) = (dats m 0 c).arrAt 7 (cfgT (F := F)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6))
      ∧ r.2.sem = fun _ => 0) :=
  (θ_run defs _ _).mono (fun r h => ⟨fun c => ⟨(h.1 c).1 7,
    ((h.1 c).1 0).trans (((dats m 0 c).arrAt_in 0 rfl _).trans ((A_eq m c 0).trans (V_main_arg0 m c))),
    ((h.1 c).2 main_arg1 (Pipeline.mem_restRefs_of main_arg1 (by decide) (arr_ne _ (by decide)))).trans (V_main_arg1 m c), ((h.1 c).2 main_arg2 (Pipeline.mem_restRefs_of main_arg2 (by decide) (arr_ne _ (by decide)))).trans (V_main_arg2 m c), ((h.1 c).2 main_arg3 (Pipeline.mem_restRefs_of main_arg3 (by decide) (arr_ne _ (by decide)))).trans (V_main_arg3 m c), ((h.1 c).2 main_arg4 (Pipeline.mem_restRefs_of main_arg4 (by decide) (arr_ne _ (by decide)))).trans (V_main_arg4 m c), ((h.1 c).2 main_arg5 (Pipeline.mem_restRefs_of main_arg5 (by decide) (arr_ne _ (by decide)))).trans (V_main_arg5 m c), ((h.1 c).2 main_arg6 (Pipeline.mem_restRefs_of main_arg6 (by decide) (arr_ne _ (by decide)))).trans (V_main_arg6 m c)⟩, h.2⟩) (run_main_quiescent m ρ)

/-- The frame: the arguments end unchanged and every counter at zero. -/
theorem frame_any : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6))
      ∧ r.2.sem = fun _ => 0) :=
  (θ_run defs _ _).mono (fun r h => ⟨fun c => (h.1 c).2, h.2⟩) (run_named m ρ)

end Cert.RopeKernelIdeal.Hand

end
-- ==== Proof.RopeSpec.lean ====
/-
  What the rotated head projections compute, written once for both programs: for each of 16 heads, the input times the head's
  128 columns of the weight plus the bias, divided by its root mean square, multiplied by a gain and turned to its position.
  The first 8 heads are queries and the last 8 keys, all of the first group.
-/
module

public import proofs.«01_k».proof.Proof.NatSpec
public import proofs.«01_k».proof.Proof.Rotate

@[expose] public section

noncomputable section

namespace Cert.Rope

open Idealize.ShloMosaic Idealize.ShloMosaic.ValueIdx

/-- Column `e` of head `n`: the queries' columns start at 0, the keys' at 3072. -/
def col (n : Fin 16) (e : Fin 128) : Fin 26640 := ⟨3072 * (n.val / 8) + 128 * (n.val % 8) + e.val, by omega⟩

/-- The gains of a head. -/
def gain (gq gk : (⟨3, ![1, 3, 128]⟩ : Shape).Idx → EReal) (n : Fin 16) (e : Fin 128) : EReal :=
  if n.val < 8 then gq (ix3 (0 : Fin 1) (0 : Fin 3) e) else gk (ix3 (0 : Fin 1) (0 : Fin 3) e)

/-- Head `n` of sequence `q`, at the position `s`. -/
def entry (h : (⟨2, ![16384, 4096]⟩ : Shape).Idx → EReal) (w : (⟨3, ![1, 4096, 26640]⟩ : Shape).Idx → EReal)
    (b : (⟨2, ![1, 26640]⟩ : Shape).Idx → EReal) (gq gk : (⟨3, ![1, 3, 128]⟩ : Shape).Idx → EReal)
    (q : Fin 4) (n : Fin 16) (s : Fin 4096) (d : Fin 128) : EReal :=
  Cert.Rotate.rotated (Cert.Nat.normed (fun e => Cert.Nat.lin h w b (Cert.Nat.token q s) (col n e)) (gain gq gk n)) s d

/-- The whole array. -/
def heads (h : (⟨2, ![16384, 4096]⟩ : Shape).Idx → EReal) (w : (⟨3, ![1, 4096, 26640]⟩ : Shape).Idx → EReal)
    (b : (⟨2, ![1, 26640]⟩ : Shape).Idx → EReal) (gq gk : (⟨3, ![1, 3, 128]⟩ : Shape).Idx → EReal) :
    (⟨4, ![4, 16, 4096, 128]⟩ : Shape).Idx → EReal :=
  fun i => entry h w b gq gk (i 0) (i 1) (i 2) (i 3)

end Cert.Rope

end
-- ==== Proof.RopePoint.lean ====
/-
  The tiles of the rotated head projections read at an element, over the extended reals.
-/
module

public import proofs.«01_k».proof.Proof.RopeTile
public import proofs.«01_k».proof.Proof.DilPoint
public import proofs.«01_k».proof.Proof.RopeSpec
public import Idealize.ShloMosaic.Lib.MatmulPlain
public import Idealize.ShloMosaic.Lib.KernelVsHost

@[expose] public section

noncomputable section

namespace Cert.RopeKernelIdeal.Hand

open Cert.RopeKernelIdeal Cert.RopeKernelIdeal.Gen Idealize.ShloMosaic Idealize.ShloMosaic.TcCoe Idealize.SL.Sem
open Idealize.ShloMosaic.ValueIdx
open scoped BigOperators
open Cert.DilKernelIdeal.Hand (slab lane acc part4 gather4 slab_apply lane_apply acc_apply bcol part4_apply norm4_apply turn4_apply gather4_apply whole4)

theorem chunk_apply (a : FVec Ideal S1024x1024 .f32) (h : Fin 8) (r : Fin 4) (p : Fin 256) (d : Fin 128) :
    chunk (slab a h) r (ix2 p d) = a (ix2 (⟨256 * r.val + p.val, by omega⟩ : Fin 1024) (bcol h d)) := by
  refine Eq.trans ?_ (slab_apply a h (⟨256 * r.val + p.val, by omega⟩ : Fin 1024) d)
  refine congrArg (slab a h) (funext fun a => ?_)
  match a with
  | ⟨0, _⟩ => rfl
  | ⟨1, _⟩ => rfl

theorem tile_apply (s : FVec Ideal S256x128 .f32) (g : FVec Ideal S1x128 .f32) (cs sn : FVec Ideal S1x256x128 .f32) (p : Fin 256) (d : Fin 128) :
    tile s g cs sn (ix4 (0 : Fin 1) (0 : Fin 1) p d)
      = Cert.Nat.normed (fun e => s (ix2 p e)) (fun e => g (ix2 (0 : Fin 1) e)) d * shapeCast S256x128 cs shapeCasts_S1x256x128_S256x128 (ix2 p d)
        + Cert.Nat.normed (fun e => s (ix2 p e)) (fun e => g (ix2 (0 : Fin 1) e)) (Cert.Rotate.other d) * shapeCast S256x128 sn shapeCasts_S1x256x128_S256x128 (ix2 p d) := by
  unfold tile
  dsimp only
  rw [turn4_apply, norm4_apply, norm4_apply]

/-- The block at an element. -/
theorem out_apply (x0 x1 : Vec Ideal S1024x4096 .bf16) (x2 x3 : Vec Ideal S1x1024 .f32) (x5 x6 : Vec Ideal S1x1024x128 .f32) (h : Fin 8) (s : Fin 1024) (d : Fin 128)
    (z g : Fin 128 → EReal) (hz : ∀ e, (∑ k : Fin 4096, x0 (ix2 s k) * x1 (ix2 (bcol h e) k)) + x2 (ix2 (0 : Fin 1) (bcol h e)) = z e)
    (hg : ∀ e, x3 (ix2 (0 : Fin 1) (bcol h e)) = g e) :
    outRope x0 x1 x2 x3 x5 x6 (ix4 (0 : Fin 1) h s d)
      = Cert.Nat.normed z g d * x5 (ix3 (0 : Fin 1) s d) + Cert.Nat.normed z g (Cert.Rotate.other d) * x6 (ix3 (0 : Fin 1) s d) := by
  unfold outRope tiles
  rw [gather4_apply, tile_apply]
  have hw : ∀ e : Fin 128, (∑ k : Fin 4096, x0 (ix2 (⟨256 * (s.val / 256) + s.val % 256, by omega⟩ : Fin 1024) k) * x1 (ix2 (bcol h e) k)) + x2 (ix2 (0 : Fin 1) (bcol h e)) = z e := fun e => by
    rw [whole4 s (by omega)]; exact hz e
  simp only [chunk_apply, lane_apply, acc_apply, hw, hg]
  exact congrArg₂ (fun u v => Cert.Nat.normed z g d * u + Cert.Nat.normed z g (Cert.Rotate.other d) * v)
    ((part4_apply x5 _ _ d).trans (congrArg (fun r => x5 (ix3 (0 : Fin 1) r d)) (whole4 s (by omega))))
    ((part4_apply x6 _ _ d).trans (congrArg (fun r => x6 (ix3 (0 : Fin 1) r d)) (whole4 s (by omega))))

end Cert.RopeKernelIdeal.Hand

end
-- ==== Proof.RopeGains.lean ====
/-
  The row of gains the region finds, column by column: queries and keys have three groups of 1024 columns each, and every
  head of a group has the group's gains.
-/
module

public import proofs.«01_k».proof.Proof.RopeLaunch
public import proofs.«01_k».proof.Proof.DilGains
public import Idealize.ShloMosaic.Lib.ValueIdx
public import Idealize.ShloMosaic.Lib.Pipeline.Value

@[expose] public section

noncomputable section

namespace Cert.RopeKernelIdeal.Hand

open Cert.RopeKernelIdeal Cert.RopeKernelIdeal.Gen Idealize.ShloMosaic Idealize.ShloMosaic.TcCoe Idealize.SL.Sem
open Idealize.ShloMosaic.ValueIdx
open scoped BigOperators
open Cert.DilKernelIdeal.Hand (flat_apply pick pick_apply eights_apply)

variable (m : (ℓ : Loc nD τ sig) → Buf (Elt Ideal) ℓ)

set_option maxHeartbeats 4000000 in
/-- The prepared gains: nine rows of 2048 side by side. -/
theorem gains_eq (c : Dev nD) : V m c main_v166 = shapeCast S1x18432
    (concatenate S18432 0 [⟨S2048, V m c main_v156⟩, ⟨S2048, V m c main_v157⟩, ⟨S2048, V m c main_v158⟩, ⟨S2048, V m c main_v159⟩,
      ⟨S2048, V m c main_v160⟩, ⟨S2048, V m c main_v161⟩, ⟨S2048, V m c main_v162⟩, ⟨S2048, V m c main_v163⟩, ⟨S2048, V m c main_v164⟩]
      concatenates_S2048_S2048_S2048_S2048_S2048_S2048_S2048_S2048_S2048_S18432_d0 : FVec Ideal S18432 .f32) shapeCasts_S18432_S1x18432 := by
  unfold V
  after_results
  rfl

/-- The first two of them, two groups of gains each: queries 0 and 1, -/
theorem gains_0 (c : Dev nD) (n : Fin 2048) : V m c main_v156 (ix1 n)
    = (if n.val / 128 < 8 then pick (m ((c : Thread nD τ).loc main_arg3)) 0 else pick (m ((c : Thread nD τ).loc main_arg3)) 1)
        (ix1 (⟨n.val % 128, Nat.mod_lt _ (by decide)⟩ : Fin 128)) := by
  refine Eq.trans (congrFun ?_ (ix1 n)) (eights_apply _ _ n
    concatenates_S128_S128_S128_S128_S128_S128_S128_S128_S128_S128_S128_S128_S128_S128_S128_S128_S2048_d0)
  unfold V
  after_results
  rfl

/-- and queries 2 and keys 0. -/
theorem gains_1 (c : Dev nD) (n : Fin 2048) : V m c main_v157 (ix1 n)
    = (if n.val / 128 < 8 then pick (m ((c : Thread nD τ).loc main_arg3)) 2 else pick (m ((c : Thread nD τ).loc main_arg4)) 0)
        (ix1 (⟨n.val % 128, Nat.mod_lt _ (by decide)⟩ : Fin 128)) := by
  refine Eq.trans (congrFun ?_ (ix1 n)) (eights_apply _ _ n
    concatenates_S128_S128_S128_S128_S128_S128_S128_S128_S128_S128_S128_S128_S128_S128_S128_S128_S2048_d0)
  unfold V
  after_results
  rfl

theorem piece_0 (c : Dev nD) (n : Fin 18432) (u : Fin 2048) (h : n.val = 0 + u.val) :
    V m c main_v166 (ix2 (0 : Fin 1) n) = V m c main_v156 (ix1 u) := by
  rw [gains_eq, flat_apply]
  refine concatenate_apply_piece (t := S18432) (0 : Fin 1) _ _ (ix1 n) 0 ?_ S2048 _ ?_ rfl 0 ?_ (ix1 u)
    (fun b hb => absurd (Subsingleton.elim _ _) hb) h.symm
  · exact (by decide : 0 < 9)
  · rfl
  · exact (by decide +kernel : (([] : List Shape).map fun s => if h : s.rank = S18432.rank then s.size ((0 : Fin S18432.rank).cast h.symm) else 0).sum = 0)

theorem piece_1 (c : Dev nD) (n : Fin 18432) (u : Fin 2048) (h : n.val = 2048 + u.val) :
    V m c main_v166 (ix2 (0 : Fin 1) n) = V m c main_v157 (ix1 u) := by
  rw [gains_eq, flat_apply]
  refine concatenate_apply_piece (t := S18432) (0 : Fin 1) _ _ (ix1 n) 1 ?_ S2048 _ ?_ rfl 2048 ?_ (ix1 u)
    (fun b hb => absurd (Subsingleton.elim _ _) hb) h.symm
  · exact (by decide : 1 < 9)
  · rfl
  · exact (by decide +kernel : (([S2048] : List Shape).map fun s => if h : s.rank = S18432.rank then s.size ((0 : Fin S18432.rank).cast h.symm) else 0).sum = 2048)

/-- The gains of the queries of group 0, -/
theorem gain_q0 (c : Dev nD) (n : Fin 18432) (u : Fin 1024) (h : n.val = u.val) : V m c main_v166 (ix2 (0 : Fin 1) n)
    = m ((c : Thread nD τ).loc main_arg3) (ix3 (0 : Fin 1) (0 : Fin 3) (⟨u.val % 128, Nat.mod_lt _ (by decide)⟩ : Fin 128)) := by
  rw [piece_0 m c n (⟨u.val, by omega⟩ : Fin 2048) (by show n.val = 0 + u.val; omega), gains_0,
    if_pos (by show u.val / 128 < 8; omega), pick_apply]

/-- and of the keys of group 0. -/
theorem gain_k0 (c : Dev nD) (n : Fin 18432) (u : Fin 1024) (h : n.val = 3072 + u.val) : V m c main_v166 (ix2 (0 : Fin 1) n)
    = m ((c : Thread nD τ).loc main_arg4) (ix3 (0 : Fin 1) (0 : Fin 3) (⟨u.val % 128, Nat.mod_lt _ (by decide)⟩ : Fin 128)) := by
  rw [piece_1 m c n (⟨1024 + u.val, by omega⟩ : Fin 2048) (by show n.val = 2048 + (1024 + u.val); omega), gains_1,
    if_neg (by show ¬ (1024 + u.val) / 128 < 8; omega), pick_apply]
  exact congrArg (fun x : Fin 128 => m ((c : Thread nD τ).loc main_arg4) (ix3 (0 : Fin 1) (0 : Fin 3) x)) (Fin.ext (by show (1024 + u.val) % 128 = u.val % 128; omega))

end Cert.RopeKernelIdeal.Hand

end
-- ==== Proof.RopeTables.lean ====
/-
  The tables of cosines and sines the region finds, element by element. Each holds four layers of 4096 rows; layer 1 lists
  the rows in the order of stride 4, layer 2 in the order of stride 16, and layer 3 is the constant that turns nothing.
-/
module

public import proofs.«01_k».proof.Proof.RopeLaunch
public import proofs.«01_k».proof.Proof.RopeSpec
public import Idealize.ShloMosaic.Lib.ValueIdx
public import Idealize.ShloMosaic.Lib.Pipeline.Value

@[expose] public section

noncomputable section

namespace Cert.RopeKernelIdeal.Hand

open Cert.RopeKernelIdeal Cert.RopeKernelIdeal.Gen Idealize.ShloMosaic Idealize.ShloMosaic.TcCoe Idealize.SL.Sem
open Idealize.ShloMosaic.ValueIdx

variable (m : (ℓ : Loc nD τ sig) → Buf (Elt Ideal) ℓ)

set_option maxHeartbeats 4000000 in
/-- The angles. -/
theorem angle_apply (c : Dev nD) (s : Fin 4096) (j : Fin 64) : V m c main_v12 (ix2 s j) = Cert.Rotate.angle s j := by
  have e : (V m c main_v12 : FVec Ideal S4096x64 .f32) = mulf
      (broadcastInDim S4096x64 ![0, 1] bcast_S4096x1_S4096x64_0_1 (broadcastInDim S4096x1 ![0] bcast_S4096_S4096x1_0 (sitofp (F := Ideal) .f32 (iotaInDim S4096 32 0))))
      (broadcastInDim S4096x64 ![0, 1] bcast_S1x64_S4096x64_0_1 (broadcastInDim S1x64 ![1] bcast_S64_S1x64_1
        (Host.powf (broadcastInDim S64 ![] bcast_S_S64 (constant (F := Ideal) S_ .f32 0x461C4000#32))
          (Host.divf (Host.negf (sitofp (F := Ideal) .f32 (iotaInDim S64 32 0))) (broadcastInDim S64 ![] bcast_S_S64 (constant (F := Ideal) S_ .f32 0x42800000#32)))))) := by
    unfold V
    after_results
  rw [e]
  rfl

/-- A table's rows in the order of stride 1, which is their own. -/
theorem perm_apply (x : FVec Ideal S4096x128 .f32) (p : Fin 4096) (d : Fin 128) :
    shapeCast S4096x128 (transpose S4x1x1024x128 [0, 2, 1, 3] (shapeCast S4x1024x1x128 x shapeCasts_S4096x128_S4x1024x1x128)
      transposes_S4x1024x1x128_S4x1x1024x128_0_2_1_3) shapeCasts_S4x1x1024x128_S4096x128 (ix2 p d) = x (ix2 p d) := by
  have hp := p.isLt
  have hd := d.isLt
  refine (shapeCast_apply _ _ (ix2 p d) (ix4 (⟨p.val / 1024, by omega⟩ : Fin 4) (0 : Fin 1) (⟨p.val % 1024, by omega⟩ : Fin 1024) d) (by
    rewrite [Shape.rowMajor_val_four, Shape.rowMajor_val_two]
    show ((p.val / 1024 * 1 + 0) * 1024 + p.val % 1024) * 128 + d.val = p.val * 128 + d.val
    omega)).trans ?_
  refine (transpose_apply _ _ _ _ (ix4 (⟨p.val / 1024, by omega⟩ : Fin 4) (⟨p.val % 1024, by omega⟩ : Fin 1024) (0 : Fin 1) d) (fun b => match b with
    | ⟨0, _⟩ => rfl
    | ⟨1, _⟩ => rfl
    | ⟨2, _⟩ => rfl
    | ⟨3, _⟩ => rfl)).trans ?_
  exact shapeCast_apply _ _ _ (ix2 p d) (by
    rewrite [Shape.rowMajor_val_four, Shape.rowMajor_val_two]
    show p.val * 128 + d.val = ((p.val / 1024 * 1024 + p.val % 1024) * 1 + 0) * 128 + d.val
    omega)

/-- The cosines before they are reordered, -/
theorem cosine_apply (c : Dev nD) (s : Fin 4096) (d : Fin 128) : V m c main_v15 (ix2 s d) = Cert.Rotate.cosine s d := by
  have e : (V m c main_v15 : FVec Ideal S4096x128 .f32) = concatenate S4096x128 1
      [⟨S4096x64, Host.cos (F := Ideal) (φ := .f32) (V m c main_v12)⟩, ⟨S4096x64, Host.cos (F := Ideal) (φ := .f32) (V m c main_v12)⟩] concatenates_S4096x64_S4096x64_S4096x128_d1 := by
    unfold V
    after_results
  rw [e]
  refine (Cert.Rotate.cosines_apply _ _ s d).trans ?_
  rw [angle_apply]
  rfl

/-- and the sines. -/
theorem sine_apply (c : Dev nD) (s : Fin 4096) (d : Fin 128) : V m c main_v17 (ix2 s d) = Cert.Rotate.sine s d := by
  have e : (V m c main_v17 : FVec Ideal S4096x128 .f32) = concatenate S4096x128 1
      [⟨S4096x64, Host.negf (Host.sin (F := Ideal) (φ := .f32) (V m c main_v12))⟩, ⟨S4096x64, Host.sin (F := Ideal) (φ := .f32) (V m c main_v12)⟩] concatenates_S4096x64_S4096x64_S4096x128_d1 := by
    unfold V
    after_results
  rw [e]
  refine (Cert.Rotate.sines_apply _ _ s d).trans ?_
  rw [angle_apply]
  rfl

/-! ## The layers of the cosines -/

set_option maxHeartbeats 4000000 in
theorem cosines_eq (c : Dev nD) : V m c main_v32 = (concatenate S4x4096x128 0
      [⟨S1x4096x128, V m c main_v28⟩, ⟨S1x4096x128, V m c main_v29⟩, ⟨S1x4096x128, V m c main_v30⟩, ⟨S1x4096x128, V m c main_v31⟩]
      concatenates_S1x4096x128_S1x4096x128_S1x4096x128_S1x4096x128_S4x4096x128_d0 : FVec Ideal S4x4096x128 .f32) := by
  unfold V
  after_results
  rfl

theorem cosine_layer (c : Dev nD) (p : Fin 4096) (d : Fin 128) : V m c main_v28 (ix3 (0 : Fin 1) p d) = Cert.Rotate.cosine p d := by
  have e : (V m c main_v28 : FVec Ideal S1x4096x128 .f32) = broadcastInDim S1x4096x128 ![1, 2] bcast_S4096x128_S1x4096x128_1_2
      (shapeCast S4096x128 (transpose S4x1x1024x128 [0, 2, 1, 3] (shapeCast S4x1024x1x128 (V m c main_v15) shapeCasts_S4096x128_S4x1024x1x128)
        transposes_S4x1024x1x128_S4x1x1024x128_0_2_1_3) shapeCasts_S4x1x1024x128_S4096x128) := by
    unfold V
    after_results
    rfl
  rw [e]
  refine (broadcastInDim_apply _ _ _ (ix3 (0 : Fin 1) p d) (ix2 p d) (fun a => match a with
    | ⟨0, _⟩ => rfl
    | ⟨1, _⟩ => rfl)).trans ?_
  exact (perm_apply _ p d).trans (cosine_apply m c _ d)

/-- The first layer is the cosines. -/
theorem cosines_0 (c : Dev nD) (p : Fin 4096) (d : Fin 128) : V m c main_v32 (ix3 (0 : Fin 4) p d) = Cert.Rotate.cosine p d := by
  rw [cosines_eq]
  refine Eq.trans ?_ (cosine_layer m c p d)
  refine concatenate_apply_piece (t := S4x4096x128) (0 : Fin 3) _ _ (ix3 (0 : Fin 4) p d) 0 ?_ S1x4096x128 _ ?_ rfl 0 ?_ (ix3 (0 : Fin 1) p d) (fun b hb => match b, hb with
      | ⟨0, _⟩, hb => absurd rfl hb
      | ⟨1, _⟩, _ => rfl
      | ⟨2, _⟩, _ => rfl) rfl
  · exact (by decide : 0 < 4)
  · rfl
  · exact (by decide +kernel : (([] : List Shape).map fun s => if h : s.rank = S4x4096x128.rank then s.size ((0 : Fin S4x4096x128.rank).cast h.symm) else 0).sum = 0)

/-! ## The layers of the sines -/

set_option maxHeartbeats 4000000 in
theorem sines_eq (c : Dev nD) : V m c main_v47 = (concatenate S4x4096x128 0
      [⟨S1x4096x128, V m c main_v43⟩, ⟨S1x4096x128, V m c main_v44⟩, ⟨S1x4096x128, V m c main_v45⟩, ⟨S1x4096x128, V m c main_v46⟩]
      concatenates_S1x4096x128_S1x4096x128_S1x4096x128_S1x4096x128_S4x4096x128_d0 : FVec Ideal S4x4096x128 .f32) := by
  unfold V
  after_results
  rfl

theorem sine_layer (c : Dev nD) (p : Fin 4096) (d : Fin 128) : V m c main_v43 (ix3 (0 : Fin 1) p d) = Cert.Rotate.sine p d := by
  have e : (V m c main_v43 : FVec Ideal S1x4096x128 .f32) = broadcastInDim S1x4096x128 ![1, 2] bcast_S4096x128_S1x4096x128_1_2
      (shapeCast S4096x128 (transpose S4x1x1024x128 [0, 2, 1, 3] (shapeCast S4x1024x1x128 (V m c main_v17) shapeCasts_S4096x128_S4x1024x1x128)
        transposes_S4x1024x1x128_S4x1x1024x128_0_2_1_3) shapeCasts_S4x1x1024x128_S4096x128) := by
    unfold V
    after_results
    rfl
  rw [e]
  refine (broadcastInDim_apply _ _ _ (ix3 (0 : Fin 1) p d) (ix2 p d) (fun a => match a with
    | ⟨0, _⟩ => rfl
    | ⟨1, _⟩ => rfl)).trans ?_
  exact (perm_apply _ p d).trans (sine_apply m c _ d)

/-- The first layer is the sines. -/
theorem sines_0 (c : Dev nD) (p : Fin 4096) (d : Fin 128) : V m c main_v47 (ix3 (0 : Fin 4) p d) = Cert.Rotate.sine p d := by
  rw [sines_eq]
  refine Eq.trans ?_ (sine_layer m c p d)
  refine concatenate_apply_piece (t := S4x4096x128) (0 : Fin 3) _ _ (ix3 (0 : Fin 4) p d) 0 ?_ S1x4096x128 _ ?_ rfl 0 ?_ (ix3 (0 : Fin 1) p d) (fun b hb => match b, hb with
      | ⟨0, _⟩, hb => absurd rfl hb
      | ⟨1, _⟩, _ => rfl
      | ⟨2, _⟩, _ => rfl) rfl
  · exact (by decide : 0 < 4)
  · rfl
  · exact (by decide +kernel : (([] : List Shape).map fun s => if h : s.rank = S4x4096x128.rank then s.size ((0 : Fin S4x4096x128.rank).cast h.symm) else 0).sum = 0)

end Cert.RopeKernelIdeal.Hand

end
-- ==== Proof.RopeBlock.lean ====
/-
  The blocks of the rotated head projections' windows, element by element, as the program's arguments.
-/
module

public import proofs.«01_k».proof.Proof.RopeFrame
public import proofs.«01_k».proof.Proof.RopePoint
public import proofs.«01_k».proof.Proof.RopeSpec
public import proofs.«01_k».proof.Proof.RopeGains
public import proofs.«01_k».proof.Proof.RopeTables
public import Idealize.ShloMosaic.Lib.Pipeline.Value

@[expose] public section

noncomputable section

namespace Cert.RopeKernelIdeal.Hand

open Cert.RopeKernelIdeal Cert.RopeKernelIdeal.Gen Idealize.ShloMosaic Idealize.ShloMosaic.TcCoe Idealize.SL.Sem
open Idealize.ShloMosaic.ValueIdx
open scoped BigOperators
open Cert.DilKernelIdeal.Hand (flat_apply)

variable (m : (ℓ : Loc nD τ sig) → Buf (Elt Ideal) ℓ)

/-- A column of the heads among all the weight's columns. -/
abbrev wide (n : Fin 18432) : Fin 26640 := ⟨n.val, by omega⟩

/-- The prepared weight the region finds: the heads' columns of the weight, transposed. -/
theorem weight_apply (c : Dev nD) (n : Fin 18432) (k : Fin 4096) :
    V m c main_v51 (ix2 n k) = m ((c : Thread nD τ).loc main_arg1) (ix3 (0 : Fin 1) k (wide n)) := by
  have e : (V m c main_v51 : FVec Ideal S18432x4096 .bf16) = extractStridedSlice S18432x4096 ![0, 0]
      (truncf (F := Ideal) (φ := .f32) .bf16 (transpose S26640x4096 [1, 0] (shapeCast S4096x26640
      (m ((c : Thread nD τ).loc main_arg1)) shapeCasts_S1x4096x26640_S4096x26640) transposes_S4096x26640_S26640x4096_1_0) bitsLt_bf16_f32)
      slices_S26640x4096_S18432x4096_0_0 := by
    unfold V
    after_results
    rfl
  rw [e, extractStridedSlice_apply _ _ _ (ix2 n k) (ix2 (wide n) k) (fun a => match a with
    | ⟨0, _⟩ => (Nat.zero_add _).symm
    | ⟨1, _⟩ => (Nat.zero_add _).symm),
    truncf_apply, transpose_apply _ _ _ (ix2 (wide n) k) (ix2 k (wide n)) (fun b => match b with
    | ⟨0, _⟩ => rfl
    | ⟨1, _⟩ => rfl)]
  exact shapeCast_apply _ _ (ix2 k (wide n)) (ix3 (0 : Fin 1) k (wide n)) (by
    rewrite [Shape.rowMajor_val_three, Shape.rowMajor_val_two]
    show (0 * 4096 + k.val) * 26640 + n.val = k.val * 26640 + n.val
    omega)

/-- The prepared bias: the heads' columns of the bias. -/
theorem bias_apply (c : Dev nD) (n : Fin 18432) :
    V m c main_v54 (ix2 (0 : Fin 1) n) = m ((c : Thread nD τ).loc main_arg2) (ix2 (0 : Fin 1) (wide n)) := by
  have e : V m c main_v54 = shapeCast S1x18432 (shapeCast S18432 (extractStridedSlice S1x18432 ![0, 0]
      (m ((c : Thread nD τ).loc main_arg2)) slices_S1x26640_S1x18432_0_0) shapeCasts_S1x18432_S18432) shapeCasts_S18432_S1x18432 := by
    unfold V
    after_results
    rfl
  rw [e, flat_apply, shapeCast_apply _ _ (ix1 n) (ix2 (0 : Fin 1) n) (by
      rewrite [Shape.rowMajor_val_two, Shape.rowMajor_val_one]
      show 0 * 18432 + n.val = n.val
      omega)]
  exact extractStridedSlice_apply _ _ _ (ix2 (0 : Fin 1) n) (ix2 (0 : Fin 1) (wide n)) (fun a => match a with
    | ⟨0, _⟩ => rfl
    | ⟨1, _⟩ => (Nat.zero_add _).symm)

/-- The token block and the column block of a point. -/
abbrev tok (t : Fin (cfgT (F := Ideal)).N) : Fin 16 := grid0.coords t 0
abbrev cb (t : Fin (cfgT (F := Ideal)).N) : Fin 2 := grid0.coords t 1

theorem blk_lt : ∀ j : Fin 2, blk j ≤ 3 := by decide

/-- The token that row `s` of a block is. -/
abbrev row (t : Fin (cfgT (F := Ideal)).N) (s : Fin 1024) : Fin 16384 := ⟨1024 * (tok t).val + s.val, by have := (tok t).isLt; omega⟩
/-- The column that column `q` of a block is. -/
abbrev bc (t : Fin (cfgT (F := Ideal)).N) (q : Fin 1024) : Fin 18432 := ⟨1024 * blk (cb t) + q.val, by have := blk_lt (cb t); omega⟩

theorem index_0 : ∀ i : grid0.Coords, cc0_transform_0 i = ![(i 0).val, 0] := by decide +kernel

/-- The input's block, read at an element. -/
theorem h_apply (c : Dev nD) (t : Fin (cfgT (F := Ideal)).N) (s : Fin 1024) (k : Fin 4096) :
    iblk m c 0 t (ix2 s k) = m ((c : Thread nD τ).loc main_arg0) (ix2 (row t s) k) := by
  rw [← V_main_arg0 m c]
  show V m c main_arg0 ((((cfgT (F := Ideal)).win 0).rect t).emb (ix2 s k)) = V m c main_arg0 (ix2 (row t s) k)
  refine congrArg (V m c main_arg0) (funext fun a => Fin.ext ?_)
  have f : ((cfgT (F := Ideal)).win 0).index t = ![(tok t).val, 0] := index_0 _
  match a with
  | ⟨0, _⟩ =>
    refine (((cfgT (F := Ideal)).win 0).rect_emb_val t (ix2 s k) 0).trans ?_
    rw [f]; show (tok t).val * 1024 + s.val = 1024 * (tok t).val + s.val; omega
  | ⟨1, _⟩ =>
    refine (((cfgT (F := Ideal)).win 0).rect_emb_val t (ix2 s k) 1).trans ?_
    rw [f]; show 0 * 4096 + k.val = k.val; omega

/-- The weight's block, read at an element. -/
theorem w_apply (c : Dev nD) (t : Fin (cfgT (F := Ideal)).N) (q : Fin 1024) (k : Fin 4096) :
    iblk m c 1 t (ix2 q k) = m ((c : Thread nD τ).loc main_arg1) (ix3 (0 : Fin 1) k (wide (bc t q))) := by
  rw [← weight_apply m c]
  show V m c main_v51 ((((cfgT (F := Ideal)).win 1).rect t).emb (ix2 q k)) = V m c main_v51 (ix2 (bc t q) k)
  refine congrArg (V m c main_v51) (funext fun a => Fin.ext ?_)
  have f : ((cfgT (F := Ideal)).win 1).index t = ![blk (cb t), 0] := ix_1 _
  match a with
  | ⟨0, _⟩ =>
    refine (((cfgT (F := Ideal)).win 1).rect_emb_val t (ix2 q k) 0).trans ?_
    rw [f]; show blk (cb t) * 1024 + q.val = 1024 * blk (cb t) + q.val; omega
  | ⟨1, _⟩ =>
    refine (((cfgT (F := Ideal)).win 1).rect_emb_val t (ix2 q k) 1).trans ?_
    rw [f]; show 0 * 4096 + k.val = k.val; omega

/-- The block of the row of biases, read at an element. -/
theorem b_apply (c : Dev nD) (t : Fin (cfgT (F := Ideal)).N) (q : Fin 1024) :
    iblk m c 2 t (ix2 (0 : Fin 1) q) = V m c main_v54 (ix2 (0 : Fin 1) (bc t q)) := by
  show V m c main_v54 ((((cfgT (F := Ideal)).win 2).rect t).emb (ix2 (0 : Fin 1) q)) = V m c main_v54 (ix2 (0 : Fin 1) (bc t q))
  refine congrArg (V m c main_v54) (funext fun a => Fin.ext ?_)
  have f : ((cfgT (F := Ideal)).win 2).index t = ![0, blk (cb t)] := ix_2 _
  match a with
  | ⟨0, _⟩ =>
    refine (((cfgT (F := Ideal)).win 2).rect_emb_val t (ix2 (0 : Fin 1) q) 0).trans ?_
    rw [f]; rfl
  | ⟨1, _⟩ =>
    refine (((cfgT (F := Ideal)).win 2).rect_emb_val t (ix2 (0 : Fin 1) q) 1).trans ?_
    rw [f]; show blk (cb t) * 1024 + q.val = 1024 * blk (cb t) + q.val; omega

/-- The block of the row of gains, read at an element. -/
theorem g_apply (c : Dev nD) (t : Fin (cfgT (F := Ideal)).N) (q : Fin 1024) :
    iblk m c 3 t (ix2 (0 : Fin 1) q) = V m c main_v166 (ix2 (0 : Fin 1) (bc t q)) := by
  show V m c main_v166 ((((cfgT (F := Ideal)).win 3).rect t).emb (ix2 (0 : Fin 1) q)) = V m c main_v166 (ix2 (0 : Fin 1) (bc t q))
  refine congrArg (V m c main_v166) (funext fun a => Fin.ext ?_)
  have f : ((cfgT (F := Ideal)).win 3).index t = ![0, blk (cb t)] := ix_3 _
  match a with
  | ⟨0, _⟩ =>
    refine (((cfgT (F := Ideal)).win 3).rect_emb_val t (ix2 (0 : Fin 1) q) 0).trans ?_
    rw [f]; rfl
  | ⟨1, _⟩ =>
    refine (((cfgT (F := Ideal)).win 3).rect_emb_val t (ix2 (0 : Fin 1) q) 1).trans ?_
    rw [f]; show blk (cb t) * 1024 + q.val = 1024 * blk (cb t) + q.val; omega

theorem tab_lt : ∀ j : Fin 2, tab j < 4 := by decide

/-- The table's layer and the position that a row of a block is. -/
abbrev layer (t : Fin (cfgT (F := Ideal)).N) : Fin 4 := ⟨tab (cb t), tab_lt _⟩
abbrev opos (t : Fin (cfgT (F := Ideal)).N) (s : Fin 1024) : Fin 4096 := ⟨1024 * ((tok t).val % 4) + s.val, by omega⟩

/-- The block of the table of cosines, read at an element. -/
theorem cs_apply (c : Dev nD) (t : Fin (cfgT (F := Ideal)).N) (s : Fin 1024) (d : Fin 128) :
    iblk m c 5 t (ix3 (0 : Fin 1) s d) = V m c main_v32 (ix3 (layer t) (opos t s) d) := by
  show V m c main_v32 ((((cfgT (F := Ideal)).win 5).rect t).emb (ix3 (0 : Fin 1) s d)) = V m c main_v32 (ix3 (layer t) (opos t s) d)
  refine congrArg (V m c main_v32) (funext fun a => Fin.ext ?_)
  have f : ((cfgT (F := Ideal)).win 5).index t = ![tab (cb t), (tok t).val % 4, 0] := ix_5 _
  match a with
  | ⟨0, _⟩ =>
    refine (((cfgT (F := Ideal)).win 5).rect_emb_val t (ix3 (0 : Fin 1) s d) 0).trans ?_
    rw [f]; show tab (cb t) * 1 + 0 = tab (cb t); omega
  | ⟨1, _⟩ =>
    refine (((cfgT (F := Ideal)).win 5).rect_emb_val t (ix3 (0 : Fin 1) s d) 1).trans ?_
    rw [f]; show (tok t).val % 4 * 1024 + s.val = 1024 * ((tok t).val % 4) + s.val; omega
  | ⟨2, _⟩ =>
    refine (((cfgT (F := Ideal)).win 5).rect_emb_val t (ix3 (0 : Fin 1) s d) 2).trans ?_
    rw [f]; show 0 * 128 + d.val = d.val; omega

/-- The block of the table of sines, read at an element. -/
theorem sn_apply (c : Dev nD) (t : Fin (cfgT (F := Ideal)).N) (s : Fin 1024) (d : Fin 128) :
    iblk m c 6 t (ix3 (0 : Fin 1) s d) = V m c main_v47 (ix3 (layer t) (opos t s) d) := by
  show V m c main_v47 ((((cfgT (F := Ideal)).win 6).rect t).emb (ix3 (0 : Fin 1) s d)) = V m c main_v47 (ix3 (layer t) (opos t s) d)
  refine congrArg (V m c main_v47) (funext fun a => Fin.ext ?_)
  have f : ((cfgT (F := Ideal)).win 6).index t = ![tab (cb t), (tok t).val % 4, 0] := ix_6 _
  match a with
  | ⟨0, _⟩ =>
    refine (((cfgT (F := Ideal)).win 6).rect_emb_val t (ix3 (0 : Fin 1) s d) 0).trans ?_
    rw [f]; show tab (cb t) * 1 + 0 = tab (cb t); omega
  | ⟨1, _⟩ =>
    refine (((cfgT (F := Ideal)).win 6).rect_emb_val t (ix3 (0 : Fin 1) s d) 1).trans ?_
    rw [f]; show (tok t).val % 4 * 1024 + s.val = 1024 * ((tok t).val % 4) + s.val; omega
  | ⟨2, _⟩ =>
    refine (((cfgT (F := Ideal)).win 6).rect_emb_val t (ix3 (0 : Fin 1) s d) 2).trans ?_
    rw [f]; show 0 * 128 + d.val = d.val; omega

end Cert.RopeKernelIdeal.Hand

end
-- ==== Proof.RopeArray.lean ====
/-
  The result of the rotated head projections after the run: the 32 blocks tile the array, and every one of them is its block of
  the heads of the arguments.
-/
module

public import proofs.«01_k».proof.Proof.RopeBlock

@[expose] public section

noncomputable section

namespace Cert.RopeKernelIdeal.Hand

open Cert.RopeKernelIdeal Cert.RopeKernelIdeal.Gen Idealize.ShloMosaic Idealize.ShloMosaic.TcCoe Idealize.SL.Sem
open Idealize.ShloMosaic.ValueIdx
open Idealize.ShloMosaic.Pipeline (Dat)
open scoped BigOperators
open Cert.DilKernelIdeal.Hand (bcol)

variable (m : (ℓ : Loc nD τ sig) → Buf (Elt Ideal) ℓ) (ρ : Dev nD → PrngReg)

/-- The heads of device `c`'s arguments: what the result array is shown to hold. -/
abbrev result (c : Dev nD) : Buf (Elt Ideal) ((c : Thread nD τ).loc main_v168) :=
  Cert.Rope.heads (m ((c : Thread nD τ).loc main_arg0)) (m ((c : Thread nD τ).loc main_arg1)) (m ((c : Thread nD τ).loc main_arg2))
    (m ((c : Thread nD τ).loc main_arg3)) (m ((c : Thread nD τ).loc main_arg4))

/-- Where an element of a block of the result stands: its sequence, its head, its position. -/
abbrev oseq (t : Fin (cfgT (F := Ideal)).N) : Fin 4 := ⟨(tok t).val / 4, by have := (tok t).isLt; omega⟩
abbrev ohead (t : Fin (cfgT (F := Ideal)).N) (h : Fin 8) : Fin 16 := ⟨8 * (cb t).val + h.val, by have := (cb t).isLt; omega⟩

theorem emb_out (t : Fin (cfgT (F := Ideal)).N) (h : Fin 8) (s : Fin 1024) (d : Fin 128) :
    (((cfgT (F := Ideal)).win 7).rect t).emb (ix4 (0 : Fin 1) h s d) = ix4 (oseq t) (ohead t h) (opos t s) d := by
  have f : ((cfgT (F := Ideal)).win 7).index t = ![(tok t).val / 4, (cb t).val, (tok t).val % 4, 0] := ix_7 _
  refine funext fun a => Fin.ext ?_
  match a with
  | ⟨0, _⟩ =>
    refine (((cfgT (F := Ideal)).win 7).rect_emb_val t (ix4 (0 : Fin 1) h s d) 0).trans ?_
    rw [f]; show (tok t).val / 4 * 1 + 0 = (tok t).val / 4; omega
  | ⟨1, _⟩ =>
    refine (((cfgT (F := Ideal)).win 7).rect_emb_val t (ix4 (0 : Fin 1) h s d) 1).trans ?_
    rw [f]; show (cb t).val * 8 + h.val = 8 * (cb t).val + h.val; omega
  | ⟨2, _⟩ =>
    refine (((cfgT (F := Ideal)).win 7).rect_emb_val t (ix4 (0 : Fin 1) h s d) 2).trans ?_
    rw [f]; show (tok t).val % 4 * 1024 + s.val = 1024 * ((tok t).val % 4) + s.val; omega
  | ⟨3, _⟩ =>
    refine (((cfgT (F := Ideal)).win 7).rect_emb_val t (ix4 (0 : Fin 1) h s d) 3).trans ?_
    rw [f]; show 0 * 128 + d.val = d.val; omega

theorem blk_eq : ∀ j : Fin 2, blk j = 3 * j.val := by decide

theorem wide_eq (t : Fin (cfgT (F := Ideal)).N) (h : Fin 8) (e : Fin 128) : wide (bc t (bcol h e)) = Cert.Rope.col (ohead t h) e :=
  Fin.ext (by
    have f := blk_eq (cb t)
    show 1024 * blk (cb t) + (128 * h.val + e.val) = 3072 * ((8 * (cb t).val + h.val) / 8) + 128 * ((8 * (cb t).val + h.val) % 8) + e.val
    omega)

/-- The token that row `s` of a block is. -/
theorem row_eq (t : Fin (cfgT (F := Ideal)).N) (s : Fin 1024) : row t s = Cert.Nat.token (oseq t) (opos t s) :=
  Fin.ext (by
    show 1024 * (tok t).val + s.val = 4096 * ((tok t).val / 4) + (1024 * ((tok t).val % 4) + s.val)
    omega)

/-- The projection a point computes at row `r` of its tokens. -/
theorem lin_eq (c : Dev nD) (t : Fin (cfgT (F := Ideal)).N) (h : Fin 8) (r : Fin 1024) (p : Fin 4096) (hr : row t r = Cert.Nat.token (oseq t) p) (e : Fin 128)
    (x0 x1 : FVec Ideal S1024x4096 .bf16) (x2 : FVec Ideal S1x1024 .f32) (h0 : x0 = iblk m c 0 t) (h1 : x1 = iblk m c 1 t) (h2 : x2 = iblk m c 2 t) :
    (∑ k : Fin 4096, x0 (ix2 r k) * x1 (ix2 (bcol h e) k)) + x2 (ix2 (0 : Fin 1) (bcol h e))
      = Cert.Nat.lin (m ((c : Thread nD τ).loc main_arg0)) (m ((c : Thread nD τ).loc main_arg1)) (m ((c : Thread nD τ).loc main_arg2))
          (Cert.Nat.token (oseq t) p) (Cert.Rope.col (ohead t h) e) := by
  have e0 : ∀ k, x0 (ix2 r k) = m ((c : Thread nD τ).loc main_arg0) (ix2 (Cert.Nat.token (oseq t) p) k) := fun k => by
    rw [h0, h_apply, hr]
  have e1 : ∀ k, x1 (ix2 (bcol h e) k) = m ((c : Thread nD τ).loc main_arg1) (ix3 (0 : Fin 1) k (Cert.Rope.col (ohead t h) e)) := fun k => by
    rw [h1, w_apply, wide_eq]
  have e2 : x2 (ix2 (0 : Fin 1) (bcol h e)) = m ((c : Thread nD τ).loc main_arg2) (ix2 (0 : Fin 1) (Cert.Rope.col (ohead t h) e)) := by
    rw [h2, b_apply, bias_apply, wide_eq]
  simp only [e0, e1, e2]
  rfl

theorem lane_eq (h : Fin 8) (e : Fin 128) (H) : (⟨(bcol h e).val % 128, H⟩ : Fin 128) = e :=
  Fin.ext (by have := h.isLt; have := e.isLt; show (128 * h.val + e.val) % 128 = e.val; omega)

theorem gain_eq (c : Dev nD) (t : Fin (cfgT (F := Ideal)).N) (h : Fin 8) (e : Fin 128) :
    iblk m c 3 t (ix2 (0 : Fin 1) (bcol h e)) = Cert.Rope.gain (m ((c : Thread nD τ).loc main_arg3)) (m ((c : Thread nD τ).loc main_arg4)) (ohead t h) e := by
  have hh := h.isLt
  have hb := blk_eq (cb t)
  have hn : (ohead t h).val = 8 * (cb t).val + h.val := rfl
  rw [g_apply]
  unfold Cert.Rope.gain
  rcases (by decide : ∀ j : Fin 2, j.val = 0 ∨ j.val = 1) (cb t) with hj | hj
  · rw [if_pos (by omega), gain_q0 m c _ (bcol h e) (by show 1024 * blk (cb t) + (128 * h.val + e.val) = 128 * h.val + e.val; omega), lane_eq]
  · rw [if_neg (by omega), gain_k0 m c _ (bcol h e) (by show 1024 * blk (cb t) + (128 * h.val + e.val) = 3072 + (128 * h.val + e.val); omega), lane_eq]

/-- Every point reads the first layer of the tables. -/
theorem layer_eq (t : Fin (cfgT (F := Ideal)).N) : layer t = (0 : Fin 4) := Fin.ext ((by decide : ∀ j : Fin 2, tab j = 0) (cb t))

theorem cs_eq (c : Dev nD) (t : Fin (cfgT (F := Ideal)).N) (s : Fin 1024) (d : Fin 128) :
    iblk m c 5 t (ix3 (0 : Fin 1) s d) = Cert.Rotate.cosine (opos t s) d := by
  rw [cs_apply, layer_eq]
  exact cosines_0 m c (opos t s) d

theorem sn_eq (c : Dev nD) (t : Fin (cfgT (F := Ideal)).N) (s : Fin 1024) (d : Fin 128) :
    iblk m c 6 t (ix3 (0 : Fin 1) s d) = Cert.Rotate.sine (opos t s) d := by
  rw [sn_apply, layer_eq]
  exact sines_0 m c (opos t s) d

/-- What a point leaves, element by element. -/
theorem outAt_apply (c : Dev nD) (t : Fin (cfgT (F := Ideal)).N) (h : Fin 8) (s : Fin 1024) (d : Fin 128) :
    outAt m c t (ix4 (0 : Fin 1) h s d) = result m c (ix4 (oseq t) (ohead t h) (opos t s) d) := by
  show _ = Cert.Rope.entry (m ((c : Thread nD τ).loc main_arg0)) (m ((c : Thread nD τ).loc main_arg1)) (m ((c : Thread nD τ).loc main_arg2))
    (m ((c : Thread nD τ).loc main_arg3)) (m ((c : Thread nD τ).loc main_arg4)) (oseq t) (ohead t h) (opos t s) d
  unfold outAt Cert.Rope.entry
  refine (out_apply _ _ _ _ _ _ h s d _ _ (fun e => lin_eq m c t h s _ (row_eq t s) e _ _ _ rfl rfl rfl) (gain_eq m c t h)).trans ?_
  rw [cs_eq m c t, sn_eq m c t]
  rfl

/-- What point `t` writes back is block `t` of the heads. -/
theorem flushed_eq (c : Dev nD) (t : Fin (cfgT (F := Ideal)).N) :
    (dats m 0 c).flushed 7 t = (((cfgT (F := Ideal)).win 7).blk t).view.read (Elt Ideal) (result m c) := by
  show ((cfgT (F := Ideal)).win 7).cut (grid0.coords t) ((dats m 0 c).after 7 t) = _
  rw [after_7]
  funext y
  obtain ⟨h, s, d, rfl⟩ : ∃ (h : Fin 8) (s : Fin 1024) (d : Fin 128), y = ix4 (0 : Fin 1) h s d :=
    ⟨y 1, y 2, y 3, funext fun a => match a with
      | ⟨0, _⟩ => Subsingleton.elim (α := Fin 1) _ _
      | ⟨1, _⟩ => rfl
      | ⟨2, _⟩ => rfl
      | ⟨3, _⟩ => rfl⟩
  show outAt m c t (ix4 (0 : Fin 1) h s d) = result m c ((((cfgT (F := Ideal)).win 7).rect t).emb (ix4 (0 : Fin 1) h s d))
  rw [emb_out, outAt_apply]

/-- Every point writes its block back. -/
theorem flush_7 (t : Fin (cfgT (F := Ideal)).N) : ((cfgT (F := Ideal)).win 7).flush t = true :=
  (by decide +kernel : ∀ t : Fin grid0.N, (true && (decide (t.val + 1 = grid0.N)
    || decide (∃ h : t.val + 1 < grid0.N, cc0_transform_7 (grid0.coords ⟨t.val + 1, h⟩) ≠ cc0_transform_7 (grid0.coords t)))) = true) t

theorem coords_eq : ∀ t : Fin grid0.N, (grid0.coords t 0).val = t.val / 2 ∧ (grid0.coords t 1).val = t.val % 2 := by decide +kernel

/-- Every index of the result array is in some point's block. -/
theorem cover (i : S4x16x4096x128.Idx) :
    ∃ t : Fin (cfgT (F := Ideal)).N, ((cfgT (F := Ideal)).win 7).flush t = true ∧ i ∈ (((cfgT (F := Ideal)).win 7).blk t).view.set := by
  have h0 : (i 0 : Nat) < 4 := (i 0).isLt
  have h1 : (i 1 : Nat) < 16 := (i 1).isLt
  have h2 : (i 2 : Nat) < 4096 := (i 2).isLt
  have hN : (cfgT (F := Ideal)).N = 32 := (by decide : grid0.N = 32)
  let t : Fin (cfgT (F := Ideal)).N := ⟨(4 * (i 0 : Nat) + (i 2 : Nat) / 1024) * 2 + (i 1 : Nat) / 8, by omega⟩
  have ht : (tok t).val = 4 * (i 0 : Nat) + (i 2 : Nat) / 1024 :=
    (coords_eq t).1.trans (by show ((4 * (i 0 : Nat) + (i 2 : Nat) / 1024) * 2 + (i 1 : Nat) / 8) / 2 = _; omega)
  have hb : (cb t).val = (i 1 : Nat) / 8 :=
    (coords_eq t).2.trans (by show ((4 * (i 0 : Nat) + (i 2 : Nat) / 1024) * 2 + (i 1 : Nat) / 8) % 2 = _; omega)
  refine ⟨t, flush_7 t, ?_⟩
  have e : i = (((cfgT (F := Ideal)).win 7).rect t).emb (ix4 (0 : Fin 1) (⟨(i 1 : Nat) % 8, by omega⟩ : Fin 8) (⟨(i 2 : Nat) % 1024, by omega⟩ : Fin 1024) (i 3)) := by
    refine Eq.trans ?_ (emb_out t _ _ _).symm
    refine funext fun a => Fin.ext ?_
    match a with
    | ⟨0, _⟩ => show (i 0 : Nat) = (tok t).val / 4; omega
    | ⟨1, _⟩ => show (i 1 : Nat) = 8 * (cb t).val + (i 1 : Nat) % 8; omega
    | ⟨2, _⟩ => show (i 2 : Nat) = 1024 * ((tok t).val % 4) + (i 2 : Nat) % 1024; omega
    | ⟨3, _⟩ => rfl
  rw [e]
  exact View.emb_mem_set (((cfgT (F := Ideal)).win 7).blk t).view _

/-- The result array after the run. -/
theorem final (c : Dev nD) : (dats m 0 c).arrAt 7 (cfgT (F := Ideal)).N = result m c :=
  (dats m 0 c).arrAt_eq_of_cover 7 _ (fun t _ => flushed_eq m c t) cover

end Cert.RopeKernelIdeal.Hand

end
-- ==== Proof.RopeRef.lean ====
/-
  What the rotated head projections' reference computes: read at an index, its one result is the heads of its arguments.
  The reference computes the turned queries and keys as the strided heads' reference does, and joins the heads of the
  first group.
-/
module

public import proofs.«01_k».proof.Proof.Gen.RopeReferenceIdeal.Read
public import proofs.«01_k».proof.Proof.RopeSpec
public import proofs.«01_k».proof.Proof.DilRef
public import Idealize.ShloMosaic.Lib.ValueIdx

@[expose] public section

noncomputable section

namespace Cert.RopeReferenceIdeal.Hand

open Cert.RopeReferenceIdeal Cert.RopeReferenceIdeal.Read Idealize.ShloMosaic Idealize.ShloMosaic.TcCoe Idealize.SL.Sem
open Idealize.ShloMosaic.ValueIdx
open Cert.DilReferenceIdeal.Hand (at3)
open scoped BigOperators

variable (x0 : (⟨S16384x4096, .bf16⟩ : BufTy).Contents (Elt Ideal)) (x1 : (⟨S1x4096x26640, .f32⟩ : BufTy).Contents (Elt Ideal))
  (x2 : (⟨S1x26640, .f32⟩ : BufTy).Contents (Elt Ideal)) (x3 x4 : (⟨S1x3x128, .f32⟩ : BufTy).Contents (Elt Ideal))

/-- The queries normalised and turned: as in the reference of the strided heads, -/
theorem turned_0 (q : Fin 4) (s : Fin 4096) (g : Fin 3) (h : Fin 8) (d : Fin 128) :
    val_main_v60 (F := Ideal) x0 x1 x2 x3 (ix5 q s g h d)
      = Cert.Rotate.rotated (Cert.Nat.normed (fun e => Cert.Nat.lin x0 x1 x2 (Cert.Nat.token q s) (at3 0 g h e)) (fun e => x3 (ix3 (0 : Fin 1) g e))) s d :=
  (congrFun (show val_main_v60 (F := Ideal) x0 x1 x2 x3 = Cert.DilReferenceIdeal.Read.val_main_v62 (F := Ideal) x0 x1 x2 x3 from rfl) _).trans
    (Cert.DilReferenceIdeal.Hand.turned_0 x0 x1 x2 x3 q s g h d)

/-- and the keys. -/
theorem turned_1 (q : Fin 4) (s : Fin 4096) (g : Fin 3) (h : Fin 8) (d : Fin 128) :
    val_main_v108 (F := Ideal) x0 x1 x2 x4 (ix5 q s g h d)
      = Cert.Rotate.rotated (Cert.Nat.normed (fun e => Cert.Nat.lin x0 x1 x2 (Cert.Nat.token q s) (at3 1 g h e)) (fun e => x4 (ix3 (0 : Fin 1) g e))) s d :=
  (congrFun (show val_main_v108 (F := Ideal) x0 x1 x2 x4 = Cert.DilReferenceIdeal.Read.val_main_v110 (F := Ideal) x0 x1 x2 x4 from rfl) _).trans
    (Cert.DilReferenceIdeal.Hand.turned_1 x0 x1 x2 x4 q s g h d)

theorem cut_110 (q : Fin 4) (s : Fin 4096) (h : Fin 8) (d : Fin 128) :
    val_main_v110 (F := Ideal) x0 x1 x2 x3 (ix4 q s h d) = val_main_v60 (F := Ideal) x0 x1 x2 x3 (ix5 q s (0 : Fin 3) h d) := by
  have hq := q.isLt
  have hs := s.isLt
  have hh := h.isLt
  have hd := d.isLt
  have e : idx_main_v109 (idx_main_v110 (ix4 q s h d)) = ix5 q s (0 : Fin 3) h d := funext fun a => Fin.ext (by
    match a with
    | ⟨0, _⟩ => show (((q.val * 4096 + s.val) * 8 + h.val) * 128 + d.val) / 4194304 = q.val; omega
    | ⟨1, _⟩ => show (((q.val * 4096 + s.val) * 8 + h.val) * 128 + d.val) / 1024 % 4096 = s.val; omega
    | ⟨2, _⟩ => rfl
    | ⟨3, _⟩ => show (((q.val * 4096 + s.val) * 8 + h.val) * 128 + d.val) / 128 % 8 = h.val; omega
    | ⟨4, _⟩ => show (((q.val * 4096 + s.val) * 8 + h.val) * 128 + d.val) % 128 = d.val; omega)
  rw [val_main_v110_apply, val_main_v109_apply, e]

theorem cut_112 (q : Fin 4) (s : Fin 4096) (h : Fin 8) (d : Fin 128) :
    val_main_v112 (F := Ideal) x0 x1 x2 x4 (ix4 q s h d) = val_main_v108 (F := Ideal) x0 x1 x2 x4 (ix5 q s (0 : Fin 3) h d) := by
  have hq := q.isLt
  have hs := s.isLt
  have hh := h.isLt
  have hd := d.isLt
  have e : idx_main_v111 (idx_main_v112 (ix4 q s h d)) = ix5 q s (0 : Fin 3) h d := funext fun a => Fin.ext (by
    match a with
    | ⟨0, _⟩ => show (((q.val * 4096 + s.val) * 8 + h.val) * 128 + d.val) / 4194304 = q.val; omega
    | ⟨1, _⟩ => show (((q.val * 4096 + s.val) * 8 + h.val) * 128 + d.val) / 1024 % 4096 = s.val; omega
    | ⟨2, _⟩ => rfl
    | ⟨3, _⟩ => show (((q.val * 4096 + s.val) * 8 + h.val) * 128 + d.val) / 128 % 8 = h.val; omega
    | ⟨4, _⟩ => show (((q.val * 4096 + s.val) * 8 + h.val) * 128 + d.val) % 128 = d.val; omega)
  rw [val_main_v112_apply, val_main_v111_apply, e]

/-- The heads joined. -/
theorem joined (q : Fin 4) (s : Fin 4096) (n : Fin 16) (d : Fin 128) :
    val_main_v113 (F := Ideal) x0 x1 x2 x3 x4 (ix4 q s n d) = Cert.Rope.entry x0 x1 x2 x3 x4 q n s d := by
  have hn := n.isLt
  have hcol : ∀ (part : Fin 3) (h : Fin 8) (e : Fin 128), n.val = 8 * part.val + h.val → at3 part (0 : Fin 3) h e = Cert.Rope.col n e := fun part h e hp =>
    Fin.ext (by
      have hh := h.isLt
      show 3072 * part.val + 1024 * 0 + 128 * h.val + e.val = 3072 * (n.val / 8) + 128 * (n.val % 8) + e.val
      omega)
  unfold Cert.Rope.entry val_main_v113
  rcases Nat.lt_or_ge n.val 8 with g | g
  · have hg : Cert.Rope.gain x3 x4 n = fun e => x3 (ix3 (0 : Fin 1) (0 : Fin 3) e) := funext fun e => if_pos g
    rw [hg]
    refine (concatenate_pair_apply_left (t := S4x4096x16x128) (s₁ := S4x4096x8x128) (s₂ := S4x4096x8x128) (2 : Fin 4) _ _ _ (ix4 q s n d) rfl
      (ix4 q s (⟨n.val, g⟩ : Fin 8) d) (fun b => match b with
        | ⟨0, _⟩ => rfl
        | ⟨1, _⟩ => rfl
        | ⟨2, _⟩ => rfl
        | ⟨3, _⟩ => rfl)).trans ?_
    rw [cut_110, turned_0]
    simp only [hcol 0 (⟨n.val, g⟩ : Fin 8) _ (by show n.val = 8 * 0 + n.val; omega)]
  · have hg : Cert.Rope.gain x3 x4 n = fun e => x4 (ix3 (0 : Fin 1) (0 : Fin 3) e) := funext fun e => if_neg (by omega)
    rw [hg]
    refine (concatenate_pair_apply_right (t := S4x4096x16x128) (s₁ := S4x4096x8x128) (s₂ := S4x4096x8x128) (2 : Fin 4) _ _ _ (ix4 q s n d) rfl rfl
      (ix4 q s (⟨n.val - 8, by omega⟩ : Fin 8) d) (fun b hb => match b, hb with
        | ⟨0, _⟩, _ => rfl
        | ⟨1, _⟩, _ => rfl
        | ⟨2, _⟩, hb => absurd rfl hb
        | ⟨3, _⟩, _ => rfl) (by show n.val - 8 + 8 = n.val; omega)).trans ?_
    rw [cut_112, turned_1]
    simp only [hcol 1 (⟨n.val - 8, by omega⟩ : Fin 8) _ (by show n.val = 8 * 1 + (n.val - 8); omega)]

/-- The reference's result is the heads of its arguments. -/
theorem result_eq : val_main_v115 (F := Ideal) x0 x1 x2 x3 x4 = Cert.Rope.heads x0 x1 x2 x3 x4 := by
  funext i
  obtain ⟨q, n, p, d, rfl⟩ : ∃ (q : Fin 4) (n : Fin 16) (p : Fin 4096) (d : Fin 128), i = ix4 q n p d :=
    ⟨i 0, i 1, i 2, i 3, funext fun a => match a with
      | ⟨0, _⟩ => rfl
      | ⟨1, _⟩ => rfl
      | ⟨2, _⟩ => rfl
      | ⟨3, _⟩ => rfl⟩
  have e : idx_main_v114 (ix4 q n p d) = ix4 q p n d := funext fun a => match a with
    | ⟨0, _⟩ => rfl
    | ⟨1, _⟩ => rfl
    | ⟨2, _⟩ => rfl
    | ⟨3, _⟩ => rfl
  rw [val_main_v115_apply, val_main_v114_apply, e]
  exact joined x0 x1 x2 x3 x4 q p n d

/-- Every run of the reference ends with the heads of its arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v115)
        = Cert.Rope.heads (m ((c : Thread nD τ).loc main_arg0)) (m ((c : Thread nD τ).loc main_arg1)) (m ((c : Thread nD τ).loc main_arg2))
          (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono
    (fun _ h c => ⟨(h c).1.trans ((val_main_v115_eq m c).trans (result_eq _ _ _ _ _)), (h c).2⟩)
    (Cert.RopeReferenceIdeal.Value.run (F := Ideal) m ρ)

end Cert.RopeReferenceIdeal.Hand

end
-- ==== Proof.Rope.lean ====
/-
  The rotated head projections' claims: the three frames, and that the two ideal runs end with equal results.
-/
module

public import proofs.«01_k».proof.Defs
public import proofs.«01_k».proof.Proof.RopeBitsFrame
public import proofs.«01_k».proof.Proof.RopeArray
public import proofs.«01_k».proof.Proof.RopeRef
public import Idealize.ShloMosaic.Lib.Quiescent

@[expose] public section

noncomputable section

namespace Cert.Rope

open Idealize.ShloMosaic Idealize.ShloMosaic.TcCoe Idealize.SL.Sem

/-- Every run of the kernel ends with its arguments unchanged and every semaphore at zero. -/
theorem frame_kernel : Cert.quiescent_RopeKernel := fun m ρ _ => Cert.RopeKernel.Hand.frame_any (F := Bits) m ρ

/-- The same of the kernel's ideal form. -/
theorem frame_ideal : Cert.quiescent_RopeKernelIdeal := fun m ρ _ => Cert.RopeKernelIdeal.Hand.frame_any (F := Ideal) m ρ

/-- The same of the reference, which raises no semaphore at all. -/
theorem frame_reference : Cert.quiescent_RopeReferenceIdeal := fun m ρ _ =>
  (θ_run Cert.RopeReferenceIdeal.defs _ _).mono
    (fun r h => ⟨fun c => (h c).2, sem_eq_zero_of_no_sems (by decide) r.2⟩)
    (Cert.RopeReferenceIdeal.Value.run (F := Ideal) m ρ)

/-- From equal arguments the kernel and the reference end with equal results. -/
theorem equal : Cert.algebraic_RopeKernelIdeal_RopeReferenceIdeal := by
  intro m ρ m' ρ' _ hagree
  refine ⟨fun c => Cert.RopeKernelIdeal.Hand.result m c,
    (θ_run Cert.RopeKernelIdeal.defs _ _).mono (fun _ h c => ⟨((h.1 c).1).trans (Cert.RopeKernelIdeal.Hand.final m c), (h.1 c).2⟩)
      (Cert.RopeKernelIdeal.Hand.run_named m ρ), ?_⟩
  refine (θ_run Cert.RopeReferenceIdeal.defs _ _).mono (fun _ h c => ⟨(h c).1.trans ?_, (h c).2⟩) (Cert.RopeReferenceIdeal.Hand.run m' ρ')
  rw [(hagree c).1, (hagree c).2.1, (hagree c).2.2.1, (hagree c).2.2.2.1, (hagree c).2.2.2.2.1]

end Cert.Rope

end
-- ==== Proof.OutSpec.lean ====
/-
  What the output projection computes, written once for both programs: entry (r, n) is the residual stream's entry plus the
  gate of the token's sequence and column times row `r` of the merged activations against column `n` of the weight.
-/
module

public import Idealize.ShloMosaic.PureOps.Ideal.Laws
public import Idealize.ShloMosaic.Lib.ValueIdx

@[expose] public section

noncomputable section

namespace Cert.Out

open Idealize.ShloMosaic Idealize.ShloMosaic.ValueIdx
open scoped BigOperators

/-- The sequence that token `r` belongs to: the four sequences of 4096 tokens stand one after the other. -/
abbrev sequence (r : Fin 16384) : Fin 4 := ⟨r.val / 4096, by have := r.isLt; omega⟩

/-- The layer's result at token `r` and column `n`. -/
def entry (y : (⟨2, ![16384, 4096]⟩ : Shape).Idx → EReal) (w : (⟨3, ![1, 4096, 4096]⟩ : Shape).Idx → EReal)
    (x : (⟨2, ![16384, 4096]⟩ : Shape).Idx → EReal) (g : (⟨2, ![4, 4096]⟩ : Shape).Idx → EReal) (r : Fin 16384) (n : Fin 4096) : EReal :=
  x (ix2 r n) + g (ix2 (sequence r) n) * ∑ k : Fin 4096, y (ix2 r k) * w (ix3 (0 : Fin 1) k n)

/-- The whole array. -/
def projected (y : (⟨2, ![16384, 4096]⟩ : Shape).Idx → EReal) (w : (⟨3, ![1, 4096, 4096]⟩ : Shape).Idx → EReal)
    (x : (⟨2, ![16384, 4096]⟩ : Shape).Idx → EReal) (g : (⟨2, ![4, 4096]⟩ : Shape).Idx → EReal) : (⟨2, ![16384, 4096]⟩ : Shape).Idx → EReal :=
  fun i => entry y w x g (i 0) (i 1)

end Cert.Out

end
-- ==== Proof.OutBlock.lean ====
/-
  What one grid point of the output projection writes: its block of 1024 tokens by 1024 columns, read element by element
  from the blocks the point reads.
-/
module

public import proofs.«01_k».proof.Proof.Gen.OutKernelIdeal.Value
public import proofs.«01_k».proof.Proof.OutSpec
public import Idealize.ShloMosaic.Lib.Pipeline.Value
public import Idealize.ShloMosaic.Lib.MatmulPlain

@[expose] public section

noncomputable section

namespace Cert.OutKernelIdeal.Hand

open Cert.OutKernelIdeal Cert.OutKernelIdeal.Gen Idealize.ShloMosaic Idealize.ShloMosaic.TcCoe Idealize.SL.Sem
open Idealize.ShloMosaic.ValueIdx
open Idealize.ShloMosaic.Pipeline (Dat)
open scoped BigOperators

/-- The body's payload read at row `p` and column `q` of its block. -/
theorem payload_apply (x0 : Vec Ideal S1024x4096 .bf16) (x1 : Vec Ideal S4096x1024 .bf16) (x2 : Vec Ideal S1024x1024 .f32)
    (x3 : Vec Ideal S1x1x1024 .f32) (p q : Fin 1024) :
    k0_pay1 (F := Ideal) x0 x1 x2 x3 (ix2 p q)
      = x2 (ix2 p q) + x3 (ix3 (0 : Fin 1) (0 : Fin 1) q) * ∑ k : Fin 4096, x0 (ix2 p k) * x1 (ix2 k q) := by
  have hm : matmul (F := Ideal) (φ₁ := .bf16) (φ₂ := .bf16) dot_S1024x4096_S4096x1024_S1024x1024_1_0_0_1_n_n none x0 x1
      (constant S1024x1024 .f32 0x00000000#32) (ix2 p q) = ∑ k : Fin 4096, x0 (ix2 p k) * x1 (ix2 k q) := by
    refine (Ideal.matmul_plain_apply none x0 x1 _ p q).trans ?_
    rw [constant_apply, Ideal.ofBits_zero_f32, zero_add]
  have hb : broadcastTo S1024x1024 (shapeCast S1x1024 x3 shapeCasts_S1x1x1024_S1x1024) broadcasts_S1x1024_S1024x1024 (ix2 p q)
      = x3 (ix3 (0 : Fin 1) (0 : Fin 1) q) :=
    (broadcastTo_apply _ broadcasts_S1x1024_S1024x1024 (ix2 p q) (ix2 (0 : Fin 1) q) (fun a => match a with
      | ⟨0, _⟩ => rfl
      | ⟨1, _⟩ => rfl)).trans (shapeCast_apply _ _ (ix2 (0 : Fin 1) q) (ix3 (0 : Fin 1) (0 : Fin 1) q) (by
        rewrite [Shape.rowMajor_val_three, Shape.rowMajor_val_two]
        show (0 * 1 + 0) * 1024 + q.val = 0 * 1024 + q.val
        omega))
  unfold k0_pay1
  rw [shapeCast_self x1]
  show x2 (ix2 p q) + broadcastTo S1024x1024 (shapeCast S1x1024 x3 shapeCasts_S1x1x1024_S1x1024) broadcasts_S1x1024_S1024x1024 (ix2 p q)
      * matmul (F := Ideal) (φ₁ := .bf16) (φ₂ := .bf16) dot_S1024x4096_S4096x1024_S1024x1024_1_0_0_1_n_n none x0 x1
        (constant S1024x1024 .f32 0x00000000#32) (ix2 p q) = _
  rw [hm, hb]

variable (m : (ℓ : Loc nD τ sig) → Buf (Elt Ideal) ℓ)

/-- The prepared weight the region finds, element by element. -/
theorem weight_apply (c : Dev nD) (k n : Fin 4096) :
    V m c main_v1 (ix2 k n) = m ((c : Thread nD τ).loc main_arg1) (ix3 (0 : Fin 1) k n) := by
  have e : (V m c main_v1 : FVec Ideal S4096x4096 .bf16) = truncf (F := Ideal) (φ := .f32) .bf16 (shapeCast S4096x4096
      (m ((c : Thread nD τ).loc main_arg1)) shapeCasts_S1x4096x4096_S4096x4096) bitsLt_bf16_f32 := by
    unfold V
    after_results
    rfl
  rw [e, truncf_apply]
  exact shapeCast_apply _ _ (ix2 k n) (ix3 (0 : Fin 1) k n) (by
    rewrite [Shape.rowMajor_val_three, Shape.rowMajor_val_two]
    show (0 * 4096 + k.val) * 4096 + n.val = k.val * 4096 + n.val
    omega)

/-- The prepared gate the region finds, element by element. -/
theorem gate_apply (c : Dev nD) (b : Fin 4) (n : Fin 4096) :
    V m c main_v2 (ix3 b (0 : Fin 1) n) = m ((c : Thread nD τ).loc main_arg3) (ix2 b n) := by
  have e : V m c main_v2 = shapeCast S4x1x4096 (m ((c : Thread nD τ).loc main_arg3)) shapeCasts_S4x4096_S4x1x4096 := by
    unfold V
    after_results
    rfl
  rw [e]
  exact shapeCast_apply _ _ (ix3 b (0 : Fin 1) n) (ix2 b n) (by
    rewrite [Shape.rowMajor_val_three, Shape.rowMajor_val_two]
    show b.val * 4096 + n.val = (b.val * 1 + 0) * 4096 + n.val
    omega)

/-- Where the windows stand at grid point `t`, row block `t / 4` and column block `t % 4`; four row blocks make a sequence. -/
theorem idx_facts : ∀ t : Fin cfg0.N,
    (win0_0.index t 0 = t.val / 4 ∧ win0_0.index t 1 = 0) ∧ (win0_1.index t 0 = 0 ∧ win0_1.index t 1 = t.val % 4)
    ∧ (win0_2.index t 0 = t.val / 4 ∧ win0_2.index t 1 = t.val % 4)
    ∧ (win0_3.index t 0 = t.val / 16 ∧ win0_3.index t 1 = 0 ∧ win0_3.index t 2 = t.val % 4)
    ∧ (win0_4.index t 0 = t.val / 4 ∧ win0_4.index t 1 = t.val % 4) :=
  (by decide +kernel : ∀ t : Fin grid0.N,
    (win0_0.index t 0 = t.val / 4 ∧ win0_0.index t 1 = 0) ∧ (win0_1.index t 0 = 0 ∧ win0_1.index t 1 = t.val % 4)
    ∧ (win0_2.index t 0 = t.val / 4 ∧ win0_2.index t 1 = t.val % 4)
    ∧ (win0_3.index t 0 = t.val / 16 ∧ win0_3.index t 1 = 0 ∧ win0_3.index t 2 = t.val % 4)
    ∧ (win0_4.index t 0 = t.val / 4 ∧ win0_4.index t 1 = t.val % 4))

/-- The token that row `p` of point `t`'s block is. -/
abbrev row (t : Fin cfg0.N) (p : Fin 1024) : Fin 16384 :=
  ⟨1024 * (t.val / 4) + p.val, by have := t.isLt; have h : cfg0.N = 64 := N_0; have := p.isLt; omega⟩

/-- The column that column `q` of point `t`'s block is. -/
abbrev ocol (t : Fin cfg0.N) (q : Fin 1024) : Fin 4096 :=
  ⟨1024 * (t.val % 4) + q.val, by have := q.isLt; omega⟩

/-- The activations' block at `t`, read at an element. -/
theorem yblk_apply (c : Dev nD) (t : Fin cfg0.N) (p : Fin 1024) (k : Fin 4096) :
    iblk m c 0 t (ix2 p k) = m ((c : Thread nD τ).loc main_arg0) (ix2 (row t p) k) := by
  rw [← V_main_arg0 m c]
  show V m c main_arg0 ((win0_0.rect t).emb (ix2 p k)) = V m c main_arg0 (ix2 (row t p) k)
  refine congrArg (V m c main_arg0) (funext fun a => Fin.ext ?_)
  have f := (idx_facts t).1
  match a with
  | ⟨0, _⟩ =>
    refine (win0_0.rect_emb_val t (ix2 p k) 0).trans ?_
    rw [f.1]; show t.val / 4 * 1024 + p.val = 1024 * (t.val / 4) + p.val; omega
  | ⟨1, _⟩ =>
    refine (win0_0.rect_emb_val t (ix2 p k) 1).trans ?_
    rw [f.2]; show 0 * 4096 + k.val = k.val; omega

/-- The weight's block at `t`, read at an element. -/
theorem wblk_apply (c : Dev nD) (t : Fin cfg0.N) (k : Fin 4096) (q : Fin 1024) :
    iblk m c 1 t (ix2 k q) = m ((c : Thread nD τ).loc main_arg1) (ix3 (0 : Fin 1) k (ocol t q)) := by
  rw [← weight_apply m c]
  show V m c main_v1 ((win0_1.rect t).emb (ix2 k q)) = V m c main_v1 (ix2 k (ocol t q))
  refine congrArg (V m c main_v1) (funext fun a => Fin.ext ?_)
  have f := (idx_facts t).2.1
  match a with
  | ⟨0, _⟩ =>
    refine (win0_1.rect_emb_val t (ix2 k q) 0).trans ?_
    rw [f.1]; show 0 * 4096 + k.val = k.val; omega
  | ⟨1, _⟩ =>
    refine (win0_1.rect_emb_val t (ix2 k q) 1).trans ?_
    rw [f.2]; show t.val % 4 * 1024 + q.val = 1024 * (t.val % 4) + q.val; omega

/-- The residual stream's block at `t`, read at an element. -/
theorem xblk_apply (c : Dev nD) (t : Fin cfg0.N) (p q : Fin 1024) :
    iblk m c 2 t (ix2 p q) = m ((c : Thread nD τ).loc main_arg2) (ix2 (row t p) (ocol t q)) := by
  rw [← V_main_arg2 m c]
  show V m c main_arg2 ((win0_2.rect t).emb (ix2 p q)) = V m c main_arg2 (ix2 (row t p) (ocol t q))
  refine congrArg (V m c main_arg2) (funext fun a => Fin.ext ?_)
  have f := (idx_facts t).2.2.1
  match a with
  | ⟨0, _⟩ =>
    refine (win0_2.rect_emb_val t (ix2 p q) 0).trans ?_
    rw [f.1]; show t.val / 4 * 1024 + p.val = 1024 * (t.val / 4) + p.val; omega
  | ⟨1, _⟩ =>
    refine (win0_2.rect_emb_val t (ix2 p q) 1).trans ?_
    rw [f.2]; show t.val % 4 * 1024 + q.val = 1024 * (t.val % 4) + q.val; omega

/-- The gate's block at `t`, read at an element: every row of the block takes its sequence's gate. -/
theorem gblk_apply (c : Dev nD) (t : Fin cfg0.N) (p q : Fin 1024) :
    iblk m c 3 t (ix3 (0 : Fin 1) (0 : Fin 1) q)
      = m ((c : Thread nD τ).loc main_arg3) (ix2 (Cert.Out.sequence (row t p)) (ocol t q)) := by
  rw [← gate_apply m c]
  show V m c main_v2 ((win0_3.rect t).emb (ix3 (0 : Fin 1) (0 : Fin 1) q))
    = V m c main_v2 (ix3 (Cert.Out.sequence (row t p)) (0 : Fin 1) (ocol t q))
  refine congrArg (V m c main_v2) (funext fun a => Fin.ext ?_)
  have f := (idx_facts t).2.2.2.1
  have hp := p.isLt
  match a with
  | ⟨0, _⟩ =>
    refine (win0_3.rect_emb_val t (ix3 (0 : Fin 1) (0 : Fin 1) q) 0).trans ?_
    rw [f.1]; show t.val / 16 * 1 + 0 = (1024 * (t.val / 4) + p.val) / 4096; omega
  | ⟨1, _⟩ =>
    refine (win0_3.rect_emb_val t (ix3 (0 : Fin 1) (0 : Fin 1) q) 1).trans ?_
    rw [f.2.1]; rfl
  | ⟨2, _⟩ =>
    refine (win0_3.rect_emb_val t (ix3 (0 : Fin 1) (0 : Fin 1) q) 2).trans ?_
    rw [f.2.2]; show t.val % 4 * 1024 + q.val = 1024 * (t.val % 4) + q.val; omega

end Cert.OutKernelIdeal.Hand

end
-- ==== Proof.OutArray.lean ====
/-
  The output projection's result after the run: the 64 blocks tile the array, and every one of them is its block of what
  the projection computes from the arguments.
-/
module

public import proofs.«01_k».proof.Proof.OutBlock

@[expose] public section

noncomputable section

namespace Cert.OutKernelIdeal.Hand

open Cert.OutKernelIdeal Cert.OutKernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The projection of device `c`'s arguments: what the result array is shown to hold. -/
abbrev result (c : Dev nD) : Buf (Elt Ideal) ((c : Thread nD τ).loc main_v3) :=
  Cert.Out.projected (m ((c : Thread nD τ).loc main_arg0)) (m ((c : Thread nD τ).loc main_arg1))
    (m ((c : Thread nD τ).loc main_arg2)) (m ((c : Thread nD τ).loc main_arg3))

theorem hz2 : (![0, 0] : Fin 2 → Nat) = fun _ => 0 := funext fun a => by fin_cases a <;> rfl
theorem hz3 : (![0, 0, 0] : Fin 3 → Nat) = fun _ => 0 := funext fun a => by fin_cases a <;> rfl

/-- Where an element of point `t`'s result block stands in the array. -/
theorem emb_out (t : Fin cfg0.N) (p q : Fin 1024) : (win0_4.rect t).emb (ix2 p q) = ix2 (row t p) (ocol t q) := by
  have f := (idx_facts t).2.2.2.2
  refine funext fun a => Fin.ext ?_
  match a with
  | ⟨0, _⟩ =>
    refine (win0_4.rect_emb_val t (ix2 p q) 0).trans ?_
    rw [f.1]; show t.val / 4 * 1024 + p.val = 1024 * (t.val / 4) + p.val; omega
  | ⟨1, _⟩ =>
    refine (win0_4.rect_emb_val t (ix2 p q) 1).trans ?_
    rw [f.2]; show t.val % 4 * 1024 + q.val = 1024 * (t.val % 4) + q.val; omega

/-- What point `t` writes back is block `t` of the projection. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero hz2, View.ld_unit_zero hz2, View.ld_unit_zero hz2, View.ld_unit_zero hz2, View.ld_unit_zero hz3]
  funext y
  obtain ⟨p, q, rfl⟩ : ∃ p q : Fin 1024, y = ix2 p q := ⟨y 0, y 1, eq_ix2 y⟩
  show k0_pay1 (F := Ideal) (iblk m c 0 t) (iblk m c 1 t) (iblk m c 2 t) (iblk m c 3 t) (ix2 p q)
    = result m c ((win0_4.rect t).emb (ix2 p q))
  rw [emb_out, payload_apply, xblk_apply m c t, gblk_apply m c t p q]
  simp only [yblk_apply m c t, wblk_apply m c t]
  rfl

/-- Every index of the result array is in some point's block. -/
theorem cover (i : S16384x4096.Idx) :
    ∃ t : Fin cfg0.N, (cfg0.win 4).flush t = true ∧ i ∈ ((cfg0.win 4).blk t).view.set := by
  have h0 : (i 0 : Nat) < 16384 := (i 0).isLt
  have h1 : (i 1 : Nat) < 4096 := (i 1).isLt
  have hN : cfg0.N = 64 := N_0
  let t : Fin cfg0.N := ⟨(i 0 : Nat) / 1024 * 4 + (i 1 : Nat) / 1024, by omega⟩
  have ht : t.val = (i 0 : Nat) / 1024 * 4 + (i 1 : Nat) / 1024 := rfl
  refine ⟨t, flush0_4 t, ?_⟩
  have e : i = (win0_4.rect t).emb (ix2 (⟨(i 0 : Nat) % 1024, by omega⟩ : Fin 1024) (⟨(i 1 : Nat) % 1024, by omega⟩ : Fin 1024)) := by
    rw [emb_out]
    refine funext fun a => Fin.ext ?_
    match a with
    | ⟨0, _⟩ => show (i 0 : Nat) = 1024 * (t.val / 4) + (i 0 : Nat) % 1024; omega
    | ⟨1, _⟩ => show (i 1 : Nat) = 1024 * (t.val % 4) + (i 1 : Nat) % 1024; omega
  rw [e]
  exact View.emb_mem_set ((cfg0.win 4).blk t).view _

/-- The result array after the run. -/
theorem final (c : Dev nD) : (dats m 0 c).arrAt 4 cfg0.N = result m c :=
  (dats m 0 c).arrAt_eq_of_cover 4 _ (fun t _ => flushed_eq m c t) cover

/-- The run, read: the result array is the projection, the arguments are unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.OutKernelIdeal.Hand

end
-- ==== Proof.OutRef.lean ====
/-
  What the output projection's reference computes: read at an index, its one result is the projection of its arguments.
-/
module

public import proofs.«01_k».proof.Proof.Gen.OutReferenceIdeal.Read
public import proofs.«01_k».proof.Proof.OutSpec

@[expose] public section

noncomputable section

namespace Cert.OutReferenceIdeal.Hand

open Cert.OutReferenceIdeal Cert.OutReferenceIdeal.Read Idealize.ShloMosaic Idealize.ShloMosaic.TcCoe Idealize.SL.Sem
open Idealize.ShloMosaic.ValueIdx
open scoped BigOperators

variable (x0 : (⟨S16384x4096, .bf16⟩ : BufTy).Contents (Elt Ideal)) (x1 : (⟨S1x4096x4096, .f32⟩ : BufTy).Contents (Elt Ideal))
  (x2 : (⟨S16384x4096, .f32⟩ : BufTy).Contents (Elt Ideal)) (x3 : (⟨S4x4096, .f32⟩ : BufTy).Contents (Elt Ideal))

/-- The product at token `r` and column `n`. -/
theorem product_apply (r : Fin 16384) (n : Fin 4096) :
    val_main_v2 (F := Ideal) x0 x1 (ix2 r n) = ∑ k : Fin 4096, x0 (ix2 r k) * x1 (ix3 (0 : Fin 1) k n) := by
  rw [val_main_v2_apply]
  refine Finset.sum_congr rfl fun k _ => ?_
  rw [val_main_v0_apply, val_main_v1_apply]
  have hk := k.isLt
  have hn := n.isLt
  have el : lidx_main_v2 (ix2 r n) k = ix2 r k := funext fun a => match a with
    | ⟨0, _⟩ => rfl
    | ⟨1, _⟩ => rfl
  have er : idx_main_v1 (ridx_main_v2 (ix2 r n) k) = ix3 (0 : Fin 1) k n := funext fun a => Fin.ext (by
    match a with
    | ⟨0, _⟩ => rfl
    | ⟨1, _⟩ => show (k.val * 4096 + n.val) / 4096 % 4096 = k.val; omega
    | ⟨2, _⟩ => show (k.val * 4096 + n.val) % 4096 = n.val; omega)
  rw [el, er]
  rfl

/-- The reference's result is the projection of its arguments. -/
theorem result_eq : val_main_v9 (F := Ideal) x0 x1 x2 x3 = Cert.Out.projected x0 x1 x2 x3 := by
  funext i
  obtain ⟨r, n, rfl⟩ : ∃ (r : Fin 16384) (n : Fin 4096), i = ix2 r n := ⟨i 0, i 1, eq_ix2 i⟩
  have hr := r.isLt
  have hn := n.isLt
  have e9 : idx_main_v9 (ix2 r n) = ix3 (Cert.Out.sequence r) (⟨r.val % 4096, by omega⟩ : Fin 4096) n := funext fun a => Fin.ext (by
    match a with
    | ⟨0, _⟩ => show (r.val * 4096 + n.val) / 16777216 = r.val / 4096; omega
    | ⟨1, _⟩ => show (r.val * 4096 + n.val) / 4096 % 4096 = r.val % 4096; omega
    | ⟨2, _⟩ => show (r.val * 4096 + n.val) % 4096 = n.val; omega)
  have e3 : idx_main_v3 (ix3 (Cert.Out.sequence r) (⟨r.val % 4096, by omega⟩ : Fin 4096) n) = ix2 r n := funext fun a => Fin.ext (by
    match a with
    | ⟨0, _⟩ => show ((r.val / 4096 * 4096 + r.val % 4096) * 4096 + n.val) / 4096 = r.val; omega
    | ⟨1, _⟩ => show ((r.val / 4096 * 4096 + r.val % 4096) * 4096 + n.val) % 4096 = n.val; omega)
  have e5 : idx_main_v5 (ix3 (Cert.Out.sequence r) (⟨r.val % 4096, by omega⟩ : Fin 4096) n) = ix2 r n := e3
  have e4 : idx_main_v4 (idx_main_v6 (ix3 (Cert.Out.sequence r) (⟨r.val % 4096, by omega⟩ : Fin 4096) n)) = ix2 (Cert.Out.sequence r) n :=
    funext fun a => match a with
    | ⟨0, _⟩ => rfl
    | ⟨1, _⟩ => rfl
  rw [val_main_v9_apply, e9, val_main_v8_apply, val_main_v3_apply, e3, val_main_v7_apply, val_main_v6_apply, val_main_v4_apply, e4,
    val_main_v5_apply, e5, product_apply]
  rfl

/-- Every run of the reference ends with the projection of its arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v9)
        = Cert.Out.projected (m ((c : Thread nD τ).loc main_arg0)) (m ((c : Thread nD τ).loc main_arg1))
          (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono
    (fun _ h c => ⟨(h c).1.trans ((val_main_v9_eq _ _ _ _).trans (result_eq _ _ _ _)), (h c).2⟩)
    (Cert.OutReferenceIdeal.Value.run (F := Ideal) m ρ)

end Cert.OutReferenceIdeal.Hand

end
-- ==== Proof.Out.lean ====
/-
  The output projection's claims: the three frames, and that the two ideal runs end with equal results.
-/
module

public import proofs.«01_k».proof.Defs
public import proofs.«01_k».proof.Proof.Gen.OutKernel.Frame
public import proofs.«01_k».proof.Proof.OutArray
public import proofs.«01_k».proof.Proof.OutRef
public import Idealize.ShloMosaic.Lib.Quiescent

@[expose] public section

noncomputable section

namespace Cert.Out

open Idealize.ShloMosaic Idealize.ShloMosaic.TcCoe Idealize.SL.Sem

/-- Every run of the kernel ends with its arguments unchanged and every semaphore at zero. -/
theorem frame_kernel : Cert.quiescent_OutKernel := fun m ρ _ => Cert.OutKernel.Gen.frame m ρ

/-- The same of the kernel's ideal form. -/
theorem frame_ideal : Cert.quiescent_OutKernelIdeal := fun m ρ _ => Cert.OutKernelIdeal.Gen.frame m ρ

/-- The same of the reference, which raises no semaphore at all. -/
theorem frame_reference : Cert.quiescent_OutReferenceIdeal := fun m ρ _ =>
  (θ_run Cert.OutReferenceIdeal.defs _ _).mono
    (fun r h => ⟨fun c => (h c).2, sem_eq_zero_of_no_sems (by decide) r.2⟩)
    (Cert.OutReferenceIdeal.Value.run (F := Ideal) m ρ)

/-- From equal arguments the kernel and the reference end with equal results. -/
theorem equal : Cert.algebraic_OutKernelIdeal_OutReferenceIdeal := by
  intro m ρ m' ρ' _ hagree
  refine ⟨fun c => Cert.OutKernelIdeal.Hand.result m c, Cert.OutKernelIdeal.Hand.run m ρ, ?_⟩
  refine (θ_run Cert.OutReferenceIdeal.defs _ _).mono (fun _ h c => ⟨(h c).1.trans ?_, (h c).2⟩) (Cert.OutReferenceIdeal.Hand.run m' ρ')
  rw [(hagree c).1, (hagree c).2.1, (hagree c).2.2.1, (hagree c).2.2.2]

end Cert.Out

end
-- ==== Proof.MergeSpec.lean ====
/-
  What the merge computes, written once for both programs: entry (r, n) is the first gate times the dilated attention's
  projection plus the second gate times the forgetting attention's projection.
-/
module

public import Idealize.ShloMosaic.PureOps.Ideal.Laws
public import Idealize.ShloMosaic.Lib.ValueIdx

@[expose] public section

noncomputable section

namespace Cert.Merge

open Idealize.ShloMosaic Idealize.ShloMosaic.ValueIdx
open scoped BigOperators

/-- The merged activation at token `r` and column `n`; the two gates stand in the two halves of the gates' columns. -/
def entry (ya : (⟨2, ![16384, 1024]⟩ : Shape).Idx → EReal) (yb : (⟨2, ![16384, 2048]⟩ : Shape).Idx → EReal)
    (wa : (⟨3, ![1, 1024, 4096]⟩ : Shape).Idx → EReal) (wb : (⟨3, ![1, 2048, 4096]⟩ : Shape).Idx → EReal)
    (g : (⟨2, ![16384, 8192]⟩ : Shape).Idx → EReal) (r : Fin 16384) (n : Fin 4096) : EReal :=
  g (ix2 r (⟨n.val, by have := n.isLt; omega⟩ : Fin 8192)) * (∑ k : Fin 1024, ya (ix2 r k) * wa (ix3 (0 : Fin 1) k n))
    + g (ix2 r (⟨4096 + n.val, by have := n.isLt; omega⟩ : Fin 8192)) * (∑ k : Fin 2048, yb (ix2 r k) * wb (ix3 (0 : Fin 1) k n))

/-- The whole array. -/
def merged (ya : (⟨2, ![16384, 1024]⟩ : Shape).Idx → EReal) (yb : (⟨2, ![16384, 2048]⟩ : Shape).Idx → EReal)
    (wa : (⟨3, ![1, 1024, 4096]⟩ : Shape).Idx → EReal) (wb : (⟨3, ![1, 2048, 4096]⟩ : Shape).Idx → EReal)
    (g : (⟨2, ![16384, 8192]⟩ : Shape).Idx → EReal) : (⟨2, ![16384, 4096]⟩ : Shape).Idx → EReal :=
  fun i => entry ya yb wa wb g (i 0) (i 1)

end Cert.Merge

end
-- ==== Proof.MergeBlock.lean ====
/-
  What one grid point of the merge writes: its block of 1024 tokens by 1024 columns, read element by element from the
  blocks the point reads. The gates are read by two windows, one on each half of their columns.
-/
module

public import proofs.«01_k».proof.Proof.Gen.MergeKernelIdeal.Value
public import proofs.«01_k».proof.Proof.MergeSpec
public import Idealize.ShloMosaic.Lib.Pipeline.Value
public import Idealize.ShloMosaic.Lib.MatmulPlain

@[expose] public section

noncomputable section

namespace Cert.MergeKernelIdeal.Hand

open Cert.MergeKernelIdeal Cert.MergeKernelIdeal.Gen Idealize.ShloMosaic Idealize.ShloMosaic.TcCoe Idealize.SL.Sem
open Idealize.ShloMosaic.ValueIdx
open Idealize.ShloMosaic.Pipeline (Dat)
open scoped BigOperators

/-- The body's payload read at row `p` and column `q` of its block. -/
theorem payload_apply (x0 x1 : Vec Ideal S1024x1024 .bf16) (x2 : Vec Ideal S1024x2048 .bf16) (x3 : Vec Ideal S2048x1024 .bf16)
    (x4 x5 : Vec Ideal S1024x1024 .bf16) (p q : Fin 1024) :
    k0_pay1 (F := Ideal) x0 x1 x2 x3 x4 x5 (ix2 p q)
      = x4 (ix2 p q) * (∑ k : Fin 1024, x0 (ix2 p k) * x1 (ix2 k q)) + x5 (ix2 p q) * (∑ k : Fin 2048, x2 (ix2 p k) * x3 (ix2 k q)) := by
  have ha : matmul (F := Ideal) (φ₁ := .bf16) (φ₂ := .bf16) dot_S1024x1024_S1024x1024_S1024x1024_1_0_0_1_n_n none x0 x1
      (constant S1024x1024 .f32 0x00000000#32) (ix2 p q) = ∑ k : Fin 1024, x0 (ix2 p k) * x1 (ix2 k q) := by
    refine (Ideal.matmul_plain_apply none x0 x1 _ p q).trans ?_
    rw [constant_apply, Ideal.ofBits_zero_f32, zero_add]
  have hb : matmul (F := Ideal) (φ₁ := .bf16) (φ₂ := .bf16) dot_S1024x2048_S2048x1024_S1024x1024_1_0_0_1_n_n none x2 x3
      (constant S1024x1024 .f32 0x00000000#32) (ix2 p q) = ∑ k : Fin 2048, x2 (ix2 p k) * x3 (ix2 k q) := by
    refine (Ideal.matmul_plain_apply none x2 x3 _ p q).trans ?_
    rw [constant_apply, Ideal.ofBits_zero_f32, zero_add]
  unfold k0_pay1
  simp only [shapeCast_self]
  show x4 (ix2 p q) * matmul (F := Ideal) (φ₁ := .bf16) (φ₂ := .bf16) dot_S1024x1024_S1024x1024_S1024x1024_1_0_0_1_n_n none x0 x1
      (constant S1024x1024 .f32 0x00000000#32) (ix2 p q)
    + x5 (ix2 p q) * matmul (F := Ideal) (φ₁ := .bf16) (φ₂ := .bf16) dot_S1024x2048_S2048x1024_S1024x1024_1_0_0_1_n_n none x2 x3
      (constant S1024x1024 .f32 0x00000000#32) (ix2 p q) = _
  rw [ha, hb]

variable (m : (ℓ : Loc nD τ sig) → Buf (Elt Ideal) ℓ)

/-- The prepared weight of the first product, element by element. -/
theorem wa_apply (c : Dev nD) (k : Fin 1024) (n : Fin 4096) :
    V m c main_v1 (ix2 k n) = m ((c : Thread nD τ).loc main_arg2) (ix3 (0 : Fin 1) k n) := by
  have e : (V m c main_v1 : FVec Ideal S1024x4096 .bf16) = truncf (F := Ideal) (φ := .f32) .bf16 (shapeCast S1024x4096
      (m ((c : Thread nD τ).loc main_arg2)) shapeCasts_S1x1024x4096_S1024x4096) bitsLt_bf16_f32 := by
    unfold V
    after_results
    rfl
  rw [e, truncf_apply]
  exact shapeCast_apply _ _ (ix2 k n) (ix3 (0 : Fin 1) k n) (by
    rewrite [Shape.rowMajor_val_three, Shape.rowMajor_val_two]
    show (0 * 1024 + k.val) * 4096 + n.val = k.val * 4096 + n.val
    omega)

/-- The prepared weight of the second product, element by element. -/
theorem wb_apply (c : Dev nD) (k : Fin 2048) (n : Fin 4096) :
    V m c main_v3 (ix2 k n) = m ((c : Thread nD τ).loc main_arg3) (ix3 (0 : Fin 1) k n) := by
  have e : (V m c main_v3 : FVec Ideal S2048x4096 .bf16) = truncf (F := Ideal) (φ := .f32) .bf16 (shapeCast S2048x4096
      (m ((c : Thread nD τ).loc main_arg3)) shapeCasts_S1x2048x4096_S2048x4096) bitsLt_bf16_f32 := by
    unfold V
    after_results
    rfl
  rw [e, truncf_apply]
  exact shapeCast_apply _ _ (ix2 k n) (ix3 (0 : Fin 1) k n) (by
    rewrite [Shape.rowMajor_val_three, Shape.rowMajor_val_two]
    show (0 * 2048 + k.val) * 4096 + n.val = k.val * 4096 + n.val
    omega)

/-- Where the windows stand at grid point `t`, row block `t / 4` and column block `t % 4`. -/
theorem idx_facts : ∀ t : Fin cfg0.N,
    (win0_0.index t 0 = t.val / 4 ∧ win0_0.index t 1 = 0)
    ∧ (win0_1.index t 0 = t.val / 4 ∧ win0_1.index t 1 = 0)
    ∧ (win0_2.index t 0 = 0 ∧ win0_2.index t 1 = t.val % 4)
    ∧ (win0_3.index t 0 = 0 ∧ win0_3.index t 1 = t.val % 4)
    ∧ (win0_4.index t 0 = t.val / 4 ∧ win0_4.index t 1 = t.val % 4)
    ∧ (win0_5.index t 0 = t.val / 4 ∧ win0_5.index t 1 = 4 + t.val % 4)
    ∧ (win0_6.index t 0 = t.val / 4 ∧ win0_6.index t 1 = t.val % 4) :=
  (by decide +kernel : ∀ t : Fin grid0.N,
    (win0_0.index t 0 = t.val / 4 ∧ win0_0.index t 1 = 0)
    ∧ (win0_1.index t 0 = t.val / 4 ∧ win0_1.index t 1 = 0)
    ∧ (win0_2.index t 0 = 0 ∧ win0_2.index t 1 = t.val % 4)
    ∧ (win0_3.index t 0 = 0 ∧ win0_3.index t 1 = t.val % 4)
    ∧ (win0_4.index t 0 = t.val / 4 ∧ win0_4.index t 1 = t.val % 4)
    ∧ (win0_5.index t 0 = t.val / 4 ∧ win0_5.index t 1 = 4 + t.val % 4)
    ∧ (win0_6.index t 0 = t.val / 4 ∧ win0_6.index t 1 = t.val % 4))

/-- The token that row `p` of point `t`'s block is. -/
abbrev row (t : Fin cfg0.N) (p : Fin 1024) : Fin 16384 :=
  ⟨1024 * (t.val / 4) + p.val, by have := t.isLt; have h : cfg0.N = 64 := N_0; have := p.isLt; omega⟩

/-- The column that column `q` of point `t`'s block is. -/
abbrev ocol (t : Fin cfg0.N) (q : Fin 1024) : Fin 4096 :=
  ⟨1024 * (t.val % 4) + q.val, by have := q.isLt; omega⟩

/-- The dilated attention's block at `t`, read at an element. -/
theorem yablk_apply (c : Dev nD) (t : Fin cfg0.N) (p : Fin 1024) (k : Fin 1024) :
    iblk m c 0 t (ix2 p k) = m ((c : Thread nD τ).loc main_arg0) (ix2 (row t p) k) := by
  rw [← V_main_arg0 m c]
  show V m c main_arg0 ((win0_0.rect t).emb (ix2 p k)) = V m c main_arg0 (ix2 (row t p) k)
  refine congrArg (V m c main_arg0) (funext fun a => Fin.ext ?_)
  have f := (idx_facts t).1
  match a with
  | ⟨0, _⟩ =>
    refine (win0_0.rect_emb_val t (ix2 p k) 0).trans ?_
    rw [f.1]; show (t.val / 4) * 1024 + p.val = 1024 * (t.val / 4) + p.val; omega
  | ⟨1, _⟩ =>
    refine (win0_0.rect_emb_val t (ix2 p k) 1).trans ?_
    rw [f.2]; show (0) * 1024 + k.val = k.val; omega

/-- The forgetting attention's block at `t`, read at an element. -/
theorem ybblk_apply (c : Dev nD) (t : Fin cfg0.N) (p : Fin 1024) (k : Fin 2048) :
    iblk m c 1 t (ix2 p k) = m ((c : Thread nD τ).loc main_arg1) (ix2 (row t p) k) := by
  rw [← V_main_arg1 m c]
  show V m c main_arg1 ((win0_1.rect t).emb (ix2 p k)) = V m c main_arg1 (ix2 (row t p) k)
  refine congrArg (V m c main_arg1) (funext fun a => Fin.ext ?_)
  have f := (idx_facts t).2.1
  match a with
  | ⟨0, _⟩ =>
    refine (win0_1.rect_emb_val t (ix2 p k) 0).trans ?_
    rw [f.1]; show (t.val / 4) * 1024 + p.val = 1024 * (t.val / 4) + p.val; omega
  | ⟨1, _⟩ =>
    refine (win0_1.rect_emb_val t (ix2 p k) 1).trans ?_
    rw [f.2]; show (0) * 2048 + k.val = k.val; omega

/-- The first weight's block at `t`, read at an element. -/
theorem wablk_apply (c : Dev nD) (t : Fin cfg0.N) (k : Fin 1024) (q : Fin 1024) :
    iblk m c 2 t (ix2 k q) = m ((c : Thread nD τ).loc main_arg2) (ix3 (0 : Fin 1) k (ocol t q)) := by
  rw [← wa_apply m c]
  show V m c main_v1 ((win0_2.rect t).emb (ix2 k q)) = V m c main_v1 (ix2 k (ocol t q))
  refine congrArg (V m c main_v1) (funext fun a => Fin.ext ?_)
  have f := (idx_facts t).2.2.1
  match a with
  | ⟨0, _⟩ =>
    refine (win0_2.rect_emb_val t (ix2 k q) 0).trans ?_
    rw [f.1]; show (0) * 1024 + k.val = k.val; omega
  | ⟨1, _⟩ =>
    refine (win0_2.rect_emb_val t (ix2 k q) 1).trans ?_
    rw [f.2]; show (t.val % 4) * 1024 + q.val = 1024 * (t.val % 4) + q.val; omega

/-- The second weight's block at `t`, read at an element. -/
theorem wbblk_apply (c : Dev nD) (t : Fin cfg0.N) (k : Fin 2048) (q : Fin 1024) :
    iblk m c 3 t (ix2 k q) = m ((c : Thread nD τ).loc main_arg3) (ix3 (0 : Fin 1) k (ocol t q)) := by
  rw [← wb_apply m c]
  show V m c main_v3 ((win0_3.rect t).emb (ix2 k q)) = V m c main_v3 (ix2 k (ocol t q))
  refine congrArg (V m c main_v3) (funext fun a => Fin.ext ?_)
  have f := (idx_facts t).2.2.2.1
  match a with
  | ⟨0, _⟩ =>
    refine (win0_3.rect_emb_val t (ix2 k q) 0).trans ?_
    rw [f.1]; show (0) * 2048 + k.val = k.val; omega
  | ⟨1, _⟩ =>
    refine (win0_3.rect_emb_val t (ix2 k q) 1).trans ?_
    rw [f.2]; show (t.val % 4) * 1024 + q.val = 1024 * (t.val % 4) + q.val; omega

/-- The first gate's block at `t`, read at an element. -/
theorem gablk_apply (c : Dev nD) (t : Fin cfg0.N) (p : Fin 1024) (q : Fin 1024) :
    iblk m c 4 t (ix2 p q) = m ((c : Thread nD τ).loc main_arg4) (ix2 (row t p) (⟨(ocol t q).val, by have := (ocol t q).isLt; omega⟩ : Fin 8192)) := by
  rw [← V_main_arg4 m c]
  show V m c main_arg4 ((win0_4.rect t).emb (ix2 p q)) = V m c main_arg4 (ix2 (row t p) (⟨(ocol t q).val, by have := (ocol t q).isLt; omega⟩ : Fin 8192))
  refine congrArg (V m c main_arg4) (funext fun a => Fin.ext ?_)
  have f := (idx_facts t).2.2.2.2.1
  match a with
  | ⟨0, _⟩ =>
    refine (win0_4.rect_emb_val t (ix2 p q) 0).trans ?_
    rw [f.1]; show (t.val / 4) * 1024 + p.val = 1024 * (t.val / 4) + p.val; omega
  | ⟨1, _⟩ =>
    refine (win0_4.rect_emb_val t (ix2 p q) 1).trans ?_
    rw [f.2]; show (t.val % 4) * 1024 + q.val = 1024 * (t.val % 4) + q.val; omega

/-- The second gate's block at `t`, read at an element: four blocks further along the columns. -/
theorem gbblk_apply (c : Dev nD) (t : Fin cfg0.N) (p : Fin 1024) (q : Fin 1024) :
    iblk m c 5 t (ix2 p q) = m ((c : Thread nD τ).loc main_arg4) (ix2 (row t p) (⟨4096 + (ocol t q).val, by have := (ocol t q).isLt; omega⟩ : Fin 8192)) := by
  rw [← V_main_arg4 m c]
  show V m c main_arg4 ((win0_5.rect t).emb (ix2 p q)) = V m c main_arg4 (ix2 (row t p) (⟨4096 + (ocol t q).val, by have := (ocol t q).isLt; omega⟩ : Fin 8192))
  refine congrArg (V m c main_arg4) (funext fun a => Fin.ext ?_)
  have f := (idx_facts t).2.2.2.2.2.1
  match a with
  | ⟨0, _⟩ =>
    refine (win0_5.rect_emb_val t (ix2 p q) 0).trans ?_
    rw [f.1]; show (t.val / 4) * 1024 + p.val = 1024 * (t.val / 4) + p.val; omega
  | ⟨1, _⟩ =>
    refine (win0_5.rect_emb_val t (ix2 p q) 1).trans ?_
    rw [f.2]; show (4 + t.val % 4) * 1024 + q.val = 4096 + (1024 * (t.val % 4) + q.val); omega

end Cert.MergeKernelIdeal.Hand

end
-- ==== Proof.MergeArray.lean ====
/-
  The merge's result after the run: the 64 blocks tile the array, and every one of them is its block of the merged
  activations of the arguments.
-/
module

public import proofs.«01_k».proof.Proof.MergeBlock

@[expose] public section

noncomputable section

namespace Cert.MergeKernelIdeal.Hand

open Cert.MergeKernelIdeal Cert.MergeKernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The merged activations of device `c`'s arguments: what the result array is shown to hold. -/
abbrev result (c : Dev nD) : Buf (Elt Ideal) ((c : Thread nD τ).loc main_v4) :=
  Cert.Merge.merged (m ((c : Thread nD τ).loc main_arg0)) (m ((c : Thread nD τ).loc main_arg1))
    (m ((c : Thread nD τ).loc main_arg2)) (m ((c : Thread nD τ).loc main_arg3)) (m ((c : Thread nD τ).loc main_arg4))

theorem hz2 : (![0, 0] : Fin 2 → Nat) = fun _ => 0 := funext fun a => by fin_cases a <;> rfl

/-- Where an element of point `t`'s result block stands in the array. -/
theorem emb_out (t : Fin cfg0.N) (p q : Fin 1024) : (win0_6.rect t).emb (ix2 p q) = ix2 (row t p) (ocol t q) := by
  have f := (idx_facts t).2.2.2.2.2.2
  refine funext fun a => Fin.ext ?_
  match a with
  | ⟨0, _⟩ =>
    refine (win0_6.rect_emb_val t (ix2 p q) 0).trans ?_
    rw [f.1]; show t.val / 4 * 1024 + p.val = 1024 * (t.val / 4) + p.val; omega
  | ⟨1, _⟩ =>
    refine (win0_6.rect_emb_val t (ix2 p q) 1).trans ?_
    rw [f.2]; show t.val % 4 * 1024 + q.val = 1024 * (t.val % 4) + q.val; omega

/-- What point `t` writes back is block `t` of the merged activations. -/
theorem flushed_eq (c : Dev nD) (t : Fin cfg0.N) :
    (dats m 0 c).flushed 6 t = ((cfg0.win 6).blk t).view.read (Elt Ideal) (result m c) := by
  rw [Value.flushed6]
  unfold out0_6
  rw [View.canon_unit_zero hz2, View.ld_unit_zero hz2, View.ld_unit_zero hz2, View.ld_unit_zero hz2, View.ld_unit_zero hz2,
    View.ld_unit_zero hz2, View.ld_unit_zero hz2]
  funext y
  obtain ⟨p, q, rfl⟩ : ∃ p q : Fin 1024, y = ix2 p q := ⟨y 0, y 1, eq_ix2 y⟩
  show k0_pay1 (F := Ideal) (iblk m c 0 t) (iblk m c 2 t) (iblk m c 1 t) (iblk m c 3 t) (iblk m c 4 t) (iblk m c 5 t) (ix2 p q)
    = result m c ((win0_6.rect t).emb (ix2 p q))
  rw [emb_out, payload_apply, gablk_apply m c t, gbblk_apply m c t]
  simp only [yablk_apply m c t, ybblk_apply m c t, wablk_apply m c t, wbblk_apply m c t]
  rfl

/-- Every index of the result array is in some point's block. -/
theorem cover (i : S16384x4096.Idx) :
    ∃ t : Fin cfg0.N, (cfg0.win 6).flush t = true ∧ i ∈ ((cfg0.win 6).blk t).view.set := by
  have h0 : (i 0 : Nat) < 16384 := (i 0).isLt
  have h1 : (i 1 : Nat) < 4096 := (i 1).isLt
  have hN : cfg0.N = 64 := N_0
  let t : Fin cfg0.N := ⟨(i 0 : Nat) / 1024 * 4 + (i 1 : Nat) / 1024, by omega⟩
  have ht : t.val = (i 0 : Nat) / 1024 * 4 + (i 1 : Nat) / 1024 := rfl
  refine ⟨t, flush0_6 t, ?_⟩
  have e : i = (win0_6.rect t).emb (ix2 (⟨(i 0 : Nat) % 1024, by omega⟩ : Fin 1024) (⟨(i 1 : Nat) % 1024, by omega⟩ : Fin 1024)) := by
    rw [emb_out]
    refine funext fun a => Fin.ext ?_
    match a with
    | ⟨0, _⟩ => show (i 0 : Nat) = 1024 * (t.val / 4) + (i 0 : Nat) % 1024; omega
    | ⟨1, _⟩ => show (i 1 : Nat) = 1024 * (t.val % 4) + (i 1 : Nat) % 1024; omega
  rw [e]
  exact View.emb_mem_set ((cfg0.win 6).blk t).view _

/-- The result array after the run. -/
theorem final (c : Dev nD) : (dats m 0 c).arrAt 6 cfg0.N = result m c :=
  (dats m 0 c).arrAt_eq_of_cover 6 _ (fun t _ => flushed_eq m c t) cover

/-- The run, read: the result array is the merged activations, the arguments are unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

end Cert.MergeKernelIdeal.Hand

end
-- ==== Proof.MergeRef.lean ====
/-
  What the merge's reference computes: read at an index, its one result is the merged activations of its arguments.
-/
module

public import proofs.«01_k».proof.Proof.Gen.MergeReferenceIdeal.Read
public import proofs.«01_k».proof.Proof.MergeSpec

@[expose] public section

noncomputable section

namespace Cert.MergeReferenceIdeal.Hand

open Cert.MergeReferenceIdeal Cert.MergeReferenceIdeal.Read Idealize.ShloMosaic Idealize.ShloMosaic.TcCoe Idealize.SL.Sem
open Idealize.ShloMosaic.ValueIdx
open scoped BigOperators

variable (x0 : (⟨S16384x1024, .bf16⟩ : BufTy).Contents (Elt Ideal)) (x1 : (⟨S16384x2048, .bf16⟩ : BufTy).Contents (Elt Ideal))
  (x2 : (⟨S1x1024x4096, .f32⟩ : BufTy).Contents (Elt Ideal)) (x3 : (⟨S1x2048x4096, .f32⟩ : BufTy).Contents (Elt Ideal))
  (x4 : (⟨S16384x8192, .bf16⟩ : BufTy).Contents (Elt Ideal))

/-- The first product at token `r` and column `n`. -/
theorem first_apply (r : Fin 16384) (n : Fin 4096) :
    val_main_v6 (F := Ideal) x0 x2 (ix2 r n) = ∑ k : Fin 1024, x0 (ix2 r k) * x2 (ix3 (0 : Fin 1) k n) := by
  rw [val_main_v6_apply]
  refine Finset.sum_congr rfl fun k _ => ?_
  rw [val_main_v4_apply, val_main_v5_apply]
  have hk := k.isLt
  have hn := n.isLt
  have el : lidx_main_v6 (ix2 r n) k = ix2 r k := funext fun a => match a with
    | ⟨0, _⟩ => rfl
    | ⟨1, _⟩ => rfl
  have er : idx_main_v5 (ridx_main_v6 (ix2 r n) k) = ix3 (0 : Fin 1) k n := funext fun a => Fin.ext (by
    match a with
    | ⟨0, _⟩ => rfl
    | ⟨1, _⟩ => show (k.val * 4096 + n.val) / 4096 % 1024 = k.val; omega
    | ⟨2, _⟩ => show (k.val * 4096 + n.val) % 4096 = n.val; omega)
  rw [el, er]
  rfl

/-- The second product at token `r` and column `n`. -/
theorem second_apply (r : Fin 16384) (n : Fin 4096) :
    val_main_v10 (F := Ideal) x1 x3 (ix2 r n) = ∑ k : Fin 2048, x1 (ix2 r k) * x3 (ix3 (0 : Fin 1) k n) := by
  rw [val_main_v10_apply]
  refine Finset.sum_congr rfl fun k _ => ?_
  rw [val_main_v8_apply, val_main_v9_apply]
  have hk := k.isLt
  have hn := n.isLt
  have el : lidx_main_v10 (ix2 r n) k = ix2 r k := funext fun a => match a with
    | ⟨0, _⟩ => rfl
    | ⟨1, _⟩ => rfl
  have er : idx_main_v9 (ridx_main_v10 (ix2 r n) k) = ix3 (0 : Fin 1) k n := funext fun a => Fin.ext (by
    match a with
    | ⟨0, _⟩ => rfl
    | ⟨1, _⟩ => show (k.val * 4096 + n.val) / 4096 % 2048 = k.val; omega
    | ⟨2, _⟩ => show (k.val * 4096 + n.val) % 4096 = n.val; omega)
  rw [el, er]
  rfl

/-- The reference's result is the merged activations of its arguments. -/
theorem result_eq : val_main_v13 (F := Ideal) x0 x1 x2 x3 x4 = Cert.Merge.merged x0 x1 x2 x3 x4 := by
  funext i
  obtain ⟨r, n, rfl⟩ : ∃ (r : Fin 16384) (n : Fin 4096), i = ix2 r n := ⟨i 0, i 1, eq_ix2 i⟩
  have ea : idx_main_v0 (ix2 r n) = ix2 r (⟨n.val, by have := n.isLt; omega⟩ : Fin 8192) := funext fun a => match a with
    | ⟨0, _⟩ => rfl
    | ⟨1, _⟩ => rfl
  have eb : idx_main_v2 (ix2 r n) = ix2 r (⟨4096 + n.val, by have := n.isLt; omega⟩ : Fin 8192) := funext fun a => match a with
    | ⟨0, _⟩ => rfl
    | ⟨1, _⟩ => rfl
  rw [val_main_v13_apply, val_main_v12_apply, val_main_v7_apply, val_main_v1_apply, val_main_v0_apply, ea, first_apply,
    val_main_v11_apply, val_main_v3_apply, val_main_v2_apply, eb, second_apply]
  rfl

/-- Every run of the reference ends with the merged activations of its arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v13)
        = Cert.Merge.merged (m ((c : Thread nD τ).loc main_arg0)) (m ((c : Thread nD τ).loc main_arg1))
          (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono
    (fun _ h c => ⟨(h c).1.trans ((val_main_v13_eq _ _ _ _ _).trans (result_eq _ _ _ _ _)), (h c).2⟩)
    (Cert.MergeReferenceIdeal.Value.run (F := Ideal) m ρ)

end Cert.MergeReferenceIdeal.Hand

end
-- ==== Proof.Merge.lean ====
/-
  The merge's claims: the three frames, and that the two ideal runs end with equal results.
-/
module

public import proofs.«01_k».proof.Defs
public import proofs.«01_k».proof.Proof.Gen.MergeKernel.Frame
public import proofs.«01_k».proof.Proof.MergeArray
public import proofs.«01_k».proof.Proof.MergeRef
public import Idealize.ShloMosaic.Lib.Quiescent

@[expose] public section

noncomputable section

namespace Cert.Merge

open Idealize.ShloMosaic Idealize.ShloMosaic.TcCoe Idealize.SL.Sem

/-- Every run of the kernel ends with its arguments unchanged and every semaphore at zero. -/
theorem frame_kernel : Cert.quiescent_MergeKernel := fun m ρ _ => Cert.MergeKernel.Gen.frame m ρ

/-- The same of the kernel's ideal form. -/
theorem frame_ideal : Cert.quiescent_MergeKernelIdeal := fun m ρ _ => Cert.MergeKernelIdeal.Gen.frame m ρ

/-- The same of the reference, which raises no semaphore at all. -/
theorem frame_reference : Cert.quiescent_MergeReferenceIdeal := fun m ρ _ =>
  (θ_run Cert.MergeReferenceIdeal.defs _ _).mono
    (fun r h => ⟨fun c => (h c).2, sem_eq_zero_of_no_sems (by decide) r.2⟩)
    (Cert.MergeReferenceIdeal.Value.run (F := Ideal) m ρ)

/-- From equal arguments the kernel and the reference end with equal results. -/
theorem equal : Cert.algebraic_MergeKernelIdeal_MergeReferenceIdeal := by
  intro m ρ m' ρ' _ hagree
  refine ⟨fun c => Cert.MergeKernelIdeal.Hand.result m c, Cert.MergeKernelIdeal.Hand.run m ρ, ?_⟩
  refine (θ_run Cert.MergeReferenceIdeal.defs _ _).mono (fun _ h c => ⟨(h c).1.trans ?_, (h c).2⟩) (Cert.MergeReferenceIdeal.Hand.run m' ρ')
  rw [(hagree c).1, (hagree c).2.1, (hagree c).2.2.1, (hagree c).2.2.2.1, (hagree c).2.2.2.2]

end Cert.Merge

end
-- ==== Proof.ModSpec.lean ====
/-
  What the modulation computes, written once for both programs: column `n` of a sequence's modulation is its conditioning
  row, each entry times its own logistic value, against column `n` of the weight, plus the bias.
-/
module

public import Idealize.ShloMosaic.PureOps.Ideal.Laws
public import Idealize.ShloMosaic.Lib.ValueIdx

@[expose] public section

noncomputable section

namespace Cert.Mod

open Idealize.ShloMosaic Idealize.ShloMosaic.ValueIdx
open scoped BigOperators

/-- A conditioning row's modulation at column `n`. -/
def entry (x : Fin 4096 → EReal) (w : (⟨3, ![1, 4096, 12288]⟩ : Shape).Idx → EReal) (b : (⟨2, ![1, 12288]⟩ : Shape).Idx → EReal)
    (n : Fin 12288) : EReal :=
  (∑ k : Fin 4096, x k * Ideal.logistic (x k) * w (ix3 (0 : Fin 1) k n)) + b (ix2 (0 : Fin 1) n)

/-- The whole array, one row per sequence. -/
def modulated (x : (⟨2, ![4, 4096]⟩ : Shape).Idx → EReal) (w : (⟨3, ![1, 4096, 12288]⟩ : Shape).Idx → EReal)
    (b : (⟨2, ![1, 12288]⟩ : Shape).Idx → EReal) : (⟨2, ![4, 12288]⟩ : Shape).Idx → EReal :=
  fun i => entry (fun k => x (ix2 (i 0) k)) w b (i 1)

end Cert.Mod

end
-- ==== Proof.ModBlock.lean ====
/-
  What one grid point of the modulation writes: all eight rows of 512 columns, read element by element from the blocks the
  point reads.
-/
module

public import proofs.«01_k».proof.Proof.Gen.ModKernelIdeal.Frame
public import proofs.«01_k».proof.Proof.ModSpec
public import proofs.«01_k».proof.Proof.Sigmoid
public import Idealize.ShloMosaic.Lib.Pipeline.Value
public import Idealize.ShloMosaic.Lib.MatmulPlain
public import Idealize.ShloMosaic.Lib.KernelVsHost

@[expose] public section

noncomputable section

namespace Cert.ModKernelIdeal.Hand

open Cert.ModKernelIdeal Cert.ModKernelIdeal.Gen Idealize.ShloMosaic Idealize.ShloMosaic.TcCoe Idealize.SL.Sem
open Idealize.ShloMosaic.ValueIdx
open Idealize.ShloMosaic.Pipeline (Dat)
open scoped BigOperators

/-- The activated conditioning rows, as the body computes them before the product. -/
abbrev activated (x : FVec Ideal S8x4096 .f32) : FVec Ideal S8x4096 .bf16 :=
  truncf .bf16 (mulf x (addf (mulf (broadcast S8x4096 (Scalar.ofBits .f32 0x3F000000#32))
    (tanh (mulf (broadcast S8x4096 (Scalar.ofBits .f32 0x3F000000#32)) x))) (broadcast S8x4096 (Scalar.ofBits .f32 0x3F000000#32))))
    bitsLt_bf16_f32

/-- Entry by entry they are the row's entry times its logistic value. -/
theorem activated_apply (x : FVec Ideal S8x4096 .f32) (i : S8x4096.Idx) : activated x i = x i * Ideal.logistic (x i) := by
  rw [← Cert.Sigmoid.half_tanh]
  rfl

/-- The body's payload read at row `p` and column `q` of its block. -/
theorem payload_apply (x0 : Vec Ideal S8x4096 .f32) (x1 : Vec Ideal S4096x512 .f32) (x2 : Vec Ideal S1x512 .f32)
    (p : Fin 8) (q : Fin 512) :
    k0_pay1 (F := Ideal) x0 x1 x2 (ix2 p q)
      = (∑ k : Fin 4096, x0 (ix2 p k) * Ideal.logistic (x0 (ix2 p k)) * x1 (ix2 k q)) + x2 (ix2 (0 : Fin 1) q) := by
  have hm : matmul (F := Ideal) (φ₁ := .bf16) (φ₂ := .bf16) dot_S8x4096_S4096x512_S8x512_1_0_0_1_n_n none (activated x0)
      (truncf (F := Ideal) (φ := .f32) .bf16 x1 bitsLt_bf16_f32) (constant S8x512 .f32 0x00000000#32) (ix2 p q)
      = ∑ k : Fin 4096, x0 (ix2 p k) * Ideal.logistic (x0 (ix2 p k)) * x1 (ix2 k q) := by
    refine (Ideal.matmul_plain_apply none (activated x0) (truncf (F := Ideal) (φ := .f32) .bf16 x1 bitsLt_bf16_f32) _ p q).trans ?_
    rw [constant_apply, Ideal.ofBits_zero_f32, zero_add]
    refine Finset.sum_congr rfl fun k _ => ?_
    rw [activated_apply, truncf_apply]
  have hb : broadcastTo S8x512 x2 broadcasts_S1x512_S8x512 (ix2 p q) = x2 (ix2 (0 : Fin 1) q) :=
    broadcastTo_apply x2 broadcasts_S1x512_S8x512 (ix2 p q) (ix2 (0 : Fin 1) q) (fun a => match a with
      | ⟨0, _⟩ => rfl
      | ⟨1, _⟩ => rfl)
  unfold k0_pay1
  simp only [shapeCast_self]
  show matmul (F := Ideal) (φ₁ := .bf16) (φ₂ := .bf16) dot_S8x4096_S4096x512_S8x512_1_0_0_1_n_n none (activated x0)
      (truncf (F := Ideal) (φ := .f32) .bf16 x1 bitsLt_bf16_f32) (constant S8x512 .f32 0x00000000#32) (ix2 p q)
    + broadcastTo S8x512 x2 broadcasts_S1x512_S8x512 (ix2 p q) = _
  rw [hm, hb]

variable (m : (ℓ : Loc nD τ sig) → Buf (Elt Ideal) ℓ)

/-- The six host operations before the call, in order: what the region finds is what they leave. -/
theorem entry_list (c : Dev nD) (b : Ref sig .tc) : V m c b = StableHlo.after
    [ StableHlo.reshape main_arg1 main_v0 (rfl : (.f32 : EltTy) = .f32) shapeCasts_S1x4096x12288_S4096x12288,
      StableHlo.reshape main_arg2 main_v1 (rfl : (.f32 : EltTy) = .f32) shapeCasts_S1x12288_S12288,
      StableHlo.nullary main_c (constantI S_ 32 0#32),
      StableHlo.unary main_c main_call0_v0 (sitofp (F := Ideal) .f32 : (⟨S_, .i32⟩ : BufTy).Contents (Elt Ideal) → (⟨S_, .f32⟩ : BufTy).Contents (Elt Ideal)),
      StableHlo.binary main_arg0 main_call0_v0 main_v2 ((fun x v => pad S8x4096 ![0, 0] ![4, 0] ![0, 0] x v pads_S4x4096_S8x4096_040_000 h_S_) :
        (⟨S4x4096, .f32⟩ : BufTy).Contents (Elt Ideal) → (⟨S_, .f32⟩ : BufTy).Contents (Elt Ideal) → (⟨S8x4096, .f32⟩ : BufTy).Contents (Elt Ideal)),
      StableHlo.reshape main_v1 main_v3 (rfl : (.f32 : EltTy) = .f32) shapeCasts_S12288_S1x12288 ] (fun b => m (c, b)) (Proc.devRef .tc b) := rfl

/-- The padded conditioning rows the region finds: the first four are the argument's. -/
theorem cond_apply (c : Dev nD) (r : Fin 4) (k : Fin 4096) :
    V m c main_v2 (ix2 (⟨r.val, by omega⟩ : Fin 8) k) = m ((c : Thread nD τ).loc main_arg0) (ix2 r k) := by
  have e : V m c main_v2 = pad S8x4096 ![0, 0] ![4, 0] ![0, 0] (m ((c : Thread nD τ).loc main_arg0))
      (sitofp (F := Ideal) .f32 (constantI S_ 32 0#32)) pads_S4x4096_S8x4096_040_000 h_S_ := by
    rw [entry_list]
    after_results
  rw [e]
  exact pad_apply_of_inside _ _ _ _ _ _ _ _ (ix2 r k) (fun a => match a with
    | ⟨0, _⟩ => by show r.val = 0 + r.val * 1; omega
    | ⟨1, _⟩ => by show k.val = 0 + k.val * 1; omega)

/-- The weight the region finds, element by element. -/
theorem weight_apply (c : Dev nD) (k : Fin 4096) (n : Fin 12288) :
    V m c main_v0 (ix2 k n) = m ((c : Thread nD τ).loc main_arg1) (ix3 (0 : Fin 1) k n) := by
  have e : V m c main_v0 = shapeCast S4096x12288 (m ((c : Thread nD τ).loc main_arg1)) shapeCasts_S1x4096x12288_S4096x12288 := by
    rw [entry_list]
    after_results
    rfl
  rw [e]
  exact shapeCast_apply _ _ (ix2 k n) (ix3 (0 : Fin 1) k n) (by
    rewrite [Shape.rowMajor_val_three, Shape.rowMajor_val_two]
    show (0 * 4096 + k.val) * 12288 + n.val = k.val * 12288 + n.val
    omega)

/-- The bias the region finds, element by element. -/
theorem bias_apply (c : Dev nD) (n : Fin 12288) :
    V m c main_v3 (ix2 (0 : Fin 1) n) = m ((c : Thread nD τ).loc main_arg2) (ix2 (0 : Fin 1) n) := by
  have e : V m c main_v3 = shapeCast S1x12288 (shapeCast S12288 (m ((c : Thread nD τ).loc main_arg2)) shapeCasts_S1x12288_S12288)
      shapeCasts_S12288_S1x12288 := by
    rw [entry_list]
    after_results
    rfl
  rw [e, shapeCast_apply _ _ (ix2 (0 : Fin 1) n) (ix1 n) (by
      rewrite [Shape.rowMajor_val_two, Shape.rowMajor_val_one]
      show n.val = 0 * 12288 + n.val
      omega)]
  exact shapeCast_apply _ _ (ix1 n) (ix2 (0 : Fin 1) n) (by
    rewrite [Shape.rowMajor_val_two, Shape.rowMajor_val_one]
    show 0 * 12288 + n.val = n.val
    omega)

/-- Where the windows stand at grid point `t`: the weight, the bias and the result move by one column block a point. -/
theorem idx_facts : ∀ t : Fin cfg0.N,
    (win0_0.index t 0 = 0 ∧ win0_0.index t 1 = 0) ∧ (win0_1.index t 0 = 0 ∧ win0_1.index t 1 = t.val)
    ∧ (win0_2.index t 0 = 0 ∧ win0_2.index t 1 = t.val) ∧ (win0_3.index t 0 = 0 ∧ win0_3.index t 1 = t.val) :=
  (by decide +kernel : ∀ t : Fin grid0.N,
    (win0_0.index t 0 = 0 ∧ win0_0.index t 1 = 0) ∧ (win0_1.index t 0 = 0 ∧ win0_1.index t 1 = t.val)
    ∧ (win0_2.index t 0 = 0 ∧ win0_2.index t 1 = t.val) ∧ (win0_3.index t 0 = 0 ∧ win0_3.index t 1 = t.val))

/-- The column that column `q` of point `t`'s block is. -/
abbrev mcol (t : Fin cfg0.N) (q : Fin 512) : Fin 12288 :=
  ⟨512 * t.val + q.val, by have := t.isLt; have h : cfg0.N = 24 := N_0; have := q.isLt; omega⟩

/-- The conditioning rows' block at `t`: always the whole padded array. -/
theorem cblk_apply (c : Dev nD) (t : Fin cfg0.N) (p : Fin 8) (k : Fin 4096) :
    iblk m c 0 t (ix2 p k) = V m c main_v2 (ix2 p k) := by
  show V m c main_v2 ((win0_0.rect t).emb (ix2 p k)) = V m c main_v2 (ix2 p k)
  refine congrArg (V m c main_v2) (funext fun a => Fin.ext ?_)
  have f := (idx_facts t).1
  match a with
  | ⟨0, _⟩ =>
    refine (win0_0.rect_emb_val t (ix2 p k) 0).trans ?_
    rw [f.1]; show 0 * 8 + p.val = p.val; omega
  | ⟨1, _⟩ =>
    refine (win0_0.rect_emb_val t (ix2 p k) 1).trans ?_
    rw [f.2]; show 0 * 4096 + k.val = k.val; omega

/-- The weight's block at `t`, read at an element. -/
theorem wblk_apply (c : Dev nD) (t : Fin cfg0.N) (k : Fin 4096) (q : Fin 512) :
    iblk m c 1 t (ix2 k q) = m ((c : Thread nD τ).loc main_arg1) (ix3 (0 : Fin 1) k (mcol t q)) := by
  rw [← weight_apply m c]
  show V m c main_v0 ((win0_1.rect t).emb (ix2 k q)) = V m c main_v0 (ix2 k (mcol t q))
  refine congrArg (V m c main_v0) (funext fun a => Fin.ext ?_)
  have f := (idx_facts t).2.1
  match a with
  | ⟨0, _⟩ =>
    refine (win0_1.rect_emb_val t (ix2 k q) 0).trans ?_
    rw [f.1]; show 0 * 4096 + k.val = k.val; omega
  | ⟨1, _⟩ =>
    refine (win0_1.rect_emb_val t (ix2 k q) 1).trans ?_
    rw [f.2]; show t.val * 512 + q.val = 512 * t.val + q.val; omega

/-- The bias's block at `t`, read at an element. -/
theorem bblk_apply (c : Dev nD) (t : Fin cfg0.N) (q : Fin 512) :
    iblk m c 2 t (ix2 (0 : Fin 1) q) = m ((c : Thread nD τ).loc main_arg2) (ix2 (0 : Fin 1) (mcol t q)) := by
  rw [← bias_apply m c]
  show V m c main_v3 ((win0_2.rect t).emb (ix2 (0 : Fin 1) q)) = V m c main_v3 (ix2 (0 : Fin 1) (mcol t q))
  refine congrArg (V m c main_v3) (funext fun a => Fin.ext ?_)
  have f := (idx_facts t).2.2.1
  match a with
  | ⟨0, _⟩ =>
    refine (win0_2.rect_emb_val t (ix2 (0 : Fin 1) q) 0).trans ?_
    rw [f.1]; rfl
  | ⟨1, _⟩ =>
    refine (win0_2.rect_emb_val t (ix2 (0 : Fin 1) q) 1).trans ?_
    rw [f.2]; show t.val * 512 + q.val = 512 * t.val + q.val; omega

end Cert.ModKernelIdeal.Hand

end
-- ==== Proof.ModArray.lean ====
/-
  The modulation's result after the run: the 24 blocks tile the padded array, every one of them is its block of what the
  padded rows give, and the slice after the call keeps the four rows of the sequences.
-/
module

public import proofs.«01_k».proof.Proof.ModBlock

@[expose] public section

noncomputable section

namespace Cert.ModKernelIdeal.Hand

open Cert.ModKernelIdeal Cert.ModKernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- What the call's array of eight rows is shown to hold on device `c`. -/
abbrev padded (c : Dev nD) : Buf (Elt Ideal) ((c : Thread nD τ).loc main_v4) := fun i =>
  Cert.Mod.entry (fun k => V m c main_v2 (ix2 (i 0) k)) (m ((c : Thread nD τ).loc main_arg1)) (m ((c : Thread nD τ).loc main_arg2)) (i 1)

/-- The modulation of device `c`'s arguments: what the result array is shown to hold. -/
abbrev result (c : Dev nD) : Buf (Elt Ideal) ((c : Thread nD τ).loc main_v5) :=
  Cert.Mod.modulated (m ((c : Thread nD τ).loc main_arg0)) (m ((c : Thread nD τ).loc main_arg1)) (m ((c : Thread nD τ).loc main_arg2))

theorem hz2 : (![0, 0] : Fin 2 → Nat) = fun _ => 0 := funext fun a => by fin_cases a <;> rfl

/-- Where an element of point `t`'s result block stands in the array. -/
theorem emb_out (t : Fin cfg0.N) (p : Fin 8) (q : Fin 512) : (win0_3.rect t).emb (ix2 p q) = ix2 p (mcol t q) := by
  have f := (idx_facts t).2.2.2
  refine funext fun a => Fin.ext ?_
  match a with
  | ⟨0, _⟩ =>
    refine (win0_3.rect_emb_val t (ix2 p q) 0).trans ?_
    rw [f.1]; show 0 * 8 + p.val = p.val; omega
  | ⟨1, _⟩ =>
    refine (win0_3.rect_emb_val t (ix2 p q) 1).trans ?_
    rw [f.2]; show t.val * 512 + q.val = 512 * t.val + q.val; omega

/-- What point `t` writes back is block `t` of the padded modulation. -/
theorem flushed_eq (c : Dev nD) (t : Fin cfg0.N) :
    (dats m 0 c).flushed 3 t = ((cfg0.win 3).blk t).view.read (Elt Ideal) (padded m c) := by
  show (cfg0.win 3).cut (grid0.coords t) ((dats m 0 c).after 3 t) = _
  rw [after0_3]
  unfold out0_3
  rw [View.canon_unit_zero hz2, View.ld_unit_zero hz2, View.ld_unit_zero hz2, View.ld_unit_zero hz2]
  funext y
  obtain ⟨p, q, rfl⟩ : ∃ (p : Fin 8) (q : Fin 512), y = ix2 p q := ⟨y 0, y 1, eq_ix2 y⟩
  show k0_pay1 (F := Ideal) (iblk m c 0 t) (iblk m c 1 t) (iblk m c 2 t) (ix2 p q)
    = padded m c ((win0_3.rect t).emb (ix2 p q))
  rw [emb_out, payload_apply, bblk_apply m c t q]
  simp only [cblk_apply m c t, wblk_apply m c t]
  rfl

/-- Every index of the padded array is in some point's block. -/
theorem cover (i : S8x12288.Idx) :
    ∃ t : Fin cfg0.N, (cfg0.win 3).flush t = true ∧ i ∈ ((cfg0.win 3).blk t).view.set := by
  have h0 : (i 0 : Nat) < 8 := (i 0).isLt
  have h1 : (i 1 : Nat) < 12288 := (i 1).isLt
  have hN : cfg0.N = 24 := N_0
  let t : Fin cfg0.N := ⟨(i 1 : Nat) / 512, by omega⟩
  refine ⟨t, flush0_3 t, ?_⟩
  have e : i = (win0_3.rect t).emb (ix2 (⟨(i 0 : Nat), h0⟩ : Fin 8) (⟨(i 1 : Nat) % 512, by omega⟩ : Fin 512)) := by
    rw [emb_out]
    refine funext fun a => Fin.ext ?_
    match a with
    | ⟨0, _⟩ => rfl
    | ⟨1, _⟩ => show (i 1 : Nat) = 512 * ((i 1 : Nat) / 512) + (i 1 : Nat) % 512; omega
  rw [e]
  exact View.emb_mem_set ((cfg0.win 3).blk t).view _

/-- The call's array after the run. -/
theorem final (c : Dev nD) : (dats m 0 c).arrAt 3 cfg0.N = padded m c :=
  (dats m 0 c).arrAt_eq_of_cover 3 _ (fun t _ => flushed_eq m c t) cover

/-- The slice that follows the call leaves the result array with the four sequences' rows. -/
theorem sliced (c : Dev nD) : Pipeline.afterTail₀ cfgs (dats m) 0 (V0 m) [hostOps1] c main_v5 = result m c := by
  have e : Pipeline.afterTail₀ cfgs (dats m) 0 (V0 m) [hostOps1] c main_v5
      = extractStridedSlice S4x12288 ![0, 0] (padded m c) slices_S8x12288_S4x12288_0_0 := by
    rw [← final]
    show StableHlo.after [StableHlo.unary main_v4 main_v5 ((extractStridedSlice S4x12288 ![0, 0] · slices_S8x12288_S4x12288_0_0) :
      (⟨S8x12288, .f32⟩ : BufTy).Contents (Elt Ideal) → (⟨S4x12288, .f32⟩ : BufTy).Contents (Elt Ideal))]
      (Pipeline.withArrays spec0 c (V0 m c) fun w => (dats m 0 c).arrAt w cfg0.N) (Proc.devRef .tc main_v5) = _
    after_results
    exact congrArg (fun x => extractStridedSlice S4x12288 ![0, 0] x slices_S8x12288_S4x12288_0_0)
      (Pipeline.withArrays_arr spec0 launch0.win.arr_inj c _ _ 3)
  rw [e]
  funext i
  obtain ⟨r, n, rfl⟩ : ∃ (r : Fin 4) (n : Fin 12288), i = ix2 r n := ⟨i 0, i 1, eq_ix2 i⟩
  rw [extractStridedSlice_apply _ _ _ (ix2 r n) (ix2 (⟨r.val, by omega⟩ : Fin 8) n) (fun a => match a with
    | ⟨0, _⟩ => by show r.val = 0 + r.val; omega
    | ⟨1, _⟩ => by show n.val = 0 + n.val; omega)]
  exact congrArg (fun x => Cert.Mod.entry x _ _ n) (funext fun k => cond_apply m c r k)

/-- The run, read: the result array is the modulation, the arguments are unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h.1 c).2 main_v5 (Pipeline.mem_restRefs_of main_v5 (by decide) (by decide))).trans (sliced m c), h.2 c⟩)
    (θ_run_and (run_main m ρ) (unchanged m ρ))

end Cert.ModKernelIdeal.Hand

end
-- ==== Proof.ModRef.lean ====
/-
  What the modulation's reference computes: read at an index, its one result is the modulation of its arguments.
-/
module

public import proofs.«01_k».proof.Proof.Gen.ModReferenceIdeal.Read
public import proofs.«01_k».proof.Proof.ModSpec
public import proofs.«01_k».proof.Proof.Sigmoid

@[expose] public section

noncomputable section

namespace Cert.ModReferenceIdeal.Hand

open Cert.ModReferenceIdeal Cert.ModReferenceIdeal.Read Idealize.ShloMosaic Idealize.ShloMosaic.TcCoe Idealize.SL.Sem
open Idealize.ShloMosaic.ValueIdx
open scoped BigOperators

variable (x0 : (⟨S4x4096, .f32⟩ : BufTy).Contents (Elt Ideal)) (x1 : (⟨S1x4096x12288, .f32⟩ : BufTy).Contents (Elt Ideal))
  (x2 : (⟨S1x12288, .f32⟩ : BufTy).Contents (Elt Ideal))

/-- The activated conditioning rows, entry by entry. -/
theorem activated_apply (i : S4x4096.Idx) : val_main_v0 (F := Ideal) x0 i = x0 i * Ideal.logistic (x0 i) := by
  rw [val_main_v0_apply, val_main_call0_v5_apply, val_main_call0_v4_apply, val_main_call0_cst_0_apply, val_main_call0_v3_apply,
    val_main_call0_v2_apply, val_main_call0_cst_apply, val_main_call0_v1_apply, val_main_call0_v0_apply, ← Cert.Sigmoid.quotient]
  rfl

/-- The reference's result is the modulation of its arguments. -/
theorem result_eq : val_main_v6 (F := Ideal) x0 x1 x2 = Cert.Mod.modulated x0 x1 x2 := by
  funext i
  obtain ⟨r, n, rfl⟩ : ∃ (r : Fin 4) (n : Fin 12288), i = ix2 r n := ⟨i 0, i 1, eq_ix2 i⟩
  have hn := n.isLt
  have hw : ∀ k : Fin 4096, val_main_v1 (F := Ideal) x1 (ridx_main_v2 (ix2 r n) k) = x1 (ix3 (0 : Fin 1) k n) := fun k => by
    rw [val_main_v1_apply]
    refine congrArg x1 (funext fun a => Fin.ext ?_)
    have hk := k.isLt
    match a with
    | ⟨0, _⟩ => rfl
    | ⟨1, _⟩ => show (k.val * 12288 + n.val) / 12288 % 4096 = k.val; omega
    | ⟨2, _⟩ => show (k.val * 12288 + n.val) % 12288 = n.val; omega
  have hx : ∀ k : Fin 4096, lidx_main_v2 (ix2 r n) k = ix2 r k := fun k => funext fun a => match a with
    | ⟨0, _⟩ => rfl
    | ⟨1, _⟩ => rfl
  have hb : idx_main_v3 (idx_main_v4 (idx_main_v5 (ix2 r n))) = ix2 (0 : Fin 1) n := funext fun a => Fin.ext (by
    match a with
    | ⟨0, _⟩ => rfl
    | ⟨1, _⟩ => exact Nat.mod_eq_of_lt hn)
  rw [val_main_v6_apply, val_main_v2_apply, val_main_v5_apply, val_main_v4_apply, val_main_v3_apply, hb]
  simp only [hw, hx, activated_apply]
  rfl

/-- Every run of the reference ends with the modulation of its arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v6)
        = Cert.Mod.modulated (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono
    (fun _ h c => ⟨(h c).1.trans ((val_main_v6_eq _ _ _).trans (result_eq _ _ _)), (h c).2⟩)
    (Cert.ModReferenceIdeal.Value.run (F := Ideal) m ρ)

end Cert.ModReferenceIdeal.Hand

end
-- ==== Proof.Mod.lean ====
/-
  The modulation's claims: the three frames, and that the two ideal runs end with equal results.
-/
module

public import proofs.«01_k».proof.Defs
public import proofs.«01_k».proof.Proof.Gen.ModKernel.Frame
public import proofs.«01_k».proof.Proof.ModArray
public import proofs.«01_k».proof.Proof.ModRef
public import Idealize.ShloMosaic.Lib.Quiescent

@[expose] public section

noncomputable section

namespace Cert.Mod

open Idealize.ShloMosaic Idealize.ShloMosaic.TcCoe Idealize.SL.Sem

/-- Every run of the kernel ends with its arguments unchanged and every semaphore at zero. -/
theorem frame_kernel : Cert.quiescent_ModKernel := fun m ρ _ => Cert.ModKernel.Gen.frame m ρ

/-- The same of the kernel's ideal form. -/
theorem frame_ideal : Cert.quiescent_ModKernelIdeal := fun m ρ _ => Cert.ModKernelIdeal.Gen.frame m ρ

/-- The same of the reference, which raises no semaphore at all. -/
theorem frame_reference : Cert.quiescent_ModReferenceIdeal := fun m ρ _ =>
  (θ_run Cert.ModReferenceIdeal.defs _ _).mono
    (fun r h => ⟨fun c => (h c).2, sem_eq_zero_of_no_sems (by decide) r.2⟩)
    (Cert.ModReferenceIdeal.Value.run (F := Ideal) m ρ)

/-- From equal arguments the kernel and the reference end with equal results. -/
theorem equal : Cert.algebraic_ModKernelIdeal_ModReferenceIdeal := by
  intro m ρ m' ρ' _ hagree
  refine ⟨fun c => Cert.ModKernelIdeal.Hand.result m c, Cert.ModKernelIdeal.Hand.run m ρ, ?_⟩
  refine (θ_run Cert.ModReferenceIdeal.defs _ _).mono (fun _ h c => ⟨(h c).1.trans ?_, (h c).2⟩) (Cert.ModReferenceIdeal.Hand.run m' ρ')
  rw [(hagree c).1, (hagree c).2.1, (hagree c).2.2]

end Cert.Mod

end
-- ==== Proof.NormSpec.lean ====
/-
  What the normalisation computes, written once for both programs: a token's row divided by its root mean square, times
  the gain, times one plus its sequence's scale, plus its sequence's shift.
-/
module

public import Idealize.ShloMosaic.PureOps.Ideal.Laws
public import Idealize.ShloMosaic.Lib.ValueIdx

@[expose] public section

noncomputable section

namespace Cert.Norm

open Idealize.ShloMosaic Idealize.ShloMosaic.ValueIdx
open scoped BigOperators

/-- A row's normalised and modulated entry: `z` the row, `g` the gain, `sc` the scale and `sh` the shift. -/
def entry (z g sc sh : Fin 4096 → EReal) (d : Fin 4096) : EReal :=
  z d * Ideal.rsqrt (Ideal.div (∑ e : Fin 4096, z e * z e) (Ideal.ofBits .f32 0x45800000#32) + Ideal.ofBits .f32 0x358637BD#32) * g d
    * (Ideal.ofBits .f32 0x3F800000#32 + sc d) + sh d

/-- The sequence a token belongs to, -/
def seq (r : Fin 16384) : Fin 4 := ⟨r.val / 4096, by have := r.isLt; omega⟩

/-- and its position there. -/
def pos (r : Fin 16384) : Fin 4096 := ⟨r.val % 4096, by omega⟩

/-- The whole array, one row per token. -/
def normalised (x : (⟨3, ![4, 4096, 4096]⟩ : Shape).Idx → EReal) (g : (⟨2, ![1, 4096]⟩ : Shape).Idx → EReal)
    (sc sh : (⟨2, ![4, 4096]⟩ : Shape).Idx → EReal) : (⟨2, ![16384, 4096]⟩ : Shape).Idx → EReal :=
  fun i => entry (fun k => x (ix3 (seq (i 0)) (pos (i 0)) k)) (fun k => g (ix2 (0 : Fin 1) k)) (fun k => sc (ix2 (seq (i 0)) k))
    (fun k => sh (ix2 (seq (i 0)) k)) (i 1)

end Cert.Norm

end
-- ==== Proof.NormBlock.lean ====
/-
  What one grid point of the normalisation writes to its first result: 512 whole rows, read element by element from the
  blocks the point reads.
-/
module

public import proofs.«01_k».proof.Proof.Gen.NormKernelIdeal.Frame
public import proofs.«01_k».proof.Proof.NormSpec
public import Idealize.ShloMosaic.Lib.Pipeline.Value
public import Idealize.ShloMosaic.Lib.KernelVsHost

@[expose] public section

noncomputable section

namespace Cert.NormKernelIdeal.Hand

open Cert.NormKernelIdeal Cert.NormKernelIdeal.Gen Idealize.ShloMosaic Idealize.ShloMosaic.TcCoe Idealize.SL.Sem
open Idealize.ShloMosaic.ValueIdx
open Idealize.ShloMosaic.Pipeline (Dat)
open scoped BigOperators

/-- A row of gains, scales or shifts, spread over the block's rows. -/
theorem row_apply (y : FVec Ideal S1x4096 .f32) (p : Fin 512) (d : Fin 4096) :
    broadcastTo S512x4096 y broadcasts_S1x4096_S512x4096 (ix2 p d) = y (ix2 (0 : Fin 1) d) :=
  broadcastTo_apply y broadcasts_S1x4096_S512x4096 (ix2 p d) (ix2 (0 : Fin 1) d) (fun a => match a with
    | ⟨0, _⟩ => rfl
    | ⟨1, _⟩ => rfl)

/-- A sequence's block of scales or shifts as one row. -/
theorem flat_apply (y : FVec Ideal S1x1x4096 .f32) (d : Fin 4096) :
    shapeCast S1x4096 y shapeCasts_S1x1x4096_S1x4096 (ix2 (0 : Fin 1) d) = y (ix3 (0 : Fin 1) (0 : Fin 1) d) :=
  shapeCast_apply _ _ (ix2 (0 : Fin 1) d) (ix3 (0 : Fin 1) (0 : Fin 1) d) (by
    rewrite [Shape.rowMajor_val_three, Shape.rowMajor_val_two]
    show (0 * 1 + 0) * 4096 + d.val = 0 * 4096 + d.val
    omega)

/-- The body's payload read at row `p` and column `d` of its block. -/
theorem payload_apply (x0 : Vec Ideal S512x4096 .f32) (x1 : Vec Ideal S1x4096 .f32) (x2 x3 : Vec Ideal S1x1x4096 .f32)
    (p : Fin 512) (d : Fin 4096) :
    k0_pay2 (F := Ideal) x0 x1 x2 x3 (ix2 p d)
      = Cert.Norm.entry (fun e => x0 (ix2 p e)) (fun e => x1 (ix2 (0 : Fin 1) e)) (fun e => x2 (ix3 (0 : Fin 1) (0 : Fin 1) e))
          (fun e => x3 (ix3 (0 : Fin 1) (0 : Fin 1) e)) d := by
  unfold k0_pay2
  dsimp only
  simp only [shapeCast_self]
  rw [truncf_apply, addf_apply, mulf_apply, mulf_apply, mulf_apply, row_apply, row_apply, row_apply, addf_apply, flat_apply, flat_apply]
  rw [broadcastTo_apply _ broadcasts_S512x1_S512x4096 (ix2 p d) (ix2 p (0 : Fin 1)) (fun a => match a with
    | ⟨0, _⟩ => rfl
    | ⟨1, _⟩ => rfl)]
  have hr : ∀ x : FVec Ideal S512x1 .f32, rsqrt x (ix2 p (0 : Fin 1)) = Ideal.rsqrt (x (ix2 p (0 : Fin 1))) := fun _ => rfl
  rw [hr, addf_apply, divf_apply, shapeCast_apply _ shapeCasts_S512_S512x1 (ix2 p (0 : Fin 1)) (ix1 p) (by
    rewrite [Shape.rowMajor_val_two, Shape.rowMajor_val_one]
    show p.val = p.val * 1 + 0
    omega)]
  have hl : ∀ k : Fin 4096, reduces_S512x4096_S512.lift (ix1 p) k = ix2 p k := fun k => funext fun a => match a with
    | ⟨0, _⟩ => rfl
    | ⟨1, _⟩ => rfl
  have hs : multiReduction (F := Ideal) .add [1] S512 (mulf x0 x0 : FVec Ideal S512x4096 .f32) 0x00000000#32 reduces_S512x4096_S512 (.inl rfl) rfl (ix1 p)
      = ∑ e : Fin 4096, x0 (ix2 p e) * x0 (ix2 p e) :=
    (Ideal.multiReduction_add_single (mulf x0 x0 : FVec Ideal S512x4096 .f32) _ reduces_S512x4096_S512 _ _ (ix1 p)).trans
      (Finset.sum_congr rfl fun k _ => (congrArg (mulf x0 x0 : FVec Ideal S512x4096 .f32) (hl k)).trans (mulf_apply (φ := .f32) x0 x0 _))
  exact congrArg (fun u => x0 (ix2 p d) * Ideal.rsqrt (Ideal.div u (Ideal.ofBits .f32 0x45800000#32) + Ideal.ofBits .f32 0x358637BD#32)
    * x1 (ix2 (0 : Fin 1) d) * (Ideal.ofBits .f32 0x3F800000#32 + x2 (ix3 (0 : Fin 1) (0 : Fin 1) d)) + x3 (ix3 (0 : Fin 1) (0 : Fin 1) d)) hs

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- At a point that begins a sequence and at one that doesn't, the first result's block is the same payload of the blocks read. -/
theorem left_block (c : Dev nD) (t : Fin cfg0.N) :
    (outsAt0 m c t.val t.isLt).1 = k0_pay2 (F := Ideal) (iblk m c 0 t) (iblk m c 1 t) (iblk m c 2 t) (iblk m c 3 t) := by
  by_cases h : t.val % 8 = 0
  · rw [outsAt0_A m c t h]
    dsimp only
    unfold out0_A_6
    refine (View.read_writes_eq_canon _ _ _ (fun y => cover0_A_6 ..)).trans ?_
    unfold kernelRun0_A
    dsimp only
    sl_unfold_words
    rw [View.canon_unit_zero (S := S512x4096) hz2]
    simp only [View.readAt_eq_ld, (hs0_0 t).read_unread, (hs0_1 t).read_unread, (hs0_2 t).read_unread, (hs0_3 t).read_unread,
      View.ld_unit_zero (S := S512x4096) hz2, View.ld_unit_zero (S := S1x4096) hz2, View.ld_unit_zero (S := S1x1x4096) hz3]
  · rw [outsAt0_B m c t h]
    dsimp only
    unfold out0_B_6
    refine (View.read_writes_eq_canon _ _ _ (fun y => cover0_B_6 ..)).trans ?_
    unfold kernelRun0_B
    dsimp only
    sl_unfold_words
    rw [View.canon_unit_zero (S := S512x4096) hz2]
    simp only [View.readAt_eq_ld, (hs0_0 t).read_unread, (hs0_1 t).read_unread, (hs0_2 t).read_unread, (hs0_3 t).read_unread,
      View.ld_unit_zero (S := S512x4096) hz2, View.ld_unit_zero (S := S1x4096) hz2, View.ld_unit_zero (S := S1x1x4096) hz3]

/-- The rows the region finds, element by element. -/
theorem rows_apply (c : Dev nD) (r : Fin 16384) (k : Fin 4096) :
    V m c main_v3 (ix2 r k) = m ((c : Thread nD τ).loc main_arg0) (ix3 (Cert.Norm.seq r) (Cert.Norm.pos r) k) := by
  have e : V m c main_v3 = shapeCast S16384x4096 (m ((c : Thread nD τ).loc main_arg0)) shapeCasts_S4x4096x4096_S16384x4096 := by
    show StableHlo.after hostOps0 (fun b => m (c, b)) (Proc.devRef .tc main_v3) = _
    after_results
    rfl
  rw [e]
  exact shapeCast_apply _ _ (ix2 r k) (ix3 (Cert.Norm.seq r) (Cert.Norm.pos r) k) (by
    rewrite [Shape.rowMajor_val_three, Shape.rowMajor_val_two]
    show (r.val / 4096 * 4096 + r.val % 4096) * 4096 + k.val = r.val * 4096 + k.val
    omega)

/-- The gain the region finds. -/
theorem gain_apply (c : Dev nD) (k : Fin 4096) :
    V m c main_v8 (ix2 (0 : Fin 1) k) = m ((c : Thread nD τ).loc main_arg1) (ix2 (0 : Fin 1) k) := by
  have e : V m c main_v8 = shapeCast S1x4096 (shapeCast S4096 (m ((c : Thread nD τ).loc main_arg1)) shapeCasts_S1x4096_S4096)
      shapeCasts_S4096_S1x4096 := by
    show StableHlo.after hostOps0 (fun b => m (c, b)) (Proc.devRef .tc main_v8) = _
    after_results
    rfl
  rw [e, shapeCast_apply _ _ (ix2 (0 : Fin 1) k) (ix1 k) (by
      rewrite [Shape.rowMajor_val_two, Shape.rowMajor_val_one]
      show k.val = 0 * 4096 + k.val
      omega)]
  exact shapeCast_apply _ _ (ix1 k) (ix2 (0 : Fin 1) k) (by
    rewrite [Shape.rowMajor_val_two, Shape.rowMajor_val_one]
    show 0 * 4096 + k.val = k.val
    omega)

/-- An array of four rows with an axis of one put between reads as before. -/
theorem spread_apply {α : Type} (y : S4x4096.Idx → α) (q : Fin 4) (k : Fin 4096) :
    shapeCast S4x1x4096 y shapeCasts_S4x4096_S4x1x4096 (ix3 q (0 : Fin 1) k) = y (ix2 q k) :=
  shapeCast_apply _ _ (ix3 q (0 : Fin 1) k) (ix2 q k) (by
    rewrite [Shape.rowMajor_val_three, Shape.rowMajor_val_two]
    show q.val * 4096 + k.val = (q.val * 1 + 0) * 4096 + k.val
    omega)

/-- The scale the region finds, -/
theorem scale_apply (c : Dev nD) (q : Fin 4) (k : Fin 4096) :
    V m c main_v9 (ix3 q (0 : Fin 1) k) = m ((c : Thread nD τ).loc main_arg2) (ix2 q k) := by
  have e : V m c main_v9 = shapeCast S4x1x4096 (m ((c : Thread nD τ).loc main_arg2)) shapeCasts_S4x4096_S4x1x4096 := by
    show StableHlo.after hostOps0 (fun b => m (c, b)) (Proc.devRef .tc main_v9) = _
    after_results
    rfl
  rw [e, spread_apply]

/-- and the shift. -/
theorem shift_apply (c : Dev nD) (q : Fin 4) (k : Fin 4096) :
    V m c main_v10 (ix3 q (0 : Fin 1) k) = m ((c : Thread nD τ).loc main_arg3) (ix2 q k) := by
  have e : V m c main_v10 = shapeCast S4x1x4096 (m ((c : Thread nD τ).loc main_arg3)) shapeCasts_S4x4096_S4x1x4096 := by
    show StableHlo.after hostOps0 (fun b => m (c, b)) (Proc.devRef .tc main_v10) = _
    after_results
    rfl
  rw [e, spread_apply]

/-- Where the windows stand at grid point `t`: the rows and the result at block `t`, the scale and the shift at the sequence. -/
theorem idx_facts : ∀ t : Fin cfg0.N,
    (win0_0.index t 0 = t.val ∧ win0_0.index t 1 = 0) ∧ (win0_1.index t 0 = 0 ∧ win0_1.index t 1 = 0)
    ∧ (win0_2.index t 0 = t.val / 8 ∧ win0_2.index t 1 = 0 ∧ win0_2.index t 2 = 0)
    ∧ (win0_3.index t 0 = t.val / 8 ∧ win0_3.index t 1 = 0 ∧ win0_3.index t 2 = 0)
    ∧ (win0_6.index t 0 = t.val ∧ win0_6.index t 1 = 0) :=
  (by decide +kernel : ∀ t : Fin grid0.N,
    (win0_0.index t 0 = t.val ∧ win0_0.index t 1 = 0) ∧ (win0_1.index t 0 = 0 ∧ win0_1.index t 1 = 0)
    ∧ (win0_2.index t 0 = t.val / 8 ∧ win0_2.index t 1 = 0 ∧ win0_2.index t 2 = 0)
    ∧ (win0_3.index t 0 = t.val / 8 ∧ win0_3.index t 1 = 0 ∧ win0_3.index t 2 = 0)
    ∧ (win0_6.index t 0 = t.val ∧ win0_6.index t 1 = 0))

/-- The token that row `p` of point `t`'s block is. -/
abbrev token (t : Fin cfg0.N) (p : Fin 512) : Fin 16384 :=
  ⟨512 * t.val + p.val, by have := t.isLt; have h : cfg0.N = 32 := N_0; have := p.isLt; omega⟩

/-- The sequence of point `t`'s tokens. -/
theorem seq_val (t : Fin cfg0.N) (p : Fin 512) : (Cert.Norm.seq (token t p)).val = t.val / 8 := by
  have hp := p.isLt
  show (512 * t.val + p.val) / 4096 = t.val / 8
  omega

/-- The rows' block at `t`, read at an element. -/
theorem xblk_apply (c : Dev nD) (t : Fin cfg0.N) (p : Fin 512) (k : Fin 4096) :
    iblk m c 0 t (ix2 p k) = m ((c : Thread nD τ).loc main_arg0) (ix3 (Cert.Norm.seq (token t p)) (Cert.Norm.pos (token t p)) k) := by
  rw [← rows_apply m c]
  show V m c main_v3 ((win0_0.rect t).emb (ix2 p k)) = V m c main_v3 (ix2 (token t p) k)
  refine congrArg (V m c main_v3) (funext fun a => Fin.ext ?_)
  have f := (idx_facts t).1
  match a with
  | ⟨0, _⟩ =>
    refine (win0_0.rect_emb_val t (ix2 p k) 0).trans ?_
    rw [f.1]; show t.val * 512 + p.val = 512 * t.val + p.val; omega
  | ⟨1, _⟩ =>
    refine (win0_0.rect_emb_val t (ix2 p k) 1).trans ?_
    rw [f.2]; show 0 * 4096 + k.val = k.val; omega

/-- The gain's block, the same at every point. -/
theorem gblk_apply (c : Dev nD) (t : Fin cfg0.N) (k : Fin 4096) :
    iblk m c 1 t (ix2 (0 : Fin 1) k) = m ((c : Thread nD τ).loc main_arg1) (ix2 (0 : Fin 1) k) := by
  rw [← gain_apply m c]
  show V m c main_v8 ((win0_1.rect t).emb (ix2 (0 : Fin 1) k)) = V m c main_v8 (ix2 (0 : Fin 1) k)
  refine congrArg (V m c main_v8) (funext fun a => Fin.ext ?_)
  have f := (idx_facts t).2.1
  match a with
  | ⟨0, _⟩ =>
    refine (win0_1.rect_emb_val t (ix2 (0 : Fin 1) k) 0).trans ?_
    rw [f.1]; rfl
  | ⟨1, _⟩ =>
    refine (win0_1.rect_emb_val t (ix2 (0 : Fin 1) k) 1).trans ?_
    rw [f.2]; show 0 * 4096 + k.val = k.val; omega

/-- The scale's block: the row of the point's sequence. -/
theorem scblk_apply (c : Dev nD) (t : Fin cfg0.N) (p : Fin 512) (k : Fin 4096) :
    iblk m c 2 t (ix3 (0 : Fin 1) (0 : Fin 1) k) = m ((c : Thread nD τ).loc main_arg2) (ix2 (Cert.Norm.seq (token t p)) k) := by
  rw [← scale_apply m c]
  show V m c main_v9 ((win0_2.rect t).emb (ix3 (0 : Fin 1) (0 : Fin 1) k)) = V m c main_v9 (ix3 (Cert.Norm.seq (token t p)) (0 : Fin 1) k)
  refine congrArg (V m c main_v9) (funext fun a => Fin.ext ?_)
  have f := (idx_facts t).2.2.1
  match a with
  | ⟨0, _⟩ =>
    refine (win0_2.rect_emb_val t (ix3 (0 : Fin 1) (0 : Fin 1) k) 0).trans ?_
    rw [f.1]; exact (show t.val / 8 * 1 + 0 = t.val / 8 by omega).trans (seq_val t p).symm
  | ⟨1, _⟩ =>
    refine (win0_2.rect_emb_val t (ix3 (0 : Fin 1) (0 : Fin 1) k) 1).trans ?_
    rw [f.2.1]; rfl
  | ⟨2, _⟩ =>
    refine (win0_2.rect_emb_val t (ix3 (0 : Fin 1) (0 : Fin 1) k) 2).trans ?_
    rw [f.2.2]; show 0 * 4096 + k.val = k.val; omega

/-- The shift's block. -/
theorem shblk_apply (c : Dev nD) (t : Fin cfg0.N) (p : Fin 512) (k : Fin 4096) :
    iblk m c 3 t (ix3 (0 : Fin 1) (0 : Fin 1) k) = m ((c : Thread nD τ).loc main_arg3) (ix2 (Cert.Norm.seq (token t p)) k) := by
  rw [← shift_apply m c]
  show V m c main_v10 ((win0_3.rect t).emb (ix3 (0 : Fin 1) (0 : Fin 1) k)) = V m c main_v10 (ix3 (Cert.Norm.seq (token t p)) (0 : Fin 1) k)
  refine congrArg (V m c main_v10) (funext fun a => Fin.ext ?_)
  have f := (idx_facts t).2.2.2.1
  match a with
  | ⟨0, _⟩ =>
    refine (win0_3.rect_emb_val t (ix3 (0 : Fin 1) (0 : Fin 1) k) 0).trans ?_
    rw [f.1]; exact (show t.val / 8 * 1 + 0 = t.val / 8 by omega).trans (seq_val t p).symm
  | ⟨1, _⟩ =>
    refine (win0_3.rect_emb_val t (ix3 (0 : Fin 1) (0 : Fin 1) k) 1).trans ?_
    rw [f.2.1]; rfl
  | ⟨2, _⟩ =>
    refine (win0_3.rect_emb_val t (ix3 (0 : Fin 1) (0 : Fin 1) k) 2).trans ?_
    rw [f.2.2]; show 0 * 4096 + k.val = k.val; omega

end Cert.NormKernelIdeal.Hand

end
-- ==== Proof.NormArray.lean ====
/-
  The normalisation's first result after the run: the 32 blocks tile the array, and every one of them is its block of the
  normalised rows.
-/
module

public import proofs.«01_k».proof.Proof.NormBlock

@[expose] public section

noncomputable section

namespace Cert.NormKernelIdeal.Hand

open Cert.NormKernelIdeal Cert.NormKernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The normalised rows of device `c`'s arguments: what the result array is shown to hold. -/
abbrev result (c : Dev nD) : Buf (Elt Ideal) ((c : Thread nD τ).loc main_v11_0) :=
  Cert.Norm.normalised (m ((c : Thread nD τ).loc main_arg0)) (m ((c : Thread nD τ).loc main_arg1)) (m ((c : Thread nD τ).loc main_arg2))
    (m ((c : Thread nD τ).loc main_arg3))

/-- Where an element of point `t`'s result block stands in the array. -/
theorem emb_out (t : Fin cfg0.N) (p : Fin 512) (d : Fin 4096) : (win0_6.rect t).emb (ix2 p d) = ix2 (token t p) d := by
  have f := (idx_facts t).2.2.2.2
  refine funext fun a => Fin.ext ?_
  match a with
  | ⟨0, _⟩ =>
    refine (win0_6.rect_emb_val t (ix2 p d) 0).trans ?_
    rw [f.1]; show t.val * 512 + p.val = 512 * t.val + p.val; omega
  | ⟨1, _⟩ =>
    refine (win0_6.rect_emb_val t (ix2 p d) 1).trans ?_
    rw [f.2]; show 0 * 4096 + d.val = d.val; omega

/-- What point `t` writes back is block `t` of the normalised rows. -/
theorem flushed_eq (c : Dev nD) (t : Fin cfg0.N) :
    (dats m 0 c).flushed 6 t = ((cfg0.win 6).blk t).view.read (Elt Ideal) (result m c) := by
  show (cfg0.win 6).cut (grid0.coords t) ((dats m 0 c).after 6 t) = _
  rw [after0_6, left_block]
  funext y
  obtain ⟨p, d, rfl⟩ : ∃ (p : Fin 512) (d : Fin 4096), y = ix2 p d := ⟨y 0, y 1, eq_ix2 y⟩
  show k0_pay2 (F := Ideal) (iblk m c 0 t) (iblk m c 1 t) (iblk m c 2 t) (iblk m c 3 t) (ix2 p d)
    = result m c ((win0_6.rect t).emb (ix2 p d))
  rw [emb_out, payload_apply]
  simp only [xblk_apply m c t, gblk_apply m c t, scblk_apply m c t p, shblk_apply m c t p]
  rfl

/-- Every index of the array is in some point's block. -/
theorem cover (i : S16384x4096.Idx) :
    ∃ t : Fin cfg0.N, (cfg0.win 6).flush t = true ∧ i ∈ ((cfg0.win 6).blk t).view.set := by
  have h0 : (i 0 : Nat) < 16384 := (i 0).isLt
  have h1 : (i 1 : Nat) < 4096 := (i 1).isLt
  have hN : cfg0.N = 32 := N_0
  let t : Fin cfg0.N := ⟨(i 0 : Nat) / 512, by omega⟩
  refine ⟨t, flush0_6 t, ?_⟩
  have e : i = (win0_6.rect t).emb (ix2 (⟨(i 0 : Nat) % 512, by omega⟩ : Fin 512) (⟨(i 1 : Nat), h1⟩ : Fin 4096)) := by
    rw [emb_out]
    refine funext fun a => Fin.ext ?_
    match a with
    | ⟨0, _⟩ => show (i 0 : Nat) = 512 * ((i 0 : Nat) / 512) + (i 0 : Nat) % 512; omega
    | ⟨1, _⟩ => rfl
  rw [e]
  exact View.emb_mem_set ((cfg0.win 6).blk t).view _

/-- The first result's array after the run. -/
theorem final (c : Dev nD) : (dats m 0 c).arrAt 6 cfg0.N = result m c :=
  (dats m 0 c).arrAt_eq_of_cover 6 _ (fun t _ => flushed_eq m c t) cover

/-- The run, read: the result array holds the normalised rows, the arguments are unchanged. -/
theorem run : θ_run defs (onTc (τ := τ) (main (F := Ideal))) ⟨m, fun _ => 0, ρ⟩ fun r => ∀ c : Dev nD,
      r.2.mem ((c : Thread nD τ).loc main_v11_0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨((h.1 c).1 6).trans (final m c), h.2 c⟩)
    (θ_run_and (run_main m ρ) (unchanged m ρ))

end Cert.NormKernelIdeal.Hand

end
-- ==== Proof.NormRef.lean ====
/-
  What the normalisation's reference computes: read at an index, its one result is the normalised rows of its arguments.
-/
module

public import proofs.«01_k».proof.Proof.Gen.NormReferenceIdeal.Read
public import proofs.«01_k».proof.Proof.NormSpec

@[expose] public section

noncomputable section

namespace Cert.NormReferenceIdeal.Hand

open Cert.NormReferenceIdeal Cert.NormReferenceIdeal.Read Idealize.ShloMosaic Idealize.ShloMosaic.TcCoe Idealize.SL.Sem
open Idealize.ShloMosaic.ValueIdx
open scoped BigOperators

variable (x0 : (⟨S4x4096x4096, .f32⟩ : BufTy).Contents (Elt Ideal)) (x1 : (⟨S1x4096, .f32⟩ : BufTy).Contents (Elt Ideal))
  (x2 x3 : (⟨S4x4096, .f32⟩ : BufTy).Contents (Elt Ideal))

/-- A sequence's position, normalised and modulated. -/
theorem entry_apply (q : Fin 4) (s d : Fin 4096) : val_main_v21 (F := Ideal) x0 x1 x2 x3 (ix3 q s d)
    = Cert.Norm.entry (fun e => x0 (ix3 q s e)) (fun e => x1 (ix2 (0 : Fin 1) e)) (fun e => x2 (ix2 q e)) (fun e => x3 (ix2 q e)) d := by
  have eg : idx_main_v0 (idx_main_v11 (idx_main_v12 (ix3 q s d))) = ix2 (0 : Fin 1) d := funext fun a => Fin.ext (match a with
    | ⟨0, _⟩ => rfl
    | ⟨1, _⟩ => Nat.mod_eq_of_lt d.isLt)
  have ex : ∀ e : Fin 4096, idx_main_v2 (idx_main_v3 (idx_main_v9 (ix3 q s d))) e = ix3 q s e := fun e => funext fun a => match a with
    | ⟨0, _⟩ => rfl
    | ⟨1, _⟩ => rfl
    | ⟨2, _⟩ => rfl
  have ec : idx_main_v14 (idx_main_v17 (ix3 q s d)) = ix2 q d := funext fun a => match a with
    | ⟨0, _⟩ => rfl
    | ⟨1, _⟩ => rfl
  have eh : idx_main_v19 (idx_main_v20 (ix3 q s d)) = ix2 q d := funext fun a => match a with
    | ⟨0, _⟩ => rfl
    | ⟨1, _⟩ => rfl
  rw [val_main_v21_apply, val_main_v20_apply, val_main_v19_apply, eh, val_main_v18_apply, val_main_v17_apply, val_main_v16_apply,
    val_main_v15_apply, val_main_cst_2_apply, val_main_v14_apply, ec, val_main_v13_apply, val_main_v12_apply, val_main_v11_apply,
    val_main_v0_apply, eg, val_main_v10_apply, val_main_v9_apply, val_main_v8_apply, val_main_v7_apply, val_main_v6_apply,
    val_main_cst_1_apply, val_main_v5_apply, val_main_v4_apply, val_main_cst_0_apply, val_main_v3_apply, val_main_v2_apply, val_main_cst_apply]
  simp only [val_main_v1_apply, ex]
  refine congrArg (fun u => x0 (ix3 q s d) * Ideal.rsqrt (Ideal.div u (Ideal.ofBits .f32 0x45800000#32) + Ideal.ofBits .f32 0x358637BD#32)
    * x1 (ix2 (0 : Fin 1) d) * (Ideal.ofBits .f32 0x3F800000#32 + x2 (ix2 q d)) + x3 (ix2 q d)) ?_
  refine (congrArg (· + _) ?_).trans (zero_add _)
  exact Ideal.ofBits_zero_f32

/-- The reference's result is the normalised rows of its arguments. -/
theorem result_eq : val_main_v23 (F := Ideal) x0 x1 x2 x3 = Cert.Norm.normalised x0 x1 x2 x3 := by
  funext i
  obtain ⟨r, d, rfl⟩ : ∃ (r : Fin 16384) (d : Fin 4096), i = ix2 r d := ⟨i 0, i 1, eq_ix2 i⟩
  have hd := d.isLt
  have e : idx_main_v22 (ix2 r d) = ix3 (Cert.Norm.seq r) (Cert.Norm.pos r) d := funext fun a => Fin.ext (by
    match a with
    | ⟨0, _⟩ => show (r.val * 4096 + d.val) / 16777216 = r.val / 4096; omega
    | ⟨1, _⟩ => show (r.val * 4096 + d.val) / 4096 % 4096 = r.val % 4096; omega
    | ⟨2, _⟩ => show (r.val * 4096 + d.val) % 4096 = d.val; omega)
  rw [val_main_v23_apply, val_main_v22_apply, e, entry_apply]
  rfl

/-- Every run of the reference ends with the normalised rows of its arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v23)
        = Cert.Norm.normalised (m ((c : Thread nD τ).loc main_arg0)) (m ((c : Thread nD τ).loc main_arg1)) (m ((c : Thread nD τ).loc main_arg2))
            (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono
    (fun _ h c => ⟨(h c).1.trans ((val_main_v23_eq _ _ _ _).trans (result_eq _ _ _ _)), (h c).2⟩)
    (Cert.NormReferenceIdeal.Value.run (F := Ideal) m ρ)

end Cert.NormReferenceIdeal.Hand

end
-- ==== Proof.Norm.lean ====
/-
  The normalisation's claims: the three frames, and that the two ideal runs end with equal results.
-/
module

public import proofs.«01_k».proof.Defs
public import proofs.«01_k».proof.Proof.Gen.NormKernel.Frame
public import proofs.«01_k».proof.Proof.NormArray
public import proofs.«01_k».proof.Proof.NormRef
public import Idealize.ShloMosaic.Lib.Quiescent

@[expose] public section

noncomputable section

namespace Cert.Norm

open Idealize.ShloMosaic Idealize.ShloMosaic.TcCoe Idealize.SL.Sem

/-- Every run of the kernel ends with its arguments unchanged and every semaphore at zero. -/
theorem frame_kernel : Cert.quiescent_NormKernel := fun m ρ _ => Cert.NormKernel.Gen.frame m ρ

/-- The same of the kernel's ideal form. -/
theorem frame_ideal : Cert.quiescent_NormKernelIdeal := fun m ρ _ => Cert.NormKernelIdeal.Gen.frame m ρ

/-- The same of the reference, which raises no semaphore at all. -/
theorem frame_reference : Cert.quiescent_NormReferenceIdeal := fun m ρ _ =>
  (θ_run Cert.NormReferenceIdeal.defs _ _).mono
    (fun r h => ⟨fun c => (h c).2, sem_eq_zero_of_no_sems (by decide) r.2⟩)
    (Cert.NormReferenceIdeal.Value.run (F := Ideal) m ρ)

/-- From equal arguments the kernel and the reference end with equal results. -/
theorem equal : Cert.algebraic_NormKernelIdeal_NormReferenceIdeal := by
  intro m ρ m' ρ' _ hagree
  refine ⟨fun c => Cert.NormKernelIdeal.Hand.result m c, Cert.NormKernelIdeal.Hand.run m ρ, ?_⟩
  refine (θ_run Cert.NormReferenceIdeal.defs _ _).mono (fun _ h c => ⟨(h c).1.trans ?_, (h c).2⟩) (Cert.NormReferenceIdeal.Hand.run m' ρ')
  rw [(hagree c).1, (hagree c).2.1, (hagree c).2.2.1, (hagree c).2.2.2.1]

end Cert.Norm

end
-- ==== Proof.lean ====
/-
  The claims, assembled: of every call the frames of its three programs, and that the kernel's run and the reference's run
  end with equal results at the ideal numbers.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Read
public import proofs.«01_k».proof.Proof.Gen.OutKernel
public import proofs.«01_k».proof.Proof.Gen.OutKernel.Skeleton
public import proofs.«01_k».proof.Proof.Gen.OutKernel.Launch
public import proofs.«01_k».proof.Proof.Gen.OutKernel.Points
public import proofs.«01_k».proof.Proof.Gen.OutKernel.Frame
public import proofs.«01_k».proof.Proof.Gen.OutKernelIdeal
public import proofs.«01_k».proof.Proof.Gen.OutKernelIdeal.Skeleton
public import proofs.«01_k».proof.Proof.Gen.OutKernelIdeal.Launch
public import proofs.«01_k».proof.Proof.Gen.OutKernelIdeal.Points
public import proofs.«01_k».proof.Proof.Gen.OutKernelIdeal.Frame
public import proofs.«01_k».proof.Proof.Gen.OutKernelIdeal.Value
public import proofs.«01_k».proof.Proof.Gen.OutReferenceIdeal
public import proofs.«01_k».proof.Proof.Gen.OutReferenceIdeal.Read
public import proofs.«01_k».proof.Proof.Gen.MergeKernel
public import proofs.«01_k».proof.Proof.Gen.MergeKernel.Skeleton
public import proofs.«01_k».proof.Proof.Gen.MergeKernel.Launch
public import proofs.«01_k».proof.Proof.Gen.MergeKernel.Points
public import proofs.«01_k».proof.Proof.Gen.MergeKernel.Frame
public import proofs.«01_k».proof.Proof.Gen.MergeKernelIdeal
public import proofs.«01_k».proof.Proof.Gen.MergeKernelIdeal.Skeleton
public import proofs.«01_k».proof.Proof.Gen.MergeKernelIdeal.Launch
public import proofs.«01_k».proof.Proof.Gen.MergeKernelIdeal.Points
public import proofs.«01_k».proof.Proof.Gen.MergeKernelIdeal.Frame
public import proofs.«01_k».proof.Proof.Gen.MergeKernelIdeal.Value
public import proofs.«01_k».proof.Proof.Gen.MergeReferenceIdeal
public import proofs.«01_k».proof.Proof.Gen.MergeReferenceIdeal.Read
public import proofs.«01_k».proof.Proof.Gen.ModKernel
public import proofs.«01_k».proof.Proof.Gen.ModKernel.Skeleton
public import proofs.«01_k».proof.Proof.Gen.ModKernel.Launch
public import proofs.«01_k».proof.Proof.Gen.ModKernel.Points
public import proofs.«01_k».proof.Proof.Gen.ModKernel.Frame
public import proofs.«01_k».proof.Proof.Gen.ModKernelIdeal
public import proofs.«01_k».proof.Proof.Gen.ModKernelIdeal.Skeleton
public import proofs.«01_k».proof.Proof.Gen.ModKernelIdeal.Launch
public import proofs.«01_k».proof.Proof.Gen.ModKernelIdeal.Points
public import proofs.«01_k».proof.Proof.Gen.ModKernelIdeal.Frame
public import proofs.«01_k».proof.Proof.Gen.ModReferenceIdeal
public import proofs.«01_k».proof.Proof.Gen.ModReferenceIdeal.Read
public import proofs.«01_k».proof.Proof.Gen.NormKernel
public import proofs.«01_k».proof.Proof.Gen.NormKernel.Skeleton
public import proofs.«01_k».proof.Proof.Gen.NormKernel.Launch
public import proofs.«01_k».proof.Proof.Gen.NormKernel.Points
public import proofs.«01_k».proof.Proof.Gen.NormKernel.Frame
public import proofs.«01_k».proof.Proof.Gen.NormKernelIdeal
public import proofs.«01_k».proof.Proof.Gen.NormKernelIdeal.Skeleton
public import proofs.«01_k».proof.Proof.Gen.NormKernelIdeal.Launch
public import proofs.«01_k».proof.Proof.Gen.NormKernelIdeal.Points
public import proofs.«01_k».proof.Proof.Gen.NormKernelIdeal.Frame
public import proofs.«01_k».proof.Proof.Gen.NormReferenceIdeal
public import proofs.«01_k».proof.Proof.Gen.NormReferenceIdeal.Read
public import proofs.«01_k».proof.Proof.Gates
public import proofs.«01_k».proof.Proof.Nat
public import proofs.«01_k».proof.Proof.Dil
public import proofs.«01_k».proof.Proof.Rope
public import proofs.«01_k».proof.Proof.Out
public import proofs.«01_k».proof.Proof.Merge
public import proofs.«01_k».proof.Proof.Mod
public import proofs.«01_k».proof.Proof.Norm
public import Idealize.ShloMosaic.Adequacy
public import Idealize.ShloMosaic.Init

@[expose] public section

noncomputable section

-- Every frame also says that every semaphore counter ends at zero; the proofs show that too.

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.OutKernel.Gen.facts, Cert.OutKernelIdeal.Gen.facts, Cert.OutReferenceIdeal.Gen.facts,
  Cert.MergeKernel.Gen.facts, Cert.MergeKernelIdeal.Gen.facts, Cert.MergeReferenceIdeal.Gen.facts,
  Cert.NatKernel.Gen.facts, Cert.NatKernelIdeal.Gen.facts, Cert.NatReferenceIdeal.Gen.facts,
  Cert.DilKernel.Gen.facts, Cert.DilKernelIdeal.Gen.facts, Cert.DilReferenceIdeal.Gen.facts,
  Cert.RopeKernel.Gen.facts, Cert.RopeKernelIdeal.Gen.facts, Cert.RopeReferenceIdeal.Gen.facts,
  Cert.ModKernel.Gen.facts, Cert.ModKernelIdeal.Gen.facts, Cert.ModReferenceIdeal.Gen.facts,
  Cert.NormKernel.Gen.facts, Cert.NormKernelIdeal.Gen.facts, Cert.NormReferenceIdeal.Gen.facts,
  Cert.Gates.frame_kernel, Cert.Gates.frame_ideal, Cert.Gates.frame_reference,
  Cert.Out.frame_kernel, Cert.Out.frame_ideal, Cert.Out.frame_reference,
  Cert.Merge.frame_kernel, Cert.Merge.frame_ideal, Cert.Merge.frame_reference,
  Cert.Nat.frame_kernel, Cert.Nat.frame_ideal, Cert.Nat.frame_reference,
  Cert.Dil.frame_kernel, Cert.Dil.frame_ideal, Cert.Dil.frame_reference,
  Cert.Rope.frame_kernel, Cert.Rope.frame_ideal, Cert.Rope.frame_reference,
  Cert.Mod.frame_kernel, Cert.Mod.frame_ideal, Cert.Mod.frame_reference,
  Cert.Norm.frame_kernel, Cert.Norm.frame_ideal, Cert.Norm.frame_reference,
  trivial, Cert.Gates.equal, trivial, Cert.Out.equal, trivial, Cert.Merge.equal, trivial, Cert.Nat.equal,
  trivial, Cert.Dil.equal, trivial, Cert.Rope.equal, trivial, Cert.Mod.equal, trivial, Cert.Norm.equal⟩

end Cert.Proof

end
